-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.2 = (fun _ => 1#1)

def Pre_Kernel12 [hPre_device12 : Cert.Pre_device12.Facts] (m : (ℓ : Loc Cert.Kernel12.nD Cert.Kernel12.τ Cert.Kernel12.sig) → Buf (Elt Bits) ℓ) : Prop :=
  ∀ c : Dev Cert.Kernel12.nD,
    (Cert.Pre_device12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4)) (m ((c.tc : Thread Cert.Kernel12.nD Cert.Kernel12.τ).loc Cert.Kernel12.main_arg5))) = (fun _ => 1#1)

def Pre_Kernel12Ideal [hPre_device12 : Cert.Pre_device12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_device12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_device12 [hPre_device12 : Cert.Pre_device12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_device12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def Pre_Kernel13 [hPre_device13 : Cert.Pre_device13.Facts] (m : (ℓ : Loc Cert.Kernel13.nD Cert.Kernel13.τ Cert.Kernel13.sig) → Buf (Elt Bits) ℓ) : Prop :=
  ∀ c : Dev Cert.Kernel13.nD,
    (Cert.Pre_device13.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3)) (m ((c.tc : Thread Cert.Kernel13.nD Cert.Kernel13.τ).loc Cert.Kernel13.main_arg4)) (m ((c.tc : Thread Cert.Kernel13.nD Cert.Kernel13.τ).loc Cert.Kernel13.main_arg5))) = (fun _ => 1#1)

def Pre_Kernel13Ideal [hPre_device13 : Cert.Pre_device13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_device13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_device13 [hPre_device13 : Cert.Pre_device13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_device13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def Pre_Kernel14 [hPre_device14 : Cert.Pre_device14.Facts] (m : (ℓ : Loc Cert.Kernel14.nD Cert.Kernel14.τ Cert.Kernel14.sig) → Buf (Elt Bits) ℓ) : Prop :=
  ∀ c : Dev Cert.Kernel14.nD,
    (Cert.Pre_device14.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3)) (m ((c.tc : Thread Cert.Kernel14.nD Cert.Kernel14.τ).loc Cert.Kernel14.main_arg4)) (m ((c.tc : Thread Cert.Kernel14.nD Cert.Kernel14.τ).loc Cert.Kernel14.main_arg5))) = (fun _ => 1#1)

def Pre_Kernel14Ideal [hPre_device14 : Cert.Pre_device14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_device14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_device14 [hPre_device14 : Cert.Pre_device14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_device14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def Pre_Kernel15 [hPre_device15 : Cert.Pre_device15.Facts] (m : (ℓ : Loc Cert.Kernel15.nD Cert.Kernel15.τ Cert.Kernel15.sig) → Buf (Elt Bits) ℓ) : Prop :=
  ∀ c : Dev Cert.Kernel15.nD,
    (Cert.Pre_device15.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3)) (m ((c.tc : Thread Cert.Kernel15.nD Cert.Kernel15.τ).loc Cert.Kernel15.main_arg4)) (m ((c.tc : Thread Cert.Kernel15.nD Cert.Kernel15.τ).loc Cert.Kernel15.main_arg5))) = (fun _ => 1#1)

def Pre_Kernel15Ideal [hPre_device15 : Cert.Pre_device15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_device15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_device15 [hPre_device15 : Cert.Pre_device15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_device15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))) = (fun _ => 1#1)

def Pre_Kernel16 [hPre_device16 : Cert.Pre_device16.Facts] (m : (ℓ : Loc Cert.Kernel16.nD Cert.Kernel16.τ Cert.Kernel16.sig) → Buf (Elt Bits) ℓ) : Prop :=
  ∀ c : Dev Cert.Kernel16.nD,
    (Cert.Pre_device16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5))) = (fun _ => 1#1)

def Pre_Kernel16Ideal [hPre_device16 : Cert.Pre_device16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_device16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_device16 [hPre_device16 : Cert.Pre_device16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_device16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5))) = (fun _ => 1#1)

def Pre_Kernel17 [hPre_device17 : Cert.Pre_device17.Facts] (m : (ℓ : Loc Cert.Kernel17.nD Cert.Kernel17.τ Cert.Kernel17.sig) → Buf (Elt Bits) ℓ) : Prop :=
  ∀ c : Dev Cert.Kernel17.nD,
    (Cert.Pre_device17.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2)) (m ((c.tc : Thread Cert.Kernel17.nD Cert.Kernel17.τ).loc Cert.Kernel17.main_arg3)) (m ((c.tc : Thread Cert.Kernel17.nD Cert.Kernel17.τ).loc Cert.Kernel17.main_arg4)) (m ((c.tc : Thread Cert.Kernel17.nD Cert.Kernel17.τ).loc Cert.Kernel17.main_arg5))) = (fun _ => 1#1)

def Pre_Kernel17Ideal [hPre_device17 : Cert.Pre_device17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_device17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_device17 [hPre_device17 : Cert.Pre_device17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_device17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Kernel12 [hKernel12 : Cert.Kernel12.Facts] [hPre_device12 : Cert.Pre_device12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] [hPre_device12 : Cert.Pre_device12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_device12 [hReference12Ideal : Cert.Reference12Ideal.Facts] [hPre_device12 : Cert.Pre_device12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_device12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] [hPre_device13 : Cert.Pre_device13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] [hPre_device13 : Cert.Pre_device13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_device13 [hReference13Ideal : Cert.Reference13Ideal.Facts] [hPre_device13 : Cert.Pre_device13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_device13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] [hPre_device14 : Cert.Pre_device14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] [hPre_device14 : Cert.Pre_device14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_device14 [hReference14Ideal : Cert.Reference14Ideal.Facts] [hPre_device14 : Cert.Pre_device14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_device14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] [hPre_device15 : Cert.Pre_device15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] [hPre_device15 : Cert.Pre_device15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Reference15Ideal_pre_device15 [hReference15Ideal : Cert.Reference15Ideal.Facts] [hPre_device15 : Cert.Pre_device15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_device15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] [hPre_device16 : Cert.Pre_device16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] [hPre_device16 : Cert.Pre_device16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Reference16Ideal_pre_device16 [hReference16Ideal : Cert.Reference16Ideal.Facts] [hPre_device16 : Cert.Pre_device16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_device16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] [hPre_device17 : Cert.Pre_device17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] [hPre_device17 : Cert.Pre_device17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Reference17Ideal_pre_device17 [hReference17Ideal : Cert.Reference17Ideal.Facts] [hPre_device17 : Cert.Pre_device17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_device17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)) (v3 : (c : Dev Cert.KernelIdeal.nD) → Buf (Elt Ideal) ((c.tc : Thread Cert.KernelIdeal.nD Cert.KernelIdeal.τ).loc Cert.KernelIdeal.main_v42_3)) (v4 : (c : Dev Cert.KernelIdeal.nD) → Buf (Elt Ideal) ((c.tc : Thread Cert.KernelIdeal.nD Cert.KernelIdeal.τ).loc Cert.KernelIdeal.main_v42_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_v42_3) = v3 c
          ∧ r.2.mem ((c.tc : Thread Cert.KernelIdeal.nD Cert.KernelIdeal.τ).loc Cert.KernelIdeal.main_v42_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v114) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_v49) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)) (v5 : (c : Dev Cert.Kernel5Ideal.nD) → Buf (Elt Ideal) ((c.tc : Thread Cert.Kernel5Ideal.nD Cert.Kernel5Ideal.τ).loc Cert.Kernel5Ideal.main_v3_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_v3_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v72) = v0 c
          ∧ r.2.mem ((c.tc : Thread Cert.Reference5Ideal.nD Cert.Reference5Ideal.τ).loc Cert.Reference5Ideal.main_v74) = v1 c
          ∧ r.2.mem ((c.tc : Thread Cert.Reference5Ideal.nD Cert.Reference5Ideal.τ).loc Cert.Reference5Ideal.main_v14) = v2 c
          ∧ r.2.mem ((c.tc : Thread Cert.Reference5Ideal.nD Cert.Reference5Ideal.τ).loc Cert.Reference5Ideal.main_v75) = v3 c
          ∧ r.2.mem ((c.tc : Thread Cert.Reference5Ideal.nD Cert.Reference5Ideal.τ).loc Cert.Reference5Ideal.main_v76) = v4 c
          ∧ r.2.mem ((c.tc : Thread Cert.Reference5Ideal.nD Cert.Reference5Ideal.τ).loc Cert.Reference5Ideal.main_v73) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_v40) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v97) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_5)) (v3 : (c : Dev Cert.Kernel11Ideal.nD) → Buf (Elt Ideal) ((c.tc : Thread Cert.Kernel11Ideal.nD Cert.Kernel11Ideal.τ).loc Cert.Kernel11Ideal.main_v3_6)) (v4 : (c : Dev Cert.Kernel11Ideal.nD) → Buf (Elt Ideal) ((c.tc : Thread Cert.Kernel11Ideal.nD Cert.Kernel11Ideal.τ).loc Cert.Kernel11Ideal.main_v3_7)) (v5 : (c : Dev Cert.Kernel11Ideal.nD) → Buf (Elt Ideal) ((c.tc : Thread Cert.Kernel11Ideal.nD Cert.Kernel11Ideal.τ).loc Cert.Kernel11Ideal.main_v3_8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_5) = v2 c
          ∧ r.2.mem ((c.tc : Thread Cert.Kernel11Ideal.nD Cert.Kernel11Ideal.τ).loc Cert.Kernel11Ideal.main_v3_6) = v3 c
          ∧ r.2.mem ((c.tc : Thread Cert.Kernel11Ideal.nD Cert.Kernel11Ideal.τ).loc Cert.Kernel11Ideal.main_v3_7) = v4 c
          ∧ r.2.mem ((c.tc : Thread Cert.Kernel11Ideal.nD Cert.Kernel11Ideal.τ).loc Cert.Kernel11Ideal.main_v3_8) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v236) = v0 c
          ∧ r.2.mem ((c.tc : Thread Cert.Reference11Ideal.nD Cert.Reference11Ideal.τ).loc Cert.Reference11Ideal.main_v233) = v1 c
          ∧ r.2.mem ((c.tc : Thread Cert.Reference11Ideal.nD Cert.Reference11Ideal.τ).loc Cert.Reference11Ideal.main_v235) = v2 c
          ∧ r.2.mem ((c.tc : Thread Cert.Reference11Ideal.nD Cert.Reference11Ideal.τ).loc Cert.Reference11Ideal.main_v234) = v3 c
          ∧ r.2.mem ((c.tc : Thread Cert.Reference11Ideal.nD Cert.Reference11Ideal.τ).loc Cert.Reference11Ideal.main_v199) = v4 c
          ∧ r.2.mem ((c.tc : Thread Cert.Reference11Ideal.nD Cert.Reference11Ideal.τ).loc Cert.Reference11Ideal.main_v198) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def preserves_Kernel12_Kernel12Ideal : Prop :=
  True

def algebraic_Kernel12Ideal_Reference12Ideal [hKernel12Ideal : Cert.Kernel12Ideal.Facts] [hReference12Ideal : Cert.Reference12Ideal.Facts] [hPre_device12 : Cert.Pre_device12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v38) = v1 c
          ∧ r.2.mem ((c.tc : Thread Cert.Reference12Ideal.nD Cert.Reference12Ideal.τ).loc Cert.Reference12Ideal.main_v19) = v2 c
          ∧ r.2.mem ((c.tc : Thread Cert.Reference12Ideal.nD Cert.Reference12Ideal.τ).loc Cert.Reference12Ideal.main_v25) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] [hPre_device13 : Cert.Pre_device13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v38) = v1 c
          ∧ r.2.mem ((c.tc : Thread Cert.Reference13Ideal.nD Cert.Reference13Ideal.τ).loc Cert.Reference13Ideal.main_v19) = v2 c
          ∧ r.2.mem ((c.tc : Thread Cert.Reference13Ideal.nD Cert.Reference13Ideal.τ).loc Cert.Reference13Ideal.main_v25) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] [hPre_device14 : Cert.Pre_device14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v38) = v1 c
          ∧ r.2.mem ((c.tc : Thread Cert.Reference14Ideal.nD Cert.Reference14Ideal.τ).loc Cert.Reference14Ideal.main_v19) = v2 c
          ∧ r.2.mem ((c.tc : Thread Cert.Reference14Ideal.nD Cert.Reference14Ideal.τ).loc Cert.Reference14Ideal.main_v25) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] [hPre_device15 : Cert.Pre_device15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_v38) = v1 c
          ∧ r.2.mem ((c.tc : Thread Cert.Reference15Ideal.nD Cert.Reference15Ideal.τ).loc Cert.Reference15Ideal.main_v19) = v2 c
          ∧ r.2.mem ((c.tc : Thread Cert.Reference15Ideal.nD Cert.Reference15Ideal.τ).loc Cert.Reference15Ideal.main_v25) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] [hPre_device16 : Cert.Pre_device16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_v31) = v1 c
          ∧ r.2.mem ((c.tc : Thread Cert.Reference16Ideal.nD Cert.Reference16Ideal.τ).loc Cert.Reference16Ideal.main_v12) = v2 c
          ∧ r.2.mem ((c.tc : Thread Cert.Reference16Ideal.nD Cert.Reference16Ideal.τ).loc Cert.Reference16Ideal.main_v18) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] [hPre_device17 : Cert.Pre_device17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_v31) = v1 c
          ∧ r.2.mem ((c.tc : Thread Cert.Reference17Ideal.nD Cert.Reference17Ideal.τ).loc Cert.Reference17Ideal.main_v12) = v2 c
          ∧ r.2.mem ((c.tc : Thread Cert.Reference17Ideal.nD Cert.Reference17Ideal.τ).loc Cert.Reference17Ideal.main_v18) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts) (hPre_finite11 : Cert.Pre_finite11.Facts) (hPre_device12 : Cert.Pre_device12.Facts) (hPre_device13 : Cert.Pre_device13.Facts) (hPre_device14 : Cert.Pre_device14.Facts) (hPre_device15 : Cert.Pre_device15.Facts) (hPre_device16 : Cert.Pre_device16.Facts) (hPre_device17 : Cert.Pre_device17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12) (hPre_device12 := hPre_device12)
    ∧ quiescent_Kernel12Ideal (hKernel12Ideal := hKernel12Ideal) (hPre_device12 := hPre_device12)
    ∧ quiescent_Reference12Ideal (hReference12Ideal := hReference12Ideal)
    ∧ quiescent_Reference12Ideal_pre_device12 (hReference12Ideal := hReference12Ideal) (hPre_device12 := hPre_device12)
    ∧ quiescent_Kernel13 (hKernel13 := hKernel13) (hPre_device13 := hPre_device13)
    ∧ quiescent_Kernel13Ideal (hKernel13Ideal := hKernel13Ideal) (hPre_device13 := hPre_device13)
    ∧ quiescent_Reference13Ideal (hReference13Ideal := hReference13Ideal)
    ∧ quiescent_Reference13Ideal_pre_device13 (hReference13Ideal := hReference13Ideal) (hPre_device13 := hPre_device13)
    ∧ quiescent_Kernel14 (hKernel14 := hKernel14) (hPre_device14 := hPre_device14)
    ∧ quiescent_Kernel14Ideal (hKernel14Ideal := hKernel14Ideal) (hPre_device14 := hPre_device14)
    ∧ quiescent_Reference14Ideal (hReference14Ideal := hReference14Ideal)
    ∧ quiescent_Reference14Ideal_pre_device14 (hReference14Ideal := hReference14Ideal) (hPre_device14 := hPre_device14)
    ∧ quiescent_Kernel15 (hKernel15 := hKernel15) (hPre_device15 := hPre_device15)
    ∧ quiescent_Kernel15Ideal (hKernel15Ideal := hKernel15Ideal) (hPre_device15 := hPre_device15)
    ∧ quiescent_Reference15Ideal (hReference15Ideal := hReference15Ideal)
    ∧ quiescent_Reference15Ideal_pre_device15 (hReference15Ideal := hReference15Ideal) (hPre_device15 := hPre_device15)
    ∧ quiescent_Kernel16 (hKernel16 := hKernel16) (hPre_device16 := hPre_device16)
    ∧ quiescent_Kernel16Ideal (hKernel16Ideal := hKernel16Ideal) (hPre_device16 := hPre_device16)
    ∧ quiescent_Reference16Ideal (hReference16Ideal := hReference16Ideal)
    ∧ quiescent_Reference16Ideal_pre_device16 (hReference16Ideal := hReference16Ideal) (hPre_device16 := hPre_device16)
    ∧ quiescent_Kernel17 (hKernel17 := hKernel17) (hPre_device17 := hPre_device17)
    ∧ quiescent_Kernel17Ideal (hKernel17Ideal := hKernel17Ideal) (hPre_device17 := hPre_device17)
    ∧ quiescent_Reference17Ideal (hReference17Ideal := hReference17Ideal)
    ∧ quiescent_Reference17Ideal_pre_device17 (hReference17Ideal := hReference17Ideal) (hPre_device17 := hPre_device17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal) (hPre_device12 := hPre_device12)
    ∧ preserves_Kernel13_Kernel13Ideal
    ∧ algebraic_Kernel13Ideal_Reference13Ideal (hKernel13Ideal := hKernel13Ideal) (hReference13Ideal := hReference13Ideal) (hPre_device13 := hPre_device13)
    ∧ preserves_Kernel14_Kernel14Ideal
    ∧ algebraic_Kernel14Ideal_Reference14Ideal (hKernel14Ideal := hKernel14Ideal) (hReference14Ideal := hReference14Ideal) (hPre_device14 := hPre_device14)
    ∧ preserves_Kernel15_Kernel15Ideal
    ∧ algebraic_Kernel15Ideal_Reference15Ideal (hKernel15Ideal := hKernel15Ideal) (hReference15Ideal := hReference15Ideal) (hPre_device15 := hPre_device15)
    ∧ preserves_Kernel16_Kernel16Ideal
    ∧ algebraic_Kernel16Ideal_Reference16Ideal (hKernel16Ideal := hKernel16Ideal) (hReference16Ideal := hReference16Ideal) (hPre_device16 := hPre_device16)
    ∧ preserves_Kernel17_Kernel17Ideal
    ∧ algebraic_Kernel17Ideal_Reference17Ideal (hKernel17Ideal := hKernel17Ideal) (hReference17Ideal := hReference17Ideal) (hPre_device17 := hPre_device17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_device12.lean ====
abbrev S8x352x1024 : Shape := ⟨3, ![8, 352, 1024]⟩
abbrev S352x1024 : Shape := ⟨2, ![352, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x352x1024 .bf16) (main_arg1 : FVec F S8x352x1024 .bf16) (main_arg2 : FVec F S352x1024 .f32) (main_arg3 : FVec F S352x1024 .f32) (main_arg4 : FVec F S352x1024 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 8#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_device13.lean ====
abbrev S8x704x1024 : Shape := ⟨3, ![8, 704, 1024]⟩
abbrev S704x1024 : Shape := ⟨2, ![704, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x704x1024 .bf16) (main_arg1 : FVec F S8x704x1024 .bf16) (main_arg2 : FVec F S704x1024 .f32) (main_arg3 : FVec F S704x1024 .f32) (main_arg4 : FVec F S704x1024 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 8#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_device14.lean ====
abbrev S8x128x1024 : Shape := ⟨3, ![8, 128, 1024]⟩
abbrev S128x1024 : Shape := ⟨2, ![128, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x128x1024 .bf16) (main_arg1 : FVec F S8x128x1024 .bf16) (main_arg2 : FVec F S128x1024 .f32) (main_arg3 : FVec F S128x1024 .f32) (main_arg4 : FVec F S128x1024 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 8#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_device15.lean ====
abbrev S8x1024x256 : Shape := ⟨3, ![8, 1024, 256]⟩
abbrev S1024x256 : Shape := ⟨2, ![1024, 256]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x256 .bf16) (main_arg1 : FVec F S8x1024x256 .bf16) (main_arg2 : FVec F S1024x256 .f32) (main_arg3 : FVec F S1024x256 .f32) (main_arg4 : FVec F S1024x256 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 8#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_device16.lean ====
abbrev S8x128x1024 : Shape := ⟨3, ![8, 128, 1024]⟩
abbrev S128x1024 : Shape := ⟨2, ![128, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x128x1024 .bf16) (main_arg1 : FVec F S8x128x1024 .bf16) (main_arg2 : FVec F S128x1024 .f32) (main_arg3 : FVec F S128x1024 .f32) (main_arg4 : FVec F S128x1024 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 8#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_device17.lean ====
abbrev S8x1024x256 : Shape := ⟨3, ![8, 1024, 256]⟩
abbrev S1024x256 : Shape := ⟨2, ![1024, 256]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x256 .bf16) (main_arg1 : FVec F S8x1024x256 .bf16) (main_arg2 : FVec F S1024x256 .f32) (main_arg3 : FVec F S1024x256 .f32) (main_arg4 : FVec F S1024x256 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 8#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_finite.lean ====
abbrev S8x128 : Shape := ⟨2, ![8, 128]⟩
abbrev S4096x1024 : Shape := ⟨2, ![4096, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S256x1024 : Shape := ⟨2, ![256, 1024]⟩

class Facts : Prop where
  bcast_S_S1x1024 : S_.BroadcastsInDim S1x1024 (![] : Fin 0 → Fin S1x1024.rank)
  bcast_S_S1024x1024 : S_.BroadcastsInDim S1024x1024 (![] : Fin 0 → Fin S1024x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S8x128 .f32) (main_arg1 : FVec F S4096x1024 .f32) (main_arg2 : FVec F S4096x1024 .f32) (main_arg3 : FVec F S1x1024 .f32) (main_arg4 : FVec F S1024x1024 .f32) (main_arg5 : FVec F S1024x1024 .f32) (main_arg6 : FVec F S256x2048 .f32) : IVec S1x1024 1 × IVec S1024x1024 1 × IVec S256x1024 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x1024 .f32 := Host.absf main_arg4
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S256x1024 .f32 := (extractStridedSlice S256x1024 ![0, 0] · slices_S256x2048_S256x1024_0_0) main_arg6
  let main_v7 : FVec F S256x1024 .f32 := Host.absf main_v6
  let main_cst_1 : FVec F S_ .f32 := constant S_ .f32 0x7F800000#32
  let main_v8 : FVec F S256x1024 .f32 := broadcastInDim S256x1024 ![] bcast_S_S256x1024 main_cst_1
  let main_v9 : IVec S256x1024 1 := cmpf .olt main_v7 main_v8
  (main_v2, main_v5, main_v9)
-- ==== Pre_finite11.lean ====
abbrev S8x128 : Shape := ⟨2, ![8, 128]⟩
abbrev S4096x1024 : Shape := ⟨2, ![4096, 1024]⟩
abbrev S4096x512 : Shape := ⟨2, ![4096, 512]⟩
abbrev S4096x2048 : Shape := ⟨2, ![4096, 2048]⟩
abbrev S1x512 : Shape := ⟨2, ![1, 512]⟩
abbrev S8x128x128 : Shape := ⟨3, ![8, 128, 128]⟩
abbrev S1024x1024 : Shape := ⟨2, ![1024, 1024]⟩
abbrev S_ : Shape := ⟨0, ![]⟩
abbrev S512x1024 : Shape := ⟨2, ![512, 1024]⟩

class Facts : Prop where
  bcast_S_S4096x1024 : S_.BroadcastsInDim S4096x1024 (![] : Fin 0 → Fin S4096x1024.rank)
  bcast_S_S1x512 : S_.BroadcastsInDim S1x512 (![] : Fin 0 → Fin S1x512.rank)
  slices_S1024x1024_S512x1024_0_0 : S1024x1024.Slices ![0, 0] S512x1024
  bcast_S_S512x1024 : S_.BroadcastsInDim S512x1024 (![] : Fin 0 → Fin S512x1024.rank)

variable [Facts]

def fn {F : FTy → Type} [FloatOps F] (main_arg0 : FVec F S8x128 .f32) (main_arg1 : FVec F S4096x1024 .f32) (main_arg2 : FVec F S4096x512 .f32) (main_arg3 : FVec F S4096x2048 .f32) (main_arg4 : FVec F S1x512 .f32) (main_arg5 : FVec F S1x512 .f32) (main_arg6 : FVec F S1x512 .f32) (main_arg7 : FVec F S1x512 .f32) (main_arg8 : FVec F S8x128x128 .f32) (main_arg9 : FVec F S8x128 .f32) (main_arg10 : FVec F S1024x1024 .f32) : IVec S4096x1024 1 × IVec S1x512 1 × IVec S512x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x512 .f32 := Host.absf main_arg4
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S512x1024 .f32 := (extractStridedSlice S512x1024 ![0, 0] · slices_S1024x1024_S512x1024_0_0) main_arg10
  let main_v7 : FVec F S512x1024 .f32 := Host.absf main_v6
  let main_cst_1 : FVec F S_ .f32 := constant S_ .f32 0x7F800000#32
  let main_v8 : FVec F S512x1024 .f32 := broadcastInDim S512x1024 ![] bcast_S_S512x1024 main_cst_1
  let main_v9 : IVec S512x1024 1 := cmpf .olt main_v7 main_v8
  (main_v2, main_v5, main_v9)
-- ==== Pre_finite2.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S1024x2816 : Shape := ⟨2, ![1024, 2816]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  slices_S1024x5632_S1024x2816_0_2816 : S1024x5632.Slices ![0, 2816] S1024x2816
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1x1024 .f32) (main_arg3 : FVec F S1024x5632 .f32) (main_arg4 : FVec F S2816x1024 .f32) : IVec S4096x1024 1 × IVec S1x1024 1 × IVec S1024x2816 1 × IVec S2816x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := (extractStridedSlice S1024x2816 ![0, 2816] · slices_S1024x5632_S1024x2816_0_2816) main_arg3
  let main_v7 : FVec F S1024x2816 .f32 := Host.absf main_v6
  let main_cst_1 : FVec F S_ .f32 := constant S_ .f32 0x7F800000#32
  let main_v8 : FVec F S1024x2816 .f32 := broadcastInDim S1024x2816 ![] bcast_S_S1024x2816 main_cst_1
  let main_v9 : IVec S1024x2816 1 := cmpf .olt main_v7 main_v8
  let main_v10 : FVec F S2816x1024 .f32 := Host.absf main_arg4
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  (main_v2, main_v5, main_v9, main_v12)
-- ==== Kernel.lean ====
abbrev S8x128 : Shape := ⟨2, ![8, 128]⟩
abbrev S4096x1024 : Shape := ⟨2, ![4096, 1024]⟩
abbrev S1x1024 : Shape := ⟨2, ![1, 1024]⟩
abbrev S1024x1024 : Shape := ⟨2, ![1024, 1024]⟩
abbrev S256x2048 : Shape := ⟨2, ![256, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 61
  | .vmem => 21
  | .smem => 0
  | _ => 0

abbrev bufTy : (tb : Table) → Fin (tcTables nBuf tb) → BufTy
  | .hbm, ⟨0, _⟩ => ⟨S8x128, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x1024, .f32⟩
  | .hbm, ⟨5, _⟩ => ⟨S1024x1024, .f32⟩
  | .hbm, ⟨6, _⟩ => ⟨S256x2048, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x4x256, .f32⟩
  | .hbm, ⟨26, _⟩ => ⟨S256x1024, .f32⟩
  | .hbm, ⟨27, _⟩ => ⟨S256x1024, .f32⟩
  | .hbm, ⟨28, _⟩ => ⟨S256x4x256, .f32⟩
  | .hbm, ⟨29, _⟩ => ⟨S256x4x256, .f32⟩
  | .hbm, ⟨30, _⟩ => ⟨S4x4096x256, .f32⟩
  | .hbm, ⟨31, _⟩ => ⟨S_, .f32⟩
  | .hbm, ⟨32, _⟩ => ⟨S4x4096x256, .f32⟩
  | .hbm, ⟨33, _⟩ => ⟨S4x4096x256, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x256x4096, .f32⟩
  | .hbm, ⟨49, _⟩ => ⟨S4096x4x256, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S4096x1024, .bf16⟩
  | .hbm, ⟨54, _⟩ => ⟨S1024x1024, .bf16⟩
  | .hbm, ⟨55, _⟩ => ⟨S1024x1024, .bf16⟩
  | .hbm, ⟨56, _⟩ => ⟨S4096x1024, .f32⟩
  | .hbm, ⟨57, _⟩ => ⟨S1024x1024, .bf16⟩
  | .hbm, ⟨58, _⟩ => ⟨S1024x1024, .bf16⟩
  | .hbm, ⟨59, _⟩ => ⟨S256x2048, .f32⟩
  | .hbm, ⟨60, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S256x2048, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024x1024, .bf16⟩
  | .local _ .vmem, ⟨16, _⟩ => ⟨S256x2048, .f32⟩
  | .local _ .vmem, ⟨17, _⟩ => ⟨S1x1024, .f32⟩
  | .local _ .vmem, ⟨18, _⟩ => ⟨S512x1024, .f32⟩
  | .local _ .vmem, ⟨19, _⟩ => ⟨S1024x1024, .f32⟩
  | .local _ .vmem, ⟨20, _⟩ => ⟨S1024x1024, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42_0 : Ref sig .tc := ⟨.hbm, 56, rfl⟩
abbrev main_v42_1 : Ref sig .tc := ⟨.hbm, 57, rfl⟩
abbrev main_v42_2 : Ref sig .tc := ⟨.hbm, 58, rfl⟩
abbrev main_v42_3 : Ref sig .tc := ⟨.hbm, 59, rfl⟩
abbrev main_v42_4 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v248 : BitVec 1 := Scalar.cmpi .eq arg0 c7_i32
  let v249 : BitVec 32 := Scalar.extui v248
  let c0_i32_140 : BitVec 32 := 0#32
  let v250 : BitVec 1 := Scalar.cmpi .ne v249 c0_i32_140
  v250

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8x128 : Shape := ⟨2, ![8, 128]⟩
abbrev S4096x1024 : Shape := ⟨2, ![4096, 1024]⟩
abbrev S1x1024 : Shape := ⟨2, ![1, 1024]⟩
abbrev S1024x1024 : Shape := ⟨2, ![1024, 1024]⟩
abbrev S256x2048 : Shape := ⟨2, ![256, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 147
  | .vmem => 0
  | .smem => 0
  | _ => 0

abbrev hbmTy0_0 (i : Nat) : BufTy := match i % 128 with
  | 0 => ⟨S8x128, .f32⟩
  | 1 => ⟨S4096x1024, .f32⟩
  | 2 => ⟨S4096x1024, .f32⟩
  | 3 => ⟨S1x1024, .f32⟩
  | 4 => ⟨S1024x1024, .f32⟩
  | 5 => ⟨S1024x1024, .f32⟩
  | 6 => ⟨S256x2048, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x1024, .f32⟩
  | 29 => ⟨S4096x4x256, .f32⟩
  | 30 => ⟨S256x1024, .f32⟩
  | 31 => ⟨S256x1024, .f32⟩
  | 32 => ⟨S256x4x256, .f32⟩
  | 33 => ⟨S256x4x256, .f32⟩
  | 34 => ⟨S4x4096x256, .f32⟩
  | 35 => ⟨S_, .f32⟩
  | 36 => ⟨S4x4096x256, .f32⟩
  | 37 => ⟨S4x4096x256, .f32⟩
  | 38 => ⟨S_, .f32⟩
  | 39 => ⟨S4x4096, .f32⟩
  | 40 => ⟨S4x4096x1, .f32⟩
  | 41 => ⟨S4x4096x256, .f32⟩
  | 42 => ⟨S4x4096x256, .i1⟩
  | 43 => ⟨S4x4096x256, .f32⟩
  | 44 => ⟨S_, .f32⟩
  | 45 => ⟨S4x4096, .f32⟩
  | 46 => ⟨S_, .f32⟩
  | 47 => ⟨S4x4096, .f32⟩
  | 48 => ⟨S4x4096, .f32⟩
  | 49 => ⟨S_, .f32⟩
  | 50 => ⟨S4x4096, .f32⟩
  | 51 => ⟨S4x4096, .i1⟩
  | 52 => ⟨S_, .f32⟩
  | 53 => ⟨S4x4096, .f32⟩
  | 54 => ⟨S4x4096, .i1⟩
  | 55 => ⟨S_, .f32⟩
  | 56 => ⟨S4x4096, .f32⟩
  | 57 => ⟨S_, .f32⟩
  | 58 => ⟨S4x4096, .f32⟩
  | 59 => ⟨S_, .f32⟩
  | 60 => ⟨S4x4096, .f32⟩
  | 61 => ⟨S4x4096, .f32⟩
  | 62 => ⟨S4x4096, .f32⟩
  | 63 => ⟨S4x4096x1, .f32⟩
  | 64 => ⟨S4x4096x256, .f32⟩
  | 65 => ⟨S4x4096x256, .f32⟩
  | 66 => ⟨S4x4096x256, .f32⟩
  | 67 => ⟨S_, .f32⟩
  | 68 => ⟨S4x4096, .f32⟩
  | 69 => ⟨S4x4096x1, .f32⟩
  | 70 => ⟨S4x4096x256, .f32⟩
  | 71 => ⟨S4x4096x256, .f32⟩
  | 72 => ⟨S4x4096x1, .f32⟩
  | 73 => ⟨S_, .f32⟩
  | 74 => ⟨S4x4096x1, .f32⟩
  | 75 => ⟨S4x4096x1, .f32⟩
  | 76 => ⟨S4x256x4096, .f32⟩
  | 77 => ⟨S4096x4x256, .f32⟩
  | 78 => ⟨S4096x1024, .f32⟩
  | 79 => ⟨S4096x1024, .f32⟩
  | 80 => ⟨S4096x1024, .f32⟩
  | 81 => ⟨S4096x1024, .f32⟩
  | 82 => ⟨S1024x1024, .f32⟩
  | 83 => ⟨S1024x1024, .f32⟩
  | 84 => ⟨S4096x1024, .f32⟩
  | 85 => ⟨S4096x4x256, .f32⟩
  | 86 => ⟨S4x256x4096, .f32⟩
  | 87 => ⟨S4x4096x256, .f32⟩
  | 88 => ⟨S4x256x256, .f32⟩
  | 89 => ⟨S256x4x256, .f32⟩
  | 90 => ⟨S4x4096x256, .f32⟩
  | 91 => ⟨S4x4096x256, .f32⟩
  | 92 => ⟨S4x4096x256, .f32⟩
  | 93 => ⟨S_, .f32⟩
  | 94 => ⟨S4x4096, .f32⟩
  | 95 => ⟨S4x4096x1, .f32⟩
  | 96 => ⟨S4x4096x1, .f32⟩
  | 97 => ⟨S4x4096x256, .f32⟩
  | 98 => ⟨S4x4096x256, .f32⟩
  | 99 => ⟨S_, .f32⟩
  | 100 => ⟨S4x4096, .f32⟩
  | 101 => ⟨S4x4096x256, .f32⟩
  | 102 => ⟨S4x4096x256, .f32⟩
  | 103 => ⟨S4x4096x256, .f32⟩
  | 104 => ⟨S_, .f32⟩
  | 105 => ⟨S4x4096x256, .f32⟩
  | 106 => ⟨S4x4096x256, .f32⟩
  | 107 => ⟨S4x256x256, .f32⟩
  | 108 => ⟨S256x4x256, .f32⟩
  | 109 => ⟨S4x4096x256, .f32⟩
  | 110 => ⟨S4096x4x256, .f32⟩
  | 111 => ⟨S256x1024, .f32⟩
  | 112 => ⟨S256x1024, .f32⟩
  | 113 => ⟨S256x2048, .f32⟩
  | 114 => ⟨S4096x1024, .f32⟩
  | 115 => ⟨S1024x1024, .f32⟩
  | 116 => ⟨S1024x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S4096x1024, .f32⟩
  | 123 => ⟨S4096x1024, .f32⟩
  | 124 => ⟨S_, .f32⟩
  | 125 => ⟨S1024, .f32⟩
  | 126 => ⟨S4096x1024, .f32⟩
  | 127 => ⟨S_, .f32⟩
  | _ => ⟨S8x128, .f32⟩

abbrev hbmTy0_1 (i : Nat) : BufTy := match i % 128 with
  | 0 => ⟨S4096, .f32⟩
  | 1 => ⟨S4096x1, .f32⟩
  | 2 => ⟨S4096x1024, .f32⟩
  | 3 => ⟨S4096x1024, .f32⟩
  | 4 => ⟨S4096x1024, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S1x1024, .f32⟩
  | 17 => ⟨S1024x1024, .bf16⟩
  | 18 => ⟨S1024x1024, .bf16⟩
  | _ => ⟨S8x128, .f32⟩

abbrev hbmTy (i : Nat) : BufTy := match i / 128 with
  | 0 => hbmTy0_0 i
  | 1 => hbmTy0_1 i
  | _ => ⟨S8x128, .f32⟩

abbrev bufTy : (tb : Table) → Fin (tcTables nBuf tb) → BufTy
  | .hbm, ⟨i, _⟩ => hbmTy i
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_17 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_18 : Ref sig .tc := ⟨.hbm, 124, rfl⟩
abbrev main_v98 : Ref sig .tc := ⟨.hbm, 125, rfl⟩
abbrev main_v99 : Ref sig .tc := ⟨.hbm, 126, rfl⟩
abbrev main_cst_19 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_20 : Ref sig .tc := ⟨.hbm, 134, rfl⟩
abbrev main_v106 : Ref sig .tc := ⟨.hbm, 135, rfl⟩
abbrev main_v107 : Ref sig .tc := ⟨.hbm, 136, rfl⟩
abbrev main_cst_21 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S5632x1024 : Shape := ⟨2, ![5632, 1024]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩

abbrev nBuf : Space → Nat
  | .hbm => 30
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x5632, .f32⟩
  | .hbm, ⟨23, _⟩ => ⟨S5632x1024, .f32⟩
  | .hbm, ⟨24, _⟩ => ⟨S5632x1024, .bf16⟩
  | .hbm, ⟨25, _⟩ => ⟨S2816x1024, .bf16⟩
  | .hbm, ⟨26, _⟩ => ⟨S4096x1024, .f32⟩
  | .hbm, ⟨27, _⟩ => ⟨S4096x2816, .bf16⟩
  | .hbm, ⟨28, _⟩ => ⟨S4096x5632, .bf16⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .f32⟩
  | .local _ .vmem, ⟨5, _⟩ => ⟨S256x5632, .f32⟩
  | .local _ .vmem, ⟨6, _⟩ => ⟨S1x1024, .f32⟩
  | .local _ .vmem, ⟨7, _⟩ => ⟨S5632x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x5632, .bf16⟩
  | .local _ .vmem, ⟨14, _⟩ => ⟨S256x5632, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x5632, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S4096x1024, .f32⟩
  | .hbm, ⟨80, _⟩ => ⟨S4096x2816, .bf16⟩
  | .hbm, ⟨81, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S5632x1024 : Shape := ⟨2, ![5632, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x5632, .bf16⟩
  | .hbm, ⟨3, _⟩ => ⟨S4096x1024, .bf16⟩
  | .hbm, ⟨4, _⟩ => ⟨S5632x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S4096x5632 : Shape := ⟨2, ![4096, 5632]⟩
abbrev S1x128 : Shape := ⟨2, ![1, 128]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S256x2816 : Shape := ⟨2, ![256, 2816]⟩
abbrev S1 : Shape := ⟨1, ![1]⟩
abbrev S1x1 : Shape := ⟨2, ![1, 1]⟩
abbrev S1024 : Shape := ⟨1, ![1024]⟩

abbrev nBuf : Space → Nat
  | .hbm => 15
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S4096x1024, .f32⟩
  | .hbm, ⟨6, _⟩ => ⟨S5632x1024, .f32⟩
  | .hbm, ⟨7, _⟩ => ⟨S5632x1024, .bf16⟩
  | .hbm, ⟨8, _⟩ => ⟨S2816x1024, .bf16⟩
  | .hbm, ⟨9, _⟩ => ⟨S4096x1024, .f32⟩
  | .hbm, ⟨10, _⟩ => ⟨S4096x1024, .bf16⟩
  | .hbm, ⟨11, _⟩ => ⟨S4096x5632, .f32⟩
  | .hbm, ⟨12, _⟩ => ⟨S4096x1024, .bf16⟩
  | .hbm, ⟨13, _⟩ => ⟨S1x128, .f32⟩
  | .hbm, ⟨14, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S2816x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x5632, .f32⟩
  | .local _ .vmem, ⟨13, _⟩ => ⟨S256x5632, .f32⟩
  | .local _ .vmem, ⟨14, _⟩ => ⟨S256x1024, .bf16⟩
  | .local _ .vmem, ⟨15, _⟩ => ⟨S256x1024, .bf16⟩
  | .local _ .vmem, ⟨16, _⟩ => ⟨S1x128, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S4096x1024, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4096, .f32⟩
  | .hbm, ⟨77, _⟩ => ⟨S_, .f32⟩
  | .hbm, ⟨78, _⟩ => ⟨S4096, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1024, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S1x1024, .f32⟩
  | .hbm, ⟨108, _⟩ => ⟨S4096x1024, .bf16⟩
  | .hbm, ⟨109, _⟩ => ⟨S4096x1024, .bf16⟩
  | .hbm, ⟨110, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_cst_11 : Ref sig .tc := ⟨.hbm, 73, rfl⟩
abbrev main_cst_12 : Ref sig .tc := ⟨.hbm, 74, rfl⟩
abbrev main_v47 : Ref sig .tc := ⟨.hbm, 75, rfl⟩
abbrev main_v48 : Ref sig .tc := ⟨.hbm, 76, rfl⟩
abbrev main_cst_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_15 : Ref sig .tc := ⟨.hbm, 88, rfl⟩
abbrev main_v58 : Ref sig .tc := ⟨.hbm, 89, rfl⟩
abbrev main_v59 : Ref sig .tc := ⟨.hbm, 90, rfl⟩
abbrev main_cst_16 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_17 : Ref sig .tc := ⟨.hbm, 97, rfl⟩
abbrev main_v65 : Ref sig .tc := ⟨.hbm, 98, rfl⟩
abbrev main_v66 : Ref sig .tc := ⟨.hbm, 99, rfl⟩
abbrev main_cst_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]
-- ==== Kernel6.lean ====
abbrev S8x128 : Shape := ⟨2, ![8, 128]⟩
abbrev S256x2048 : Shape := ⟨2, ![256, 2048]⟩
abbrev S256x1024 : Shape := ⟨2, ![256, 1024]⟩
abbrev S1x1024 : Shape := ⟨2, ![1, 1024]⟩
abbrev S1024x2048 : Shape := ⟨2, ![1024, 2048]⟩
abbrev S1024 : Shape := ⟨1, ![1024]⟩
abbrev S_ : Shape := ⟨0, ![]⟩
abbrev S256 : Shape := ⟨1, ![256]⟩
abbrev S256x1 : Shape := ⟨2, ![256, 1]⟩
abbrev S1024x8x256 : Shape := ⟨3, ![1024, 8, 256]⟩
abbrev S8x1024x256 : Shape := ⟨3, ![8, 1024, 256]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 28
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S256x2048, .f32⟩
  | .hbm, ⟨2, _⟩ => ⟨S256x1024, .f32⟩
  | .hbm, ⟨3, _⟩ => ⟨S1x1024, .f32⟩
  | .hbm, ⟨4, _⟩ => ⟨S1024x2048, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S1024x8x256, .f32⟩
  | .hbm, ⟨24, _⟩ => ⟨S8x1024x256, .f32⟩
  | .hbm, ⟨25, _⟩ => ⟨S8x1024x256, .bf16⟩
  | .hbm, ⟨26, _⟩ => ⟨S8x1024x256, .bf16⟩
  | .hbm, ⟨27, _⟩ => ⟨S1x1024, .f32⟩
  | .local _ .vmem, ⟨0, _⟩ => ⟨S256x2048, .f32⟩
  | .local _ .vmem, ⟨1, _⟩ => ⟨S256x1024, .bf16⟩
  | .local _ .vmem, ⟨2, _⟩ => ⟨S256x1024, .f32⟩
  | .local _ .vmem, ⟨3, _⟩ => ⟨S1x1024, .f32⟩
  | .local _ .vmem, ⟨4, _⟩ => ⟨S8x1024x256, .bf16⟩
  | .local _ .vmem, ⟨5, _⟩ => ⟨S8x1024x256, .bf16⟩
  | .local _ .vmem, ⟨6, _⟩ => ⟨S1x1024, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference6Ideal.lean ====
abbrev S8x128 : Shape := ⟨2, ![8, 128]⟩
abbrev S256x2048 : Shape := ⟨2, ![256, 2048]⟩
abbrev S256x1024 : Shape := ⟨2, ![256, 1024]⟩
abbrev S1x1024 : Shape := ⟨2, ![1, 1024]⟩
abbrev S1024x2048 : Shape := ⟨2, ![1024, 2048]⟩
abbrev S1024 : Shape := ⟨1, ![1024]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 36
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S256x2048, .f32⟩
  | .hbm, ⟨2, _⟩ => ⟨S256x1024, .f32⟩
  | .hbm, ⟨3, _⟩ => ⟨S1x1024, .f32⟩
  | .hbm, ⟨4, _⟩ => ⟨S1024x2048, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x2048, .f32⟩
  | .hbm, ⟨23, _⟩ => ⟨S2048x1024, .f32⟩
  | .hbm, ⟨24, _⟩ => ⟨S1024x2048, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S1024x8x256, .f32⟩
  | .hbm, ⟨34, _⟩ => ⟨S8x1024x256, .f32⟩
  | .hbm, ⟨35, _⟩ => ⟨S8x1024x256, .bf16⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1024x1024 : Shape := ⟨2, ![1024, 1024]⟩
abbrev S256x2048 : Shape := ⟨2, ![256, 2048]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S256x2048, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S4096x1024, .f32⟩
  | .hbm, ⟨8, _⟩ => ⟨S4096x1024, .bf16⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S256x2048, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4096x1024 : Shape := ⟨2, ![4096, 1024]⟩
abbrev S1x1024 : Shape := ⟨2, ![1, 1024]⟩
abbrev S1024x1024 : Shape := ⟨2, ![1024, 1024]⟩
abbrev S256x2048 : Shape := ⟨2, ![256, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S256x2048, .f32⟩
  | .hbm, ⟨4, _⟩ => ⟨S1024x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x4x256, .f32⟩
  | .hbm, ⟨24, _⟩ => ⟨S256x1024, .f32⟩
  | .hbm, ⟨25, _⟩ => ⟨S256x1024, .f32⟩
  | .hbm, ⟨26, _⟩ => ⟨S256x4x256, .f32⟩
  | .hbm, ⟨27, _⟩ => ⟨S256x4x256, .f32⟩
  | .hbm, ⟨28, _⟩ => ⟨S4x4096x256, .f32⟩
  | .hbm, ⟨29, _⟩ => ⟨S_, .f32⟩
  | .hbm, ⟨30, _⟩ => ⟨S4x4096x256, .f32⟩
  | .hbm, ⟨31, _⟩ => ⟨S4x4096x256, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096x1, .f32⟩
  | .hbm, ⟨38, _⟩ => ⟨S4x4096x256, .f32⟩
  | .hbm, ⟨39, _⟩ => ⟨S4x4096x256, .f32⟩
  | .hbm, ⟨40, _⟩ => ⟨S4x4096x256, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S4x4096x256, .f32⟩
  | .hbm, ⟨45, _⟩ => ⟨S4x4096x256, .f32⟩
  | .hbm, ⟨46, _⟩ => ⟨S4x256x4096, .f32⟩
  | .hbm, ⟨47, _⟩ => ⟨S4096x4x256, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x2048 : Shape := ⟨2, ![1024, 2048]⟩
abbrev S1x2048 : Shape := ⟨2, ![1, 2048]⟩
abbrev S1024x8x256 : Shape := ⟨3, ![1024, 8, 256]⟩
abbrev S8x1024x256 : Shape := ⟨3, ![8, 1024, 256]⟩
abbrev S4096x2048 : Shape := ⟨2, ![4096, 2048]⟩
abbrev S4096x512 : Shape := ⟨2, ![4096, 512]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S1x2048, .f32⟩
  | .hbm, ⟨4, _⟩ => ⟨S1024x8x256, .f32⟩
  | .hbm, ⟨5, _⟩ => ⟨S8x1024x256, .f32⟩
  | .hbm, ⟨6, _⟩ => ⟨S8x1024x256, .bf16⟩
  | .hbm, ⟨7, _⟩ => ⟨S4096x2048, .f32⟩
  | .hbm, ⟨8, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x512, .f32⟩
  | .local _ .vmem, ⟨8, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4096x1024 : Shape := ⟨2, ![4096, 1024]⟩
abbrev S1x1024 : Shape := ⟨2, ![1, 1024]⟩
abbrev S1024x2048 : Shape := ⟨2, ![1024, 2048]⟩
abbrev S1x2048 : Shape := ⟨2, ![1, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S2048 : Shape := ⟨1, ![2048]⟩
abbrev S4096x512 : Shape := ⟨2, ![4096, 512]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S1x2048, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2048, .f32⟩
  | .hbm, ⟨22, _⟩ => ⟨S2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel9.lean ====
abbrev S256x1024 : Shape := ⟨2, ![256, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S256x2048 : Shape := ⟨2, ![256, 2048]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 8
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S256x2048, .f32⟩
  | .hbm, ⟨7, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S8x1024x256, .bf16⟩
  | .local _ .vmem, ⟨3, _⟩ => ⟨S256x2048, .f32⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference9Ideal.lean ====
abbrev S256x1024 : Shape := ⟨2, ![256, 1024]⟩
abbrev S1x1024 : Shape := ⟨2, ![1, 1024]⟩
abbrev S1024x2048 : Shape := ⟨2, ![1024, 2048]⟩
abbrev S1024 : Shape := ⟨1, ![1024]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x2048, .f32⟩
  | .hbm, ⟨21, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S4096x1024 : Shape := ⟨2, ![4096, 1024]⟩
abbrev S4096x512 : Shape := ⟨2, ![4096, 512]⟩
abbrev S4096x2048 : Shape := ⟨2, ![4096, 2048]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S128x8 : Shape := ⟨2, ![128, 8]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x2048, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S8x128x128, .f32⟩
  | .hbm, ⟨8, _⟩ => ⟨S8x128, .f32⟩
  | .hbm, ⟨9, _⟩ => ⟨S1024x1024, .f32⟩
  | .hbm, ⟨10, _⟩ => ⟨S128x8, .f32⟩
  | .hbm, ⟨11, _⟩ => ⟨S1024x1024, .bf16⟩
  | .hbm, ⟨12, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S8x128x128, .f32⟩
  | .local _ .vmem, ⟨11, _⟩ => ⟨S128x8, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S4096x1024 : Shape := ⟨2, ![4096, 1024]⟩
abbrev S4096x512 : Shape := ⟨2, ![4096, 512]⟩
abbrev S4096x2048 : Shape := ⟨2, ![4096, 2048]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S32x128x8x64 : Shape := ⟨4, ![32, 128, 8, 64]⟩
abbrev S128x128 : Shape := ⟨2, ![128, 128]⟩
abbrev S1x128x128 : Shape := ⟨3, ![1, 128, 128]⟩
abbrev S8x32x64x128 : Shape := ⟨4, ![8, 32, 64, 128]⟩
abbrev S128x8 : Shape := ⟨2, ![128, 8]⟩
abbrev S1x128x8x1 : Shape := ⟨4, ![1, 128, 8, 1]⟩

abbrev nBuf : Space → Nat
  | .hbm => 145
  | .vmem => 0
  | .smem => 0
  | _ => 0

abbrev hbmTy0_0 (i : Nat) : BufTy := match i % 128 with
  | 0 => ⟨S4096x1024, .f32⟩
  | 1 => ⟨S4096x512, .f32⟩
  | 2 => ⟨S4096x2048, .f32⟩
  | 3 => ⟨S1x512, .f32⟩
  | 4 => ⟨S1x512, .f32⟩
  | 5 => ⟨S1x512, .f32⟩
  | 6 => ⟨S1x512, .f32⟩
  | 7 => ⟨S8x128x128, .f32⟩
  | 8 => ⟨S8x128, .f32⟩
  | 9 => ⟨S1024x1024, .f32⟩
  | 10 => ⟨S512, .f32⟩
  | 11 => ⟨S512, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S4096x512, .f32⟩
  | 19 => ⟨S4096x512, .f32⟩
  | 20 => ⟨S4096x512, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x512, .f32⟩
  | 28 => ⟨S4096x512, .f32⟩
  | 29 => ⟨S_, .f32⟩
  | 30 => ⟨S4096x1, .f32⟩
  | 31 => ⟨S4096x1, .f32⟩
  | 32 => ⟨S4096x1, .f32⟩
  | 33 => ⟨S4096x512, .f32⟩
  | 34 => ⟨S4096x512, .f32⟩
  | 35 => ⟨S1x512, .f32⟩
  | 36 => ⟨S4096x512, .f32⟩
  | 37 => ⟨S4096x512, .f32⟩
  | 38 => ⟨S1x512, .f32⟩
  | 39 => ⟨S4096x512, .f32⟩
  | 40 => ⟨S4096x512, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S512, .f32⟩
  | 53 => ⟨S512, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S4096x512, .f32⟩
  | 77 => ⟨S_, .f32⟩
  | 78 => ⟨S4096x512, .f32⟩
  | 79 => ⟨S4096x512, .f32⟩
  | 80 => ⟨S4096x512, .f32⟩
  | 81 => ⟨S_, .f32⟩
  | 82 => ⟨S4096x512, .f32⟩
  | 83 => ⟨S4096x512, .f32⟩
  | 84 => ⟨S_, .f32⟩
  | 85 => ⟨S4096x512, .f32⟩
  | 86 => ⟨S4096x512, .f32⟩
  | 87 => ⟨S4096x512, .f32⟩
  | 88 => ⟨S_, .f32⟩
  | 89 => ⟨S4096, .f32⟩
  | 90 => ⟨S4096x1, .f32⟩
  | 91 => ⟨S_, .f32⟩
  | 92 => ⟨S4096x1, .f32⟩
  | 93 => ⟨S4096x1, .f32⟩
  | 94 => ⟨S4096x512, .f32⟩
  | 95 => ⟨S4096x512, .f32⟩
  | 96 => ⟨S4096x512, .f32⟩
  | 97 => ⟨S_, .f32⟩
  | 98 => ⟨S4096, .f32⟩
  | 99 => ⟨S4096x1, .f32⟩
  | 100 => ⟨S_, .f32⟩
  | 101 => ⟨S4096x1, .f32⟩
  | 102 => ⟨S4096x1, .f32⟩
  | 103 => ⟨S4096x512, .f32⟩
  | 104 => ⟨S4096x512, .f32⟩
  | 105 => ⟨S_, .f32⟩
  | 106 => ⟨S4096x1, .f32⟩
  | 107 => ⟨S4096x1, .f32⟩
  | 108 => ⟨S4096x1, .f32⟩
  | 109 => ⟨S4096x512, .f32⟩
  | 110 => ⟨S4096x512, .f32⟩
  | 111 => ⟨S1x512, .f32⟩
  | 112 => ⟨S4096x512, .f32⟩
  | 113 => ⟨S4096x512, .f32⟩
  | 114 => ⟨S1x512, .f32⟩
  | 115 => ⟨S4096x512, .f32⟩
  | 116 => ⟨S4096x512, .f32⟩
  | 117 => ⟨S32x128x8x64, .f32⟩
  | 118 => ⟨S_, .i1⟩
  | 119 => ⟨S128x128, .i1⟩
  | 120 => ⟨S128x128, .i32⟩
  | 121 => ⟨S_, .i32⟩
  | 122 => ⟨S128x128, .i32⟩
  | 123 => ⟨S128x128, .i32⟩
  | 124 => ⟨S128x128, .i32⟩
  | 125 => ⟨S128x128, .i1⟩
  | 126 => ⟨S_, .i1⟩
  | 127 => ⟨S128x128, .i1⟩
  | _ => ⟨S4096x1024, .f32⟩

abbrev hbmTy0_1 (i : Nat) : BufTy := match i % 128 with
  | 0 => ⟨S128x128, .i1⟩
  | 1 => ⟨S1x128x128, .i1⟩
  | 2 => ⟨S_, .f32⟩
  | 3 => ⟨S8x128x128, .f32⟩
  | 4 => ⟨S8x128x128, .i1⟩
  | 5 => ⟨S8x128x128, .f32⟩
  | 6 => ⟨S8x32x64x128, .f32⟩
  | 7 => ⟨S32x128x8x64, .f32⟩
  | 8 => ⟨S128x8, .f32⟩
  | 9 => ⟨S1x128x8x1, .f32⟩
  | 10 => ⟨S32x128x8x64, .f32⟩
  | 11 => ⟨S32x128x8x64, .f32⟩
  | 12 => ⟨S4096x512, .f32⟩
  | 13 => ⟨S4096x512, .f32⟩
  | 14 => ⟨S4096x1024, .f32⟩
  | 15 => ⟨S4096x1024, .f32⟩
  | 16 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_14 : Ref sig .tc := ⟨.hbm, 97, rfl⟩
abbrev main_v64 : Ref sig .tc := ⟨.hbm, 98, rfl⟩
abbrev main_v65 : Ref sig .tc := ⟨.hbm, 99, rfl⟩
abbrev main_cst_15 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_16 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c : Ref sig .tc := ⟨.hbm, 118, rfl⟩
abbrev main_v82 : Ref sig .tc := ⟨.hbm, 119, rfl⟩
abbrev main_call1_v0 : Ref sig .tc := ⟨.hbm, 120, rfl⟩
abbrev main_call1_c : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_call1_c_0 : Ref sig .tc := ⟨.hbm, 126, rfl⟩
abbrev main_call1_v5 : Ref sig .tc := ⟨.hbm, 127, rfl⟩
abbrev main_v83 : Ref sig .tc := ⟨.hbm, 128, rfl⟩
abbrev main_v84 : Ref sig .tc := ⟨.hbm, 129, rfl⟩
abbrev main_cst_17 : Ref sig .tc := ⟨.hbm, 130, rfl⟩
abbrev main_v85 : Ref sig .tc := ⟨.hbm, 131, rfl⟩
abbrev main_call2_v0 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩

abbrev nD : Nat := 1
abbrev τ : Topo := Topo.v7x

variable {F : FTy → Type} [FloatOps F]
-- ==== Kernel11.lean ====
abbrev S8x128 : Shape := ⟨2, ![8, 128]⟩
abbrev S4096x1024 : Shape := ⟨2, ![4096, 1024]⟩
abbrev S4096x512 : Shape := ⟨2, ![4096, 512]⟩
abbrev S4096x2048 : Shape := ⟨2, ![4096, 2048]⟩
abbrev S1x512 : Shape := ⟨2, ![1, 512]⟩
abbrev S8x128x128 : Shape := ⟨3, ![8, 128, 128]⟩
abbrev S1024x1024 : Shape := ⟨2, ![1024, 1024]⟩
abbrev S128x8 : Shape := ⟨2, ![128, 8]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S1x8 : Shape := ⟨2, ![1, 8]⟩
abbrev S128 : Shape := ⟨1, ![128]⟩

abbrev nBuf : Space → Nat
  | .hbm => 24
  | .vmem => 29
  | .smem => 0
  | _ => 0

abbrev bufTy : (tb : Table) → Fin (tcTables nBuf tb) → BufTy
  | .hbm, ⟨0, _⟩ => ⟨S8x128, .f32⟩
  | .hbm, ⟨1, _⟩ => ⟨S4096x1024, .f32⟩
  | .hbm, ⟨2, _⟩ => ⟨S4096x512, .f32⟩
  | .hbm, ⟨3, _⟩ => ⟨S4096x2048, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S8x128x128, .f32⟩
  | .hbm, ⟨9, _⟩ => ⟨S8x128, .f32⟩
  | .hbm, ⟨10, _⟩ => ⟨S1024x1024, .f32⟩
  | .hbm, ⟨11, _⟩ => ⟨S8x128x128, .f32⟩
  | .hbm, ⟨12, _⟩ => ⟨S128x8, .f32⟩
  | .hbm, ⟨13, _⟩ => ⟨S1024x1024, .bf16⟩
  | .hbm, ⟨14, _⟩ => ⟨S1024x1024, .bf16⟩
  | .hbm, ⟨15, _⟩ => ⟨S4096x512, .f32⟩
  | .hbm, ⟨16, _⟩ => ⟨S4096x1024, .bf16⟩
  | .hbm, ⟨17, _⟩ => ⟨S8x128x128, .f32⟩
  | .hbm, ⟨18, _⟩ => ⟨S128x8, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S8x128x128, .f32⟩
  | .local _ .vmem, ⟨11, _⟩ => ⟨S8x128x128, .f32⟩
  | .local _ .vmem, ⟨12, _⟩ => ⟨S128x8, .f32⟩
  | .local _ .vmem, ⟨13, _⟩ => ⟨S1024x1024, .bf16⟩
  | .local _ .vmem, ⟨14, _⟩ => ⟨S1024x1024, .bf16⟩
  | .local _ .vmem, ⟨15, _⟩ => ⟨S512x512, .f32⟩
  | .local _ .vmem, ⟨16, _⟩ => ⟨S512x512, .f32⟩
  | .local _ .vmem, ⟨17, _⟩ => ⟨S512x1024, .bf16⟩
  | .local _ .vmem, ⟨18, _⟩ => ⟨S512x1024, .bf16⟩
  | .local _ .vmem, ⟨19, _⟩ => ⟨S8x128x128, .f32⟩
  | .local _ .vmem, ⟨20, _⟩ => ⟨S128x8, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x1024, .f32⟩
  | .local _ .vmem, ⟨26, _⟩ => ⟨S512x512, .f32⟩
  | .local _ .vmem, ⟨27, _⟩ => ⟨S512x512, .f32⟩
  | .local _ .vmem, ⟨28, _⟩ => ⟨S1024x1024, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev main_v3_6 : Ref sig .tc := ⟨.hbm, 20, rfl⟩
abbrev main_v3_7 : Ref sig .tc := ⟨.hbm, 21, rfl⟩
abbrev main_v3_8 : Ref sig .tc := ⟨.hbm, 22, rfl⟩
abbrev main_v3_9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v365 : BitVec 1 := Scalar.cmpi .eq arg0 c7_i32
  let v366 : BitVec 32 := Scalar.extui v365
  let c0_i32_168 : BitVec 32 := 0#32
  let v367 : BitVec 1 := Scalar.cmpi .ne v366 c0_i32_168
  v367

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference11Ideal.lean ====
abbrev S8x128 : Shape := ⟨2, ![8, 128]⟩
abbrev S4096x1024 : Shape := ⟨2, ![4096, 1024]⟩
abbrev S4096x512 : Shape := ⟨2, ![4096, 512]⟩
abbrev S4096x2048 : Shape := ⟨2, ![4096, 2048]⟩
abbrev S1x512 : Shape := ⟨2, ![1, 512]⟩
abbrev S8x128x128 : Shape := ⟨3, ![8, 128, 128]⟩
abbrev S1024x1024 : Shape := ⟨2, ![1024, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S32x128x8x64 : Shape := ⟨4, ![32, 128, 8, 64]⟩
abbrev S128x128 : Shape := ⟨2, ![128, 128]⟩
abbrev S1x128x128 : Shape := ⟨3, ![1, 128, 128]⟩
abbrev S8x32x64x128 : Shape := ⟨4, ![8, 32, 64, 128]⟩
abbrev S128x8 : Shape := ⟨2, ![128, 8]⟩
abbrev S1x128x8x1 : Shape := ⟨4, ![1, 128, 8, 1]⟩

abbrev nBuf : Space → Nat
  | .hbm => 336
  | .vmem => 0
  | .smem => 0
  | _ => 0

abbrev hbmTy0_0 (i : Nat) : BufTy := match i % 128 with
  | 0 => ⟨S8x128, .f32⟩
  | 1 => ⟨S4096x1024, .f32⟩
  | 2 => ⟨S4096x512, .f32⟩
  | 3 => ⟨S4096x2048, .f32⟩
  | 4 => ⟨S1x512, .f32⟩
  | 5 => ⟨S1x512, .f32⟩
  | 6 => ⟨S1x512, .f32⟩
  | 7 => ⟨S1x512, .f32⟩
  | 8 => ⟨S8x128x128, .f32⟩
  | 9 => ⟨S8x128, .f32⟩
  | 10 => ⟨S1024x1024, .f32⟩
  | 11 => ⟨S4096x512, .f32⟩
  | 12 => ⟨S4096x512, .f32⟩
  | 13 => ⟨S512, .f32⟩
  | 14 => ⟨S512, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S4096x512, .f32⟩
  | 34 => ⟨S4096x512, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x512, .f32⟩
  | 44 => ⟨S4096x512, .f32⟩
  | 45 => ⟨S1x512, .f32⟩
  | 46 => ⟨S4096x512, .f32⟩
  | 47 => ⟨S4096x512, .f32⟩
  | 48 => ⟨S1x512, .f32⟩
  | 49 => ⟨S4096x512, .f32⟩
  | 50 => ⟨S4096x512, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S4096x512, .f32⟩
  | 63 => ⟨S4096x512, .f32⟩
  | 64 => ⟨S512, .f32⟩
  | 65 => ⟨S512, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S4096x512, .f32⟩
  | 80 => ⟨S_, .f32⟩
  | 81 => ⟨S4096x512, .f32⟩
  | 82 => ⟨S4096x512, .f32⟩
  | 83 => ⟨S_, .f32⟩
  | 84 => ⟨S4096x512, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S_, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S_, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S_, .f32⟩
  | 112 => ⟨S4096x512, .f32⟩
  | 113 => ⟨S4096x512, .f32⟩
  | 114 => ⟨S4096x512, .f32⟩
  | 115 => ⟨S_, .f32⟩
  | 116 => ⟨S4096x512, .f32⟩
  | 117 => ⟨S4096x512, .f32⟩
  | 118 => ⟨S_, .f32⟩
  | 119 => ⟨S4096x512, .f32⟩
  | 120 => ⟨S4096x512, .f32⟩
  | 121 => ⟨S4096x512, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S8x128, .f32⟩

abbrev hbmTy0_1 (i : Nat) : BufTy := match i % 128 with
  | 0 => ⟨S4096x512, .f32⟩
  | 1 => ⟨S4096x512, .f32⟩
  | 2 => ⟨S4096x512, .f32⟩
  | 3 => ⟨S_, .f32⟩
  | 4 => ⟨S4096x512, .f32⟩
  | 5 => ⟨S4096x512, .f32⟩
  | 6 => ⟨S_, .f32⟩
  | 7 => ⟨S4096, .f32⟩
  | 8 => ⟨S4096x1, .f32⟩
  | 9 => ⟨S_, .f32⟩
  | 10 => ⟨S4096x1, .f32⟩
  | 11 => ⟨S4096x1, .f32⟩
  | 12 => ⟨S4096x512, .f32⟩
  | 13 => ⟨S4096x512, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x512, .f32⟩
  | 23 => ⟨S4096x512, .f32⟩
  | 24 => ⟨S1x512, .f32⟩
  | 25 => ⟨S4096x512, .f32⟩
  | 26 => ⟨S4096x512, .f32⟩
  | 27 => ⟨S1x512, .f32⟩
  | 28 => ⟨S4096x512, .f32⟩
  | 29 => ⟨S4096x512, .f32⟩
  | 30 => ⟨S32x128x8x64, .f32⟩
  | 31 => ⟨S_, .i1⟩
  | 32 => ⟨S128x128, .i1⟩
  | 33 => ⟨S128x128, .i32⟩
  | 34 => ⟨S_, .i32⟩
  | 35 => ⟨S128x128, .i32⟩
  | 36 => ⟨S128x128, .i32⟩
  | 37 => ⟨S128x128, .i32⟩
  | 38 => ⟨S128x128, .i1⟩
  | 39 => ⟨S_, .i1⟩
  | 40 => ⟨S128x128, .i1⟩
  | 41 => ⟨S128x128, .i1⟩
  | 42 => ⟨S1x128x128, .i1⟩
  | 43 => ⟨S_, .f32⟩
  | 44 => ⟨S8x128x128, .f32⟩
  | 45 => ⟨S8x128x128, .i1⟩
  | 46 => ⟨S8x128x128, .f32⟩
  | 47 => ⟨S_, .f32⟩
  | 48 => ⟨S8x128x128, .f32⟩
  | 49 => ⟨S8x32x64x128, .f32⟩
  | 50 => ⟨S32x128x8x64, .f32⟩
  | 51 => ⟨S128x8, .f32⟩
  | 52 => ⟨S1x128x8x1, .f32⟩
  | 53 => ⟨S32x128x8x64, .f32⟩
  | 54 => ⟨S32x128x8x64, .f32⟩
  | 55 => ⟨S4096x512, .f32⟩
  | 56 => ⟨S4096x512, .f32⟩
  | 57 => ⟨S4096x1024, .f32⟩
  | 58 => ⟨S4096x1024, .f32⟩
  | 59 => ⟨S1024x1024, .f32⟩
  | 60 => ⟨S1024x1024, .f32⟩
  | 61 => ⟨S4096x1024, .f32⟩
  | 62 => ⟨S4096x512, .f32⟩
  | 63 => ⟨S4096x512, .f32⟩
  | 64 => ⟨S4096x512, .f32⟩
  | 65 => ⟨S4096x512, .f32⟩
  | 66 => ⟨S32x128x8x64, .f32⟩
  | 67 => ⟨S_, .f32⟩
  | 68 => ⟨S128x8, .f32⟩
  | 69 => ⟨S1x128x8x1, .f32⟩
  | 70 => ⟨S_, .f32⟩
  | 71 => ⟨S128x8, .f32⟩
  | 72 => ⟨S8x128, .f32⟩
  | 73 => ⟨S8x32x64x128, .f32⟩
  | 74 => ⟨S8x128x128, .f32⟩
  | 75 => ⟨S8x32x64x128, .f32⟩
  | 76 => ⟨S32x128x8x64, .f32⟩
  | 77 => ⟨S_, .f32⟩
  | 78 => ⟨S8x128x128, .f32⟩
  | 79 => ⟨S8x128x128, .f32⟩
  | 80 => ⟨S4096x512, .f32⟩
  | 81 => ⟨S_, .f32⟩
  | 82 => ⟨S512, .f32⟩
  | 83 => ⟨S1x512, .f32⟩
  | 84 => ⟨S_, .f32⟩
  | 85 => ⟨S512, .f32⟩
  | 86 => ⟨S4096x512, .f32⟩
  | 87 => ⟨S_, .f32⟩
  | 88 => ⟨S512, .f32⟩
  | 89 => ⟨S1x512, .f32⟩
  | 90 => ⟨S4096x512, .f32⟩
  | 91 => ⟨S4096x512, .f32⟩
  | 92 => ⟨S_, .f32⟩
  | 93 => ⟨S512, .f32⟩
  | 94 => ⟨S4096x512, .f32⟩
  | 95 => ⟨S_, .f32⟩
  | 96 => ⟨S4096, .f32⟩
  | 97 => ⟨S4096x1, .f32⟩
  | 98 => ⟨S4096x512, .f32⟩
  | 99 => ⟨S4096x512, .f32⟩
  | 100 => ⟨S4096x1, .f32⟩
  | 101 => ⟨S4096x512, .f32⟩
  | 102 => ⟨S_, .f32⟩
  | 103 => ⟨S4096, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096, .f32⟩
  | 110 => ⟨S4096x512, .f32⟩
  | 111 => ⟨S4096x512, .f32⟩
  | 112 => ⟨S4096x512, .f32⟩
  | 113 => ⟨S_, .f32⟩
  | 114 => ⟨S4096, .f32⟩
  | 115 => ⟨S4096x1, .f32⟩
  | 116 => ⟨S4096x512, .f32⟩
  | 117 => ⟨S4096x1, .f32⟩
  | 118 => ⟨S_, .f32⟩
  | 119 => ⟨S4096x1, .f32⟩
  | 120 => ⟨S4096x1, .f32⟩
  | 121 => ⟨S_, .f32⟩
  | 122 => ⟨S4096, .f32⟩
  | 123 => ⟨S4096x512, .f32⟩
  | 124 => ⟨S4096x512, .f32⟩
  | 125 => ⟨S4096x512, .f32⟩
  | 126 => ⟨S4096x512, .f32⟩
  | 127 => ⟨S_, .f32⟩
  | _ => ⟨S8x128, .f32⟩

abbrev hbmTy0_2 (i : Nat) : BufTy := match i % 128 with
  | 0 => ⟨S4096x512, .f32⟩
  | 1 => ⟨S4096x512, .f32⟩
  | 2 => ⟨S4096x512, .f32⟩
  | 3 => ⟨S_, .f32⟩
  | 4 => ⟨S4096x512, .f32⟩
  | 5 => ⟨S4096x512, .f32⟩
  | 6 => ⟨S4096x512, .f32⟩
  | 7 => ⟨S_, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S4096x512, .f32⟩
  | 26 => ⟨S4096x512, .f32⟩
  | 27 => ⟨S1x512, .f32⟩
  | 28 => ⟨S1x512, .f32⟩
  | 29 => ⟨S4096x512, .f32⟩
  | 30 => ⟨S4096x512, .f32⟩
  | 31 => ⟨S4096x512, .f32⟩
  | 32 => ⟨S4096x512, .f32⟩
  | 33 => ⟨S_, .f32⟩
  | 34 => ⟨S512, .f32⟩
  | 35 => ⟨S1x512, .f32⟩
  | 36 => ⟨S_, .f32⟩
  | 37 => ⟨S512, .f32⟩
  | 38 => ⟨S4096x512, .f32⟩
  | 39 => ⟨S_, .f32⟩
  | 40 => ⟨S512, .f32⟩
  | 41 => ⟨S1x512, .f32⟩
  | 42 => ⟨S4096x512, .f32⟩
  | 43 => ⟨S4096x512, .f32⟩
  | 44 => ⟨S_, .f32⟩
  | 45 => ⟨S512, .f32⟩
  | 46 => ⟨S4096x512, .f32⟩
  | 47 => ⟨S_, .f32⟩
  | 48 => ⟨S4096, .f32⟩
  | 49 => ⟨S4096x1, .f32⟩
  | 50 => ⟨S4096x512, .f32⟩
  | 51 => ⟨S4096x512, .f32⟩
  | 52 => ⟨S4096x1, .f32⟩
  | 53 => ⟨S4096x512, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096, .f32⟩
  | 62 => ⟨S4096x512, .f32⟩
  | 63 => ⟨S4096x512, .f32⟩
  | 64 => ⟨S4096x512, .f32⟩
  | 65 => ⟨S_, .f32⟩
  | 66 => ⟨S4096, .f32⟩
  | 67 => ⟨S4096x1, .f32⟩
  | 68 => ⟨S4096x512, .f32⟩
  | 69 => ⟨S4096x1, .f32⟩
  | 70 => ⟨S_, .f32⟩
  | 71 => ⟨S4096x1, .f32⟩
  | 72 => ⟨S4096x1, .f32⟩
  | 73 => ⟨S_, .f32⟩
  | 74 => ⟨S4096, .f32⟩
  | 75 => ⟨S4096x512, .f32⟩
  | 76 => ⟨S4096x512, .f32⟩
  | 77 => ⟨S1x512, .f32⟩
  | 78 => ⟨S1x512, .f32⟩
  | 79 => ⟨S1024x1024, .bf16⟩
  | _ => ⟨S8x128, .f32⟩

abbrev hbmTy (i : Nat) : BufTy := match i / 128 with
  | 0 => hbmTy0_0 i
  | 1 => hbmTy0_1 i
  | 2 => hbmTy0_2 i
  | _ => ⟨S8x128, .f32⟩

abbrev bufTy : (tb : Table) → Fin (tcTables nBuf tb) → BufTy
  | .hbm, ⟨i, _⟩ => hbmTy i
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v33_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v33_1 : Ref sig .tc := ⟨.hbm, 62, rfl⟩
abbrev main_v33_0 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_cst_7 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_9 : Ref sig .tc := ⟨.hbm, 80, rfl⟩
abbrev main_v47 : Ref sig .tc := ⟨.hbm, 81, rfl⟩
abbrev main_v48 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_11 : Ref sig .tc := ⟨.hbm, 87, rfl⟩
abbrev main_v52 : Ref sig .tc := ⟨.hbm, 88, rfl⟩
abbrev main_v53 : Ref sig .tc := ⟨.hbm, 89, rfl⟩
abbrev main_cst_12 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_13 : Ref sig .tc := ⟨.hbm, 97, rfl⟩
abbrev main_v60 : Ref sig .tc := ⟨.hbm, 98, rfl⟩
abbrev main_v61 : Ref sig .tc := ⟨.hbm, 99, rfl⟩
abbrev main_cst_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_15 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_16 : Ref sig .tc := ⟨.hbm, 108, rfl⟩
abbrev main_v68 : Ref sig .tc := ⟨.hbm, 109, rfl⟩
abbrev main_v69 : Ref sig .tc := ⟨.hbm, 110, rfl⟩
abbrev main_cst_17 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_18 : Ref sig .tc := ⟨.hbm, 115, rfl⟩
abbrev main_v73 : Ref sig .tc := ⟨.hbm, 116, rfl⟩
abbrev main_v74 : Ref sig .tc := ⟨.hbm, 117, rfl⟩
abbrev main_cst_19 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_20 : Ref sig .tc := ⟨.hbm, 122, rfl⟩
abbrev main_v78 : Ref sig .tc := ⟨.hbm, 123, rfl⟩
abbrev main_v79 : Ref sig .tc := ⟨.hbm, 124, rfl⟩
abbrev main_cst_21 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_22 : Ref sig .tc := ⟨.hbm, 131, rfl⟩
abbrev main_v85 : Ref sig .tc := ⟨.hbm, 132, rfl⟩
abbrev main_v86 : Ref sig .tc := ⟨.hbm, 133, rfl⟩
abbrev main_cst_23 : Ref sig .tc := ⟨.hbm, 134, rfl⟩
abbrev main_v87 : Ref sig .tc := ⟨.hbm, 135, rfl⟩
abbrev main_v88 : Ref sig .tc := ⟨.hbm, 136, rfl⟩
abbrev main_cst_24 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_25 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_26 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c : Ref sig .tc := ⟨.hbm, 159, rfl⟩
abbrev main_v108 : Ref sig .tc := ⟨.hbm, 160, rfl⟩
abbrev main_call1_v0 : Ref sig .tc := ⟨.hbm, 161, rfl⟩
abbrev main_call1_c : Ref sig .tc := ⟨.hbm, 162, rfl⟩
abbrev main_call1_v1 : Ref sig .tc := ⟨.hbm, 163, rfl⟩
abbrev main_call1_v2 : Ref sig .tc := ⟨.hbm, 164, rfl⟩
abbrev main_call1_v3 : Ref sig .tc := ⟨.hbm, 165, rfl⟩
abbrev main_call1_v4 : Ref sig .tc := ⟨.hbm, 166, rfl⟩
abbrev main_call1_c_0 : Ref sig .tc := ⟨.hbm, 167, rfl⟩
abbrev main_call1_v5 : Ref sig .tc := ⟨.hbm, 168, rfl⟩
abbrev main_v109 : Ref sig .tc := ⟨.hbm, 169, rfl⟩
abbrev main_v110 : Ref sig .tc := ⟨.hbm, 170, rfl⟩
abbrev main_cst_27 : Ref sig .tc := ⟨.hbm, 171, rfl⟩
abbrev main_v111 : Ref sig .tc := ⟨.hbm, 172, rfl⟩
abbrev main_v112_1 : Ref sig .tc := ⟨.hbm, 173, rfl⟩
abbrev main_v112_0 : Ref sig .tc := ⟨.hbm, 174, rfl⟩
abbrev main_call2_cst : Ref sig .tc := ⟨.hbm, 175, rfl⟩
abbrev main_v112_2 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_cst_28 : Ref sig .tc := ⟨.hbm, 195, rfl⟩
abbrev main_v131 : Ref sig .tc := ⟨.hbm, 196, rfl⟩
abbrev main_v132 : Ref sig .tc := ⟨.hbm, 197, rfl⟩
abbrev main_cst_29 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_call3_cst : Ref sig .tc := ⟨.hbm, 205, rfl⟩
abbrev main_call3_v0 : Ref sig .tc := ⟨.hbm, 206, rfl⟩
abbrev main_v139 : Ref sig .tc := ⟨.hbm, 207, rfl⟩
abbrev main_v140 : Ref sig .tc := ⟨.hbm, 208, rfl⟩
abbrev main_cst_30 : Ref sig .tc := ⟨.hbm, 209, rfl⟩
abbrev main_v141 : Ref sig .tc := ⟨.hbm, 210, rfl⟩
abbrev main_v142 : Ref sig .tc := ⟨.hbm, 211, rfl⟩
abbrev main_cst_31 : Ref sig .tc := ⟨.hbm, 212, rfl⟩
abbrev main_v143 : Ref sig .tc := ⟨.hbm, 213, rfl⟩
abbrev main_v144 : Ref sig .tc := ⟨.hbm, 214, rfl⟩
abbrev main_cst_32 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_cst_33 : Ref sig .tc := ⟨.hbm, 220, rfl⟩
abbrev main_v149 : Ref sig .tc := ⟨.hbm, 221, rfl⟩
abbrev main_v150 : Ref sig .tc := ⟨.hbm, 222, rfl⟩
abbrev main_cst_34 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_cst_35 : Ref sig .tc := ⟨.hbm, 230, rfl⟩
abbrev main_v157 : Ref sig .tc := ⟨.hbm, 231, rfl⟩
abbrev main_v158 : Ref sig .tc := ⟨.hbm, 232, rfl⟩
abbrev main_cst_36 : Ref sig .tc := ⟨.hbm, 233, rfl⟩
abbrev main_v159 : Ref sig .tc := ⟨.hbm, 234, rfl⟩
abbrev main_v160 : Ref sig .tc := ⟨.hbm, 235, rfl⟩
abbrev main_cst_37 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_cst_38 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_cst_39 : Ref sig .tc := ⟨.hbm, 246, rfl⟩
abbrev main_v169 : Ref sig .tc := ⟨.hbm, 247, rfl⟩
abbrev main_v170 : Ref sig .tc := ⟨.hbm, 248, rfl⟩
abbrev main_cst_40 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_cst_41 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_cst_42 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_cst_43 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_cst_44 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_cst_45 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_cst_46 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_call4_v0 : Ref sig .tc := ⟨.hbm, 285, rfl⟩
abbrev main_call4_v1 : Ref sig .tc := ⟨.hbm, 286, rfl⟩
abbrev main_call4_v2 : Ref sig .tc := ⟨.hbm, 287, rfl⟩
abbrev main_v200 : Ref sig .tc := ⟨.hbm, 288, rfl⟩
abbrev main_cst_47 : Ref sig .tc := ⟨.hbm, 289, rfl⟩
abbrev main_v201 : Ref sig .tc := ⟨.hbm, 290, rfl⟩
abbrev main_v202 : Ref sig .tc := ⟨.hbm, 291, rfl⟩
abbrev main_cst_48 : Ref sig .tc := ⟨.hbm, 292, rfl⟩
abbrev main_v203 : Ref sig .tc := ⟨.hbm, 293, rfl⟩
abbrev main_v204 : Ref sig .tc := ⟨.hbm, 294, rfl⟩
abbrev main_cst_49 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_cst_50 : Ref sig .tc := ⟨.hbm, 300, rfl⟩
abbrev main_v209 : Ref sig .tc := ⟨.hbm, 301, rfl⟩
abbrev main_v210 : Ref sig .tc := ⟨.hbm, 302, rfl⟩
abbrev main_cst_51 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_cst_52 : Ref sig .tc := ⟨.hbm, 310, rfl⟩
abbrev main_v217 : Ref sig .tc := ⟨.hbm, 311, rfl⟩
abbrev main_v218 : Ref sig .tc := ⟨.hbm, 312, rfl⟩
abbrev main_cst_53 : Ref sig .tc := ⟨.hbm, 313, rfl⟩
abbrev main_v219 : Ref sig .tc := ⟨.hbm, 314, rfl⟩
abbrev main_v220 : Ref sig .tc := ⟨.hbm, 315, rfl⟩
abbrev main_cst_54 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_cst_55 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_cst_56 : Ref sig .tc := ⟨.hbm, 326, rfl⟩
abbrev main_v229 : Ref sig .tc := ⟨.hbm, 327, rfl⟩
abbrev main_v230 : Ref sig .tc := ⟨.hbm, 328, rfl⟩
abbrev main_cst_57 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩

abbrev nD : Nat := 1
abbrev τ : Topo := Topo.v7x

variable {F : FTy → Type} [FloatOps F]
-- ==== Kernel12.lean ====
abbrev S8x352x1024 : Shape := ⟨3, ![8, 352, 1024]⟩
abbrev S352x1024 : Shape := ⟨2, ![352, 1024]⟩
abbrev S1 : Shape := ⟨1, ![1]⟩
abbrev S1x176x1024 : Shape := ⟨3, ![1, 176, 1024]⟩
abbrev S176x1024 : Shape := ⟨2, ![176, 1024]⟩

abbrev nBuf : Space → Nat
  | .hbm => 9
  | .vmem => 22
  | .smem => 1
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S1x176x1024, .bf16⟩
  | .local _ .vmem, ⟨5, _⟩ => ⟨S1x176x1024, .bf16⟩
  | .local _ .vmem, ⟨6, _⟩ => ⟨S1x176x1024, .bf16⟩
  | .local _ .vmem, ⟨7, _⟩ => ⟨S1x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference12Ideal.lean ====
abbrev S8x352x1024 : Shape := ⟨3, ![8, 352, 1024]⟩
abbrev S352x1024 : Shape := ⟨2, ![352, 1024]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S1, .i32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x352x1024, .i1⟩
  | .hbm, ⟨12, _⟩ => ⟨S8x352x1024, .bf16⟩
  | .hbm, ⟨13, _⟩ => ⟨S8x352x1024, .f32⟩
  | .hbm, ⟨14, _⟩ => ⟨S_, .i32⟩
  | .hbm, ⟨15, _⟩ => ⟨S8x1x1, .i32⟩
  | .hbm, ⟨16, _⟩ => ⟨S8x1x1, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x1x1, .i32⟩
  | .hbm, ⟨21, _⟩ => ⟨S8x1x1, .i1⟩
  | .hbm, ⟨22, _⟩ => ⟨S_, .f32⟩
  | .hbm, ⟨23, _⟩ => ⟨S_, .f32⟩
  | .hbm, ⟨24, _⟩ => ⟨S8x352x1024, .i1⟩
  | .hbm, ⟨25, _⟩ => ⟨S8x352x1024, .f32⟩
  | .hbm, ⟨26, _⟩ => ⟨S8x352x1024, .f32⟩
  | .hbm, ⟨27, _⟩ => ⟨S_, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S_, .f32⟩
  | .hbm, ⟨45, _⟩ => ⟨S352x1024, .f32⟩
  | .hbm, ⟨46, _⟩ => ⟨S352x1024, .f32⟩
  | .hbm, ⟨47, _⟩ => ⟨S_, .f32⟩
  | .hbm, ⟨48, _⟩ => ⟨S352x1024, .f32⟩
  | .hbm, ⟨49, _⟩ => ⟨S352x1024, .f32⟩
  | .hbm, ⟨50, _⟩ => ⟨S352x1024, .f32⟩
  | .hbm, ⟨51, _⟩ => ⟨S_, .f32⟩
  | .hbm, ⟨52, _⟩ => ⟨S352x1024, .f32⟩
  | .hbm, ⟨53, _⟩ => ⟨S352x1024, .f32⟩
  | .hbm, ⟨54, _⟩ => ⟨S352x1024, .f32⟩
  | .hbm, ⟨55, _⟩ => ⟨S_, .f32⟩
  | .hbm, ⟨56, _⟩ => ⟨S352x1024, .f32⟩
  | .hbm, ⟨57, _⟩ => ⟨S352x1024, .f32⟩
  | .hbm, ⟨58, _⟩ => ⟨S352x1024, .f32⟩
  | .hbm, ⟨59, _⟩ => ⟨S_, .f32⟩
  | .hbm, ⟨60, _⟩ => ⟨S352x1024, .f32⟩
  | .hbm, ⟨61, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Kernel13.lean ====
abbrev S8x704x1024 : Shape := ⟨3, ![8, 704, 1024]⟩
abbrev S704x1024 : Shape := ⟨2, ![704, 1024]⟩
abbrev S1 : Shape := ⟨1, ![1]⟩
abbrev S1x176x1024 : Shape := ⟨3, ![1, 176, 1024]⟩
abbrev S176x1024 : Shape := ⟨2, ![176, 1024]⟩

abbrev nBuf : Space → Nat
  | .hbm => 9
  | .vmem => 22
  | .smem => 1
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S1x176x1024, .bf16⟩
  | .local _ .vmem, ⟨5, _⟩ => ⟨S1x176x1024, .bf16⟩
  | .local _ .vmem, ⟨6, _⟩ => ⟨S1x176x1024, .bf16⟩
  | .local _ .vmem, ⟨7, _⟩ => ⟨S1x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference13Ideal.lean ====
abbrev S8x704x1024 : Shape := ⟨3, ![8, 704, 1024]⟩
abbrev S704x1024 : Shape := ⟨2, ![704, 1024]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S1, .i32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x704x1024, .i1⟩
  | .hbm, ⟨12, _⟩ => ⟨S8x704x1024, .bf16⟩
  | .hbm, ⟨13, _⟩ => ⟨S8x704x1024, .f32⟩
  | .hbm, ⟨14, _⟩ => ⟨S_, .i32⟩
  | .hbm, ⟨15, _⟩ => ⟨S8x1x1, .i32⟩
  | .hbm, ⟨16, _⟩ => ⟨S8x1x1, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x1x1, .i32⟩
  | .hbm, ⟨21, _⟩ => ⟨S8x1x1, .i1⟩
  | .hbm, ⟨22, _⟩ => ⟨S_, .f32⟩
  | .hbm, ⟨23, _⟩ => ⟨S_, .f32⟩
  | .hbm, ⟨24, _⟩ => ⟨S8x704x1024, .i1⟩
  | .hbm, ⟨25, _⟩ => ⟨S8x704x1024, .f32⟩
  | .hbm, ⟨26, _⟩ => ⟨S8x704x1024, .f32⟩
  | .hbm, ⟨27, _⟩ => ⟨S_, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S_, .f32⟩
  | .hbm, ⟨41, _⟩ => ⟨S704x1024, .f32⟩
  | .hbm, ⟨42, _⟩ => ⟨S704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | .hbm, ⟨47, _⟩ => ⟨S_, .f32⟩
  | .hbm, ⟨48, _⟩ => ⟨S704x1024, .f32⟩
  | .hbm, ⟨49, _⟩ => ⟨S704x1024, .f32⟩
  | .hbm, ⟨50, _⟩ => ⟨S704x1024, .f32⟩
  | .hbm, ⟨51, _⟩ => ⟨S_, .f32⟩
  | .hbm, ⟨52, _⟩ => ⟨S704x1024, .f32⟩
  | .hbm, ⟨53, _⟩ => ⟨S704x1024, .f32⟩
  | .hbm, ⟨54, _⟩ => ⟨S704x1024, .f32⟩
  | .hbm, ⟨55, _⟩ => ⟨S_, .f32⟩
  | .hbm, ⟨56, _⟩ => ⟨S704x1024, .f32⟩
  | .hbm, ⟨57, _⟩ => ⟨S704x1024, .f32⟩
  | .hbm, ⟨58, _⟩ => ⟨S704x1024, .f32⟩
  | .hbm, ⟨59, _⟩ => ⟨S_, .f32⟩
  | .hbm, ⟨60, _⟩ => ⟨S704x1024, .f32⟩
  | .hbm, ⟨61, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Kernel14.lean ====
abbrev S8x128x1024 : Shape := ⟨3, ![8, 128, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 9
  | .vmem => 11
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference14Ideal.lean ====
abbrev S8x128x1024 : Shape := ⟨3, ![8, 128, 1024]⟩
abbrev S128x1024 : Shape := ⟨2, ![128, 1024]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1, .i32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x128x1024, .i1⟩
  | .hbm, ⟨12, _⟩ => ⟨S8x128x1024, .bf16⟩
  | .hbm, ⟨13, _⟩ => ⟨S8x128x1024, .f32⟩
  | .hbm, ⟨14, _⟩ => ⟨S_, .i32⟩
  | .hbm, ⟨15, _⟩ => ⟨S8x1x1, .i32⟩
  | .hbm, ⟨16, _⟩ => ⟨S8x1x1, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x1x1, .i32⟩
  | .hbm, ⟨21, _⟩ => ⟨S8x1x1, .i1⟩
  | .hbm, ⟨22, _⟩ => ⟨S_, .f32⟩
  | .hbm, ⟨23, _⟩ => ⟨S_, .f32⟩
  | .hbm, ⟨24, _⟩ => ⟨S8x128x1024, .i1⟩
  | .hbm, ⟨25, _⟩ => ⟨S8x128x1024, .f32⟩
  | .hbm, ⟨26, _⟩ => ⟨S8x128x1024, .f32⟩
  | .hbm, ⟨27, _⟩ => ⟨S_, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S_, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S_, .f32⟩
  | .hbm, ⟨56, _⟩ => ⟨S128x1024, .f32⟩
  | .hbm, ⟨57, _⟩ => ⟨S128x1024, .f32⟩
  | .hbm, ⟨58, _⟩ => ⟨S128x1024, .f32⟩
  | .hbm, ⟨59, _⟩ => ⟨S_, .f32⟩
  | .hbm, ⟨60, _⟩ => ⟨S128x1024, .f32⟩
  | .hbm, ⟨61, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Kernel15.lean ====
abbrev S8x1024x256 : Shape := ⟨3, ![8, 1024, 256]⟩
abbrev S1024x256 : Shape := ⟨2, ![1024, 256]⟩
abbrev S1 : Shape := ⟨1, ![1]⟩
abbrev S1x256x256 : Shape := ⟨3, ![1, 256, 256]⟩
abbrev S256x256 : Shape := ⟨2, ![256, 256]⟩

abbrev nBuf : Space → Nat
  | .hbm => 9
  | .vmem => 22
  | .smem => 1
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .smem, ⟨0, _⟩ => ⟨S1, .i32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference15Ideal.lean ====
abbrev S8x1024x256 : Shape := ⟨3, ![8, 1024, 256]⟩
abbrev S1024x256 : Shape := ⟨2, ![1024, 256]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1, .i32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x1024x256, .i1⟩
  | .hbm, ⟨12, _⟩ => ⟨S8x1024x256, .bf16⟩
  | .hbm, ⟨13, _⟩ => ⟨S8x1024x256, .f32⟩
  | .hbm, ⟨14, _⟩ => ⟨S_, .i32⟩
  | .hbm, ⟨15, _⟩ => ⟨S8x1x1, .i32⟩
  | .hbm, ⟨16, _⟩ => ⟨S8x1x1, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x1x1, .i32⟩
  | .hbm, ⟨21, _⟩ => ⟨S8x1x1, .i1⟩
  | .hbm, ⟨22, _⟩ => ⟨S_, .f32⟩
  | .hbm, ⟨23, _⟩ => ⟨S_, .f32⟩
  | .hbm, ⟨24, _⟩ => ⟨S8x1024x256, .i1⟩
  | .hbm, ⟨25, _⟩ => ⟨S8x1024x256, .f32⟩
  | .hbm, ⟨26, _⟩ => ⟨S8x1024x256, .f32⟩
  | .hbm, ⟨27, _⟩ => ⟨S_, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S_, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S_, .f32⟩
  | .hbm, ⟨45, _⟩ => ⟨S1024x256, .f32⟩
  | .hbm, ⟨46, _⟩ => ⟨S1024x256, .f32⟩
  | .hbm, ⟨47, _⟩ => ⟨S_, .f32⟩
  | .hbm, ⟨48, _⟩ => ⟨S1024x256, .f32⟩
  | .hbm, ⟨49, _⟩ => ⟨S1024x256, .f32⟩
  | .hbm, ⟨50, _⟩ => ⟨S1024x256, .f32⟩
  | .hbm, ⟨51, _⟩ => ⟨S_, .f32⟩
  | .hbm, ⟨52, _⟩ => ⟨S1024x256, .f32⟩
  | .hbm, ⟨53, _⟩ => ⟨S1024x256, .f32⟩
  | .hbm, ⟨54, _⟩ => ⟨S1024x256, .f32⟩
  | .hbm, ⟨55, _⟩ => ⟨S_, .f32⟩
  | .hbm, ⟨56, _⟩ => ⟨S1024x256, .f32⟩
  | .hbm, ⟨57, _⟩ => ⟨S1024x256, .f32⟩
  | .hbm, ⟨58, _⟩ => ⟨S1024x256, .f32⟩
  | .hbm, ⟨59, _⟩ => ⟨S_, .f32⟩
  | .hbm, ⟨60, _⟩ => ⟨S1024x256, .f32⟩
  | .hbm, ⟨61, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Kernel16.lean ====
abbrev S8x128x1024 : Shape := ⟨3, ![8, 128, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 9
  | .vmem => 15
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference16Ideal.lean ====
abbrev S8x128x1024 : Shape := ⟨3, ![8, 128, 1024]⟩
abbrev S128x1024 : Shape := ⟨2, ![128, 1024]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1, .i32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x128x1024, .i1⟩
  | .hbm, ⟨12, _⟩ => ⟨S8x128x1024, .bf16⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel17.lean ====
abbrev S8x1024x256 : Shape := ⟨3, ![8, 1024, 256]⟩
abbrev S1024x256 : Shape := ⟨2, ![1024, 256]⟩
abbrev S1 : Shape := ⟨1, ![1]⟩
abbrev S1x256x256 : Shape := ⟨3, ![1, 256, 256]⟩
abbrev S256x256 : Shape := ⟨2, ![256, 256]⟩

abbrev nBuf : Space → Nat
  | .hbm => 9
  | .vmem => 30
  | .smem => 1
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .smem, ⟨0, _⟩ => ⟨S1, .i32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference17Ideal.lean ====
abbrev S8x1024x256 : Shape := ⟨3, ![8, 1024, 256]⟩
abbrev S1024x256 : Shape := ⟨2, ![1024, 256]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1, .i32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x1024x256, .i1⟩
  | .hbm, ⟨12, _⟩ => ⟨S8x1024x256, .bf16⟩
  | .hbm, ⟨13, _⟩ => ⟨S8x1024x256, .f32⟩
  | .hbm, ⟨14, _⟩ => ⟨S_, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel18.lean ====
abbrev S8x1024x128 : Shape := ⟨3, ![8, 1024, 128]⟩
abbrev S1024x128 : Shape := ⟨2, ![1024, 128]⟩
abbrev S1 : Shape := ⟨1, ![1]⟩
abbrev S1x1024x128 : Shape := ⟨3, ![1, 1024, 128]⟩
abbrev S8x512x128 : Shape := ⟨3, ![8, 512, 128]⟩
abbrev S1x512x128 : Shape := ⟨3, ![1, 512, 128]⟩
abbrev S512x128 : Shape := ⟨2, ![512, 128]⟩

abbrev nBuf : Space → Nat
  | .hbm => 4
  | .vmem => 6
  | .smem => 1
  | _ => 0

abbrev bufTy : (tb : Table) → Fin (tcTables nBuf tb) → BufTy
  | .hbm, ⟨0, _⟩ => ⟨S8x1024x128, .bf16⟩
  | .hbm, ⟨1, _⟩ => ⟨S1024x128, .bf16⟩
  | .hbm, ⟨2, _⟩ => ⟨S1x1024x128, .bf16⟩
  | .hbm, ⟨3, _⟩ => ⟨S1024x128, .f32⟩
  | .local _ .vmem, ⟨0, _⟩ => ⟨S8x512x128, .bf16⟩
  | .local _ .vmem, ⟨1, _⟩ => ⟨S8x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S512x128, .f32⟩
  | .local _ .vmem, ⟨5, _⟩ => ⟨S512x128, .f32⟩
  | .local _ .smem, ⟨0, _⟩ => ⟨S1, .i32⟩
  | _, _ => ⟨S8x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S8x1024x128 : Shape := ⟨3, ![8, 1024, 128]⟩
abbrev S1024x128 : Shape := ⟨2, ![1024, 128]⟩
abbrev S1 : Shape := ⟨1, ![1]⟩
abbrev S8 : Shape := ⟨1, ![8]⟩
abbrev S8x1x1 : Shape := ⟨3, ![8, 1, 1]⟩
abbrev S_ : Shape := ⟨0, ![]⟩
abbrev S1x1024x128 : Shape := ⟨3, ![1, 1024, 128]⟩

abbrev nBuf : Space → Nat
  | .hbm => 15
  | .vmem => 0
  | .smem => 0
  | _ => 0

abbrev bufTy : (tb : Table) → Fin (tcTables nBuf tb) → BufTy
  | .hbm, ⟨0, _⟩ => ⟨S8x1024x128, .bf16⟩
  | .hbm, ⟨1, _⟩ => ⟨S1024x128, .bf16⟩
  | .hbm, ⟨2, _⟩ => ⟨S1, .i32⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S8x1x1, .i32⟩
  | .hbm, ⟨7, _⟩ => ⟨S8x1x1, .i1⟩
  | .hbm, ⟨8, _⟩ => ⟨S1x1024x128, .bf16⟩
  | .hbm, ⟨9, _⟩ => ⟨S8x1024x128, .i1⟩
  | .hbm, ⟨10, _⟩ => ⟨S8x1024x128, .bf16⟩
  | .hbm, ⟨11, _⟩ => ⟨S8x1024x128, .bf16⟩
  | .hbm, ⟨12, _⟩ => ⟨S8x1024x128, .f32⟩
  | .hbm, ⟨13, _⟩ => ⟨S_, .f32⟩
  | .hbm, ⟨14, _⟩ => ⟨S1024x128, .f32⟩
  | _, _ => ⟨S8x1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel19.lean ====
abbrev S8x128x128 : Shape := ⟨3, ![8, 128, 128]⟩
abbrev S128x128 : Shape := ⟨2, ![128, 128]⟩
abbrev S1 : Shape := ⟨1, ![1]⟩
abbrev S1x128x128 : Shape := ⟨3, ![1, 128, 128]⟩

abbrev nBuf : Space → Nat
  | .hbm => 4
  | .vmem => 3
  | .smem => 1
  | _ => 0

abbrev bufTy : (tb : Table) → Fin (tcTables nBuf tb) → BufTy
  | .hbm, ⟨0, _⟩ => ⟨S8x128x128, .f32⟩
  | .hbm, ⟨1, _⟩ => ⟨S128x128, .f32⟩
  | .hbm, ⟨2, _⟩ => ⟨S1x128x128, .f32⟩
  | .hbm, ⟨3, _⟩ => ⟨S128x128, .f32⟩
  | .local _ .vmem, ⟨0, _⟩ => ⟨S8x128x128, .f32⟩
  | .local _ .vmem, ⟨1, _⟩ => ⟨S1x128x128, .f32⟩
  | .local _ .vmem, ⟨2, _⟩ => ⟨S128x128, .f32⟩
  | .local _ .smem, ⟨0, _⟩ => ⟨S1, .i32⟩
  | _, _ => ⟨S8x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference19Ideal.lean ====
abbrev S8x128x128 : Shape := ⟨3, ![8, 128, 128]⟩
abbrev S128x128 : Shape := ⟨2, ![128, 128]⟩
abbrev S1 : Shape := ⟨1, ![1]⟩
abbrev S8 : Shape := ⟨1, ![8]⟩
abbrev S8x1x1 : Shape := ⟨3, ![8, 1, 1]⟩
abbrev S_ : Shape := ⟨0, ![]⟩
abbrev S1x128x128 : Shape := ⟨3, ![1, 128, 128]⟩

abbrev nBuf : Space → Nat
  | .hbm => 14
  | .vmem => 0
  | .smem => 0
  | _ => 0

abbrev bufTy : (tb : Table) → Fin (tcTables nBuf tb) → BufTy
  | .hbm, ⟨0, _⟩ => ⟨S8x128x128, .f32⟩
  | .hbm, ⟨1, _⟩ => ⟨S128x128, .f32⟩
  | .hbm, ⟨2, _⟩ => ⟨S1, .i32⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S8x1x1, .i32⟩
  | .hbm, ⟨7, _⟩ => ⟨S8x1x1, .i1⟩
  | .hbm, ⟨8, _⟩ => ⟨S1x128x128, .f32⟩
  | .hbm, ⟨9, _⟩ => ⟨S8x128x128, .i1⟩
  | .hbm, ⟨10, _⟩ => ⟨S8x128x128, .f32⟩
  | .hbm, ⟨11, _⟩ => ⟨S8x128x128, .f32⟩
  | .hbm, ⟨12, _⟩ => ⟨S_, .f32⟩
  | .hbm, ⟨13, _⟩ => ⟨S128x128, .f32⟩
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel20.lean ====
abbrev S8x256x128 : Shape := ⟨3, ![8, 256, 128]⟩
abbrev S256x128 : Shape := ⟨2, ![256, 128]⟩
abbrev S1 : Shape := ⟨1, ![1]⟩
abbrev S1x256x128 : Shape := ⟨3, ![1, 256, 128]⟩

abbrev nBuf : Space → Nat
  | .hbm => 4
  | .vmem => 3
  | .smem => 1
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S1x256x128, .f32⟩
  | .hbm, ⟨3, _⟩ => ⟨S256x128, .f32⟩
  | .local _ .vmem, ⟨0, _⟩ => ⟨S8x256x128, .f32⟩
  | .local _ .vmem, ⟨1, _⟩ => ⟨S1x256x128, .f32⟩
  | .local _ .vmem, ⟨2, _⟩ => ⟨S256x128, .f32⟩
  | .local _ .smem, ⟨0, _⟩ => ⟨S1, .i32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference20Ideal.lean ====
abbrev S8x256x128 : Shape := ⟨3, ![8, 256, 128]⟩
abbrev S256x128 : Shape := ⟨2, ![256, 128]⟩
abbrev S1 : Shape := ⟨1, ![1]⟩
abbrev S8 : Shape := ⟨1, ![8]⟩
abbrev S8x1x1 : Shape := ⟨3, ![8, 1, 1]⟩
abbrev S_ : Shape := ⟨0, ![]⟩
abbrev S1x256x128 : Shape := ⟨3, ![1, 256, 128]⟩

abbrev nBuf : Space → Nat
  | .hbm => 14
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S1, .i32⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S8x1x1, .i32⟩
  | .hbm, ⟨7, _⟩ => ⟨S8x1x1, .i1⟩
  | .hbm, ⟨8, _⟩ => ⟨S1x256x128, .f32⟩
  | .hbm, ⟨9, _⟩ => ⟨S8x256x128, .i1⟩
  | .hbm, ⟨10, _⟩ => ⟨S8x256x128, .f32⟩
  | .hbm, ⟨11, _⟩ => ⟨S8x256x128, .f32⟩
  | .hbm, ⟨12, _⟩ => ⟨S_, .f32⟩
  | .hbm, ⟨13, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Algebra.lean ====
/- The extended-real algebra of the two gradients: the derivative of the soft maximum and the derivative of the
   root-mean-square norm, each in the form the kernel computes it and in the form differentiation gives.
   Nothing here speaks of a program. -/
module

public import Idealize.ShloMosaic.PureOps.Ideal
public import Idealize.ShloMosaic.PureOps.Ideal.Laws
public import Mathlib.Data.EReal.Inv

@[expose] public section

noncomputable section

namespace Cert.Algebra

open Idealize.ShloMosaic

/-- An extended real that is a real number. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.add {x y : EReal} (hx : Real' x) (hy : Real' y) : Real' (x + y) := by
  obtain ⟨a, rfl⟩ := hx; obtain ⟨b, rfl⟩ := hy; exact ⟨a + b, (EReal.coe_add a b).symm⟩

theorem Real'.sum {ι : Type} (s : Finset ι) (f : ι → EReal) (h : ∀ i, Real' (f i)) : Real' (∑ i ∈ s, f i) := by
  classical
  induction s using Finset.induction_on with
  | empty => exact ⟨0, by simp⟩
  | insert a s ha ih => rw [Finset.sum_insert ha]; exact (h a).add ih

/-- A nonnegative real factor goes into a sum of any extended reals. -/
theorem mul_add_real {c : ℝ} (hc : 0 ≤ c) (x y : EReal) : (c : EReal) * (x + y) = c * x + c * y :=
  EReal.left_distrib_of_nonneg_of_ne_top (by exact_mod_cast hc) (EReal.coe_ne_top c) x y

theorem mul_sum_real {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, mul_add_real hc, ih]

/-! ## The soft maximum of one row of 256 scores -/

/-- The greatest score of the row. -/
def top (sc : Fin 256 → EReal) : EReal := (Finset.univ : Finset (Fin 256)).fold max ⊥ sc
/-- The shifted exponentials of the row, and their sum. -/
def expo (sc : Fin 256 → EReal) (m : Fin 256) : EReal := Ideal.exp (sc m - top sc)
def total (sc : Fin 256 → EReal) : EReal := ∑ m, expo sc m
/-- The soft maximum: the row's probabilities. -/
def prob (sc : Fin 256 → EReal) (m : Fin 256) : EReal := Ideal.div (expo sc m) (total sc)
/-- The scores' gradient as the kernel computes it, from the probabilities and their gradient `dp`. -/
def dscore (sc dp : Fin 256 → EReal) (m : Fin 256) : EReal :=
  prob sc m * (dp m - ∑ k, prob sc k * dp k) * ((1 / 16 : ℝ) : EReal)

theorem top_real (sc : Fin 256 → EReal) (h : ∀ m, Real' (sc m)) : Real' (top sc) := by
  have hlt : top sc < ⊤ := by
    unfold top
    rw [Finset.fold_max_lt]
    exact ⟨bot_lt_top, fun m _ => by obtain ⟨r, hr⟩ := h m; rw [hr]; exact EReal.coe_lt_top r⟩
  have hgt : ⊥ < top sc := by
    unfold top
    rw [Finset.lt_fold_max]
    exact Or.inr ⟨0, Finset.mem_univ _, by obtain ⟨r, hr⟩ := h 0; rw [hr]; exact EReal.bot_lt_coe r⟩
  exact ⟨(top sc).toReal, (EReal.coe_toReal hlt.ne hgt.ne').symm⟩

theorem expo_real (sc : Fin 256 → EReal) (h : ∀ m, Real' (sc m)) (m : Fin 256) :
    ∃ r : ℝ, 0 < r ∧ expo sc m = (r : EReal) := by
  obtain ⟨M, hM⟩ := top_real sc h
  obtain ⟨s, hs⟩ := h m
  exact ⟨Real.exp (s - M), Real.exp_pos _, by rw [expo, hM, hs, ← EReal.coe_sub, Ideal.exp_coe]⟩

/-- The sum of the row's exponentials is a positive real number. -/
theorem total_real (sc : Fin 256 → EReal) (h : ∀ m, Real' (sc m)) : ∃ r : ℝ, 0 < r ∧ total sc = (r : EReal) := by
  choose e he hee using expo_real sc h
  refine ⟨∑ m, e m, Finset.sum_pos (fun m _ => he m) ⟨0, Finset.mem_univ _⟩, ?_⟩
  rw [total, Finset.sum_congr rfl fun m _ => hee m]
  exact (map_sum (⟨⟨Real.toEReal, rfl⟩, EReal.coe_add⟩ : ℝ →+ EReal) e Finset.univ).symm

/-- The scores' gradient as differentiation gives it (the quotient rule applied to `e / Σ e`) is the kernel's. -/
theorem dscore_eq (sc dp : Fin 256 → EReal) (h : ∀ m, Real' (sc m)) (m : Fin 256) :
    (Ideal.div (dp m) (total sc) + -(∑ k, dp k * Ideal.div 1 (total sc * total sc) * expo sc k)) * expo sc m
      * ((1 / 16 : ℝ) : EReal) = dscore sc dp m := by
  choose e he hee using expo_real sc h
  obtain ⟨l, hl, hll⟩ := total_real sc h
  have hl2 : l * l ≠ 0 := (mul_pos hl hl).ne'
  have hp : ∀ k, prob sc k = ((e k * (1 / l) : ℝ) : EReal) := fun k => by
    rw [prob, hll, hee, Ideal.div_coe hl.ne', EReal.coe_mul]
  have hil : 0 ≤ 1 / l := (one_div_pos.mpr hl).le
  have hsum : ∑ k, dp k * Ideal.div 1 (total sc * total sc) * expo sc k
      = ((1 / l : ℝ) : EReal) * ∑ k, prob sc k * dp k := by
    rw [mul_sum_real _ hil]
    refine Finset.sum_congr rfl fun k _ => ?_
    rw [hp, hll, hee, ← EReal.coe_mul, Ideal.div_coe hl2, one_mul, mul_comm (dp k), mul_assoc, mul_comm (dp k),
      ← mul_assoc, ← mul_assoc, ← EReal.coe_mul, ← EReal.coe_mul]
    congr 2
    field_simp
  rw [hsum, dscore]
  generalize (∑ k, prob sc k * dp k) = T
  rw [hp, hll, hee, Ideal.div_coe hl.ne', mul_comm (dp m), sub_eq_add_neg, ← mul_neg, ← mul_add_real hil, EReal.coe_mul]
  congr 1
  rw [mul_comm, mul_assoc]

/-! ## The root-mean-square norm of one row of 1024 numbers -/

/-- The norm's small constant. -/
def eps : EReal := Ideal.ofBits .f32 0x358637BD#32
/-- The mean square of a row plus the small constant, and the reciprocal of its root. -/
def meansq (x : Fin 1024 → EReal) : EReal := Ideal.div (∑ k, x k * x k) ((1024 : ℝ) : EReal) + eps
def rinv (x : Fin 1024 → EReal) : EReal := Ideal.rsqrt (meansq x)

theorem eps_pos : ∃ r : ℝ, 0 < r ∧ eps = (r : EReal) := by
  unfold eps
  refine ⟨_, ?_, by simp [Ideal.ofBits, Ideal.ieee]; rfl⟩
  positivity

theorem mul_self_nonneg' (x : EReal) : 0 ≤ x * x := by
  induction x with
  | bot => simp
  | top => simp
  | coe r => exact_mod_cast mul_self_nonneg r

/-- The mean square plus the small constant is a positive real number or `⊤`; so the reciprocal root is a nonnegative real
    number, and its quotient by the mean square is its cube. -/
theorem rinv_real (x : Fin 1024 → EReal) :
    ∃ r : ℝ, 0 ≤ r ∧ rinv x = (r : EReal) ∧ Ideal.div (rinv x) (meansq x) = ((r * (r * r) : ℝ) : EReal) := by
  obtain ⟨ε, hε, hee⟩ := eps_pos
  have h0 : 0 ≤ ∑ k, x k * x k := Finset.sum_nonneg fun k _ => mul_self_nonneg' (x k)
  have hms : meansq x = (∑ k, x k * x k) * ((1 / 1024 : ℝ) : EReal) + (ε : EReal) := by
    rw [meansq, Ideal.div_coe (by norm_num), hee]
  rcases eq_or_ne (∑ k, x k * x k) ⊤ with ht | ht
  · have hm : meansq x = ⊤ := by
      rw [hms, ht, EReal.top_mul_of_pos (by exact_mod_cast (by norm_num : (0 : ℝ) < 1 / 1024)), EReal.top_add_coe]
    refine ⟨0, le_rfl, by rw [rinv, hm, Ideal.rsqrt_top, EReal.coe_zero], ?_⟩
    rw [rinv, hm, Ideal.rsqrt_top]
    simp [Ideal.div]
  · obtain ⟨S, hS⟩ : ∃ S : ℝ, ∑ k, x k * x k = (S : EReal) :=
      ⟨_, (EReal.coe_toReal ht (lt_of_lt_of_le EReal.bot_lt_zero h0).ne').symm⟩
    have hS0 : 0 ≤ S := by rw [hS] at h0; exact_mod_cast h0
    have hm : meansq x = ((S * (1 / 1024) + ε : ℝ) : EReal) := by
      rw [hms, hS, EReal.coe_add, EReal.coe_mul]
    have hv : 0 < S * (1 / 1024) + ε := by positivity
    generalize S * (1 / 1024) + ε = v at hm hv
    have hr : rinv x = (((Real.sqrt v)⁻¹ : ℝ) : EReal) := by
      rw [rinv, hm, Ideal.rsqrt_coe, if_neg hv.not_gt, if_neg hv.ne']
    refine ⟨(Real.sqrt v)⁻¹, by positivity, hr, ?_⟩
    rw [hr, hm, Ideal.div_coe hv.ne', ← EReal.coe_mul]
    congr 2
    rw [← mul_inv, Real.mul_self_sqrt hv.le, one_div]

/-- The norm's gradient in the row's entries as differentiation gives it is the kernel's. -/
theorem dnorm_eq (x g : Fin 1024 → EReal) (y : EReal) (j : Fin 1024) :
    y + g j * rinv x + x j * Ideal.div ((∑ k, x k * g k) * (((-(1 / 2) : ℝ) : EReal) * Ideal.div (rinv x) (meansq x))) ((1024 : ℝ) : EReal)
        + Ideal.div ((∑ k, x k * g k) * (((-(1 / 2) : ℝ) : EReal) * Ideal.div (rinv x) (meansq x))) ((1024 : ℝ) : EReal) * x j
      = y + rinv x * (g j - x j * rinv x * Ideal.div (∑ k, g k * (x k * rinv x)) ((1024 : ℝ) : EReal)) := by
  obtain ⟨r, hr, hrx, hdiv⟩ := rinv_real x
  rw [hdiv, hrx, Ideal.div_coe (by norm_num), Ideal.div_coe (by norm_num)]
  have hs : ∑ k, g k * (x k * (r : EReal)) = (r : EReal) * ∑ k, x k * g k := by
    rw [mul_sum_real _ hr]
    exact Finset.sum_congr rfl fun k _ => by rw [mul_comm (x k), mul_left_comm, mul_comm (g k)]
  rw [hs]
  generalize (∑ k, x k * g k) = S
  have hc : 0 ≤ r * (r * r) * (1 / 2) * (1 / 1024) := by positivity
  have hA : S * (((-(1 / 2) : ℝ) : EReal) * ((r * (r * r) : ℝ) : EReal)) * ((1 / 1024 : ℝ) : EReal)
      = -(((r * (r * r) * (1 / 2) * (1 / 1024) : ℝ) : EReal) * S) := by
    rw [mul_assoc, ← EReal.coe_mul, ← EReal.coe_mul, mul_comm, ← EReal.neg_mul, ← EReal.coe_neg]
    congr 2
    ring
  have hB : (r : EReal) * (x j * r * ((r : EReal) * S * ((1 / 1024 : ℝ) : EReal)))
      = ((r * (r * r) * (1 / 2) * (1 / 1024) : ℝ) : EReal) * (x j * S) + ((r * (r * r) * (1 / 2) * (1 / 1024) : ℝ) : EReal) * (x j * S) := by
    rw [← EReal.right_distrib_of_nonneg (by exact_mod_cast hc) (by exact_mod_cast hc), ← EReal.coe_add]
    have : r * (r * r) * (1 / 2) * (1 / 1024) + r * (r * r) * (1 / 2) * (1 / 1024) = r * (r * (r * (1 / 1024))) := by ring
    rw [this, EReal.coe_mul, EReal.coe_mul, EReal.coe_mul]
    ac_rfl
  rw [hA, sub_eq_add_neg, mul_add_real hr, mul_neg (r : EReal), hB]
  generalize ((r * (r * r) * (1 / 2) * (1 / 1024) : ℝ) : EReal) = c
  have h1 : x j * -(c * S) = -(c * (x j * S)) := by rw [mul_neg, mul_left_comm]
  have h2 : -(c * S) * x j = -(c * (x j * S)) := by rw [mul_comm, h1]
  rw [h1, h2, add_assoc, add_assoc, mul_comm (g j)]
  congr 2
  generalize c * (x j * S) = z
  induction z with
  | bot => simp
  | top => simp
  | coe a => rw [← EReal.coe_add, ← EReal.coe_neg, ← EReal.coe_neg, ← EReal.coe_add]; congr 1; ring

end Cert.Algebra

end
-- ==== Proof.Heads.lean ====
/- What one block of 512 rows computes for one attention head: the rows' probabilities and the gradient of their
   scores, read at an index. The four heads are the same mathematics in the kernel's text, which differs only in how
   its values are named. -/
module

public import proofs.«01_k».proof.Proof.Gen.KernelIdeal.Skeleton
public import proofs.«01_k».proof.Proof.Algebra
public import Idealize.ShloMosaic.Lib.Pointwise

@[expose] public section

set_option maxRecDepth 16384

noncomputable section

namespace Cert.Heads

open Idealize.ShloMosaic Cert.KernelIdeal Cert.KernelIdeal.Gen Cert.Algebra

/-! ## The constants -/

theorem ofBits_sixteenth : Ideal.ofBits .f32 0x3D800000#32 = ((1 / 16 : ℝ) : EReal) := by
  simp [Ideal.ofBits, Ideal.ieee]
  rw [← EReal.coe_mul]; norm_num

theorem ofBits_1024 : Ideal.ofBits .f32 0x44800000#32 = ((1024 : ℝ) : EReal) := by
  simp [Ideal.ofBits, Ideal.ieee]
  rw [← EReal.coe_mul]; norm_num

theorem ofBits_bot : Ideal.ofBits .f32 0xFF800000#32 = (⊥ : EReal) := by
  simp [Ideal.ofBits, Ideal.ieee]

/-! ## One head of one block -/

/-- The scores of row `i`: the scaled products of the row's query with the keys. -/
def scores (q : FVec Ideal S512x256 .bf16) (k : FVec Ideal S256x256 .f32) (i : Fin 512) (m : Fin 256) : EReal :=
  (∑ d : Fin 256, q (ix2 i d) * k (ix2 m d)) * ((1 / 16 : ℝ) : EReal)

/-- The gradient of row `i`'s probabilities: the products of the output's gradient with the values. -/
def dprobs (g : FVec Ideal S512x256 .f32) (v : FVec Ideal S256x256 .f32) (i : Fin 512) (m : Fin 256) : EReal :=
  ∑ d : Fin 256, g (ix2 i d) * v (ix2 m d)

/-- The gradient of row `i`'s scores. -/
def dscores (q g : FVec Ideal S512x256 .f32) (k v : FVec Ideal S256x256 .f32) (i : Fin 512) : Fin 256 → EReal :=
  dscore (scores q k i) (dprobs g v i)

variable (q : FVec Ideal S512x256 .bf16) (k v : FVec Ideal S256x256 .f32) (D : FVec Ideal S512x1024 .f32) (i : Fin 512)

/-! ### The probabilities -/

theorem prob0 (m : Fin 256) : k0_pay16 (F := Ideal) (k0_pay14 q k) (k0_pay15 q k) (ix2 i m) = prob (scores q k i) m := by
  pointwise [k0_pay16, k0_pay15, k0_pay14, k0_pay12, k0_pay11, prob, total, expo, top, scores, ofBits_sixteenth, ofBits_bot]

theorem prob1 (m : Fin 256) : k0_pay24 (F := Ideal) (k0_pay22 q) k (ix2 i m) = prob (scores q k i) m := by
  pointwise [k0_pay24, k0_pay23, k0_pay22, prob, total, expo, top, scores, ofBits_sixteenth, ofBits_bot]

theorem prob2 (m : Fin 256) : k0_pay34 (F := Ideal) q k (ix2 i m) = prob (scores q k i) m := by
  pointwise [k0_pay34, k0_pay33, k0_pay32, prob, total, expo, top, scores, ofBits_sixteenth, ofBits_bot]

theorem prob3 (m : Fin 256) : k0_pay43 (F := Ideal) q k (ix2 i m) = prob (scores q k i) m := by
  pointwise [k0_pay43, k0_pay42, k0_pay41, prob, total, expo, top, scores, ofBits_sixteenth, ofBits_bot]

/-! ### The scores' gradient, from the head's 256 columns of the whole row's gradient -/

/-- Columns `256 h …` of the gradient of the attention's output. -/
def cols (D : FVec Ideal S512x1024 .f32) (h : Fin 4) : FVec Ideal S512x256 .f32 :=
  fun y => D (ix2 (y 0) ⟨256 * h.val + (y 1).val, by have := (y 1).isLt; have := h.isLt; change _ < 256 at *; omega⟩)

theorem ds0 (m : Fin 256) :
    k0_pay18 (F := Ideal) D (k0_pay13 v) (k0_pay14 q k) (k0_pay15 q k) (ix2 i m) = dscores q (cols D 0) k v i m := by
  pointwise [k0_pay18, k0_pay17, k0_pay13, prob0 q k, dscores, dscore, dprobs, cols, ofBits_sixteenth]

theorem ds1 (m : Fin 256) : k0_pay27 (F := Ideal) D (k0_pay22 q) k v (ix2 i m) = dscores q (cols D 1) k v i m := by
  pointwise [k0_pay27, k0_pay26, prob1 q k, dscores, dscore, dprobs, cols, ofBits_sixteenth]

theorem ds2 (m : Fin 256) : k0_pay37 (F := Ideal) D q k v (ix2 i m) = dscores q (cols D 2) k v i m := by
  pointwise [k0_pay37, k0_pay36, prob2 q k, dscores, dscore, dprobs, cols, ofBits_sixteenth]

theorem ds3 (m : Fin 256) :
    k0_pay47 (F := Ideal) (k0_pay43 q k) (k0_pay46 D q k v) (ix2 i m) = dscores q (cols D 3) k v i m := by
  pointwise [k0_pay47, k0_pay46, k0_pay45, prob3 q k, dscores, dscore, dprobs, cols, ofBits_sixteenth]

/-! ### The gradients of the queries, the keys and the values -/

def dquery (q g : FVec Ideal S512x256 .f32) (k v : FVec Ideal S256x256 .f32) (i : Fin 512) (d : Fin 256) : EReal :=
  ∑ m : Fin 256, dscores q g k v i m * k (ix2 m d)
def dkey (q g : FVec Ideal S512x256 .f32) (k v : FVec Ideal S256x256 .f32) (m d : Fin 256) : EReal :=
  ∑ i : Fin 512, dscores q g k v i m * q (ix2 i d)
def dval (q g : FVec Ideal S512x256 .f32) (k : FVec Ideal S256x256 .f32) (m d : Fin 256) : EReal :=
  ∑ i : Fin 512, prob (scores q k i) m * g (ix2 i d)

theorem dq0 (d : Fin 256) :
    k0_pay19 (F := Ideal) D (k0_pay12 k) (k0_pay13 v) (k0_pay14 q k) (k0_pay15 q k) (ix2 i d) = dquery q (cols D 0) k v i d := by
  pointwise [k0_pay19, k0_pay12, ds0 q k v D, dquery]

theorem dq1 (d : Fin 256) : k0_pay28 (F := Ideal) D (k0_pay22 q) k v (ix2 i d) = dquery q (cols D 1) k v i d := by
  pointwise [k0_pay28, k0_pay23, ds1 q k v D, dquery]

theorem dq2 (d : Fin 256) : k0_pay38 (F := Ideal) D q k v (ix2 i d) = dquery q (cols D 2) k v i d := by
  pointwise [k0_pay38, k0_pay33, ds2 q k v D, dquery]

theorem dq3 (d : Fin 256) :
    k0_pay48 (F := Ideal) (k0_pay42 k) (k0_pay43 q k) (k0_pay46 D q k v) (ix2 i d) = dquery q (cols D 3) k v i d := by
  pointwise [k0_pay48, k0_pay42, ds3 q k v D, dquery]

variable (A : FVec Ideal S256x256 .f32) (m d : Fin 256)

theorem dk0 : k0_pay20 (F := Ideal) D (k0_pay11 q) (k0_pay13 v) (k0_pay14 q k) (k0_pay15 q k) A (ix2 m d)
    = A (ix2 m d) + dkey q (cols D 0) k v m d := by
  pointwise [k0_pay20, k0_pay11, ds0 q k v D, dkey]

theorem dk1 : k0_pay29 (F := Ideal) D (k0_pay22 q) k v A (ix2 m d) = A (ix2 m d) + dkey q (cols D 1) k v m d := by
  have hq : ∀ i : Fin 512, k0_pay22 (F := Ideal) q (ix2 i d) = q (ix2 i d) := fun i => by pointwise [k0_pay22]
  pointwise [k0_pay29, hq, ds1 q k v D, dkey]

theorem dk2 : k0_pay39 (F := Ideal) (k0_pay32 q) (k0_pay37 D q k v) A (ix2 m d)
    = A (ix2 m d) + dkey q (cols D 2) k v m d := by
  pointwise [k0_pay39, k0_pay32, ds2 q k v D, dkey]

theorem dk3 : k0_pay49 (F := Ideal) (k0_pay41 q) (k0_pay43 q k) (k0_pay46 D q k v) A (ix2 m d)
    = A (ix2 m d) + dkey q (cols D 3) k v m d := by
  pointwise [k0_pay49, k0_pay41, ds3 q k v D, dkey]

theorem dv0 : k0_pay21 (F := Ideal) D (k0_pay14 q k) (k0_pay15 q k) A (ix2 m d) = A (ix2 m d) + dval q (cols D 0) k m d := by
  pointwise [k0_pay21, k0_pay17, prob0 q k, dval, cols]

theorem dv1 : k0_pay31 (F := Ideal) (k0_pay25 (k0_pay22 q) k) (k0_pay26 D) (k0_pay30 A) (ix2 m d)
    = A (ix2 m d) + dval q (cols D 1) k m d := by
  pointwise [k0_pay31, k0_pay30, k0_pay25, k0_pay26, prob1 q k, dval, cols]

theorem dv2 : k0_pay40 (F := Ideal) (k0_pay35 q k) (k0_pay36 D) A (ix2 m d) = A (ix2 m d) + dval q (cols D 2) k m d := by
  pointwise [k0_pay40, k0_pay35, k0_pay36, prob2 q k, dval, cols]

theorem dv3 : k0_pay50 (F := Ideal) (k0_pay44 q k) (k0_pay45 D) A (ix2 m d) = A (ix2 m d) + dval q (cols D 3) k m d := by
  pointwise [k0_pay50, k0_pay44, k0_pay45, prob3 q k, dval, cols]

end Cert.Heads

end
-- ==== Proof.Spec.lean ====
/- The gradient of the cross attention's block of the network, row by row, as both programs compute it: four heads of
   256 columns, 256 keys and values in one array of 2048 columns (keys first), a root-mean-square norm before the
   query's product. A row is a function of its 1024 columns; a matrix is an array at its index. -/
module

public import proofs.«01_k».proof.Proof.Algebra
public import Idealize.ShloMosaic.Lib.Pointwise

@[expose] public section

noncomputable section

namespace Cert.Spec

open Idealize.ShloMosaic Cert.Algebra

/-- The arrays the two programs share: a matrix of weights, the keys with the values, and the activations. -/
abbrev Mat := (⟨2, ![1024, 1024]⟩ : Shape).Idx → EReal
abbrev Keys := (⟨2, ![256, 2048]⟩ : Shape).Idx → EReal
abbrev Row := Fin 1024 → EReal

/-- The columns of head `h` in a row, in the keys and in the values. -/
def hcol (h : Fin 4) (d : Fin 256) : Fin 1024 := ⟨256 * h.val + d.val, by omega⟩
def kcol (h : Fin 4) (d : Fin 256) : Fin 2048 := ⟨256 * h.val + d.val, by omega⟩
def vcol (h : Fin 4) (d : Fin 256) : Fin 2048 := ⟨1024 + 256 * h.val + d.val, by omega⟩
/-- The head of a column, and the column of the keys and of the values that goes with it. -/
def head (j : Fin 1024) : Fin 4 := ⟨j.val / 256, by omega⟩
def kof (j : Fin 1024) : Fin 2048 := ⟨j.val, by omega⟩

theorem head_hcol (h : Fin 4) (d : Fin 256) : head (hcol h d) = h := Fin.ext (by simp only [head, hcol]; omega)
theorem kof_hcol (h : Fin 4) (d : Fin 256) : kof (hcol h d) = kcol h d := rfl
/-- Every column is a head's. -/
theorem eq_hcol (j : Fin 1024) : j = hcol (head j) ⟨j.val % 256, by omega⟩ := Fin.ext (by simp only [head, hcol]; omega)

variable (q g : Row) (K : Keys)

/-- The scores of a row with query `q` in head `h`. -/
def scores (h : Fin 4) (m : Fin 256) : EReal :=
  (∑ d : Fin 256, q (hcol h d) * K (ix2 m (kcol h d))) * ((1 / 16 : ℝ) : EReal)
/-- The gradient of its probabilities, `g` the gradient of the attention's output. -/
def dprobs (h : Fin 4) (m : Fin 256) : EReal := ∑ d : Fin 256, g (hcol h d) * K (ix2 m (vcol h d))
/-- The gradient of its scores. -/
def dscores (h : Fin 4) : Fin 256 → EReal := dscore (scores q K h) (dprobs g K h)
/-- The gradient of the query. -/
def dquery (j : Fin 1024) : EReal := ∑ m : Fin 256, dscores q g K (head j) m * K (ix2 m (kof j))
/-- What the row adds to the gradient of the keys (the first 1024 columns) and of the values (the others). -/
def dkeys (m : Fin 256) (c : Fin 2048) : EReal :=
  if h : c.val < 1024 then dscores q g K (head ⟨c.val, h⟩) m * q ⟨c.val, h⟩
  else prob (scores q K (head ⟨c.val - 1024, by omega⟩)) m * g ⟨c.val - 1024, by omega⟩

theorem dkeys_k (m : Fin 256) (h : Fin 4) (d : Fin 256) : dkeys q g K m (kcol h d) = dscores q g K h m * q (hcol h d) := by
  have hlt : (kcol h d).val < 1024 := by simp only [kcol]; omega
  rw [dkeys, dif_pos hlt, show (⟨(kcol h d).val, hlt⟩ : Fin 1024) = hcol h d from rfl, head_hcol]

theorem dkeys_v (m : Fin 256) (h : Fin 4) (d : Fin 256) :
    dkeys q g K m (vcol h d) = prob (scores q K h) m * g (hcol h d) := by
  have hge : ¬ (vcol h d).val < 1024 := by simp only [vcol]; omega
  have hc : (⟨(vcol h d).val - 1024, by omega⟩ : Fin 1024) = hcol h d := Fin.ext (by simp only [vcol, hcol]; omega)
  rw [dkeys, dif_neg hge, hc, head_hcol]

/-- A row times the transpose of a matrix of weights. -/
def timesT (x : Row) (W : Mat) (j : Fin 1024) : EReal := ∑ k : Fin 1024, x k * W (ix2 j k)
/-- A row times a matrix of weights. -/
def times (x : Row) (W : Mat) (j : Fin 1024) : EReal := ∑ k : Fin 1024, x k * W (ix2 k j)

/-- The normed row, before and after its weights. -/
def normed (x : Row) (j : Fin 1024) : EReal := x j * rinv x
def weighted (x w : Row) (j : Fin 1024) : EReal := normed x j * w j

/-- The gradient of the norm's input, added to the gradient `y` that passes the block by: `e` is the gradient of the
    weighted row. -/
def dinput (x w y e : Row) (j : Fin 1024) : EReal :=
  y j + rinv x * (e j * w j - normed x j * Ideal.div (∑ k, e k * w k * normed x k) ((1024 : ℝ) : EReal))

end Cert.Spec

end
-- ==== Proof.Tiles.lean ====
/- What one grid point of the kernel leaves in its scratch of the queries' gradient, from its blocks of 512 rows. -/
module

public import proofs.«01_k».proof.Proof.Heads
public import proofs.«01_k».proof.Proof.Spec
public import proofs.«01_k».proof.Proof.Gen.KernelIdeal.Value
public import Idealize.ShloMosaic.Lib.Pipeline.ValueKit

@[expose] public section

set_option maxRecDepth 16384

noncomputable section

namespace Cert.Tiles

open Idealize.ShloMosaic Idealize.ShloMosaic.TcCoe Idealize.SL.Sem
open Cert.KernelIdeal Cert.KernelIdeal.Gen Cert.Algebra Cert.Spec

/-- Row `i` of a block of 512 rows. -/
def row (X : FVec Ideal S512x1024 .f32) (i : Fin 512) : Row := fun j => X (ix2 i j)

/-- A row's gradient of the attention's output, from the gradient `y` of the block's output. -/
theorem dout_apply (DY : FVec Ideal S512x1024 .f32) (WO : FVec Ideal S1024x1024 .bf16) (i : Fin 512) (j : Fin 1024) :
    k0_pay7 (F := Ideal) DY WO (ix2 i j) = timesT (row DY i) WO j := by
  pointwise [k0_pay7, k0_pay6, timesT, row]

/-! ## From a head's slices to the rows -/

section Slices

variable (Q D : FVec Ideal S512x1024 .f32) (K : Keys) (h : Fin 4) (q : FVec Ideal S512x256 .bf16) (k v : FVec Ideal S256x256 .f32)
  (hq : ∀ i d, q (ix2 i d) = Q (ix2 i (hcol h d))) (hk : ∀ m d, k (ix2 m d) = K (ix2 m (kcol h d)))
  (hv : ∀ m d, v (ix2 m d) = K (ix2 m (vcol h d)))
include hq hk

theorem scores_eq (i : Fin 512) : Heads.scores q k i = Spec.scores (row Q i) K h := by
  funext m; simp only [Heads.scores, Spec.scores, row, hq, hk]

theorem dval_eq (m d : Fin 256) :
    Heads.dval q (Heads.cols D h) k m d = ∑ i : Fin 512, dkeys (row Q i) (row D i) K m (vcol h d) := by
  refine Finset.sum_congr rfl fun i _ => ?_
  rw [dkeys_v, scores_eq Q K h q k hq hk]; rfl

include hv

theorem dscores_eq (i : Fin 512) : Heads.dscores q (Heads.cols D h) k v i = Spec.dscores (row Q i) (row D i) K h := by
  have hp : Heads.dprobs (Heads.cols D h) v i = Spec.dprobs (row D i) K h := by
    funext m; simp only [Heads.dprobs, Spec.dprobs, hv]; rfl
  rw [Heads.dscores, Spec.dscores, scores_eq Q K h q k hq hk, hp]

theorem dquery_eq (i : Fin 512) (d : Fin 256) :
    Heads.dquery q (Heads.cols D h) k v i d = Spec.dquery (row Q i) (row D i) K (hcol h d) := by
  rw [Heads.dquery, Spec.dquery, head_hcol, dscores_eq Q D K h q k v hq hk hv]
  exact Finset.sum_congr rfl fun m _ => by rw [hk, kof_hcol]

theorem dkey_eq (m d : Fin 256) :
    Heads.dkey q (Heads.cols D h) k v m d = ∑ i : Fin 512, dkeys (row Q i) (row D i) K m (kcol h d) := by
  refine Finset.sum_congr rfl fun i _ => ?_
  rw [dkeys_k, dscores_eq Q D K h q k v hq hk hv, hq]; rfl

end Slices

/-- A load of 256 columns, read at an index. -/
theorem ld_cols {n c : ℕ} {e : EltTy} (X : Vec Ideal ⟨2, ![n, c]⟩ e) (o : ℕ)
    (inb : ∀ a, (![0, o] : Fin 2 → ℕ) a + (![n, 256] : Fin 2 → ℕ) a ≤ (⟨2, ![n, c]⟩ : Shape).size a)
    (i : Fin n) (d : Fin 256) (j : Fin c) (hj : j.val = o + d.val) :
    View.ld (Val := Elt Ideal) X (Rect.unit (s := ⟨2, ![n, c]⟩) ![0, o] ![n, 256] inb) (ix2 i d) = X (ix2 i j) :=
  View.ld_unit_apply_of X _ _ _ _ _ fun a => by
    match a with
    | 0 => simp
    | 1 => simpa using hj

/-! ## The scratch of the queries' gradient -/

/-- Four stores of 256 columns each, read back whole. -/
theorem readCov_heads (G : FVec Ideal S512x1024 .f32) (P0 P1 P2 P3 : FVec Ideal S512x256 .f32)
    (p0 : ∀ i d, P0 (ix2 i d) = G (ix2 i (hcol 0 d))) (p1 : ∀ i d, P1 (ix2 i d) = G (ix2 i (hcol 1 d)))
    (p2 : ∀ i d, P2 (ix2 i d) = G (ix2 i (hcol 2 d))) (p3 : ∀ i d, P3 (ix2 i d) = G (ix2 i (hcol 3 d))) :
    (View.whole cc0_scratch0).readCov (Val := Elt Ideal)
      [⟨Rect.unit ![0, 768] ![512, 256] inb_S512x1024_S512x256_0_768, P3⟩,
       ⟨Rect.unit ![0, 512] ![512, 256] inb_S512x1024_S512x256_0_512, P2⟩,
       ⟨Rect.unit ![0, 256] ![512, 256] inb_S512x1024_S512x256_0_256, P1⟩,
       ⟨Rect.unit ![0, 0] ![512, 256] inb_S512x1024_S512x256_0_0, P0⟩]
      (Rect.unit ![0, 0] ![512, 1024] inb_S512x1024_S512x1024_0_0).toLoadRect = G := by
  rw [View.readCov_eq_canon']
  funext y
  have at_head : ∀ (h : Fin 4) (x : S512x256.Idx), (y 0 : Fin 512).val = (x 0 : Fin 512).val →
      (y 1 : Fin 1024).val = 256 * h.val + (x 1 : Fin 256).val → G (ix2 (x 0) (hcol h (x 1))) = G y := fun h x e0 e1 =>
    congrArg G (funext fun a => Fin.ext (by
      match a with
      | 0 => exact e0.symm
      | 1 => exact e1.symm))
  canon_tiles x h
  · rw [eq_ix2 x]; exact (p3 _ _).trans (at_head 3 x (by simpa using h0) (by simpa using h1))
  · rw [eq_ix2 x]; exact (p2 _ _).trans (at_head 2 x (by simpa using h0) (by simpa using h1))
  · rw [eq_ix2 x]; exact (p1 _ _).trans (at_head 1 x (by simpa using h0) (by simpa using h1))
  · rw [eq_ix2 x]; exact (p0 _ _).trans (at_head 0 x (by simpa using h0) (by simpa using h1))

/-- The queries' gradient of a block. -/
def dqs (Q : FVec Ideal S512x1024 .bf16) (D : FVec Ideal S512x1024 .f32) (K : FVec Ideal S256x2048 .f32) : FVec Ideal S512x1024 .f32 :=
  fun y => Spec.dquery (row Q (y 0)) (row D (y 0)) K (y 1)
/-- What a block adds to the gradient of the keys and the values. -/
def dkvs (Q : FVec Ideal S512x1024 .bf16) (D : FVec Ideal S512x1024 .f32) (K : FVec Ideal S256x2048 .f32) : FVec Ideal S256x2048 .f32 :=
  fun y => ∑ i : Fin 512, dkeys (row Q i) (row D i) K (y 0) (y 1)

/-- The loads of 256 columns of the queries, and of the keys and the values. -/
abbrev qld (Q : Vec Ideal S512x1024 .bf16) (o : ℕ)
    (inb : ∀ a, (![0, o] : Fin 2 → ℕ) a + (![512, 256] : Fin 2 → ℕ) a ≤ S512x1024.size a) : Vec Ideal S512x256 .bf16 :=
  View.ld (Val := Elt Ideal) Q (Rect.unit (s := S512x1024) ![0, o] ![512, 256] inb)
abbrev kld (K : Vec Ideal S256x2048 .f32) (o : ℕ)
    (inb : ∀ a, (![0, o] : Fin 2 → ℕ) a + (![256, 256] : Fin 2 → ℕ) a ≤ S256x2048.size a) : Vec Ideal S256x256 .f32 :=
  View.ld (Val := Elt Ideal) K (Rect.unit (s := S256x2048) ![0, o] ![256, 256] inb)

variable (Q : Vec Ideal S512x1024 .bf16) (D : Vec Ideal S512x1024 .f32) (K : Vec Ideal S256x2048 .f32)

/-- The scratch a point reads back is the gradient of its rows' queries. -/
theorem scratch0_eq :
    (View.whole cc0_scratch0).readCov (Val := Elt Ideal)
      [⟨Rect.unit ![0, 768] ![512, 256] inb_S512x1024_S512x256_0_768,
          k0_pay48 (k0_pay42 (kld K 768 inb_S256x2048_S256x256_0_768))
            (k0_pay43 (qld Q 768 inb_S512x1024_S512x256_0_768) (kld K 768 inb_S256x2048_S256x256_0_768))
            (k0_pay46 D (qld Q 768 inb_S512x1024_S512x256_0_768) (kld K 768 inb_S256x2048_S256x256_0_768)
              (kld K 1792 inb_S256x2048_S256x256_0_1792))⟩,
       ⟨Rect.unit ![0, 512] ![512, 256] inb_S512x1024_S512x256_0_512,
          k0_pay38 D (qld Q 512 inb_S512x1024_S512x256_0_512) (kld K 512 inb_S256x2048_S256x256_0_512)
            (kld K 1536 inb_S256x2048_S256x256_0_1536)⟩,
       ⟨Rect.unit ![0, 256] ![512, 256] inb_S512x1024_S512x256_0_256,
          k0_pay28 D (k0_pay22 (qld Q 256 inb_S512x1024_S512x256_0_256)) (kld K 256 inb_S256x2048_S256x256_0_256)
            (kld K 1280 inb_S256x2048_S256x256_0_1280)⟩,
       ⟨Rect.unit ![0, 0] ![512, 256] inb_S512x1024_S512x256_0_0,
          k0_pay19 D (k0_pay12 (kld K 0 inb_S256x2048_S256x256_0_0)) (k0_pay13 (kld K 1024 inb_S256x2048_S256x256_0_1024))
            (k0_pay14 (qld Q 0 inb_S512x1024_S512x256_0_0) (kld K 0 inb_S256x2048_S256x256_0_0))
            (k0_pay15 (qld Q 0 inb_S512x1024_S512x256_0_0) (kld K 0 inb_S256x2048_S256x256_0_0))⟩]
      (Rect.unit ![0, 0] ![512, 1024] inb_S512x1024_S512x1024_0_0).toLoadRect = dqs Q D K :=
  readCov_heads _ _ _ _ _
    (fun i d => (Heads.dq0 _ _ _ _ i d).trans (dquery_eq Q D K 0 _ _ _ (fun i d => ld_cols _ _ _ i d _ (by simp [hcol]))
      (fun i d => ld_cols _ _ _ i d _ (by simp [kcol])) (fun i d => ld_cols _ _ _ i d _ (by simp [vcol])) i d))
    (fun i d => (Heads.dq1 _ _ _ _ i d).trans (dquery_eq Q D K 1 _ _ _ (fun i d => ld_cols _ _ _ i d _ (by simp [hcol]))
      (fun i d => ld_cols _ _ _ i d _ (by simp [kcol])) (fun i d => ld_cols _ _ _ i d _ (by simp [vcol])) i d))
    (fun i d => (Heads.dq2 _ _ _ _ i d).trans (dquery_eq Q D K 2 _ _ _ (fun i d => ld_cols _ _ _ i d _ (by simp [hcol]))
      (fun i d => ld_cols _ _ _ i d _ (by simp [kcol])) (fun i d => ld_cols _ _ _ i d _ (by simp [vcol])) i d))
    (fun i d => (Heads.dq3 _ _ _ _ i d).trans (dquery_eq Q D K 3 _ _ _ (fun i d => ld_cols _ _ _ i d _ (by simp [hcol]))
      (fun i d => ld_cols _ _ _ i d _ (by simp [kcol])) (fun i d => ld_cols _ _ _ i d _ (by simp [vcol])) i d))

/-! ## The sums of the keys' and the values' gradient -/

/-- Earlier stores do not matter at an index which a later one covers. -/
theorem canon_append {s : Shape} {e : EltTy} (L' : List (View.Piece (Elt Ideal) s e)) :
    ∀ (L : List (View.Piece (Elt Ideal) s e)) (y : s.Idx), (∃ p ∈ L, y ∈ p.1.set) → View.canon (L ++ L') y = View.canon L y
  | [], _, hc => by obtain ⟨p, hp, _⟩ := hc; exact absurd hp List.not_mem_nil
  | p :: L, y, hc => by
    by_cases hy : y ∈ p.1.set
    · obtain ⟨r, v⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine canon_append L' L y ?_
      obtain ⟨q, hq, hyq⟩ := hc
      rcases List.mem_cons.mp hq with rfl | hq
      · exact absurd hyq hy
      · exact ⟨q, hq, hyq⟩

/-- The eight stores of 256 columns each, over an accumulator `A` read before them and any earlier stores. -/
theorem canon_dkvs (L' : List (View.Piece (Elt Ideal) S256x2048 .f32)) (A : Vec Ideal S256x2048 .f32) (y : S256x2048.Idx) :
    View.canon
      (⟨Rect.unit ![0, 1792] ![256, 256] inb_S256x2048_S256x256_0_1792,
          k0_pay50 (k0_pay44 (qld Q 768 inb_S512x1024_S512x256_0_768) (kld K 768 inb_S256x2048_S256x256_0_768)) (k0_pay45 D)
            (kld A 1792 inb_S256x2048_S256x256_0_1792)⟩ ::
       ⟨Rect.unit ![0, 768] ![256, 256] inb_S256x2048_S256x256_0_768,
          k0_pay49 (k0_pay41 (qld Q 768 inb_S512x1024_S512x256_0_768))
            (k0_pay43 (qld Q 768 inb_S512x1024_S512x256_0_768) (kld K 768 inb_S256x2048_S256x256_0_768))
            (k0_pay46 D (qld Q 768 inb_S512x1024_S512x256_0_768) (kld K 768 inb_S256x2048_S256x256_0_768)
              (kld K 1792 inb_S256x2048_S256x256_0_1792))
            (kld A 768 inb_S256x2048_S256x256_0_768)⟩ ::
       ⟨Rect.unit ![0, 1536] ![256, 256] inb_S256x2048_S256x256_0_1536,
          k0_pay40 (k0_pay35 (qld Q 512 inb_S512x1024_S512x256_0_512) (kld K 512 inb_S256x2048_S256x256_0_512)) (k0_pay36 D)
            (kld A 1536 inb_S256x2048_S256x256_0_1536)⟩ ::
       ⟨Rect.unit ![0, 512] ![256, 256] inb_S256x2048_S256x256_0_512,
          k0_pay39 (k0_pay32 (qld Q 512 inb_S512x1024_S512x256_0_512))
            (k0_pay37 D (qld Q 512 inb_S512x1024_S512x256_0_512) (kld K 512 inb_S256x2048_S256x256_0_512)
              (kld K 1536 inb_S256x2048_S256x256_0_1536))
            (kld A 512 inb_S256x2048_S256x256_0_512)⟩ ::
       ⟨Rect.unit ![0, 1280] ![256, 256] inb_S256x2048_S256x256_0_1280,
          k0_pay31 (k0_pay25 (k0_pay22 (qld Q 256 inb_S512x1024_S512x256_0_256)) (kld K 256 inb_S256x2048_S256x256_0_256)) (k0_pay26 D)
            (k0_pay30 (kld A 1280 inb_S256x2048_S256x256_0_1280))⟩ ::
       ⟨Rect.unit ![0, 256] ![256, 256] inb_S256x2048_S256x256_0_256,
          k0_pay29 D (k0_pay22 (qld Q 256 inb_S512x1024_S512x256_0_256)) (kld K 256 inb_S256x2048_S256x256_0_256)
            (kld K 1280 inb_S256x2048_S256x256_0_1280) (kld A 256 inb_S256x2048_S256x256_0_256)⟩ ::
       ⟨Rect.unit ![0, 1024] ![256, 256] inb_S256x2048_S256x256_0_1024,
          k0_pay21 D (k0_pay14 (qld Q 0 inb_S512x1024_S512x256_0_0) (kld K 0 inb_S256x2048_S256x256_0_0))
            (k0_pay15 (qld Q 0 inb_S512x1024_S512x256_0_0) (kld K 0 inb_S256x2048_S256x256_0_0))
            (kld A 1024 inb_S256x2048_S256x256_0_1024)⟩ ::
       ⟨Rect.unit ![0, 0] ![256, 256] inb_S256x2048_S256x256_0_0,
          k0_pay20 D (k0_pay11 (qld Q 0 inb_S512x1024_S512x256_0_0)) (k0_pay13 (kld K 1024 inb_S256x2048_S256x256_0_1024))
            (k0_pay14 (qld Q 0 inb_S512x1024_S512x256_0_0) (kld K 0 inb_S256x2048_S256x256_0_0))
            (k0_pay15 (qld Q 0 inb_S512x1024_S512x256_0_0) (kld K 0 inb_S256x2048_S256x256_0_0))
            (kld A 0 inb_S256x2048_S256x256_0_0)⟩ :: L') y
      = (show EReal from A y) + dkvs Q D K y := by
  refine (canon_append L' [_, _, _, _, _, _, _, _] y (View.cover_of_tiled_head _ _ _ (by rfl) y)).trans ?_
  have at_k : ∀ (h : Fin 4) (x : S256x256.Idx), (y 0 : Fin 256).val = (x 0 : Fin 256).val →
      (y 1 : Fin 2048).val = 256 * h.val + (x 1 : Fin 256).val → y = ix2 (x 0) (kcol h (x 1)) := fun h x e0 e1 =>
    (eq_ix2 y).trans ((ix2_inj ..).2 ⟨Fin.ext e0, Fin.ext e1⟩)
  have at_v : ∀ (h : Fin 4) (x : S256x256.Idx), (y 0 : Fin 256).val = (x 0 : Fin 256).val →
      (y 1 : Fin 2048).val = 1024 + 256 * h.val + (x 1 : Fin 256).val → y = ix2 (x 0) (vcol h (x 1)) := fun h x e0 e1 =>
    (eq_ix2 y).trans ((ix2_inj ..).2 ⟨Fin.ext e0, Fin.ext e1⟩)
  canon_tiles x h
  · rw [at_v 3 x h0 h1, eq_ix2 x]
    refine (Heads.dv3 _ _ _ _ _ _).trans (congrArg₂ (· + ·) (ld_cols _ _ _ _ _ _ (by simp [vcol])) ?_)
    exact dval_eq Q D K 3 _ _ (fun i d => ld_cols _ _ _ i d _ (by simp [hcol])) (fun i d => ld_cols _ _ _ i d _ (by simp [kcol])) _ _
  · rw [at_k 3 x h0 h1, eq_ix2 x]
    refine (Heads.dk3 _ _ _ _ _ _ _).trans (congrArg₂ (· + ·) (ld_cols _ _ _ _ _ _ (by simp [kcol])) ?_)
    exact dkey_eq Q D K 3 _ _ _ (fun i d => ld_cols _ _ _ i d _ (by simp [hcol])) (fun i d => ld_cols _ _ _ i d _ (by simp [kcol]))
      (fun i d => ld_cols _ _ _ i d _ (by simp [vcol])) _ _
  · rw [at_v 2 x h0 h1, eq_ix2 x]
    refine (Heads.dv2 _ _ _ _ _ _).trans (congrArg₂ (· + ·) (ld_cols _ _ _ _ _ _ (by simp [vcol])) ?_)
    exact dval_eq Q D K 2 _ _ (fun i d => ld_cols _ _ _ i d _ (by simp [hcol])) (fun i d => ld_cols _ _ _ i d _ (by simp [kcol]))
      _ _
  · rw [at_k 2 x h0 h1, eq_ix2 x]
    refine (Heads.dk2 _ _ _ _ _ _ _).trans (congrArg₂ (· + ·) (ld_cols _ _ _ _ _ _ (by simp [kcol])) ?_)
    exact dkey_eq Q D K 2 _ _ _ (fun i d => ld_cols _ _ _ i d _ (by simp [hcol])) (fun i d => ld_cols _ _ _ i d _ (by simp [kcol]))
      (fun i d => ld_cols _ _ _ i d _ (by simp [vcol])) _ _
  · rw [at_v 1 x h0 h1, eq_ix2 x]
    refine (Heads.dv1 _ _ _ _ _ _).trans (congrArg₂ (· + ·) (ld_cols _ _ _ _ _ _ (by simp [vcol])) ?_)
    exact dval_eq Q D K 1 _ _ (fun i d => ld_cols _ _ _ i d _ (by simp [hcol])) (fun i d => ld_cols _ _ _ i d _ (by simp [kcol]))
      _ _
  · rw [at_k 1 x h0 h1, eq_ix2 x]
    refine (Heads.dk1 _ _ _ _ _ _ _).trans (congrArg₂ (· + ·) (ld_cols _ _ _ _ _ _ (by simp [kcol])) ?_)
    exact dkey_eq Q D K 1 _ _ _ (fun i d => ld_cols _ _ _ i d _ (by simp [hcol])) (fun i d => ld_cols _ _ _ i d _ (by simp [kcol]))
      (fun i d => ld_cols _ _ _ i d _ (by simp [vcol])) _ _
  · rw [at_v 0 x h0 h1, eq_ix2 x]
    refine (Heads.dv0 _ _ _ _ _ _).trans (congrArg₂ (· + ·) (ld_cols _ _ _ _ _ _ (by simp [vcol])) ?_)
    exact dval_eq Q D K 0 _ _ (fun i d => ld_cols _ _ _ i d _ (by simp [hcol])) (fun i d => ld_cols _ _ _ i d _ (by simp [kcol]))
      _ _
  · rw [at_k 0 x h0 (by simpa using h1), eq_ix2 x]
    refine (Heads.dk0 _ _ _ _ _ _ _).trans (congrArg₂ (· + ·) (ld_cols _ _ _ _ _ _ (by simp [kcol])) ?_)
    exact dkey_eq Q D K 0 _ _ _ (fun i d => ld_cols _ _ _ i d _ (by simp [hcol])) (fun i d => ld_cols _ _ _ i d _ (by simp [kcol]))
      (fun i d => ld_cols _ _ _ i d _ (by simp [vcol])) _ _

end Cert.Tiles

end
-- ==== Proof.Payloads.lean ====
/- What one grid point of the kernel computes outside the heads: the normed rows, the gradients of the two matrices of
   weights, of the norm's weights and of the norm's input, each read at an index. -/
module

public import proofs.«01_k».proof.Proof.Tiles

@[expose] public section

set_option maxRecDepth 16384

noncomputable section

namespace Cert.Payloads

open Idealize.ShloMosaic Cert.KernelIdeal Cert.KernelIdeal.Gen Cert.Algebra Cert.Spec Cert.Tiles

/-- The norm's weights, one row. -/
def wrow (w : FVec Ideal S1x1024 .f32) : Row := fun j => w (ix2 0 j)

variable (X DY S : FVec Ideal S512x1024 .f32) (O : FVec Ideal S512x1024 .bf16) (w : FVec Ideal S1x1024 .f32)
  (W : FVec Ideal S1024x1024 .bf16) (i : Fin 512) (j k : Fin 1024)

theorem rinv_apply (u : Fin 1) : k0_pay3 (F := Ideal) X (ix2 i u) = rinv (row X i) := by
  pointwise [k0_pay3, rinv, meansq, row, Heads.ofBits_1024, eps]

theorem normed_apply : k0_pay4 (F := Ideal) X (ix2 i j) = normed (row X i) j := by
  pointwise [k0_pay4, rinv_apply X, normed, row]

theorem weighted_apply : k0_pay5 (F := Ideal) X w (ix2 i j) = weighted (row X i) (wrow w) j := by
  pointwise [k0_pay5, normed_apply X, weighted, wrow]

theorem dwq_apply (A : FVec Ideal S1024x1024 .f32) : k0_pay52 (F := Ideal) (k0_pay5 X w) S A (ix2 k j)
    = A (ix2 k j) + ∑ i : Fin 512, weighted (row X i) (wrow w) k * S (ix2 i j) := by
  pointwise [k0_pay52, k0_pay51, weighted_apply X w]

theorem dwo_apply (A : FVec Ideal S1024x1024 .f32) : k0_pay54 (F := Ideal) A (k0_pay53 (k0_pay6 DY) O) (ix2 k j)
    = A (ix2 k j) + ∑ i : Fin 512, row O i k * row DY i j := by
  pointwise [k0_pay54, k0_pay53, k0_pay6, row]

theorem dhn_apply : k0_pay55 (F := Ideal) (k0_pay51 S) W (ix2 i j) = timesT (row S i) W j := by
  pointwise [k0_pay55, k0_pay51, timesT, row]

theorem dg_apply (A : FVec Ideal S1x1024 .f32) (u : Fin 1) : k0_pay58 (F := Ideal) (k0_pay4 X) (k0_pay51 S) W A (ix2 u j)
    = A (ix2 u j) + ∑ i : Fin 512, timesT (row S i) W j * normed (row X i) j := by
  pointwise [k0_pay58, normed_apply X, dhn_apply S W]

theorem dh1_apply : k0_pay56 (F := Ideal) (k0_pay3 X) (k0_pay4 X) (k0_pay51 S) W w DY (ix2 i j)
    = dinput (row X i) (wrow w) (row DY i) (timesT (row S i) W) j := by
  pointwise [k0_pay56, rinv_apply X, normed_apply X, dhn_apply S W, dinput, wrow, row, Heads.ofBits_1024]

theorem zero8 (y : S256x2048.Idx) : k0_pay8 (F := Ideal) y = 0 := by pointwise [k0_pay8]
theorem zero9 (y : S1024x1024.Idx) : k0_pay9 (F := Ideal) y = 0 := by pointwise [k0_pay9]
theorem zero10 (y : S1024x1024.Idx) : k0_pay10 (F := Ideal) y = 0 := by pointwise [k0_pay10]
theorem zero57 (y : S1x1024.Idx) : k0_pay57 (F := Ideal) y = 0 := by pointwise [k0_pay57]
theorem cast1 (A : FVec Ideal S1024x1024 .f32) : k0_pay1 (F := Ideal) A = A := rfl
theorem cast2 (A : FVec Ideal S1024x1024 .f32) : k0_pay2 (F := Ideal) A = A := rfl

end Cert.Payloads

end
-- ==== Proof.Points.lean ====
/- What the kernel's buffers hold after each grid point: the rows of the input's gradient, and the running sums of the
   four other gradients. -/
module

public import proofs.«01_k».proof.Proof.Payloads
public import Idealize.ShloMosaic.Lib.Pipeline.ReadBack

@[expose] public section

set_option maxRecDepth 16384

noncomputable section

namespace Cert.Points

open Idealize.ShloMosaic Idealize.ShloMosaic.TcCoe Idealize.SL.Sem
open Idealize.ShloMosaic.Pipeline (Dat)
open Cert.KernelIdeal Cert.KernelIdeal.Gen Cert.Algebra Cert.Spec Cert.Tiles Cert.Payloads

variable (m : (ℓ : Loc nD τ sig) → Buf (Elt Ideal) ℓ) (c : Dev nD) (t : Fin cfg0.N)

/-! ## A point's blocks, at their types -/

abbrev X : FVec Ideal S512x1024 .f32 := iblk m c 0 t
abbrev DY : FVec Ideal S512x1024 .f32 := iblk m c 1 t
abbrev Q : FVec Ideal S512x1024 .bf16 := iblk m c 2 t
abbrev O : FVec Ideal S512x1024 .bf16 := iblk m c 3 t
abbrev w : FVec Ideal S1x1024 .f32 := iblk m c 4 t
abbrev WQ : FVec Ideal S1024x1024 .bf16 := iblk m c 5 t
abbrev WO : FVec Ideal S1024x1024 .bf16 := iblk m c 6 t
abbrev KV : FVec Ideal S256x2048 .f32 := iblk m c 7 t

/-- The gradient of the attention's output, and of the queries, in the point's rows. -/
abbrev D : FVec Ideal S512x1024 .f32 := k0_pay7 (DY m c t) (WO m c t)
abbrev S : FVec Ideal S512x1024 .f32 := dqs (Q m c t) (D m c t) (KV m c t)

theorem dh1_point (i : Fin 512) (j : Fin 1024) : (outsAt0 m c t.val t.isLt).1 (ix2 i j)
    = dinput (row (X m c t) i) (wrow (w m c t)) (row (DY m c t) i) (timesT (row (S m c t) i) (WQ m c t)) j := by
  by_cases h0 : t.val % 8 = 0
  · have h2 : ¬ t.val % 8 = 7 := by omega
    rw [outsAt0_A m c t h0 h0 h2]
    frame_out
    rw [scratch0_eq (Q m c t) (D m c t) (KV m c t)]
    exact dh1_apply ..
  · by_cases h2 : t.val % 8 = 7
    · rw [outsAt0_C m c t h0 h0 h2]
      frame_out
      rw [scratch0_eq (Q m c t) (D m c t) (KV m c t)]
      exact dh1_apply ..
    · rw [outsAt0_B m c t h0 h0 h2]
      frame_out
      rw [scratch0_eq (Q m c t) (D m c t) (KV m c t)]
      exact dh1_apply ..

/-! ## The running sums

Each is zeroed at the first point, and every point adds its rows' share. -/

/-- A point's share of the gradient of the norm's weights, of the query's weights and of the output's weights. -/
def dgs (y : S1x1024.Idx) : EReal :=
  ∑ i : Fin 512, timesT (row (S m c t) i) (WQ m c t) (y 1) * normed (row (X m c t) i) (y 1)
def dwqs (y : S1024x1024.Idx) : EReal :=
  ∑ i : Fin 512, weighted (row (X m c t) i) (wrow (w m c t)) (y 0) * S m c t (ix2 i (y 1))
def dwos (y : S1024x1024.Idx) : EReal := ∑ i : Fin 512, row (O m c t) i (y 0) * row (DY m c t) i (y 1)

theorem dkv_first (h0 : t.val % 8 = 0) (y : S256x2048.Idx) : (outsAt0 m c t.val t.isLt).2.2.2.1 y
    = (0 : EReal) + dkvs (Q m c t) (D m c t) (KV m c t) y := by
  have h2 : ¬ t.val % 8 = 7 := by omega
  rw [outsAt0_A m c t h0 h0 h2]
  frame_open
  simp (disch := decide) only [↓View.readCov_skip, ↓View.readCov_fill]
  frame_out
  refine (canon_dkvs (Q m c t) (D m c t) (KV m c t) _ _ y).trans ?_
  rw [zero8]

theorem dkv_next (h0 : ¬t.val % 8 = 0) (y : S256x2048.Idx) : (outsAt0 m c t.val t.isLt).2.2.2.1 y
    = (show EReal from (outsAt0 m c (t.val - 1) (Nat.lt_of_le_of_lt (Nat.sub_le _ _) t.isLt)).2.2.2.1 y)
      + dkvs (Q m c t) (D m c t) (KV m c t) y := by
  by_cases h2 : t.val % 8 = 7
  · rw [outsAt0_C m c t h0 h0 h2]
    frame_out
    exact canon_dkvs (Q m c t) (D m c t) (KV m c t) [] _ y
  · rw [outsAt0_B m c t h0 h0 h2]
    frame_out
    exact canon_dkvs (Q m c t) (D m c t) (KV m c t) [] _ y

theorem dg_first (h0 : t.val % 8 = 0) (y : S1x1024.Idx) : (outsAt0 m c t.val t.isLt).2.2.2.2.1 y
    = (0 : EReal) + dgs m c t y := by
  have h2 : ¬ t.val % 8 = 7 := by omega
  rw [outsAt0_A m c t h0 h0 h2, eq_ix2 y]
  frame_out
  rw [scratch0_eq (Q m c t) (D m c t) (KV m c t)]
  refine (dg_apply ..).trans ?_
  rw [zero57]; rfl

theorem dg_next (h0 : ¬t.val % 8 = 0) (y : S1x1024.Idx) : (outsAt0 m c t.val t.isLt).2.2.2.2.1 y
    = (show EReal from (outsAt0 m c (t.val - 1) (Nat.lt_of_le_of_lt (Nat.sub_le _ _) t.isLt)).2.2.2.2.1 y)
      + dgs m c t y := by
  by_cases h2 : t.val % 8 = 7
  · rw [outsAt0_C m c t h0 h0 h2, eq_ix2 y]
    frame_out
    rw [scratch0_eq (Q m c t) (D m c t) (KV m c t)]
    exact dg_apply ..
  · rw [outsAt0_B m c t h0 h0 h2, eq_ix2 y]
    frame_out
    rw [scratch0_eq (Q m c t) (D m c t) (KV m c t)]
    exact dg_apply ..

theorem accq_first (h0 : t.val % 8 = 0) (y : S1024x1024.Idx) : (outsAt0 m c t.val t.isLt).2.2.2.2.2.1 y
    = (0 : EReal) + dwqs m c t y := by
  have h2 : ¬ t.val % 8 = 7 := by omega
  rw [outsAt0_A m c t h0 h0 h2, eq_ix2 y]
  frame_out
  rw [scratch0_eq (Q m c t) (D m c t) (KV m c t)]
  refine (dwq_apply ..).trans ?_
  rw [zero9]; rfl

theorem accq_next (h0 : ¬t.val % 8 = 0) (y : S1024x1024.Idx) : (outsAt0 m c t.val t.isLt).2.2.2.2.2.1 y
    = (show EReal from (outsAt0 m c (t.val - 1) (Nat.lt_of_le_of_lt (Nat.sub_le _ _) t.isLt)).2.2.2.2.2.1 y)
      + dwqs m c t y := by
  by_cases h2 : t.val % 8 = 7
  · rw [outsAt0_C m c t h0 h0 h2, eq_ix2 y]
    frame_out
    rw [scratch0_eq (Q m c t) (D m c t) (KV m c t), read_unread_whole]
    exact dwq_apply ..
  · rw [outsAt0_B m c t h0 h0 h2, eq_ix2 y]
    frame_out
    rw [scratch0_eq (Q m c t) (D m c t) (KV m c t), read_unread_whole]
    exact dwq_apply ..

theorem acco_first (h0 : t.val % 8 = 0) (y : S1024x1024.Idx) : (outsAt0 m c t.val t.isLt).2.2.2.2.2.2 y
    = (0 : EReal) + dwos m c t y := by
  have h2 : ¬ t.val % 8 = 7 := by omega
  rw [outsAt0_A m c t h0 h0 h2, eq_ix2 y]
  frame_out
  refine (dwo_apply ..).trans ?_
  rw [zero10]; rfl

theorem acco_next (h0 : ¬t.val % 8 = 0) (y : S1024x1024.Idx) : (outsAt0 m c t.val t.isLt).2.2.2.2.2.2 y
    = (show EReal from (outsAt0 m c (t.val - 1) (Nat.lt_of_le_of_lt (Nat.sub_le _ _) t.isLt)).2.2.2.2.2.2 y)
      + dwos m c t y := by
  by_cases h2 : t.val % 8 = 7
  · rw [outsAt0_C m c t h0 h0 h2, eq_ix2 y]
    frame_out
    rw [read_unread_whole]
    exact dwo_apply ..
  · rw [outsAt0_B m c t h0 h0 h2, eq_ix2 y]
    frame_out
    rw [read_unread_whole]
    exact dwo_apply ..

/-- The last point also stores the two sums of the weights' gradients. -/
theorem dwq_last (h2 : t.val % 8 = 7) (y : S1024x1024.Idx) :
    (outsAt0 m c t.val t.isLt).2.1 y = (outsAt0 m c t.val t.isLt).2.2.2.2.2.1 y := by
  have h0 : ¬ t.val % 8 = 0 := by omega
  rw [accq_next m c t h0, outsAt0_C m c t h0 h0 h2, eq_ix2 y]
  frame_out
  rw [scratch0_eq (Q m c t) (D m c t) (KV m c t), read_unread_whole]
  exact dwq_apply ..

theorem dwo_last (h2 : t.val % 8 = 7) (y : S1024x1024.Idx) :
    (outsAt0 m c t.val t.isLt).2.2.1 y = (outsAt0 m c t.val t.isLt).2.2.2.2.2.2 y := by
  have h0 : ¬ t.val % 8 = 0 := by omega
  rw [acco_next m c t h0, outsAt0_C m c t h0 h0 h2, eq_ix2 y]
  frame_out
  rw [read_unread_whole]
  exact dwo_apply ..

end Cert.Points

end
-- ==== Proof.Step.lean ====
/- The gradients of the cross attention over all its rows, as functions of the arrays: `X` the input, `w` the norm's
   weights, `DY` the gradient of the output, `Q` the queries, `O` the attention's output, `WQ`, `WO` the weights of the
   query and of the output, `K` the keys with the values. -/
module

public import proofs.«01_k».proof.Proof.Spec

@[expose] public section

noncomputable section

namespace Cert.Step

open Idealize.ShloMosaic Cert.Algebra Cert.Spec

/-- The activations of the whole sequence. -/
abbrev Seq := (⟨2, ![4096, 1024]⟩ : Shape).Idx → EReal
/-- The norm's weights. -/
abbrev Gain := (⟨2, ![1, 1024]⟩ : Shape).Idx → EReal

/-- Row `s` of the sequence. -/
def line (X : Seq) (s : Fin 4096) : Row := fun j => X (ix2 s j)
def gain (w : Gain) : Row := fun j => w (ix2 0 j)

variable (X DY Q O : Seq) (w : Gain) (WQ WO : Mat) (K : Keys)

/-- The gradients, in row `s`, of the attention's output, of the query and of the normed row. -/
def dout (s : Fin 4096) : Row := timesT (line DY s) WO
def dq (s : Fin 4096) : Row := dquery (line Q s) (dout DY WO s) K
def dhn (s : Fin 4096) : Row := timesT (dq DY Q WO K s) WQ

/-- The gradient of the input. -/
def dh1 (y : (⟨2, ![4096, 1024]⟩ : Shape).Idx) : EReal :=
  dinput (line X (y 0)) (gain w) (line DY (y 0)) (dhn DY Q WQ WO K (y 0)) (y 1)
/-- The gradients of the weights of the query, of those of the output, of the keys with the values, and of the norm's
    weights. -/
def dwq (y : (⟨2, ![1024, 1024]⟩ : Shape).Idx) : EReal :=
  ∑ s : Fin 4096, weighted (line X s) (gain w) (y 0) * dq DY Q WO K s (y 1)
def dwo (y : (⟨2, ![1024, 1024]⟩ : Shape).Idx) : EReal := ∑ s : Fin 4096, line O s (y 0) * line DY s (y 1)
def dkv (y : (⟨2, ![256, 2048]⟩ : Shape).Idx) : EReal :=
  ∑ s : Fin 4096, dkeys (line Q s) (dout DY WO s) K (y 0) (y 1)
def dg (y : (⟨2, ![1, 1024]⟩ : Shape).Idx) : EReal :=
  ∑ s : Fin 4096, dhn DY Q WQ WO K s (y 1) * normed (line X s) (y 1)

end Cert.Step

end
-- ==== Proof.Arrays.lean ====
/- What the kernel's output arrays hold at the end, from what its input arrays hold when it starts. -/
module

public import proofs.«01_k».proof.Proof.Points
public import proofs.«01_k».proof.Proof.Step

@[expose] public section

set_option maxRecDepth 16384

noncomputable section

namespace Cert.Arrays

open Idealize.ShloMosaic Idealize.ShloMosaic.TcCoe Idealize.SL.Sem
open Idealize.ShloMosaic.Pipeline (Dat)
open Cert.KernelIdeal Cert.KernelIdeal.Gen Cert.Algebra Cert.Spec Cert.Tiles Cert.Payloads Cert.Points

variable (m : (ℓ : Loc nD τ sig) → Buf (Elt Ideal) ℓ) (c : Dev nD) (t : Fin cfg0.N)

/-! ## The input arrays when the kernel starts -/

abbrev aX : Step.Seq := V m c main_arg1
abbrev aDY : Step.Seq := V m c main_arg2
abbrev aQ : Step.Seq := V m c main_v38
abbrev aO : Step.Seq := V m c main_v39
abbrev aw : Step.Gain := V m c main_arg3
abbrev aWQ : Mat := V m c main_v40
abbrev aWO : Mat := V m c main_v41
abbrev aKV : Keys := V m c main_arg6

/-! ## Where the blocks lie -/

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![0, 0] ∧ win0_10.index t = ![0, 0]
    ∧ win0_11.index t = ![0, 0] ∧ win0_12.index t = ![0, 0] := (by decide +kernel : ∀ t : Fin grid0.N, _)

theorem lt8 (t : Fin cfg0.N) : t.val < 8 := Nat.lt_of_lt_of_eq t.isLt N_0

/-- Row `i` of point `t`'s blocks is this row of the arrays. -/
def at' (t : Fin cfg0.N) (i : Fin 512) : Fin 4096 := ⟨t.val * 512 + i.val, by have := lt8 t; omega⟩

theorem X_row (i : Fin 512) : row (X m c t) i = Step.line (aX m c) (at' t i) := by
  funext j; show X m c t (ix2 i j) = _
  blk_point [iblk, V, idx t]; rfl
theorem DY_row (i : Fin 512) : row (DY m c t) i = Step.line (aDY m c) (at' t i) := by
  funext j; show DY m c t (ix2 i j) = _
  blk_point [iblk, V, idx t]; rfl
theorem Q_row (i : Fin 512) : row (Q m c t) i = Step.line (aQ m c) (at' t i) := by
  funext j; show Q m c t (ix2 i j) = _
  blk_point [iblk, V, idx t]; rfl
theorem O_row (i : Fin 512) : row (O m c t) i = Step.line (aO m c) (at' t i) := by
  funext j; show O m c t (ix2 i j) = _
  blk_point [iblk, V, idx t]; rfl
theorem w_eq : w m c t = aw m c := by
  funext y; rw [eq_ix2 y]; blk_point [iblk, V, idx t]
theorem WQ_eq : WQ m c t = aWQ m c := by
  funext y; rw [eq_ix2 y]; blk_point [iblk, V, idx t]
theorem WO_eq : WO m c t = aWO m c := by
  funext y; rw [eq_ix2 y]; blk_point [iblk, V, idx t]
theorem KV_eq : KV m c t = aKV m c := by
  funext y; rw [eq_ix2 y]; blk_point [iblk, V, idx t]

/-! ## A point's rows -/

abbrev adout := Step.dout (aDY m c) (aWO m c)
abbrev adq := Step.dq (aDY m c) (aQ m c) (aWO m c) (aKV m c)
abbrev adhn := Step.dhn (aDY m c) (aQ m c) (aWQ m c) (aWO m c) (aKV m c)

theorem D_row (i : Fin 512) : row (D m c t) i = adout m c (at' t i) := by
  funext j
  refine (dout_apply (DY m c t) (WO m c t) i j).trans ?_
  rw [DY_row, WO_eq]; rfl
theorem S_row (i : Fin 512) : row (S m c t) i = adq m c (at' t i) := by
  funext j
  show dquery (row (Q m c t) i) (row (D m c t) i) (KV m c t) j = _
  rw [Q_row, D_row, KV_eq]; rfl
theorem dhn_row (i : Fin 512) : timesT (row (S m c t) i) (WQ m c t) = adhn m c (at' t i) := by
  rw [S_row, WQ_eq]; rfl
theorem wrow_eq : wrow (w m c t) = Step.gain (aw m c) := by rw [w_eq]; rfl

theorem dgs_eq (y : S1x1024.Idx) : dgs m c t y
    = ∑ i : Fin 512, adhn m c (at' t i) (y 1) * normed (Step.line (aX m c) (at' t i)) (y 1) :=
  Finset.sum_congr rfl fun i _ => by rw [dhn_row, X_row]
theorem dwqs_eq (y : S1024x1024.Idx) : dwqs m c t y
    = ∑ i : Fin 512, weighted (Step.line (aX m c) (at' t i)) (Step.gain (aw m c)) (y 0) * adq m c (at' t i) (y 1) :=
  Finset.sum_congr rfl fun i _ => by rw [X_row, wrow_eq, ← S_row]; rfl
theorem dwos_eq (y : S1024x1024.Idx) : dwos m c t y
    = ∑ i : Fin 512, Step.line (aO m c) (at' t i) (y 0) * Step.line (aDY m c) (at' t i) (y 1) :=
  Finset.sum_congr rfl fun i _ => by rw [O_row, DY_row]
theorem dkvs_eq (y : S256x2048.Idx) : dkvs (Q m c t) (D m c t) (KV m c t) y
    = ∑ i : Fin 512, dkeys (Step.line (aQ m c) (at' t i)) (adout m c (at' t i)) (aKV m c) (y 0) (y 1) :=
  Finset.sum_congr rfl fun i _ => by rw [Q_row, D_row, KV_eq]

/-- The points' rows are all the rows. -/
theorem sum_rows (f : Fin 4096 → EReal) : ∑ t : Fin cfg0.N, ∑ i : Fin 512, f (at' t i) = ∑ s : Fin 4096, f s :=
  (Fin.sum_univ_tiles cfg0.N 512 (by rw [show cfg0.N = 8 from N_0]) f).symm

/-! ## The output arrays -/

/-- The last point. -/
def tlast : Fin cfg0.N := ⟨7, by rw [show cfg0.N = 8 from N_0]; decide⟩
theorem tlast_succ : tlast.val + 1 = cfg0.N := (N_0 : cfg0.N = 8).symm

theorem dg_sum (y : S1x1024.Idx) : (outsAt0 m c tlast.val tlast.isLt).2.2.2.2.1 y
    = Step.dg (aX m c) (aDY m c) (aQ m c) (aWQ m c) (aWO m c) (aKV m c) y := by
  refine (Pipeline.eq_sum_fin_of_reset_step_apply_last (M := EReal) (fun n hn y => (outsAt0 m c n hn).2.2.2.2.1 y) 8 (fun _ => 0)
    (dgs m c) (fun t h => dg_first m c t h) (fun t h => dg_next m c t h) (le_of_eq N_0) tlast tlast_succ y).trans ?_
  simp only [dgs_eq]
  rw [zero_add, sum_rows fun s => adhn m c s (y 1) * normed (Step.line (aX m c) s) (y 1)]; rfl

theorem dkv_sum (y : S256x2048.Idx) : (outsAt0 m c tlast.val tlast.isLt).2.2.2.1 y
    = Step.dkv (aDY m c) (aQ m c) (aWO m c) (aKV m c) y := by
  refine (Pipeline.eq_sum_fin_of_reset_step_apply_last (M := EReal) (fun n hn y => (outsAt0 m c n hn).2.2.2.1 y) 8 (fun _ => 0)
    (fun t y => dkvs (Q m c t) (D m c t) (KV m c t) y) (fun t h => dkv_first m c t h) (fun t h => dkv_next m c t h)
    (le_of_eq N_0) tlast tlast_succ y).trans ?_
  simp only [dkvs_eq]
  rw [zero_add, sum_rows fun s => dkeys (Step.line (aQ m c) s) (adout m c s) (aKV m c) (y 0) (y 1)]; rfl

theorem dwq_sum (y : S1024x1024.Idx) : (outsAt0 m c tlast.val tlast.isLt).2.1 y
    = Step.dwq (aX m c) (aDY m c) (aQ m c) (aw m c) (aWO m c) (aKV m c) y := by
  refine (dwq_last m c tlast rfl y).trans ?_
  refine (Pipeline.eq_sum_fin_of_reset_step_apply_last (M := EReal) (fun n hn y => (outsAt0 m c n hn).2.2.2.2.2.1 y) 8 (fun _ => 0)
    (dwqs m c) (fun t h => accq_first m c t h) (fun t h => accq_next m c t h) (le_of_eq N_0) tlast tlast_succ y).trans ?_
  simp only [dwqs_eq]
  rw [zero_add, sum_rows fun s => weighted (Step.line (aX m c) s) (Step.gain (aw m c)) (y 0) * adq m c s (y 1)]; rfl

theorem dwo_sum (y : S1024x1024.Idx) : (outsAt0 m c tlast.val tlast.isLt).2.2.1 y
    = Step.dwo (aDY m c) (aO m c) y := by
  refine (dwo_last m c tlast rfl y).trans ?_
  refine (Pipeline.eq_sum_fin_of_reset_step_apply_last (M := EReal) (fun n hn y => (outsAt0 m c n hn).2.2.2.2.2.2 y) 8 (fun _ => 0)
    (dwos m c) (fun t h => acco_first m c t h) (fun t h => acco_next m c t h) (le_of_eq N_0) tlast tlast_succ y).trans ?_
  simp only [dwos_eq]
  rw [zero_add, sum_rows fun s => Step.line (aO m c) s (y 0) * Step.line (aDY m c) s (y 1)]; rfl

theorem dh1_at (i : Fin 512) (j : Fin 1024) : (outsAt0 m c t.val t.isLt).1 (ix2 i j)
    = Step.dh1 (aX m c) (aDY m c) (aQ m c) (aw m c) (aWQ m c) (aWO m c) (aKV m c) (ix2 (at' t i) j) := by
  rw [dh1_point, X_row, DY_row, wrow_eq, dhn_row]; rfl

theorem arr8 : (dats m 0 c).arrAt 8 cfg0.N
    = Step.dh1 (aX m c) (aDY m c) (aQ m c) (aw m c) (aWQ m c) (aWO m c) (aKV m c) := by
  refine (dats m 0 c).arrAt_eq_of_covers 8 _ (by decide +kernel) fun t _ y => ?_
  blk_simp
  rw [after0_8]
  refine (congrArg _ (eq_ix2 _)).trans ((dh1_at m c t _ _).trans (congrArg _ ?_))
  blk_ext [idx t, at']

theorem arr12 : (dats m 0 c).arrAt 12 cfg0.N
    = Step.dg (aX m c) (aDY m c) (aQ m c) (aWQ m c) (aWO m c) (aKV m c) := by
  refine (dats m 0 c).arrAt_eq_of_after_last 12 tlast (by decide +kernel) _ fun j => ?_
  blk_simp
  rw [after0_12]
  exact dg_sum m c j

theorem arr11 : (dats m 0 c).arrAt 11 cfg0.N = Step.dkv (aDY m c) (aQ m c) (aWO m c) (aKV m c) := by
  refine (dats m 0 c).arrAt_eq_of_after_last 11 tlast (by decide +kernel) _ fun j => ?_
  blk_simp
  rw [after0_11]
  exact dkv_sum m c j

theorem arr10 : (dats m 0 c).arrAt 10 cfg0.N = Step.dwo (aDY m c) (aO m c) := by
  refine (dats m 0 c).arrAt_eq_of_after_last 10 tlast (by decide +kernel) _ fun j => ?_
  blk_simp
  rw [after0_10]
  exact dwo_sum m c j

theorem arr9 : (dats m 0 c).arrAt 9 cfg0.N = Step.dwq (aX m c) (aDY m c) (aQ m c) (aw m c) (aWO m c) (aKV m c) := by
  refine (dats m 0 c).arrAt_eq_of_after_last 9 tlast (by decide +kernel) _ fun j => ?_
  blk_simp
  rw [after0_9]
  exact dwq_sum m c j

end Cert.Arrays

end
-- ==== Proof.Host.lean ====
/- What the kernel's input arrays hold when it starts: the arguments, and the queries and the attention's output that the
   operations before the kernel compute. These are operations of the reference too. -/
module

public import proofs.«01_k».proof.Proof.Arrays
public import proofs.«01_k».proof.Proof.Gen.ReferenceIdeal.Read

@[expose] public section

set_option maxRecDepth 16384

noncomputable section

namespace Cert.Host

open Idealize.ShloMosaic Idealize.ShloMosaic.TcCoe Idealize.SL.Sem
open Cert.KernelIdeal Cert.KernelIdeal.Gen Cert.Arrays Cert.Spec

variable (m : (ℓ : Loc nD τ sig) → Buf (Elt Ideal) ℓ) (c : Dev nD)

/-! ## The arguments -/

abbrev h1 : FVec Ideal S4096x1024 .f32 := m ((c : Thread nD τ).loc main_arg1)
abbrev dh2 : FVec Ideal S4096x1024 .f32 := m ((c : Thread nD τ).loc main_arg2)
abbrev gxa : FVec Ideal S1x1024 .f32 := m ((c : Thread nD τ).loc main_arg3)
abbrev wq : FVec Ideal S1024x1024 .f32 := m ((c : Thread nD τ).loc main_arg4)
abbrev wo : FVec Ideal S1024x1024 .f32 := m ((c : Thread nD τ).loc main_arg5)
abbrev kv : FVec Ideal S256x2048 .f32 := m ((c : Thread nD τ).loc main_arg6)

theorem aX_eq : aX m c = h1 m c := V_main_arg1 m c
theorem aDY_eq : aDY m c = dh2 m c := V_main_arg2 m c
theorem aw_eq : aw m c = gxa m c := V_main_arg3 m c
theorem aKV_eq : aKV m c = kv m c := V_main_arg6 m c

theorem aWQ_eq : aWQ m c = wq m c := by
  show StableHlo.after hostOps0 (fun b => m (c, b)) _ = _
  after_results_simp; rfl
theorem aWO_eq : aWO m c = wo m c := by
  show StableHlo.after hostOps0 (fun b => m (c, b)) _ = _
  after_results_simp; rfl
theorem aQ_eq : aQ m c = Cert.ReferenceIdeal.Read.val_main_v17 (F := Ideal) (h1 m c) (gxa m c) (wq m c) := by
  show StableHlo.after hostOps0 (fun b => m (c, b)) _ = _
  after_results_simp; rfl
theorem aO_eq : aO m c = Cert.ReferenceIdeal.Read.val_main_v56 (F := Ideal) (h1 m c) (gxa m c) (wq m c) (kv m c) := by
  show StableHlo.after hostOps0 (fun b => m (c, b)) _ = _
  after_results_simp; rfl

end Cert.Host

end
-- ==== Proof.Reference.lean ====
/- The reference's operations read at an index: the norm, the queries and the scores, then what differentiation gives. -/
module

public import proofs.«01_k».proof.Proof.Heads
public import proofs.«01_k».proof.Proof.Step
public import proofs.«01_k».proof.Proof.Gen.ReferenceIdeal.Read

@[expose] public section

set_option maxRecDepth 16384

noncomputable section

namespace Cert.Reference

open Idealize.ShloMosaic
open Cert.ReferenceIdeal Cert.ReferenceIdeal.Read Cert.Algebra Cert.Spec Cert.Step

variable (x1 x2 : FVec Ideal S4096x1024 .f32) (x3 : FVec Ideal S1x1024 .f32) (x4 x5 : FVec Ideal S1024x1024 .f32)
  (x6 : FVec Ideal S256x2048 .f32) (s : Fin 4096) (j k : Fin 1024) (h : Fin 4) (d p : Fin 256)

theorem ofBits_neghalf : Ideal.ofBits .f32 0xBF000000#32 = ((-(1 / 2) : ℝ) : EReal) := by
  simp [Ideal.ofBits, Ideal.ieee]; rw [← EReal.coe_mul]; norm_num

/-! ## The norm -/

theorem ms_apply (u : Fin 1) : val_main_v7 (F := Ideal) x1 (ix2 s u) = meansq (line x1 s) := by
  pointwise [val_main_v7, val_main_v6, val_main_v5, val_main_v4, val_main_v3, val_main_v2, val_main_v1, val_main_cst, val_main_cst_0, val_main_cst_1,
    meansq, line, Heads.ofBits_1024, eps]
theorem r_apply (u : Fin 1) : val_main_v8 (F := Ideal) x1 (ix2 s u) = rinv (line x1 s) := by
  pointwise [val_main_v8, ms_apply x1, rinv]
theorem dr_apply (u : Fin 1) : val_main_v11 (F := Ideal) x1 (ix2 s u)
    = ((-(1 / 2) : ℝ) : EReal) * Ideal.div (rinv (line x1 s)) (meansq (line x1 s)) := by
  pointwise [val_main_v11, val_main_v10, val_main_v9, val_main_cst_2, r_apply x1, ms_apply x1, ofBits_neghalf]
theorem normed_apply : val_main_v13 (F := Ideal) x1 (ix2 s j) = normed (line x1 s) j := by
  pointwise [val_main_v13, val_main_v12, r_apply x1, normed, line]
theorem w_apply : val_main_v14 (F := Ideal) x3 (ix2 0 j) = gain x3 j := by
  pointwise [val_main_v14, val_main_v0, gain]
theorem weighted_apply : val_main_v16 (F := Ideal) x1 x3 (ix2 s j) = weighted (line x1 s) (gain x3) j := by
  pointwise [val_main_v16, val_main_v15, val_main_v14, val_main_v0, normed_apply x1, weighted, gain]

/-! ## The queries, the keys and the values -/

theorem q_apply : val_main_v17 (F := Ideal) x1 x3 x4 (ix2 s j) = times (weighted (line x1 s) (gain x3)) x4 j := by
  pointwise [val_main_v17, weighted_apply x1 x3, times]
/-- The columns of a head, as the reshapes number them. -/
theorem hcol_eq (hh : h.val * 256 + d.val < 1024) : (⟨h.val * 256 + d.val, hh⟩ : Fin 1024) = hcol h d :=
  Fin.ext (by simp only [hcol]; omega)
theorem kcol_eq (hh : h.val * 256 + d.val < 2048) : (⟨h.val * 256 + d.val, hh⟩ : Fin 2048) = kcol h d :=
  Fin.ext (by simp only [kcol]; omega)
theorem vcol_eq (hh : 1024 + (h.val * 256 + d.val) < 2048) : (⟨1024 + (h.val * 256 + d.val), hh⟩ : Fin 2048) = vcol h d :=
  Fin.ext (by simp only [vcol]; omega)

theorem qh_apply : val_main_v18 (F := Ideal) x1 x3 x4 (ix3 s h d) = val_main_v17 (F := Ideal) x1 x3 x4 (ix2 s (hcol h d)) := by
  pointwise [val_main_v18, hcol_eq]
theorem k_apply : val_main_v21 (F := Ideal) x6 (ix3 p h d) = x6 (ix2 p (kcol h d)) := by
  pointwise [val_main_v21, val_main_v19, kcol_eq]
theorem v_apply : val_main_v22 (F := Ideal) x6 (ix3 p h d) = x6 (ix2 p (vcol h d)) := by
  pointwise [val_main_v22, val_main_v20, vcol_eq]

/-! ## The soft maximum -/

/-- The queries, and the gradient of the attention's output, in row `s`. -/
abbrev qrow : Row := line (val_main_v17 (F := Ideal) x1 x3 x4) s
abbrev drow : Row := dout x2 x5 s

theorem scores_apply : val_main_v25 (F := Ideal) x1 x3 x4 x6 (ix3 h s p) = scores (qrow x1 x3 x4 s) x6 h p := by
  pointwise [val_main_v25, val_main_v24, val_main_v23, val_main_cst_3, qh_apply x1 x3 x4, k_apply x6, scores, line, Heads.ofBits_sixteenth]
/-- A row's maximum, from the least element on. -/
theorem fold_apply (X : FVec Ideal S4x4096x256 .f32) (v : FVec Ideal S_ .f32) (hv : ∀ i, v i = (⊥ : EReal)) :
    Host.reduce FloatOps.maximumf X v Cert.ReferenceIdeal.Gen.reducesTo_S4x4096x256_S4x4096_d2 Cert.ReferenceIdeal.Gen.h_S_ (ix2 h s)
      = top fun p => X (ix3 h s p) := by
  pointwise [hv, top]
theorem rowmax_apply : val_main_v26 (F := Ideal) x1 x3 x4 x6 (ix2 h s) = top (scores (qrow x1 x3 x4 s) x6 h) :=
  (fold_apply s h _ _ fun _ => Heads.ofBits_bot).trans (congrArg top (funext fun p => scores_apply x1 x3 x4 x6 s h p))
theorem top_apply : val_main_v33 (F := Ideal) x1 x3 x4 x6 (ix2 h s) = top (scores (qrow x1 x3 x4 s) x6 h) := by
  rw [val_main_v33_apply, rowmax_apply, val_main_v32_apply, val_main_cst_6_apply]
  exact (congrArg (max · _) Heads.ofBits_bot).trans (max_eq_right bot_le)
theorem expo_apply : val_main_v46 (F := Ideal) x1 x3 x4 x6 (ix3 h s p) = expo (scores (qrow x1 x3 x4 s) x6 h) p := by
  pointwise [val_main_v46, val_main_v45, val_main_v44, val_main_v43, top_apply x1 x3 x4 x6, scores_apply x1 x3 x4 x6, expo]
theorem total_apply (u : Fin 1) : val_main_v48 (F := Ideal) x1 x3 x4 x6 (ix3 h s u) = total (scores (qrow x1 x3 x4 s) x6 h) := by
  pointwise [val_main_v48, val_main_v47, val_main_cst_12, expo_apply x1 x3 x4 x6, total]
theorem prob_apply : val_main_v50 (F := Ideal) x1 x3 x4 x6 (ix3 h s p) = prob (scores (qrow x1 x3 x4 s) x6 h) p := by
  pointwise [val_main_v50, val_main_v49, total_apply x1 x3 x4 x6, expo_apply x1 x3 x4 x6, prob]

/-! ## The gradient of the scores -/

theorem dout_apply : val_main_v62 (F := Ideal) x2 x5 (ix2 s j) = drow x2 x5 s j := by
  pointwise [val_main_v62, val_main_v59, dout, timesT, line]
theorem dh_apply : val_main_v64 (F := Ideal) x2 x5 (ix3 h d s) = drow x2 x5 s (hcol h d) := by
  pointwise [val_main_v64, val_main_v63, dout_apply x2 x5, hcol_eq]
theorem dprobs_apply : val_main_v65 (F := Ideal) x2 x5 x6 (ix3 h s p) = dprobs (drow x2 x5 s) x6 h p := by
  pointwise [val_main_v65, dh_apply x2 x5, v_apply x6, dprobs]
theorem inv_apply (u : Fin 1) : val_main_v53 (F := Ideal) x1 x3 x4 x6 (ix3 h s u)
    = Ideal.div 1 (total (scores (qrow x1 x3 x4 s) x6 h) * total (scores (qrow x1 x3 x4 s) x6 h)) := by
  pointwise [val_main_v53, val_main_v52, val_main_v51, val_main_cst_13, total_apply x1 x3 x4 x6]

theorem dtotal_apply : val_main_v76 (F := Ideal) x1 x2 x3 x4 x5 x6 (ix2 h s)
    = -(∑ k, dprobs (drow x2 x5 s) x6 h k * Ideal.div 1 (total (scores (qrow x1 x3 x4 s) x6 h) * total (scores (qrow x1 x3 x4 s) x6 h))
        * expo (scores (qrow x1 x3 x4 s) x6 h) k) := by
  pointwise [val_main_v76, val_main_v73, val_main_v72, val_main_v71, val_main_v70, val_main_v69, val_main_v68, val_main_cst_14, val_main_cst_15,
    inv_apply x1 x3 x4 x6, dprobs_apply x2 x5 x6, expo_apply x1 x3 x4 x6]
  exact Fin.sum_univ_one _

theorem raw_apply : val_main_v81 (F := Ideal) x1 x2 x3 x4 x5 x6 (ix3 h s p)
    = (Ideal.div (dprobs (drow x2 x5 s) x6 h p) (total (scores (qrow x1 x3 x4 s) x6 h))
      + -(∑ k, dprobs (drow x2 x5 s) x6 h k * Ideal.div 1 (total (scores (qrow x1 x3 x4 s) x6 h) * total (scores (qrow x1 x3 x4 s) x6 h))
        * expo (scores (qrow x1 x3 x4 s) x6 h) k)) * expo (scores (qrow x1 x3 x4 s) x6 h) p * ((1 / 16 : ℝ) : EReal) := by
  pointwise [val_main_v81, val_main_v80, val_main_v79, val_main_v78, val_main_v77, val_main_v75, val_main_v74, val_main_cst_16, Heads.ofBits_sixteenth,
    dtotal_apply x1 x2 x3 x4 x5 x6, total_apply x1 x3 x4 x6, dprobs_apply x2 x5 x6, expo_apply x1 x3 x4 x6]

end Cert.Reference

end
-- ==== Proof.Gradients.lean ====
/- The reference's five results, each the gradient that the kernel's arrays hold, when the scores are real numbers. -/
module

public import proofs.«01_k».proof.Proof.Reference

@[expose] public section

set_option maxRecDepth 16384

noncomputable section

namespace Cert.Gradients

open Idealize.ShloMosaic
open Cert.ReferenceIdeal Cert.ReferenceIdeal.Read Cert.Algebra Cert.Spec Cert.Step Cert.Reference

variable (x1 x2 : FVec Ideal S4096x1024 .f32) (x3 : FVec Ideal S1x1024 .f32) (x4 x5 : FVec Ideal S1024x1024 .f32)
  (x6 : FVec Ideal S256x2048 .f32)

/-- The queries, as the reference computes them, and the attention's output. -/
abbrev qs : Seq := val_main_v17 (F := Ideal) x1 x3 x4
abbrev os : Seq := val_main_v56 (F := Ideal) x1 x3 x4 x6

/-! ## The gradient of the values and of the output's weights: over all extended reals -/

theorem dv_apply (h : Fin 4) (d p : Fin 256) : val_main_v67 (F := Ideal) x1 x2 x3 x4 x5 x6 (ix3 p h d)
    = ∑ s, dkeys (line (qs x1 x3 x4) s) (dout x2 x5 s) x6 p (vcol h d) := by
  simp only [dkeys_v]
  pointwise [val_main_v67, val_main_v66, dh_apply x2 x5, prob_apply x1 x3 x4 x6]
  exact Finset.sum_congr rfl fun s _ => mul_comm _ _
theorem dwo_apply (j k : Fin 1024) : val_main_v116 (F := Ideal) x1 x2 x3 x4 x6 (ix2 k j) = Step.dwo x2 (os x1 x3 x4 x6) (ix2 k j) := by
  pointwise [val_main_v116, val_main_v61, val_main_v60, val_main_v59, Step.dwo, line]
  exact Finset.sum_congr rfl fun s _ => mul_comm _ _

/-! ## The others -/

variable (hr : ∀ s h p, Real' (scores (line (qs x1 x3 x4) s) x6 h p)) (s : Fin 4096) (j k : Fin 1024)
  (h : Fin 4) (d p : Fin 256)
include hr

theorem ds_apply : val_main_v81 (F := Ideal) x1 x2 x3 x4 x5 x6 (ix3 h s p)
    = dscores (line (qs x1 x3 x4) s) (dout x2 x5 s) x6 h p :=
  (raw_apply x1 x2 x3 x4 x5 x6 s h p).trans (dscore_eq _ _ (hr s h) p)
theorem dk_apply : val_main_v83 (F := Ideal) x1 x2 x3 x4 x5 x6 (ix3 p h d)
    = ∑ s, dkeys (line (qs x1 x3 x4) s) (dout x2 x5 s) x6 p (kcol h d) := by
  simp only [dkeys_k]
  pointwise [val_main_v83, val_main_v82, ds_apply x1 x2 x3 x4 x5 x6 hr, qh_apply x1 x3 x4, line]
theorem dqh_apply : val_main_v85 (F := Ideal) x1 x2 x3 x4 x5 x6 (ix3 s h d)
    = dq x2 (qs x1 x3 x4) x5 x6 s (hcol h d) := by
  simp only [dq, dquery, head_hcol, kof_hcol]
  pointwise [val_main_v85, val_main_v84, ds_apply x1 x2 x3 x4 x5 x6 hr, k_apply x6]
theorem dq_apply : val_main_v89 (F := Ideal) x1 x2 x3 x4 x5 x6 (ix2 s j) = dq x2 (qs x1 x3 x4) x5 x6 s j := by
  conv_rhs => rw [eq_hcol j, ← dqh_apply x1 x2 x3 x4 x5 x6 hr]
  pointwise [val_main_v89, head]
theorem dwq_apply : val_main_v115 (F := Ideal) x1 x2 x3 x4 x5 x6 (ix2 k j)
    = Step.dwq x1 x2 (qs x1 x3 x4) x3 x5 x6 (ix2 k j) := by
  pointwise [val_main_v115, val_main_v91, val_main_v90, weighted_apply x1 x3, dq_apply x1 x2 x3 x4 x5 x6 hr, Step.dwq]
  exact Finset.sum_congr rfl fun s _ => mul_comm _ _
theorem dhn_apply : val_main_v92 (F := Ideal) x1 x2 x3 x4 x5 x6 (ix2 s j) = dhn x2 (qs x1 x3 x4) x4 x5 x6 s j := by
  pointwise [val_main_v92, dq_apply x1 x2 x3 x4 x5 x6 hr, dhn, timesT]
theorem dg_apply (u : Fin 1) : val_main_v114 (F := Ideal) x1 x2 x3 x4 x5 x6 (ix2 u j)
    = Step.dg x1 x2 (qs x1 x3 x4) x4 x5 x6 (ix2 u j) := by
  pointwise [val_main_v114, val_main_v98, val_main_v95, val_main_v94, val_main_v93, val_main_cst_17, val_main_cst_18, normed_apply x1,
    dhn_apply x1 x2 x3 x4 x5 x6 hr, Step.dg]
  exact (Fin.sum_univ_one _).trans (Finset.sum_congr rfl fun s _ => mul_comm _ _)
theorem dhg_apply : val_main_v97 (F := Ideal) x1 x2 x3 x4 x5 x6 (ix2 s j)
    = dhn x2 (qs x1 x3 x4) x4 x5 x6 s j * gain x3 j := by
  pointwise [val_main_v97, val_main_v96, val_main_v14, val_main_v0, dhn_apply x1 x2 x3 x4 x5 x6 hr, gain]

theorem dsum_apply : val_main_v109 (F := Ideal) x1 x2 x3 x4 x5 x6 (ix2 s j)
    = Ideal.div ((∑ k, x1 (ix2 s k) * (dhn x2 (qs x1 x3 x4) x4 x5 x6 s k * gain x3 k))
      * (((-(1 / 2) : ℝ) : EReal) * Ideal.div (rinv (line x1 s)) (meansq (line x1 s)))) ((1024 : ℝ) : EReal) := by
  pointwise [val_main_v109, val_main_v108, val_main_v107, val_main_v106, val_main_v105, val_main_v101, val_main_v100, val_main_v99,
    val_main_cst_19, val_main_cst_20, val_main_cst_21, dhg_apply x1 x2 x3 x4 x5 x6 hr, dr_apply x1, Heads.ofBits_1024]
  exact Fin.sum_univ_one _
theorem dh1_apply : val_main_v113 (F := Ideal) x1 x2 x3 x4 x5 x6 (ix2 s j)
    = Step.dh1 x1 x2 (qs x1 x3 x4) x3 x4 x5 x6 (ix2 s j) := by
  refine Eq.trans ?_ (dnorm_eq (line x1 s) (fun k => dhn x2 (qs x1 x3 x4) x4 x5 x6 s k * gain x3 k) (x2 (ix2 s j)) j)
  pointwise [val_main_v113, val_main_v112, val_main_v111, val_main_v110, val_main_v104, val_main_v103, val_main_v102,
    dsum_apply x1 x2 x3 x4 x5 x6 hr, dhg_apply x1 x2 x3 x4 x5 x6 hr, r_apply x1, line]

/-- The gradient of the keys and the values: the columns of the keys, then those of the values. -/
theorem dkv_apply (c : Fin 2048) : val_main_v88 (F := Ideal) x1 x2 x3 x4 x5 x6 (ix2 p c)
    = Step.dkv x2 (qs x1 x3 x4) x5 x6 (ix2 p c) := by
  pointwise [val_main_v88, val_main_v87, val_main_v86, dk_apply x1 x2 x3 x4 x5 x6 hr, dv_apply x1 x2 x3 x4 x5 x6, Step.dkv]
  split
  · exact Finset.sum_congr rfl fun s _ => congrArg _ (Fin.ext (by simp only [kcol]; omega))
  · exact Finset.sum_congr rfl fun s _ => congrArg _ (Fin.ext (by simp only [vcol]; omega))

end Cert.Gradients

end
-- ==== Proof.Finite.lean ====
/- What the precondition says, and what follows from it: with the norm's weights, the query's weights and the keys real
   numbers, the scores are real numbers, whatever the input is. -/
module

public import proofs.«01_k».proof.Proof.Reference
public import proofs.«01_k».proof.Pre_finite
public import Idealize.ShloMosaic.Lib.Decide

@[expose] public section

set_option maxRecDepth 16384

noncomputable section

namespace Cert.Finite

open Idealize.ShloMosaic
open Cert.Algebra Cert.Spec Cert.Step

/-! ## The precondition -/

instance preFacts : Cert.Pre_finite.Facts where
  bcast_S_S1x1024 := by decide
  bcast_S_S1024x1024 := by decide
  slices_S256x2048_S256x1024_0_0 := by decide
  bcast_S_S256x1024 := by decide

theorem ofBits_top : Ideal.ofBits .f32 0x7F800000#32 = (⊤ : EReal) := by
  simp [Ideal.ofBits, Ideal.ieee]

/-- An absolute value below `⊤` is a real number's. -/
theorem real_of_abs (x : EReal) (h : Ideal.cmp .olt (max x (-x)) (Ideal.ofBits .f32 0x7F800000#32) = 1#1) : Real' x := by
  rw [ofBits_top] at h
  have hlt : max x (-x) < ⊤ := by
    by_contra hn
    simp [Ideal.cmp, hn] at h
  induction x with
  | bot => simp at hlt
  | top => simp at hlt
  | coe r => exact ⟨r, rfl⟩

section

variable (x0 : FVec Ideal Cert.Pre_finite.S8x128 .f32) (x1 x2 : FVec Ideal Cert.Pre_finite.S4096x1024 .f32)
  (x3 : FVec Ideal Cert.Pre_finite.S1x1024 .f32) (x4 x5 : FVec Ideal Cert.Pre_finite.S1024x1024 .f32)
  (x6 : FVec Ideal Cert.Pre_finite.S256x2048 .f32)

theorem gain_real (h : (Cert.Pre_finite.fn x0 x1 x2 x3 x4 x5 x6).1 = fun _ => 1#1) (j : Fin 1024) : Real' (gain x3 j) :=
  real_of_abs _ (congrFun h (ix2 0 j))
theorem wq_real (h : (Cert.Pre_finite.fn x0 x1 x2 x3 x4 x5 x6).2.1 = fun _ => 1#1) (k j : Fin 1024) : Real' (x4 (ix2 k j)) :=
  real_of_abs _ (congrFun h (ix2 k j))
theorem key_real (h : (Cert.Pre_finite.fn x0 x1 x2 x3 x4 x5 x6).2.2 = fun _ => 1#1) (p : Fin 256) (j : Fin 1024) :
    Real' (x6 (ix2 p (kof j))) := by
  refine real_of_abs _ ((congrArg (fun z => Ideal.cmp .olt (max z (-z)) _) ?_).trans (congrFun h (ix2 p j)))
  pointwise [kof]

end

/-! ## The scores are real numbers -/

theorem normed_real (x : Row) (j : Fin 1024) : Real' (normed x j) := by
  obtain ⟨r, _, hr, _⟩ := rinv_real x
  have hz : x j * x j = ⊤ → normed x j = 0 := fun ht => by
    have hs : ∑ k, x k * x k = ⊤ := top_le_iff.mp (ht ▸ Finset.single_le_sum (fun k _ => mul_self_nonneg' (x k)) (Finset.mem_univ j))
    obtain ⟨ε, _, hee⟩ := eps_pos
    rw [normed, rinv, meansq, hs, Ideal.div_coe (by norm_num), hee,
      EReal.top_mul_of_pos (by exact_mod_cast (by norm_num : (0 : ℝ) < 1 / 1024)), EReal.top_add_coe, Ideal.rsqrt_top, mul_zero]
  rcases h : x j with _ | _ | a
  · exact ⟨0, hz (by rw [h]; rfl)⟩
  · exact ⟨0, hz (by rw [h]; rfl)⟩
  · exact ⟨a * r, by rw [normed, h, hr, EReal.coe_mul]; rfl⟩

theorem scores_real (x w : Row) (W : Mat) (K : Keys) (hw : ∀ j, Real' (w j)) (hW : ∀ k j, Real' (W (ix2 k j)))
    (hK : ∀ p j, Real' (K (ix2 p (kof j)))) (h : Fin 4) (p : Fin 256) : Real' (scores (times (weighted x w) W) K h p) :=
  (Real'.sum _ _ fun d => (Real'.sum _ _ fun k => ((normed_real x k).mul (hw k)).mul (hW k _)).mul
    (kof_hcol h d ▸ hK p (hcol h d))).mul ⟨_, rfl⟩

end Cert.Finite

end
-- ==== Proof.Equation.lean ====
/- The kernel's five output arrays are the reference's five results on the same arguments, when the norm's weights, the
   query's weights and the keys are real numbers. -/
module

public import proofs.«01_k».proof.Proof.Host
public import proofs.«01_k».proof.Proof.Gradients
public import proofs.«01_k».proof.Proof.Finite

@[expose] public section

set_option maxRecDepth 16384

noncomputable section

namespace Cert.Equation

open Idealize.ShloMosaic Idealize.ShloMosaic.TcCoe Idealize.SL.Sem
open Cert.KernelIdeal Cert.KernelIdeal.Gen Cert.Algebra Cert.Spec Cert.Host Cert.Arrays
open Cert.ReferenceIdeal.Read

variable (m : (ℓ : Loc nD τ sig) → Buf (Elt Ideal) ℓ) (c : Dev nD)

theorem dwo_eq : (dats m 0 c).arrAt 10 cfg0.N = val_main_v116 (F := Ideal) (h1 m c) (dh2 m c) (gxa m c) (wq m c) (kv m c) := by
  rw [arr10, aDY_eq, aO_eq]
  funext y; rw [eq_ix2 y]
  exact (Gradients.dwo_apply ..).symm

variable (hg : ∀ j, Real' (Step.gain (gxa m c) j)) (hq : ∀ k j, Real' (wq m c (ix2 k j)))
  (hk : ∀ p j, Real' (kv m c (ix2 p (kof j))))
include hg hq hk

/-- Every row's scores are real numbers. -/
theorem real (s : Fin 4096) (h : Fin 4) (p : Fin 256) :
    Real' (scores (Step.line (Gradients.qs (h1 m c) (gxa m c) (wq m c)) s) (kv m c) h p) := by
  rw [show Step.line (Gradients.qs (h1 m c) (gxa m c) (wq m c)) s = times (weighted (Step.line (h1 m c) s) (Step.gain (gxa m c))) (wq m c)
    from funext fun j => Reference.q_apply ..]
  exact Finite.scores_real _ _ _ _ hg hq hk h p

theorem dh1_eq : (dats m 0 c).arrAt 8 cfg0.N
    = val_main_v113 (F := Ideal) (h1 m c) (dh2 m c) (gxa m c) (wq m c) (wo m c) (kv m c) := by
  rw [arr8, aX_eq, aDY_eq, aQ_eq, aw_eq, aWQ_eq, aWO_eq, aKV_eq]
  funext y; rw [eq_ix2 y]
  exact (Gradients.dh1_apply _ _ _ _ _ _ (real m c hg hq hk) ..).symm

theorem dwq_eq : (dats m 0 c).arrAt 9 cfg0.N
    = val_main_v115 (F := Ideal) (h1 m c) (dh2 m c) (gxa m c) (wq m c) (wo m c) (kv m c) := by
  rw [arr9, aX_eq, aDY_eq, aQ_eq, aw_eq, aWO_eq, aKV_eq]
  funext y; rw [eq_ix2 y]
  exact (Gradients.dwq_apply _ _ _ _ _ _ (real m c hg hq hk) ..).symm

theorem dkv_eq : (dats m 0 c).arrAt 11 cfg0.N
    = val_main_v88 (F := Ideal) (h1 m c) (dh2 m c) (gxa m c) (wq m c) (wo m c) (kv m c) := by
  rw [arr11, aDY_eq, aQ_eq, aWO_eq, aKV_eq]
  funext y; rw [eq_ix2 y]
  exact (Gradients.dkv_apply _ _ _ _ _ _ (real m c hg hq hk) ..).symm

theorem dg_eq : (dats m 0 c).arrAt 12 cfg0.N
    = val_main_v114 (F := Ideal) (h1 m c) (dh2 m c) (gxa m c) (wq m c) (wo m c) (kv m c) := by
  rw [arr12, aX_eq, aDY_eq, aQ_eq, aWQ_eq, aWO_eq, aKV_eq]
  funext y; rw [eq_ix2 y]
  exact (Gradients.dg_apply _ _ _ _ _ _ (real m c hg hq hk) ..).symm

end Cert.Equation

end
-- ==== Proof.FfnSpec.lean ====
/- The gradient of the feed-forward block of the network, row by row, as the kernel computes it: a gate and an up
   projection of 2816 columns each, kept side by side in 5632 columns (the gate first), the gate through `x / (1 + exp (-x))`,
   and a down projection back to 1024 columns. -/
module

public import proofs.«01_k».proof.Proof.Step

@[expose] public section

noncomputable section

namespace Cert.Ffn

open Idealize.ShloMosaic Cert.Algebra Cert.Spec Cert.Step

/-! ## The gate's derivative -/

/-- The derivative of the gate, applied to a real gradient `t`, as differentiation gives it is the kernel's. -/
theorem dgate_eq (g t : EReal) (ht : Real' t) :
    t * Ideal.logistic g + g * t * (Ideal.logistic g * (1 - Ideal.logistic g))
      = t * (Ideal.logistic g * (1 + g * (1 - Ideal.logistic g))) := by
  obtain ⟨b, rfl⟩ := ht
  have h1 : (1 : EReal) - 1 = 0 := by rw [← EReal.coe_one, ← EReal.coe_sub, sub_self, EReal.coe_zero]
  induction g with
  | bot => simp
  | top => simp [h1]
  | coe a =>
    rw [Ideal.logistic_coe, ← EReal.coe_one, ← EReal.coe_sub]
    simp only [← EReal.coe_mul, ← EReal.coe_add]
    congr 1; ring

/-! ## One row -/

abbrev Half := Fin 2816 → EReal
abbrev Down := (⟨2, ![2816, 1024]⟩ : Shape).Idx → EReal

variable (g u d dg du : Half) (y : Row) (A B W : Down)

/-- The block's middle activations, and the gradient of them. -/
def act : Half := fun j => g j * Ideal.logistic (g j) * u j
def dact : Half := fun j => ∑ k : Fin 1024, y k * W (ix2 j k)
/-- The gradients of the gate and of the up projection. -/
def dgate : Half := fun j => d j * u j * (Ideal.logistic (g j) * (1 + g j * (1 - Ideal.logistic (g j))))
def dup : Half := fun j => d j * (g j * Ideal.logistic (g j))
/-- The gradient of the normed row. -/
def back : Row := fun k => ∑ j : Fin 2816, dg j * A (ix2 j k) + ∑ j : Fin 2816, du j * B (ix2 j k)

/-! ## All rows -/

/-- A gate's column and an up projection's column among the 5632. -/
def gcol (j : Fin 2816) : Fin 5632 := ⟨j.val, by omega⟩
def ucol (j : Fin 2816) : Fin 5632 := ⟨2816 + j.val, by omega⟩

abbrev Wide := (⟨2, ![4096, 5632]⟩ : Shape).Idx → EReal
abbrev Back := (⟨2, ![5632, 1024]⟩ : Shape).Idx → EReal

/-- The columns of the one, then those of the other. -/
def wide (c : Fin 5632) : EReal :=
  if h : c.val < 2816 then dg ⟨c.val, h⟩ else du ⟨c.val - 2816, by omega⟩
theorem wide_gate (j : Fin 2816) : wide dg du (gcol j) = dg j := dif_pos j.isLt
theorem wide_up (j : Fin 2816) : wide dg du (ucol j) = du j :=
  (dif_neg (by simp only [ucol]; omega)).trans (congrArg du (Fin.ext (by simp only [ucol]; omega)))

variable (X DY : Seq) (w : Gain) (G : Wide) (T : Back) (s : Fin 4096)

def gate : Half := fun j => G (ix2 s (gcol j))
def up : Half := fun j => G (ix2 s (ucol j))
/-- The rows of the gate and of the up projection in the transposed weights. -/
def gateT : Down := fun y => T (ix2 (gcol (y 0)) (y 1))
def upT : Down := fun y => T (ix2 (ucol (y 0)) (y 1))

abbrev rdact : Half := dact (line DY s) W
abbrev rdgate : Half := dgate (gate G s) (up G s) (rdact W DY s)
abbrev rdup : Half := dup (gate G s) (rdact W DY s)
abbrev rdhn : Row := back (rdgate W DY G s) (rdup W DY G s) (gateT T) (upT T)

/-- The gradient of the input, the middle activations, the gradient of both projections and of the norm's weights. -/
def dh2 (y : (⟨2, ![4096, 1024]⟩ : Shape).Idx) : EReal :=
  dinput (line X (y 0)) (gain w) (line DY (y 0)) (rdhn W DY G T (y 0)) (y 1)
def acts (y : (⟨2, ![4096, 2816]⟩ : Shape).Idx) : EReal := act (gate G (y 0)) (up G (y 0)) (y 1)
def dwide (y : (⟨2, ![4096, 5632]⟩ : Shape).Idx) : EReal := wide (rdgate W DY G (y 0)) (rdup W DY G (y 0)) (y 1)
def dgain (y : (⟨2, ![1, 1024]⟩ : Shape).Idx) : EReal :=
  ∑ s : Fin 4096, rdhn W DY G T s (y 1) * normed (line X s) (y 1)

end Cert.Ffn

end
-- ==== Proof.FfnPoints.lean ====
/- What one grid point of the feed-forward block's gradient computes from its blocks of 256 rows. -/
module

public import proofs.«01_k».proof.Proof.FfnSpec
public import proofs.«01_k».proof.Proof.Heads
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.FfnPoints

open Idealize.ShloMosaic Idealize.ShloMosaic.TcCoe Idealize.SL.Sem
open Cert.Kernel2Ideal Cert.Kernel2Ideal.Gen Cert.Algebra Cert.Spec Cert.Ffn

/-- Row `i` of a block. -/
def row {n c : ℕ} (X : (⟨2, ![n, c]⟩ : Shape).Idx → EReal) (i : Fin n) : Fin c → EReal := fun j => X (ix2 i j)
/-- The norm's weights, one row. -/
def wrow (w : FVec Ideal S1x1024 .f32) : Row := fun j => w (ix2 0 j)

/-! ## The operations, read at an index -/

variable (X DY : FVec Ideal S256x1024 .f32) (g u d : FVec Ideal S256x2816 .f32) (w : FVec Ideal S1x1024 .f32)
  (A B W : FVec Ideal S2816x1024 .bf16) (i : Fin 256) (j : Fin 2816) (k : Fin 1024)

theorem one_apply : Ideal.ofBits .f32 0x3F800000#32 = (1 : EReal) := by
  simp [Ideal.ofBits, Ideal.ieee]; rw [← EReal.coe_mul]; norm_num

theorem rinv_apply (v : Fin 1) : k0_pay1 (F := Ideal) X (ix2 i v) = rinv (row X i) := by
  pointwise [k0_pay1, rinv, meansq, row, Heads.ofBits_1024, eps]
theorem normed_apply : k0_pay2 (F := Ideal) X (ix2 i k) = normed (row X i) k := by
  pointwise [k0_pay2, rinv_apply X, normed, row]
theorem act_apply : k0_pay10 (F := Ideal) g u (ix2 i j) = act (row g i) (row u i) j := by
  pointwise [k0_pay10, k0_pay9, k0_pay8, k0_pay7, k0_pay6, act, row]
theorem dact_apply : k0_pay11 (F := Ideal) DY W (ix2 i j) = dact (row DY i) W j := by
  pointwise [k0_pay11, dact, row]

/-- The gradients of the gate and of the up projection, as the kernel names their factors. -/
abbrev DG : FVec Ideal S256x2816 .bf16 := k0_pay15 (F := Ideal) (k0_pay8 g) (k0_pay12 DY u W) (k0_pay13 g) k0_pay14
abbrev DU : FVec Ideal S256x2816 .bf16 := k0_pay16 (F := Ideal) (k0_pay9 g) (k0_pay11 DY W)

theorem dgate_apply : DG DY g u W (ix2 i j) = dgate (row g i) (row u i) (dact (row DY i) W) j := by
  pointwise [k0_pay15, k0_pay14, k0_pay13, k0_pay12, k0_pay8, k0_pay7, k0_pay6, dact_apply DY W, dgate, row, one_apply]
theorem dup_apply : DU DY g W (ix2 i j) = dup (row g i) (dact (row DY i) W) j := by
  pointwise [k0_pay16, k0_pay9, k0_pay8, k0_pay6, dact_apply DY W, dup, row]

/-- The gradient of the normed row. -/
abbrev dhn : Row := back (dgate (row g i) (row u i) (dact (row DY i) W)) (dup (row g i) (dact (row DY i) W)) A B
abbrev DHN : FVec Ideal S256x1024 .f32 := k0_pay17 (F := Ideal) k0_pay3 (k0_pay4 A) (k0_pay5 B) (k0_pay8 g) (k0_pay9 g)
  (k0_pay11 DY W) (k0_pay12 DY u W) (k0_pay13 g) k0_pay14

theorem dhn_apply : DHN DY g u A B W (ix2 i k) = dhn DY g u A B W i k := by
  pointwise [k0_pay17, k0_pay3, k0_pay4, k0_pay5, dgate_apply DY g u W, dup_apply DY g W, back]

theorem dh2_apply : k0_pay18 (F := Ideal) (k0_pay1 X) (k0_pay2 X) k0_pay3 (k0_pay4 A) (k0_pay5 B) (k0_pay8 g) (k0_pay9 g)
    (k0_pay11 DY W) (k0_pay12 DY u W) (k0_pay13 g) k0_pay14 w DY (ix2 i k)
    = dinput (row X i) (wrow w) (row DY i) (dhn DY g u A B W i) k := by
  pointwise [k0_pay18, rinv_apply X, normed_apply X, dhn_apply DY g u A B W, dinput, wrow, row, Heads.ofBits_1024]

theorem dg_apply (S : FVec Ideal S1x1024 .f32) (v : Fin 1) : k0_pay20 (F := Ideal) (k0_pay2 X) k0_pay3 (k0_pay4 A) (k0_pay5 B)
    (k0_pay8 g) (k0_pay9 g) (k0_pay11 DY W) (k0_pay12 DY u W) (k0_pay13 g) k0_pay14 S (ix2 v k)
    = S (ix2 v k) + ∑ i : Fin 256, dhn DY g u A B W i k * normed (row X i) k := by
  pointwise [k0_pay20, normed_apply X, dhn_apply DY g u A B W]

theorem zero_apply (y : S1x1024.Idx) : k0_pay19 (F := Ideal) y = 0 := by pointwise [k0_pay19]

/-! ## A point's blocks, at their types -/

variable (m : (ℓ : Loc nD τ sig) → Buf (Elt Ideal) ℓ) (c : Dev nD) (t : Fin cfg0.N)

abbrev bX : FVec Ideal S256x1024 .f32 := iblk m c 0 t
abbrev bDY : FVec Ideal S256x1024 .f32 := iblk m c 1 t
abbrev bG : FVec Ideal S256x5632 .f32 := iblk m c 2 t
abbrev bw : FVec Ideal S1x1024 .f32 := iblk m c 3 t
abbrev bT : FVec Ideal S5632x1024 .bf16 := iblk m c 4 t
abbrev bW : FVec Ideal S2816x1024 .bf16 := iblk m c 5 t

/-- The halves that the kernel loads: the gate's and the up projection's columns, and their rows of the weights. -/
abbrev gld (G : Vec Ideal S256x5632 .f32) : Vec Ideal S256x2816 .f32 :=
  View.ld (Val := Elt Ideal) G (Rect.unit (s := S256x5632) ![0, 0] ![256, 2816] inb_S256x5632_S256x2816_0_0)
abbrev uld (G : Vec Ideal S256x5632 .f32) : Vec Ideal S256x2816 .f32 :=
  View.ld (Val := Elt Ideal) G (Rect.unit (s := S256x5632) ![0, 2816] ![256, 2816] inb_S256x5632_S256x2816_0_2816)
abbrev ald (T : Vec Ideal S5632x1024 .bf16) : Vec Ideal S2816x1024 .bf16 :=
  View.ld (Val := Elt Ideal) T (Rect.unit (s := S5632x1024) ![0, 0] ![2816, 1024] inb_S5632x1024_S2816x1024_0_0)
abbrev bld (T : Vec Ideal S5632x1024 .bf16) : Vec Ideal S2816x1024 .bf16 :=
  View.ld (Val := Elt Ideal) T (Rect.unit (s := S5632x1024) ![2816, 0] ![2816, 1024] inb_S5632x1024_S2816x1024_2816_0)
abbrev bg : FVec Ideal S256x2816 .f32 := gld (bG m c t)
abbrev bu : FVec Ideal S256x2816 .f32 := uld (bG m c t)
abbrev bA : FVec Ideal S2816x1024 .bf16 := ald (bT m c t)
abbrev bB : FVec Ideal S2816x1024 .bf16 := bld (bT m c t)

theorem bg_row : row (bg m c t) i = fun j => bG m c t (ix2 i (gcol j)) :=
  funext fun j => View.ld_unit_apply_of _ _ _ _ _ _ fun a => by match a with | 0 => simp | 1 => simp [gcol]
theorem bu_row : row (bu m c t) i = fun j => bG m c t (ix2 i (ucol j)) :=
  funext fun j => View.ld_unit_apply_of _ _ _ _ _ _ fun a => by match a with | 0 => simp | 1 => simp [ucol]
theorem bA_eq : bA m c t = gateT (bT m c t) :=
  funext fun y => View.ld_unit_apply_of _ _ _ _ _ _ fun a => by match a with | 0 => simp [gcol] | 1 => simp
theorem bB_eq : bB m c t = upT (bT m c t) :=
  funext fun y => View.ld_unit_apply_of _ _ _ _ _ _ fun a => by match a with | 0 => simp [ucol] | 1 => simp

abbrev pdhn : Row := dhn (bDY m c t) (bg m c t) (bu m c t) (bA m c t) (bB m c t) (bW m c t) i

/-! ## What a point leaves -/

theorem dh2_point : (outsAt0 m c t.val t.isLt).1 (ix2 i k)
    = dinput (row (bX m c t) i) (wrow (bw m c t)) (row (bDY m c t) i) (pdhn i m c t) k := by
  by_cases h0 : t.val % 16 = 0
  · rw [outsAt0_A m c t h0]
    frame_out
    exact dh2_apply ..
  · rw [outsAt0_B m c t h0]
    frame_out
    exact dh2_apply ..

theorem act_point : (outsAt0 m c t.val t.isLt).2.1 (ix2 i j) = act (row (bg m c t) i) (row (bu m c t) i) j := by
  by_cases h0 : t.val % 16 = 0
  · rw [outsAt0_A m c t h0]
    frame_out
    exact act_apply ..
  · rw [outsAt0_B m c t h0]
    frame_out
    exact act_apply ..

/-- The two stores of 2816 columns each. -/
theorem canon_wide (DG DU : FVec Ideal S256x2816 .bf16) (dg du : Fin 256 → Half) (hg : ∀ i j, DG (ix2 i j) = dg i j)
    (hu : ∀ i j, DU (ix2 i j) = du i j) (y : S256x5632.Idx) :
    View.canon [(⟨Rect.unit (s := S256x5632) ![0, 2816] ![256, 2816] inb_S256x5632_S256x2816_0_2816, DU⟩ : View.Piece (Elt Ideal) S256x5632 .bf16),
      ⟨Rect.unit (s := S256x5632) ![0, 0] ![256, 2816] inb_S256x5632_S256x2816_0_0, DG⟩] y = wide (dg (y 0)) (du (y 0)) (y 1) := by
  have at' : ∀ (x : S256x2816.Idx) (n : Fin 5632), (y 0 : Fin 256).val = (x 0 : Fin 256).val → (y 1 : Fin 5632).val = n.val →
      y = ix2 (x 0) n := fun x n e0 e1 => (eq_ix2 y).trans ((ix2_inj ..).2 ⟨Fin.ext e0, Fin.ext e1⟩)
  canon_tiles x h
  · rw [at' x (ucol (x 1)) h0 h1, eq_ix2 x]
    exact (hu _ _).trans (wide_up _ _ _).symm
  · rw [at' x (gcol (x 1)) h0 h1, eq_ix2 x]
    exact (hg _ _).trans (wide_gate _ _ _).symm

theorem wide_point (y : S256x5632.Idx) : (outsAt0 m c t.val t.isLt).2.2.1 y
    = wide (dgate (row (bg m c t) (y 0)) (row (bu m c t) (y 0)) (dact (row (bDY m c t) (y 0)) (bW m c t)))
      (dup (row (bg m c t) (y 0)) (dact (row (bDY m c t) (y 0)) (bW m c t))) (y 1) := by
  have h := canon_wide (DG (bDY m c t) (bg m c t) (bu m c t) (bW m c t)) (DU (bDY m c t) (bg m c t) (bW m c t)) _ _
    (fun i j => dgate_apply ..) (fun i j => dup_apply ..) y
  by_cases h0 : t.val % 16 = 0
  · rw [outsAt0_A m c t h0]
    frame_out
    exact h
  · rw [outsAt0_B m c t h0]
    frame_out
    exact h

/-- A point's share of the gradient of the norm's weights. -/
def dgs (y : S1x1024.Idx) : EReal := ∑ i : Fin 256, pdhn i m c t (y 1) * normed (row (bX m c t) i) (y 1)

theorem dg_first (h0 : t.val % 16 = 0) (y : S1x1024.Idx) :
    (outsAt0 m c t.val t.isLt).2.2.2 y = (0 : EReal) + dgs m c t y := by
  rw [outsAt0_A m c t h0, eq_ix2 y]
  frame_out
  refine (dg_apply ..).trans ?_
  rw [zero_apply]; rfl

theorem dg_next (h0 : ¬t.val % 16 = 0) (y : S1x1024.Idx) : (outsAt0 m c t.val t.isLt).2.2.2 y
    = (show EReal from (outsAt0 m c (t.val - 1) (Nat.lt_of_le_of_lt (Nat.sub_le _ _) t.isLt)).2.2.2 y) + dgs m c t y := by
  rw [outsAt0_B m c t h0, eq_ix2 y]
  frame_out
  exact dg_apply ..

end Cert.FfnPoints

end
-- ==== Proof.FfnArrays.lean ====
/- What the output arrays of the feed-forward block's gradient hold at the end, from what its input arrays hold when it
   starts, and what those hold. -/
module

public import proofs.«01_k».proof.Proof.FfnPoints
public import proofs.«01_k».proof.Proof.Gen.Reference2Ideal.Read

@[expose] public section

set_option maxRecDepth 16384

noncomputable section

namespace Cert.FfnArrays

open Idealize.ShloMosaic Idealize.ShloMosaic.TcCoe Idealize.SL.Sem
open Idealize.ShloMosaic.Pipeline (Dat)
open Cert.Kernel2Ideal Cert.Kernel2Ideal.Gen Cert.Algebra Cert.Spec Cert.Ffn Cert.FfnPoints

variable (m : (ℓ : Loc nD τ sig) → Buf (Elt Ideal) ℓ) (c : Dev nD) (t : Fin cfg0.N)

/-! ## The input arrays when the kernel starts -/

abbrev aX : Step.Seq := V m c main_arg0
abbrev aDY : Step.Seq := V m c main_arg1
abbrev aG : Wide := V m c main_v14
abbrev aw : Step.Gain := V m c main_arg2
abbrev aT : Back := V m c main_v16
abbrev aW : Down := V m c main_v17

/-! ## Where the blocks lie -/

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

theorem lt16 (t : Fin cfg0.N) : t.val < 16 := Nat.lt_of_lt_of_eq t.isLt N_0

/-- Row `i` of point `t`'s blocks is this row of the arrays. -/
def at' (t : Fin cfg0.N) (i : Fin 256) : Fin 4096 := ⟨t.val * 256 + i.val, by have := lt16 t; omega⟩

variable (i : Fin 256)

theorem X_row : row (bX m c t) i = Step.line (aX m c) (at' t i) := by
  funext j; show bX m c t (ix2 i j) = _
  blk_point [iblk, V, idx t]; rfl
theorem DY_row : row (bDY m c t) i = Step.line (aDY m c) (at' t i) := by
  funext j; show bDY m c t (ix2 i j) = _
  blk_point [iblk, V, idx t]; rfl
theorem G_apply (n : Fin 5632) : bG m c t (ix2 i n) = aG m c (ix2 (at' t i) n) := by
  blk_point [iblk, V, idx t]; rfl
theorem w_eq : bw m c t = aw m c := by
  funext y; rw [eq_ix2 y]; blk_point [iblk, V, idx t]
theorem T_eq : bT m c t = aT m c := by
  funext y; rw [eq_ix2 y]; blk_point [iblk, V, idx t]
theorem W_eq : bW m c t = aW m c := by
  funext y; rw [eq_ix2 y]; blk_point [iblk, V, idx t]

/-! ## A point's rows -/

theorem g_row : row (bg m c t) i = gate (aG m c) (at' t i) := by
  rw [bg_row]; funext j; exact G_apply m c t i (gcol j)
theorem u_row : row (bu m c t) i = up (aG m c) (at' t i) := by
  rw [bu_row]; funext j; exact G_apply m c t i (ucol j)
theorem wrow_eq : wrow (bw m c t) = Step.gain (aw m c) := by rw [w_eq]; rfl
theorem dhn_row : pdhn i m c t = rdhn (aW m c) (aDY m c) (aG m c) (aT m c) (at' t i) := by
  simp only [pdhn, dhn, g_row, u_row, DY_row, bA_eq, bB_eq, T_eq, W_eq]

theorem dh2_at (k : Fin 1024) : (outsAt0 m c t.val t.isLt).1 (ix2 i k)
    = dh2 (aW m c) (aX m c) (aDY m c) (aw m c) (aG m c) (aT m c) (ix2 (at' t i) k) := by
  rw [dh2_point, X_row, DY_row, wrow_eq, dhn_row]; rfl
theorem act_at (j : Fin 2816) : (outsAt0 m c t.val t.isLt).2.1 (ix2 i j) = acts (aG m c) (ix2 (at' t i) j) := by
  rw [act_point, g_row, u_row]; rfl
theorem wide_at (n : Fin 5632) : (outsAt0 m c t.val t.isLt).2.2.1 (ix2 i n)
    = dwide (aW m c) (aDY m c) (aG m c) (ix2 (at' t i) n) := by
  refine (wide_point m c t (ix2 i n)).trans ?_
  show wide (dgate (row (bg m c t) i) (row (bu m c t) i) (dact (row (bDY m c t) i) (bW m c t)))
    (dup (row (bg m c t) i) (dact (row (bDY m c t) i) (bW m c t))) n = _
  rw [g_row, u_row, DY_row, W_eq]; rfl

theorem dgs_eq (y : S1x1024.Idx) : dgs m c t y = ∑ i : Fin 256,
    rdhn (aW m c) (aDY m c) (aG m c) (aT m c) (at' t i) (y 1) * normed (Step.line (aX m c) (at' t i)) (y 1) :=
  Finset.sum_congr rfl fun i _ => by rw [dhn_row, X_row]

/-- The points' rows are all the rows. -/
theorem sum_rows (f : Fin 4096 → EReal) : ∑ t : Fin cfg0.N, ∑ i : Fin 256, f (at' t i) = ∑ s : Fin 4096, f s :=
  (Fin.sum_univ_tiles cfg0.N 256 (by rw [show cfg0.N = 16 from N_0]) f).symm

/-! ## The output arrays -/

/-- The last point. -/
def tlast : Fin cfg0.N := ⟨15, by rw [show cfg0.N = 16 from N_0]; decide⟩
theorem tlast_succ : tlast.val + 1 = cfg0.N := (N_0 : cfg0.N = 16).symm

theorem dg_sum (y : S1x1024.Idx) : (outsAt0 m c tlast.val tlast.isLt).2.2.2 y
    = dgain (aW m c) (aX m c) (aDY m c) (aG m c) (aT m c) y := by
  refine (Pipeline.eq_sum_fin_of_reset_step_apply_last (M := EReal) (fun n hn y => (outsAt0 m c n hn).2.2.2 y) 16 (fun _ => 0)
    (dgs m c) (fun t h => dg_first m c t h) (fun t h => dg_next m c t h) (le_of_eq N_0) tlast tlast_succ y).trans ?_
  simp only [dgs_eq]
  rw [zero_add, sum_rows fun s => rdhn (aW m c) (aDY m c) (aG m c) (aT m c) s (y 1) * normed (Step.line (aX m c) s) (y 1)]; rfl

theorem arr6 : (dats m 0 c).arrAt 6 cfg0.N = dh2 (aW m c) (aX m c) (aDY m c) (aw m c) (aG m c) (aT m c) := by
  refine (dats m 0 c).arrAt_eq_of_covers 6 _ (by decide +kernel) fun t _ y => ?_
  blk_simp
  rw [after0_6]
  refine (congrArg _ (eq_ix2 _)).trans ((dh2_at m c t _ _).trans (congrArg _ ?_))
  blk_ext [idx t, at']
theorem arr7 : (dats m 0 c).arrAt 7 cfg0.N = acts (aG m c) := by
  refine (dats m 0 c).arrAt_eq_of_covers 7 _ (by decide +kernel) fun t _ y => ?_
  blk_simp
  rw [after0_7]
  refine (congrArg _ (eq_ix2 _)).trans ((act_at m c t _ _).trans (congrArg _ ?_))
  blk_ext [idx t, at']
theorem arr8 : (dats m 0 c).arrAt 8 cfg0.N = dwide (aW m c) (aDY m c) (aG m c) := by
  refine (dats m 0 c).arrAt_eq_of_covers 8 _ (by decide +kernel) fun t _ y => ?_
  blk_simp
  rw [after0_8]
  refine (congrArg _ (eq_ix2 _)).trans ((wide_at m c t _ _).trans (congrArg _ ?_))
  blk_ext [idx t, at']
theorem arr9 : (dats m 0 c).arrAt 9 cfg0.N = dgain (aW m c) (aX m c) (aDY m c) (aG m c) (aT m c) := by
  refine (dats m 0 c).arrAt_eq_of_after_last 9 tlast (by decide +kernel) _ fun j => ?_
  blk_simp
  rw [after0_9]
  exact dg_sum m c j

/-! ## What the input arrays hold -/

abbrev h2 : FVec Ideal S4096x1024 .f32 := m ((c : Thread nD τ).loc main_arg0)
abbrev dh3 : FVec Ideal S4096x1024 .f32 := m ((c : Thread nD τ).loc main_arg1)
abbrev gffn : FVec Ideal S1x1024 .f32 := m ((c : Thread nD τ).loc main_arg2)
abbrev wgu : FVec Ideal S1024x5632 .f32 := m ((c : Thread nD τ).loc main_arg3)
abbrev wdown : FVec Ideal S2816x1024 .f32 := m ((c : Thread nD τ).loc main_arg4)

/-- The transposed weights of the gate and of the up projection. -/
def flip (W : FVec Ideal S1024x5632 .f32) : Back := transpose S5632x1024 [1, 0] W transposes_S1024x5632_S5632x1024_1_0
theorem flip_apply (W : FVec Ideal S1024x5632 .f32) (n : Fin 5632) (k : Fin 1024) : flip W (ix2 n k) = W (ix2 k n) := by
  pointwise [flip]

theorem aX_eq : aX m c = h2 m c := V_main_arg0 m c
theorem aDY_eq : aDY m c = dh3 m c := V_main_arg1 m c
theorem aw_eq : aw m c = gffn m c := V_main_arg2 m c
theorem aG_eq : aG m c = Cert.Reference2Ideal.Read.val_main_v17 (F := Ideal) (h2 m c) (gffn m c) (wgu m c) := by
  show StableHlo.after hostOps0 (fun b => m (c, b)) _ = _
  after_results_simp; rfl
theorem aT_eq : aT m c = flip (wgu m c) := by
  show StableHlo.after hostOps0 (fun b => m (c, b)) _ = _
  after_results_simp; rfl
theorem aW_eq : aW m c = wdown m c := by
  show StableHlo.after hostOps0 (fun b => m (c, b)) _ = _
  after_results_simp; rfl

end Cert.FfnArrays

end
-- ==== Proof.FfnReference.lean ====
/- The feed-forward block's reference read at an index: the gate and its derivative, then the block's gradients, which are
   the kernel's when the gradient of the gate's output is a real number. -/
module

public import proofs.«01_k».proof.Proof.Reference
public import proofs.«01_k».proof.Proof.FfnArrays

@[expose] public section

set_option maxRecDepth 16384

noncomputable section

namespace Cert.FfnReference

open Idealize.ShloMosaic
open Cert.Reference2Ideal Cert.Reference2Ideal.Read Cert.Algebra Cert.Spec Cert.Step Cert.Ffn Cert.FfnArrays

variable (x0 x1 : FVec Ideal S4096x1024 .f32) (x2 : FVec Ideal S1x1024 .f32) (x3 : FVec Ideal S1024x5632 .f32)
  (x4 : FVec Ideal S2816x1024 .f32)

section

variable (s : Fin 4096) (j : Fin 2816) (k : Fin 1024) (n : Fin 5632)

/-! ## The norm -/

theorem ms_apply (u : Fin 1) : val_main_v7 (F := Ideal) x0 (ix2 s u) = meansq (line x0 s) := by
  pointwise [val_main_v7, val_main_v6, val_main_v5, val_main_v4, val_main_v3, val_main_v2, val_main_v1, val_main_cst, val_main_cst_0, val_main_cst_1,
    meansq, line, Heads.ofBits_1024, eps]
theorem r_apply (u : Fin 1) : val_main_v8 (F := Ideal) x0 (ix2 s u) = rinv (line x0 s) := by
  pointwise [val_main_v8, ms_apply x0, rinv]
theorem dr_apply (u : Fin 1) : val_main_v11 (F := Ideal) x0 (ix2 s u)
    = ((-(1 / 2) : ℝ) : EReal) * Ideal.div (rinv (line x0 s)) (meansq (line x0 s)) := by
  pointwise [val_main_v11, val_main_v10, val_main_v9, val_main_cst_2, r_apply x0, ms_apply x0, Reference.ofBits_neghalf]
theorem normed_apply : val_main_v13 (F := Ideal) x0 (ix2 s k) = normed (line x0 s) k := by
  pointwise [val_main_v13, val_main_v12, r_apply x0, normed, line]
theorem weighted_apply : val_main_v16 (F := Ideal) x0 x2 (ix2 s k) = weighted (line x0 s) (gain x2) k := by
  pointwise [val_main_v16, val_main_v15, val_main_v14, val_main_v0, normed_apply x0, weighted, gain]

/-! ## The gate -/

/-- The gate and the up projection of every row. -/
abbrev gus : Wide := val_main_v17 (F := Ideal) x0 x2 x3

theorem gus_apply : gus x0 x2 x3 (ix2 s n) = ∑ k : Fin 1024, weighted (line x0 s) (gain x2) k * x3 (ix2 k n) := by
  pointwise [gus, val_main_v17, weighted_apply x0 x2]
theorem gate_apply : val_main_v18 (F := Ideal) x0 x2 x3 (ix2 s j) = gate (gus x0 x2 x3) s j := by
  pointwise [val_main_v18, gate, gcol]
theorem up_apply : val_main_v19 (F := Ideal) x0 x2 x3 (ix2 s j) = up (gus x0 x2 x3) s j := by
  pointwise [val_main_v19, up, ucol]
theorem sigmoid_apply : val_main_v20_2 (F := Ideal) x0 x2 x3 (ix2 s j) = Ideal.logistic (gate (gus x0 x2 x3) s j) := by
  pointwise [val_main_v20_2, val_main_call0_v4, val_main_call0_cst_0, val_main_call0_v3, val_main_call0_v2, val_main_call0_cst,
    val_main_call0_v1, val_main_call0_v0, gate_apply x0 x2 x3, FfnPoints.one_apply, Ideal.logistic]
theorem slope_apply : val_main_v20_1 (F := Ideal) x0 x2 x3 (ix2 s j)
    = Ideal.logistic (gate (gus x0 x2 x3) s j) * (1 - Ideal.logistic (gate (gus x0 x2 x3) s j)) := by
  pointwise [val_main_v20_1, val_main_call0_v7, val_main_call0_v6, val_main_call0_cst_1, sigmoid_apply x0 x2 x3, FfnPoints.one_apply]
theorem silu_apply : val_main_v20_0 (F := Ideal) x0 x2 x3 (ix2 s j)
    = gate (gus x0 x2 x3) s j * Ideal.logistic (gate (gus x0 x2 x3) s j) := by
  pointwise [val_main_v20_0, sigmoid_apply x0 x2 x3, gate_apply x0 x2 x3]
theorem act_apply : val_main_v51 (F := Ideal) x0 x2 x3 (ix2 s j) = acts (gus x0 x2 x3) (ix2 s j) := by
  pointwise [val_main_v51, val_main_v21, silu_apply x0 x2 x3, up_apply x0 x2 x3, acts, act]

/-! ## The gradients of the two projections -/

theorem dact_apply : val_main_v23 (F := Ideal) x1 x4 (ix2 s j) = rdact x4 x1 s j := by
  pointwise [val_main_v23, rdact, dact, line]
theorem dup_apply : val_main_v24 (F := Ideal) x0 x1 x2 x3 x4 (ix2 s j) = rdup x4 x1 (gus x0 x2 x3) s j := by
  refine Eq.trans ?_ (mul_comm _ _)
  pointwise [val_main_v24, silu_apply x0 x2 x3, dact_apply x1 x4]

end

variable (hr : ∀ s j, Real' (rdact x4 x1 s j * up (gus x0 x2 x3) s j)) (s : Fin 4096) (j : Fin 2816) (k : Fin 1024) (n : Fin 5632)
include hr

theorem dgate_apply : val_main_v26 (F := Ideal) x0 x1 x2 x3 x4 (ix2 s j) = rdgate x4 x1 (gus x0 x2 x3) s j := by
  refine Eq.trans ?_ (dgate_eq _ _ (hr s j))
  pointwise [val_main_v26, val_main_call1_v2, val_main_call1_v1, val_main_call1_v0, val_main_v25, slope_apply x0 x2 x3,
    sigmoid_apply x0 x2 x3, gate_apply x0 x2 x3, up_apply x0 x2 x3, dact_apply x1 x4]
theorem wide_apply : val_main_v27 (F := Ideal) x0 x1 x2 x3 x4 (ix2 s n) = dwide x4 x1 (gus x0 x2 x3) (ix2 s n) := by
  pointwise [val_main_v27, dgate_apply x0 x1 x2 x3 x4 hr, dup_apply x0 x1 x2 x3 x4, dwide, wide]
theorem dwide_apply : val_main_v52 (F := Ideal) x0 x1 x2 x3 x4 (ix2 s n) = dwide x4 x1 (gus x0 x2 x3) (ix2 s n) := by
  pointwise [val_main_v52, wide_apply x0 x1 x2 x3 x4 hr]

/-! ## Back through the norm -/

/-- The gradient of the normed row, as the kernel has it. -/
abbrev dhns (s : Fin 4096) : Row := rdhn x4 x1 (gus x0 x2 x3) (flip x3) s

omit hr in
/-- A sum over the 5632 columns is one over the gate's and one over the up projection's. -/
theorem sum_wide (f : Fin 5632 → EReal) : ∑ n, f n = ∑ j, f (gcol j) + ∑ j, f (ucol j) :=
  Fin.sum_univ_add (a := 2816) (b := 2816) f

theorem dhn_apply : val_main_v28 (F := Ideal) x0 x1 x2 x3 x4 (ix2 s k) = dhns x0 x1 x2 x3 x4 s k := by
  have h : val_main_v28 (F := Ideal) x0 x1 x2 x3 x4 (ix2 s k)
      = ∑ n, dwide x4 x1 (gus x0 x2 x3) (ix2 s n) * flip x3 (ix2 n k) := by
    pointwise [val_main_v28, wide_apply x0 x1 x2 x3 x4 hr, flip_apply x3]
  refine h.trans ((sum_wide _).trans (congrArg₂ (· + ·) (Finset.sum_congr rfl fun j _ => ?_) (Finset.sum_congr rfl fun j _ => ?_)))
  · exact congrArg (· * _) (wide_gate ..)
  · exact congrArg (· * _) (wide_up ..)
theorem dg_apply (u : Fin 1) : val_main_v49 (F := Ideal) x0 x1 x2 x3 x4 (ix2 u k)
    = dgain x4 x0 x1 (gus x0 x2 x3) (flip x3) (ix2 u k) := by
  pointwise [val_main_v49, val_main_v34, val_main_v31, val_main_v30, val_main_v29, val_main_cst_3, val_main_cst_4, normed_apply x0,
    dhn_apply x0 x1 x2 x3 x4 hr, dgain]
  exact (Fin.sum_univ_one _).trans (Finset.sum_congr rfl fun s _ => mul_comm _ _)
theorem dhg_apply : val_main_v33 (F := Ideal) x0 x1 x2 x3 x4 (ix2 s k) = dhns x0 x1 x2 x3 x4 s k * gain x2 k := by
  pointwise [val_main_v33, val_main_v32, val_main_v14, val_main_v0, dhn_apply x0 x1 x2 x3 x4 hr, gain]

theorem dsum_apply : val_main_v44 (F := Ideal) x0 x1 x2 x3 x4 (ix2 s k)
    = Ideal.div ((∑ k, x0 (ix2 s k) * (dhns x0 x1 x2 x3 x4 s k * gain x2 k))
      * (((-(1 / 2) : ℝ) : EReal) * Ideal.div (rinv (line x0 s)) (meansq (line x0 s)))) ((1024 : ℝ) : EReal) := by
  pointwise [val_main_v44, val_main_v43, val_main_v42, val_main_v41, val_main_v40, val_main_v37, val_main_v36, val_main_v35,
    val_main_cst_5, val_main_cst_6, val_main_cst_7, dhg_apply x0 x1 x2 x3 x4 hr, dr_apply x0, Heads.ofBits_1024]
  exact Fin.sum_univ_one _
theorem dh2_apply : val_main_v50 (F := Ideal) x0 x1 x2 x3 x4 (ix2 s k)
    = Ffn.dh2 x4 x0 x1 x2 (gus x0 x2 x3) (flip x3) (ix2 s k) := by
  refine Eq.trans ?_ (dnorm_eq (line x0 s) (fun k => dhns x0 x1 x2 x3 x4 s k * gain x2 k) (x1 (ix2 s k)) k)
  rw [add_assoc, add_assoc, ← add_assoc (_ * rinv _)]
  pointwise [val_main_v50, val_main_v48, val_main_v47, val_main_v46, val_main_v45, val_main_v39, val_main_v38,
    dsum_apply x0 x1 x2 x3 x4 hr, dhg_apply x0 x1 x2 x3 x4 hr, r_apply x0, line]

end Cert.FfnReference

end
-- ==== Proof.FfnEquation.lean ====
/- The feed-forward kernel's four output arrays are the reference's four results on the same arguments, when the gradient of
   the output, the norm's weights and the weights of the up and down projections are real numbers. -/
module

public import proofs.«01_k».proof.Proof.FfnReference
public import proofs.«01_k».proof.Proof.Finite
public import proofs.«01_k».proof.Pre_finite2

@[expose] public section

set_option maxRecDepth 16384

noncomputable section

namespace Cert.FfnEquation

open Idealize.ShloMosaic Idealize.ShloMosaic.TcCoe Idealize.SL.Sem
open Cert.Kernel2Ideal Cert.Kernel2Ideal.Gen Cert.Algebra Cert.Spec Cert.Ffn Cert.FfnArrays
open Cert.Reference2Ideal.Read

/-! ## The precondition -/

instance preFacts : Cert.Pre_finite2.Facts where
  bcast_S_S4096x1024 := by decide
  bcast_S_S1x1024 := by decide
  slices_S1024x5632_S1024x2816_0_2816 := by decide
  bcast_S_S1024x2816 := by decide
  bcast_S_S2816x1024 := by decide

section

variable (x0 x1 : FVec Ideal Cert.Pre_finite2.S4096x1024 .f32) (x2 : FVec Ideal Cert.Pre_finite2.S1x1024 .f32)
  (x3 : FVec Ideal Cert.Pre_finite2.S1024x5632 .f32) (x4 : FVec Ideal Cert.Pre_finite2.S2816x1024 .f32)

theorem dy_real (h : (Cert.Pre_finite2.fn x0 x1 x2 x3 x4).1 = fun _ => 1#1) (s : Fin 4096) (k : Fin 1024) : Real' (x1 (ix2 s k)) :=
  Finite.real_of_abs _ (congrFun h (ix2 s k))
theorem gain_real (h : (Cert.Pre_finite2.fn x0 x1 x2 x3 x4).2.1 = fun _ => 1#1) (k : Fin 1024) : Real' (Step.gain x2 k) :=
  Finite.real_of_abs _ (congrFun h (ix2 0 k))
theorem up_real (h : (Cert.Pre_finite2.fn x0 x1 x2 x3 x4).2.2.1 = fun _ => 1#1) (k : Fin 1024) (j : Fin 2816) :
    Real' (x3 (ix2 k (ucol j))) := by
  refine Finite.real_of_abs _ ((congrArg (fun z => Ideal.cmp .olt (max z (-z)) _) ?_).trans (congrFun h (ix2 k j)))
  pointwise [ucol]
theorem down_real (h : (Cert.Pre_finite2.fn x0 x1 x2 x3 x4).2.2.2 = fun _ => 1#1) (j : Fin 2816) (k : Fin 1024) :
    Real' (x4 (ix2 j k)) :=
  Finite.real_of_abs _ (congrFun h (ix2 j k))

end

/-! ## The results -/

variable (m : (ℓ : Loc nD τ sig) → Buf (Elt Ideal) ℓ) (c : Dev nD)

theorem act_eq : (dats m 0 c).arrAt 7 cfg0.N = val_main_v51 (F := Ideal) (h2 m c) (gffn m c) (wgu m c) := by
  rw [arr7, aG_eq]
  funext y; rw [eq_ix2 y]
  exact (FfnReference.act_apply ..).symm

variable (hy : ∀ s k, Real' (dh3 m c (ix2 s k))) (hg : ∀ k, Real' (Step.gain (gffn m c) k))
  (hu : ∀ k j, Real' (wgu m c (ix2 k (ucol j)))) (hd : ∀ j k, Real' (wdown m c (ix2 j k)))
include hy hg hu hd

/-- The gradient of the gate's output is a real number everywhere. -/
theorem real (s : Fin 4096) (j : Fin 2816) :
    Real' (rdact (wdown m c) (dh3 m c) s j * up (FfnReference.gus (h2 m c) (gffn m c) (wgu m c)) s j) := by
  refine (Real'.sum _ _ fun k => (hy s k).mul (hd j k)).mul ?_
  rw [up, FfnReference.gus_apply]
  exact Real'.sum _ _ fun k => ((Finite.normed_real _ k).mul (hg k)).mul (hu k j)

theorem dh2_eq : (dats m 0 c).arrAt 6 cfg0.N
    = val_main_v50 (F := Ideal) (h2 m c) (dh3 m c) (gffn m c) (wgu m c) (wdown m c) := by
  rw [arr6, aX_eq, aDY_eq, aG_eq, aw_eq, aT_eq, aW_eq]
  funext y; rw [eq_ix2 y]
  exact (FfnReference.dh2_apply _ _ _ _ _ (real m c hy hg hu hd) _ _).symm
theorem dwide_eq : (dats m 0 c).arrAt 8 cfg0.N
    = val_main_v52 (F := Ideal) (h2 m c) (dh3 m c) (gffn m c) (wgu m c) (wdown m c) := by
  rw [arr8, aDY_eq, aG_eq, aW_eq]
  funext y; rw [eq_ix2 y]
  exact (FfnReference.dwide_apply _ _ _ _ _ (real m c hy hg hu hd) _ _).symm
theorem dg_eq : (dats m 0 c).arrAt 9 cfg0.N
    = val_main_v49 (F := Ideal) (h2 m c) (dh3 m c) (gffn m c) (wgu m c) (wdown m c) := by
  rw [arr9, aX_eq, aDY_eq, aG_eq, aT_eq, aW_eq]
  funext y; rw [eq_ix2 y]
  exact (FfnReference.dg_apply _ _ _ _ _ (real m c hy hg hu hd) _ _).symm

end Cert.FfnEquation

end
-- ==== Proof.Product3.lean ====
/- The gradient of the gate's and the up projection's weights: over the rows of one of the two column blocks, four points
   add up the products of 1024 rows each, and the last stores the sum. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Product3

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (c : Dev nD) (t : Fin cfg0.N)

/-! ## One point -/

abbrev A : FVec Ideal S1024x2816 .bf16 := iblk m c 0 t
abbrev B : FVec Ideal S1024x1024 .bf16 := iblk m c 1 t

theorem zero_apply (y : S2816x1024.Idx) : k0_pay1 (F := Ideal) y = 0 := by pointwise [k0_pay1]
theorem step_apply (s : FVec Ideal S2816x1024 .f32) (a : FVec Ideal S1024x2816 .bf16) (b : FVec Ideal S1024x1024 .bf16)
    (i : Fin 2816) (j : Fin 1024) :
    k0_pay2 (F := Ideal) s a b (ix2 i j) = s (ix2 i j) + ∑ r : Fin 1024, a (ix2 r i) * b (ix2 r j) := by
  pointwise [k0_pay2]

/-- What the point adds to the sum. -/
def part (y : S2816x1024.Idx) : EReal := ∑ r : Fin 1024, A m c t (ix2 r (y 0)) * B m c t (ix2 r (y 1))

theorem sum_first (h0 : t.val % 4 = 0) (y : S2816x1024.Idx) :
    (outsAt0 m c t.val t.isLt).2 y = (0 : EReal) + part m c t y := by
  have h1 : ¬ t.val % 4 = 3 := by omega
  rw [outsAt0_A m c t h0 h1, eq_ix2 y]
  frame_out
  refine (step_apply ..).trans ?_
  rw [zero_apply]; rfl

theorem sum_next (h0 : ¬t.val % 4 = 0) (y : S2816x1024.Idx) : (outsAt0 m c t.val t.isLt).2 y
    = (show EReal from (outsAt0 m c (t.val - 1) (Nat.lt_of_le_of_lt (Nat.sub_le _ _) t.isLt)).2 y) + part m c t y := by
  by_cases h1 : t.val % 4 = 3
  · rw [outsAt0_C m c t h0 h1, eq_ix2 y]
    frame_out
    rw [read_unread_whole]
    exact step_apply ..
  · rw [outsAt0_B m c t h0 h1, eq_ix2 y]
    frame_out
    rw [read_unread_whole]
    exact step_apply ..

theorem out_last (h1 : t.val % 4 = 3) (y : S2816x1024.Idx) :
    (outsAt0 m c t.val t.isLt).1 y = (outsAt0 m c t.val t.isLt).2 y := by
  have h0 : ¬ t.val % 4 = 0 := by omega
  rw [sum_next m c t h0, outsAt0_C m c t h0 h1, eq_ix2 y]
  frame_out
  rw [read_unread_whole]
  exact step_apply ..

/-! ## The array -/

abbrev aA : FVec Ideal S4096x5632 .bf16 := V m c main_v0
abbrev aB : FVec Ideal S4096x1024 .bf16 := V m c main_v1

theorem idx : ∀ t : Fin cfg0.N, win0_0.index t = ![t.val % 4, t.val / 4] ∧ win0_1.index t = ![t.val % 4, 0]
    ∧ win0_2.index t = ![t.val / 4, 0] := (by decide +kernel : ∀ t : Fin grid0.N, _)

theorem lt8 (t : Fin cfg0.N) : t.val < 8 := Nat.lt_of_lt_of_eq t.isLt N_0

/-- Row `r` of the point's blocks, and row `i` of the block it adds to, in the arrays. -/
def at' (t : Fin cfg0.N) (r : Fin 1024) : Fin 4096 := ⟨t.val % 4 * 1024 + r.val, by omega⟩
def to' (t : Fin cfg0.N) (i : Fin 2816) : Fin 5632 := ⟨t.val / 4 * 2816 + i.val, by have := lt8 t; omega⟩

theorem A_apply (r : Fin 1024) (i : Fin 2816) : A m c t (ix2 r i) = aA m c (ix2 (at' t r) (to' t i)) := by
  blk_point [iblk, V, idx t] <;> rfl
theorem B_apply (r : Fin 1024) (j : Fin 1024) : B m c t (ix2 r j) = aB m c (ix2 (at' t r) j) := by
  blk_point [iblk, V, idx t]; rfl

/-- The transposed product of two arrays of 4096 rows. -/
def prod (X : FVec Ideal S4096x5632 .f32) (Y : FVec Ideal S4096x1024 .f32) (y : S5632x1024.Idx) : EReal :=
  ∑ s : Fin 4096, X (ix2 s (y 0)) * Y (ix2 s (y 1))

theorem out_apply (ht : t.val % 4 = 3) (i : Fin 2816) (j : Fin 1024) :
    (outsAt0 m c t.val t.isLt).1 (ix2 i j) = prod (aA m c) (aB m c) (ix2 (to' t i) j) := by
  refine (out_last m c t ht _).trans ?_
  refine (Pipeline.eq_sum_fin_of_reset_step_apply_of_flush (M := EReal) (fun n hn y => (outsAt0 m c n hn).2 y) 4 (fun _ => 0)
    (part m c) (fun t h => sum_first m c t h) (fun t h => sum_next m c t h) t ht (ix2 i j)).trans ?_
  rw [zero_add]
  refine Eq.trans ?_ (Fin.sum_univ_tiles 4 1024 rfl fun s => aA m c (ix2 s (to' t i)) * aB m c (ix2 s j)).symm
  refine Finset.sum_congr rfl fun s _ => Finset.sum_congr rfl fun r _ => ?_
  refine (congrArg₂ (· * ·) (A_apply ..) (B_apply ..)).trans ?_
  have hr : at' ⟨4 * (t.val / 4) + s.val, Pipeline.run_point_lt_of_flush t ht s⟩ r = ⟨s.val * 1024 + r.val, by omega⟩ :=
    Fin.ext (by simp only [at']; omega)
  have hc : to' ⟨4 * (t.val / 4) + s.val, Pipeline.run_point_lt_of_flush t ht s⟩ i = to' t i :=
    Fin.ext (by simp only [to']; omega)
  rw [hr]
  exact congrArg (fun k => aA m c (ix2 _ k) * _) hc

theorem arr2 : (dats m 0 c).arrAt 2 cfg0.N = prod (aA m c) (aB m c) := by
  refine (dats m 0 c).arrAt_eq_of_covers 2 _ (by decide +kernel) fun t hf y => ?_
  blk_simp
  rw [after0_2]
  refine (congrArg _ (eq_ix2 _)).trans ((out_apply m c t ((flush0_2 t).mp hf) _ _).trans (congrArg _ ?_))
  blk_ext [idx t, to']

/-! ## The two programs -/

abbrev hn : FVec Ideal S4096x1024 .f32 := m ((c : Thread nD τ).loc main_arg0)
abbrev dgu : FVec Ideal S4096x5632 .f32 := m ((c : Thread nD τ).loc main_arg1)

theorem aA_eq : aA m c = dgu m c := by
  show StableHlo.after hostOps0 (fun b => m (c, b)) _ = _
  after_results_simp; rfl
theorem aB_eq : aB m c = hn m c := by
  show StableHlo.after hostOps0 (fun b => m (c, b)) _ = _
  after_results_simp; rfl

open Cert.Reference3Ideal.Read in
theorem dw_apply (x0 : FVec Ideal S4096x1024 .f32) (x1 : FVec Ideal S4096x5632 .f32) (i : Fin 5632) (j : Fin 1024) :
    val_main_v5 (F := Ideal) x0 x1 (ix2 i j) = prod x1 x0 (ix2 i j) := by
  pointwise [val_main_v5, val_main_v4, val_main_v3, val_main_v2, prod]

theorem dw_eq : (dats m 0 c).arrAt 2 cfg0.N = Cert.Reference3Ideal.Read.val_main_v5 (F := Ideal) (hn m c) (dgu m c) := by
  rw [arr2, aA_eq, aB_eq]
  funext y; rw [eq_ix2 y]
  exact (dw_apply ..).symm

end Cert.Product3

end
-- ==== Proof.Product4.lean ====
/- The gradient of the down projection's weights: four points add up the products of 1024 rows each, and the last stores
   the sum. -/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Product4

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ) (c : Dev nD) (t : Fin cfg0.N)

/-! ## One point -/

abbrev A : FVec Ideal S1024x2816 .bf16 := iblk m c 0 t
abbrev B : FVec Ideal S1024x1024 .bf16 := iblk m c 1 t

theorem zero_apply (y : S2816x1024.Idx) : k0_pay1 (F := Ideal) y = 0 := by pointwise [k0_pay1]
theorem step_apply (s : FVec Ideal S2816x1024 .f32) (a : FVec Ideal S1024x2816 .bf16) (b : FVec Ideal S1024x1024 .bf16)
    (i : Fin 2816) (j : Fin 1024) :
    k0_pay2 (F := Ideal) s a b (ix2 i j) = s (ix2 i j) + ∑ r : Fin 1024, a (ix2 r i) * b (ix2 r j) := by
  pointwise [k0_pay2]

/-- What the point adds to the sum. -/
def part (y : S2816x1024.Idx) : EReal := ∑ r : Fin 1024, A m c t (ix2 r (y 0)) * B m c t (ix2 r (y 1))

theorem sum_first (h0 : t.val % 4 = 0) (y : S2816x1024.Idx) :
    (outsAt0 m c t.val t.isLt).2 y = (0 : EReal) + part m c t y := by
  have h1 : ¬ t.val % 4 = 3 := by omega
  rw [outsAt0_A m c t h0 h1, eq_ix2 y]
  frame_out
  refine (step_apply ..).trans ?_
  rw [zero_apply]; rfl

theorem sum_next (h0 : ¬t.val % 4 = 0) (y : S2816x1024.Idx) : (outsAt0 m c t.val t.isLt).2 y
    = (show EReal from (outsAt0 m c (t.val - 1) (Nat.lt_of_le_of_lt (Nat.sub_le _ _) t.isLt)).2 y) + part m c t y := by
  by_cases h1 : t.val % 4 = 3
  · rw [outsAt0_C m c t h0 h1, eq_ix2 y]
    frame_out
    rw [read_unread_whole]
    exact step_apply ..
  · rw [outsAt0_B m c t h0 h1, eq_ix2 y]
    frame_out
    rw [read_unread_whole]
    exact step_apply ..

theorem out_last (h1 : t.val % 4 = 3) (y : S2816x1024.Idx) :
    (outsAt0 m c t.val t.isLt).1 y = (outsAt0 m c t.val t.isLt).2 y := by
  have h0 : ¬ t.val % 4 = 0 := by omega
  rw [sum_next m c t h0, outsAt0_C m c t h0 h1, eq_ix2 y]
  frame_out
  rw [read_unread_whole]
  exact step_apply ..

/-! ## The array -/

abbrev aA : FVec Ideal S4096x2816 .bf16 := V m c main_v0
abbrev aB : FVec Ideal S4096x1024 .bf16 := V m c main_v1

theorem idx : ∀ t : Fin cfg0.N, win0_0.index t = ![t.val % 4, t.val / 4] ∧ win0_1.index t = ![t.val % 4, 0]
    ∧ win0_2.index t = ![t.val / 4, 0] := (by decide +kernel : ∀ t : Fin grid0.N, _)

theorem lt4 (t : Fin cfg0.N) : t.val < 4 := Nat.lt_of_lt_of_eq t.isLt N_0

/-- Row `r` of the point's blocks, and row `i` of the block it adds to, in the arrays. -/
def at' (t : Fin cfg0.N) (r : Fin 1024) : Fin 4096 := ⟨t.val % 4 * 1024 + r.val, by omega⟩
def to' (t : Fin cfg0.N) (i : Fin 2816) : Fin 2816 := ⟨t.val / 4 * 2816 + i.val, by have := lt4 t; omega⟩

theorem A_apply (r : Fin 1024) (i : Fin 2816) : A m c t (ix2 r i) = aA m c (ix2 (at' t r) (to' t i)) := by
  blk_point [iblk, V, idx t] <;> rfl
theorem B_apply (r : Fin 1024) (j : Fin 1024) : B m c t (ix2 r j) = aB m c (ix2 (at' t r) j) := by
  blk_point [iblk, V, idx t]; rfl

/-- The transposed product of two arrays of 4096 rows. -/
def prod (X : FVec Ideal S4096x2816 .f32) (Y : FVec Ideal S4096x1024 .f32) (y : S2816x1024.Idx) : EReal :=
  ∑ s : Fin 4096, X (ix2 s (y 0)) * Y (ix2 s (y 1))

theorem out_apply (ht : t.val % 4 = 3) (i : Fin 2816) (j : Fin 1024) :
    (outsAt0 m c t.val t.isLt).1 (ix2 i j) = prod (aA m c) (aB m c) (ix2 (to' t i) j) := by
  refine (out_last m c t ht _).trans ?_
  refine (Pipeline.eq_sum_fin_of_reset_step_apply_of_flush (M := EReal) (fun n hn y => (outsAt0 m c n hn).2 y) 4 (fun _ => 0)
    (part m c) (fun t h => sum_first m c t h) (fun t h => sum_next m c t h) t ht (ix2 i j)).trans ?_
  rw [zero_add]
  refine Eq.trans ?_ (Fin.sum_univ_tiles 4 1024 rfl fun s => aA m c (ix2 s (to' t i)) * aB m c (ix2 s j)).symm
  refine Finset.sum_congr rfl fun s _ => Finset.sum_congr rfl fun r _ => ?_
  refine (congrArg₂ (· * ·) (A_apply ..) (B_apply ..)).trans ?_
  have hr : at' ⟨4 * (t.val / 4) + s.val, Pipeline.run_point_lt_of_flush t ht s⟩ r = ⟨s.val * 1024 + r.val, by omega⟩ :=
    Fin.ext (by simp only [at']; omega)
  have hc : to' ⟨4 * (t.val / 4) + s.val, Pipeline.run_point_lt_of_flush t ht s⟩ i = to' t i :=
    Fin.ext (by simp only [to']; omega)
  rw [hr]
  exact congrArg (fun k => aA m c (ix2 _ k) * _) hc

theorem arr2 : (dats m 0 c).arrAt 2 cfg0.N = prod (aA m c) (aB m c) := by
  refine (dats m 0 c).arrAt_eq_of_covers 2 _ (by decide +kernel) fun t hf y => ?_
  blk_simp
  rw [after0_2]
  refine (congrArg _ (eq_ix2 _)).trans ((out_apply m c t ((flush0_2 t).mp hf) _ _).trans (congrArg _ ?_))
  blk_ext [idx t, to']

/-! ## The two programs -/

abbrev dh3 : FVec Ideal S4096x1024 .f32 := m ((c : Thread nD τ).loc main_arg1)
abbrev act : FVec Ideal S4096x2816 .f32 := m ((c : Thread nD τ).loc main_arg0)

theorem aA_eq : aA m c = act m c := by
  show StableHlo.after hostOps0 (fun b => m (c, b)) _ = _
  after_results_simp; rfl
theorem aB_eq : aB m c = dh3 m c := by
  show StableHlo.after hostOps0 (fun b => m (c, b)) _ = _
  after_results_simp; rfl

open Cert.Reference4Ideal.Read in
theorem dw_apply (x0 : FVec Ideal S4096x2816 .f32) (x1 : FVec Ideal S4096x1024 .f32) (i : Fin 2816) (j : Fin 1024) :
    val_main_v4 (F := Ideal) x0 x1 (ix2 i j) = prod x0 x1 (ix2 i j) := by
  pointwise [val_main_v4, val_main_v3, val_main_v2, prod]
  exact Finset.sum_congr rfl fun s _ => mul_comm _ _

theorem dw_eq : (dats m 0 c).arrAt 2 cfg0.N = Cert.Reference4Ideal.Read.val_main_v4 (F := Ideal) (act m c) (dh3 m c) := by
  rw [arr2, aA_eq, aB_eq]
  funext y; rw [eq_ix2 y]
  exact (dw_apply ..).symm

end Cert.Product4

end
-- ==== Proof.MixSpec.lean ====
/- The channel mixer of the network with the loss behind it, row by row, as the kernel computes it: the mixer's output is
   added to its input, normed and compared with the target, and the loss's gradient goes back through the norm. -/
module

public import proofs.«01_k».proof.Proof.FfnSpec

@[expose] public section

noncomputable section

namespace Cert.Mix

open Idealize.ShloMosaic Cert.Algebra Cert.Spec Cert.Step Cert.Ffn

/-! ## One row -/

section

variable (x w h v t e : Row) (A B W : Down)

/-- A row's products with the rows of a matrix of weights. -/
def proj : Half := fun j => ∑ k : Fin 1024, x k * A (ix2 j k)
/-- The mixer's output added to its input. -/
def mixed : Row := fun k => x k + ∑ j : Fin 2816, act (proj (weighted x w) A) (proj (weighted x w) B) j * W (ix2 j k)
/-- The difference from the target, the loss's gradient in the prediction, and twice the row's loss. -/
def miss : Row := fun k => weighted h v k - t k
def dpred : Row := fun k => miss h v t k * ((1 / 1024 : ℝ) : EReal)
def missed : EReal := Ideal.div (∑ k, miss h v t k * miss h v t k) ((1024 : ℝ) : EReal)
/-- A gradient `e` of the weighted row, back through the norm. -/
def dback : Row := fun k => rinv h * (e k * v k - normed h k * Ideal.div (∑ k, e k * v k * normed h k) ((1024 : ℝ) : EReal))

end

/-! ## All rows -/

variable (X Y : Seq) (w v : Gain) (T : Back) (W : Down) (s : Fin 4096)

abbrev outs : Row := mixed (line X s) (gain w) (gateT T) (upT T) W
abbrev dpreds : Row := dpred (outs X w T W s) (gain v) (line Y s)

/-- The loss's gradient in the mixer's output, the two projections, the normed input, the loss (in every one of 128 places)
    and its gradient in the last norm's weights. -/
def dh3 (y : (⟨2, ![4096, 1024]⟩ : Shape).Idx) : EReal := dback (outs X w T W (y 0)) (gain v) (dpreds X Y w v T W (y 0)) (y 1)
def projs : Wide := fun y => ∑ k : Fin 1024, weighted (line X (y 0)) (gain w) k * T (ix2 (y 1) k)
def norms (y : (⟨2, ![4096, 1024]⟩ : Shape).Idx) : EReal := weighted (line X (y 0)) (gain w) (y 1)
def loss (_ : (⟨2, ![1, 128]⟩ : Shape).Idx) : EReal :=
  ((1 / 2 : ℝ) : EReal) * ∑ s : Fin 4096, missed (outs X w T W s) (gain v) (line Y s)
def dgain (y : (⟨2, ![1, 1024]⟩ : Shape).Idx) : EReal :=
  ∑ s : Fin 4096, dpreds X Y w v T W s (y 1) * normed (outs X w T W s) (y 1)

end Cert.Mix

end
-- ==== Proof.MixPoints.lean ====
/- What one grid point of the channel mixer with the loss computes from its blocks of 256 rows. -/
module

public import proofs.«01_k».proof.Proof.MixSpec
public import proofs.«01_k».proof.Proof.FfnPoints
public import proofs.«01_k».proof.Proof.Gen.Kernel5Ideal.Value

@[expose] public section

set_option maxRecDepth 16384

noncomputable section

namespace Cert.MixPoints

open Idealize.ShloMosaic Idealize.ShloMosaic.TcCoe Idealize.SL.Sem
open Cert.Kernel5Ideal Cert.Kernel5Ideal.Gen Cert.Algebra Cert.Spec Cert.Step Cert.Ffn Cert.Mix
open Cert.FfnPoints (row)

/-! ## The constants -/

theorem half_apply : Ideal.ofBits .f32 0x3F000000#32 = ((1 / 2 : ℝ) : EReal) := by
  simp [Ideal.ofBits, Ideal.ieee]; rw [← EReal.coe_mul]; norm_num
theorem two_apply : Ideal.ofBits .f32 0x40000000#32 = ((2 : ℝ) : EReal) := by
  simp [Ideal.ofBits, Ideal.ieee]; rw [← EReal.coe_mul]; norm_num
theorem rcp_apply : Ideal.ofBits .f32 0x3A800000#32 = ((1 / 1024 : ℝ) : EReal) := by
  simp [Ideal.ofBits, Ideal.ieee]; rw [← EReal.coe_mul]; norm_num

/-! ## The operations, read at an index -/

variable (X Y : FVec Ideal S256x1024 .f32) (w v : FVec Ideal S1x1024 .f32) (A B W : FVec Ideal S2816x1024 .bf16)
  (i : Fin 256) (j : Fin 2816) (k : Fin 1024)

theorem norm_apply : k0_pay5 (F := Ideal) X w (ix2 i k) = weighted (row X i) (gain w) k := by
  pointwise [k0_pay5, weighted, normed, rinv, meansq, row, gain, Heads.ofBits_1024, eps]
theorem gate_apply : k0_pay6 (F := Ideal) X w A (ix2 i j) = proj (weighted (row X i) (gain w)) A j := by
  pointwise [k0_pay6, norm_apply X w, proj]
theorem up_apply : k0_pay7 (F := Ideal) X w B (ix2 i j) = proj (weighted (row X i) (gain w)) B j := by
  pointwise [k0_pay7, norm_apply X w, proj]

/-- The mixer's output before its input is added, and after. -/
abbrev MID : FVec Ideal S256x1024 .f32 := k0_pay8 (F := Ideal) X w A B W
abbrev out : Row := mixed (row X i) (gain w) A B W

theorem out_apply : k0_pay9 (F := Ideal) X (MID X w A B W) (ix2 i k) = out X w A B W i k := by
  pointwise [k0_pay9, k0_pay8, gate_apply X w A, up_apply X w B, mixed, act, row]
theorem rinv_apply (u : Fin 1) : k0_pay10 (F := Ideal) X (MID X w A B W) (ix2 i u) = rinv (out X w A B W i) := by
  pointwise [k0_pay10, out_apply X w A B W, rinv, meansq, Heads.ofBits_1024, eps]
theorem normed_apply : k0_pay11 (F := Ideal) X (MID X w A B W) (ix2 i k) = normed (out X w A B W i) k := by
  pointwise [k0_pay11, out_apply X w A B W, rinv_apply X w A B W, normed]
theorem miss_apply : k0_pay12 (F := Ideal) X (MID X w A B W) v Y (ix2 i k) = miss (out X w A B W i) (gain v) (row Y i) k := by
  pointwise [k0_pay12, normed_apply X w A B W, miss, weighted, row, gain]
theorem dpred_apply : k0_pay15 (F := Ideal) X (MID X w A B W) v Y (ix2 i k) = dpred (out X w A B W i) (gain v) (row Y i) k := by
  pointwise [k0_pay15, miss_apply X Y w v A B W, dpred, rcp_apply]
theorem loss_apply (S : FVec Ideal S1x128 .f32) (u : Fin 1) (l : Fin 128) :
    k0_pay14 (F := Ideal) X (MID X w A B W) v Y S (ix2 u l)
      = S (ix2 u l) + ((1 / 2 : ℝ) : EReal) * ∑ i : Fin 256, missed (out X w A B W i) (gain v) (row Y i) := by
  pointwise [k0_pay14, miss_apply X Y w v A B W, missed, half_apply, Heads.ofBits_1024]
theorem zero_loss (y : S1x128.Idx) : k0_pay13 (F := Ideal) y = 0 := by pointwise [k0_pay13]

/-- The loss's gradients, of the values the kernel keeps of the mixer's output. -/
abbrev DH : FVec Ideal S256x1024 .f32 := k0_pay1 (F := Ideal) (k0_pay10 X (MID X w A B W)) (k0_pay11 X (MID X w A B W))
  (k0_pay15 X (MID X w A B W) v Y) v

theorem dback_apply : DH X Y w v A B W (ix2 i k)
    = dback (out X w A B W i) (gain v) (dpred (out X w A B W i) (gain v) (row Y i)) k := by
  pointwise [k0_pay1, rinv_apply X w A B W, normed_apply X w A B W, dpred_apply X Y w v A B W, dback, gain, Heads.ofBits_1024]
theorem dbackb_apply : k0_pay2 (F := Ideal) (k0_pay10 X (MID X w A B W)) (k0_pay11 X (MID X w A B W))
    (k0_pay15 X (MID X w A B W) v Y) v (ix2 i k)
    = dback (out X w A B W i) (gain v) (dpred (out X w A B W i) (gain v) (row Y i)) k := by
  pointwise [k0_pay2, dback_apply X Y w v A B W]
theorem dg_apply (S : FVec Ideal S1x1024 .f32) (u : Fin 1) :
    k0_pay4 (F := Ideal) (k0_pay11 X (MID X w A B W)) (k0_pay15 X (MID X w A B W) v Y) S (ix2 u k)
      = S (ix2 u k) + ∑ i : Fin 256, dpred (out X w A B W i) (gain v) (row Y i) k * normed (out X w A B W i) k := by
  pointwise [k0_pay4, normed_apply X w A B W, dpred_apply X Y w v A B W]
theorem zero_apply (y : S1x1024.Idx) : k0_pay3 (F := Ideal) y = 0 := by pointwise [k0_pay3]

/-! ## A point's blocks, at their types -/

variable (m : (ℓ : Loc nD τ sig) → Buf (Elt Ideal) ℓ) (c : Dev nD) (t : Fin cfg0.N)

abbrev bX : FVec Ideal S256x1024 .f32 := iblk m c 0 t
abbrev bw : FVec Ideal S1x1024 .f32 := iblk m c 1 t
abbrev bT : FVec Ideal S5632x1024 .bf16 := iblk m c 2 t
abbrev bW : FVec Ideal S2816x1024 .bf16 := iblk m c 3 t
abbrev bv : FVec Ideal S1x1024 .f32 := iblk m c 4 t
abbrev bY : FVec Ideal S256x1024 .f32 := iblk m c 5 t

/-- The halves of the weights that the kernel loads. -/
abbrev ald (T : Vec Ideal S5632x1024 .bf16) : Vec Ideal S2816x1024 .bf16 :=
  View.ld (Val := Elt Ideal) T (Rect.unit (s := S5632x1024) ![0, 0] ![2816, 1024] inb_S5632x1024_S2816x1024_0_0)
abbrev bld (T : Vec Ideal S5632x1024 .bf16) : Vec Ideal S2816x1024 .bf16 :=
  View.ld (Val := Elt Ideal) T (Rect.unit (s := S5632x1024) ![2816, 0] ![2816, 1024] inb_S5632x1024_S2816x1024_2816_0)
abbrev bA : FVec Ideal S2816x1024 .bf16 := ald (bT m c t)
abbrev bB : FVec Ideal S2816x1024 .bf16 := bld (bT m c t)

theorem bA_eq : bA m c t = gateT (bT m c t) :=
  funext fun y => View.ld_unit_apply_of _ _ _ _ _ _ fun a => by match a with | 0 => simp [gcol] | 1 => simp
theorem bB_eq : bB m c t = upT (bT m c t) :=
  funext fun y => View.ld_unit_apply_of _ _ _ _ _ _ fun a => by match a with | 0 => simp [ucol] | 1 => simp

abbrev pout : Row := out (bX m c t) (bw m c t) (bA m c t) (bB m c t) (bW m c t) i
abbrev pdpred : Row := dpred (pout i m c t) (gain (bv m c t)) (row (bY m c t) i)

/-! ## What a point leaves -/

theorem dh3_point : (outsAt0 m c t.val t.isLt).1 (ix2 i k) = dback (pout i m c t) (gain (bv m c t)) (pdpred i m c t) k := by
  by_cases h0 : t.val % 16 = 0
  · rw [outsAt0_A m c t h0 h0]
    frame_out
    exact dback_apply ..
  · rw [outsAt0_B m c t h0 h0]
    frame_out
    exact dback_apply ..

theorem dh3b_point : (outsAt0 m c t.val t.isLt).2.1 (ix2 i k) = dback (pout i m c t) (gain (bv m c t)) (pdpred i m c t) k := by
  by_cases h0 : t.val % 16 = 0
  · rw [outsAt0_A m c t h0 h0]
    frame_out
    exact dbackb_apply ..
  · rw [outsAt0_B m c t h0 h0]
    frame_out
    exact dbackb_apply ..

theorem norm_point : (outsAt0 m c t.val t.isLt).2.2.2.1 (ix2 i k) = weighted (row (bX m c t) i) (gain (bw m c t)) k := by
  by_cases h0 : t.val % 16 = 0
  · rw [outsAt0_A m c t h0 h0]
    frame_out
    exact norm_apply ..
  · rw [outsAt0_B m c t h0 h0]
    frame_out
    exact norm_apply ..

/-- The two stores of 2816 columns each. -/
theorem canon_wide (G U : FVec Ideal S256x2816 .f32) (g u : Fin 256 → Half) (hg : ∀ i j, G (ix2 i j) = g i j)
    (hu : ∀ i j, U (ix2 i j) = u i j) (y : S256x5632.Idx) :
    View.canon [(⟨Rect.unit (s := S256x5632) ![0, 2816] ![256, 2816] inb_S256x5632_S256x2816_0_2816, U⟩ : View.Piece (Elt Ideal) S256x5632 .f32),
      ⟨Rect.unit (s := S256x5632) ![0, 0] ![256, 2816] inb_S256x5632_S256x2816_0_0, G⟩] y = wide (g (y 0)) (u (y 0)) (y 1) := by
  have at' : ∀ (x : S256x2816.Idx) (n : Fin 5632), (y 0 : Fin 256).val = (x 0 : Fin 256).val → (y 1 : Fin 5632).val = n.val →
      y = ix2 (x 0) n := fun x n e0 e1 => (eq_ix2 y).trans ((ix2_inj ..).2 ⟨Fin.ext e0, Fin.ext e1⟩)
  canon_tiles x h
  · rw [at' x (ucol (x 1)) h0 h1, eq_ix2 x]
    exact (hu _ _).trans (wide_up _ _ _).symm
  · rw [at' x (gcol (x 1)) h0 h1, eq_ix2 x]
    exact (hg _ _).trans (wide_gate _ _ _).symm

theorem projs_point (y : S256x5632.Idx) : (outsAt0 m c t.val t.isLt).2.2.1 y
    = wide (proj (weighted (row (bX m c t) (y 0)) (gain (bw m c t))) (bA m c t))
      (proj (weighted (row (bX m c t) (y 0)) (gain (bw m c t))) (bB m c t)) (y 1) := by
  have h := canon_wide (k0_pay6 (F := Ideal) (bX m c t) (bw m c t) (bA m c t)) (k0_pay7 (F := Ideal) (bX m c t) (bw m c t) (bB m c t))
    _ _ (fun i j => gate_apply ..) (fun i j => up_apply ..) y
  by_cases h0 : t.val % 16 = 0
  · rw [outsAt0_A m c t h0 h0]
    frame_out
    exact h
  · rw [outsAt0_B m c t h0 h0]
    frame_out
    exact h

/-! ## What the points add up -/

/-- A point's share of the loss. -/
def ls (_ : S1x128.Idx) : EReal :=
  ((1 / 2 : ℝ) : EReal) * ∑ i : Fin 256, missed (pout i m c t) (gain (bv m c t)) (row (bY m c t) i)

theorem loss_first (h0 : t.val % 16 = 0) (y : S1x128.Idx) :
    (outsAt0 m c t.val t.isLt).2.2.2.2.1 y = (0 : EReal) + ls m c t y := by
  rw [outsAt0_A m c t h0 h0, eq_ix2 y]
  frame_out
  refine (loss_apply ..).trans ?_
  rw [zero_loss]; rfl

theorem loss_next (h0 : ¬t.val % 16 = 0) (y : S1x128.Idx) : (outsAt0 m c t.val t.isLt).2.2.2.2.1 y
    = (show EReal from (outsAt0 m c (t.val - 1) (Nat.lt_of_le_of_lt (Nat.sub_le _ _) t.isLt)).2.2.2.2.1 y) + ls m c t y := by
  rw [outsAt0_B m c t h0 h0, eq_ix2 y]
  frame_out
  exact loss_apply ..

/-- A point's share of the gradient of the last norm's weights. -/
def dgs (y : S1x1024.Idx) : EReal := ∑ i : Fin 256, pdpred i m c t (y 1) * normed (pout i m c t) (y 1)

theorem dg_first (h0 : t.val % 16 = 0) (y : S1x1024.Idx) :
    (outsAt0 m c t.val t.isLt).2.2.2.2.2 y = (0 : EReal) + dgs m c t y := by
  rw [outsAt0_A m c t h0 h0, eq_ix2 y]
  frame_out
  refine (dg_apply ..).trans ?_
  rw [zero_apply]; rfl

theorem dg_next (h0 : ¬t.val % 16 = 0) (y : S1x1024.Idx) : (outsAt0 m c t.val t.isLt).2.2.2.2.2 y
    = (show EReal from (outsAt0 m c (t.val - 1) (Nat.lt_of_le_of_lt (Nat.sub_le _ _) t.isLt)).2.2.2.2.2 y) + dgs m c t y := by
  rw [outsAt0_B m c t h0 h0, eq_ix2 y]
  frame_out
  exact dg_apply ..

end Cert.MixPoints

end
-- ==== Proof.MixArrays.lean ====
/- What the output arrays of the channel mixer with the loss hold at the end, from what its input arrays hold when it
   starts, and what those hold. -/
module

public import proofs.«01_k».proof.Proof.MixPoints
public import proofs.«01_k».proof.Proof.FfnArrays

@[expose] public section

set_option maxRecDepth 16384

noncomputable section

namespace Cert.MixArrays

open Idealize.ShloMosaic Idealize.ShloMosaic.TcCoe Idealize.SL.Sem
open Idealize.ShloMosaic.Pipeline (Dat)
open Cert.Kernel5Ideal Cert.Kernel5Ideal.Gen Cert.Algebra Cert.Spec Cert.Step Cert.Ffn Cert.Mix Cert.MixPoints
open Cert.FfnPoints (row)
open Cert.FfnArrays (flip)

variable (m : (ℓ : Loc nD τ sig) → Buf (Elt Ideal) ℓ) (c : Dev nD) (t : Fin cfg0.N)

/-! ## The input arrays when the kernel starts -/

abbrev aX : Seq := V m c main_arg0
abbrev aw : Gain := V m c main_arg1
abbrev aT : Back := V m c main_v1
abbrev aW : Down := V m c main_v2
abbrev av : Gain := V m c main_arg4
abbrev aY : Seq := V m c main_arg5

/-! ## Where the blocks lie -/

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![0, 0] ∧ win0_11.index t = ![0, 0] :=
  (by decide +kernel : ∀ t : Fin grid0.N, _)

theorem lt16 (t : Fin cfg0.N) : t.val < 16 := Nat.lt_of_lt_of_eq t.isLt N_0

/-- Row `i` of point `t`'s blocks is this row of the arrays. -/
def at' (t : Fin cfg0.N) (i : Fin 256) : Fin 4096 := ⟨t.val * 256 + i.val, by have := lt16 t; omega⟩

variable (i : Fin 256)

theorem X_row : row (bX m c t) i = line (aX m c) (at' t i) := by
  funext j; show bX m c t (ix2 i j) = _
  blk_point [iblk, V, idx t]; rfl
theorem Y_row : row (bY m c t) i = line (aY m c) (at' t i) := by
  funext j; show bY m c t (ix2 i j) = _
  blk_point [iblk, V, idx t]; rfl
theorem w_eq : bw m c t = aw m c := by
  funext y; rw [eq_ix2 y]; blk_point [iblk, V, idx t]
theorem v_eq : bv m c t = av m c := by
  funext y; rw [eq_ix2 y]; blk_point [iblk, V, idx t]
theorem T_eq : bT m c t = aT m c := by
  funext y; rw [eq_ix2 y]; blk_point [iblk, V, idx t]
theorem W_eq : bW m c t = aW m c := by
  funext y; rw [eq_ix2 y]; blk_point [iblk, V, idx t]

/-! ## A point's rows -/

/-- The mixer's output and the loss's gradient in the prediction, in row `s`. -/
abbrev O (s : Fin 4096) : Row := outs (aX m c) (aw m c) (aT m c) (aW m c) s
abbrev D (s : Fin 4096) : Row := dpreds (aX m c) (aY m c) (aw m c) (av m c) (aT m c) (aW m c) s

theorem out_row : pout i m c t = O m c (at' t i) := by
  simp only [pout, out, X_row, bA_eq, bB_eq, w_eq, T_eq, W_eq]
theorem dpred_row : pdpred i m c t = D m c (at' t i) := by
  simp only [pdpred, out_row, Y_row, v_eq]

theorem dh3_at (k : Fin 1024) : (outsAt0 m c t.val t.isLt).1 (ix2 i k)
    = dh3 (aX m c) (aY m c) (aw m c) (av m c) (aT m c) (aW m c) (ix2 (at' t i) k) := by
  rw [dh3_point, dpred_row, out_row, v_eq]; rfl
theorem dh3b_at (k : Fin 1024) : (outsAt0 m c t.val t.isLt).2.1 (ix2 i k)
    = dh3 (aX m c) (aY m c) (aw m c) (av m c) (aT m c) (aW m c) (ix2 (at' t i) k) := by
  rw [dh3b_point, dpred_row, out_row, v_eq]; rfl
theorem norm_at (k : Fin 1024) : (outsAt0 m c t.val t.isLt).2.2.2.1 (ix2 i k) = norms (aX m c) (aw m c) (ix2 (at' t i) k) := by
  rw [norm_point, X_row, w_eq]; rfl

/-- A row's products with the two halves of the weights, side by side, are its products with the weights. -/
theorem wide_proj (h : Row) (T : Back) (n : Fin 5632) :
    wide (proj h (gateT T)) (proj h (upT T)) n = ∑ k : Fin 1024, h k * T (ix2 n k) := by
  unfold wide
  split
  · rfl
  · rename_i hn
    have hu : ucol ⟨n.val - 2816, by omega⟩ = n := Fin.ext (by simp only [ucol]; omega)
    refine Finset.sum_congr rfl fun k _ => congrArg (_ * ·) ?_
    show T (ix2 (ucol ⟨n.val - 2816, _⟩) k) = _
    rw [hu]
theorem projs_at (n : Fin 5632) : (outsAt0 m c t.val t.isLt).2.2.1 (ix2 i n)
    = projs (aX m c) (aw m c) (aT m c) (ix2 (at' t i) n) := by
  refine (projs_point m c t (ix2 i n)).trans ?_
  rw [bA_eq, bB_eq, T_eq, w_eq]
  refine (wide_proj _ _ n).trans ?_
  show ∑ k : Fin 1024, weighted (row (bX m c t) i) (gain (aw m c)) k * _ = _
  rw [X_row]; rfl

theorem ls_eq (y : S1x128.Idx) : ls m c t y
    = ((1 / 2 : ℝ) : EReal) * ∑ i : Fin 256, missed (O m c (at' t i)) (gain (av m c)) (line (aY m c) (at' t i)) := by
  refine congrArg (_ * ·) (Finset.sum_congr rfl fun i _ => ?_)
  rw [out_row, Y_row, v_eq]
theorem dgs_eq (y : S1x1024.Idx) : dgs m c t y
    = ∑ i : Fin 256, D m c (at' t i) (y 1) * normed (O m c (at' t i)) (y 1) :=
  Finset.sum_congr rfl fun i _ => by rw [dpred_row, out_row]

/-- The points' rows are all the rows. -/
theorem sum_rows (f : Fin 4096 → EReal) : ∑ t : Fin cfg0.N, ∑ i : Fin 256, f (at' t i) = ∑ s : Fin 4096, f s :=
  (Fin.sum_univ_tiles cfg0.N 256 (by rw [show cfg0.N = 16 from N_0]) f).symm

/-! ## The output arrays -/

/-- The last point. -/
def tlast : Fin cfg0.N := ⟨15, by rw [show cfg0.N = 16 from N_0]; decide⟩
theorem tlast_succ : tlast.val + 1 = cfg0.N := (N_0 : cfg0.N = 16).symm

theorem loss_sum (y : S1x128.Idx) : (outsAt0 m c tlast.val tlast.isLt).2.2.2.2.1 y
    = loss (aX m c) (aY m c) (aw m c) (av m c) (aT m c) (aW m c) y := by
  refine (Pipeline.eq_sum_fin_of_reset_step_apply_last (M := EReal) (fun n hn y => (outsAt0 m c n hn).2.2.2.2.1 y) 16 (fun _ => 0)
    (ls m c) (fun t h => loss_first m c t h) (fun t h => loss_next m c t h) (le_of_eq N_0) tlast tlast_succ y).trans ?_
  simp only [ls_eq]
  rw [zero_add, ← mul_sum_real _ (by norm_num),
    sum_rows fun s => missed (O m c s) (gain (av m c)) (line (aY m c) s)]; rfl
theorem dg_sum (y : S1x1024.Idx) : (outsAt0 m c tlast.val tlast.isLt).2.2.2.2.2 y
    = dgain (aX m c) (aY m c) (aw m c) (av m c) (aT m c) (aW m c) y := by
  refine (Pipeline.eq_sum_fin_of_reset_step_apply_last (M := EReal) (fun n hn y => (outsAt0 m c n hn).2.2.2.2.2 y) 16 (fun _ => 0)
    (dgs m c) (fun t h => dg_first m c t h) (fun t h => dg_next m c t h) (le_of_eq N_0) tlast tlast_succ y).trans ?_
  simp only [dgs_eq]
  rw [zero_add, sum_rows fun s => D m c s (y 1) * normed (O m c s) (y 1)]; rfl

theorem arr6 : (dats m 0 c).arrAt 6 cfg0.N = dh3 (aX m c) (aY m c) (aw m c) (av m c) (aT m c) (aW m c) := by
  refine (dats m 0 c).arrAt_eq_of_covers 6 _ (by decide +kernel) fun t _ y => ?_
  blk_simp
  rw [after0_6]
  refine (congrArg _ (eq_ix2 _)).trans ((dh3_at m c t _ _).trans (congrArg _ ?_))
  blk_ext [idx t, at']
theorem arr7 : (dats m 0 c).arrAt 7 cfg0.N = dh3 (aX m c) (aY m c) (aw m c) (av m c) (aT m c) (aW m c) := by
  refine (dats m 0 c).arrAt_eq_of_covers 7 _ (by decide +kernel) fun t _ y => ?_
  blk_simp
  rw [after0_7]
  refine (congrArg _ (eq_ix2 _)).trans ((dh3b_at m c t _ _).trans (congrArg _ ?_))
  blk_ext [idx t, at']
theorem arr8 : (dats m 0 c).arrAt 8 cfg0.N = projs (aX m c) (aw m c) (aT m c) := by
  refine (dats m 0 c).arrAt_eq_of_covers 8 _ (by decide +kernel) fun t _ y => ?_
  blk_simp
  rw [after0_8]
  refine (congrArg _ (eq_ix2 _)).trans ((projs_at m c t _ _).trans (congrArg _ ?_))
  blk_ext [idx t, at']
theorem arr9 : (dats m 0 c).arrAt 9 cfg0.N = norms (aX m c) (aw m c) := by
  refine (dats m 0 c).arrAt_eq_of_covers 9 _ (by decide +kernel) fun t _ y => ?_
  blk_simp
  rw [after0_9]
  refine (congrArg _ (eq_ix2 _)).trans ((norm_at m c t _ _).trans (congrArg _ ?_))
  blk_ext [idx t, at']
theorem arr10 : (dats m 0 c).arrAt 10 cfg0.N = loss (aX m c) (aY m c) (aw m c) (av m c) (aT m c) (aW m c) := by
  refine (dats m 0 c).arrAt_eq_of_after_last 10 tlast (by decide +kernel) _ fun j => ?_
  blk_simp
  rw [after0_10]
  exact loss_sum m c j
theorem arr11 : (dats m 0 c).arrAt 11 cfg0.N = dgain (aX m c) (aY m c) (aw m c) (av m c) (aT m c) (aW m c) := by
  refine (dats m 0 c).arrAt_eq_of_after_last 11 tlast (by decide +kernel) _ fun j => ?_
  blk_simp
  rw [after0_11]
  exact dg_sum m c j

/-! ## What the input arrays hold -/

abbrev h2 : FVec Ideal S4096x1024 .f32 := m ((c : Thread nD τ).loc main_arg0)
abbrev gffn : FVec Ideal S1x1024 .f32 := m ((c : Thread nD τ).loc main_arg1)
abbrev wgu : FVec Ideal S1024x5632 .f32 := m ((c : Thread nD τ).loc main_arg2)
abbrev wdown : FVec Ideal S2816x1024 .f32 := m ((c : Thread nD τ).loc main_arg3)
abbrev gfinal : FVec Ideal S1x1024 .f32 := m ((c : Thread nD τ).loc main_arg4)
abbrev target : FVec Ideal S4096x1024 .f32 := m ((c : Thread nD τ).loc main_arg5)

theorem aX_eq : aX m c = h2 m c := V_main_arg0 m c
theorem aw_eq : aw m c = gffn m c := V_main_arg1 m c
theorem av_eq : av m c = gfinal m c := V_main_arg4 m c
theorem aY_eq : aY m c = target m c := V_main_arg5 m c
theorem aT_eq : aT m c = flip (wgu m c) := by
  show StableHlo.after hostOps0 (fun b => m (c, b)) _ = _
  after_results_simp; rfl
theorem aW_eq : aW m c = wdown m c := by
  show StableHlo.after hostOps0 (fun b => m (c, b)) _ = _
  after_results_simp; rfl

end Cert.MixArrays

end
-- ==== Proof.MixReference.lean ====
/- The reference of the channel mixer with the loss, read at an index: the projections, the mixer's output, the loss, and
   its gradients, which are the kernel's. -/
module

public import proofs.«01_k».proof.Proof.FfnReference
public import proofs.«01_k».proof.Proof.MixArrays
public import proofs.«01_k».proof.Proof.Gen.Reference5Ideal.Read

@[expose] public section

set_option maxRecDepth 16384

noncomputable section

namespace Cert.MixReference

open Idealize.ShloMosaic
open Cert.Reference5Ideal Cert.Reference5Ideal.Read Cert.Algebra Cert.Spec Cert.Step Cert.Ffn Cert.Mix
open Cert.FfnArrays (flip flip_apply)
open Cert.MixPoints (half_apply two_apply)

variable (x0 : FVec Ideal S4096x1024 .f32) (x1 : FVec Ideal S1x1024 .f32) (x2 : FVec Ideal S1024x5632 .f32)
  (x3 : FVec Ideal S2816x1024 .f32) (x4 : FVec Ideal S1x1024 .f32) (x5 : FVec Ideal S4096x1024 .f32)
  (s : Fin 4096) (j : Fin 2816) (k : Fin 1024) (n : Fin 5632)

/-! ## The normed input and its projections -/

theorem rinv_apply (u : Fin 1) : val_main_v8 (F := Ideal) x0 (ix2 s u) = rinv (line x0 s) := by
  pointwise [val_main_v8, val_main_v7, val_main_v6, val_main_v5, val_main_v4, val_main_v3, val_main_v2, val_main_v1, val_main_cst,
    val_main_cst_0, val_main_cst_1, rinv, meansq, line, Heads.ofBits_1024, eps]
theorem norm_apply : val_main_v13 (F := Ideal) x0 x1 (ix2 s k) = norms x0 x1 (ix2 s k) := by
  pointwise [val_main_v13, val_main_v12, val_main_v11, val_main_v0, val_main_v10, val_main_v9, rinv_apply x0, norms, weighted, normed,
    gain, line]
theorem normb_apply : val_main_v75 (F := Ideal) x0 x1 (ix2 s k) = norms x0 x1 (ix2 s k) := by
  pointwise [val_main_v75, norm_apply x0 x1]
theorem projs_apply : val_main_v14 (F := Ideal) x0 x1 x2 (ix2 s n) = projs x0 x1 (flip x2) (ix2 s n) := by
  pointwise [val_main_v14, norm_apply x0 x1, projs, norms, flip_apply x2]
theorem gate_apply : val_main_v15 (F := Ideal) x0 x1 x2 (ix2 s j)
    = proj (weighted (line x0 s) (gain x1)) (gateT (flip x2)) j := by
  pointwise [val_main_v15, val_main_v14, norm_apply x0 x1, proj, norms, gateT, flip_apply x2, gcol]
theorem up_apply : val_main_v16 (F := Ideal) x0 x1 x2 (ix2 s j)
    = proj (weighted (line x0 s) (gain x1)) (upT (flip x2)) j := by
  pointwise [val_main_v16, val_main_v14, norm_apply x0 x1, proj, norms, upT, flip_apply x2, ucol]

/-! ## The mixer's output -/

theorem act_apply : val_main_v18 (F := Ideal) x0 x1 x2 (ix2 s j)
    = act (proj (weighted (line x0 s) (gain x1)) (gateT (flip x2))) (proj (weighted (line x0 s) (gain x1)) (upT (flip x2))) j := by
  pointwise [val_main_v18, val_main_v17, val_main_call0_v5, val_main_call0_v4, val_main_call0_cst_0, val_main_call0_v3,
    val_main_call0_v2, val_main_call0_cst, val_main_call0_v1, val_main_call0_v0, gate_apply x0 x1 x2, up_apply x0 x1 x2,
    FfnPoints.one_apply, Ideal.logistic, act]

/-- The mixer's output in row `s`, as the kernel has it. -/
abbrev O (s : Fin 4096) : Row := outs x0 x1 (flip x2) x3 s

theorem out_apply : val_main_v20 (F := Ideal) x0 x1 x2 x3 (ix2 s k) = O x0 x1 x2 x3 s k := by
  pointwise [val_main_v20, val_main_v19, act_apply x0 x1 x2, outs, mixed, line]

/-! ## The last norm and the loss -/

theorem ms_apply (u : Fin 1) : val_main_v28 (F := Ideal) x0 x1 x2 x3 (ix2 s u) = meansq (O x0 x1 x2 x3 s) := by
  pointwise [val_main_v28, val_main_v27, val_main_v26, val_main_v25, val_main_v24, val_main_v23, val_main_v22, val_main_cst_2,
    val_main_cst_3, val_main_cst_4, out_apply x0 x1 x2 x3, meansq, Heads.ofBits_1024, eps]
theorem r_apply (u : Fin 1) : val_main_v29 (F := Ideal) x0 x1 x2 x3 (ix2 s u) = rinv (O x0 x1 x2 x3 s) := by
  pointwise [val_main_v29, ms_apply x0 x1 x2 x3, rinv]
theorem dr_apply (u : Fin 1) : val_main_v32 (F := Ideal) x0 x1 x2 x3 (ix2 s u)
    = ((-(1 / 2) : ℝ) : EReal) * Ideal.div (rinv (O x0 x1 x2 x3 s)) (meansq (O x0 x1 x2 x3 s)) := by
  pointwise [val_main_v32, val_main_v31, val_main_v30, val_main_cst_5, r_apply x0 x1 x2 x3, ms_apply x0 x1 x2 x3, Reference.ofBits_neghalf]
theorem normed_apply : val_main_v34 (F := Ideal) x0 x1 x2 x3 (ix2 s k) = normed (O x0 x1 x2 x3 s) k := by
  pointwise [val_main_v34, val_main_v33, r_apply x0 x1 x2 x3, out_apply x0 x1 x2 x3, normed]
theorem miss_apply : val_main_v38 (F := Ideal) x0 x1 x2 x3 x4 x5 (ix2 s k) = miss (O x0 x1 x2 x3 s) (gain x4) (line x5 s) k := by
  pointwise [val_main_v38, val_main_v37, val_main_v36, val_main_v35, val_main_v21, normed_apply x0 x1 x2 x3, miss, weighted, gain, line]
theorem missed_apply : val_main_v44 (F := Ideal) x0 x1 x2 x3 x4 x5 (ix1 s) = missed (O x0 x1 x2 x3 s) (gain x4) (line x5 s) := by
  pointwise [val_main_v44, val_main_v43, val_main_v42, val_main_v39, val_main_cst_7, val_main_cst_8, miss_apply x0 x1 x2 x3 x4 x5,
    missed, Heads.ofBits_1024]
theorem loss_apply (u : Fin 1) (l : Fin 128) : val_main_v76 (F := Ideal) x0 x1 x2 x3 x4 x5 (ix2 u l)
    = loss x0 x5 x1 x4 (flip x2) x3 (ix2 u l) := by
  pointwise [val_main_v76, val_main_v46, val_main_v45, val_main_cst_9, val_main_cst_10, missed_apply x0 x1 x2 x3 x4 x5, half_apply, loss]

/-! ## Back through the loss and the norm -/

/-- The loss's derivative in a prediction, from its three constants. -/
theorem slope_eq (d : EReal) :
    Ideal.div (((1 / 2 : ℝ) : EReal) * 1) ((1024 : ℝ) : EReal) * (((2 : ℝ) : EReal) * d) = d * ((1 / 1024 : ℝ) : EReal) := by
  rw [Ideal.div_coe (by norm_num), mul_one, ← mul_assoc, ← EReal.coe_mul, ← EReal.coe_mul, mul_comm]
  norm_num

theorem dpred_apply : val_main_v52 (F := Ideal) x0 x1 x2 x3 x4 x5 (ix2 s k) = dpreds x0 x5 x1 x4 (flip x2) x3 s k := by
  refine Eq.trans ?_ (slope_eq _)
  pointwise [val_main_v52, val_main_v51, val_main_v50, val_main_v49, val_main_v48, val_main_v47, val_main_v41, val_main_v40,
    val_main_cst_6, val_main_cst_11, val_main_cst_12, val_main_cst_13, miss_apply x0 x1 x2 x3 x4 x5, half_apply, two_apply,
    FfnPoints.one_apply, Heads.ofBits_1024]
theorem dg_apply (u : Fin 1) : val_main_v73 (F := Ideal) x0 x1 x2 x3 x4 x5 (ix2 u k)
    = Mix.dgain x0 x5 x1 x4 (flip x2) x3 (ix2 u k) := by
  pointwise [val_main_v73, val_main_v58, val_main_v55, val_main_v54, val_main_v53, val_main_cst_14, val_main_cst_15,
    normed_apply x0 x1 x2 x3, dpred_apply x0 x1 x2 x3 x4 x5, Mix.dgain]
  exact (Fin.sum_univ_one _).trans (Finset.sum_congr rfl fun s _ => mul_comm _ _)
theorem dhg_apply : val_main_v57 (F := Ideal) x0 x1 x2 x3 x4 x5 (ix2 s k)
    = dpreds x0 x5 x1 x4 (flip x2) x3 s k * gain x4 k := by
  pointwise [val_main_v57, val_main_v56, val_main_v35, val_main_v21, dpred_apply x0 x1 x2 x3 x4 x5, gain]
theorem dsum_apply : val_main_v68 (F := Ideal) x0 x1 x2 x3 x4 x5 (ix2 s k)
    = Ideal.div ((∑ k, O x0 x1 x2 x3 s k * (dpreds x0 x5 x1 x4 (flip x2) x3 s k * gain x4 k))
      * (((-(1 / 2) : ℝ) : EReal) * Ideal.div (rinv (O x0 x1 x2 x3 s)) (meansq (O x0 x1 x2 x3 s)))) ((1024 : ℝ) : EReal) := by
  pointwise [val_main_v68, val_main_v67, val_main_v66, val_main_v65, val_main_v64, val_main_v61, val_main_v60, val_main_v59,
    val_main_cst_16, val_main_cst_17, val_main_cst_18, dhg_apply x0 x1 x2 x3 x4 x5, out_apply x0 x1 x2 x3, dr_apply x0 x1 x2 x3,
    Heads.ofBits_1024]
  exact Fin.sum_univ_one _
theorem dh3_apply : val_main_v72 (F := Ideal) x0 x1 x2 x3 x4 x5 (ix2 s k) = dh3 x0 x5 x1 x4 (flip x2) x3 (ix2 s k) := by
  have h := dnorm_eq (O x0 x1 x2 x3 s) (fun k => dpreds x0 x5 x1 x4 (flip x2) x3 s k * gain x4 k) 0 k
  rw [zero_add, zero_add] at h
  refine Eq.trans ?_ h
  pointwise [val_main_v72, val_main_v71, val_main_v70, val_main_v69, val_main_v63, val_main_v62, dsum_apply x0 x1 x2 x3 x4 x5,
    dhg_apply x0 x1 x2 x3 x4 x5, out_apply x0 x1 x2 x3, r_apply x0 x1 x2 x3]
theorem dh3b_apply : val_main_v74 (F := Ideal) x0 x1 x2 x3 x4 x5 (ix2 s k) = dh3 x0 x5 x1 x4 (flip x2) x3 (ix2 s k) := by
  pointwise [val_main_v74, dh3_apply x0 x1 x2 x3 x4 x5]

end Cert.MixReference

end
-- ==== Proof.MixEquation.lean ====
/- The six output arrays of the channel mixer with the loss are the reference's six results on the same arguments. -/
module

public import proofs.«01_k».proof.Proof.MixReference

@[expose] public section

set_option maxRecDepth 16384

noncomputable section

namespace Cert.MixEquation

open Idealize.ShloMosaic Idealize.ShloMosaic.TcCoe Idealize.SL.Sem
open Cert.Kernel5Ideal Cert.Kernel5Ideal.Gen Cert.MixArrays
open Cert.Reference5Ideal.Read

variable (m : (ℓ : Loc nD τ sig) → Buf (Elt Ideal) ℓ) (c : Dev nD)

theorem dh3_eq : (dats m 0 c).arrAt 6 cfg0.N
    = val_main_v72 (F := Ideal) (h2 m c) (gffn m c) (wgu m c) (wdown m c) (gfinal m c) (target m c) := by
  rw [arr6, aX_eq, aY_eq, aw_eq, av_eq, aT_eq, aW_eq]
  funext y; rw [eq_ix2 y]
  exact (MixReference.dh3_apply ..).symm
theorem dh3b_eq : (dats m 0 c).arrAt 7 cfg0.N
    = val_main_v74 (F := Ideal) (h2 m c) (gffn m c) (wgu m c) (wdown m c) (gfinal m c) (target m c) := by
  rw [arr7, aX_eq, aY_eq, aw_eq, av_eq, aT_eq, aW_eq]
  funext y; rw [eq_ix2 y]
  exact (MixReference.dh3b_apply ..).symm
theorem projs_eq : (dats m 0 c).arrAt 8 cfg0.N = val_main_v14 (F := Ideal) (h2 m c) (gffn m c) (wgu m c) := by
  rw [arr8, aX_eq, aw_eq, aT_eq]
  funext y; rw [eq_ix2 y]
  exact (MixReference.projs_apply ..).symm
theorem norm_eq : (dats m 0 c).arrAt 9 cfg0.N = val_main_v75 (F := Ideal) (h2 m c) (gffn m c) := by
  rw [arr9, aX_eq, aw_eq]
  funext y; rw [eq_ix2 y]
  exact (MixReference.normb_apply ..).symm
theorem loss_eq : (dats m 0 c).arrAt 10 cfg0.N
    = val_main_v76 (F := Ideal) (h2 m c) (gffn m c) (wgu m c) (wdown m c) (gfinal m c) (target m c) := by
  rw [arr10, aX_eq, aY_eq, aw_eq, av_eq, aT_eq, aW_eq]
  funext y; rw [eq_ix2 y]
  exact (MixReference.loss_apply ..).symm
theorem dg_eq : (dats m 0 c).arrAt 11 cfg0.N
    = val_main_v73 (F := Ideal) (h2 m c) (gffn m c) (wgu m c) (wdown m c) (gfinal m c) (target m c) := by
  rw [arr11, aX_eq, aY_eq, aw_eq, av_eq, aT_eq, aW_eq]
  funext y; rw [eq_ix2 y]
  exact (MixReference.dg_apply ..).symm

end Cert.MixEquation

end
-- ==== Proof.Columns.lean ====
/- The weights of 2048 columns, held as eight blocks of 256 columns, and the products of rows with them. -/
module

public import proofs.«01_k».proof.Proof.Step

@[expose] public section

noncomputable section

namespace Cert.Columns

open Idealize.ShloMosaic Cert.Spec

/-- Weights of 2048 columns, and the same held as eight blocks. -/
abbrev Cols := (⟨2, ![1024, 2048]⟩ : Shape).Idx → EReal
abbrev Blocks := (⟨3, ![8, 1024, 256]⟩ : Shape).Idx → EReal
/-- A number for each of the 2048 columns. -/
abbrev Bias := (⟨2, ![1, 2048]⟩ : Shape).Idx → EReal

/-- Column `e` of block `d`; the block of a column, and its place there. -/
def col (d : Fin 8) (e : Fin 256) : Fin 2048 := ⟨256 * d.val + e.val, by omega⟩
def block (n : Fin 2048) : Fin 8 := ⟨n.val / 256, by omega⟩
def place (n : Fin 2048) : Fin 256 := ⟨n.val % 256, by omega⟩

theorem block_col (d : Fin 8) (e : Fin 256) : block (col d e) = d := Fin.ext (by simp only [block, col]; omega)
theorem place_col (d : Fin 8) (e : Fin 256) : place (col d e) = e := Fin.ext (by simp only [place, col]; omega)
theorem col_block (n : Fin 2048) : col (block n) (place n) = n := Fin.ext (by simp only [block, place, col]; omega)

/-- The eight blocks of an array of 2048 columns. -/
def blocks (W : Cols) : Blocks := fun y => W (ix2 (y 1) (col (y 0) (y 2)))

theorem blocks_apply (W : Cols) (d : Fin 8) (k : Fin 1024) (e : Fin 256) : blocks W (ix3 d k e) = W (ix2 k (col d e)) := rfl

/-- A row's product with a column of the blocks. -/
def across (h : Row) (B : Blocks) (n : Fin 2048) : EReal := ∑ k : Fin 1024, h k * B (ix3 (block n) k (place n))

theorem across_col (h : Row) (B : Blocks) (d : Fin 8) (e : Fin 256) : across h B (col d e) = ∑ k : Fin 1024, h k * B (ix3 d k e) := by
  unfold across; rw [block_col, place_col]
theorem across_blocks (h : Row) (W : Cols) (n : Fin 2048) : across h (blocks W) n = ∑ k : Fin 1024, h k * W (ix2 k n) := by
  unfold across; simp only [blocks_apply, col_block]

/-- The operations that split the weights by device, read at an index. -/
theorem split_apply (W : FVec Ideal ⟨2, ![1024, 2048]⟩ .f32) (hs : (⟨2, ![1024, 2048]⟩ : Shape).ShapeCasts ⟨3, ![1024, 8, 256]⟩)
    (ht : (⟨3, ![1024, 8, 256]⟩ : Shape).Transposes [1, 0, 2] ⟨3, ![8, 1024, 256]⟩) (hb : FTy.bits .bf16 < FTy.bits .f32)
    (d : Fin 8) (k : Fin 1024) (e : Fin 256) :
    (truncf .bf16 (transpose ⟨3, ![8, 1024, 256]⟩ [1, 0, 2] (shapeCast ⟨3, ![1024, 8, 256]⟩ W hs) ht) hb :
      FVec Ideal ⟨3, ![8, 1024, 256]⟩ .bf16) (ix3 d k e) = blocks W (ix3 d k e) := by
  pointwise [blocks_apply]
  exact congrArg W (congrArg (ix2 k) (Fin.ext (by simp only [col]; omega)))

end Cert.Columns

end
-- ==== Proof.InPoints.lean ====
/- What one grid point of the projection into the mixing block computes from its block of 512 rows: the projection, and
   its first 512 columns gated by the next 512. -/
module

public import proofs.«01_k».proof.Proof.Columns
public import proofs.«01_k».proof.Proof.Heads
public import proofs.«01_k».proof.Proof.FfnPoints
public import proofs.«01_k».proof.Proof.Gen.Kernel8Ideal.Value

@[expose] public section

set_option maxRecDepth 16384

noncomputable section

namespace Cert.InPoints

open Idealize.ShloMosaic Idealize.ShloMosaic.TcCoe Idealize.SL.Sem
open Cert.Kernel8Ideal Cert.Kernel8Ideal.Gen Cert.Algebra Cert.Spec Cert.Step Cert.Columns
open Cert.FfnPoints (row)

/-! ## The operations, read at an index -/

variable (X : FVec Ideal S512x1024 .f32) (w : FVec Ideal S1x1024 .f32) (H : FVec Ideal S512x1024 .bf16)
  (W : FVec Ideal S1x1024x256 .bf16) (b : FVec Ideal S1x256 .f32) (i : Fin 512) (j : Fin 1024) (e : Fin 256)

theorem norm_apply : k0_pay4 (F := Ideal) X w (ix2 i j) = weighted (row X i) (gain w) j := by
  pointwise [k0_pay4, weighted, normed, rinv, meansq, row, gain, Heads.ofBits_1024, eps]

/-- The eight products, each with the numbers added to its columns. -/
abbrev part (H : FVec Ideal S512x1024 .bf16) (W : FVec Ideal S1x1024x256 .bf16) (b : FVec Ideal S1x256 .f32) (i : Fin 512) (e : Fin 256) : EReal :=
  (∑ k : Fin 1024, H (ix2 i k) * W (ix3 0 k e)) + b (ix2 0 e)

theorem z0 : k0_pay5 (F := Ideal) X w W b (ix2 i e) = part (k0_pay4 X w) W b i e := by pointwise [k0_pay5, part]
theorem z1 : k0_pay6 (F := Ideal) X w W b (ix2 i e) = part (k0_pay4 X w) W b i e := by pointwise [k0_pay6, part]
theorem z2 : k0_pay8 (F := Ideal) H (k0_pay7 W) b (ix2 i e) = part H W b i e := by pointwise [k0_pay8, k0_pay7, part]
theorem z3 : k0_pay9 (F := Ideal) H W b (ix2 i e) = part H W b i e := by pointwise [k0_pay9, part]
theorem z4 : k0_pay10 (F := Ideal) H W b (ix2 i e) = part H W b i e := by pointwise [k0_pay10, part]
theorem z5 : k0_pay11 (F := Ideal) H W b (ix2 i e) = part H W b i e := by pointwise [k0_pay11, part]
theorem z6 : k0_pay1 (F := Ideal) H W b (ix2 i e) = part H W b i e := by pointwise [k0_pay1, part]
theorem z7 : k0_pay2 (F := Ideal) H W b (ix2 i e) = part H W b i e := by pointwise [k0_pay2, part]

theorem gated_apply (A B : FVec Ideal S512x512 .f32) (j : Fin 512) :
    k0_pay3 (F := Ideal) A B (ix2 i j) = A (ix2 i j) * Ideal.logistic (B (ix2 i j)) := by pointwise [k0_pay3, FfnPoints.one_apply, Ideal.logistic]

/-! ## The eight products, side by side -/

/-- Eight stores of 256 columns each. -/
theorem canon_cols (G : FVec Ideal S512x2048 .f32) (P0 P1 P2 P3 P4 P5 P6 P7 : FVec Ideal S512x256 .f32)
    (p0 : ∀ i e, P0 (ix2 i e) = G (ix2 i (col 0 e))) (p1 : ∀ i e, P1 (ix2 i e) = G (ix2 i (col 1 e)))
    (p2 : ∀ i e, P2 (ix2 i e) = G (ix2 i (col 2 e))) (p3 : ∀ i e, P3 (ix2 i e) = G (ix2 i (col 3 e)))
    (p4 : ∀ i e, P4 (ix2 i e) = G (ix2 i (col 4 e))) (p5 : ∀ i e, P5 (ix2 i e) = G (ix2 i (col 5 e)))
    (p6 : ∀ i e, P6 (ix2 i e) = G (ix2 i (col 6 e))) (p7 : ∀ i e, P7 (ix2 i e) = G (ix2 i (col 7 e))) :
    View.canon (Val := Elt Ideal) (s := S512x2048) (e := .f32)
      [⟨Rect.unit ![0, 1792] ![512, 256] inb_S512x2048_S512x256_0_1792, P7⟩,
       ⟨Rect.unit ![0, 1536] ![512, 256] inb_S512x2048_S512x256_0_1536, P6⟩,
       ⟨Rect.unit ![0, 1280] ![512, 256] inb_S512x2048_S512x256_0_1280, P5⟩,
       ⟨Rect.unit ![0, 1024] ![512, 256] inb_S512x2048_S512x256_0_1024, P4⟩,
       ⟨Rect.unit ![0, 768] ![512, 256] inb_S512x2048_S512x256_0_768, P3⟩,
       ⟨Rect.unit ![0, 512] ![512, 256] inb_S512x2048_S512x256_0_512, P2⟩,
       ⟨Rect.unit ![0, 256] ![512, 256] inb_S512x2048_S512x256_0_256, P1⟩,
       ⟨Rect.unit ![0, 0] ![512, 256] inb_S512x2048_S512x256_0_0, P0⟩] = G := by
  funext y
  have at_col : ∀ (d : Fin 8) (x : S512x256.Idx), (y 0 : Fin 512).val = (x 0 : Fin 512).val →
      (y 1 : Fin 2048).val = 256 * d.val + (x 1 : Fin 256).val → G (ix2 (x 0) (col d (x 1))) = G y := fun d x e0 e1 =>
    congrArg G (funext fun a => Fin.ext (by
      match a with
      | 0 => exact e0.symm
      | 1 => exact e1.symm))
  canon_tiles x h
  · rw [eq_ix2 x]; exact (p7 _ _).trans (at_col 7 x (by simpa using h0) (by simpa using h1))
  · rw [eq_ix2 x]; exact (p6 _ _).trans (at_col 6 x (by simpa using h0) (by simpa using h1))
  · rw [eq_ix2 x]; exact (p5 _ _).trans (at_col 5 x (by simpa using h0) (by simpa using h1))
  · rw [eq_ix2 x]; exact (p4 _ _).trans (at_col 4 x (by simpa using h0) (by simpa using h1))
  · rw [eq_ix2 x]; exact (p3 _ _).trans (at_col 3 x (by simpa using h0) (by simpa using h1))
  · rw [eq_ix2 x]; exact (p2 _ _).trans (at_col 2 x (by simpa using h0) (by simpa using h1))
  · rw [eq_ix2 x]; exact (p1 _ _).trans (at_col 1 x (by simpa using h0) (by simpa using h1))
  · rw [eq_ix2 x]; exact (p0 _ _).trans (at_col 0 x (by simpa using h0) (by simpa using h1))

/-- A block of the weights, and its columns' numbers. -/
abbrev wld (B : Vec Ideal S8x1024x256 .bf16) (d : ℕ)
    (inb : ∀ a, (![d, 0, 0] : Fin 3 → ℕ) a + (![1, 1024, 256] : Fin 3 → ℕ) a ≤ S8x1024x256.size a) : Vec Ideal S1x1024x256 .bf16 :=
  View.ld (Val := Elt Ideal) B (Rect.unit (s := S8x1024x256) ![d, 0, 0] ![1, 1024, 256] inb)
abbrev bld (b : Vec Ideal S1x2048 .f32) (o : ℕ)
    (inb : ∀ a, (![0, o] : Fin 2 → ℕ) a + (![1, 256] : Fin 2 → ℕ) a ≤ S1x2048.size a) : Vec Ideal S1x256 .f32 :=
  View.ld (Val := Elt Ideal) b (Rect.unit (s := S1x2048) ![0, o] ![1, 256] inb)

theorem wld_apply (B : Vec Ideal S8x1024x256 .bf16) (d : Fin 8) (inb) (k : Fin 1024) (e : Fin 256) :
    wld B d.val inb (ix3 0 k e) = B (ix3 d k e) :=
  View.ld_unit_apply_of B _ _ _ _ _ fun a => by
    match a with
    | 0 => simp
    | 1 => simp
    | 2 => simp
theorem bld_apply (b : Vec Ideal S1x2048 .f32) (d : Fin 8) (o : ℕ) (ho : o = 256 * d.val) (inb) (e : Fin 256) :
    bld b o inb (ix2 0 e) = b (ix2 0 (col d e)) :=
  View.ld_unit_apply_of b _ _ _ _ _ fun a => by
    match a with
    | 0 => simp
    | 1 => simp [col, ho]

/-- The projection of a block's rows. -/
def zs (X : FVec Ideal S512x1024 .f32) (w : FVec Ideal S1x1024 .f32) (B : FVec Ideal S8x1024x256 .bf16) (b : FVec Ideal S1x2048 .f32) :
    FVec Ideal S512x2048 .f32 :=
  fun y => across (weighted (row X (y 0)) (gain w)) B (y 1) + b (ix2 0 (y 1))

variable (B : FVec Ideal S8x1024x256 .bf16) (v : FVec Ideal S1x2048 .f32)

theorem part_eq (d : Fin 8) (inb) (o : ℕ) (ho : o = 256 * d.val) (inb') (i : Fin 512) (e : Fin 256) :
    part (k0_pay4 X w) (wld B d.val inb) (bld v o inb') i e = zs X w B v (ix2 i (col d e)) := by
  show _ = across (weighted (row X i) (gain w)) B (col d e) + v (ix2 0 (col d e))
  rw [across_col]
  refine congrArg₂ (· + ·) (Finset.sum_congr rfl fun k _ => ?_) (bld_apply v d o ho inb' e)
  rw [norm_apply, wld_apply]

theorem canon_z : View.canon (Val := Elt Ideal) (s := S512x2048) (e := .f32)
      [⟨Rect.unit ![0, 1792] ![512, 256] inb_S512x2048_S512x256_0_1792, k0_pay2 (k0_pay4 X w)
          (wld B 7 inb_S8x1024x256_S1x1024x256_7_0_0) (bld v 1792 inb_S1x2048_S1x256_0_1792)⟩,
       ⟨Rect.unit ![0, 1536] ![512, 256] inb_S512x2048_S512x256_0_1536, k0_pay1 (k0_pay4 X w)
          (wld B 6 inb_S8x1024x256_S1x1024x256_6_0_0) (bld v 1536 inb_S1x2048_S1x256_0_1536)⟩,
       ⟨Rect.unit ![0, 1280] ![512, 256] inb_S512x2048_S512x256_0_1280, k0_pay11 (k0_pay4 X w)
          (wld B 5 inb_S8x1024x256_S1x1024x256_5_0_0) (bld v 1280 inb_S1x2048_S1x256_0_1280)⟩,
       ⟨Rect.unit ![0, 1024] ![512, 256] inb_S512x2048_S512x256_0_1024, k0_pay10 (k0_pay4 X w)
          (wld B 4 inb_S8x1024x256_S1x1024x256_4_0_0) (bld v 1024 inb_S1x2048_S1x256_0_1024)⟩,
       ⟨Rect.unit ![0, 768] ![512, 256] inb_S512x2048_S512x256_0_768, k0_pay9 (k0_pay4 X w)
          (wld B 3 inb_S8x1024x256_S1x1024x256_3_0_0) (bld v 768 inb_S1x2048_S1x256_0_768)⟩,
       ⟨Rect.unit ![0, 512] ![512, 256] inb_S512x2048_S512x256_0_512, k0_pay8 (k0_pay4 X w)
          (k0_pay7 (wld B 2 inb_S8x1024x256_S1x1024x256_2_0_0)) (bld v 512 inb_S1x2048_S1x256_0_512)⟩,
       ⟨Rect.unit ![0, 256] ![512, 256] inb_S512x2048_S512x256_0_256, k0_pay6 X w
          (wld B 1 inb_S8x1024x256_S1x1024x256_1_0_0) (bld v 256 inb_S1x2048_S1x256_0_256)⟩,
       ⟨Rect.unit ![0, 0] ![512, 256] inb_S512x2048_S512x256_0_0, k0_pay5 X w
          (wld B 0 inb_S8x1024x256_S1x1024x256_0_0_0) (bld v 0 inb_S1x2048_S1x256_0_0)⟩] = zs X w B v :=
  canon_cols _ _ _ _ _ _ _ _ _
    (fun i e => (z0 ..).trans (part_eq X w B v 0 _ _ rfl _ i e)) (fun i e => (z1 ..).trans (part_eq X w B v 1 _ _ rfl _ i e))
    (fun i e => (z2 ..).trans (part_eq X w B v 2 _ _ rfl _ i e)) (fun i e => (z3 ..).trans (part_eq X w B v 3 _ _ rfl _ i e))
    (fun i e => (z4 ..).trans (part_eq X w B v 4 _ _ rfl _ i e)) (fun i e => (z5 ..).trans (part_eq X w B v 5 _ _ rfl _ i e))
    (fun i e => (z6 ..).trans (part_eq X w B v 6 _ _ rfl _ i e)) (fun i e => (z7 ..).trans (part_eq X w B v 7 _ _ rfl _ i e))

/-- A load of 512 columns, read at an index. -/
theorem zld_apply (Z : Vec Ideal S512x2048 .f32) (o : ℕ)
    (inb : ∀ a, (![0, o] : Fin 2 → ℕ) a + (![512, 512] : Fin 2 → ℕ) a ≤ S512x2048.size a) (i j : Fin 512) (n : Fin 2048)
    (hn : n.val = o + j.val) :
    View.ld (Val := Elt Ideal) Z (Rect.unit (s := S512x2048) ![0, o] ![512, 512] inb) (ix2 i j) = Z (ix2 i n) :=
  View.ld_unit_apply_of Z _ _ _ _ _ fun a => by
    match a with
    | 0 => simp
    | 1 => simpa using hn

/-- The gated columns of a block's rows: column `j` and its gate among the columns of the projection. -/
def zcol (j : Fin 512) : Fin 2048 := ⟨j.val, by omega⟩
def gcol (j : Fin 512) : Fin 2048 := ⟨512 + j.val, by omega⟩
def gated (Z : FVec Ideal S512x2048 .f32) : FVec Ideal S512x512 .f32 :=
  fun y => Z (ix2 (y 0) (zcol (y 1))) * Ideal.logistic (Z (ix2 (y 0) (gcol (y 1))))

/-! ## A point's results -/

variable (m : (ℓ : Loc nD τ sig) → Buf (Elt Ideal) ℓ) (c : Dev nD) (t : Fin cfg0.N)

abbrev bX : FVec Ideal S512x1024 .f32 := iblk m c 0 t
abbrev bw : FVec Ideal S1x1024 .f32 := iblk m c 1 t
abbrev bW : FVec Ideal S8x1024x256 .bf16 := iblk m c 2 t
abbrev bb : FVec Ideal S1x2048 .f32 := iblk m c 3 t

theorem z_point : (outsAt0 m c t).1 = zs (bX m c t) (bw m c t) (bW m c t) (bb m c t) := by
  unfold outsAt0
  frame_out
  exact canon_z (bX m c t) (bw m c t) (bW m c t) (bb m c t)
theorem a_point : (outsAt0 m c t).2 = gated (zs (bX m c t) (bw m c t) (bW m c t) (bb m c t)) := by
  unfold outsAt0
  frame_out
  rw [View.readCov_eq_canon', View.readCov_eq_canon']
  funext y; rw [eq_ix2 y]
  refine (gated_apply ..).trans (congrArg₂ (fun a b => a * Ideal.logistic b) ?_ ?_)
  · exact (congrFun (canon_z (bX m c t) (bw m c t) (bW m c t) (bb m c t)) _).trans (zld_apply _ 0 inb_S512x2048_S512x512_0_0 _ _ _ (by simp [zcol]))
  · exact (congrFun (canon_z (bX m c t) (bw m c t) (bW m c t) (bb m c t)) _).trans (zld_apply _ 512 inb_S512x2048_S512x512_0_512 _ _ _ rfl)

end Cert.InPoints

end
-- ==== Proof.DkvPoints.lean ====
/- What the gradients of the projection to keys and values are computed from: the eight products that give the weights'
   gradient, and the eight that are summed into the gradient of the memory's norm, from which the norm's weights get theirs. -/
module

public import proofs.«01_k».proof.Proof.InPoints
public import proofs.«01_k».proof.Proof.Gen.Kernel6Ideal.Value

@[expose] public section

set_option maxRecDepth 16384

noncomputable section

namespace Cert.DkvPoints

open Idealize.ShloMosaic Idealize.ShloMosaic.TcCoe Idealize.SL.Sem
open Cert.Kernel6Ideal Cert.Kernel6Ideal.Gen Cert.Algebra Cert.Spec Cert.Step Cert.Columns
open Cert.FfnPoints (row)
open Cert.InPoints (wld wld_apply)

/-! ## Sums over all columns, block by block -/

/-- The columns, as a block and a place in it. -/
def places : Fin 8 × Fin 256 ≃ Fin 2048 where
  toFun p := col p.1 p.2
  invFun n := (block n, place n)
  left_inv p := Prod.ext (block_col ..) (place_col ..)
  right_inv n := col_block n

theorem sum_blocks (f : Fin 2048 → EReal) : ∑ d : Fin 8, ∑ e : Fin 256, f (col d e) = ∑ n, f n :=
  (Fintype.sum_prod_type' (fun d e => f (col d e))).symm.trans (Equiv.sum_comp places f)

/-! ## The operations, read at an index -/

variable (D : FVec Ideal S256x2048 .f32) (D' : FVec Ideal S256x2048 .bf16) (N : FVec Ideal S256x1024 .bf16)
  (W W' W'' : FVec Ideal S1x1024x256 .bf16) (A A' X : FVec Ideal S256x1024 .f32) (i : Fin 256) (k : Fin 1024) (e : Fin 256)

/-- An entry of the weights' gradient, and a block's share of an entry of the norm's. -/
def dweight (D : FVec Ideal S256x2048 .f32) (N : FVec Ideal S256x1024 .bf16) (k : Fin 1024) (n : Fin 2048) : EReal :=
  ∑ i : Fin 256, N (ix2 i k) * D (ix2 i n)
def share (D : FVec Ideal S256x2048 .f32) (W : FVec Ideal S1x1024x256 .bf16) (d : Fin 8) (i : Fin 256) (k : Fin 1024) : EReal :=
  ∑ e : Fin 256, D (ix2 i (col d e)) * W (ix3 0 k e)

theorem w0 : k0_pay5 (F := Ideal) D N (ix3 0 k e) = dweight D N k (col 0 e) := by
  pointwise [k0_pay5, k0_pay4, k0_pay3, dweight, col]
theorem w1 : k0_pay8 (F := Ideal) D N (ix3 0 k e) = dweight D N k (col 1 e) := by
  pointwise [k0_pay8, k0_pay6, k0_pay3, dweight, col]
theorem w2 : k0_pay11 (F := Ideal) (k0_pay9 D) N (ix3 0 k e) = dweight D N k (col 2 e) := by
  pointwise [k0_pay11, k0_pay9, k0_pay3, dweight, col]
theorem w3 : k0_pay13 (F := Ideal) (k0_pay3 D) N (ix3 0 k e) = dweight D N k (col 3 e) := by
  pointwise [k0_pay13, k0_pay12, k0_pay3, dweight, col]
theorem w4 : k0_pay16 (F := Ideal) (k0_pay3 D) N (ix3 0 k e) = dweight D N k (col 4 e) := by
  pointwise [k0_pay16, k0_pay14, k0_pay3, dweight, col]
theorem w5 : k0_pay18 (F := Ideal) (k0_pay3 D) N (ix3 0 k e) = dweight D N k (col 5 e) := by
  pointwise [k0_pay18, k0_pay17, k0_pay3, dweight, col]
theorem w6 : k0_pay20 (F := Ideal) (k0_pay3 D) N (ix3 0 k e) = dweight D N k (col 6 e) := by
  pointwise [k0_pay20, k0_pay19, k0_pay3, dweight, col]
theorem w7 : k0_pay1 (F := Ideal) (k0_pay21 (k0_pay3 D)) (k0_pay23 N) (ix3 0 k e) = dweight D N k (col 7 e) := by
  pointwise [k0_pay1, k0_pay21, k0_pay23, k0_pay3, dweight, col]

theorem n01 : k0_pay7 (F := Ideal) D W W' (ix2 i k) = share D W 0 i k + share D W' 1 i k := by
  pointwise [k0_pay7, k0_pay6, k0_pay4, k0_pay3, share, col]
theorem n2 : k0_pay10 (F := Ideal) D W (ix2 i k) = share D W 2 i k := by
  pointwise [k0_pay10, k0_pay9, k0_pay3, share, col]
theorem n34 : k0_pay15 (F := Ideal) (k0_pay3 D) A A' W W' (ix2 i k)
    = A (ix2 i k) + A' (ix2 i k) + share D W 3 i k + share D W' 4 i k := by
  pointwise [k0_pay15, k0_pay14, k0_pay12, k0_pay3, share, col]
theorem n567 : k0_pay22 (F := Ideal) (k0_pay3 D) A W W' W'' (ix2 i k)
    = A (ix2 i k) + share D W 5 i k + share D W' 6 i k + share D W'' 7 i k := by
  pointwise [k0_pay22, k0_pay21, k0_pay19, k0_pay17, k0_pay3, share, col]
theorem dgain_apply : k0_pay2 (F := Ideal) A X (ix2 0 k) = ∑ i : Fin 256, A (ix2 i k) * normed (row X i) k := by
  pointwise [k0_pay2, normed, rinv, meansq, row, Heads.ofBits_1024, eps]

/-! ## The weights' gradient, block by block -/

/-- The weights' gradient, as eight blocks of columns. -/
def dws (D : FVec Ideal S256x2048 .f32) (N : FVec Ideal S256x1024 .bf16) : FVec Ideal S8x1024x256 .bf16 :=
  fun y => dweight D N (y 1) (col (y 0) (y 2))

theorem canon_blocks (G : FVec Ideal S8x1024x256 .bf16) (P0 P1 P2 P3 P4 P5 P6 P7 : FVec Ideal S1x1024x256 .bf16)
    (p0 : ∀ k e, P0 (ix3 0 k e) = G (ix3 0 k e)) (p1 : ∀ k e, P1 (ix3 0 k e) = G (ix3 1 k e))
    (p2 : ∀ k e, P2 (ix3 0 k e) = G (ix3 2 k e)) (p3 : ∀ k e, P3 (ix3 0 k e) = G (ix3 3 k e))
    (p4 : ∀ k e, P4 (ix3 0 k e) = G (ix3 4 k e)) (p5 : ∀ k e, P5 (ix3 0 k e) = G (ix3 5 k e))
    (p6 : ∀ k e, P6 (ix3 0 k e) = G (ix3 6 k e)) (p7 : ∀ k e, P7 (ix3 0 k e) = G (ix3 7 k e)) :
    View.canon (Val := Elt Ideal) (s := S8x1024x256) (e := .bf16)
      [⟨Rect.unit ![7, 0, 0] ![1, 1024, 256] inb_S8x1024x256_S1x1024x256_7_0_0, P7⟩,
       ⟨Rect.unit ![6, 0, 0] ![1, 1024, 256] inb_S8x1024x256_S1x1024x256_6_0_0, P6⟩,
       ⟨Rect.unit ![5, 0, 0] ![1, 1024, 256] inb_S8x1024x256_S1x1024x256_5_0_0, P5⟩,
       ⟨Rect.unit ![4, 0, 0] ![1, 1024, 256] inb_S8x1024x256_S1x1024x256_4_0_0, P4⟩,
       ⟨Rect.unit ![3, 0, 0] ![1, 1024, 256] inb_S8x1024x256_S1x1024x256_3_0_0, P3⟩,
       ⟨Rect.unit ![2, 0, 0] ![1, 1024, 256] inb_S8x1024x256_S1x1024x256_2_0_0, P2⟩,
       ⟨Rect.unit ![1, 0, 0] ![1, 1024, 256] inb_S8x1024x256_S1x1024x256_1_0_0, P1⟩,
       ⟨Rect.unit ![0, 0, 0] ![1, 1024, 256] inb_S8x1024x256_S1x1024x256_0_0_0, P0⟩] = G := by
  funext y
  have in_block : ∀ (P : FVec Ideal S1x1024x256 .bf16) (d : Fin 8) (x : S1x1024x256.Idx),
      (∀ k e, P (ix3 0 k e) = G (ix3 d k e)) → (y 0 : Fin 8).val = d.val + (x 0 : Fin 1).val →
      (y 1 : Fin 1024).val = (x 1 : Fin 1024).val → (y 2 : Fin 256).val = (x 2 : Fin 256).val → P x = G y := fun P d x p e0 e1 e2 => by
    have hx : (x 0 : Fin 1).val = 0 := Nat.lt_one_iff.mp (x 0 : Fin 1).isLt
    refine (congrArg P (show x = ix3 0 (x 1) (x 2) from ?_)).trans ((p _ _).trans (congrArg G (funext fun a => Fin.ext ?_)))
    · refine (eq_ix3 x).trans (congrArg (fun u => ix3 u (x 1) (x 2)) (Fin.ext hx))
    · match a with
      | 0 => exact (e0.trans (congrArg (d.val + ·) hx)).symm
      | 1 => exact e1.symm
      | 2 => exact e2.symm
  canon_tiles x h
  · exact in_block P7 7 x p7 (by simpa using h0) (by simpa using h1) (by simpa using h2)
  · exact in_block P6 6 x p6 (by simpa using h0) (by simpa using h1) (by simpa using h2)
  · exact in_block P5 5 x p5 (by simpa using h0) (by simpa using h1) (by simpa using h2)
  · exact in_block P4 4 x p4 (by simpa using h0) (by simpa using h1) (by simpa using h2)
  · exact in_block P3 3 x p3 (by simpa using h0) (by simpa using h1) (by simpa using h2)
  · exact in_block P2 2 x p2 (by simpa using h0) (by simpa using h1) (by simpa using h2)
  · exact in_block P1 1 x p1 (by simpa using h0) (by simpa using h1) (by simpa using h2)
  · exact in_block P0 0 x p0 (by simpa using h0) (by simpa using h1) (by simpa using h2)

/-! ## The norm's gradients -/

variable (B : FVec Ideal S8x1024x256 .bf16)

/-- The gradient of the memory's norm, and of the norm's weights. -/
def dnorm (D : FVec Ideal S256x2048 .f32) (B : FVec Ideal S8x1024x256 .bf16) (i : Fin 256) (k : Fin 1024) : EReal :=
  ∑ n : Fin 2048, D (ix2 i n) * B (ix3 (block n) k (place n))
def dgains (D : FVec Ideal S256x2048 .f32) (B : FVec Ideal S8x1024x256 .bf16) (X : FVec Ideal S256x1024 .f32) : FVec Ideal S1x1024 .f32 :=
  fun y => ∑ i : Fin 256, dnorm D B i (y 1) * normed (row X i) (y 1)

theorem share_eq (d : Fin 8) (inb) :
    share D (wld B d.val inb) d i k = ∑ e : Fin 256, D (ix2 i (col d e)) * B (ix3 (block (col d e)) k (place (col d e))) :=
  Finset.sum_congr rfl fun e _ => by rw [wld_apply, block_col, place_col]

theorem dnorm_eq (inb0 inb1 inb2 inb3 inb4 inb5 inb6 inb7) :
    k0_pay22 (F := Ideal) (k0_pay3 D) (k0_pay15 (k0_pay3 D) (k0_pay7 D (wld B 0 inb0) (wld B 1 inb1)) (k0_pay10 D (wld B 2 inb2))
      (wld B 3 inb3) (wld B 4 inb4)) (wld B 5 inb5) (wld B 6 inb6) (wld B 7 inb7) (ix2 i k) = dnorm D B i k := by
  rw [n567, n34, n01, n2]
  refine Eq.trans ?_ (sum_blocks fun n => D (ix2 i n) * B (ix3 (block n) k (place n)))
  rw [Fin.sum_univ_eight]
  rw [← share_eq D i k B 0 inb0, ← share_eq D i k B 1 inb1, ← share_eq D i k B 2 inb2, ← share_eq D i k B 3 inb3,
    ← share_eq D i k B 4 inb4, ← share_eq D i k B 5 inb5, ← share_eq D i k B 6 inb6, ← share_eq D i k B 7 inb7]
  rfl

/-! ## What the two blocks hold -/

variable (m : (ℓ : Loc nD τ sig) → Buf (Elt Ideal) ℓ) (c : Dev nD) (t : Fin cfg0.N)

abbrev bD : FVec Ideal S256x2048 .f32 := iblk m c 0 t
abbrev bN : FVec Ideal S256x1024 .bf16 := iblk m c 1 t
abbrev bX : FVec Ideal S256x1024 .f32 := iblk m c 2 t
abbrev bW : FVec Ideal S8x1024x256 .bf16 := iblk m c 4 t

theorem dw_point : (outsAt0 m c t).1 = dws (bD m c t) (bN m c t) := by
  unfold outsAt0
  frame_out
  simp only [read_unread_whole]
  exact canon_blocks (dws (bD m c t) (bN m c t)) _ _ _ _ _ _ _ _ (fun k e => w0 ..) (fun k e => w1 ..) (fun k e => w2 ..)
    (fun k e => w3 ..) (fun k e => w4 ..) (fun k e => w5 ..) (fun k e => w6 ..) (fun k e => w7 ..)
theorem dg_point : (outsAt0 m c t).2 = dgains (bD m c t) (bW m c t) (bX m c t) := by
  unfold outsAt0
  frame_out
  simp only [read_unread_whole]
  funext y
  refine (congrArg _ ((eq_ix2 y).trans (congrArg (fun u => ix2 u (y 1)) (Subsingleton.elim (α := Fin 1) _ 0)))).trans ((dgain_apply ..).trans ?_)
  exact Finset.sum_congr rfl fun i _ => congrArg (· * _) (dnorm_eq (bD m c t) i (y 1) (bW m c t) _ _ _ _ _ _ _ _)

end Cert.DkvPoints

end
-- ==== Proof.DkvEquation.lean ====
/- The gradients of the projection to keys and values: what the output arrays hold at the end, the reference read at an
   index, and the two being the same. -/
module

public import proofs.«01_k».proof.Proof.DkvPoints
public import proofs.«01_k».proof.Proof.Gen.Reference6Ideal.Read

@[expose] public section

set_option maxRecDepth 16384

noncomputable section

namespace Cert.DkvReference

open Idealize.ShloMosaic
open Cert.Reference6Ideal Cert.Reference6Ideal.Read Cert.Algebra Cert.Spec Cert.Step Cert.Columns
open Cert.DkvPoints (dweight dws dnorm dgains)
open Cert.FfnPoints (row)

/-- The memory's norm. -/
def norms (X : FVec Ideal S256x1024 .f32) (w : FVec Ideal S1x1024 .f32) : FVec Ideal S256x1024 .bf16 :=
  fun y => weighted (row X (y 0)) (gain w) (y 1)

variable (x1 : FVec Ideal S256x2048 .f32) (x2 : FVec Ideal S256x1024 .f32) (x3 : FVec Ideal S1x1024 .f32)
  (x4 : FVec Ideal S1024x2048 .f32) (s : Fin 256) (k : Fin 1024) (n : Fin 2048) (d : Fin 8) (e : Fin 256)

theorem rinv_apply (u : Fin 1) : val_main_v8 (F := Ideal) x2 (ix2 s u) = rinv (row x2 s) := by
  pointwise [val_main_v8, val_main_v7, val_main_v6, val_main_v5, val_main_v4, val_main_v3, val_main_v2, val_main_v1, val_main_cst,
    val_main_cst_0, val_main_cst_1, rinv, meansq, row, Heads.ofBits_1024, eps]
theorem normed_apply : val_main_v10 (F := Ideal) x2 (ix2 s k) = normed (row x2 s) k := by
  pointwise [val_main_v10, val_main_v9, rinv_apply x2, normed, row]
theorem norm_apply : val_main_v13 (F := Ideal) x2 x3 (ix2 s k) = norms x2 x3 (ix2 s k) := by
  pointwise [val_main_v13, val_main_v12, val_main_v11, val_main_v0, normed_apply x2, norms, weighted, gain]

theorem dweight_apply : val_main_v16 (F := Ideal) x1 x2 x3 (ix2 k n) = dweight x1 (norms x2 x3) k n := by
  pointwise [val_main_v16, val_main_v15, norm_apply x2 x3, dweight]
  exact Finset.sum_congr rfl fun s _ => mul_comm _ _
theorem dws_apply : val_main_v25 (F := Ideal) x1 x2 x3 (ix3 d k e) = dws x1 (norms x2 x3) (ix3 d k e) := by
  refine Eq.trans ?_ (dweight_apply x1 x2 x3 k (col d e))
  pointwise [val_main_v25, val_main_v24, val_main_v23]
  exact congrArg (val_main_v16 (F := Ideal) x1 x2 x3) (congrArg (ix2 k) (Fin.ext (by simp only [col]; omega)))

theorem dnorm_apply : val_main_v17 (F := Ideal) x1 x4 (ix2 s k) = dnorm x1 (blocks x4) s k := by
  refine Eq.trans ?_ (Finset.sum_congr rfl fun n _ => congrArg (x1 (ix2 s n) * ·) ((blocks_apply x4 ..).trans (congrArg (fun n => x4 (ix2 k n)) (col_block n))).symm)
  pointwise [val_main_v17]
theorem dgains_apply : val_main_v22 (F := Ideal) x1 x2 x4 (ix2 0 k) = dgains x1 (blocks x4) x2 (ix2 0 k) := by
  pointwise [val_main_v22, val_main_v21, val_main_v20, val_main_v19, val_main_v18, val_main_cst_2, val_main_cst_3, normed_apply x2,
    dnorm_apply x1 x4, dgains]
  refine (Fin.sum_univ_one _).trans ?_
  exact Finset.sum_congr rfl fun s _ => mul_comm (G := EReal) _ _

end Cert.DkvReference

namespace Cert.DkvEquation

open Idealize.ShloMosaic Idealize.ShloMosaic.TcCoe Idealize.SL.Sem
open Cert.Kernel6Ideal Cert.Kernel6Ideal.Gen Cert.Algebra Cert.Spec Cert.Step Cert.Columns Cert.DkvPoints
open Cert.Reference6Ideal.Read
open Cert.FfnPoints (row)
open Cert.DkvReference (norms)

variable (m : (ℓ : Loc nD τ sig) → Buf (Elt Ideal) ℓ) (c : Dev nD) (t : Fin cfg0.N)

abbrev dkv : FVec Ideal S256x2048 .f32 := m ((c : Thread nD τ).loc main_arg1)
abbrev mem : FVec Ideal S256x1024 .f32 := m ((c : Thread nD τ).loc main_arg2)
abbrev gkv : FVec Ideal S1x1024 .f32 := m ((c : Thread nD τ).loc main_arg3)
abbrev wkv : FVec Ideal S1024x2048 .f32 := m ((c : Thread nD τ).loc main_arg4)

theorem idx : ∀ t : Fin cfg0.N, win0_0.index t = ![0, 0] ∧ win0_1.index t = ![0, 0] ∧ win0_2.index t = ![0, 0]
    ∧ win0_4.index t = ![0, 0, 0] ∧ win0_5.index t = ![0, 0, 0] ∧ win0_6.index t = ![0, 0] :=
  (by decide +kernel : ∀ t : Fin grid0.N, _)

theorem W_eq : V m c main_v17 = blocks (wkv m c) := by
  funext y; rw [eq_ix3 y]
  refine Eq.trans ?_ (split_apply (wkv m c) shapeCasts_S1024x2048_S1024x8x256 transposes_S1024x8x256_S8x1024x256_1_0_2 bitsLt_bf16_f32 _ _ _)
  refine congrFun ?_ _
  show StableHlo.after hostOps0 (fun b => m (c, b)) _ = _
  after_results_simp; rfl
theorem N_eq : V m c main_v14 = norms (mem m c) (gkv m c) := by
  refine Eq.trans (b := val_main_v13 (F := Ideal) (mem m c) (gkv m c)) ?_ ?_
  · show StableHlo.after hostOps0 (fun b => m (c, b)) _ = _
    after_results_simp; rfl
  · funext y; rw [eq_ix2 y]
    exact DkvReference.norm_apply ..

theorem bD_eq : bD m c t = dkv m c := by
  refine Eq.trans ?_ (V_main_arg1 m c)
  funext y; rw [eq_ix2 y]; blk_point [iblk, V, idx t]
theorem bX_eq : bX m c t = mem m c := by
  refine Eq.trans ?_ (V_main_arg2 m c)
  funext y; rw [eq_ix2 y]; blk_point [iblk, V, idx t]
theorem bN_eq : bN m c t = norms (mem m c) (gkv m c) := by
  refine Eq.trans ?_ (N_eq m c)
  funext y; rw [eq_ix2 y]; blk_point [iblk, V, idx t]
theorem bW_eq : bW m c t = blocks (wkv m c) := by
  refine Eq.trans ?_ (W_eq m c)
  funext y; rw [eq_ix3 y]; blk_point [iblk, V, idx t]

theorem dw_eq : (dats m 0 c).arrAt 5 cfg0.N = val_main_v25 (F := Ideal) (dkv m c) (mem m c) (gkv m c) := by
  refine (dats m 0 c).arrAt_eq_of_covers 5 _ (by decide +kernel) fun t _ y => ?_
  blk_simp
  rw [after0_5, dw_point, bD_eq, bN_eq]
  refine (congrArg _ (eq_ix3 _)).trans ((DkvReference.dws_apply ..).symm.trans (congrArg _ ?_))
  blk_ext [idx t]
theorem dg_eq : (dats m 0 c).arrAt 6 cfg0.N = val_main_v22 (F := Ideal) (dkv m c) (mem m c) (wkv m c) := by
  refine (dats m 0 c).arrAt_eq_of_covers 6 _ (by decide +kernel) fun t _ y => ?_
  blk_simp
  rw [after0_6, dg_point, bD_eq, bW_eq, bX_eq]
  refine (congrArg _ ((eq_ix2 _).trans (congrArg (fun u => ix2 u _) (Subsingleton.elim (α := Fin 1) _ 0)))).trans
    ((DkvReference.dgains_apply ..).symm.trans (congrArg _ ?_))
  blk_ext [idx t]

end Cert.DkvEquation

end
-- ==== Proof.XaPoints.lean ====
/- What one grid point of the cross attention computes from its block of 512 rows: the queries, the attention's output and
   the block's output. -/
module

public import proofs.«01_k».proof.Proof.Tiles
public import proofs.«01_k».proof.Proof.Step
public import proofs.«01_k».proof.Proof.Gen.Kernel7Ideal.Value
public import Idealize.ShloMosaic.Lib.Pipeline.ReadBack

@[expose] public section

set_option maxRecDepth 16384

noncomputable section

namespace Cert.XaPoints

open Idealize.ShloMosaic Idealize.ShloMosaic.TcCoe Idealize.SL.Sem
open Cert.Kernel7Ideal Cert.Kernel7Ideal.Gen Cert.Algebra Cert.Spec Cert.Step
open Cert.Tiles (row ld_cols qld kld)

/-! ## One row's attention -/

/-- The column of the values that goes with column `j`. -/
def vof (j : Fin 1024) : Fin 2048 := ⟨1024 + j.val, by omega⟩
theorem vof_hcol (h : Fin 4) (d : Fin 256) : vof (hcol h d) = vcol h d := Fin.ext (by simp only [vof, hcol, vcol]; omega)

/-- The attention's output for a row with query `q`. -/
def attended (q : Row) (K : Keys) (j : Fin 1024) : EReal := ∑ p : Fin 256, prob (scores q K (head j)) p * K (ix2 p (vof j))

/-! ## The operations, read at an index -/

variable (X : FVec Ideal S512x1024 .f32) (w : FVec Ideal S1x1024 .f32) (WQ WO : FVec Ideal S1024x1024 .bf16)
  (O : FVec Ideal S512x1024 .bf16) (q : FVec Ideal S512x256 .bf16) (k v : FVec Ideal S256x256 .f32)
  (i : Fin 512) (j : Fin 1024) (d : Fin 256)

theorem query_apply : k0_pay4 (F := Ideal) X w WQ (ix2 i j) = times (weighted (row X i) (gain w)) WQ j := by
  pointwise [k0_pay4, times, weighted, normed, rinv, meansq, row, gain, Heads.ofBits_1024, eps]
theorem output_apply : k0_pay3 (F := Ideal) X O WO (ix2 i j) = X (ix2 i j) + times (row O i) WO j := by
  pointwise [k0_pay3, times, row]
theorem cast_apply : k0_pay2 (F := Ideal) X (ix2 i j) = X (ix2 i j) := by pointwise [k0_pay2]

/-- A row's attention in one head, from the head's slices. -/
def part (q : FVec Ideal S512x256 .bf16) (k v : FVec Ideal S256x256 .f32) (i : Fin 512) (d : Fin 256) : EReal :=
  ∑ p : Fin 256, prob (Heads.scores q k i) p * v (ix2 p d)

theorem o0 : k0_pay8 (F := Ideal) (k0_pay5 v) (k0_pay6 q k) (k0_pay7 q k) (ix2 i d) = part q k v i d := by
  pointwise [k0_pay8, k0_pay7, k0_pay6, k0_pay5, part, prob, total, expo, top, Heads.scores, Heads.ofBits_sixteenth, Heads.ofBits_bot]
theorem o1 : k0_pay9 (F := Ideal) q k v (ix2 i d) = part q k v i d := by
  pointwise [k0_pay9, part, prob, total, expo, top, Heads.scores, Heads.ofBits_sixteenth, Heads.ofBits_bot]
theorem o2 : k0_pay13 (F := Ideal) (k0_pay10 q) (k0_pay11 k) (k0_pay12 v) (ix2 i d) = part q k v i d := by
  pointwise [k0_pay13, k0_pay12, k0_pay11, k0_pay10, part, prob, total, expo, top, Heads.scores, Heads.ofBits_sixteenth, Heads.ofBits_bot]
theorem o3 : k0_pay1 (F := Ideal) (k0_pay14 q k v) (ix2 i d) = part q k v i d := by
  pointwise [k0_pay1, k0_pay14, part, prob, total, expo, top, Heads.scores, Heads.ofBits_sixteenth, Heads.ofBits_bot]

/-! ## The four heads, side by side -/

/-- The attention's output for a block with queries `Q`. -/
def os (Q : FVec Ideal S512x1024 .bf16) (K : FVec Ideal S256x2048 .f32) : FVec Ideal S512x1024 .f32 := fun y => attended (row Q (y 0)) K (y 1)

variable (Q : FVec Ideal S512x1024 .bf16) (K : FVec Ideal S256x2048 .f32)

theorem part_eq (h : Fin 4) (o o' : ℕ) (ho : o = 256 * h.val) (ho' : o' = 1024 + 256 * h.val) (inq ink inv) (i : Fin 512) (d : Fin 256) :
    part (qld Q o inq) (kld K o ink) (kld K o' inv) i d = os Q K (ix2 i (hcol h d)) := by
  show _ = ∑ p : Fin 256, prob (scores (row Q i) K (head (hcol h d))) p * K (ix2 p (vof (hcol h d)))
  rw [head_hcol, vof_hcol]
  refine Finset.sum_congr rfl fun p _ => congrArg₂ (fun f x => prob f p * x) ?_ ?_
  · exact Tiles.scores_eq Q K h _ _ (fun i d => ld_cols _ _ _ i d _ (by simp [hcol, ho])) (fun i d => ld_cols _ _ _ i d _ (by simp [kcol, ho])) i
  · exact ld_cols _ _ _ p d _ (by simp [vcol, ho'])

/-- What the scratch holds once the four heads are stored. -/
theorem scratch_eq (q0 q1 q2 q3 : Vec Ideal S512x256 .bf16) (h0 : q0 = qld Q 0 inb_S512x1024_S512x256_0_0)
    (h1 : q1 = qld Q 256 inb_S512x1024_S512x256_0_256) (h2 : q2 = qld Q 512 inb_S512x1024_S512x256_0_512)
    (h3 : q3 = qld Q 768 inb_S512x1024_S512x256_0_768) :
    (View.whole cc0_scratch0).readCov (Val := Elt Ideal)
      [⟨Rect.unit ![0, 768] ![512, 256] inb_S512x1024_S512x256_0_768, k0_pay1 (k0_pay14 q3
          (kld K 768 inb_S256x2048_S256x256_0_768) (kld K 1792 inb_S256x2048_S256x256_0_1792))⟩,
       ⟨Rect.unit ![0, 512] ![512, 256] inb_S512x1024_S512x256_0_512, k0_pay13 (k0_pay10 q2)
          (k0_pay11 (kld K 512 inb_S256x2048_S256x256_0_512)) (k0_pay12 (kld K 1536 inb_S256x2048_S256x256_0_1536))⟩,
       ⟨Rect.unit ![0, 256] ![512, 256] inb_S512x1024_S512x256_0_256, k0_pay9 q1
          (kld K 256 inb_S256x2048_S256x256_0_256) (kld K 1280 inb_S256x2048_S256x256_0_1280)⟩,
       ⟨Rect.unit ![0, 0] ![512, 256] inb_S512x1024_S512x256_0_0, k0_pay8 (k0_pay5 (kld K 1024 inb_S256x2048_S256x256_0_1024))
          (k0_pay6 q0 (kld K 0 inb_S256x2048_S256x256_0_0)) (k0_pay7 q0 (kld K 0 inb_S256x2048_S256x256_0_0))⟩]
      (Rect.unit ![0, 0] ![512, 1024] inb_S512x1024_S512x1024_0_0).toLoadRect = os Q K := by
  subst h0 h1 h2 h3
  rw [View.readCov_eq_canon']
  funext y
  have at_head : ∀ (h : Fin 4) (x : S512x256.Idx), (y 0 : Fin 512).val = (x 0 : Fin 512).val →
      (y 1 : Fin 1024).val = 256 * h.val + (x 1 : Fin 256).val → os Q K (ix2 (x 0) (hcol h (x 1))) = os Q K y := fun h x e0 e1 =>
    congrArg (os Q K) (funext fun a => Fin.ext (by
      match a with
      | 0 => exact e0.symm
      | 1 => exact e1.symm))
  canon_tiles x h
  · rw [eq_ix2 x]; exact (o3 ..).trans ((part_eq Q K 3 _ _ rfl rfl _ _ _ _ _).trans (at_head 3 x (by simpa using h0) (by simpa using h1)))
  · rw [eq_ix2 x]; exact (o2 ..).trans ((part_eq Q K 2 _ _ rfl rfl _ _ _ _ _).trans (at_head 2 x (by simpa using h0) (by simpa using h1)))
  · rw [eq_ix2 x]; exact (o1 ..).trans ((part_eq Q K 1 _ _ rfl rfl _ _ _ _ _).trans (at_head 1 x (by simpa using h0) (by simpa using h1)))
  · rw [eq_ix2 x]; exact (o0 ..).trans ((part_eq Q K 0 _ _ rfl rfl _ _ _ _ _).trans (at_head 0 x (by simpa using h0) (by simpa using h1)))

/-! ## A point's results -/

variable (m : (ℓ : Loc nD τ sig) → Buf (Elt Ideal) ℓ) (c : Dev nD) (t : Fin cfg0.N)

abbrev bX : FVec Ideal S512x1024 .f32 := iblk m c 0 t
abbrev bw : FVec Ideal S1x1024 .f32 := iblk m c 1 t
abbrev bWQ : FVec Ideal S1024x1024 .bf16 := iblk m c 2 t
abbrev bK : FVec Ideal S256x2048 .f32 := iblk m c 3 t
abbrev bWO : FVec Ideal S1024x1024 .bf16 := iblk m c 4 t
/-- A point's queries. -/
abbrev bQ : FVec Ideal S512x1024 .bf16 := k0_pay4 (F := Ideal) (bX m c t) (bw m c t) (bWQ m c t)

theorem q_point : (outsAt0 m c t).2.1 = bQ m c t := by
  unfold outsAt0
  frame_out
theorem o_point : (outsAt0 m c t).2.2 = k0_pay2 (F := Ideal) (os (bQ m c t) (bK m c t)) := by
  unfold outsAt0
  frame_out
  exact congrArg (k0_pay2 (F := Ideal)) (scratch_eq (bQ m c t) (bK m c t) _ _ _ _ (View.readCov_fill _ _ _ _ _ (by decide))
    (View.readCov_fill _ _ _ _ _ (by decide)) (View.readCov_fill _ _ _ _ _ (by decide)) (View.readCov_fill _ _ _ _ _ (by decide)))
theorem h_point : (outsAt0 m c t).1 = k0_pay3 (F := Ideal) (bX m c t) (k0_pay2 (F := Ideal) (os (bQ m c t) (bK m c t))) (bWO m c t) := by
  unfold outsAt0
  frame_out
  exact congrArg (fun z => k0_pay3 (F := Ideal) (bX m c t) (k0_pay2 (F := Ideal) z) (bWO m c t))
    (scratch_eq (bQ m c t) (bK m c t) _ _ _ _ (View.readCov_fill _ _ _ _ _ (by decide))
    (View.readCov_fill _ _ _ _ _ (by decide)) (View.readCov_fill _ _ _ _ _ (by decide)) (View.readCov_fill _ _ _ _ _ (by decide)))

end Cert.XaPoints

end
-- ==== Proof.XaArrays.lean ====
/- What the output arrays of the cross attention hold at the end, from what its input arrays hold when it starts, and what
   those hold. -/
module

public import proofs.«01_k».proof.Proof.XaPoints
public import Idealize.ShloMosaic.Lib.Pipeline.ValueKit
public import Idealize.ShloMosaic.Lib.Pointwise

@[expose] public section

set_option maxRecDepth 16384

noncomputable section

namespace Cert.XaArrays

open Idealize.ShloMosaic Idealize.ShloMosaic.TcCoe Idealize.SL.Sem
open Cert.Kernel7Ideal Cert.Kernel7Ideal.Gen Cert.Algebra Cert.Spec Cert.Step Cert.XaPoints
open Cert.Tiles (row)

/-! ## The queries, the attention and the output of the whole sequence -/

def query (X : Seq) (w : Gain) (WQ : Mat) (s : Fin 4096) : Row := times (weighted (line X s) (gain w)) WQ
def attn (X : Seq) (w : Gain) (WQ : Mat) (K : Keys) (s : Fin 4096) : Row := attended (query X w WQ s) K
def queries (X : Seq) (w : Gain) (WQ : Mat) (y : (⟨2, ![4096, 1024]⟩ : Shape).Idx) : EReal := query X w WQ (y 0) (y 1)
def attns (X : Seq) (w : Gain) (WQ : Mat) (K : Keys) (y : (⟨2, ![4096, 1024]⟩ : Shape).Idx) : EReal := attn X w WQ K (y 0) (y 1)
def output (X : Seq) (w : Gain) (WQ : Mat) (K : Keys) (WO : Mat) (y : (⟨2, ![4096, 1024]⟩ : Shape).Idx) : EReal :=
  X (ix2 (y 0) (y 1)) + times (attn X w WQ K (y 0)) WO (y 1)

variable (m : (ℓ : Loc nD τ sig) → Buf (Elt Ideal) ℓ) (c : Dev nD) (t : Fin cfg0.N)

/-! ## The input arrays when the kernel starts -/

abbrev aX : Seq := V m c main_arg0
abbrev aw : Gain := V m c main_arg1
abbrev aWQ : Mat := V m c main_v0
abbrev aK : Keys := V m c main_arg3
abbrev aWO : Mat := V m c main_v1

/-! ## Where the blocks lie -/

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

theorem lt8 (t : Fin cfg0.N) : t.val < 8 := Nat.lt_of_lt_of_eq t.isLt N_0

/-- Row `i` of point `t`'s blocks is this row of the arrays. -/
def at' (t : Fin cfg0.N) (i : Fin 512) : Fin 4096 := ⟨t.val * 512 + i.val, by have := lt8 t; omega⟩

variable (i : Fin 512) (j : Fin 1024)

theorem X_at : bX m c t (ix2 i j) = aX m c (ix2 (at' t i) j) := by
  blk_point [iblk, V, idx t]; rfl
theorem X_row : row (bX m c t) i = line (aX m c) (at' t i) := funext fun j => X_at m c t i j
theorem w_eq : bw m c t = aw m c := by
  funext y; rw [eq_ix2 y]; blk_point [iblk, V, idx t]
theorem WQ_eq : bWQ m c t = aWQ m c := by
  funext y; rw [eq_ix2 y]; blk_point [iblk, V, idx t]
theorem K_eq : bK m c t = aK m c := by
  funext y; rw [eq_ix2 y]; blk_point [iblk, V, idx t]
theorem WO_eq : bWO m c t = aWO m c := by
  funext y; rw [eq_ix2 y]; blk_point [iblk, V, idx t]

theorem q_at : bQ m c t (ix2 i j) = query (aX m c) (aw m c) (aWQ m c) (at' t i) j := by
  rw [bQ, query_apply, X_row, w_eq, WQ_eq]; rfl
theorem o_at : k0_pay2 (F := Ideal) (os (bQ m c t) (bK m c t)) (ix2 i j) = attn (aX m c) (aw m c) (aWQ m c) (aK m c) (at' t i) j := by
  rw [cast_apply]
  show attended (row (bQ m c t) i) (bK m c t) j = _
  rw [show row (bQ m c t) i = query (aX m c) (aw m c) (aWQ m c) (at' t i) from funext fun j => q_at m c t i j, K_eq]; rfl
theorem h_at : k0_pay3 (F := Ideal) (bX m c t) (k0_pay2 (F := Ideal) (os (bQ m c t) (bK m c t))) (bWO m c t) (ix2 i j)
    = output (aX m c) (aw m c) (aWQ m c) (aK m c) (aWO m c) (ix2 (at' t i) j) := by
  rw [output_apply, X_at, WO_eq,
    show row (k0_pay2 (F := Ideal) (os (bQ m c t) (bK m c t))) i = attn (aX m c) (aw m c) (aWQ m c) (aK m c) (at' t i)
      from funext fun j => o_at m c t i j]
  rfl

/-! ## The output arrays -/

theorem arr5 : (dats m 0 c).arrAt 5 cfg0.N = output (aX m c) (aw m c) (aWQ m c) (aK m c) (aWO m c) := by
  refine (dats m 0 c).arrAt_eq_of_covers 5 _ (by decide +kernel) fun t _ y => ?_
  blk_simp
  rw [after0_5, h_point]
  refine (congrArg _ (eq_ix2 _)).trans ((h_at m c t _ _).trans (congrArg _ ?_))
  blk_ext [idx t, at']
theorem arr6 : (dats m 0 c).arrAt 6 cfg0.N = queries (aX m c) (aw m c) (aWQ m c) := by
  refine (dats m 0 c).arrAt_eq_of_covers 6 _ (by decide +kernel) fun t _ y => ?_
  blk_simp
  rw [after0_6, q_point]
  refine (congrArg _ (eq_ix2 _)).trans ((q_at m c t _ _).trans
    (congrArg (queries (aX m c) (aw m c) (aWQ m c)) (a₁ := ix2 _ _) ?_))
  blk_ext [idx t, at']
theorem arr7 : (dats m 0 c).arrAt 7 cfg0.N = attns (aX m c) (aw m c) (aWQ m c) (aK m c) := by
  refine (dats m 0 c).arrAt_eq_of_covers 7 _ (by decide +kernel) fun t _ y => ?_
  blk_simp
  rw [after0_7, o_point]
  refine (congrArg _ (eq_ix2 _)).trans ((o_at m c t _ _).trans
    (congrArg (attns (aX m c) (aw m c) (aWQ m c) (aK m c)) (a₁ := ix2 _ _) ?_))
  blk_ext [idx t, at']

/-! ## What the input arrays hold -/

abbrev h1 : FVec Ideal S4096x1024 .f32 := m ((c : Thread nD τ).loc main_arg0)
abbrev gxa : FVec Ideal S1x1024 .f32 := m ((c : Thread nD τ).loc main_arg1)
abbrev wq : FVec Ideal S1024x1024 .f32 := m ((c : Thread nD τ).loc main_arg2)
abbrev kv : FVec Ideal S256x2048 .f32 := m ((c : Thread nD τ).loc main_arg3)
abbrev wo : FVec Ideal S1024x1024 .f32 := m ((c : Thread nD τ).loc main_arg4)

theorem aX_eq : aX m c = h1 m c := V_main_arg0 m c
theorem aw_eq : aw m c = gxa m c := V_main_arg1 m c
theorem aK_eq : aK m c = kv m c := V_main_arg3 m c
theorem aWQ_eq : aWQ m c = wq m c := by
  show StableHlo.after hostOps0 (fun b => m (c, b)) _ = _
  after_results_simp; rfl
theorem aWO_eq : aWO m c = wo m c := by
  show StableHlo.after hostOps0 (fun b => m (c, b)) _ = _
  after_results_simp; rfl

end Cert.XaArrays

end
-- ==== Proof.XaEquation.lean ====
/- The reference of the cross attention, read at an index, and the kernel's three output arrays, which are its three
   results on the same arguments. -/
module

public import proofs.«01_k».proof.Proof.XaArrays
public import proofs.«01_k».proof.Proof.Reference
public import proofs.«01_k».proof.Proof.Gen.Reference7Ideal.Read

@[expose] public section

set_option maxRecDepth 16384

noncomputable section

namespace Cert.XaReference

open Idealize.ShloMosaic
open Cert.Reference7Ideal Cert.Reference7Ideal.Read Cert.Algebra Cert.Spec Cert.Step
open Cert.XaPoints (vof attended)
open Cert.XaArrays (query attn output)
open Cert.Reference (hcol_eq kcol_eq vcol_eq fold_apply)

variable (x0 : FVec Ideal S4096x1024 .f32) (x1 : FVec Ideal S1x1024 .f32) (x2 : FVec Ideal S1024x1024 .f32)
  (x3 : FVec Ideal S256x2048 .f32) (x4 : FVec Ideal S1024x1024 .f32) (s : Fin 4096) (j : Fin 1024) (h : Fin 4) (d p : Fin 256)

theorem rinv_apply (u : Fin 1) : val_main_v8 (F := Ideal) x0 (ix2 s u) = rinv (line x0 s) := by
  pointwise [val_main_v8, val_main_v7, val_main_v6, val_main_v5, val_main_v4, val_main_v3, val_main_v2, val_main_v1, val_main_cst,
    val_main_cst_0, val_main_cst_1, rinv, meansq, line, Heads.ofBits_1024, eps]
theorem norm_apply : val_main_v13 (F := Ideal) x0 x1 (ix2 s j) = weighted (line x0 s) (gain x1) j := by
  pointwise [val_main_v13, val_main_v12, val_main_v11, val_main_v0, val_main_v10, val_main_v9, rinv_apply x0, weighted, normed,
    gain, line]
theorem q_apply : val_main_v14 (F := Ideal) x0 x1 x2 (ix2 s j) = query x0 x1 x2 s j := by
  pointwise [val_main_v14, norm_apply x0 x1, query, times]

theorem qh_apply : val_main_v15 (F := Ideal) x0 x1 x2 (ix3 s h d) = query x0 x1 x2 s (hcol h d) := by
  pointwise [val_main_v15, hcol_eq, q_apply x0 x1 x2]
theorem k_apply : val_main_v18 (F := Ideal) x3 (ix3 p h d) = x3 (ix2 p (kcol h d)) := by
  pointwise [val_main_v18, val_main_v16, kcol_eq]
theorem v_apply : val_main_v19 (F := Ideal) x3 (ix3 p h d) = x3 (ix2 p (vcol h d)) := by
  pointwise [val_main_v19, val_main_v17, vcol_eq]

theorem scores_apply : val_main_v22 (F := Ideal) x0 x1 x2 x3 (ix3 h s p) = scores (query x0 x1 x2 s) x3 h p := by
  pointwise [val_main_v22, val_main_v21, val_main_v20, val_main_cst_2, qh_apply x0 x1 x2, k_apply x3, scores, Heads.ofBits_sixteenth]
theorem rowmax_apply : val_main_v23 (F := Ideal) x0 x1 x2 x3 (ix2 h s) = top (scores (query x0 x1 x2 s) x3 h) :=
  (fold_apply s h _ _ fun _ => Heads.ofBits_bot).trans (congrArg top (funext fun p => scores_apply x0 x1 x2 x3 s h p))
theorem top_apply : val_main_v25 (F := Ideal) x0 x1 x2 x3 (ix2 h s) = top (scores (query x0 x1 x2 s) x3 h) := by
  rw [val_main_v25_apply, rowmax_apply, val_main_v24_apply, val_main_cst_4_apply]
  exact (congrArg (max · _) Heads.ofBits_bot).trans (max_eq_right bot_le)
theorem expo_apply : val_main_v29 (F := Ideal) x0 x1 x2 x3 (ix3 h s p) = expo (scores (query x0 x1 x2 s) x3 h) p := by
  pointwise [val_main_v29, val_main_v28, val_main_v27, val_main_v26, top_apply x0 x1 x2 x3, scores_apply x0 x1 x2 x3, expo]
theorem total_apply (u : Fin 1) : val_main_v31 (F := Ideal) x0 x1 x2 x3 (ix3 h s u) = total (scores (query x0 x1 x2 s) x3 h) := by
  pointwise [val_main_v31, val_main_v30, val_main_cst_5, expo_apply x0 x1 x2 x3, total]
theorem prob_apply : val_main_v33 (F := Ideal) x0 x1 x2 x3 (ix3 h s p) = prob (scores (query x0 x1 x2 s) x3 h) p := by
  pointwise [val_main_v33, val_main_v32, total_apply x0 x1 x2 x3, expo_apply x0 x1 x2 x3, prob]

theorem head_out (h : Fin 4) (d : Fin 256) : val_main_v34 (F := Ideal) x0 x1 x2 x3 (ix3 h d s) = attn x0 x1 x2 x3 s (hcol h d) := by
  show _ = ∑ p : Fin 256, prob (scores (query x0 x1 x2 s) x3 (head (hcol h d))) p * x3 (ix2 p (vof (hcol h d)))
  rw [head_hcol, XaPoints.vof_hcol]
  pointwise [val_main_v34, v_apply x3, prob_apply x0 x1 x2 x3]
  exact Finset.sum_congr rfl fun p _ => mul_comm _ _
theorem attn_apply : val_main_v36 (F := Ideal) x0 x1 x2 x3 (ix2 s j) = attn x0 x1 x2 x3 s j := by
  refine Eq.trans ?_ (congrArg (attn x0 x1 x2 x3 s) (eq_hcol j).symm)
  refine Eq.trans ?_ (head_out x0 x1 x2 x3 s _ _)
  pointwise [val_main_v36, val_main_v35, head]
theorem output_apply : val_main_v38 (F := Ideal) x0 x1 x2 x3 x4 (ix2 s j) = output x0 x1 x2 x3 x4 (ix2 s j) := by
  pointwise [val_main_v38, val_main_v37, attn_apply x0 x1 x2 x3, output, times]
theorem q16_apply : val_main_v39 (F := Ideal) x0 x1 x2 (ix2 s j) = query x0 x1 x2 s j := by
  pointwise [val_main_v39, q_apply x0 x1 x2]
theorem o16_apply : val_main_v40 (F := Ideal) x0 x1 x2 x3 (ix2 s j) = attn x0 x1 x2 x3 s j := by
  pointwise [val_main_v40, attn_apply x0 x1 x2 x3]

end Cert.XaReference

namespace Cert.XaEquation

open Idealize.ShloMosaic Idealize.ShloMosaic.TcCoe Idealize.SL.Sem
open Cert.Kernel7Ideal Cert.Kernel7Ideal.Gen Cert.XaArrays
open Cert.Reference7Ideal.Read

variable (m : (ℓ : Loc nD τ sig) → Buf (Elt Ideal) ℓ) (c : Dev nD)

theorem h2_eq : (dats m 0 c).arrAt 5 cfg0.N
    = val_main_v38 (F := Ideal) (h1 m c) (gxa m c) (wq m c) (kv m c) (wo m c) := by
  rw [arr5, aX_eq, aw_eq, aWQ_eq, aK_eq, aWO_eq]
  funext y; rw [eq_ix2 y]
  exact (XaReference.output_apply ..).symm
theorem q_eq : (dats m 0 c).arrAt 6 cfg0.N = val_main_v39 (F := Ideal) (h1 m c) (gxa m c) (wq m c) := by
  rw [arr6, aX_eq, aw_eq, aWQ_eq]
  funext y; rw [eq_ix2 y]
  exact (XaReference.q16_apply ..).symm
theorem o_eq : (dats m 0 c).arrAt 7 cfg0.N = val_main_v40 (F := Ideal) (h1 m c) (gxa m c) (wq m c) (kv m c) := by
  rw [arr7, aX_eq, aw_eq, aWQ_eq, aK_eq]
  funext y; rw [eq_ix2 y]
  exact (XaReference.o16_apply ..).symm

end Cert.XaEquation

end
-- ==== Proof.InArrays.lean ====
/- What the output arrays of the projection into the mixing block hold at the end, from what its input arrays hold when
   it starts, and what those hold. -/
module

public import proofs.«01_k».proof.Proof.InPoints

@[expose] public section

set_option maxRecDepth 16384

noncomputable section

namespace Cert.InArrays

open Idealize.ShloMosaic Idealize.ShloMosaic.TcCoe Idealize.SL.Sem
open Cert.Kernel8Ideal Cert.Kernel8Ideal.Gen Cert.Algebra Cert.Spec Cert.Step Cert.Columns Cert.InPoints
open Cert.FfnPoints (row)

/-! ## The projection and the gated columns of the whole sequence -/

def proj (X : Seq) (w : Gain) (B : Blocks) (b : Bias) (y : (⟨2, ![4096, 2048]⟩ : Shape).Idx) : EReal :=
  across (weighted (line X (y 0)) (gain w)) B (y 1) + b (ix2 0 (y 1))
def gate (X : Seq) (w : Gain) (B : Blocks) (b : Bias) (y : (⟨2, ![4096, 512]⟩ : Shape).Idx) : EReal :=
  proj X w B b (ix2 (y 0) (zcol (y 1))) * Ideal.logistic (proj X w B b (ix2 (y 0) (gcol (y 1))))

variable (m : (ℓ : Loc nD τ sig) → Buf (Elt Ideal) ℓ) (c : Dev nD) (t : Fin cfg0.N)

/-! ## The input arrays when the kernel starts -/

abbrev aX : Seq := V m c main_arg0
abbrev aw : Gain := V m c main_arg1
abbrev aW : Blocks := V m c main_v2
abbrev ab : Bias := V m c main_arg3

/-! ## Where the blocks lie -/

theorem idx : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] :=
  (by decide +kernel : ∀ t : Fin grid0.N, _)

theorem lt8 (t : Fin cfg0.N) : t.val < 8 := Nat.lt_of_lt_of_eq t.isLt N_0

/-- Row `i` of point `t`'s blocks is this row of the arrays. -/
def at' (t : Fin cfg0.N) (i : Fin 512) : Fin 4096 := ⟨t.val * 512 + i.val, by have := lt8 t; omega⟩

variable (i : Fin 512)

theorem X_row : row (bX m c t) i = line (aX m c) (at' t i) := by
  funext j; show bX m c t (ix2 i j) = _
  blk_point [iblk, V, idx t]; rfl
theorem w_eq : bw m c t = aw m c := by
  funext y; rw [eq_ix2 y]; blk_point [iblk, V, idx t]
theorem W_eq : bW m c t = aW m c := by
  funext y; rw [eq_ix3 y]; blk_point [iblk, V, idx t]
theorem b_eq : bb m c t = ab m c := by
  funext y; rw [eq_ix2 y]; blk_point [iblk, V, idx t]

theorem z_at (n : Fin 2048) : zs (bX m c t) (bw m c t) (bW m c t) (bb m c t) (ix2 i n)
    = proj (aX m c) (aw m c) (aW m c) (ab m c) (ix2 (at' t i) n) := by
  show across (weighted (row (bX m c t) i) (gain (bw m c t))) (bW m c t) n + bb m c t (ix2 0 n) = _
  rw [X_row, w_eq, W_eq, b_eq]; rfl
theorem a_at (j : Fin 512) : gated (zs (bX m c t) (bw m c t) (bW m c t) (bb m c t)) (ix2 i j)
    = gate (aX m c) (aw m c) (aW m c) (ab m c) (ix2 (at' t i) j) :=
  congrArg₂ (fun a b => a * Ideal.logistic b) (z_at m c t i (zcol j)) (z_at m c t i (gcol j))

/-! ## The output arrays -/

theorem arr4 : (dats m 0 c).arrAt 4 cfg0.N = proj (aX m c) (aw m c) (aW m c) (ab m c) := by
  refine (dats m 0 c).arrAt_eq_of_covers 4 _ (by decide +kernel) fun t _ y => ?_
  blk_simp
  rw [after0_4, z_point]
  refine (congrArg _ (eq_ix2 _)).trans ((z_at m c t _ _).trans (congrArg _ ?_))
  blk_ext [idx t, at']
theorem arr5 : (dats m 0 c).arrAt 5 cfg0.N = gate (aX m c) (aw m c) (aW m c) (ab m c) := by
  refine (dats m 0 c).arrAt_eq_of_covers 5 _ (by decide +kernel) fun t _ y => ?_
  blk_simp
  rw [after0_5, a_point]
  refine (congrArg _ (eq_ix2 _)).trans ((a_at m c t _ _).trans (congrArg _ ?_))
  blk_ext [idx t, at']

/-! ## What the input arrays hold -/

abbrev x : FVec Ideal S4096x1024 .f32 := m ((c : Thread nD τ).loc main_arg0)
abbrev gmix : FVec Ideal S1x1024 .f32 := m ((c : Thread nD τ).loc main_arg1)
abbrev win : FVec Ideal S1024x2048 .f32 := m ((c : Thread nD τ).loc main_arg2)
abbrev bin : FVec Ideal S1x2048 .f32 := m ((c : Thread nD τ).loc main_arg3)

theorem aX_eq : aX m c = x m c := V_main_arg0 m c
theorem aw_eq : aw m c = gmix m c := V_main_arg1 m c
theorem ab_eq : ab m c = bin m c := V_main_arg3 m c

theorem aW_eq : aW m c = blocks (win m c) := by
  funext y; rw [eq_ix3 y]
  refine Eq.trans ?_ (split_apply (win m c) shapeCasts_S1024x2048_S1024x8x256 transposes_S1024x8x256_S8x1024x256_1_0_2 bitsLt_bf16_f32 _ _ _)
  refine congrFun ?_ _
  show StableHlo.after hostOps0 (fun b => m (c, b)) _ = _
  after_results_simp; rfl

end Cert.InArrays

end
-- ==== Proof.InEquation.lean ====
/- The reference of the projection into the mixing block, read at an index, and the kernel's two output arrays, which are
   its two results on the same arguments. -/
module

public import proofs.«01_k».proof.Proof.InArrays
public import proofs.«01_k».proof.Proof.Gen.Reference8Ideal.Read

@[expose] public section

set_option maxRecDepth 16384

noncomputable section

namespace Cert.InReference

open Idealize.ShloMosaic
open Cert.Reference8Ideal Cert.Reference8Ideal.Read Cert.Algebra Cert.Spec Cert.Step Cert.Columns
open Cert.InArrays (proj gate)
open Cert.InPoints (zcol gcol)

variable (x0 : FVec Ideal S4096x1024 .f32) (x1 : FVec Ideal S1x1024 .f32) (x2 : FVec Ideal S1024x2048 .f32)
  (x3 : FVec Ideal S1x2048 .f32) (s : Fin 4096) (k : Fin 1024) (n : Fin 2048) (j : Fin 512)

theorem rinv_apply (u : Fin 1) : val_main_v8 (F := Ideal) x0 (ix2 s u) = rinv (line x0 s) := by
  pointwise [val_main_v8, val_main_v7, val_main_v6, val_main_v5, val_main_v4, val_main_v3, val_main_v2, val_main_v1, val_main_cst,
    val_main_cst_0, val_main_cst_1, rinv, meansq, line, Heads.ofBits_1024, eps]
theorem norm_apply : val_main_v13 (F := Ideal) x0 x1 (ix2 s k) = weighted (line x0 s) (gain x1) k := by
  pointwise [val_main_v13, val_main_v12, val_main_v11, val_main_v0, val_main_v10, val_main_v9, rinv_apply x0, weighted, normed,
    gain, line]
theorem proj_apply : val_main_v18 (F := Ideal) x0 x1 x2 x3 (ix2 s n) = proj x0 x1 (blocks x2) x3 (ix2 s n) := by
  refine Eq.trans ?_ (congrArg (· + x3 (ix2 0 n)) (across_blocks (weighted (line x0 s) (gain x1)) x2 n).symm)
  pointwise [val_main_v18, val_main_v17, val_main_v16, val_main_v15, val_main_v14, norm_apply x0 x1]
theorem first_apply : val_main_v19 (F := Ideal) x0 x1 x2 x3 (ix2 s j) = proj x0 x1 (blocks x2) x3 (ix2 s (zcol j)) := by
  refine Eq.trans ?_ (proj_apply x0 x1 x2 x3 s (zcol j))
  pointwise [val_main_v19, zcol]
theorem second_apply : val_main_v20 (F := Ideal) x0 x1 x2 x3 (ix2 s j) = proj x0 x1 (blocks x2) x3 (ix2 s (gcol j)) := by
  refine Eq.trans ?_ (proj_apply x0 x1 x2 x3 s (gcol j))
  pointwise [val_main_v20, gcol]
theorem gate_apply : val_main_v27 (F := Ideal) x0 x1 x2 x3 (ix2 s j) = gate x0 x1 (blocks x2) x3 (ix2 s j) := by
  pointwise [val_main_v27, val_main_v26, val_main_v25, val_main_v24, val_main_v23, val_main_v22, val_main_v21, val_main_cst_2,
    val_main_cst_3, first_apply x0 x1 x2 x3, second_apply x0 x1 x2 x3, gate, Ideal.logistic, FfnPoints.one_apply]

end Cert.InReference

namespace Cert.InEquation

open Idealize.ShloMosaic Idealize.ShloMosaic.TcCoe Idealize.SL.Sem
open Cert.Kernel8Ideal Cert.Kernel8Ideal.Gen Cert.InArrays
open Cert.Reference8Ideal.Read

variable (m : (ℓ : Loc nD τ sig) → Buf (Elt Ideal) ℓ) (c : Dev nD)

theorem z_eq : (dats m 0 c).arrAt 4 cfg0.N = val_main_v18 (F := Ideal) (x m c) (gmix m c) (win m c) (bin m c) := by
  rw [arr4, aX_eq, aw_eq, aW_eq, ab_eq]
  funext y; rw [eq_ix2 y]
  exact (InReference.proj_apply ..).symm
theorem a_eq : (dats m 0 c).arrAt 5 cfg0.N = val_main_v27 (F := Ideal) (x m c) (gmix m c) (win m c) (bin m c) := by
  rw [arr5, aX_eq, aw_eq, aW_eq, ab_eq]
  funext y; rw [eq_ix2 y]
  exact (InReference.gate_apply ..).symm

end Cert.InEquation

end
-- ==== Proof.KvPoints.lean ====
/- What the projection of the memory to keys and values computes: the memory's norm, and its product with the eight blocks
   of the weights. -/
module

public import proofs.«01_k».proof.Proof.InPoints
public import proofs.«01_k».proof.Proof.Gen.Kernel9Ideal.Value

@[expose] public section

set_option maxRecDepth 16384

noncomputable section

namespace Cert.KvPoints

open Idealize.ShloMosaic Idealize.ShloMosaic.TcCoe Idealize.SL.Sem
open Cert.Kernel9Ideal Cert.Kernel9Ideal.Gen Cert.Algebra Cert.Spec Cert.Step Cert.Columns
open Cert.FfnPoints (row)
open Cert.InPoints (wld wld_apply)

/-! ## The operations, read at an index -/

variable (X : FVec Ideal S256x1024 .f32) (w : FVec Ideal S1x1024 .f32) (H : FVec Ideal S256x1024 .bf16)
  (W : FVec Ideal S1x1024x256 .bf16) (i : Fin 256) (j : Fin 1024) (e : Fin 256)

theorem norm_apply : k0_pay6 (F := Ideal) X w (ix2 i j) = weighted (row X i) (gain w) j := by
  pointwise [k0_pay6, weighted, normed, rinv, meansq, row, gain, Heads.ofBits_1024, eps]

/-- A row's product with one block of the weights. -/
abbrev part (H : FVec Ideal S256x1024 .bf16) (W : FVec Ideal S1x1024x256 .bf16) (i e : Fin 256) : EReal :=
  ∑ k : Fin 1024, H (ix2 i k) * W (ix3 0 k e)

theorem z0 : k0_pay7 (F := Ideal) X w W (ix2 i e) = part (k0_pay6 X w) W i e := by pointwise [k0_pay7, part]
theorem z1 : k0_pay8 (F := Ideal) X w W (ix2 i e) = part (k0_pay6 X w) W i e := by pointwise [k0_pay8, part]
theorem z2 : k0_pay9 (F := Ideal) X w W (ix2 i e) = part (k0_pay6 X w) W i e := by pointwise [k0_pay9, part]
theorem z3 : k0_pay1 (F := Ideal) H W (ix2 i e) = part H W i e := by pointwise [k0_pay1, part]
theorem z4 : k0_pay2 (F := Ideal) H W (ix2 i e) = part H W i e := by pointwise [k0_pay2, part]
theorem z5 : k0_pay3 (F := Ideal) H W (ix2 i e) = part H W i e := by pointwise [k0_pay3, part]
theorem z6 : k0_pay4 (F := Ideal) H W (ix2 i e) = part H W i e := by pointwise [k0_pay4, part]
theorem z7 : k0_pay5 (F := Ideal) H W (ix2 i e) = part H W i e := by pointwise [k0_pay5, part]

/-! ## The eight products, side by side -/

/-- Eight stores of 256 columns each. -/
theorem canon_cols (G : FVec Ideal S256x2048 .f32) (P0 P1 P2 P3 P4 P5 P6 P7 : FVec Ideal S256x256 .f32)
    (p0 : ∀ i e, P0 (ix2 i e) = G (ix2 i (col 0 e))) (p1 : ∀ i e, P1 (ix2 i e) = G (ix2 i (col 1 e)))
    (p2 : ∀ i e, P2 (ix2 i e) = G (ix2 i (col 2 e))) (p3 : ∀ i e, P3 (ix2 i e) = G (ix2 i (col 3 e)))
    (p4 : ∀ i e, P4 (ix2 i e) = G (ix2 i (col 4 e))) (p5 : ∀ i e, P5 (ix2 i e) = G (ix2 i (col 5 e)))
    (p6 : ∀ i e, P6 (ix2 i e) = G (ix2 i (col 6 e))) (p7 : ∀ i e, P7 (ix2 i e) = G (ix2 i (col 7 e))) :
    View.canon (Val := Elt Ideal) (s := S256x2048) (e := .f32)
      [⟨r0_17, P7⟩, ⟨r0_15, P6⟩, ⟨r0_13, P5⟩, ⟨r0_11, P4⟩, ⟨r0_9, P3⟩, ⟨r0_7, P2⟩, ⟨r0_5, P1⟩, ⟨r0_3, P0⟩] = G := by
  funext y
  have at_col : ∀ (d : Fin 8) (x : S256x256.Idx), (y 0 : Fin 256).val = (x 0 : Fin 256).val →
      (y 1 : Fin 2048).val = 256 * d.val + (x 1 : Fin 256).val → G (ix2 (x 0) (col d (x 1))) = G y := fun d x e0 e1 =>
    congrArg G (funext fun a => Fin.ext (by
      match a with
      | 0 => exact e0.symm
      | 1 => exact e1.symm))
  canon_tiles x h
  · rw [eq_ix2 x]; exact (p7 _ _).trans (at_col 7 x (by simpa using h0) (by simpa using h1))
  · rw [eq_ix2 x]; exact (p6 _ _).trans (at_col 6 x (by simpa using h0) (by simpa using h1))
  · rw [eq_ix2 x]; exact (p5 _ _).trans (at_col 5 x (by simpa using h0) (by simpa using h1))
  · rw [eq_ix2 x]; exact (p4 _ _).trans (at_col 4 x (by simpa using h0) (by simpa using h1))
  · rw [eq_ix2 x]; exact (p3 _ _).trans (at_col 3 x (by simpa using h0) (by simpa using h1))
  · rw [eq_ix2 x]; exact (p2 _ _).trans (at_col 2 x (by simpa using h0) (by simpa using h1))
  · rw [eq_ix2 x]; exact (p1 _ _).trans (at_col 1 x (by simpa using h0) (by simpa using h1))
  · rw [eq_ix2 x]; exact (p0 _ _).trans (at_col 0 x (by simpa using h0) (by simpa using h1))

/-- The keys and values of the memory's rows. -/
def kvs (X : FVec Ideal S256x1024 .f32) (w : FVec Ideal S1x1024 .f32) (B : FVec Ideal S8x1024x256 .bf16) : FVec Ideal S256x2048 .f32 :=
  fun y => across (weighted (row X (y 0)) (gain w)) B (y 1)
/-- The norm of the memory's rows. -/
def norms (X : FVec Ideal S256x1024 .f32) (w : FVec Ideal S1x1024 .f32) : FVec Ideal S256x1024 .bf16 :=
  fun y => weighted (row X (y 0)) (gain w) (y 1)

variable (B : FVec Ideal S8x1024x256 .bf16)

theorem part_eq (d : Fin 8) (inb) (i e : Fin 256) : part (k0_pay6 X w) (wld B d.val inb) i e = kvs X w B (ix2 i (col d e)) := by
  show _ = across (weighted (row X i) (gain w)) B (col d e)
  rw [across_col]
  refine Finset.sum_congr rfl fun k _ => ?_
  rw [norm_apply, wld_apply]

/-! ## What the two blocks hold -/

theorem X_whole (X : Vec Ideal S256x1024 .f32) : View.ld (Val := Elt Ideal) X r0_0 = X := View.ld_unit_zero (by decide) _ X
theorem w_whole (w : Vec Ideal S1x1024 .f32) : View.ld (Val := Elt Ideal) w r0_1 = w := View.ld_unit_zero (by decide) _ w

theorem norm_point : out0_4 (F := Ideal) X w B = norms X w := by
  unfold_out out0_4
  rw [View.canon_unit_zero (by decide), X_whole, w_whole]
  funext y; rw [eq_ix2 y]
  exact norm_apply ..
theorem kv_point : out0_3 (F := Ideal) X w B = kvs X w B := by
  unfold_out out0_3
  rw [X_whole, w_whole]
  exact canon_cols _ _ _ _ _ _ _ _ _
    (fun i e => (z0 ..).trans (part_eq X w B 0 _ i e)) (fun i e => (z1 ..).trans (part_eq X w B 1 _ i e))
    (fun i e => (z2 ..).trans (part_eq X w B 2 _ i e)) (fun i e => (z3 ..).trans (part_eq X w B 3 _ i e))
    (fun i e => (z4 ..).trans (part_eq X w B 4 _ i e)) (fun i e => (z5 ..).trans (part_eq X w B 5 _ i e))
    (fun i e => (z6 ..).trans (part_eq X w B 6 _ i e)) (fun i e => (z7 ..).trans (part_eq X w B 7 _ i e))

end Cert.KvPoints

end
-- ==== Proof.KvEquation.lean ====
/- The projection of the memory to keys and values: what its output arrays hold at the end, its reference read at an index,
   and the two being the same. -/
module

public import proofs.«01_k».proof.Proof.KvPoints
public import proofs.«01_k».proof.Proof.Gen.Reference9Ideal.Read

@[expose] public section

set_option maxRecDepth 16384

noncomputable section

namespace Cert.KvReference

open Idealize.ShloMosaic
open Cert.Reference9Ideal Cert.Reference9Ideal.Read Cert.Algebra Cert.Spec Cert.Step Cert.Columns
open Cert.KvPoints (kvs norms)
open Cert.FfnPoints (row)

variable (x0 : FVec Ideal S256x1024 .f32) (x1 : FVec Ideal S1x1024 .f32) (x2 : FVec Ideal S1024x2048 .f32)
  (s : Fin 256) (k : Fin 1024) (n : Fin 2048)

theorem rinv_apply (u : Fin 1) : val_main_v8 (F := Ideal) x0 (ix2 s u) = rinv (row x0 s) := by
  pointwise [val_main_v8, val_main_v7, val_main_v6, val_main_v5, val_main_v4, val_main_v3, val_main_v2, val_main_v1, val_main_cst,
    val_main_cst_0, val_main_cst_1, rinv, meansq, row, Heads.ofBits_1024, eps]
theorem norm_apply : val_main_v13 (F := Ideal) x0 x1 (ix2 s k) = weighted (row x0 s) (gain x1) k := by
  pointwise [val_main_v13, val_main_v12, val_main_v11, val_main_v0, val_main_v10, val_main_v9, rinv_apply x0, weighted, normed,
    gain, row]
theorem kv_apply : val_main_v14 (F := Ideal) x0 x1 x2 (ix2 s n) = kvs x0 x1 (blocks x2) (ix2 s n) := by
  refine Eq.trans ?_ (across_blocks (weighted (row x0 s) (gain x1)) x2 n).symm
  pointwise [val_main_v14, norm_apply x0 x1]
theorem norms_apply : val_main_v15 (F := Ideal) x0 x1 (ix2 s k) = norms x0 x1 (ix2 s k) := by
  pointwise [val_main_v15, norm_apply x0 x1, norms]

end Cert.KvReference

namespace Cert.KvEquation

open Idealize.ShloMosaic Idealize.ShloMosaic.TcCoe Idealize.SL.Sem
open Cert.Kernel9Ideal Cert.Kernel9Ideal.Gen Cert.Algebra Cert.Spec Cert.Step Cert.Columns Cert.KvPoints
open Cert.Reference9Ideal.Read

variable (m : (ℓ : Loc nD τ sig) → Buf (Elt Ideal) ℓ) (c : Dev nD) (t : Fin cfg0.N)

abbrev bX : FVec Ideal S256x1024 .f32 := iblk m c 0 t
abbrev bw : FVec Ideal S1x1024 .f32 := iblk m c 1 t
abbrev bW : FVec Ideal S8x1024x256 .bf16 := iblk m c 2 t
abbrev mem : FVec Ideal S256x1024 .f32 := m ((c : Thread nD τ).loc main_arg0)
abbrev gkv : FVec Ideal S1x1024 .f32 := m ((c : Thread nD τ).loc main_arg1)
abbrev wkv : FVec Ideal S1024x2048 .f32 := m ((c : Thread nD τ).loc main_arg2)

theorem idx : ∀ t : Fin cfg0.N, win0_0.index t = ![0, 0] ∧ win0_1.index t = ![0, 0] ∧ win0_2.index t = ![0, 0, 0]
    ∧ win0_3.index t = ![0, 0] ∧ win0_4.index t = ![0, 0] :=
  (by decide +kernel : ∀ t : Fin grid0.N, _)

theorem W_eq : V m c main_v2 = blocks (wkv m c) := by
  funext y; rw [eq_ix3 y]
  refine Eq.trans ?_ (split_apply (wkv m c) shapeCasts_S1024x2048_S1024x8x256 transposes_S1024x8x256_S8x1024x256_1_0_2 bitsLt_bf16_f32 _ _ _)
  refine congrFun ?_ _
  show StableHlo.after hostOps0 (fun b => m (c, b)) _ = _
  after_results_simp; rfl

theorem bX_eq : bX m c t = mem m c := by
  refine Eq.trans ?_ (V_main_arg0 m c)
  funext y; rw [eq_ix2 y]; blk_point [iblk, V, idx t]
theorem bw_eq : bw m c t = gkv m c := by
  refine Eq.trans ?_ (V_main_arg1 m c)
  funext y; rw [eq_ix2 y]; blk_point [iblk, V, idx t]
theorem bW_eq : bW m c t = blocks (wkv m c) := by
  refine Eq.trans ?_ (W_eq m c)
  funext y; rw [eq_ix3 y]; blk_point [iblk, V, idx t]

theorem kv_eq : (dats m 0 c).arrAt 3 cfg0.N = val_main_v14 (F := Ideal) (mem m c) (gkv m c) (wkv m c) := by
  refine (dats m 0 c).arrAt_eq_of_covers 3 _ (by decide +kernel) fun t _ y => ?_
  blk_simp
  rw [after0_3, kv_point (bX m c t) (bw m c t) (bW m c t), bX_eq, bw_eq, bW_eq]
  refine (congrArg _ (eq_ix2 _)).trans ((KvReference.kv_apply ..).symm.trans (congrArg _ ?_))
  blk_ext [idx t]
theorem norm_eq : (dats m 0 c).arrAt 4 cfg0.N = val_main_v15 (F := Ideal) (mem m c) (gkv m c) := by
  refine (dats m 0 c).arrAt_eq_of_covers 4 _ (by decide +kernel) fun t _ y => ?_
  blk_simp
  rw [after0_4, norm_point (bX m c t) (bw m c t) (bW m c t), bX_eq, bw_eq]
  refine (congrArg _ (eq_ix2 _)).trans ((KvReference.norms_apply ..).symm.trans (congrArg _ ?_))
  blk_ext [idx t]

end Cert.KvEquation

end
-- ==== Proof.OutSpec.lean ====
/- The output of the mixing block, row by row, as both programs compute it: one head group is the normed and activated
   output of the convolution; the other is a gated mix of 128 rows at a time, in eight heads of 64 columns, where a row
   sees the rows of its group up to itself. Both are multiplied by halves of the output's weights. -/
module

public import proofs.«01_k».proof.Proof.MixPoints

@[expose] public section

noncomputable section

namespace Cert.Out

open Idealize.ShloMosaic Cert.Algebra Cert.Spec

abbrev HRow := Fin 512 → EReal
abbrev HGain := (⟨2, ![1, 512]⟩ : Shape).Idx → EReal
/-- The weights of a group's mix in each head, and the numbers added to it: a row of them for each row of the group. -/
abbrev Mixer := (⟨3, ![8, 128, 128]⟩ : Shape).Idx → EReal
abbrev Added := (⟨2, ![128, 8]⟩ : Shape).Idx → EReal

def hgain (w : HGain) : HRow := fun k => w (ix2 0 k)
/-- The head of a column. -/
def hd (k : Fin 512) : Fin 8 := ⟨k.val / 64, by omega⟩
/-- The rows of the output's weights for the two head groups. -/
def lo (k : Fin 512) : Fin 1024 := ⟨k.val, by omega⟩
def hi (k : Fin 512) : Fin 1024 := ⟨512 + k.val, by omega⟩

section

variable (x g b : HRow) (a : EReal)

def lnEps : EReal := Ideal.ofBits .f32 0x3727C5AC#32
def geluC : EReal := Ideal.ofBits .f32 0x3F4C422A#32
def geluK : EReal := Ideal.ofBits .f32 0x3D372713#32

/-- The norm of a row: its mean, the row without it, and the reciprocal of the deviation's root. -/
def mean : EReal := Ideal.div (∑ k, x k) ((512 : ℝ) : EReal)
def centred : HRow := fun k => x k - mean x
def dev : EReal := Ideal.rsqrt (Ideal.div (∑ k, centred x k * centred x k) ((512 : ℝ) : EReal) + lnEps)
def lnorm : HRow := fun k => centred x k * dev x * g k + b k

def silu : EReal := a * Ideal.logistic a
def gelu : EReal := ((1 / 2 : ℝ) : EReal) * a * (1 + Ideal.tanh (geluC * (a + geluK * (a * a * a))))

end

variable (V : Fin 128 → HRow) (W : Mixer) (B : Added) (t : Fin 128)

/-- Row `t` of a group's mix. -/
def mixed : HRow := fun k => (∑ s : Fin 128, (if s ≤ t then W (ix3 (hd k) t s) else 0) * V s k) + B (ix2 t (hd k))

/-- A row's output: `co` and `u * y` are the two head groups' outputs. -/
def outRow (x : Row) (co u y : HRow) (WO : Mat) : Row := fun j =>
  x j + (∑ k, co k * WO (ix2 (lo k) j)) + ∑ k, (u k * y k) * WO (ix2 (hi k) j)

end Cert.Out

end
-- ==== Proof.OutPoints.lean ====
/- What one grid point of the mixing block's output computes from its blocks of 512 rows. -/
module

public import proofs.«01_k».proof.Proof.OutSpec
public import proofs.«01_k».proof.Proof.Gen.Kernel10Ideal.Value
public import Idealize.ShloMosaic.Lib.Pipeline.ReadBack

@[expose] public section

set_option maxRecDepth 16384

noncomputable section

namespace Cert.OutPoints

open Idealize.ShloMosaic Idealize.ShloMosaic.TcCoe Idealize.SL.Sem
open Cert.Kernel10Ideal Cert.Kernel10Ideal.Gen Cert.Algebra Cert.Spec Cert.Out

/-- Row `i` of a block of 512 rows. -/
def row (X : FVec Ideal S512x1024 .f32) (i : Fin 512) : Row := fun j => X (ix2 i j)
def hrow (X : FVec Ideal S512x512 .f32) (i : Fin 512) : HRow := fun j => X (ix2 i j)

theorem ofBits_512 : Ideal.ofBits .f32 0x44000000#32 = ((512 : ℝ) : EReal) := by
  simp [Ideal.ofBits, Ideal.ieee]; rw [← EReal.coe_mul]; norm_num

/-! ## The operations, read at an index -/

variable (C ZU ZV : FVec Ideal S512x512 .f32) (g b : FVec Ideal S1x512 .f32) (i k : Fin 512)

theorem silu_apply : k0_pay1 (F := Ideal) C g b (ix2 i k) = silu (lnorm (hrow C i) (hgain g) (hgain b) k) := by
  pointwise [k0_pay1, silu, lnorm, dev, centred, mean, hrow, hgain, ofBits_512, lnEps, Ideal.logistic]
theorem gelu_apply : k0_pay2 (F := Ideal) ZU (ix2 i k) = gelu (ZU (ix2 i k)) := by
  pointwise [k0_pay2, gelu, geluC, geluK, MixPoints.half_apply]
theorem v_apply : k0_pay3 (F := Ideal) ZV g b (ix2 i k) = lnorm (fun k => gelu (ZV (ix2 i k))) (hgain g) (hgain b) k := by
  pointwise [k0_pay3, gelu, geluC, geluK, MixPoints.half_apply, lnorm, dev, centred, mean, hgain, ofBits_512, lnEps]

theorem out_apply (X : FVec Ideal S512x1024 .f32) (CO U Y : FVec Ideal S512x512 .f32) (A B : FVec Ideal S512x1024 .bf16) (j : Fin 1024) :
    k0_pay38 (F := Ideal) CO U Y X A B (ix2 i j) = X (ix2 i j) + (∑ k : Fin 512, CO (ix2 i k) * A (ix2 k j))
      + ∑ k : Fin 512, (U (ix2 i k) * Y (ix2 i k)) * B (ix2 k j) := by
  pointwise [k0_pay38]

/-! ## The masks -/

theorem sge_word (a b : Fin 128) : IntOp.cmpi .sge (BitVec.ofNat 32 a.val) (BitVec.ofNat 32 b.val) = BitVec.ofBool (decide (b ≤ a)) := by
  revert a b; decide +kernel
theorem slt_word (a : Fin 128) : IntOp.cmpi .slt (BitVec.ofNat 32 a.val) 64#32 = BitVec.ofBool (decide (a.val < 64)) := by
  revert a; decide +kernel

theorem past_apply (t s : Fin 128) : k0_pay4 (ix2 t s) = BitVec.ofBool (decide (s ≤ t)) := by
  refine Eq.trans ?_ (sge_word t s)
  pointwise [k0_pay4]
theorem first_apply (t l : Fin 128) : k0_pay5 (ix2 t l) = BitVec.ofBool (decide (l.val < 64)) := by
  refine Eq.trans ?_ (slt_word l)
  pointwise [k0_pay5]

/-! ## The sixteen mixes of a group in a pair of heads -/

/-- Row `s` of the block's group `n`; and column `s` of the heads' pair `n`. -/
def rat (n : Fin 4) (s : Fin 128) : Fin 512 := ⟨128 * n.val + s.val, by omega⟩

/-- A group's mix in a pair of heads. -/
def tile (V : FVec Ideal S512x512 .bf16) (w0 w1 : FVec Ideal S1x128x128 .f32) (b0 b1 : FVec Ideal S128x1 .f32) (n p : Fin 4)
    (t l : Fin 128) : EReal :=
  (if l.val < 64 then ∑ s : Fin 128, (if s ≤ t then w0 (ix3 0 t s) else 0) * V (ix2 (rat n s) (rat p l))
    else ∑ s : Fin 128, (if s ≤ t then w1 (ix3 0 t s) else 0) * V (ix2 (rat n s) (rat p l)))
  + if l.val < 64 then b0 (ix2 t 0) else b1 (ix2 t 0)

variable (V : FVec Ideal S512x512 .bf16) (w0 w1 : FVec Ideal S1x128x128 .f32) (b0 b1 : FVec Ideal S128x1 .f32) (t l : Fin 128)

theorem t00 : k0_pay10 (F := Ideal) V k0_pay4 k0_pay5 (k0_pay6 w0) w1 b0 b1 (ix2 t l) = tile V w0 w1 b0 b1 0 0 t l := by
  pointwise [k0_pay10, k0_pay7, k0_pay8, k0_pay9, k0_pay6, past_apply, first_apply, tile, rat]
theorem t10 : k0_pay11 (F := Ideal) V k0_pay4 k0_pay5 (k0_pay6 w0) w1 b0 b1 (ix2 t l) = tile V w0 w1 b0 b1 1 0 t l := by
  pointwise [k0_pay11, k0_pay7, k0_pay8, k0_pay9, k0_pay6, past_apply, first_apply, tile, rat]
theorem t20 : k0_pay13 (F := Ideal) (k0_pay12 V k0_pay4 k0_pay5 (k0_pay6 w0) w1 b0 b1) (ix2 t l) = tile V w0 w1 b0 b1 2 0 t l := by
  pointwise [k0_pay13, k0_pay12, k0_pay7, k0_pay8, k0_pay9, k0_pay6, past_apply, first_apply, tile, rat]
theorem t30 : k0_pay14 (F := Ideal) V k0_pay5 (k0_pay7 k0_pay4 (k0_pay6 w0)) (k0_pay8 k0_pay4 w1) (k0_pay9 k0_pay5 b0 b1) (ix2 t l) = tile V w0 w1 b0 b1 3 0 t l := by
  pointwise [k0_pay14, k0_pay7, k0_pay8, k0_pay9, k0_pay6, past_apply, first_apply, tile, rat]
theorem t01 : k0_pay19 (F := Ideal) (k0_pay18 V k0_pay4 k0_pay5 w0 w1 b0 b1) (ix2 t l) = tile V w0 w1 b0 b1 0 1 t l := by
  pointwise [k0_pay19, k0_pay18, k0_pay15, k0_pay16, k0_pay17, past_apply, first_apply, tile, rat]
theorem t11 : k0_pay20 (F := Ideal) V k0_pay5 (k0_pay15 k0_pay4 w0) (k0_pay16 k0_pay4 w1) (k0_pay17 k0_pay5 b0 b1) (ix2 t l) = tile V w0 w1 b0 b1 1 1 t l := by
  pointwise [k0_pay20, k0_pay15, k0_pay16, k0_pay17, past_apply, first_apply, tile, rat]
theorem t21 : k0_pay21 (F := Ideal) V k0_pay5 (k0_pay15 k0_pay4 w0) (k0_pay16 k0_pay4 w1) (k0_pay17 k0_pay5 b0 b1) (ix2 t l) = tile V w0 w1 b0 b1 2 1 t l := by
  pointwise [k0_pay21, k0_pay15, k0_pay16, k0_pay17, past_apply, first_apply, tile, rat]
theorem t31 : k0_pay22 (F := Ideal) V k0_pay5 (k0_pay15 k0_pay4 w0) (k0_pay16 k0_pay4 w1) (k0_pay17 k0_pay5 b0 b1) (ix2 t l) = tile V w0 w1 b0 b1 3 1 t l := by
  pointwise [k0_pay22, k0_pay15, k0_pay16, k0_pay17, past_apply, first_apply, tile, rat]
theorem t02 : k0_pay26 (F := Ideal) V k0_pay5 (k0_pay23 k0_pay4 w0) (k0_pay24 k0_pay4 w1) b0 b1 (ix2 t l) = tile V w0 w1 b0 b1 0 2 t l := by
  pointwise [k0_pay26, k0_pay23, k0_pay24, k0_pay25, past_apply, first_apply, tile, rat]
theorem t12 : k0_pay27 (F := Ideal) V k0_pay5 (k0_pay23 k0_pay4 w0) (k0_pay24 k0_pay4 w1) b0 b1 (ix2 t l) = tile V w0 w1 b0 b1 1 2 t l := by
  pointwise [k0_pay27, k0_pay23, k0_pay24, k0_pay25, past_apply, first_apply, tile, rat]
theorem t22 : k0_pay28 (F := Ideal) V k0_pay5 (k0_pay23 k0_pay4 w0) (k0_pay24 k0_pay4 w1) b0 b1 (ix2 t l) = tile V w0 w1 b0 b1 2 2 t l := by
  pointwise [k0_pay28, k0_pay23, k0_pay24, k0_pay25, past_apply, first_apply, tile, rat]
theorem t32 : k0_pay30 (F := Ideal) (k0_pay29 V k0_pay5 (k0_pay23 k0_pay4 w0) (k0_pay24 k0_pay4 w1) b0 b1) (ix2 t l) = tile V w0 w1 b0 b1 3 2 t l := by
  pointwise [k0_pay30, k0_pay29, k0_pay23, k0_pay24, k0_pay25, past_apply, first_apply, tile, rat]
theorem t03 : k0_pay34 (F := Ideal) V k0_pay4 k0_pay5 w0 w1 b0 b1 (ix2 t l) = tile V w0 w1 b0 b1 0 3 t l := by
  pointwise [k0_pay34, k0_pay31, k0_pay32, k0_pay33, past_apply, first_apply, tile, rat]
theorem t13 : k0_pay35 (F := Ideal) V k0_pay4 k0_pay5 w0 w1 b0 b1 (ix2 t l) = tile V w0 w1 b0 b1 1 3 t l := by
  pointwise [k0_pay35, k0_pay31, k0_pay32, k0_pay33, past_apply, first_apply, tile, rat]
theorem t23 : k0_pay36 (F := Ideal) V k0_pay5 (k0_pay31 k0_pay4 w0) (k0_pay32 k0_pay4 w1) (k0_pay33 k0_pay5 b0 b1) (ix2 t l) = tile V w0 w1 b0 b1 2 3 t l := by
  pointwise [k0_pay36, k0_pay31, k0_pay32, k0_pay33, past_apply, first_apply, tile, rat]
theorem t33 : k0_pay37 (F := Ideal) V k0_pay5 (k0_pay31 k0_pay4 w0) (k0_pay32 k0_pay4 w1) (k0_pay33 k0_pay5 b0 b1) (ix2 t l) = tile V w0 w1 b0 b1 3 3 t l := by
  pointwise [k0_pay37, k0_pay31, k0_pay32, k0_pay33, past_apply, first_apply, tile, rat]

/-! ## The mixes, side by side -/

/-- A row's group in its block, and its place there. -/
def grp (i : Fin 512) : Fin 4 := ⟨i.val / 128, by omega⟩
def place (i : Fin 512) : Fin 128 := ⟨i.val % 128, by omega⟩
theorem grp_rat (n : Fin 4) (t : Fin 128) : grp (rat n t) = n := Fin.ext (by simp only [grp, rat]; omega)
theorem place_rat (n : Fin 4) (t : Fin 128) : place (rat n t) = t := Fin.ext (by simp only [place, rat]; omega)

/-- The mix of a block's rows. -/
def mixes (V : FVec Ideal S512x512 .bf16) (W : FVec Ideal S8x128x128 .f32) (B : FVec Ideal S128x8 .f32) : FVec Ideal S512x512 .f32 :=
  fun y => mixed (fun s k => V (ix2 (rat (grp (y 0)) s) k)) W B (place (y 0)) (y 1)

/-- One head's weights, and the numbers added in it. -/
abbrev wld (W : Vec Ideal S8x128x128 .f32) (d : ℕ)
    (inb : ∀ a, (![d, 0, 0] : Fin 3 → ℕ) a + (![1, 128, 128] : Fin 3 → ℕ) a ≤ S8x128x128.size a) : Vec Ideal S1x128x128 .f32 :=
  View.ld (Val := Elt Ideal) W (Rect.unit (s := S8x128x128) ![d, 0, 0] ![1, 128, 128] inb)
abbrev bld (B : Vec Ideal S128x8 .f32) (d : ℕ)
    (inb : ∀ a, (![0, d] : Fin 2 → ℕ) a + (![128, 1] : Fin 2 → ℕ) a ≤ S128x8.size a) : Vec Ideal S128x1 .f32 :=
  View.ld (Val := Elt Ideal) B (Rect.unit (s := S128x8) ![0, d] ![128, 1] inb)

theorem wld_apply (W : Vec Ideal S8x128x128 .f32) (d : ℕ) (h : Fin 8) (hd : h.val = d) (inb) (t s : Fin 128) :
    wld W d inb (ix3 0 t s) = W (ix3 h t s) :=
  View.ld_unit_apply_of W _ _ _ _ _ fun a => by
    match a with
    | 0 => simpa using hd
    | 1 => simp
    | 2 => simp
theorem bld_apply (B : Vec Ideal S128x8 .f32) (d : ℕ) (h : Fin 8) (hd : h.val = d) (inb) (t : Fin 128) :
    bld B d inb (ix2 t 0) = B (ix2 t h) :=
  View.ld_unit_apply_of B _ _ _ _ _ fun a => by
    match a with
    | 0 => simp
    | 1 => simpa using hd

variable (W : FVec Ideal S8x128x128 .f32) (B : FVec Ideal S128x8 .f32)

theorem tile_eq (n p : Fin 4) (d d' : ℕ) (hd : d = 2 * p.val) (hd' : d' = 2 * p.val + 1) (inw inw' inb inb') (t l : Fin 128) :
    tile V (wld W d inw) (wld W d' inw') (bld B d inb) (bld B d' inb') n p t l = mixes V W B (ix2 (rat n t) (rat p l)) := by
  show _ = mixed (fun s k => V (ix2 (rat (grp (rat n t)) s) k)) W B (place (rat n t)) (rat p l)
  rw [grp_rat, place_rat, tile, mixed]
  by_cases h : l.val < 64
  · rw [if_pos h, if_pos h, bld_apply B d (Out.hd (rat p l)) (by simp only [Out.hd, rat]; omega)]
    refine congrArg (· + _) (Finset.sum_congr rfl fun s _ => ?_)
    rw [wld_apply W d (Out.hd (rat p l)) (by simp only [Out.hd, rat]; omega)]
  · rw [if_neg h, if_neg h, bld_apply B d' (Out.hd (rat p l)) (by simp only [Out.hd, rat]; omega)]
    refine congrArg (· + _) (Finset.sum_congr rfl fun s _ => ?_)
    rw [wld_apply W d' (Out.hd (rat p l)) (by simp only [Out.hd, rat]; omega)]

/-- Sixteen stores of 128 rows and 128 columns each, read back whole. -/
theorem scratch_eq (G : FVec Ideal S512x512 .f32)
    (P00 P10 P20 P30 P01 P11 P21 P31 P02 P12 P22 P32 P03 P13 P23 P33 : FVec Ideal S128x128 .f32)
    (p00 : ∀ t l, P00 (ix2 t l) = G (ix2 (rat 0 t) (rat 0 l))) (p10 : ∀ t l, P10 (ix2 t l) = G (ix2 (rat 1 t) (rat 0 l)))
    (p20 : ∀ t l, P20 (ix2 t l) = G (ix2 (rat 2 t) (rat 0 l))) (p30 : ∀ t l, P30 (ix2 t l) = G (ix2 (rat 3 t) (rat 0 l)))
    (p01 : ∀ t l, P01 (ix2 t l) = G (ix2 (rat 0 t) (rat 1 l))) (p11 : ∀ t l, P11 (ix2 t l) = G (ix2 (rat 1 t) (rat 1 l)))
    (p21 : ∀ t l, P21 (ix2 t l) = G (ix2 (rat 2 t) (rat 1 l))) (p31 : ∀ t l, P31 (ix2 t l) = G (ix2 (rat 3 t) (rat 1 l)))
    (p02 : ∀ t l, P02 (ix2 t l) = G (ix2 (rat 0 t) (rat 2 l))) (p12 : ∀ t l, P12 (ix2 t l) = G (ix2 (rat 1 t) (rat 2 l)))
    (p22 : ∀ t l, P22 (ix2 t l) = G (ix2 (rat 2 t) (rat 2 l))) (p32 : ∀ t l, P32 (ix2 t l) = G (ix2 (rat 3 t) (rat 2 l)))
    (p03 : ∀ t l, P03 (ix2 t l) = G (ix2 (rat 0 t) (rat 3 l))) (p13 : ∀ t l, P13 (ix2 t l) = G (ix2 (rat 1 t) (rat 3 l)))
    (p23 : ∀ t l, P23 (ix2 t l) = G (ix2 (rat 2 t) (rat 3 l))) (p33 : ∀ t l, P33 (ix2 t l) = G (ix2 (rat 3 t) (rat 3 l))) :
    (View.whole cc0_scratch0).readCov (Val := Elt Ideal)
      [⟨Rect.unit ![384, 384] ![128, 128] inb_S512x512_S128x128_384_384, P33⟩,
       ⟨Rect.unit ![256, 384] ![128, 128] inb_S512x512_S128x128_256_384, P23⟩,
       ⟨Rect.unit ![128, 384] ![128, 128] inb_S512x512_S128x128_128_384, P13⟩,
       ⟨Rect.unit ![0, 384] ![128, 128] inb_S512x512_S128x128_0_384, P03⟩,
       ⟨Rect.unit ![384, 256] ![128, 128] inb_S512x512_S128x128_384_256, P32⟩,
       ⟨Rect.unit ![256, 256] ![128, 128] inb_S512x512_S128x128_256_256, P22⟩,
       ⟨Rect.unit ![128, 256] ![128, 128] inb_S512x512_S128x128_128_256, P12⟩,
       ⟨Rect.unit ![0, 256] ![128, 128] inb_S512x512_S128x128_0_256, P02⟩,
       ⟨Rect.unit ![384, 128] ![128, 128] inb_S512x512_S128x128_384_128, P31⟩,
       ⟨Rect.unit ![256, 128] ![128, 128] inb_S512x512_S128x128_256_128, P21⟩,
       ⟨Rect.unit ![128, 128] ![128, 128] inb_S512x512_S128x128_128_128, P11⟩,
       ⟨Rect.unit ![0, 128] ![128, 128] inb_S512x512_S128x128_0_128, P01⟩,
       ⟨Rect.unit ![384, 0] ![128, 128] inb_S512x512_S128x128_384_0, P30⟩,
       ⟨Rect.unit ![256, 0] ![128, 128] inb_S512x512_S128x128_256_0, P20⟩,
       ⟨Rect.unit ![128, 0] ![128, 128] inb_S512x512_S128x128_128_0, P10⟩,
       ⟨Rect.unit ![0, 0] ![128, 128] inb_S512x512_S128x128_0_0, P00⟩]
      (Rect.unit ![0, 0] ![512, 512] inb_S512x512_S512x512_0_0).toLoadRect = G := by
  rw [View.readCov_eq_canon']
  funext y
  have at_tile : ∀ (n p : Fin 4) (x : S128x128.Idx), (y 0 : Fin 512).val = (rat n (x 0)).val →
      (y 1 : Fin 512).val = (rat p (x 1)).val → G (ix2 (rat n (x 0)) (rat p (x 1))) = G y := fun n p x e0 e1 =>
    congrArg G (funext fun a => Fin.ext (by
      match a with
      | 0 => exact e0.symm
      | 1 => exact e1.symm))
  canon_tiles x h
  · rw [eq_ix2 x]; exact (p33 _ _).trans (at_tile 3 3 x (by simpa [rat] using h0) (by simpa [rat] using h1))
  · rw [eq_ix2 x]; exact (p23 _ _).trans (at_tile 2 3 x (by simpa [rat] using h0) (by simpa [rat] using h1))
  · rw [eq_ix2 x]; exact (p13 _ _).trans (at_tile 1 3 x (by simpa [rat] using h0) (by simpa [rat] using h1))
  · rw [eq_ix2 x]; exact (p03 _ _).trans (at_tile 0 3 x (by simpa [rat] using h0) (by simpa [rat] using h1))
  · rw [eq_ix2 x]; exact (p32 _ _).trans (at_tile 3 2 x (by simpa [rat] using h0) (by simpa [rat] using h1))
  · rw [eq_ix2 x]; exact (p22 _ _).trans (at_tile 2 2 x (by simpa [rat] using h0) (by simpa [rat] using h1))
  · rw [eq_ix2 x]; exact (p12 _ _).trans (at_tile 1 2 x (by simpa [rat] using h0) (by simpa [rat] using h1))
  · rw [eq_ix2 x]; exact (p02 _ _).trans (at_tile 0 2 x (by simpa [rat] using h0) (by simpa [rat] using h1))
  · rw [eq_ix2 x]; exact (p31 _ _).trans (at_tile 3 1 x (by simpa [rat] using h0) (by simpa [rat] using h1))
  · rw [eq_ix2 x]; exact (p21 _ _).trans (at_tile 2 1 x (by simpa [rat] using h0) (by simpa [rat] using h1))
  · rw [eq_ix2 x]; exact (p11 _ _).trans (at_tile 1 1 x (by simpa [rat] using h0) (by simpa [rat] using h1))
  · rw [eq_ix2 x]; exact (p01 _ _).trans (at_tile 0 1 x (by simpa [rat] using h0) (by simpa [rat] using h1))
  · rw [eq_ix2 x]; exact (p30 _ _).trans (at_tile 3 0 x (by simpa [rat] using h0) (by simpa [rat] using h1))
  · rw [eq_ix2 x]; exact (p20 _ _).trans (at_tile 2 0 x (by simpa [rat] using h0) (by simpa [rat] using h1))
  · rw [eq_ix2 x]; exact (p10 _ _).trans (at_tile 1 0 x (by simpa [rat] using h0) (by simpa [rat] using h1))
  · rw [eq_ix2 x]; exact (p00 _ _).trans (at_tile 0 0 x (by simpa [rat] using h0) (by simpa [rat] using h1))

/-- The loads of half the columns of `z`, and of half the rows of the output's weights. -/
abbrev zld (Z : Vec Ideal S512x1024 .f32) (o : ℕ)
    (inb : ∀ a, (![0, o] : Fin 2 → ℕ) a + (![512, 512] : Fin 2 → ℕ) a ≤ S512x1024.size a) : Vec Ideal S512x512 .f32 :=
  View.ld (Val := Elt Ideal) Z (Rect.unit (s := S512x1024) ![0, o] ![512, 512] inb)
abbrev old (O : Vec Ideal S1024x1024 .bf16) (o : ℕ)
    (inb : ∀ a, (![o, 0] : Fin 2 → ℕ) a + (![512, 1024] : Fin 2 → ℕ) a ≤ S1024x1024.size a) : Vec Ideal S512x1024 .bf16 :=
  View.ld (Val := Elt Ideal) O (Rect.unit (s := S1024x1024) ![o, 0] ![512, 1024] inb)
theorem zld_apply (Z : Vec Ideal S512x1024 .f32) (o : ℕ) (inb) (i k : Fin 512) (n : Fin 1024) (hn : n.val = o + k.val) :
    zld Z o inb (ix2 i k) = Z (ix2 i n) :=
  View.ld_unit_apply_of Z _ _ _ _ _ fun a => by
    match a with
    | 0 => simp
    | 1 => simpa using hn
theorem old_apply (O : Vec Ideal S1024x1024 .bf16) (o : ℕ) (inb) (k : Fin 512) (j n : Fin 1024) (hn : n.val = o + k.val) :
    old O o inb (ix2 k j) = O (ix2 n j) :=
  View.ld_unit_apply_of O _ _ _ _ _ fun a => by
    match a with
    | 0 => simpa using hn
    | 1 => simp

/-! ## A point's result -/

variable (m : (ℓ : Loc nD τ sig) → Buf (Elt Ideal) ℓ) (c : Dev nD) (t : Fin cfg0.N)

abbrev bX : FVec Ideal S512x1024 .f32 := iblk m c 0 t
abbrev bC : FVec Ideal S512x512 .f32 := iblk m c 1 t
abbrev bZ : FVec Ideal S512x1024 .f32 := iblk m c 2 t
abbrev bcg : FVec Ideal S1x512 .f32 := iblk m c 3 t
abbrev bcb : FVec Ideal S1x512 .f32 := iblk m c 4 t
abbrev bgg : FVec Ideal S1x512 .f32 := iblk m c 5 t
abbrev bgb : FVec Ideal S1x512 .f32 := iblk m c 6 t
abbrev bW : FVec Ideal S8x128x128 .f32 := iblk m c 7 t
abbrev bB : FVec Ideal S128x8 .f32 := iblk m c 8 t
abbrev bO : FVec Ideal S1024x1024 .bf16 := iblk m c 9 t

/-- A point's mixed rows. -/
abbrev bV : FVec Ideal S512x512 .bf16 := k0_pay3 (F := Ideal) (zld (bZ m c t) 512 inb_S512x1024_S512x512_0_512) (bgg m c t) (bgb m c t)

theorem out_point : outsAt0 m c t = k0_pay38 (F := Ideal) (k0_pay1 (bC m c t) (bcg m c t) (bcb m c t))
    (k0_pay2 (zld (bZ m c t) 0 inb_S512x1024_S512x512_0_0)) (mixes (bV m c t) (bW m c t) (bB m c t)) (bX m c t)
    (old (bO m c t) 0 inb_S1024x1024_S512x1024_0_0) (old (bO m c t) 512 inb_S1024x1024_S512x1024_512_0) := by
  unfold outsAt0
  frame_out
  refine congrArg (fun Y => k0_pay38 (F := Ideal) (k0_pay1 (bC m c t) (bcg m c t) (bcb m c t))
    (k0_pay2 (zld (bZ m c t) 0 inb_S512x1024_S512x512_0_0)) Y (bX m c t)
    (old (bO m c t) 0 inb_S1024x1024_S512x1024_0_0) (old (bO m c t) 512 inb_S1024x1024_S512x1024_512_0))
    (scratch_eq (mixes (bV m c t) (bW m c t) (bB m c t)) _ _ _ _ _ _ _ _ _ _ _ _ _ _ _ _ ?_ ?_ ?_ ?_ ?_ ?_ ?_ ?_ ?_ ?_ ?_ ?_ ?_ ?_ ?_ ?_)
  · exact fun u l => (t00 ..).trans (tile_eq _ _ _ 0 0 0 1 rfl rfl _ _ _ _ u l)
  · exact fun u l => (t10 ..).trans (tile_eq _ _ _ 1 0 0 1 rfl rfl _ _ _ _ u l)
  · exact fun u l => (t20 ..).trans (tile_eq _ _ _ 2 0 0 1 rfl rfl _ _ _ _ u l)
  · exact fun u l => (t30 ..).trans (tile_eq _ _ _ 3 0 0 1 rfl rfl _ _ _ _ u l)
  · exact fun u l => (t01 ..).trans (tile_eq _ _ _ 0 1 2 3 rfl rfl _ _ _ _ u l)
  · exact fun u l => (t11 ..).trans (tile_eq _ _ _ 1 1 2 3 rfl rfl _ _ _ _ u l)
  · exact fun u l => (t21 ..).trans (tile_eq _ _ _ 2 1 2 3 rfl rfl _ _ _ _ u l)
  · exact fun u l => (t31 ..).trans (tile_eq _ _ _ 3 1 2 3 rfl rfl _ _ _ _ u l)
  · exact fun u l => (t02 ..).trans (tile_eq _ _ _ 0 2 4 5 rfl rfl _ _ _ _ u l)
  · exact fun u l => (t12 ..).trans (tile_eq _ _ _ 1 2 4 5 rfl rfl _ _ _ _ u l)
  · exact fun u l => (t22 ..).trans (tile_eq _ _ _ 2 2 4 5 rfl rfl _ _ _ _ u l)
  · exact fun u l => (t32 ..).trans (tile_eq _ _ _ 3 2 4 5 rfl rfl _ _ _ _ u l)
  · exact fun u l => (t03 ..).trans (tile_eq _ _ _ 0 3 6 7 rfl rfl _ _ _ _ u l)
  · exact fun u l => (t13 ..).trans (tile_eq _ _ _ 1 3 6 7 rfl rfl _ _ _ _ u l)
  · exact fun u l => (t23 ..).trans (tile_eq _ _ _ 2 3 6 7 rfl rfl _ _ _ _ u l)
  · exact fun u l => (t33 ..).trans (tile_eq _ _ _ 3 3 6 7 rfl rfl _ _ _ _ u l)

/-- Row `i` of a point's result, at its columns. -/
theorem out_at (i : Fin 512) (j : Fin 1024) : outsAt0 m c t (ix2 i j)
    = outRow (row (bX m c t) i) (fun k => silu (lnorm (hrow (bC m c t) i) (hgain (bcg m c t)) (hgain (bcb m c t)) k))
      (fun k => gelu (bZ m c t (ix2 i (lo k))))
      (mixed (fun s => lnorm (fun k => gelu (bZ m c t (ix2 (rat (grp i) s) (hi k)))) (hgain (bgg m c t)) (hgain (bgb m c t)))
        (bW m c t) (bB m c t) (place i)) (bO m c t) j := by
  rw [out_point, out_apply]
  refine congrArg₂ (· + ·) (congrArg (_ + ·) (Finset.sum_congr rfl fun k _ => ?_)) (Finset.sum_congr rfl fun k _ => ?_)
  · rw [silu_apply, old_apply _ 0 _ k j (lo k) (by simp [lo])]
  · rw [gelu_apply, zld_apply _ 0 _ i k (lo k) (by simp [lo]), old_apply _ 512 _ k j (hi k) rfl]
    refine congrArg (fun y : EReal => gelu (bZ m c t (ix2 i (lo k))) * y * bO m c t (ix2 (hi k) j)) ?_
    show mixed _ _ _ (place i) k = _
    refine congrArg (fun V => mixed V _ _ (place i) k) (funext fun s => funext fun k => ?_)
    show bV m c t (ix2 (rat (grp i) s) k) = _
    rw [bV, v_apply]
    exact congrArg (fun x => lnorm x _ _ k) (funext fun k => congrArg gelu (zld_apply _ 512 _ _ k (hi k) rfl))

end Cert.OutPoints

end
-- ==== Proof.OutArrays.lean ====
/- What the output array of the mixing block's output holds at the end, from what its input arrays hold when it starts, and
   what those hold. -/
module

public import proofs.«01_k».proof.Proof.OutPoints
public import Idealize.ShloMosaic.Lib.Pipeline.ValueKit
public import Idealize.ShloMosaic.Lib.Pointwise

@[expose] public section

set_option maxRecDepth 16384

noncomputable section

namespace Cert.OutArrays

open Idealize.ShloMosaic Idealize.ShloMosaic.TcCoe Idealize.SL.Sem
open Cert.Kernel10Ideal Cert.Kernel10Ideal.Gen Cert.Algebra Cert.Spec Cert.Step Cert.Out Cert.OutPoints

/-! ## The output of the whole sequence -/

abbrev HSeq := (⟨2, ![4096, 512]⟩ : Shape).Idx → EReal
abbrev ZSeq := (⟨2, ![4096, 2048]⟩ : Shape).Idx → EReal
/-- The columns of `z` that gate, and those that are mixed. -/
def zu (k : Fin 512) : Fin 2048 := ⟨1024 + k.val, by omega⟩
def zv (k : Fin 512) : Fin 2048 := ⟨1536 + k.val, by omega⟩
/-- Row `s` of a row's group, and the row's place there. -/
def mate (r : Fin 4096) (s : Fin 128) : Fin 4096 := ⟨128 * (r.val / 128) + s.val, by omega⟩
def spot (r : Fin 4096) : Fin 128 := ⟨r.val % 128, by omega⟩

section

variable (C : HSeq) (Z : ZSeq) (cg cb gg gb : HGain) (W : Mixer) (B : Added) (r : Fin 4096)

def conv : HRow := fun k => silu (lnorm (fun k => C (ix2 r k)) (hgain cg) (hgain cb) k)
def gates : HRow := fun k => gelu (Z (ix2 r (zu k)))
def values : HRow := lnorm (fun k => gelu (Z (ix2 r (zv k)))) (hgain gg) (hgain gb)
def mix : HRow := mixed (fun s => values Z gg gb (mate r s)) W B (spot r)

def output (X : Seq) (WO : Mat) (y : (⟨2, ![4096, 1024]⟩ : Shape).Idx) : EReal :=
  outRow (line X (y 0)) (conv C cg cb (y 0)) (gates Z (y 0)) (mix Z gg gb W B (y 0)) WO (y 1)

end

variable (m : (ℓ : Loc nD τ sig) → Buf (Elt Ideal) ℓ) (c : Dev nD) (t : Fin cfg0.N)

/-! ## The input arrays when the kernel starts -/

abbrev aX : Seq := V m c main_arg0
abbrev aC : HSeq := V m c main_arg1
abbrev aZ : ZSeq := V m c main_arg2
abbrev acg : HGain := V m c main_arg3
abbrev acb : HGain := V m c main_arg4
abbrev agg : HGain := V m c main_arg5
abbrev agb : HGain := V m c main_arg6
abbrev aW : Mixer := V m c main_arg7
abbrev aB : Added := V m c main_v0
abbrev aO : Mat := V m c main_v1

/-! ## Where the blocks lie -/

theorem idx : ∀ t : Fin cfg0.N, win0_0.index t = ![t.val, 0] ∧ win0_1.index t = ![t.val, 0] ∧ win0_2.index t = ![t.val, 1]
    ∧ win0_3.index t = ![0, 0] ∧ win0_4.index t = ![0, 0] ∧ win0_5.index t = ![0, 0] ∧ win0_6.index t = ![0, 0]
    ∧ win0_7.index t = ![0, 0, 0] ∧ win0_8.index t = ![0, 0] ∧ win0_9.index t = ![0, 0] ∧ win0_10.index t = ![t.val, 0] :=
  (by decide +kernel : ∀ t : Fin grid0.N, _)

theorem lt8 (t : Fin cfg0.N) : t.val < 8 := Nat.lt_of_lt_of_eq t.isLt N_0

/-- Row `i` of point `t`'s blocks is this row of the arrays. -/
def at' (t : Fin cfg0.N) (i : Fin 512) : Fin 4096 := ⟨t.val * 512 + i.val, by have := lt8 t; omega⟩
theorem mate_at (i : Fin 512) (s : Fin 128) : at' t (rat (grp i) s) = mate (at' t i) s :=
  Fin.ext (by simp only [at', rat, grp, mate]; omega)
theorem spot_at (i : Fin 512) : spot (at' t i) = place i := Fin.ext (by simp only [at', spot, place]; omega)
/-- The columns of `z`'s block. -/
def zcol (j : Fin 1024) : Fin 2048 := ⟨1024 + j.val, by omega⟩

variable (i k : Fin 512) (j : Fin 1024)

theorem X_at : bX m c t (ix2 i j) = aX m c (ix2 (at' t i) j) := by
  blk_point [iblk, V, idx t]; rfl
theorem C_at : bC m c t (ix2 i k) = aC m c (ix2 (at' t i) k) := by
  blk_point [iblk, V, idx t]; rfl
theorem Z_at : bZ m c t (ix2 i j) = aZ m c (ix2 (at' t i) (zcol j)) := by
  blk_point [iblk, V, idx t, zcol]; rfl
theorem cg_eq : bcg m c t = acg m c := by
  funext y; rw [eq_ix2 y]; blk_point [iblk, V, idx t]
theorem cb_eq : bcb m c t = acb m c := by
  funext y; rw [eq_ix2 y]; blk_point [iblk, V, idx t]
theorem gg_eq : bgg m c t = agg m c := by
  funext y; rw [eq_ix2 y]; blk_point [iblk, V, idx t]
theorem gb_eq : bgb m c t = agb m c := by
  funext y; rw [eq_ix2 y]; blk_point [iblk, V, idx t]
theorem W_eq : bW m c t = aW m c := by
  funext y; rw [eq_ix3 y]; blk_point [iblk, V, idx t]
theorem B_eq : bB m c t = aB m c := by
  funext y; rw [eq_ix2 y]; blk_point [iblk, V, idx t]
theorem O_eq : bO m c t = aO m c := by
  funext y; rw [eq_ix2 y]; blk_point [iblk, V, idx t]

theorem Zu_at : bZ m c t (ix2 i (lo k)) = aZ m c (ix2 (at' t i) (zu k)) := Z_at ..
theorem Zv_at : bZ m c t (ix2 i (hi k)) = aZ m c (ix2 (at' t i) (zv k)) :=
  (Z_at ..).trans (congrArg (fun n => aZ m c (ix2 (at' t i) n)) (Fin.ext (by simp only [zcol, hi, zv]; omega)))

theorem out_at' : outsAt0 m c t (ix2 i j)
    = output (aC m c) (aZ m c) (acg m c) (acb m c) (agg m c) (agb m c) (aW m c) (aB m c) (aX m c) (aO m c) (ix2 (at' t i) j) := by
  rw [out_at, cg_eq, cb_eq, gg_eq, gb_eq, W_eq, B_eq, O_eq,
    show row (bX m c t) i = line (aX m c) (at' t i) from funext fun j => X_at m c t i j,
    show hrow (bC m c t) i = (fun k => aC m c (ix2 (at' t i) k)) from funext fun k => C_at m c t i k,
    show (fun k => gelu (bZ m c t (ix2 i (lo k)))) = gates (aZ m c) (at' t i) from funext fun k => congrArg gelu (Zu_at m c t i k),
    ← spot_at t i]
  show _ = outRow _ _ _ (mix _ _ _ _ _ (at' t i)) _ j
  refine congrArg (fun y => outRow _ _ _ y _ j) (congrArg (fun V => mixed V _ _ _) (funext fun s => ?_))
  rw [← mate_at]
  exact congrArg (fun x => lnorm x _ _) (funext fun k => congrArg gelu (Zv_at m c t _ k))

/-! ## The output array -/

theorem arr10 : (dats m 0 c).arrAt 10 cfg0.N
    = output (aC m c) (aZ m c) (acg m c) (acb m c) (agg m c) (agb m c) (aW m c) (aB m c) (aX m c) (aO m c) := by
  refine (dats m 0 c).arrAt_eq_of_covers 10 _ (by decide +kernel) fun t _ y => ?_
  blk_simp
  rw [after0_10]
  refine (congrArg _ (eq_ix2 _)).trans ((out_at' m c t _ _).trans (congrArg _ ?_))
  blk_ext [idx t, at']

/-! ## What the input arrays hold -/

abbrev x : FVec Ideal S4096x1024 .f32 := m ((c : Thread nD τ).loc main_arg0)
abbrev cv : FVec Ideal S4096x512 .f32 := m ((c : Thread nD τ).loc main_arg1)
abbrev z : FVec Ideal S4096x2048 .f32 := m ((c : Thread nD τ).loc main_arg2)
abbrev clg : FVec Ideal S1x512 .f32 := m ((c : Thread nD τ).loc main_arg3)
abbrev clb : FVec Ideal S1x512 .f32 := m ((c : Thread nD τ).loc main_arg4)
abbrev glg : FVec Ideal S1x512 .f32 := m ((c : Thread nD τ).loc main_arg5)
abbrev glb : FVec Ideal S1x512 .f32 := m ((c : Thread nD τ).loc main_arg6)
abbrev ws : FVec Ideal S8x128x128 .f32 := m ((c : Thread nD τ).loc main_arg7)
abbrev bs : FVec Ideal S8x128 .f32 := m ((c : Thread nD τ).loc main_arg8)
abbrev wout : FVec Ideal S1024x1024 .f32 := m ((c : Thread nD τ).loc main_arg9)

/-- The numbers added to the mix, a row of them for each row of a group. -/
def turned (b : (⟨2, ![8, 128]⟩ : Shape).Idx → EReal) : Added := fun y => b (ix2 (y 1) (y 0))

theorem aX_eq : aX m c = x m c := V_main_arg0 m c
theorem aC_eq : aC m c = cv m c := V_main_arg1 m c
theorem aZ_eq : aZ m c = z m c := V_main_arg2 m c
theorem acg_eq : acg m c = clg m c := V_main_arg3 m c
theorem acb_eq : acb m c = clb m c := V_main_arg4 m c
theorem agg_eq : agg m c = glg m c := V_main_arg5 m c
theorem agb_eq : agb m c = glb m c := V_main_arg6 m c
theorem aW_eq : aW m c = ws m c := V_main_arg7 m c
theorem aB_eq : aB m c = turned (bs m c) := by
  refine Eq.trans (b := transpose S128x8 [1, 0] (bs m c) transposes_S8x128_S128x8_1_0) ?_ ?_
  · show StableHlo.after hostOps0 (fun b => m (c, b)) _ = _
    after_results_simp
  · funext y; rw [eq_ix2 y]
    pointwise [turned]
theorem aO_eq : aO m c = wout m c := by
  show StableHlo.after hostOps0 (fun b => m (c, b)) _ = _
  after_results_simp; rfl

end Cert.OutArrays

end
-- ==== Proof.OutEquation.lean ====
/- The reference of the mixing block's output, read at an index, and the kernel's output array, which is its result on the
   same arguments. -/
module

public import proofs.«01_k».proof.Proof.OutArrays
public import proofs.«01_k».proof.Proof.Gen.Reference10Ideal.Read

@[expose] public section

set_option maxRecDepth 16384

noncomputable section

namespace Cert.OutReference

open Idealize.ShloMosaic
open Cert.Reference10Ideal Cert.Reference10Ideal.Read Cert.Algebra Cert.Spec Cert.Step Cert.Out
open Cert.OutPoints (ofBits_512)
open Cert.OutArrays (zu zv mate spot conv gates values mix output turned)

variable (x0 : FVec Ideal S4096x1024 .f32) (x1 : FVec Ideal S4096x512 .f32) (x2 : FVec Ideal S4096x2048 .f32)
  (x3 x4 x5 x6 : FVec Ideal S1x512 .f32) (x7 : FVec Ideal S8x128x128 .f32) (x8 : FVec Ideal S8x128 .f32)
  (x9 : FVec Ideal S1024x1024 .f32) (r : Fin 4096) (k : Fin 512) (j : Fin 1024)

/-! ## The convolution's group -/

theorem cen_apply : val_main_v7 (F := Ideal) x1 (ix2 r k) = centred (fun k => x1 (ix2 r k)) k := by
  pointwise [val_main_v7, val_main_v6, val_main_v5, val_main_v4, val_main_v3, val_main_v2, val_main_cst, val_main_cst_0, centred, mean, ofBits_512]
theorem cen_apply' : val_main_v14 (F := Ideal) x1 (ix2 r k) = centred (fun k => x1 (ix2 r k)) k := by
  pointwise [val_main_v14, val_main_v13, val_main_v5, val_main_v4, val_main_v3, val_main_v2, val_main_cst, val_main_cst_0, centred, mean, ofBits_512]
theorem dev_apply (u : Fin 1) : val_main_v17 (F := Ideal) x1 (ix2 r u) = dev (fun k => x1 (ix2 r k)) := by
  pointwise [val_main_v17, val_main_v16, val_main_v15, val_main_v12, val_main_v11, val_main_v10, val_main_v9, val_main_v8, val_main_cst_1, val_main_cst_2, val_main_cst_3, cen_apply x1, dev, ofBits_512, lnEps]
theorem norm_apply : val_main_v25 (F := Ideal) x1 x3 x4 (ix2 r k) = lnorm (fun k => x1 (ix2 r k)) (hgain x3) (hgain x4) k := by
  pointwise [val_main_v25, val_main_v24, val_main_v23, val_main_v22, val_main_v21, val_main_v20, val_main_v19, val_main_v18, val_main_v0, val_main_v1, cen_apply' x1, dev_apply x1, lnorm, hgain]
theorem conv_apply : val_main_v26 (F := Ideal) x1 x3 x4 (ix2 r k) = conv x1 x3 x4 r k := by
  pointwise [val_main_v26, val_main_call0_v5, val_main_call0_v4, val_main_call0_v3, val_main_call0_v2, val_main_call0_v1,
    val_main_call0_v0, val_main_call0_cst, val_main_call0_cst_0, norm_apply x1 x3 x4, conv, silu, Ideal.logistic]

/-! ## The gates, and the rows that are mixed -/

theorem gelu_eq (a : EReal) : a * (((1 / 2 : ℝ) : EReal) * (1 + Ideal.tanh (geluC * (a + geluK * (a * a * a))))) = gelu a := by
  rw [← mul_assoc, mul_comm a]; rfl

theorem gates_apply : val_main_v43 (F := Ideal) x2 (ix2 r k) = gates x2 r k := by
  refine Eq.trans ?_ (gelu_eq _)
  pointwise [val_main_v43, val_main_v42, val_main_v41, val_main_v40, val_main_v39, val_main_v38, val_main_v37, val_main_v36, val_main_v35, val_main_v34, val_main_v33, val_main_v32, val_main_v31, val_main_v27, val_main_cst_4, val_main_cst_5, val_main_cst_6, val_main_cst_7, zu, geluC, geluK, MixPoints.half_apply]
/-- The activated columns of `z` that are mixed. -/
abbrev act (r : Fin 4096) : HRow := fun k => gelu (x2 (ix2 r (zv k)))
theorem act_apply : val_main_v56 (F := Ideal) x2 (ix2 r k) = act x2 r k := by
  refine Eq.trans ?_ (gelu_eq _)
  pointwise [val_main_v56, val_main_v55, val_main_v54, val_main_v53, val_main_v52, val_main_v51, val_main_v50, val_main_v49, val_main_v48, val_main_v47, val_main_v46, val_main_v45, val_main_v44, val_main_v28, val_main_cst_8, val_main_cst_9, val_main_cst_10, val_main_cst_11, zv, geluC, geluK, MixPoints.half_apply]
theorem vcen_apply : val_main_v62 (F := Ideal) x2 (ix2 r k) = centred (act x2 r) k := by
  pointwise [val_main_v62, val_main_v61, val_main_v60, val_main_v59, val_main_v58, val_main_v57, act_apply x2, val_main_cst_12, val_main_cst_13, centred, mean, ofBits_512]
theorem vcen_apply' : val_main_v69 (F := Ideal) x2 (ix2 r k) = centred (act x2 r) k := by
  pointwise [val_main_v69, val_main_v68, val_main_v60, val_main_v59, val_main_v58, val_main_v57, act_apply x2, val_main_cst_12, val_main_cst_13, centred, mean, ofBits_512]
theorem vdev_apply (u : Fin 1) : val_main_v72 (F := Ideal) x2 (ix2 r u) = dev (act x2 r) := by
  pointwise [val_main_v72, val_main_v71, val_main_v70, val_main_v67, val_main_v66, val_main_v65, val_main_v64, val_main_v63, val_main_cst_14, val_main_cst_15, val_main_cst_16, vcen_apply x2, dev, ofBits_512, lnEps]
theorem values_apply : val_main_v80 (F := Ideal) x2 x5 x6 (ix2 r k) = values x2 x5 x6 r k := by
  pointwise [val_main_v80, val_main_v79, val_main_v78, val_main_v77, val_main_v76, val_main_v75, val_main_v74, val_main_v73, val_main_v29, val_main_v30, vcen_apply' x2, vdev_apply x2, values, lnorm, hgain]

/-! ## The mix -/

theorem past_apply (t s : Fin 128) : val_main_v83 (F := Ideal) (ix2 t s) = BitVec.ofBool (decide (s ≤ t)) := by
  rw [← OutPoints.sge_word t s]
  show (if IntOp.cmpi .sge (BitVec.ofNat 32 t.val + 0#32) (BitVec.ofNat 32 s.val) = 1#1 then 1#1 else 0#1) = _
  rw [BitVec.add_zero, OutPoints.sge_word]
  cases decide (s ≤ t) <;> rfl
theorem weights_apply (h : Fin 8) (t s : Fin 128) : val_main_v86 (F := Ideal) x7 (ix3 h t s) = if s ≤ t then x7 (ix3 h t s) else 0 := by
  pointwise [val_main_v86, val_main_call2_v0, val_main_v85, val_main_v84, val_main_cst_17, past_apply]

/-- A row of a group, and a column of a head. -/
def rowOf (n : Fin 32) (s : Fin 128) : Fin 4096 := ⟨128 * n.val + s.val, by omega⟩
def colOf (h : Fin 8) (d : Fin 64) : Fin 512 := ⟨64 * h.val + d.val, by omega⟩

theorem idx81 (n : Fin 32) (s : Fin 128) (h : Fin 8) (d : Fin 64) :
    idx_main_v81 (ix4 n s h d) = ix2 (rowOf n s) (colOf h d) := funext fun a => Fin.ext (by
  match a with
  | ⟨0, _⟩ => show (((n.val * 128 + s.val) * 8 + h.val) * 64 + d.val) / 512 = 128 * n.val + s.val; omega
  | ⟨1, _⟩ => show (((n.val * 128 + s.val) * 8 + h.val) * 64 + d.val) % 512 = 64 * h.val + d.val; omega)
theorem rows_apply (n : Fin 32) (s : Fin 128) (h : Fin 8) (d : Fin 64) :
    val_main_v81 (F := Ideal) x2 x5 x6 (ix4 n s h d) = values x2 x5 x6 (rowOf n s) (colOf h d) := by
  rw [val_main_v81_apply, idx81, values_apply]
theorem sums_apply (h : Fin 8) (n : Fin 32) (d : Fin 64) (t : Fin 128) : val_main_v87 (F := Ideal) x2 x5 x6 x7 (ix4 h n d t)
    = ∑ s : Fin 128, (if s ≤ t then x7 (ix3 h t s) else 0) * values x2 x5 x6 (rowOf n s) (colOf h d) := by
  refine (val_main_v87_apply x2 x5 x6 x7 _).trans (Finset.sum_congr rfl fun s _ => ?_)
  rw [show lidx_main_v87 (ix4 h n d t) s = ix4 n s h d from funext fun a => by fin_cases a <;> rfl,
    show ridx_main_v87 (ix4 h n d t) s = ix3 h t s from funext fun a => by fin_cases a <;> rfl, rows_apply, weights_apply]
  exact mul_comm (G := EReal) _ _
theorem added_apply (n : Fin 32) (t : Fin 128) (h : Fin 8) (d : Fin 64) :
    val_main_v91 (F := Ideal) x8 (ix4 n t h d) = turned x8 (ix2 t h) := by
  pointwise [val_main_v91, val_main_v90, val_main_v89, turned]
theorem mixed_apply (n : Fin 32) (t : Fin 128) (h : Fin 8) (d : Fin 64) : val_main_v92 (F := Ideal) x2 x5 x6 x7 x8 (ix4 n t h d)
    = (∑ s : Fin 128, (if s ≤ t then x7 (ix3 h t s) else 0) * values x2 x5 x6 (rowOf n s) (colOf h d)) + turned x8 (ix2 t h) := by
  rw [val_main_v92_apply, val_main_v88_apply, added_apply,
    show idx_main_v88 (ix4 n t h d) = ix4 h n d t from funext fun a => by fin_cases a <;> rfl, sums_apply]
  rfl
theorem idx93 : idx_main_v93 (ix2 r k) = ix4 (⟨r.val / 128, by omega⟩ : Fin 32) (spot r) (hd k) (⟨k.val % 64, by omega⟩ : Fin 64) :=
  funext fun a => Fin.ext (by
    match a with
    | ⟨0, _⟩ => show (r.val * 512 + k.val) / 65536 = r.val / 128; omega
    | ⟨1, _⟩ => show (r.val * 512 + k.val) / 512 % 128 = r.val % 128; omega
    | ⟨2, _⟩ => show (r.val * 512 + k.val) / 64 % 8 = k.val / 64; omega
    | ⟨3, _⟩ => show (r.val * 512 + k.val) % 64 = k.val % 64; omega)
theorem mix_apply : val_main_v93 (F := Ideal) x2 x5 x6 x7 x8 (ix2 r k) = mix x2 x5 x6 x7 (turned x8) r k := by
  have e : ∀ s, rowOf ⟨r.val / 128, by omega⟩ s = mate r s := fun s => rfl
  have f : colOf (hd k) ⟨k.val % 64, by omega⟩ = k := Fin.ext (by simp only [colOf, hd]; omega)
  rw [val_main_v93_apply, idx93, mixed_apply]
  simp only [e, f]; rfl

/-! ## The output -/

theorem left_apply : val_main_v95 (F := Ideal) x1 x2 x3 x4 x5 x6 x7 x8 (ix2 r (lo k)) = conv x1 x3 x4 r k := by
  refine Eq.trans (concatenate_pair_apply_left (t := S4096x1024) (s₁ := S4096x512) (s₂ := S4096x512) (1 : Fin 2) _ _
    _ _ rfl (ix2 r k) (fun b => by
      match b with
      | ⟨0, _⟩ => rfl
      | ⟨1, _⟩ => rfl)) (conv_apply x1 x3 x4 r k)
theorem right_apply : val_main_v95 (F := Ideal) x1 x2 x3 x4 x5 x6 x7 x8 (ix2 r (hi k))
    = gates x2 r k * mix x2 x5 x6 x7 (turned x8) r k := by
  refine Eq.trans (concatenate_pair_apply_right (t := S4096x1024) (s₁ := S4096x512) (s₂ := S4096x512) (1 : Fin 2) _ _
    _ _ rfl rfl (ix2 r k) (fun b hb => by
      match b with
      | ⟨0, _⟩ => rfl
      | ⟨1, _⟩ => exact absurd rfl hb) (by show k.val + 512 = 512 + k.val; omega)) ?_
  exact congrArg₂ (fun a b : EReal => a * b) (gates_apply x2 r k) (mix_apply x2 x5 x6 x7 x8 r k)

theorem halves (f : Fin 1024 → EReal) : ∑ n : Fin 1024, f n = (∑ k : Fin 512, f (lo k)) + ∑ k : Fin 512, f (hi k) :=
  Fin.sum_univ_add (a := 512) (b := 512) f

theorem output_apply : val_main_v97 (F := Ideal) x0 x1 x2 x3 x4 x5 x6 x7 x8 x9 (ix2 r j)
    = output x1 x2 x3 x4 x5 x6 x7 (turned x8) x0 x9 (ix2 r j) := by
  have e : val_main_v96 (F := Ideal) x1 x2 x3 x4 x5 x6 x7 x8 x9 (ix2 r j)
      = ∑ n : Fin 1024, val_main_v95 (F := Ideal) x1 x2 x3 x4 x5 x6 x7 x8 (ix2 r n) * x9 (ix2 n j) := by
    pointwise [val_main_v96]
  refine (congrArg (fun a : EReal => x0 (ix2 r j) + a) (e.trans (halves _))).trans ?_
  refine (add_assoc (G := EReal) _ _ _).symm.trans (congrArg₂ (fun a b : EReal => x0 (ix2 r j) + a + b)
    (Finset.sum_congr rfl fun k _ => ?_) (Finset.sum_congr rfl fun k _ => ?_))
  · rw [left_apply]; rfl
  · rw [right_apply]; rfl

end Cert.OutReference

namespace Cert.OutEquation

open Idealize.ShloMosaic Idealize.ShloMosaic.TcCoe Idealize.SL.Sem
open Cert.Kernel10Ideal Cert.Kernel10Ideal.Gen Cert.OutArrays
open Cert.Reference10Ideal.Read

variable (m : (ℓ : Loc nD τ sig) → Buf (Elt Ideal) ℓ) (c : Dev nD)

theorem h1_eq : (dats m 0 c).arrAt 10 cfg0.N = val_main_v97 (F := Ideal) (x m c) (cv m c) (z m c) (clg m c) (clb m c) (glg m c)
    (glb m c) (ws m c) (bs m c) (wout m c) := by
  rw [arr10, aX_eq, aC_eq, aZ_eq, acg_eq, acb_eq, agg_eq, agb_eq, aW_eq, aB_eq, aO_eq]
  funext y; rw [eq_ix2 y]
  exact (OutReference.output_apply ..).symm

end Cert.OutEquation

end
-- ==== Proof.OutBackSpec.lean ====
/- The gradient of the mixing block's output, row by row, as the kernel computes it; and the gradient of a norm as
   differentiation gives it, which is the kernel's. -/
module

public import proofs.«01_k».proof.Proof.OutSpec
public import proofs.«01_k».proof.Proof.FfnSpec

@[expose] public section

noncomputable section

namespace Cert.OutBack

open Idealize.ShloMosaic Cert.Algebra Cert.Spec Cert.Out

variable (x g b e d : HRow) (a t : EReal)

/-- The row without its mean, over its deviation. -/
def unit : HRow := fun k => centred x k * dev x
/-- The gradient through the activation. -/
def dsilu : EReal := t * (Ideal.logistic a * (1 + a * (1 - Ideal.logistic a)))
/-- The gradient of a norm's output before its weights, and of the norm's input. -/
def dnorm : HRow := fun k => dev x * ((e k - mean e) - unit x k * mean (fun k => e k * unit x k))
/-- The gradients of the activated norm's output and input. -/
def dact : HRow := fun k => dsilu (lnorm x g b k) (d k)
def dconv : HRow := dnorm x (fun k => dact x g b d k * g k)

/-- The gradient of row `s` of the rows that are mixed: it is seen by the rows of its group from itself on, and `W` has the
    mix's weights turned. -/
def dmixed (M : Fin 128 → HRow) (W : Mixer) (s : Fin 128) : HRow := fun k =>
  ∑ t : Fin 128, (if s ≤ t then W (ix3 (hd k) s t) else 0) * M t k

/-- The gradient of the norm's input, as differentiation gives it. -/
def dvar : EReal := (∑ k, centred x k * e k)
  * ((-(1 / 2 : ℝ) : ℝ) * Ideal.div (dev x) (Ideal.div (∑ k, centred x k * centred x k) ((512 : ℝ) : EReal) + lnEps))
def dsq : HRow := fun k => Ideal.div (dvar x e) ((512 : ℝ) : EReal) * (((2 : ℝ) : EReal) * centred x k)
def dinput : HRow := fun k => (e k * dev x + dsq x e k)
  + Ideal.div ((∑ k, -(e k * dev x)) + ∑ k, -dsq x e k) ((512 : ℝ) : EReal)

theorem eps_pos : ∃ ε : ℝ, 0 < ε ∧ lnEps = (ε : EReal) := by
  refine ⟨_, ?_, show Ideal.ofBits .f32 0x3727C5AC#32 = _ by simp [Ideal.ofBits, Ideal.ieee]; rfl⟩
  norm_num

theorem real_of_sub (x y : EReal) (h : Real' (x - y)) : Real' x ∧ Real' y := by
  obtain ⟨r, hr⟩ := h
  induction x <;> induction y <;> first
    | exact ⟨⟨_, rfl⟩, ⟨_, rfl⟩⟩
    | (exfalso; simp [sub_eq_add_neg] at hr; try exact absurd hr (by simp))

/-- A row with a square beyond the reals has the deviation's reciprocal zero. -/
theorem dev_zero (j : Fin 512) (h : ¬Real' (centred x j)) :
    Ideal.div (∑ k, centred x k * centred x k) ((512 : ℝ) : EReal) + lnEps = ⊤ ∧ dev x = 0 := by
  have hj : centred x j * centred x j = ⊤ := by
    rcases hc : centred x j with _ | _ | a
    · rfl
    · rfl
    · exact absurd ⟨a, hc⟩ h
  have hs : ∑ k, centred x k * centred x k = ⊤ :=
    top_le_iff.mp (hj ▸ Finset.single_le_sum (fun k _ => mul_self_nonneg' (centred x k)) (Finset.mem_univ j))
  obtain ⟨ε, _, hee⟩ := eps_pos
  have ht : Ideal.div (∑ k, centred x k * centred x k) ((512 : ℝ) : EReal) + lnEps = ⊤ := by
    rw [hs, Ideal.div_coe (by norm_num), hee, EReal.top_mul_of_pos (by exact_mod_cast (by norm_num : (0 : ℝ) < 1 / 512)), EReal.top_add_coe]
  exact ⟨ht, by rw [dev, ht, Ideal.rsqrt_top]⟩

theorem sum_coe (f : Fin 512 → ℝ) : (∑ k, (f k : EReal)) = ((∑ k, f k : ℝ) : EReal) :=
  (map_sum (⟨⟨Real.toEReal, EReal.coe_zero⟩, EReal.coe_add⟩ : ℝ →+ EReal) f Finset.univ).symm

theorem div_coe' (u v : ℝ) (h : v ≠ 0) : Ideal.div (u : EReal) (v : EReal) = ((u / v : ℝ) : EReal) := by
  rw [Ideal.div_coe h, ← EReal.coe_mul]; congr 1; field_simp

theorem dinput_eq (he : ∀ k, Real' (e k)) (k : Fin 512) : dinput x e k = dnorm x e k := by
  by_cases hx : ∀ k, Real' (centred x k)
  · choose X hX using fun k => (real_of_sub _ _ (hx k)).1
    choose f hf using he
    obtain ⟨ε, hε, hee⟩ := eps_pos
    have hm : mean x = (((∑ k, X k) / 512 : ℝ) : EReal) := by
      rw [mean, ← div_coe' _ _ (by norm_num), ← sum_coe]; simp only [hX]
    have ha : ∀ k, centred x k = ((X k - (∑ k, X k) / 512 : ℝ) : EReal) := fun k => by
      rw [centred, hX, hm, EReal.coe_sub]
    have h0 : ∑ k, (X k - (∑ k, X k) / 512) = 0 := by
      rw [Finset.sum_sub_distrib, Finset.sum_const, Finset.card_univ, Fintype.card_fin]; ring
    generalize hA : (fun k => X k - (∑ k, X k) / 512) = A at *
    have ha : ∀ k, centred x k = (A k : EReal) := fun k => by rw [ha k, ← hA]
    have h0 : ∑ k, A k = 0 := h0
    have hV : Ideal.div (∑ k, centred x k * centred x k) ((512 : ℝ) : EReal) + lnEps = (((∑ k, A k * A k) / 512 + ε : ℝ) : EReal) := by
      rw [hee, EReal.coe_add, ← div_coe' _ _ (by norm_num), ← sum_coe]; simp only [ha, EReal.coe_mul]
    have hv : 0 < (∑ k, A k * A k) / 512 + ε := by
      have : 0 ≤ ∑ k, A k * A k := Finset.sum_nonneg fun k _ => mul_self_nonneg (A k)
      positivity
    have hr : dev x = (((Real.sqrt ((∑ k, A k * A k) / 512 + ε))⁻¹ : ℝ) : EReal) := by
      rw [dev, hV, Ideal.rsqrt_coe, if_neg hv.not_gt, if_neg hv.ne']
    have hc : Ideal.div (dev x) (Ideal.div (∑ k, centred x k * centred x k) ((512 : ℝ) : EReal) + lnEps)
        = (((Real.sqrt ((∑ k, A k * A k) / 512 + ε))⁻¹ * ((Real.sqrt ((∑ k, A k * A k) / 512 + ε))⁻¹
          * (Real.sqrt ((∑ k, A k * A k) / 512 + ε))⁻¹) : ℝ) : EReal) := by
      rw [hr, hV, div_coe' _ _ hv.ne', ← mul_inv, Real.mul_self_sqrt hv.le, div_eq_mul_inv]
    generalize (Real.sqrt ((∑ k, A k * A k) / 512 + ε))⁻¹ = r at hr hc
    have hw : dvar x e = (((∑ k, A k * f k) * (-(1 / 2) * (r * (r * r))) : ℝ) : EReal) := by
      rw [dvar, hc, EReal.coe_mul (∑ k, A k * f k), EReal.coe_mul (-(1 / 2)), ← sum_coe]; simp only [ha, hf, EReal.coe_mul]
    have hq : ∀ k, dsq x e k = (((∑ k, A k * f k) * (-(1 / 2) * (r * (r * r))) / 512 * (2 * A k) : ℝ) : EReal) := fun k => by
      rw [dsq, hw, div_coe' _ _ (by norm_num), ha, EReal.coe_mul, EReal.coe_mul]
    have hu : ∀ k, unit x k = ((A k * r : ℝ) : EReal) := fun k => by rw [unit, ha, hr, EReal.coe_mul]
    have hl : dinput x e k = ((f k * r + (∑ k, A k * f k) * (-(1 / 2) * (r * (r * r))) / 512 * (2 * A k)
        + ((∑ k, -(f k * r)) + ∑ k, -((∑ k, A k * f k) * (-(1 / 2) * (r * (r * r))) / 512 * (2 * A k))) / 512 : ℝ) : EReal) := by
      rw [dinput, EReal.coe_add, ← div_coe' _ _ (by norm_num), EReal.coe_add, EReal.coe_add, ← sum_coe, ← sum_coe]
      simp only [hf, hr, hq, EReal.coe_mul, EReal.coe_neg]
    have hk : dnorm x e k = ((r * ((f k - (∑ k, f k) / 512) - A k * r * ((∑ k, f k * (A k * r)) / 512)) : ℝ) : EReal) := by
      rw [dnorm, mean, mean]
      simp only [hf, hu, hr, ← EReal.coe_mul]
      rw [sum_coe, sum_coe, div_coe' _ _ (by norm_num), div_coe' _ _ (by norm_num), ← EReal.coe_sub, ← EReal.coe_mul, ← EReal.coe_sub, ← EReal.coe_mul]
    rw [hl, hk]
    refine congrArg Real.toEReal ?_
    have e1 : ∑ k, -(f k * r) = -(r * ∑ k, f k) := by rw [Finset.sum_neg_distrib, ← Finset.sum_mul, mul_comm]
    have e2 : ∀ w : ℝ, ∑ k, -(w * (2 * A k)) = 0 := fun w => by
      rw [Finset.sum_neg_distrib, ← Finset.mul_sum, ← Finset.mul_sum, h0]; ring
    have e3 : ∑ k, f k * (A k * r) = (∑ k, A k * f k) * r := by
      rw [Finset.sum_mul]; exact Finset.sum_congr rfl fun k _ => by ring
    rw [e1, e2, e3]; ring
  · obtain ⟨j, hj⟩ := not_forall.mp hx
    obtain ⟨ht, hd⟩ := dev_zero x j hj
    have hz : ∀ k, dsq x e k = 0 := fun k => by
      rw [dsq, dvar, ht, hd, show Ideal.div 0 ⊤ = 0 by simp [Ideal.div], mul_zero, mul_zero, Ideal.div_coe (by norm_num), zero_mul, zero_mul]
    rw [dinput, dnorm, hd]
    simp only [hz, hd, mul_zero, zero_mul, neg_zero, Finset.sum_const_zero, add_zero]
    rw [Ideal.div_coe (by norm_num), zero_mul, add_zero]

/-- The gradient through the activation, as differentiation gives it. -/
theorem dsilu_eq (ht : Real' t) : t * Ideal.logistic a + a * t * (Ideal.logistic a * (1 - Ideal.logistic a)) = dsilu a t :=
  Ffn.dgate_eq a t ht

theorem dsilu_real (ht : Real' t) : Real' (dsilu a t) := by
  refine ht.mul ?_
  have h1 : (1 : EReal) - 1 = 0 := by rw [← EReal.coe_one, ← EReal.coe_sub, sub_self, EReal.coe_zero]
  induction a with
  | bot => exact ⟨0, by simp⟩
  | top => exact ⟨1, by simp [h1]⟩
  | coe a => rw [Ideal.logistic_coe, ← EReal.coe_one, ← EReal.coe_sub, ← EReal.coe_mul, ← EReal.coe_add, ← EReal.coe_mul]; exact ⟨_, rfl⟩

end Cert.OutBack

end
-- ==== Proof.OutBackPayloads.lean ====
/- What the operations of the gradient of the mixing block's output compute, read at an index. -/
module

public import proofs.«01_k».proof.Proof.OutBackSpec
public import proofs.«01_k».proof.Proof.OutPoints
public import proofs.«01_k».proof.Proof.Gen.Kernel11Ideal.Skeleton

@[expose] public section

set_option maxRecDepth 16384

noncomputable section

namespace Cert.OutBackPayloads

open Idealize.ShloMosaic Idealize.ShloMosaic.TcCoe
open Cert.Kernel11Ideal Cert.Kernel11Ideal.Gen Cert.Algebra Cert.Spec Cert.Out Cert.OutBack
open Cert.OutPoints (hrow row ofBits_512 sge_word slt_word rat grp place grp_rat place_rat tile tile_eq mixes wld bld wld_apply)

/-! ## The norms and the gates -/

variable (C ZU ZV : FVec Ideal S512x512 .f32) (g b : FVec Ideal S1x512 .f32) (D : FVec Ideal S512x1024 .f32)
  (O : FVec Ideal S1024x1024 .bf16) (i k : Fin 512) (u : Fin 1)

theorem cen_apply : k0_pay5 (F := Ideal) C (ix2 i k) = centred (hrow C i) k := by
  pointwise [k0_pay5, centred, mean, hrow, ofBits_512]
theorem dev_apply : k0_pay6 (F := Ideal) C (ix2 i u) = dev (hrow C i) := by
  pointwise [k0_pay6, cen_apply, dev, ofBits_512, lnEps]
theorem unit_apply : k0_pay7 (F := Ideal) C (ix2 i k) = unit (hrow C i) k := by
  pointwise [k0_pay7, cen_apply, dev_apply, unit]
theorem norm_apply : k0_pay8 (F := Ideal) C g b (ix2 i k) = lnorm (hrow C i) (hgain g) (hgain b) k := by
  pointwise [k0_pay8, unit_apply, unit, lnorm, hgain]
theorem gate_apply : k0_pay9 (F := Ideal) C g b (ix2 i k) = Ideal.logistic (lnorm (hrow C i) (hgain g) (hgain b) k) := by
  pointwise [k0_pay9, norm_apply]
theorem gelu_apply : k0_pay11 (F := Ideal) ZU (ix2 i k) = gelu (ZU (ix2 i k)) := by
  pointwise [k0_pay11, k0_pay10, gelu, geluC, geluK, MixPoints.half_apply]
theorem vcen_apply : k0_pay14 (F := Ideal) ZV (k0_pay12 ZV) (ix2 i k) = centred (fun k => gelu (ZV (ix2 i k))) k := by
  pointwise [k0_pay14, k0_pay13, k0_pay12, gelu, geluC, geluK, MixPoints.half_apply, centred, mean, ofBits_512]
theorem vdev_apply : k0_pay15 (F := Ideal) ZV (k0_pay12 ZV) (ix2 i u) = dev (fun k => gelu (ZV (ix2 i k))) := by
  pointwise [k0_pay15, vcen_apply, dev, ofBits_512, lnEps]
theorem vunit_apply : k0_pay16 (F := Ideal) ZV (k0_pay12 ZV) (ix2 i k) = unit (fun k => gelu (ZV (ix2 i k))) k := by
  pointwise [k0_pay16, vcen_apply, vdev_apply, unit]
theorem v_apply : k0_pay17 (F := Ideal) ZV (k0_pay12 ZV) g b (ix2 i k)
    = lnorm (fun k => gelu (ZV (ix2 i k))) (hgain g) (hgain b) k := by
  pointwise [k0_pay17, vunit_apply, unit, lnorm, hgain]

/-! ## The gradients of the two head groups -/

theorem dcat_apply (n : Fin 1024) : k0_pay52 (F := Ideal) D O (ix2 i n) = ∑ j : Fin 1024, D (ix2 i j) * O (ix2 n j) := by
  pointwise [k0_pay52, k0_pay51]
theorem dgm_apply : k0_pay53 (F := Ideal) D O (ix2 i k) = ∑ j : Fin 1024, D (ix2 i j) * O (ix2 (hi k) j) := by
  pointwise [k0_pay53, dcat_apply, hi]
/-- The gradient of a row of the convolution's group. -/
abbrev dlo (i : Fin 512) : HRow := fun k => ∑ j : Fin 1024, D (ix2 i j) * O (ix2 (lo k) j)
theorem dact_apply : k0_pay54 (F := Ideal) (k0_pay8 C g b) (k0_pay9 C g b) D O (ix2 i k)
    = dact (hrow C i) (hgain g) (hgain b) (dlo D O i) k := by
  pointwise [k0_pay54, dcat_apply, norm_apply, gate_apply, dact, dsilu, dlo, lo]
theorem dun_apply : k0_pay55 (F := Ideal) (k0_pay8 C g b) (k0_pay9 C g b) D O g (ix2 i k)
    = dact (hrow C i) (hgain g) (hgain b) (dlo D O i) k * hgain g k := by
  pointwise [k0_pay55, dact_apply, hgain]
theorem dconv_apply : k0_pay58 (F := Ideal) (k0_pay6 C) (k0_pay7 C) (k0_pay55 (k0_pay8 C g b) (k0_pay9 C g b) D O g)
    (k0_pay56 (k0_pay8 C g b) (k0_pay9 C g b) D O g) k0_pay57 (ix2 i k) = dconv (hrow C i) (hgain g) (hgain b) (dlo D O i) k := by
  pointwise [k0_pay58, k0_pay57, k0_pay56, dun_apply, unit_apply, dev_apply, dconv, dnorm, mean, ofBits_512]
theorem dgain_apply : k0_pay59 (F := Ideal) (k0_pay7 C) (k0_pay54 (k0_pay8 C g b) (k0_pay9 C g b) D O) (ix2 u k)
    = ∑ i : Fin 512, dact (hrow C i) (hgain g) (hgain b) (dlo D O i) k * unit (hrow C i) k := by
  pointwise [k0_pay59, dact_apply, unit_apply]
theorem dbias_apply : k0_pay60 (F := Ideal) (k0_pay54 (k0_pay8 C g b) (k0_pay9 C g b) D O) (ix2 u k)
    = ∑ i : Fin 512, dact (hrow C i) (hgain g) (hgain b) (dlo D O i) k := by
  pointwise [k0_pay60, dact_apply]
theorem dm_apply : k0_pay62 (F := Ideal) (k0_pay11 ZU) (k0_pay53 D O) (ix2 i k)
    = (∑ j : Fin 1024, D (ix2 i j) * O (ix2 (hi k) j)) * gelu (ZU (ix2 i k)) := by
  pointwise [k0_pay62, dgm_apply, gelu_apply]

/-! ## The output's weights -/

theorem left_apply (A : FVec Ideal S512x1024 .f32) (j : Fin 1024) :
    k0_pay66 (F := Ideal) (k0_pay8 C g b) (k0_pay9 C g b) (k0_pay51 D) A (ix2 k j)
      = A (ix2 k j) + ∑ i : Fin 512, silu (lnorm (hrow C i) (hgain g) (hgain b) k) * D (ix2 i j) := by
  pointwise [k0_pay66, k0_pay51, norm_apply, gate_apply, silu]
theorem right_apply (U Y : FVec Ideal S512x512 .f32) (A : FVec Ideal S512x1024 .f32) (j : Fin 1024) :
    k0_pay67 (F := Ideal) U Y (k0_pay51 D) A (ix2 k j) = A (ix2 k j) + ∑ i : Fin 512, (U (ix2 i k) * Y (ix2 i k)) * D (ix2 i j) := by
  pointwise [k0_pay67, k0_pay51]
theorem cast_apply (A : FVec Ideal S1024x1024 .f32) : k0_pay68 (F := Ideal) A = A := rfl
theorem zero_acc (r j : Fin 1024) : k0_pay65 (F := Ideal) (ix2 r j) = (0 : EReal) := by
  pointwise [k0_pay65]

/-! ## The masks -/

theorem sle_word (a b : Fin 128) : IntOp.cmpi .sle (BitVec.ofNat 32 a.val) (BitVec.ofNat 32 b.val) = BitVec.ofBool (decide (a ≤ b)) := by
  revert a b; decide +kernel
theorem past_apply (t s : Fin 128) : k0_pay18 (ix2 t s) = BitVec.ofBool (decide (s ≤ t)) := by
  refine Eq.trans ?_ (sge_word t s)
  pointwise [k0_pay18]
theorem first_apply (t l : Fin 128) : k0_pay19 (ix2 t l) = BitVec.ofBool (decide (l.val < 64)) := by
  refine Eq.trans ?_ (slt_word l)
  pointwise [k0_pay19]
theorem later_apply (s t : Fin 128) : k0_pay70 (ix2 s t) = BitVec.ofBool (decide (s ≤ t)) := by
  refine Eq.trans ?_ (sle_word s t)
  pointwise [k0_pay70]
theorem first_apply' (t l : Fin 128) : k0_pay71 (ix2 t l) = BitVec.ofBool (decide (l.val < 64)) := by
  refine Eq.trans ?_ (slt_word l)
  pointwise [k0_pay71]

/-! ## The sixteen mixes of a group in a pair of heads -/

section

variable (V : FVec Ideal S512x512 .bf16) (w0 w1 : FVec Ideal S1x128x128 .f32) (b0 b1 : FVec Ideal S128x1 .f32) (t l : Fin 128)

/-- Zero, as the mixes' masks have it. -/
abbrev z0 : Ideal .f32 := Scalar.ofBits .f32 0x00000000#32

theorem t00 : k0_pay24 (F := Ideal) V k0_pay18 k0_pay19 (k0_pay20 w0) z0 w1 b0 b1 (ix2 t l) = tile V w0 w1 b0 b1 0 0 t l := by
  pointwise [k0_pay20, k0_pay21, k0_pay22, k0_pay23, k0_pay24, past_apply, first_apply, tile, rat]
theorem t10 : k0_pay25 (F := Ideal) V k0_pay18 k0_pay19 (k0_pay20 w0) z0 w1 b0 b1 (ix2 t l) = tile V w0 w1 b0 b1 1 0 t l := by
  pointwise [k0_pay20, k0_pay21, k0_pay22, k0_pay23, k0_pay25, past_apply, first_apply, tile, rat]
theorem t20 : k0_pay27 (F := Ideal) (k0_pay26 V k0_pay18 k0_pay19 (k0_pay20 w0) z0 w1 b0 b1) (ix2 t l) = tile V w0 w1 b0 b1 2 0 t l := by
  pointwise [k0_pay20, k0_pay21, k0_pay22, k0_pay23, k0_pay26, k0_pay27, past_apply, first_apply, tile, rat]
theorem t30 : k0_pay28 (F := Ideal) V k0_pay19 (k0_pay21 k0_pay18 (k0_pay20 w0) z0) (k0_pay22 k0_pay18 w1) (k0_pay23 k0_pay19 b0 b1) (ix2 t l) = tile V w0 w1 b0 b1 3 0 t l := by
  pointwise [k0_pay20, k0_pay21, k0_pay22, k0_pay23, k0_pay28, past_apply, first_apply, tile, rat]
theorem t01 : k0_pay32 (F := Ideal) V k0_pay18 k0_pay19 w0 w1 b0 b1 (ix2 t l) = tile V w0 w1 b0 b1 0 1 t l := by
  pointwise [k0_pay29, k0_pay30, k0_pay31, k0_pay32, past_apply, first_apply, tile, rat]
theorem t11 : k0_pay33 (F := Ideal) V k0_pay19 (k0_pay29 k0_pay18 w0) (k0_pay30 k0_pay18 w1) (k0_pay31 k0_pay19 b0 b1) (ix2 t l) = tile V w0 w1 b0 b1 1 1 t l := by
  pointwise [k0_pay29, k0_pay30, k0_pay31, k0_pay33, past_apply, first_apply, tile, rat]
theorem t21 : k0_pay34 (F := Ideal) V k0_pay19 (k0_pay29 k0_pay18 w0) (k0_pay30 k0_pay18 w1) (k0_pay31 k0_pay19 b0 b1) (ix2 t l) = tile V w0 w1 b0 b1 2 1 t l := by
  pointwise [k0_pay29, k0_pay30, k0_pay31, k0_pay34, past_apply, first_apply, tile, rat]
theorem t31 : k0_pay35 (F := Ideal) V k0_pay19 (k0_pay29 k0_pay18 w0) (k0_pay30 k0_pay18 w1) (k0_pay31 k0_pay19 b0 b1) (ix2 t l) = tile V w0 w1 b0 b1 3 1 t l := by
  pointwise [k0_pay29, k0_pay30, k0_pay31, k0_pay35, past_apply, first_apply, tile, rat]
theorem t02 : k0_pay39 (F := Ideal) V k0_pay19 (k0_pay36 k0_pay18 w0) (k0_pay37 k0_pay18 w1) b0 b1 (ix2 t l) = tile V w0 w1 b0 b1 0 2 t l := by
  pointwise [k0_pay36, k0_pay37, k0_pay38, k0_pay39, past_apply, first_apply, tile, rat]
theorem t12 : k0_pay40 (F := Ideal) V k0_pay19 (k0_pay36 k0_pay18 w0) (k0_pay37 k0_pay18 w1) b0 b1 (ix2 t l) = tile V w0 w1 b0 b1 1 2 t l := by
  pointwise [k0_pay36, k0_pay37, k0_pay38, k0_pay40, past_apply, first_apply, tile, rat]
theorem t22 : k0_pay41 (F := Ideal) V k0_pay19 (k0_pay36 k0_pay18 w0) (k0_pay37 k0_pay18 w1) b0 b1 (ix2 t l) = tile V w0 w1 b0 b1 2 2 t l := by
  pointwise [k0_pay36, k0_pay37, k0_pay38, k0_pay41, past_apply, first_apply, tile, rat]
theorem t32 : k0_pay43 (F := Ideal) (k0_pay42 V k0_pay19 (k0_pay36 k0_pay18 w0) (k0_pay37 k0_pay18 w1) b0 b1) (ix2 t l) = tile V w0 w1 b0 b1 3 2 t l := by
  pointwise [k0_pay36, k0_pay37, k0_pay38, k0_pay42, k0_pay43, past_apply, first_apply, tile, rat]
theorem t03 : k0_pay47 (F := Ideal) V k0_pay18 k0_pay19 w0 w1 b0 b1 (ix2 t l) = tile V w0 w1 b0 b1 0 3 t l := by
  pointwise [k0_pay44, k0_pay45, k0_pay46, k0_pay47, past_apply, first_apply, tile, rat]
theorem t13 : k0_pay48 (F := Ideal) V k0_pay18 k0_pay19 w0 w1 b0 b1 (ix2 t l) = tile V w0 w1 b0 b1 1 3 t l := by
  pointwise [k0_pay44, k0_pay45, k0_pay46, k0_pay48, past_apply, first_apply, tile, rat]
theorem t23 : k0_pay49 (F := Ideal) V k0_pay19 (k0_pay44 k0_pay18 w0) (k0_pay45 k0_pay18 w1) (k0_pay46 k0_pay19 b0 b1) (ix2 t l) = tile V w0 w1 b0 b1 2 3 t l := by
  pointwise [k0_pay44, k0_pay45, k0_pay46, k0_pay49, past_apply, first_apply, tile, rat]
theorem t33 : k0_pay50 (F := Ideal) V k0_pay19 (k0_pay44 k0_pay18 w0) (k0_pay45 k0_pay18 w1) (k0_pay46 k0_pay19 b0 b1) (ix2 t l) = tile V w0 w1 b0 b1 3 3 t l := by
  pointwise [k0_pay44, k0_pay45, k0_pay46, k0_pay50, past_apply, first_apply, tile, rat]

end

/-! ## The gradient of the mixed rows -/

/-- A group's gradient in a pair of heads. -/
def vtile (M : FVec Ideal S512x512 .f32) (w0 w1 : FVec Ideal S1x128x128 .f32) (n p : Fin 4) (s l : Fin 128) : EReal :=
  if l.val < 64 then ∑ t : Fin 128, (if s ≤ t then w0 (ix3 0 s t) else 0) * M (ix2 (rat n t) (rat p l))
    else ∑ t : Fin 128, (if s ≤ t then w1 (ix3 0 s t) else 0) * M (ix2 (rat n t) (rat p l))
/-- The gradient of a block's mixed rows. -/
def dvs (M : FVec Ideal S512x512 .f32) (W : FVec Ideal S8x128x128 .f32) : FVec Ideal S512x512 .f32 :=
  fun y => dmixed (fun t k => M (ix2 (rat (grp (y 0)) t) k)) W (place (y 0)) (y 1)

variable (M : FVec Ideal S512x512 .f32) (W : FVec Ideal S8x128x128 .f32)

theorem vtile_eq (n p : Fin 4) (d d' : ℕ) (hd : d = 2 * p.val) (hd' : d' = 2 * p.val + 1) (inw inw') (s l : Fin 128) :
    vtile M (wld W d inw) (wld W d' inw') n p s l = dvs M W (ix2 (rat n s) (rat p l)) := by
  show _ = dmixed (fun t k => M (ix2 (rat (grp (rat n s)) t) k)) W (place (rat n s)) (rat p l)
  rw [grp_rat, place_rat, vtile, dmixed]
  by_cases h : l.val < 64
  · rw [if_pos h]
    refine Finset.sum_congr rfl fun t _ => ?_
    rw [wld_apply W d (Out.hd (rat p l)) (by simp only [Out.hd, rat]; omega)]
  · rw [if_neg h]
    refine Finset.sum_congr rfl fun t _ => ?_
    rw [wld_apply W d' (Out.hd (rat p l)) (by simp only [Out.hd, rat]; omega)]

section

variable (w0 w1 : FVec Ideal S1x128x128 .f32) (s l : Fin 128)

theorem d00 : k0_pay76 (F := Ideal) M k0_pay71 (k0_pay72 w0) (k0_pay73 w1) (ix2 s l) = vtile M w0 w1 0 0 s l := by
  pointwise [k0_pay72, k0_pay73, k0_pay74, k0_pay75, k0_pay76, later_apply, first_apply', vtile, rat]
theorem d10 : k0_pay84 (F := Ideal) M k0_pay71 (k0_pay72 w0) (k0_pay74 (k0_pay73 w1)) (ix2 s l) = vtile M w0 w1 1 0 s l := by
  pointwise [k0_pay72, k0_pay73, k0_pay74, k0_pay83, k0_pay84, later_apply, first_apply', vtile, rat]
theorem d20 : k0_pay94 (F := Ideal) k0_pay71 (k0_pay72 w0) (k0_pay74 (k0_pay73 w1)) (k0_pay93 M) (constant S128x128 .f32 0x00000000#32) (ix2 s l) = vtile M w0 w1 2 0 s l := by
  pointwise [k0_pay72, k0_pay73, k0_pay74, k0_pay92, k0_pay93, k0_pay94, later_apply, first_apply', vtile, rat]
theorem d30 : k0_pay104 (F := Ideal) M k0_pay71 (k0_pay72 w0) (k0_pay74 (k0_pay73 w1)) (ix2 s l) = vtile M w0 w1 3 0 s l := by
  pointwise [k0_pay72, k0_pay73, k0_pay74, k0_pay103, k0_pay104, later_apply, first_apply', vtile, rat]
theorem d01 : k0_pay117 (F := Ideal) M k0_pay70 k0_pay71 (k0_pay112 w0) k0_pay113 w1 (ix2 s l) = vtile M w0 w1 0 1 s l := by
  pointwise [k0_pay112, k0_pay113, k0_pay114, k0_pay115, k0_pay116, k0_pay117, later_apply, first_apply', vtile, rat]
theorem d11 : k0_pay126 (F := Ideal) M k0_pay71 (k0_pay114 k0_pay70 (k0_pay112 w0) k0_pay113) (k0_pay115 k0_pay70 w1) (ix2 s l) = vtile M w0 w1 1 1 s l := by
  pointwise [k0_pay112, k0_pay113, k0_pay114, k0_pay115, k0_pay125, k0_pay126, later_apply, first_apply', vtile, rat]
theorem d21 : k0_pay138 (F := Ideal) M k0_pay71 (k0_pay114 k0_pay70 (k0_pay112 w0) k0_pay113) (k0_pay115 k0_pay70 w1) (ix2 s l) = vtile M w0 w1 2 1 s l := by
  pointwise [k0_pay112, k0_pay113, k0_pay114, k0_pay115, k0_pay137, k0_pay138, later_apply, first_apply', vtile, rat]
theorem d31 : k0_pay147 (F := Ideal) M k0_pay71 (k0_pay114 k0_pay70 (k0_pay112 w0) k0_pay113) (k0_pay115 k0_pay70 w1) (ix2 s l) = vtile M w0 w1 3 1 s l := by
  pointwise [k0_pay112, k0_pay113, k0_pay114, k0_pay115, k0_pay146, k0_pay147, later_apply, first_apply', vtile, rat]
theorem d02 : k0_pay159 (F := Ideal) M k0_pay70 k0_pay71 w0 w1 (ix2 s l) = vtile M w0 w1 0 2 s l := by
  pointwise [k0_pay156, k0_pay157, k0_pay158, k0_pay159, later_apply, first_apply', vtile, rat]
theorem d12 : k0_pay168 (F := Ideal) (k0_pay167 M k0_pay71 (k0_pay156 k0_pay70 w0) (k0_pay157 k0_pay70 w1)) (ix2 s l) = vtile M w0 w1 1 2 s l := by
  pointwise [k0_pay156, k0_pay157, k0_pay166, k0_pay167, k0_pay168, later_apply, first_apply', vtile, rat]
theorem d22 : k0_pay178 (F := Ideal) M k0_pay71 (k0_pay156 k0_pay70 w0) (k0_pay157 k0_pay70 w1) (ix2 s l) = vtile M w0 w1 2 2 s l := by
  pointwise [k0_pay156, k0_pay157, k0_pay177, k0_pay178, later_apply, first_apply', vtile, rat]
theorem d32 : k0_pay188 (F := Ideal) M k0_pay71 (k0_pay156 k0_pay70 w0) (k0_pay157 k0_pay70 w1) (ix2 s l) = vtile M w0 w1 3 2 s l := by
  pointwise [k0_pay156, k0_pay157, k0_pay187, k0_pay188, later_apply, first_apply', vtile, rat]
theorem d03 : k0_pay201 (F := Ideal) M k0_pay70 k0_pay71 w0 w1 (ix2 s l) = vtile M w0 w1 0 3 s l := by
  pointwise [k0_pay198, k0_pay199, k0_pay200, k0_pay201, later_apply, first_apply', vtile, rat]
theorem d13 : k0_pay211 (F := Ideal) k0_pay71 (k0_pay198 k0_pay70 w0) (k0_pay199 k0_pay70 w1) (k0_pay210 M) (ix2 s l) = vtile M w0 w1 1 3 s l := by
  pointwise [k0_pay198, k0_pay199, k0_pay210, k0_pay211, later_apply, first_apply', vtile, rat]
theorem d23 : k0_pay220 (F := Ideal) M k0_pay71 (k0_pay198 k0_pay70 w0) (k0_pay199 k0_pay70 w1) (ix2 s l) = vtile M w0 w1 2 3 s l := by
  pointwise [k0_pay198, k0_pay199, k0_pay219, k0_pay220, later_apply, first_apply', vtile, rat]
theorem d33 : k0_pay231 (F := Ideal) k0_pay71 (k0_pay199 k0_pay70 w1) (k0_pay229 M) (k0_pay230 M (k0_pay198 k0_pay70 w0)) (constant S128x128 .f32 0x00000000#32) (ix2 s l) = vtile M w0 w1 3 3 s l := by
  pointwise [k0_pay198, k0_pay199, k0_pay228, k0_pay229, k0_pay230, k0_pay231, later_apply, first_apply', vtile, rat]

end

end Cert.OutBackPayloads

end
-- ==== Proof.OutBackPoints.lean ====
/- What one grid point of the gradient of the mixing block's output computes from its blocks of 512 rows, and the running
   sums of the gradients of the weights. -/
module

public import proofs.«01_k».proof.Proof.OutBackPayloads
public import proofs.«01_k».proof.Proof.Tiles
public import proofs.«01_k».proof.Proof.Gen.Kernel11Ideal.Value
public import Idealize.ShloMosaic.Lib.Pipeline.ReadBack

@[expose] public section

set_option maxRecDepth 16384

noncomputable section

namespace Cert.OutBackPoints

open Idealize.ShloMosaic Idealize.ShloMosaic.TcCoe Idealize.SL.Sem
open Cert.Kernel11Ideal Cert.Kernel11Ideal.Gen Cert.Algebra Cert.Spec Cert.Out Cert.OutBack Cert.OutBackPayloads
open Cert.OutPoints (hrow row rat grp place grp_rat place_rat tile tile_eq mixes wld bld zld zld_apply)

/-! ## The mixed rows and their gradient, stored in parts and read back -/

/-- Sixteen stores of 128 rows and 128 columns each, read back whole. -/
theorem scratch0_eq (G : FVec Ideal S512x512 .f32)
    (P00 P10 P20 P30 P01 P11 P21 P31 P02 P12 P22 P32 P03 P13 P23 P33 : FVec Ideal S128x128 .f32)
    (p00 : ∀ t l, P00 (ix2 t l) = G (ix2 (rat 0 t) (rat 0 l))) (p10 : ∀ t l, P10 (ix2 t l) = G (ix2 (rat 1 t) (rat 0 l)))
    (p20 : ∀ t l, P20 (ix2 t l) = G (ix2 (rat 2 t) (rat 0 l))) (p30 : ∀ t l, P30 (ix2 t l) = G (ix2 (rat 3 t) (rat 0 l)))
    (p01 : ∀ t l, P01 (ix2 t l) = G (ix2 (rat 0 t) (rat 1 l))) (p11 : ∀ t l, P11 (ix2 t l) = G (ix2 (rat 1 t) (rat 1 l)))
    (p21 : ∀ t l, P21 (ix2 t l) = G (ix2 (rat 2 t) (rat 1 l))) (p31 : ∀ t l, P31 (ix2 t l) = G (ix2 (rat 3 t) (rat 1 l)))
    (p02 : ∀ t l, P02 (ix2 t l) = G (ix2 (rat 0 t) (rat 2 l))) (p12 : ∀ t l, P12 (ix2 t l) = G (ix2 (rat 1 t) (rat 2 l)))
    (p22 : ∀ t l, P22 (ix2 t l) = G (ix2 (rat 2 t) (rat 2 l))) (p32 : ∀ t l, P32 (ix2 t l) = G (ix2 (rat 3 t) (rat 2 l)))
    (p03 : ∀ t l, P03 (ix2 t l) = G (ix2 (rat 0 t) (rat 3 l))) (p13 : ∀ t l, P13 (ix2 t l) = G (ix2 (rat 1 t) (rat 3 l)))
    (p23 : ∀ t l, P23 (ix2 t l) = G (ix2 (rat 2 t) (rat 3 l))) (p33 : ∀ t l, P33 (ix2 t l) = G (ix2 (rat 3 t) (rat 3 l))) :
    (View.whole cc0_scratch0).readCov (Val := Elt Ideal)
      [⟨Rect.unit ![384, 384] ![128, 128] inb_S512x512_S128x128_384_384, P33⟩,
       ⟨Rect.unit ![256, 384] ![128, 128] inb_S512x512_S128x128_256_384, P23⟩,
       ⟨Rect.unit ![128, 384] ![128, 128] inb_S512x512_S128x128_128_384, P13⟩,
       ⟨Rect.unit ![0, 384] ![128, 128] inb_S512x512_S128x128_0_384, P03⟩,
       ⟨Rect.unit ![384, 256] ![128, 128] inb_S512x512_S128x128_384_256, P32⟩,
       ⟨Rect.unit ![256, 256] ![128, 128] inb_S512x512_S128x128_256_256, P22⟩,
       ⟨Rect.unit ![128, 256] ![128, 128] inb_S512x512_S128x128_128_256, P12⟩,
       ⟨Rect.unit ![0, 256] ![128, 128] inb_S512x512_S128x128_0_256, P02⟩,
       ⟨Rect.unit ![384, 128] ![128, 128] inb_S512x512_S128x128_384_128, P31⟩,
       ⟨Rect.unit ![256, 128] ![128, 128] inb_S512x512_S128x128_256_128, P21⟩,
       ⟨Rect.unit ![128, 128] ![128, 128] inb_S512x512_S128x128_128_128, P11⟩,
       ⟨Rect.unit ![0, 128] ![128, 128] inb_S512x512_S128x128_0_128, P01⟩,
       ⟨Rect.unit ![384, 0] ![128, 128] inb_S512x512_S128x128_384_0, P30⟩,
       ⟨Rect.unit ![256, 0] ![128, 128] inb_S512x512_S128x128_256_0, P20⟩,
       ⟨Rect.unit ![128, 0] ![128, 128] inb_S512x512_S128x128_128_0, P10⟩,
       ⟨Rect.unit ![0, 0] ![128, 128] inb_S512x512_S128x128_0_0, P00⟩]
      (Rect.unit ![0, 0] ![512, 512] inb_S512x512_S512x512_0_0).toLoadRect = G := by
  rw [View.readCov_eq_canon']
  funext y
  have at_tile : ∀ (n p : Fin 4) (x : S128x128.Idx), (y 0 : Fin 512).val = (rat n (x 0)).val →
      (y 1 : Fin 512).val = (rat p (x 1)).val → G (ix2 (rat n (x 0)) (rat p (x 1))) = G y := fun n p x e0 e1 =>
    congrArg G (funext fun a => Fin.ext (by
      match a with
      | 0 => exact e0.symm
      | 1 => exact e1.symm))
  canon_tiles x h
  · rw [eq_ix2 x]; exact (p33 _ _).trans (at_tile 3 3 x (by simpa [rat] using h0) (by simpa [rat] using h1))
  · rw [eq_ix2 x]; exact (p23 _ _).trans (at_tile 2 3 x (by simpa [rat] using h0) (by simpa [rat] using h1))
  · rw [eq_ix2 x]; exact (p13 _ _).trans (at_tile 1 3 x (by simpa [rat] using h0) (by simpa [rat] using h1))
  · rw [eq_ix2 x]; exact (p03 _ _).trans (at_tile 0 3 x (by simpa [rat] using h0) (by simpa [rat] using h1))
  · rw [eq_ix2 x]; exact (p32 _ _).trans (at_tile 3 2 x (by simpa [rat] using h0) (by simpa [rat] using h1))
  · rw [eq_ix2 x]; exact (p22 _ _).trans (at_tile 2 2 x (by simpa [rat] using h0) (by simpa [rat] using h1))
  · rw [eq_ix2 x]; exact (p12 _ _).trans (at_tile 1 2 x (by simpa [rat] using h0) (by simpa [rat] using h1))
  · rw [eq_ix2 x]; exact (p02 _ _).trans (at_tile 0 2 x (by simpa [rat] using h0) (by simpa [rat] using h1))
  · rw [eq_ix2 x]; exact (p31 _ _).trans (at_tile 3 1 x (by simpa [rat] using h0) (by simpa [rat] using h1))
  · rw [eq_ix2 x]; exact (p21 _ _).trans (at_tile 2 1 x (by simpa [rat] using h0) (by simpa [rat] using h1))
  · rw [eq_ix2 x]; exact (p11 _ _).trans (at_tile 1 1 x (by simpa [rat] using h0) (by simpa [rat] using h1))
  · rw [eq_ix2 x]; exact (p01 _ _).trans (at_tile 0 1 x (by simpa [rat] using h0) (by simpa [rat] using h1))
  · rw [eq_ix2 x]; exact (p30 _ _).trans (at_tile 3 0 x (by simpa [rat] using h0) (by simpa [rat] using h1))
  · rw [eq_ix2 x]; exact (p20 _ _).trans (at_tile 2 0 x (by simpa [rat] using h0) (by simpa [rat] using h1))
  · rw [eq_ix2 x]; exact (p10 _ _).trans (at_tile 1 0 x (by simpa [rat] using h0) (by simpa [rat] using h1))
  · rw [eq_ix2 x]; exact (p00 _ _).trans (at_tile 0 0 x (by simpa [rat] using h0) (by simpa [rat] using h1))

/-- Sixteen stores of 128 rows and 128 columns each, read back whole. -/
theorem scratch1_eq (G : FVec Ideal S512x512 .f32)
    (P00 P10 P20 P30 P01 P11 P21 P31 P02 P12 P22 P32 P03 P13 P23 P33 : FVec Ideal S128x128 .f32)
    (p00 : ∀ t l, P00 (ix2 t l) = G (ix2 (rat 0 t) (rat 0 l))) (p10 : ∀ t l, P10 (ix2 t l) = G (ix2 (rat 1 t) (rat 0 l)))
    (p20 : ∀ t l, P20 (ix2 t l) = G (ix2 (rat 2 t) (rat 0 l))) (p30 : ∀ t l, P30 (ix2 t l) = G (ix2 (rat 3 t) (rat 0 l)))
    (p01 : ∀ t l, P01 (ix2 t l) = G (ix2 (rat 0 t) (rat 1 l))) (p11 : ∀ t l, P11 (ix2 t l) = G (ix2 (rat 1 t) (rat 1 l)))
    (p21 : ∀ t l, P21 (ix2 t l) = G (ix2 (rat 2 t) (rat 1 l))) (p31 : ∀ t l, P31 (ix2 t l) = G (ix2 (rat 3 t) (rat 1 l)))
    (p02 : ∀ t l, P02 (ix2 t l) = G (ix2 (rat 0 t) (rat 2 l))) (p12 : ∀ t l, P12 (ix2 t l) = G (ix2 (rat 1 t) (rat 2 l)))
    (p22 : ∀ t l, P22 (ix2 t l) = G (ix2 (rat 2 t) (rat 2 l))) (p32 : ∀ t l, P32 (ix2 t l) = G (ix2 (rat 3 t) (rat 2 l)))
    (p03 : ∀ t l, P03 (ix2 t l) = G (ix2 (rat 0 t) (rat 3 l))) (p13 : ∀ t l, P13 (ix2 t l) = G (ix2 (rat 1 t) (rat 3 l)))
    (p23 : ∀ t l, P23 (ix2 t l) = G (ix2 (rat 2 t) (rat 3 l))) (p33 : ∀ t l, P33 (ix2 t l) = G (ix2 (rat 3 t) (rat 3 l))) :
    (View.whole cc0_scratch1).readCov (Val := Elt Ideal)
      [⟨Rect.unit ![384, 384] ![128, 128] inb_S512x512_S128x128_384_384, P33⟩,
       ⟨Rect.unit ![256, 384] ![128, 128] inb_S512x512_S128x128_256_384, P23⟩,
       ⟨Rect.unit ![128, 384] ![128, 128] inb_S512x512_S128x128_128_384, P13⟩,
       ⟨Rect.unit ![0, 384] ![128, 128] inb_S512x512_S128x128_0_384, P03⟩,
       ⟨Rect.unit ![384, 256] ![128, 128] inb_S512x512_S128x128_384_256, P32⟩,
       ⟨Rect.unit ![256, 256] ![128, 128] inb_S512x512_S128x128_256_256, P22⟩,
       ⟨Rect.unit ![128, 256] ![128, 128] inb_S512x512_S128x128_128_256, P12⟩,
       ⟨Rect.unit ![0, 256] ![128, 128] inb_S512x512_S128x128_0_256, P02⟩,
       ⟨Rect.unit ![384, 128] ![128, 128] inb_S512x512_S128x128_384_128, P31⟩,
       ⟨Rect.unit ![256, 128] ![128, 128] inb_S512x512_S128x128_256_128, P21⟩,
       ⟨Rect.unit ![128, 128] ![128, 128] inb_S512x512_S128x128_128_128, P11⟩,
       ⟨Rect.unit ![0, 128] ![128, 128] inb_S512x512_S128x128_0_128, P01⟩,
       ⟨Rect.unit ![384, 0] ![128, 128] inb_S512x512_S128x128_384_0, P30⟩,
       ⟨Rect.unit ![256, 0] ![128, 128] inb_S512x512_S128x128_256_0, P20⟩,
       ⟨Rect.unit ![128, 0] ![128, 128] inb_S512x512_S128x128_128_0, P10⟩,
       ⟨Rect.unit ![0, 0] ![128, 128] inb_S512x512_S128x128_0_0, P00⟩]
      (Rect.unit ![0, 0] ![512, 512] inb_S512x512_S512x512_0_0).toLoadRect = G := by
  rw [View.readCov_eq_canon']
  funext y
  have at_tile : ∀ (n p : Fin 4) (x : S128x128.Idx), (y 0 : Fin 512).val = (rat n (x 0)).val →
      (y 1 : Fin 512).val = (rat p (x 1)).val → G (ix2 (rat n (x 0)) (rat p (x 1))) = G y := fun n p x e0 e1 =>
    congrArg G (funext fun a => Fin.ext (by
      match a with
      | 0 => exact e0.symm
      | 1 => exact e1.symm))
  canon_tiles x h
  · rw [eq_ix2 x]; exact (p33 _ _).trans (at_tile 3 3 x (by simpa [rat] using h0) (by simpa [rat] using h1))
  · rw [eq_ix2 x]; exact (p23 _ _).trans (at_tile 2 3 x (by simpa [rat] using h0) (by simpa [rat] using h1))
  · rw [eq_ix2 x]; exact (p13 _ _).trans (at_tile 1 3 x (by simpa [rat] using h0) (by simpa [rat] using h1))
  · rw [eq_ix2 x]; exact (p03 _ _).trans (at_tile 0 3 x (by simpa [rat] using h0) (by simpa [rat] using h1))
  · rw [eq_ix2 x]; exact (p32 _ _).trans (at_tile 3 2 x (by simpa [rat] using h0) (by simpa [rat] using h1))
  · rw [eq_ix2 x]; exact (p22 _ _).trans (at_tile 2 2 x (by simpa [rat] using h0) (by simpa [rat] using h1))
  · rw [eq_ix2 x]; exact (p12 _ _).trans (at_tile 1 2 x (by simpa [rat] using h0) (by simpa [rat] using h1))
  · rw [eq_ix2 x]; exact (p02 _ _).trans (at_tile 0 2 x (by simpa [rat] using h0) (by simpa [rat] using h1))
  · rw [eq_ix2 x]; exact (p31 _ _).trans (at_tile 3 1 x (by simpa [rat] using h0) (by simpa [rat] using h1))
  · rw [eq_ix2 x]; exact (p21 _ _).trans (at_tile 2 1 x (by simpa [rat] using h0) (by simpa [rat] using h1))
  · rw [eq_ix2 x]; exact (p11 _ _).trans (at_tile 1 1 x (by simpa [rat] using h0) (by simpa [rat] using h1))
  · rw [eq_ix2 x]; exact (p01 _ _).trans (at_tile 0 1 x (by simpa [rat] using h0) (by simpa [rat] using h1))
  · rw [eq_ix2 x]; exact (p30 _ _).trans (at_tile 3 0 x (by simpa [rat] using h0) (by simpa [rat] using h1))
  · rw [eq_ix2 x]; exact (p20 _ _).trans (at_tile 2 0 x (by simpa [rat] using h0) (by simpa [rat] using h1))
  · rw [eq_ix2 x]; exact (p10 _ _).trans (at_tile 1 0 x (by simpa [rat] using h0) (by simpa [rat] using h1))
  · rw [eq_ix2 x]; exact (p00 _ _).trans (at_tile 0 0 x (by simpa [rat] using h0) (by simpa [rat] using h1))

theorem mixed_eq (V : FVec Ideal S512x512 .bf16) (W : FVec Ideal S8x128x128 .f32) (B : FVec Ideal S128x8 .f32) :
    (View.whole cc0_scratch0).readCov (Val := Elt Ideal)
      [⟨Rect.unit ![384, 384] ![128, 128] inb_S512x512_S128x128_384_384,
          k0_pay50 V k0_pay19 (k0_pay44 k0_pay18 (wld W 6 inb_S8x128x128_S1x128x128_6_0_0)) (k0_pay45 k0_pay18 (wld W 7 inb_S8x128x128_S1x128x128_7_0_0)) (k0_pay46 k0_pay19 (bld B 6 inb_S128x8_S128x1_0_6) (bld B 7 inb_S128x8_S128x1_0_7))⟩,
       ⟨Rect.unit ![256, 384] ![128, 128] inb_S512x512_S128x128_256_384,
          k0_pay49 V k0_pay19 (k0_pay44 k0_pay18 (wld W 6 inb_S8x128x128_S1x128x128_6_0_0)) (k0_pay45 k0_pay18 (wld W 7 inb_S8x128x128_S1x128x128_7_0_0)) (k0_pay46 k0_pay19 (bld B 6 inb_S128x8_S128x1_0_6) (bld B 7 inb_S128x8_S128x1_0_7))⟩,
       ⟨Rect.unit ![128, 384] ![128, 128] inb_S512x512_S128x128_128_384,
          k0_pay48 V k0_pay18 k0_pay19 (wld W 6 inb_S8x128x128_S1x128x128_6_0_0) (wld W 7 inb_S8x128x128_S1x128x128_7_0_0) (bld B 6 inb_S128x8_S128x1_0_6) (bld B 7 inb_S128x8_S128x1_0_7)⟩,
       ⟨Rect.unit ![0, 384] ![128, 128] inb_S512x512_S128x128_0_384,
          k0_pay47 V k0_pay18 k0_pay19 (wld W 6 inb_S8x128x128_S1x128x128_6_0_0) (wld W 7 inb_S8x128x128_S1x128x128_7_0_0) (bld B 6 inb_S128x8_S128x1_0_6) (bld B 7 inb_S128x8_S128x1_0_7)⟩,
       ⟨Rect.unit ![384, 256] ![128, 128] inb_S512x512_S128x128_384_256,
          k0_pay43 (k0_pay42 V k0_pay19 (k0_pay36 k0_pay18 (wld W 4 inb_S8x128x128_S1x128x128_4_0_0)) (k0_pay37 k0_pay18 (wld W 5 inb_S8x128x128_S1x128x128_5_0_0)) (bld B 4 inb_S128x8_S128x1_0_4) (bld B 5 inb_S128x8_S128x1_0_5))⟩,
       ⟨Rect.unit ![256, 256] ![128, 128] inb_S512x512_S128x128_256_256,
          k0_pay41 V k0_pay19 (k0_pay36 k0_pay18 (wld W 4 inb_S8x128x128_S1x128x128_4_0_0)) (k0_pay37 k0_pay18 (wld W 5 inb_S8x128x128_S1x128x128_5_0_0)) (bld B 4 inb_S128x8_S128x1_0_4) (bld B 5 inb_S128x8_S128x1_0_5)⟩,
       ⟨Rect.unit ![128, 256] ![128, 128] inb_S512x512_S128x128_128_256,
          k0_pay40 V k0_pay19 (k0_pay36 k0_pay18 (wld W 4 inb_S8x128x128_S1x128x128_4_0_0)) (k0_pay37 k0_pay18 (wld W 5 inb_S8x128x128_S1x128x128_5_0_0)) (bld B 4 inb_S128x8_S128x1_0_4) (bld B 5 inb_S128x8_S128x1_0_5)⟩,
       ⟨Rect.unit ![0, 256] ![128, 128] inb_S512x512_S128x128_0_256,
          k0_pay39 V k0_pay19 (k0_pay36 k0_pay18 (wld W 4 inb_S8x128x128_S1x128x128_4_0_0)) (k0_pay37 k0_pay18 (wld W 5 inb_S8x128x128_S1x128x128_5_0_0)) (bld B 4 inb_S128x8_S128x1_0_4) (bld B 5 inb_S128x8_S128x1_0_5)⟩,
       ⟨Rect.unit ![384, 128] ![128, 128] inb_S512x512_S128x128_384_128,
          k0_pay35 V k0_pay19 (k0_pay29 k0_pay18 (wld W 2 inb_S8x128x128_S1x128x128_2_0_0)) (k0_pay30 k0_pay18 (wld W 3 inb_S8x128x128_S1x128x128_3_0_0)) (k0_pay31 k0_pay19 (bld B 2 inb_S128x8_S128x1_0_2) (bld B 3 inb_S128x8_S128x1_0_3))⟩,
       ⟨Rect.unit ![256, 128] ![128, 128] inb_S512x512_S128x128_256_128,
          k0_pay34 V k0_pay19 (k0_pay29 k0_pay18 (wld W 2 inb_S8x128x128_S1x128x128_2_0_0)) (k0_pay30 k0_pay18 (wld W 3 inb_S8x128x128_S1x128x128_3_0_0)) (k0_pay31 k0_pay19 (bld B 2 inb_S128x8_S128x1_0_2) (bld B 3 inb_S128x8_S128x1_0_3))⟩,
       ⟨Rect.unit ![128, 128] ![128, 128] inb_S512x512_S128x128_128_128,
          k0_pay33 V k0_pay19 (k0_pay29 k0_pay18 (wld W 2 inb_S8x128x128_S1x128x128_2_0_0)) (k0_pay30 k0_pay18 (wld W 3 inb_S8x128x128_S1x128x128_3_0_0)) (k0_pay31 k0_pay19 (bld B 2 inb_S128x8_S128x1_0_2) (bld B 3 inb_S128x8_S128x1_0_3))⟩,
       ⟨Rect.unit ![0, 128] ![128, 128] inb_S512x512_S128x128_0_128,
          k0_pay32 V k0_pay18 k0_pay19 (wld W 2 inb_S8x128x128_S1x128x128_2_0_0) (wld W 3 inb_S8x128x128_S1x128x128_3_0_0) (bld B 2 inb_S128x8_S128x1_0_2) (bld B 3 inb_S128x8_S128x1_0_3)⟩,
       ⟨Rect.unit ![384, 0] ![128, 128] inb_S512x512_S128x128_384_0,
          k0_pay28 V k0_pay19 (k0_pay21 k0_pay18 (k0_pay20 (wld W 0 inb_S8x128x128_S1x128x128_0_0_0)) z0) (k0_pay22 k0_pay18 (wld W 1 inb_S8x128x128_S1x128x128_1_0_0)) (k0_pay23 k0_pay19 (bld B 0 inb_S128x8_S128x1_0_0) (bld B 1 inb_S128x8_S128x1_0_1))⟩,
       ⟨Rect.unit ![256, 0] ![128, 128] inb_S512x512_S128x128_256_0,
          k0_pay27 (k0_pay26 V k0_pay18 k0_pay19 (k0_pay20 (wld W 0 inb_S8x128x128_S1x128x128_0_0_0)) z0 (wld W 1 inb_S8x128x128_S1x128x128_1_0_0) (bld B 0 inb_S128x8_S128x1_0_0) (bld B 1 inb_S128x8_S128x1_0_1))⟩,
       ⟨Rect.unit ![128, 0] ![128, 128] inb_S512x512_S128x128_128_0,
          k0_pay25 V k0_pay18 k0_pay19 (k0_pay20 (wld W 0 inb_S8x128x128_S1x128x128_0_0_0)) z0 (wld W 1 inb_S8x128x128_S1x128x128_1_0_0) (bld B 0 inb_S128x8_S128x1_0_0) (bld B 1 inb_S128x8_S128x1_0_1)⟩,
       ⟨Rect.unit ![0, 0] ![128, 128] inb_S512x512_S128x128_0_0,
          k0_pay24 V k0_pay18 k0_pay19 (k0_pay20 (wld W 0 inb_S8x128x128_S1x128x128_0_0_0)) z0 (wld W 1 inb_S8x128x128_S1x128x128_1_0_0) (bld B 0 inb_S128x8_S128x1_0_0) (bld B 1 inb_S128x8_S128x1_0_1)⟩]
      (Rect.unit ![0, 0] ![512, 512] inb_S512x512_S512x512_0_0).toLoadRect = mixes V W B := by
  apply scratch0_eq
  · exact fun u l => (t00 ..).trans (tile_eq _ _ _ 0 0 0 1 rfl rfl _ _ _ _ u l)
  · exact fun u l => (t10 ..).trans (tile_eq _ _ _ 1 0 0 1 rfl rfl _ _ _ _ u l)
  · exact fun u l => (t20 ..).trans (tile_eq _ _ _ 2 0 0 1 rfl rfl _ _ _ _ u l)
  · exact fun u l => (t30 ..).trans (tile_eq _ _ _ 3 0 0 1 rfl rfl _ _ _ _ u l)
  · exact fun u l => (t01 ..).trans (tile_eq _ _ _ 0 1 2 3 rfl rfl _ _ _ _ u l)
  · exact fun u l => (t11 ..).trans (tile_eq _ _ _ 1 1 2 3 rfl rfl _ _ _ _ u l)
  · exact fun u l => (t21 ..).trans (tile_eq _ _ _ 2 1 2 3 rfl rfl _ _ _ _ u l)
  · exact fun u l => (t31 ..).trans (tile_eq _ _ _ 3 1 2 3 rfl rfl _ _ _ _ u l)
  · exact fun u l => (t02 ..).trans (tile_eq _ _ _ 0 2 4 5 rfl rfl _ _ _ _ u l)
  · exact fun u l => (t12 ..).trans (tile_eq _ _ _ 1 2 4 5 rfl rfl _ _ _ _ u l)
  · exact fun u l => (t22 ..).trans (tile_eq _ _ _ 2 2 4 5 rfl rfl _ _ _ _ u l)
  · exact fun u l => (t32 ..).trans (tile_eq _ _ _ 3 2 4 5 rfl rfl _ _ _ _ u l)
  · exact fun u l => (t03 ..).trans (tile_eq _ _ _ 0 3 6 7 rfl rfl _ _ _ _ u l)
  · exact fun u l => (t13 ..).trans (tile_eq _ _ _ 1 3 6 7 rfl rfl _ _ _ _ u l)
  · exact fun u l => (t23 ..).trans (tile_eq _ _ _ 2 3 6 7 rfl rfl _ _ _ _ u l)
  · exact fun u l => (t33 ..).trans (tile_eq _ _ _ 3 3 6 7 rfl rfl _ _ _ _ u l)

theorem dv_eq (M : FVec Ideal S512x512 .f32) (W : FVec Ideal S8x128x128 .f32) :
    (View.whole cc0_scratch1).readCov (Val := Elt Ideal)
      [⟨Rect.unit ![384, 384] ![128, 128] inb_S512x512_S128x128_384_384,
          k0_pay231 k0_pay71 (k0_pay199 k0_pay70 (wld W 7 inb_S8x128x128_S1x128x128_7_0_0)) (k0_pay229 M) (k0_pay230 M (k0_pay198 k0_pay70 (wld W 6 inb_S8x128x128_S1x128x128_6_0_0))) (constant S128x128 .f32 0x00000000#32)⟩,
       ⟨Rect.unit ![256, 384] ![128, 128] inb_S512x512_S128x128_256_384,
          k0_pay220 M k0_pay71 (k0_pay198 k0_pay70 (wld W 6 inb_S8x128x128_S1x128x128_6_0_0)) (k0_pay199 k0_pay70 (wld W 7 inb_S8x128x128_S1x128x128_7_0_0))⟩,
       ⟨Rect.unit ![128, 384] ![128, 128] inb_S512x512_S128x128_128_384,
          k0_pay211 k0_pay71 (k0_pay198 k0_pay70 (wld W 6 inb_S8x128x128_S1x128x128_6_0_0)) (k0_pay199 k0_pay70 (wld W 7 inb_S8x128x128_S1x128x128_7_0_0)) (k0_pay210 M)⟩,
       ⟨Rect.unit ![0, 384] ![128, 128] inb_S512x512_S128x128_0_384,
          k0_pay201 M k0_pay70 k0_pay71 (wld W 6 inb_S8x128x128_S1x128x128_6_0_0) (wld W 7 inb_S8x128x128_S1x128x128_7_0_0)⟩,
       ⟨Rect.unit ![384, 256] ![128, 128] inb_S512x512_S128x128_384_256,
          k0_pay188 M k0_pay71 (k0_pay156 k0_pay70 (wld W 4 inb_S8x128x128_S1x128x128_4_0_0)) (k0_pay157 k0_pay70 (wld W 5 inb_S8x128x128_S1x128x128_5_0_0))⟩,
       ⟨Rect.unit ![256, 256] ![128, 128] inb_S512x512_S128x128_256_256,
          k0_pay178 M k0_pay71 (k0_pay156 k0_pay70 (wld W 4 inb_S8x128x128_S1x128x128_4_0_0)) (k0_pay157 k0_pay70 (wld W 5 inb_S8x128x128_S1x128x128_5_0_0))⟩,
       ⟨Rect.unit ![128, 256] ![128, 128] inb_S512x512_S128x128_128_256,
          k0_pay168 (k0_pay167 M k0_pay71 (k0_pay156 k0_pay70 (wld W 4 inb_S8x128x128_S1x128x128_4_0_0)) (k0_pay157 k0_pay70 (wld W 5 inb_S8x128x128_S1x128x128_5_0_0)))⟩,
       ⟨Rect.unit ![0, 256] ![128, 128] inb_S512x512_S128x128_0_256,
          k0_pay159 M k0_pay70 k0_pay71 (wld W 4 inb_S8x128x128_S1x128x128_4_0_0) (wld W 5 inb_S8x128x128_S1x128x128_5_0_0)⟩,
       ⟨Rect.unit ![384, 128] ![128, 128] inb_S512x512_S128x128_384_128,
          k0_pay147 M k0_pay71 (k0_pay114 k0_pay70 (k0_pay112 (wld W 2 inb_S8x128x128_S1x128x128_2_0_0)) k0_pay113) (k0_pay115 k0_pay70 (wld W 3 inb_S8x128x128_S1x128x128_3_0_0))⟩,
       ⟨Rect.unit ![256, 128] ![128, 128] inb_S512x512_S128x128_256_128,
          k0_pay138 M k0_pay71 (k0_pay114 k0_pay70 (k0_pay112 (wld W 2 inb_S8x128x128_S1x128x128_2_0_0)) k0_pay113) (k0_pay115 k0_pay70 (wld W 3 inb_S8x128x128_S1x128x128_3_0_0))⟩,
       ⟨Rect.unit ![128, 128] ![128, 128] inb_S512x512_S128x128_128_128,
          k0_pay126 M k0_pay71 (k0_pay114 k0_pay70 (k0_pay112 (wld W 2 inb_S8x128x128_S1x128x128_2_0_0)) k0_pay113) (k0_pay115 k0_pay70 (wld W 3 inb_S8x128x128_S1x128x128_3_0_0))⟩,
       ⟨Rect.unit ![0, 128] ![128, 128] inb_S512x512_S128x128_0_128,
          k0_pay117 M k0_pay70 k0_pay71 (k0_pay112 (wld W 2 inb_S8x128x128_S1x128x128_2_0_0)) k0_pay113 (wld W 3 inb_S8x128x128_S1x128x128_3_0_0)⟩,
       ⟨Rect.unit ![384, 0] ![128, 128] inb_S512x512_S128x128_384_0,
          k0_pay104 M k0_pay71 (k0_pay72 (wld W 0 inb_S8x128x128_S1x128x128_0_0_0)) (k0_pay74 (k0_pay73 (wld W 1 inb_S8x128x128_S1x128x128_1_0_0)))⟩,
       ⟨Rect.unit ![256, 0] ![128, 128] inb_S512x512_S128x128_256_0,
          k0_pay94 k0_pay71 (k0_pay72 (wld W 0 inb_S8x128x128_S1x128x128_0_0_0)) (k0_pay74 (k0_pay73 (wld W 1 inb_S8x128x128_S1x128x128_1_0_0))) (k0_pay93 M) (constant S128x128 .f32 0x00000000#32)⟩,
       ⟨Rect.unit ![128, 0] ![128, 128] inb_S512x512_S128x128_128_0,
          k0_pay84 M k0_pay71 (k0_pay72 (wld W 0 inb_S8x128x128_S1x128x128_0_0_0)) (k0_pay74 (k0_pay73 (wld W 1 inb_S8x128x128_S1x128x128_1_0_0)))⟩,
       ⟨Rect.unit ![0, 0] ![128, 128] inb_S512x512_S128x128_0_0,
          k0_pay76 M k0_pay71 (k0_pay72 (wld W 0 inb_S8x128x128_S1x128x128_0_0_0)) (k0_pay73 (wld W 1 inb_S8x128x128_S1x128x128_1_0_0))⟩]
      (Rect.unit ![0, 0] ![512, 512] inb_S512x512_S512x512_0_0).toLoadRect = dvs M W := by
  apply scratch1_eq
  · exact fun u l => (d00 ..).trans (vtile_eq _ _ 0 0 0 1 rfl rfl _ _ u l)
  · exact fun u l => (d10 ..).trans (vtile_eq _ _ 1 0 0 1 rfl rfl _ _ u l)
  · exact fun u l => (d20 ..).trans (vtile_eq _ _ 2 0 0 1 rfl rfl _ _ u l)
  · exact fun u l => (d30 ..).trans (vtile_eq _ _ 3 0 0 1 rfl rfl _ _ u l)
  · exact fun u l => (d01 ..).trans (vtile_eq _ _ 0 1 2 3 rfl rfl _ _ u l)
  · exact fun u l => (d11 ..).trans (vtile_eq _ _ 1 1 2 3 rfl rfl _ _ u l)
  · exact fun u l => (d21 ..).trans (vtile_eq _ _ 2 1 2 3 rfl rfl _ _ u l)
  · exact fun u l => (d31 ..).trans (vtile_eq _ _ 3 1 2 3 rfl rfl _ _ u l)
  · exact fun u l => (d02 ..).trans (vtile_eq _ _ 0 2 4 5 rfl rfl _ _ u l)
  · exact fun u l => (d12 ..).trans (vtile_eq _ _ 1 2 4 5 rfl rfl _ _ u l)
  · exact fun u l => (d22 ..).trans (vtile_eq _ _ 2 2 4 5 rfl rfl _ _ u l)
  · exact fun u l => (d32 ..).trans (vtile_eq _ _ 3 2 4 5 rfl rfl _ _ u l)
  · exact fun u l => (d03 ..).trans (vtile_eq _ _ 0 3 6 7 rfl rfl _ _ u l)
  · exact fun u l => (d13 ..).trans (vtile_eq _ _ 1 3 6 7 rfl rfl _ _ u l)
  · exact fun u l => (d23 ..).trans (vtile_eq _ _ 2 3 6 7 rfl rfl _ _ u l)
  · exact fun u l => (d33 ..).trans (vtile_eq _ _ 3 3 6 7 rfl rfl _ _ u l)

/-! ## The running sums' operations, read at an index -/

section

variable (E A : FVec Ideal S1x512 .f32) (U N : FVec Ideal S512x512 .f32) (u : Fin 1) (k : Fin 512)

theorem add249 : k0_pay249 (F := Ideal) E A (ix2 u k) = A (ix2 u k) + E (ix2 u k) := by pointwise [k0_pay249]
theorem add252 : k0_pay252 (F := Ideal) E (k0_pay251 A) (ix2 u k) = A (ix2 u k) + E (ix2 u k) := by pointwise [k0_pay252, k0_pay251]
theorem add254 : k0_pay254 (F := Ideal) E A (ix2 u k) = A (ix2 u k) + E (ix2 u k) := by pointwise [k0_pay254]
theorem add2 : k0_pay2 (F := Ideal) E A (ix2 u k) = A (ix2 u k) + E (ix2 u k) := by pointwise [k0_pay2]
theorem zero248 : k0_pay248 (F := Ideal) (ix2 u k) = (0 : EReal) := by pointwise [k0_pay248]
theorem zero250 : k0_pay250 (F := Ideal) (ix2 u k) = (0 : EReal) := by pointwise [k0_pay250]
theorem zero253 : k0_pay253 (F := Ideal) (ix2 u k) = (0 : EReal) := by pointwise [k0_pay253]
theorem zero1 : k0_pay1 (F := Ideal) (ix2 u k) = (0 : EReal) := by pointwise [k0_pay1]
theorem vgain_apply : k0_pay242 (F := Ideal) N U (ix2 u k) = ∑ i : Fin 512, U (ix2 i k) * N (ix2 i k) := by pointwise [k0_pay242]
theorem vbias_apply : k0_pay243 (F := Ideal) U (ix2 u k) = ∑ i : Fin 512, U (ix2 i k) := by pointwise [k0_pay243]

end

/-! ## A point's blocks, at their types -/

variable (m : (ℓ : Loc nD τ sig) → Buf (Elt Ideal) ℓ) (c : Dev nD) (t : Fin cfg0.N)

abbrev bD : FVec Ideal S512x1024 .f32 := iblk m c 0 t
abbrev bC : FVec Ideal S512x512 .f32 := iblk m c 1 t
abbrev bZ : FVec Ideal S512x1024 .f32 := iblk m c 2 t
abbrev bcg : FVec Ideal S1x512 .f32 := iblk m c 3 t
abbrev bcb : FVec Ideal S1x512 .f32 := iblk m c 4 t
abbrev bgg : FVec Ideal S1x512 .f32 := iblk m c 5 t
abbrev bgb : FVec Ideal S1x512 .f32 := iblk m c 6 t
abbrev bW : FVec Ideal S8x128x128 .f32 := iblk m c 7 t
abbrev bT : FVec Ideal S8x128x128 .f32 := iblk m c 8 t
abbrev bB : FVec Ideal S128x8 .f32 := iblk m c 9 t
abbrev bO : FVec Ideal S1024x1024 .bf16 := iblk m c 10 t
abbrev bzu : FVec Ideal S512x512 .f32 := zld (bZ m c t) 0 inb_S512x1024_S512x512_0_0
abbrev bzv : FVec Ideal S512x512 .f32 := zld (bZ m c t) 512 inb_S512x1024_S512x512_0_512

/-- A point's rows that are mixed, the mixed rows, their gradient, and the gradient of the rows that are mixed. -/
abbrev bV : FVec Ideal S512x512 .bf16 := k0_pay17 (F := Ideal) (bzv m c t) (k0_pay12 (bzv m c t)) (bgg m c t) (bgb m c t)
abbrev bY : FVec Ideal S512x512 .f32 := mixes (bV m c t) (bW m c t) (bB m c t)
abbrev bM : FVec Ideal S512x512 .f32 := k0_pay62 (F := Ideal) (k0_pay11 (bzu m c t)) (k0_pay53 (bD m c t) (bO m c t))
abbrev bE : FVec Ideal S512x512 .f32 := dvs (bM m c t) (bT m c t)

/-- The gradient of a row of the convolution's norm, before its weights. -/
def da (i : Fin 512) : HRow :=
  dact (hrow (bC m c t) i) (hgain (bcg m c t)) (hgain (bcb m c t)) (dlo (bD m c t) (bO m c t) i)
/-- A row of the two head groups' outputs, side by side. -/
def cat (i : Fin 512) : Row := fun n =>
  if h : n.val < 512 then silu (lnorm (hrow (bC m c t) i) (hgain (bcg m c t)) (hgain (bcb m c t)) ⟨n.val, h⟩)
    else gelu (bzu m c t (ix2 i ⟨n.val - 512, by omega⟩)) * bY m c t (ix2 i ⟨n.val - 512, by omega⟩)

theorem dc_point (i k : Fin 512) : (outsAt0 m c t.val t.isLt).2.1 (ix2 i k)
    = dconv (hrow (bC m c t) i) (hgain (bcg m c t)) (hgain (bcb m c t)) (dlo (bD m c t) (bO m c t) i) k := by
  by_cases h0 : t.val % 8 = 0
  · have h1 : ¬ t.val % 8 = 7 := by omega
    rw [outsAt0_A m c t h0 h1 h0 h0 h0 h0 h0]
    frame_out
    exact dconv_apply ..
  · by_cases h1 : t.val % 8 = 7
    · rw [outsAt0_C m c t h0 h1 h0 h0 h0 h0 h0]
      frame_out
      exact dconv_apply ..
    · rw [outsAt0_B m c t h0 h1 h0 h0 h0 h0 h0]
      frame_out
      exact dconv_apply ..

/-! ## The running sums

Each is zeroed at the first point, and every point adds its rows' share. -/

def dclgs (y : S1x512.Idx) : EReal := ∑ i : Fin 512, da m c t i (y 1) * unit (hrow (bC m c t) i) (y 1)
def dclbs (y : S1x512.Idx) : EReal := ∑ i : Fin 512, da m c t i (y 1)
def dglgs (y : S1x512.Idx) : EReal :=
  ∑ i : Fin 512, bE m c t (ix2 i (y 1)) * unit (fun k => gelu (bzv m c t (ix2 i k))) (y 1)
def dglbs (y : S1x512.Idx) : EReal := ∑ i : Fin 512, bE m c t (ix2 i (y 1))
def dwos (y : S1024x1024.Idx) : EReal := ∑ i : Fin 512, cat m c t i (y 0) * bD m c t (ix2 i (y 1))

theorem dclg_first (h0 : t.val % 8 = 0) (y : S1x512.Idx) : (outsAt0 m c t.val t.isLt).2.2.2.2.2.1 y
    = (0 : EReal) + dclgs m c t y := by
  obtain ⟨u, k, rfl⟩ : ∃ (u : Fin 1) (k : Fin 512), y = ix2 u k := ⟨y 0, y 1, eq_ix2 y⟩
  have h1 : ¬ t.val % 8 = 7 := by omega
  rw [outsAt0_A m c t h0 h1 h0 h0 h0 h0 h0]
  frame_out
  refine (add249 ..).trans ?_
  rw [zero248, dgain_apply]; rfl

theorem dclg_next (h0 : ¬t.val % 8 = 0) (y : S1x512.Idx) : (outsAt0 m c t.val t.isLt).2.2.2.2.2.1 y
    = (show EReal from (outsAt0 m c (t.val - 1) (Nat.lt_of_le_of_lt (Nat.sub_le _ _) t.isLt)).2.2.2.2.2.1 y) + dclgs m c t y := by
  obtain ⟨u, k, rfl⟩ : ∃ (u : Fin 1) (k : Fin 512), y = ix2 u k := ⟨y 0, y 1, eq_ix2 y⟩
  by_cases h1 : t.val % 8 = 7
  · rw [outsAt0_C m c t h0 h1 h0 h0 h0 h0 h0]
    frame_out
    refine (add249 ..).trans ?_
    rw [dgain_apply]; rfl
  · rw [outsAt0_B m c t h0 h1 h0 h0 h0 h0 h0]
    frame_out
    refine (add249 ..).trans ?_
    rw [dgain_apply]; rfl

theorem dclb_first (h0 : t.val % 8 = 0) (y : S1x512.Idx) : (outsAt0 m c t.val t.isLt).2.2.2.2.2.2.1 y
    = (0 : EReal) + dclbs m c t y := by
  obtain ⟨u, k, rfl⟩ : ∃ (u : Fin 1) (k : Fin 512), y = ix2 u k := ⟨y 0, y 1, eq_ix2 y⟩
  have h1 : ¬ t.val % 8 = 7 := by omega
  rw [outsAt0_A m c t h0 h1 h0 h0 h0 h0 h0]
  frame_out
  refine (add252 ..).trans ?_
  rw [zero250, dbias_apply]; rfl

theorem dclb_next (h0 : ¬t.val % 8 = 0) (y : S1x512.Idx) : (outsAt0 m c t.val t.isLt).2.2.2.2.2.2.1 y
    = (show EReal from (outsAt0 m c (t.val - 1) (Nat.lt_of_le_of_lt (Nat.sub_le _ _) t.isLt)).2.2.2.2.2.2.1 y) + dclbs m c t y := by
  obtain ⟨u, k, rfl⟩ : ∃ (u : Fin 1) (k : Fin 512), y = ix2 u k := ⟨y 0, y 1, eq_ix2 y⟩
  by_cases h1 : t.val % 8 = 7
  · rw [outsAt0_C m c t h0 h1 h0 h0 h0 h0 h0]
    frame_out
    refine (add252 ..).trans ?_
    rw [dbias_apply]; rfl
  · rw [outsAt0_B m c t h0 h1 h0 h0 h0 h0 h0]
    frame_out
    refine (add252 ..).trans ?_
    rw [dbias_apply]; rfl

theorem dglg_share (U : FVec Ideal S512x512 .f32) (hU : U = bE m c t) (u : Fin 1) (k : Fin 512) :
    k0_pay242 (F := Ideal) (k0_pay16 (bzv m c t) (k0_pay12 (bzv m c t))) U (ix2 u k) = dglgs m c t (ix2 u k) := by
  subst hU
  rw [vgain_apply]
  exact Finset.sum_congr rfl fun i _ => by rw [vunit_apply]; rfl

theorem dglb_share (U : FVec Ideal S512x512 .f32) (hU : U = bE m c t) (u : Fin 1) (k : Fin 512) :
    k0_pay243 (F := Ideal) U (ix2 u k) = dglbs m c t (ix2 u k) := by
  subst hU
  rw [vbias_apply]; rfl

theorem dglg_first (h0 : t.val % 8 = 0) (y : S1x512.Idx) : (outsAt0 m c t.val t.isLt).2.2.2.2.2.2.2.1 y
    = (0 : EReal) + dglgs m c t y := by
  obtain ⟨u, k, rfl⟩ : ∃ (u : Fin 1) (k : Fin 512), y = ix2 u k := ⟨y 0, y 1, eq_ix2 y⟩
  have h1 : ¬ t.val % 8 = 7 := by omega
  rw [outsAt0_A m c t h0 h1 h0 h0 h0 h0 h0]
  frame_out
  refine (add254 ..).trans ?_
  rw [zero253]
  exact congrArg (_ + ·) (dglg_share m c t _ (dv_eq (bM m c t) (bT m c t)) u k)

theorem dglg_next (h0 : ¬t.val % 8 = 0) (y : S1x512.Idx) : (outsAt0 m c t.val t.isLt).2.2.2.2.2.2.2.1 y
    = (show EReal from (outsAt0 m c (t.val - 1) (Nat.lt_of_le_of_lt (Nat.sub_le _ _) t.isLt)).2.2.2.2.2.2.2.1 y) + dglgs m c t y := by
  obtain ⟨u, k, rfl⟩ : ∃ (u : Fin 1) (k : Fin 512), y = ix2 u k := ⟨y 0, y 1, eq_ix2 y⟩
  by_cases h1 : t.val % 8 = 7
  · rw [outsAt0_C m c t h0 h1 h0 h0 h0 h0 h0]
    frame_out
    refine (add254 ..).trans ?_
    exact congrArg (_ + ·) (dglg_share m c t _ (dv_eq (bM m c t) (bT m c t)) u k)
  · rw [outsAt0_B m c t h0 h1 h0 h0 h0 h0 h0]
    frame_out
    refine (add254 ..).trans ?_
    exact congrArg (_ + ·) (dglg_share m c t _ (dv_eq (bM m c t) (bT m c t)) u k)

theorem dglb_first (h0 : t.val % 8 = 0) (y : S1x512.Idx) : (outsAt0 m c t.val t.isLt).2.2.2.2.2.2.2.2.1 y
    = (0 : EReal) + dglbs m c t y := by
  obtain ⟨u, k, rfl⟩ : ∃ (u : Fin 1) (k : Fin 512), y = ix2 u k := ⟨y 0, y 1, eq_ix2 y⟩
  have h1 : ¬ t.val % 8 = 7 := by omega
  rw [outsAt0_A m c t h0 h1 h0 h0 h0 h0 h0]
  frame_out
  refine (add2 ..).trans ?_
  rw [zero1]
  exact congrArg (_ + ·) (dglb_share m c t _ (dv_eq (bM m c t) (bT m c t)) u k)

theorem dglb_next (h0 : ¬t.val % 8 = 0) (y : S1x512.Idx) : (outsAt0 m c t.val t.isLt).2.2.2.2.2.2.2.2.1 y
    = (show EReal from (outsAt0 m c (t.val - 1) (Nat.lt_of_le_of_lt (Nat.sub_le _ _) t.isLt)).2.2.2.2.2.2.2.2.1 y) + dglbs m c t y := by
  obtain ⟨u, k, rfl⟩ : ∃ (u : Fin 1) (k : Fin 512), y = ix2 u k := ⟨y 0, y 1, eq_ix2 y⟩
  by_cases h1 : t.val % 8 = 7
  · rw [outsAt0_C m c t h0 h1 h0 h0 h0 h0 h0]
    frame_out
    refine (add2 ..).trans ?_
    exact congrArg (_ + ·) (dglb_share m c t _ (dv_eq (bM m c t) (bT m c t)) u k)
  · rw [outsAt0_B m c t h0 h1 h0 h0 h0 h0 h0]
    frame_out
    refine (add2 ..).trans ?_
    exact congrArg (_ + ·) (dglb_share m c t _ (dv_eq (bM m c t) (bT m c t)) u k)

/-! ## The output's weights -/

/-- The loads of half the rows of the running sum. -/
abbrev ald (A : Vec Ideal S1024x1024 .f32) (o : ℕ)
    (inb : ∀ a, (![o, 0] : Fin 2 → ℕ) a + (![512, 1024] : Fin 2 → ℕ) a ≤ S1024x1024.size a) : Vec Ideal S512x1024 .f32 :=
  View.ld (Val := Elt Ideal) A (Rect.unit (s := S1024x1024) ![o, 0] ![512, 1024] inb)
theorem ald_apply (A : Vec Ideal S1024x1024 .f32) (o : ℕ) (inb) (k : Fin 512) (j n : Fin 1024) (hn : n.val = o + k.val) :
    ald A o inb (ix2 k j) = A (ix2 n j) :=
  View.ld_unit_apply_of A _ _ _ _ _ fun a => by
    match a with
    | 0 => simpa using hn
    | 1 => simp

theorem cat_lo (i k : Fin 512) : cat m c t i (lo k)
    = silu (lnorm (hrow (bC m c t) i) (hgain (bcg m c t)) (hgain (bcb m c t)) k) := dif_pos k.isLt
theorem cat_hi (i k : Fin 512) : cat m c t i (hi k) = gelu (bzu m c t (ix2 i k)) * bY m c t (ix2 i k) := by
  have e : ∀ h : 512 + k.val - 512 < 512, (⟨512 + k.val - 512, h⟩ : Fin 512) = k := fun h => Fin.ext (Nat.add_sub_cancel_left 512 k.val)
  refine (dif_neg (by simp [hi])).trans ?_
  simp only [hi, e]

/-- The two stores of half the rows each, over a running sum `A` read before them and any earlier stores. -/
theorem canon_acc (L' : List (View.Piece (Elt Ideal) S1024x1024 .f32)) (A : Vec Ideal S1024x1024 .f32) (y : S1024x1024.Idx)
    (Y : FVec Ideal S512x512 .f32) (hY : Y = bY m c t) :
    View.canon
      (⟨Rect.unit ![512, 0] ![512, 1024] inb_S1024x1024_S512x1024_512_0,
          k0_pay67 (k0_pay11 (bzu m c t)) Y (k0_pay51 (bD m c t)) (ald A 512 inb_S1024x1024_S512x1024_512_0)⟩ ::
       ⟨Rect.unit ![0, 0] ![512, 1024] inb_S1024x1024_S512x1024_0_0,
          k0_pay66 (k0_pay8 (bC m c t) (bcg m c t) (bcb m c t)) (k0_pay9 (bC m c t) (bcg m c t) (bcb m c t)) (k0_pay51 (bD m c t))
            (ald A 0 inb_S1024x1024_S512x1024_0_0)⟩ :: L') y
      = (show EReal from A y) + dwos m c t y := by
  subst hY
  refine (Tiles.canon_append L' [_, _] y (View.cover_of_tiled_head _ _ _ (by rfl) y)).trans ?_
  have at_lo : ∀ x : S512x1024.Idx, (y 0 : Fin 1024).val = (x 0 : Fin 512).val → (y 1 : Fin 1024).val = (x 1 : Fin 1024).val →
      y = ix2 (lo (x 0)) (x 1) := fun x e0 e1 => (eq_ix2 y).trans ((ix2_inj ..).2 ⟨Fin.ext e0, Fin.ext e1⟩)
  have at_hi : ∀ x : S512x1024.Idx, (y 0 : Fin 1024).val = 512 + (x 0 : Fin 512).val → (y 1 : Fin 1024).val = (x 1 : Fin 1024).val →
      y = ix2 (hi (x 0)) (x 1) := fun x e0 e1 => (eq_ix2 y).trans ((ix2_inj ..).2 ⟨Fin.ext e0, Fin.ext e1⟩)
  canon_tiles x h
  · rw [at_hi x (by simpa using h0) (by simpa using h1)]
    obtain ⟨k, j, rfl⟩ : ∃ (k : Fin 512) (j : Fin 1024), x = ix2 k j := ⟨x 0, x 1, eq_ix2 x⟩
    refine (right_apply ..).trans (congrArg₂ (· + ·) (ald_apply _ _ _ _ _ _ rfl) (Finset.sum_congr rfl fun i _ => ?_))
    show _ = cat m c t i (hi k) * bD m c t (ix2 i j)
    rw [gelu_apply, cat_hi]
  · rw [at_lo x (by simpa using h0) (by simpa using h1)]
    obtain ⟨k, j, rfl⟩ : ∃ (k : Fin 512) (j : Fin 1024), x = ix2 k j := ⟨x 0, x 1, eq_ix2 x⟩
    refine (left_apply ..).trans (congrArg₂ (· + ·) (ald_apply _ _ _ _ _ _ (by simp [lo])) (Finset.sum_congr rfl fun i _ => ?_))
    show _ = cat m c t i (lo k) * bD m c t (ix2 i j)
    rw [cat_lo]

theorem acc_first (h0 : t.val % 8 = 0) (y : S1024x1024.Idx) : (outsAt0 m c t.val t.isLt).2.2.2.2.2.2.2.2.2.2 y
    = (0 : EReal) + dwos m c t y := by
  obtain ⟨n, j, rfl⟩ : ∃ (n j : Fin 1024), y = ix2 n j := ⟨y 0, y 1, eq_ix2 y⟩
  have h1 : ¬ t.val % 8 = 7 := by omega
  rw [outsAt0_A m c t h0 h1 h0 h0 h0 h0 h0]
  frame_open
  simp (disch := decide) only [↓View.readCov_skip, ↓View.readCov_fill]
  frame_out
  refine (canon_acc m c t _ _ _ _ (mixed_eq (bV m c t) (bW m c t) (bB m c t))).trans ?_
  show k0_pay65 (F := Ideal) (ix2 n j) + _ = _
  rw [zero_acc]

theorem acc_next (h0 : ¬t.val % 8 = 0) (y : S1024x1024.Idx) : (outsAt0 m c t.val t.isLt).2.2.2.2.2.2.2.2.2.2 y
    = (show EReal from (outsAt0 m c (t.val - 1) (Nat.lt_of_le_of_lt (Nat.sub_le _ _) t.isLt)).2.2.2.2.2.2.2.2.2.2 y) + dwos m c t y := by
  by_cases h1 : t.val % 8 = 7
  · rw [outsAt0_C m c t h0 h1 h0 h0 h0 h0 h0]
    frame_out
    rw [read_unread_whole]
    exact canon_acc m c t [] _ y _ (mixed_eq (bV m c t) (bW m c t) (bB m c t))
  · rw [outsAt0_B m c t h0 h1 h0 h0 h0 h0 h0]
    frame_out
    rw [read_unread_whole]
    exact canon_acc m c t [] _ y _ (mixed_eq (bV m c t) (bW m c t) (bB m c t))

/-- A load of all the rows of the running sum. -/
theorem whole_apply (L : List (View.Piece (Elt Ideal) S1024x1024 .f32)) (y : S1024x1024.Idx) :
    (View.whole cc0_scratch2).readCov (Val := Elt Ideal) L (Rect.unit (s := S1024x1024) ![0, 0] ![1024, 1024] inb_S1024x1024_S1024x1024_0_0).toLoadRect y
      = View.canon L y := by
  rw [View.readCov_eq_canon']
  exact congrArg (View.canon L) (funext fun a => Fin.ext (by
    match a with
    | ⟨0, _⟩ => show 0 + 1 * (y 0).val = (y 0).val; omega
    | ⟨1, _⟩ => show 0 + 1 * (y 1).val = (y 1).val; omega))

/-- The last point also stores the sum of the output's weights' gradient. -/
theorem dwo_last (h1 : t.val % 8 = 7) (y : S1024x1024.Idx) :
    (outsAt0 m c t.val t.isLt).1 y = (outsAt0 m c t.val t.isLt).2.2.2.2.2.2.2.2.2.2 y := by
  have h0 : ¬ t.val % 8 = 0 := by omega
  refine Eq.trans ?_ (acc_next m c t h0 y).symm
  rw [outsAt0_C m c t h0 h1 h0 h0 h0 h0 h0]
  frame_out
  rw [read_unread_whole, cast_apply, whole_apply]
  exact canon_acc m c t [] _ y _ (mixed_eq (bV m c t) (bW m c t) (bB m c t))

end Cert.OutBackPoints

end
-- ==== Proof.OutBackGradients.lean ====
/- The gradients of the mixing block's output, over the whole sequence. -/
module

public import proofs.«01_k».proof.Proof.OutBackSpec
public import proofs.«01_k».proof.Proof.OutArrays

@[expose] public section

set_option maxRecDepth 16384

noncomputable section

namespace Cert.OutBackArrays

open Idealize.ShloMosaic
open Cert.Algebra Cert.Spec Cert.Step Cert.Out Cert.OutBack
open Cert.OutArrays (HSeq ZSeq zu zv mate spot conv gates values mix zcol turned)

/-! ## The gradients of the whole sequence -/

/-- The mix's weights, each head's turned. -/
def turned3 (W : Mixer) : Mixer := fun y => W (ix3 (y 0) (y 2) (y 1))

section

variable (DH : Seq) (C : HSeq) (Z : ZSeq) (cg cb gg gb : HGain) (W T : Mixer) (B : Added) (WO : Mat) (r : Fin 4096)

/-- The gradients of the two head groups' outputs. -/
def dleft : HRow := fun k => ∑ j : Fin 1024, DH (ix2 r j) * WO (ix2 (lo k) j)
def dright : HRow := fun k => ∑ j : Fin 1024, DH (ix2 r j) * WO (ix2 (hi k) j)
/-- A row of the convolution's output, and the gradient of its norm. -/
def crow : HRow := fun k => C (ix2 r k)
def dcl : HRow := dact (crow C r) (hgain cg) (hgain cb) (dleft DH WO r)
/-- A row before the norm of the rows that are mixed; the gradients of the mixed row and of the row that is mixed. -/
def zrow : HRow := fun k => gelu (Z (ix2 r (zv k)))
def dmix : HRow := fun k => dright DH WO r k * gates Z r k
def dval : HRow := dmixed (fun t => dmix DH Z WO (mate r t)) T (spot r)
/-- The two head groups' outputs, side by side. -/
def heads : Row := fun n => if h : n.val < 512 then conv C cg cb r ⟨n.val, h⟩
  else gates Z r ⟨n.val - 512, by omega⟩ * mix Z gg gb W B r ⟨n.val - 512, by omega⟩

def dc (y : (⟨2, ![4096, 512]⟩ : Shape).Idx) : EReal :=
  dconv (crow C (y 0)) (hgain cg) (hgain cb) (dleft DH WO (y 0)) (y 1)
def dclg (y : (⟨2, ![1, 512]⟩ : Shape).Idx) : EReal := ∑ r : Fin 4096, dcl DH C cg cb WO r (y 1) * unit (crow C r) (y 1)
def dclb (y : (⟨2, ![1, 512]⟩ : Shape).Idx) : EReal := ∑ r : Fin 4096, dcl DH C cg cb WO r (y 1)
def dglg (y : (⟨2, ![1, 512]⟩ : Shape).Idx) : EReal := ∑ r : Fin 4096, dval DH Z T WO r (y 1) * unit (zrow Z r) (y 1)
def dglb (y : (⟨2, ![1, 512]⟩ : Shape).Idx) : EReal := ∑ r : Fin 4096, dval DH Z T WO r (y 1)
def dwo (y : (⟨2, ![1024, 1024]⟩ : Shape).Idx) : EReal := ∑ r : Fin 4096, heads C Z cg cb gg gb W B r (y 0) * DH (ix2 r (y 1))

end

end Cert.OutBackArrays

end
-- ==== Proof.OutBackArrays.lean ====
/- What the output arrays of the gradient of the mixing block's output hold at the end, from what its input arrays hold when
   it starts, and what those hold. -/
module

public import proofs.«01_k».proof.Proof.OutBackPoints
public import proofs.«01_k».proof.Proof.OutBackGradients

@[expose] public section

set_option maxRecDepth 16384

noncomputable section

namespace Cert.OutBackArrays

open Idealize.ShloMosaic Idealize.ShloMosaic.TcCoe Idealize.SL.Sem
open Idealize.ShloMosaic.Pipeline (Dat)
open Cert.Kernel11Ideal Cert.Kernel11Ideal.Gen Cert.Algebra Cert.Spec Cert.Step Cert.Out Cert.OutBack Cert.OutBackPoints
open Cert.OutPoints (hrow row rat grp place grp_rat place_rat zld zld_apply mixes)
open Cert.OutBackPayloads (dlo dvs dm_apply v_apply)
open Cert.OutArrays (HSeq ZSeq zu zv mate spot conv gates values mix zcol turned)

variable (m : (ℓ : Loc nD τ sig) → Buf (Elt Ideal) ℓ) (c : Dev nD) (t : Fin cfg0.N)

/-! ## The input arrays when the kernel starts -/

abbrev aD : Seq := V m c main_arg1
abbrev aC : HSeq := V m c main_arg2
abbrev aZ : ZSeq := V m c main_arg3
abbrev acg : HGain := V m c main_arg4
abbrev acb : HGain := V m c main_arg5
abbrev agg : HGain := V m c main_arg6
abbrev agb : HGain := V m c main_arg7
abbrev aW : Mixer := V m c main_arg8
abbrev aT : Mixer := V m c main_v0
abbrev aB : Added := V m c main_v1
abbrev aO : Mat := V m c main_v2

/-! ## Where the blocks lie -/

theorem idx : ∀ t : Fin cfg0.N, win0_0.index t = ![t.val, 0] ∧ win0_1.index t = ![t.val, 0] ∧ win0_2.index t = ![t.val, 1]
    ∧ win0_3.index t = ![0, 0] ∧ win0_4.index t = ![0, 0] ∧ win0_5.index t = ![0, 0] ∧ win0_6.index t = ![0, 0]
    ∧ win0_7.index t = ![0, 0, 0] ∧ win0_8.index t = ![0, 0, 0] ∧ win0_9.index t = ![0, 0] ∧ win0_10.index t = ![0, 0]
    ∧ win0_12.index t = ![t.val, 0] :=
  (by decide +kernel : ∀ t : Fin grid0.N, _)

theorem lt8 (t : Fin cfg0.N) : t.val < 8 := Nat.lt_of_lt_of_eq t.isLt N_0

/-- Row `i` of point `t`'s blocks is this row of the arrays. -/
def at' (t : Fin cfg0.N) (i : Fin 512) : Fin 4096 := ⟨t.val * 512 + i.val, by have := lt8 t; omega⟩
theorem mate_at (i : Fin 512) (s : Fin 128) : at' t (rat (grp i) s) = mate (at' t i) s :=
  Fin.ext (by simp only [at', rat, grp, mate]; omega)
theorem spot_at (i : Fin 512) : spot (at' t i) = place i := Fin.ext (by simp only [at', spot, place]; omega)

variable (i k : Fin 512) (j : Fin 1024)

theorem D_at : bD m c t (ix2 i j) = aD m c (ix2 (at' t i) j) := by
  blk_point [iblk, V, idx t]; rfl
theorem C_at : bC m c t (ix2 i k) = aC m c (ix2 (at' t i) k) := by
  blk_point [iblk, V, idx t]; rfl
theorem Z_at : bZ m c t (ix2 i j) = aZ m c (ix2 (at' t i) (zcol j)) := by
  blk_point [iblk, V, idx t, zcol]; rfl
theorem cg_eq : bcg m c t = acg m c := by
  funext y; rw [eq_ix2 y]; blk_point [iblk, V, idx t]
theorem cb_eq : bcb m c t = acb m c := by
  funext y; rw [eq_ix2 y]; blk_point [iblk, V, idx t]
theorem gg_eq : bgg m c t = agg m c := by
  funext y; rw [eq_ix2 y]; blk_point [iblk, V, idx t]
theorem gb_eq : bgb m c t = agb m c := by
  funext y; rw [eq_ix2 y]; blk_point [iblk, V, idx t]
theorem W_eq : bW m c t = aW m c := by
  funext y; rw [eq_ix3 y]; blk_point [iblk, V, idx t]
theorem T_eq : bT m c t = aT m c := by
  funext y; rw [eq_ix3 y]; blk_point [iblk, V, idx t]
theorem B_eq : bB m c t = aB m c := by
  funext y; rw [eq_ix2 y]; blk_point [iblk, V, idx t]
theorem O_eq : bO m c t = aO m c := by
  funext y; rw [eq_ix2 y]; blk_point [iblk, V, idx t]

theorem zu_at : bzu m c t (ix2 i k) = aZ m c (ix2 (at' t i) (zu k)) :=
  (zld_apply _ 0 _ i k (lo k) (by simp [lo])).trans (Z_at ..)
theorem zv_at : bzv m c t (ix2 i k) = aZ m c (ix2 (at' t i) (zv k)) :=
  (zld_apply _ 512 _ i k (hi k) rfl).trans ((Z_at ..).trans
    (congrArg (fun n => aZ m c (ix2 (at' t i) n)) (Fin.ext (by simp only [zcol, hi, zv]; omega))))

/-! ## A point's rows -/

theorem C_row : hrow (bC m c t) i = crow (aC m c) (at' t i) := funext fun k => C_at m c t i k
theorem zv_row : (fun k => gelu (bzv m c t (ix2 i k))) = zrow (aZ m c) (at' t i) := funext fun k => congrArg gelu (zv_at m c t i k)
theorem dlo_row : dlo (bD m c t) (bO m c t) i = dleft (aD m c) (aO m c) (at' t i) :=
  funext fun k => Finset.sum_congr rfl fun j _ => by rw [D_at, O_eq]
theorem da_row : da m c t i = dcl (aD m c) (aC m c) (acg m c) (acb m c) (aO m c) (at' t i) := by
  rw [da, C_row, cg_eq, cb_eq, dlo_row]; rfl
theorem M_at : bM m c t (ix2 i k) = dmix (aD m c) (aZ m c) (aO m c) (at' t i) k := by
  rw [bM, dm_apply, zu_at, O_eq]
  exact congrArg (· * _) (Finset.sum_congr rfl fun j _ => by rw [D_at])
theorem E_at : bE m c t (ix2 i k) = dval (aD m c) (aZ m c) (aT m c) (aO m c) (at' t i) k := by
  show dmixed (fun s k => bM m c t (ix2 (rat (grp i) s) k)) (bT m c t) (place i) k = _
  rw [T_eq, dval, spot_at]
  refine congrArg (fun M => dmixed M _ _ k) (funext fun s => funext fun k => ?_)
  rw [M_at, mate_at]
theorem Y_at : bY m c t (ix2 i k) = mix (aZ m c) (agg m c) (agb m c) (aW m c) (aB m c) (at' t i) k := by
  show mixed (fun s k => bV m c t (ix2 (rat (grp i) s) k)) (bW m c t) (bB m c t) (place i) k = _
  rw [W_eq, B_eq, mix, spot_at]
  refine congrArg (fun V => mixed V _ _ _ k) (funext fun s => funext fun k => ?_)
  rw [bV, v_apply, zv_row, gg_eq, gb_eq, mate_at]; rfl
theorem cat_row : cat m c t i = heads (aC m c) (aZ m c) (acg m c) (acb m c) (agg m c) (agb m c) (aW m c) (aB m c) (at' t i) := by
  funext n
  unfold cat heads
  by_cases h : n.val < 512
  · rw [dif_pos h, dif_pos h, C_row, cg_eq, cb_eq]; rfl
  · rw [dif_neg h, dif_neg h, zu_at, Y_at]; rfl

theorem dc_at : (outsAt0 m c t.val t.isLt).2.1 (ix2 i k)
    = dc (aD m c) (aC m c) (acg m c) (acb m c) (aO m c) (ix2 (at' t i) k) := by
  rw [dc_point, C_row, cg_eq, cb_eq, dlo_row]; rfl

/-- The points' rows are all the rows. -/
theorem sum_rows (f : Fin 4096 → EReal) : ∑ t : Fin cfg0.N, ∑ i : Fin 512, f (at' t i) = ∑ s : Fin 4096, f s :=
  (Fin.sum_univ_tiles cfg0.N 512 (by rw [show cfg0.N = 8 from N_0]) f).symm

/-! ## The running sums at the end -/

/-- The last point. -/
def tlast : Fin cfg0.N := ⟨7, by rw [show cfg0.N = 8 from N_0]; decide⟩
theorem tlast_succ : tlast.val + 1 = cfg0.N := (N_0 : cfg0.N = 8).symm

theorem dclg_sum (y : S1x512.Idx) : (outsAt0 m c tlast.val tlast.isLt).2.2.2.2.2.1 y
    = dclg (aD m c) (aC m c) (acg m c) (acb m c) (aO m c) y := by
  refine (Pipeline.eq_sum_fin_of_reset_step_apply_last (M := EReal) (fun n hn y => (outsAt0 m c n hn).2.2.2.2.2.1 y) 8 (fun _ => 0)
    (dclgs m c) (fun t h => dclg_first m c t h) (fun t h => dclg_next m c t h) (le_of_eq N_0) tlast tlast_succ y).trans ?_
  simp only [dclgs, da_row, C_row]
  rw [zero_add, sum_rows fun r => dcl (aD m c) (aC m c) (acg m c) (acb m c) (aO m c) r (y 1) * unit (crow (aC m c) r) (y 1)]; rfl

theorem dclb_sum (y : S1x512.Idx) : (outsAt0 m c tlast.val tlast.isLt).2.2.2.2.2.2.1 y
    = dclb (aD m c) (aC m c) (acg m c) (acb m c) (aO m c) y := by
  refine (Pipeline.eq_sum_fin_of_reset_step_apply_last (M := EReal) (fun n hn y => (outsAt0 m c n hn).2.2.2.2.2.2.1 y) 8 (fun _ => 0)
    (dclbs m c) (fun t h => dclb_first m c t h) (fun t h => dclb_next m c t h) (le_of_eq N_0) tlast tlast_succ y).trans ?_
  simp only [dclbs, da_row]
  rw [zero_add, sum_rows fun r => dcl (aD m c) (aC m c) (acg m c) (acb m c) (aO m c) r (y 1)]; rfl

theorem dglg_sum (y : S1x512.Idx) : (outsAt0 m c tlast.val tlast.isLt).2.2.2.2.2.2.2.1 y
    = dglg (aD m c) (aZ m c) (aT m c) (aO m c) y := by
  refine (Pipeline.eq_sum_fin_of_reset_step_apply_last (M := EReal) (fun n hn y => (outsAt0 m c n hn).2.2.2.2.2.2.2.1 y) 8 (fun _ => 0)
    (dglgs m c) (fun t h => dglg_first m c t h) (fun t h => dglg_next m c t h) (le_of_eq N_0) tlast tlast_succ y).trans ?_
  rw [zero_add]
  refine Eq.trans (Finset.sum_congr rfl fun p _ => Finset.sum_congr rfl fun i _ => ?_)
    (sum_rows fun r => dval (aD m c) (aZ m c) (aT m c) (aO m c) r (y 1) * unit (zrow (aZ m c) r) (y 1))
  exact congrArg₂ (fun a b : EReal => a * b) (E_at m c p i (y 1)) (congrArg (fun x => unit x (y 1)) (zv_row m c p i))

theorem dglb_sum (y : S1x512.Idx) : (outsAt0 m c tlast.val tlast.isLt).2.2.2.2.2.2.2.2.1 y
    = dglb (aD m c) (aZ m c) (aT m c) (aO m c) y := by
  refine (Pipeline.eq_sum_fin_of_reset_step_apply_last (M := EReal) (fun n hn y => (outsAt0 m c n hn).2.2.2.2.2.2.2.2.1 y) 8 (fun _ => 0)
    (dglbs m c) (fun t h => dglb_first m c t h) (fun t h => dglb_next m c t h) (le_of_eq N_0) tlast tlast_succ y).trans ?_
  rw [zero_add]
  refine Eq.trans (Finset.sum_congr rfl fun p _ => Finset.sum_congr rfl fun i _ => ?_)
    (sum_rows fun r => dval (aD m c) (aZ m c) (aT m c) (aO m c) r (y 1))
  exact E_at m c p i (y 1)

theorem dwo_sum (y : S1024x1024.Idx) : (outsAt0 m c tlast.val tlast.isLt).1 y
    = dwo (aD m c) (aC m c) (aZ m c) (acg m c) (acb m c) (agg m c) (agb m c) (aW m c) (aB m c) y := by
  refine (dwo_last m c tlast rfl y).trans ?_
  refine (Pipeline.eq_sum_fin_of_reset_step_apply_last (M := EReal) (fun n hn y => (outsAt0 m c n hn).2.2.2.2.2.2.2.2.2.2 y) 8
    (fun _ => 0) (dwos m c) (fun t h => acc_first m c t h) (fun t h => acc_next m c t h) (le_of_eq N_0) tlast tlast_succ y).trans ?_
  rw [zero_add]
  refine Eq.trans (Finset.sum_congr rfl fun p _ => Finset.sum_congr rfl fun i _ => ?_)
    (sum_rows fun r => heads (aC m c) (aZ m c) (acg m c) (acb m c) (agg m c) (agb m c) (aW m c) (aB m c) r (y 0)
      * aD m c (ix2 r (y 1)))
  exact congrArg₂ (fun a b : EReal => a * b) (congrFun (cat_row m c p i) (y 0)) (D_at m c p i (y 1))

/-! ## The output arrays -/

theorem arr12 : (dats m 0 c).arrAt 12 cfg0.N = dc (aD m c) (aC m c) (acg m c) (acb m c) (aO m c) := by
  refine (dats m 0 c).arrAt_eq_of_covers 12 _ (by decide +kernel) fun t _ y => ?_
  blk_simp
  rw [after0_12]
  refine (congrArg _ (eq_ix2 _)).trans ((dc_at m c t _ _).trans (congrArg _ ?_))
  blk_ext [idx t, at']

theorem arr11 : (dats m 0 c).arrAt 11 cfg0.N
    = dwo (aD m c) (aC m c) (aZ m c) (acg m c) (acb m c) (agg m c) (agb m c) (aW m c) (aB m c) := by
  refine (dats m 0 c).arrAt_eq_of_after_last 11 tlast (by decide +kernel) _ fun j => ?_
  blk_simp
  rw [after0_11]
  exact dwo_sum m c j

theorem arr16 : (dats m 0 c).arrAt 16 cfg0.N = dclg (aD m c) (aC m c) (acg m c) (acb m c) (aO m c) := by
  refine (dats m 0 c).arrAt_eq_of_after_last 16 tlast (by decide +kernel) _ fun j => ?_
  blk_simp
  rw [after0_16]
  exact dclg_sum m c j

theorem arr17 : (dats m 0 c).arrAt 17 cfg0.N = dclb (aD m c) (aC m c) (acg m c) (acb m c) (aO m c) := by
  refine (dats m 0 c).arrAt_eq_of_after_last 17 tlast (by decide +kernel) _ fun j => ?_
  blk_simp
  rw [after0_17]
  exact dclb_sum m c j

theorem arr18 : (dats m 0 c).arrAt 18 cfg0.N = dglg (aD m c) (aZ m c) (aT m c) (aO m c) := by
  refine (dats m 0 c).arrAt_eq_of_after_last 18 tlast (by decide +kernel) _ fun j => ?_
  blk_simp
  rw [after0_18]
  exact dglg_sum m c j

theorem arr19 : (dats m 0 c).arrAt 19 cfg0.N = dglb (aD m c) (aZ m c) (aT m c) (aO m c) := by
  refine (dats m 0 c).arrAt_eq_of_after_last 19 tlast (by decide +kernel) _ fun j => ?_
  blk_simp
  rw [after0_19]
  exact dglb_sum m c j

/-! ## What the input arrays hold -/

abbrev dh1 : FVec Ideal S4096x1024 .f32 := m ((c : Thread nD τ).loc main_arg1)
abbrev cv : FVec Ideal S4096x512 .f32 := m ((c : Thread nD τ).loc main_arg2)
abbrev z : FVec Ideal S4096x2048 .f32 := m ((c : Thread nD τ).loc main_arg3)
abbrev clg : FVec Ideal S1x512 .f32 := m ((c : Thread nD τ).loc main_arg4)
abbrev clb : FVec Ideal S1x512 .f32 := m ((c : Thread nD τ).loc main_arg5)
abbrev glg : FVec Ideal S1x512 .f32 := m ((c : Thread nD τ).loc main_arg6)
abbrev glb : FVec Ideal S1x512 .f32 := m ((c : Thread nD τ).loc main_arg7)
abbrev ws : FVec Ideal S8x128x128 .f32 := m ((c : Thread nD τ).loc main_arg8)
abbrev bs : FVec Ideal S8x128 .f32 := m ((c : Thread nD τ).loc main_arg9)
abbrev wout : FVec Ideal S1024x1024 .f32 := m ((c : Thread nD τ).loc main_arg10)

theorem aD_eq : aD m c = dh1 m c := V_main_arg1 m c
theorem aC_eq : aC m c = cv m c := V_main_arg2 m c
theorem aZ_eq : aZ m c = z m c := V_main_arg3 m c
theorem acg_eq : acg m c = clg m c := V_main_arg4 m c
theorem acb_eq : acb m c = clb m c := V_main_arg5 m c
theorem agg_eq : agg m c = glg m c := V_main_arg6 m c
theorem agb_eq : agb m c = glb m c := V_main_arg7 m c
theorem aW_eq : aW m c = ws m c := V_main_arg8 m c
theorem aT_eq : aT m c = turned3 (ws m c) := by
  refine Eq.trans (b := transpose S8x128x128 [0, 2, 1] (ws m c) transposes_S8x128x128_S8x128x128_0_2_1) ?_ ?_
  · show StableHlo.after hostOps0 (fun b => m (c, b)) _ = _
    after_results_simp
  · funext y; rw [eq_ix3 y]
    pointwise [turned3]
theorem aB_eq : aB m c = turned (bs m c) := by
  refine Eq.trans (b := transpose S128x8 [1, 0] (bs m c) transposes_S8x128_S128x8_1_0) ?_ ?_
  · show StableHlo.after hostOps0 (fun b => m (c, b)) _ = _
    after_results_simp
  · funext y; rw [eq_ix2 y]
    pointwise [turned]
theorem aO_eq : aO m c = wout m c := by
  show StableHlo.after hostOps0 (fun b => m (c, b)) _ = _
  after_results_simp; rfl

end Cert.OutBackArrays

end
-- ==== Proof.OutBackReference.lean ====
/- The reference of the gradient of the mixing block's output, read at an index. -/
module

public import proofs.«01_k».proof.Proof.OutBackGradients
public import proofs.«01_k».proof.Proof.OutEquation
public import proofs.«01_k».proof.Proof.Finite
public import proofs.«01_k».proof.Proof.Reference
public import proofs.«01_k».proof.Pre_finite11
public import proofs.«01_k».proof.Proof.Gen.Reference11Ideal.Read

@[expose] public section

set_option maxRecDepth 16384

noncomputable section

namespace Cert.OutBackReference

open Idealize.ShloMosaic
open Cert.Reference11Ideal Cert.Reference11Ideal.Read Cert.Algebra Cert.Spec Cert.Step Cert.Out Cert.OutBack Cert.OutBackArrays
open Cert.OutPoints (ofBits_512)
open Cert.OutArrays (zu zv mate spot conv gates values mix turned)
open Cert.OutReference (gelu_eq rowOf colOf)

variable (x1 : FVec Ideal S4096x1024 .f32) (x2 : FVec Ideal S4096x512 .f32) (x3 : FVec Ideal S4096x2048 .f32)
  (x4 x5 x6 x7 : FVec Ideal S1x512 .f32) (x8 : FVec Ideal S8x128x128 .f32) (x9 : FVec Ideal S8x128 .f32)
  (x10 : FVec Ideal S1024x1024 .f32) (r : Fin 4096) (k : Fin 512) (j n : Fin 1024)

/-! ## The convolution's group -/

theorem cen_apply : val_main_v9 (F := Ideal) x2 (ix2 r k) = centred (crow x2 r) k := by
  pointwise [val_main_v9, val_main_v8, val_main_v7, val_main_v6, val_main_v5, val_main_v4, val_main_cst, val_main_cst_0, centred, mean, crow, ofBits_512]
theorem cen_apply' : val_main_v18 (F := Ideal) x2 (ix2 r k) = centred (crow x2 r) k := by
  pointwise [val_main_v18, val_main_v17, val_main_v7, val_main_v6, val_main_v5, val_main_v4, val_main_cst, val_main_cst_0, centred, mean, crow, ofBits_512]
theorem var_apply (u : Fin 1) : val_main_v20 (F := Ideal) x2 (ix2 r u)
    = Ideal.div (∑ k, centred (crow x2 r) k * centred (crow x2 r) k) ((512 : ℝ) : EReal) + lnEps := by
  pointwise [val_main_v20, val_main_v19, val_main_v16, val_main_v15, val_main_v14, val_main_v13, val_main_v10, val_main_cst_2, val_main_cst_3, val_main_cst_4, cen_apply x2, ofBits_512, lnEps]
theorem dev_apply (u : Fin 1) : val_main_v21 (F := Ideal) x2 (ix2 r u) = dev (crow x2 r) := by
  pointwise [val_main_v21, var_apply x2, dev]
theorem unit_apply : val_main_v26 (F := Ideal) x2 (ix2 r k) = unit (crow x2 r) k := by
  pointwise [val_main_v26, val_main_v25, cen_apply' x2, dev_apply x2, unit]
theorem norm_apply : val_main_v32 (F := Ideal) x2 x4 x5 (ix2 r k) = lnorm (crow x2 r) (hgain x4) (hgain x5) k := by
  pointwise [val_main_v32, val_main_v31, val_main_v30, val_main_v3, val_main_v29, val_main_v28, val_main_v27, val_main_v2, unit_apply x2, unit, lnorm, hgain]
theorem sig_apply : val_main_v33_2 (F := Ideal) x2 x4 x5 (ix2 r k) = Ideal.logistic (lnorm (crow x2 r) (hgain x4) (hgain x5) k) := by
  pointwise [val_main_v33_2, val_main_call0_v4, val_main_call0_v3, val_main_call0_v2, val_main_call0_v1,
    val_main_call0_v0, val_main_call0_cst, val_main_call0_cst_0, norm_apply x2 x4 x5, Ideal.logistic]
theorem conv_apply : val_main_v33_0 (F := Ideal) x2 x4 x5 (ix2 r k) = conv x2 x4 x5 r k := by
  pointwise [val_main_v33_0, norm_apply x2 x4 x5, sig_apply x2 x4 x5, conv, silu]; rfl

theorem left_apply : val_main_v126 (F := Ideal) x1 x10 (ix2 r k) = dleft x1 x10 r k := by
  pointwise [val_main_v126, val_main_v125, dleft, lo]
theorem right_apply : val_main_v127 (F := Ideal) x1 x10 (ix2 r k) = dright x1 x10 r k := by
  pointwise [val_main_v127, val_main_v125, dright, hi]

/-! ## The gates, and the rows that are mixed -/

theorem gates_apply : val_main_v56 (F := Ideal) x3 (ix2 r k) = gates x3 r k := by
  refine Eq.trans ?_ (gelu_eq _)
  pointwise [val_main_v56, val_main_v55, val_main_v54, val_main_v53, val_main_v52, val_main_v46, val_main_v45, val_main_v44, val_main_v43, val_main_v42, val_main_v41, val_main_v37, val_main_v36, val_main_v0, val_main_cst_7, val_main_cst_8, val_main_cst_11, val_main_cst_12, zu, geluC, geluK, MixPoints.half_apply]
theorem act_apply : val_main_v77 (F := Ideal) x3 (ix2 r k) = zrow x3 r k := by
  refine Eq.trans ?_ (gelu_eq _)
  pointwise [val_main_v77, val_main_v76, val_main_v75, val_main_v74, val_main_v73, val_main_v67, val_main_v66, val_main_v65, val_main_v64, val_main_v63, val_main_v62, val_main_v58, val_main_v57, val_main_v1, val_main_cst_14, val_main_cst_15, val_main_cst_18, val_main_cst_19, zv, geluC, geluK, MixPoints.half_apply]
theorem vcen_apply : val_main_v83 (F := Ideal) x3 (ix2 r k) = centred (zrow x3 r) k := by
  pointwise [val_main_v83, val_main_v82, val_main_v81, val_main_v80, val_main_v79, val_main_v78, act_apply x3, val_main_cst_20, val_main_cst_21, centred, mean, ofBits_512]
theorem vcen_apply' : val_main_v92 (F := Ideal) x3 (ix2 r k) = centred (zrow x3 r) k := by
  pointwise [val_main_v92, val_main_v91, val_main_v81, val_main_v80, val_main_v79, val_main_v78, act_apply x3, val_main_cst_20, val_main_cst_21, centred, mean, ofBits_512]
theorem vdev_apply (u : Fin 1) : val_main_v95 (F := Ideal) x3 (ix2 r u) = dev (zrow x3 r) := by
  pointwise [val_main_v95, val_main_v94, val_main_v93, val_main_v90, val_main_v89, val_main_v88, val_main_v87, val_main_v84, val_main_cst_23, val_main_cst_24, val_main_cst_25, vcen_apply x3, dev, ofBits_512, lnEps]
theorem vunit_apply : val_main_v100 (F := Ideal) x3 (ix2 r k) = unit (zrow x3 r) k := by
  pointwise [val_main_v100, val_main_v99, vcen_apply' x3, vdev_apply x3, unit]
theorem values_apply : val_main_v106 (F := Ideal) x3 x6 x7 (ix2 r k) = values x3 x6 x7 r k := by
  pointwise [val_main_v106, val_main_v105, val_main_v104, val_main_v103, val_main_v102, val_main_v101, val_main_v34, val_main_v35, vunit_apply x3, unit, values, lnorm, hgain]; rfl

/-! ## The mix -/

theorem past_apply (t s : Fin 128) : val_main_v109 (F := Ideal) (ix2 t s) = BitVec.ofBool (decide (s ≤ t)) := by
  rw [← OutPoints.sge_word t s]
  show (if IntOp.cmpi .sge (BitVec.ofNat 32 t.val + 0#32) (BitVec.ofNat 32 s.val) = 1#1 then 1#1 else 0#1) = _
  rw [BitVec.add_zero, OutPoints.sge_word]
  cases decide (s ≤ t) <;> rfl
theorem weights_apply (h : Fin 8) (t s : Fin 128) : val_main_v112_0 (F := Ideal) x8 (ix3 h t s) = if s ≤ t then x8 (ix3 h t s) else 0 := by
  pointwise [val_main_v112_0, val_main_v112_1, val_main_v111, val_main_v110, val_main_cst_27, past_apply]

theorem idx107 (n : Fin 32) (s : Fin 128) (h : Fin 8) (d : Fin 64) :
    idx_main_v107 (ix4 n s h d) = ix2 (rowOf n s) (colOf h d) := funext fun a => Fin.ext (by
  match a with
  | ⟨0, _⟩ => show (((n.val * 128 + s.val) * 8 + h.val) * 64 + d.val) / 512 = 128 * n.val + s.val; omega
  | ⟨1, _⟩ => show (((n.val * 128 + s.val) * 8 + h.val) * 64 + d.val) % 512 = 64 * h.val + d.val; omega)
theorem rows_apply (n : Fin 32) (s : Fin 128) (h : Fin 8) (d : Fin 64) :
    val_main_v107 (F := Ideal) x3 x6 x7 (ix4 n s h d) = values x3 x6 x7 (rowOf n s) (colOf h d) := by
  rw [val_main_v107_apply, idx107, values_apply]
theorem sums_apply (h : Fin 8) (n : Fin 32) (d : Fin 64) (t : Fin 128) : val_main_v113 (F := Ideal) x3 x6 x7 x8 (ix4 h n d t)
    = ∑ s : Fin 128, (if s ≤ t then x8 (ix3 h t s) else 0) * values x3 x6 x7 (rowOf n s) (colOf h d) := by
  refine (val_main_v113_apply x3 x6 x7 x8 _).trans (Finset.sum_congr rfl fun s _ => ?_)
  rw [show lidx_main_v113 (ix4 h n d t) s = ix4 n s h d from funext fun a => by fin_cases a <;> rfl,
    show ridx_main_v113 (ix4 h n d t) s = ix3 h t s from funext fun a => by fin_cases a <;> rfl, rows_apply, weights_apply]
  exact mul_comm (G := EReal) _ _
theorem added_apply (n : Fin 32) (t : Fin 128) (h : Fin 8) (d : Fin 64) :
    val_main_v117 (F := Ideal) x9 (ix4 n t h d) = turned x9 (ix2 t h) := by
  pointwise [val_main_v117, val_main_v116, val_main_v115, turned]
theorem mixed_apply (n : Fin 32) (t : Fin 128) (h : Fin 8) (d : Fin 64) : val_main_v118 (F := Ideal) x3 x6 x7 x8 x9 (ix4 n t h d)
    = (∑ s : Fin 128, (if s ≤ t then x8 (ix3 h t s) else 0) * values x3 x6 x7 (rowOf n s) (colOf h d)) + turned x9 (ix2 t h) := by
  rw [val_main_v118_apply, val_main_v114_apply, added_apply,
    show idx_main_v114 (ix4 n t h d) = ix4 h n d t from funext fun a => by fin_cases a <;> rfl, sums_apply]
  rfl
theorem idx119 : idx_main_v119 (ix2 r k) = ix4 (⟨r.val / 128, by omega⟩ : Fin 32) (spot r) (hd k) (⟨k.val % 64, by omega⟩ : Fin 64) :=
  funext fun a => Fin.ext (by
    match a with
    | ⟨0, _⟩ => show (r.val * 512 + k.val) / 65536 = r.val / 128; omega
    | ⟨1, _⟩ => show (r.val * 512 + k.val) / 512 % 128 = r.val % 128; omega
    | ⟨2, _⟩ => show (r.val * 512 + k.val) / 64 % 8 = k.val / 64; omega
    | ⟨3, _⟩ => show (r.val * 512 + k.val) % 64 = k.val % 64; omega)
theorem colOf_hd : colOf (hd k) ⟨k.val % 64, by omega⟩ = k := Fin.ext (by simp only [colOf, hd]; omega)
theorem mix_apply : val_main_v119 (F := Ideal) x3 x6 x7 x8 x9 (ix2 r k) = mix x3 x6 x7 x8 (turned x9) r k := by
  have e : ∀ s, rowOf ⟨r.val / 128, by omega⟩ s = mate r s := fun s => rfl
  rw [val_main_v119_apply, idx119, mixed_apply]
  simp only [e, colOf_hd]; rfl

/-! ## The gradients of the mix -/

theorem dmix_apply : val_main_v128 (F := Ideal) x1 x3 x10 (ix2 r k) = dmix x1 x3 x10 r k := by
  rw [val_main_v128_apply, gates_apply, right_apply]
  exact mul_comm (G := EReal) _ _
theorem idx130 (n : Fin 32) (s : Fin 128) (h : Fin 8) (d : Fin 64) :
    idx_main_v130 (ix4 n s h d) = ix2 (rowOf n s) (colOf h d) := idx107 n s h d
theorem dmixes_apply (h : Fin 8) (n : Fin 32) (d : Fin 64) (t : Fin 128) :
    val_main_v135 (F := Ideal) x1 x3 x10 (ix4 h n d t) = dmix x1 x3 x10 (rowOf n t) (colOf h d) := by
  rw [val_main_v135_apply, show idx_main_v135 (ix4 h n d t) = ix4 n t h d from funext fun a => by fin_cases a <;> rfl,
    val_main_v130_apply, idx130, dmix_apply]
theorem dsums_apply (h : Fin 8) (n : Fin 32) (d : Fin 64) (s : Fin 128) : val_main_v137 (F := Ideal) x1 x3 x8 x10 (ix4 h n d s)
    = ∑ t : Fin 128, (if s ≤ t then x8 (ix3 h t s) else 0) * dmix x1 x3 x10 (rowOf n t) (colOf h d) := by
  refine (val_main_v137_apply x1 x3 x8 x10 _).trans (Finset.sum_congr rfl fun t _ => ?_)
  rw [show lidx_main_v137 (ix4 h n d s) t = ix4 h n d t from funext fun a => by fin_cases a <;> rfl,
    show ridx_main_v137 (ix4 h n d s) t = ix3 h t s from funext fun a => by fin_cases a <;> rfl, dmixes_apply, weights_apply]
  exact mul_comm (G := EReal) _ _
theorem dval_apply : val_main_v140 (F := Ideal) x1 x3 x8 x10 (ix2 r k) = dval x1 x3 (turned3 x8) x10 r k := by
  have e : ∀ s, rowOf ⟨r.val / 128, by omega⟩ s = mate r s := fun s => rfl
  rw [val_main_v140_apply, show idx_main_v140 (ix2 r k) = _ from idx119 r k, val_main_v138_apply,
    show idx_main_v138 (ix4 (⟨r.val / 128, by omega⟩ : Fin 32) (spot r) (hd k) (⟨k.val % 64, by omega⟩ : Fin 64))
      = ix4 (hd k) ⟨r.val / 128, by omega⟩ ⟨k.val % 64, by omega⟩ (spot r) from funext fun a => by fin_cases a <;> rfl, dsums_apply]
  simp only [e, colOf_hd]; rfl
theorem dglb_apply (u : Fin 1) : val_main_v198 (F := Ideal) x1 x3 x8 x10 (ix2 u k) = dglb x1 x3 (turned3 x8) x10 (ix2 u k) := by
  pointwise [val_main_v198, val_main_v143, val_main_v142, val_main_v141, val_main_cst_30, val_main_cst_31, dval_apply x1 x3 x8 x10, dglb]
  exact (Fin.sum_univ_one _)
theorem dglg_apply (u : Fin 1) : val_main_v199 (F := Ideal) x1 x3 x8 x10 (ix2 u k) = dglg x1 x3 (turned3 x8) x10 (ix2 u k) := by
  pointwise [val_main_v199, val_main_v149, val_main_v146, val_main_v145, val_main_v144, val_main_cst_32, val_main_cst_33, vunit_apply x3, dval_apply x1 x3 x8 x10, dglg]
  exact (Fin.sum_univ_one _).trans (Finset.sum_congr rfl fun r _ => mul_comm (G := EReal) _ _)

/-! ## The gradients of the convolution's group -/

section

variable (ht : ∀ r k, Real' (dleft x1 x10 r k)) (hg : ∀ k, Real' (hgain x4 k))
include ht

theorem dcl_apply : val_main_v200 (F := Ideal) x1 x2 x4 x5 x10 (ix2 r k) = dcl x1 x2 x4 x5 x10 r k := by
  refine Eq.trans ?_ (dsilu_eq _ (dleft x1 x10 r k) (ht r k))
  pointwise [val_main_v200, val_main_call4_v2, val_main_call4_v1, val_main_call4_v0, val_main_v33_1, val_main_call0_v7, val_main_call0_v6, val_main_call0_cst_1, norm_apply x2 x4 x5, sig_apply x2 x4 x5, left_apply x1 x10]
theorem dclb_apply (u : Fin 1) : val_main_v234 (F := Ideal) x1 x2 x4 x5 x10 (ix2 u k) = dclb x1 x2 x4 x5 x10 (ix2 u k) := by
  pointwise [val_main_v234, val_main_v203, val_main_v202, val_main_v201, val_main_cst_47, val_main_cst_48, fun r k => dcl_apply x1 x2 x4 x5 x10 r k ht, dclb]
  exact (Fin.sum_univ_one _)
theorem dclg_apply (u : Fin 1) : val_main_v235 (F := Ideal) x1 x2 x4 x5 x10 (ix2 u k) = dclg x1 x2 x4 x5 x10 (ix2 u k) := by
  pointwise [val_main_v235, val_main_v209, val_main_v206, val_main_v205, val_main_v204, val_main_cst_49, val_main_cst_50, unit_apply x2, fun r k => dcl_apply x1 x2 x4 x5 x10 r k ht, dclg]
  exact (Fin.sum_univ_one _).trans (Finset.sum_congr rfl fun r _ => mul_comm (G := EReal) _ _)

/-- A row's gradient of the norm's output, times the gain. -/
abbrev grad (r : Fin 4096) : HRow := fun k => dcl x1 x2 x4 x5 x10 r k * hgain x4 k

theorem grad_apply : val_main_v208 (F := Ideal) x1 x2 x4 x5 x10 (ix2 r k) = grad x1 x2 x4 x5 x10 r k := by
  pointwise [val_main_v208, val_main_v207, val_main_v27, val_main_v2, fun r k => dcl_apply x1 x2 x4 x5 x10 r k ht, hgain, grad]
theorem dvar_apply (u : Fin 1) : val_main_v215 (F := Ideal) x1 x2 x4 x5 x10 (ix2 r u) = dvar (crow x2 r) (grad x1 x2 x4 x5 x10 r) := by
  pointwise [val_main_v215, val_main_v212, val_main_v211, val_main_v210, val_main_v24, val_main_v23, val_main_v22, val_main_cst_5, val_main_cst_51, cen_apply' x2, var_apply x2, dev_apply x2, fun r k => grad_apply x1 x2 x4 x5 x10 r k ht, Reference.ofBits_neghalf, dvar]
theorem dsq_apply : val_main_v223 (F := Ideal) x1 x2 x4 x5 x10 (ix2 r k) = dsq (crow x2 r) (grad x1 x2 x4 x5 x10 r) k := by
  pointwise [val_main_v223, val_main_v222, val_main_v221, val_main_v220, val_main_v219, val_main_v12, val_main_v11, val_main_cst_1, val_main_cst_53, val_main_cst_54, cen_apply x2, fun r u => dvar_apply x1 x2 x4 x5 x10 r ht u, MixPoints.two_apply, ofBits_512, dsq]
  exact congrArg (fun a : EReal => a * _) (Fin.sum_univ_one _)
theorem dinput_apply : val_main_v233 (F := Ideal) x1 x2 x4 x5 x10 (ix2 r k) = OutBack.dinput (crow x2 r) (grad x1 x2 x4 x5 x10 r) k := by
  pointwise [val_main_v233, val_main_v232, val_main_v231, val_main_v230, val_main_v229, val_main_v228, val_main_v227, val_main_v226, val_main_v225, val_main_v224, val_main_v218, val_main_v217, val_main_v216, val_main_v214, val_main_v213, val_main_cst_52, val_main_cst_55, val_main_cst_56, val_main_cst_57, dev_apply x2, fun r k => grad_apply x1 x2 x4 x5 x10 r k ht, fun r k => dsq_apply x1 x2 x4 x5 x10 r k ht, ofBits_512, OutBack.dinput]
  exact congrArg (fun a : EReal => _ + a) (Fin.sum_univ_one _)
include hg
theorem dc_apply : val_main_v233 (F := Ideal) x1 x2 x4 x5 x10 (ix2 r k) = dc x1 x2 x4 x5 x10 (ix2 r k) :=
  (dinput_apply x1 x2 x4 x5 x10 r k ht).trans (dinput_eq _ _ (fun k => (dsilu_real _ _ (ht r k)).mul (hg k)) k)

end

/-! ## The gradient of the output's weights -/

theorem heads_apply : val_main_v121 (F := Ideal) x2 x3 x4 x5 x6 x7 x8 x9 (ix2 r n) = heads x2 x3 x4 x5 x6 x7 x8 (turned x9) r n := by
  by_cases h : n.val < 512
  · rw [heads, dif_pos h]
    refine Eq.trans (concatenate_pair_apply_left (t := S4096x1024) (s₁ := S4096x512) (s₂ := S4096x512) (1 : Fin 2) _ _
      _ _ rfl (ix2 r ⟨n.val, h⟩) (fun b => by
        match b with
        | ⟨0, _⟩ => rfl
        | ⟨1, _⟩ => rfl)) (conv_apply x2 x4 x5 r ⟨n.val, h⟩)
  · rw [heads, dif_neg h]
    refine Eq.trans (concatenate_pair_apply_right (t := S4096x1024) (s₁ := S4096x512) (s₂ := S4096x512) (1 : Fin 2) _ _
      _ _ rfl rfl (ix2 r ⟨n.val - 512, by omega⟩) (fun b hb => by
        match b with
        | ⟨0, _⟩ => rfl
        | ⟨1, _⟩ => exact absurd rfl hb) (by show n.val - 512 + 512 = n.val; omega)) ?_
    exact congrArg₂ (fun a b : EReal => a * b) (gates_apply x3 r _) (mix_apply x3 x6 x7 x8 x9 r _)
theorem dwo_apply : val_main_v236 (F := Ideal) x1 x2 x3 x4 x5 x6 x7 x8 x9 (ix2 n j) = dwo x1 x2 x3 x4 x5 x6 x7 x8 (turned x9) (ix2 n j) := by
  have e : val_main_v236 (F := Ideal) x1 x2 x3 x4 x5 x6 x7 x8 x9 (ix2 n j)
      = ∑ r : Fin 4096, x1 (ix2 r j) * val_main_v121 (F := Ideal) x2 x3 x4 x5 x6 x7 x8 x9 (ix2 r n) := by
    pointwise [val_main_v236, val_main_v124, val_main_v123]
  refine e.trans (Finset.sum_congr rfl fun r _ => ?_)
  rw [heads_apply]
  exact mul_comm (G := EReal) _ _

/-! ## The precondition -/

instance preFacts : Cert.Pre_finite11.Facts where
  bcast_S_S4096x1024 := by decide
  bcast_S_S1x512 := by decide
  slices_S1024x1024_S512x1024_0_0 := by decide
  bcast_S_S512x1024 := by decide

section

variable (x0 : FVec Ideal S8x128 .f32)
  (h : (Cert.Pre_finite11.fn x0 x1 x2 x3 x4 x5 x6 x7 x8 x9 x10).1 = (fun _ => 1#1) ∧ (Cert.Pre_finite11.fn x0 x1 x2 x3 x4 x5 x6 x7 x8 x9 x10).2.1 = (fun _ => 1#1)
    ∧ (Cert.Pre_finite11.fn x0 x1 x2 x3 x4 x5 x6 x7 x8 x9 x10).2.2 = (fun _ => 1#1))
include h

theorem dh_real : Real' (x1 (ix2 r j)) := Finite.real_of_abs _ (congrFun h.1 (ix2 r j))
theorem gain_real : Real' (hgain x4 k) := Finite.real_of_abs _ (congrFun h.2.1 (ix2 0 k))
theorem wout_real : Real' (x10 (ix2 (lo k) j)) := by
  refine Finite.real_of_abs _ ((congrArg (fun z => Ideal.cmp .olt (max z (-z)) _) ?_).trans (congrFun h.2.2 (ix2 k j)))
  pointwise [lo]
theorem dleft_real : Real' (dleft x1 x10 r k) :=
  Real'.sum _ _ fun j => (dh_real x1 x2 x3 x4 x5 x6 x7 x8 x9 x10 r j x0 h).mul (wout_real x1 x2 x3 x4 x5 x6 x7 x8 x9 x10 k j x0 h)

end

end Cert.OutBackReference

end
-- ==== Proof.OutBackEquation.lean ====
/- The arrays of the gradient of the mixing block's output are the reference's results on the same arguments. -/
module

public import proofs.«01_k».proof.Proof.OutBackArrays
public import proofs.«01_k».proof.Proof.OutBackReference

@[expose] public section

set_option maxRecDepth 16384

noncomputable section

namespace Cert.OutBackEquation

open Idealize.ShloMosaic Idealize.ShloMosaic.TcCoe Idealize.SL.Sem
open Cert.Kernel11Ideal Cert.Kernel11Ideal.Gen Cert.Algebra Cert.OutBackArrays
open Cert.Reference11Ideal.Read

variable (m : (ℓ : Loc nD τ sig) → Buf (Elt Ideal) ℓ) (c : Dev nD)

theorem dwo_eq : (dats m 0 c).arrAt 11 cfg0.N = val_main_v236 (F := Ideal) (dh1 m c) (cv m c) (z m c) (clg m c) (clb m c)
    (glg m c) (glb m c) (ws m c) (bs m c) := by
  rw [arr11, aD_eq, aC_eq, aZ_eq, acg_eq, acb_eq, agg_eq, agb_eq, aW_eq, aB_eq]
  funext y; rw [eq_ix2 y]
  exact (OutBackReference.dwo_apply ..).symm
theorem dglg_eq : (dats m 0 c).arrAt 18 cfg0.N = val_main_v199 (F := Ideal) (dh1 m c) (z m c) (ws m c) (wout m c) := by
  rw [arr18, aD_eq, aZ_eq, aT_eq, aO_eq]
  funext y; rw [eq_ix2 y]
  exact (OutBackReference.dglg_apply ..).symm
theorem dglb_eq : (dats m 0 c).arrAt 19 cfg0.N = val_main_v198 (F := Ideal) (dh1 m c) (z m c) (ws m c) (wout m c) := by
  rw [arr19, aD_eq, aZ_eq, aT_eq, aO_eq]
  funext y; rw [eq_ix2 y]
  exact (OutBackReference.dglb_apply ..).symm

section

variable (ht : ∀ r k, Real' (dleft (dh1 m c) (wout m c) r k)) (hg : ∀ k, Real' (Out.hgain (clg m c) k))
include ht

theorem dclg_eq : (dats m 0 c).arrAt 16 cfg0.N
    = val_main_v235 (F := Ideal) (dh1 m c) (cv m c) (clg m c) (clb m c) (wout m c) := by
  rw [arr16, aD_eq, aC_eq, acg_eq, acb_eq, aO_eq]
  funext y; rw [eq_ix2 y]
  exact (OutBackReference.dclg_apply _ _ _ _ _ _ ht _).symm
theorem dclb_eq : (dats m 0 c).arrAt 17 cfg0.N
    = val_main_v234 (F := Ideal) (dh1 m c) (cv m c) (clg m c) (clb m c) (wout m c) := by
  rw [arr17, aD_eq, aC_eq, acg_eq, acb_eq, aO_eq]
  funext y; rw [eq_ix2 y]
  exact (OutBackReference.dclb_apply _ _ _ _ _ _ ht _).symm
include hg
theorem dc_eq : (dats m 0 c).arrAt 12 cfg0.N
    = val_main_v233 (F := Ideal) (dh1 m c) (cv m c) (clg m c) (clb m c) (wout m c) := by
  rw [arr12, aD_eq, aC_eq, acg_eq, acb_eq, aO_eq]
  funext y; rw [eq_ix2 y]
  exact (OutBackReference.dc_apply _ _ _ _ _ _ _ ht hg).symm

end

end Cert.OutBackEquation

end
-- ==== Proof.AdamSpec.lean ====
/- The optimiser's update of one number of a weight, and the sum of the shares of its gradient: what the eight devices
   hold, read at the numbers of the devices as the kernel's index maps name them. -/
module

public import Idealize.ShloMosaic.Lib.Pipeline.ValueKit
public import Idealize.ShloMosaic.Lib.StableHlo.Predicate

@[expose] public section

set_option maxRecDepth 16384

noncomputable section

namespace Cert.AdamSpec

open Idealize.ShloMosaic

/-! ## The device's number -/

/-- A word between 0 and 7, read signed, is the number of a device. -/
theorem word_device (x : BitVec 32) (h0 : BitVec.ofBool ((0#32).sle x) = 1#1) (h8 : BitVec.ofBool (x.slt 8#32) = 1#1) :
    ∃ d : Fin 8, x = BitVec.ofNat 32 d.val := by
  rw [StableHlo.Predicate.ofBool_eq_one_iff] at h0 h8
  simp only [BitVec.sle, BitVec.slt, decide_eq_true_eq] at h0 h8
  have e : (x.toInt.toNat : ℤ) = x.toInt := Int.toNat_of_nonneg (by simpa using h0)
  have l : x.toInt < 8 := by simpa using h8
  refine ⟨⟨x.toInt.toNat, by omega⟩, BitVec.eq_of_toInt_eq ?_⟩
  rw [StableHlo.Predicate.toInt_ofNat_small _ (by omega), e]

/-- The same of a table of one word. -/
theorem table_device (x : (⟨1, ![1]⟩ : Shape).Idx → BitVec 32)
    (h : IntOp.andi (BitVec.ofBool ((0#32).sle (x (ValueIdx.ix1 0)))) (BitVec.ofBool ((x (ValueIdx.ix1 0)).slt 8#32)) = 1#1) :
    ∃ d : Fin 8, x = fun _ => BitVec.ofNat 32 d.val := by
  have both : ∀ a b : BitVec 1, IntOp.andi a b = 1#1 → a = 1#1 ∧ b = 1#1 := by decide
  obtain ⟨d, hd⟩ := word_device _ (both _ _ h).1 (both _ _ h).2
  refine ⟨d, funext fun i => ?_⟩
  rw [← hd]
  exact congrArg x (funext fun a => Fin.ext (by
    match a with
    | ⟨0, _⟩ =>
      have := (i 0).isLt
      change (i 0).val < 1 at this
      show (i 0).val = 0
      omega))

/-- The device whose number differs from `d` in the bits of `k`. -/
def peer (d : Fin 8) (k : ℕ) : Fin 8 := ⟨(d.val ^^^ k) % 8, Nat.mod_lt _ (by decide)⟩

/-! ## The sum of the shares -/

/-- Device `k`'s share as device `d` reads it: its own from what it computed, another's from what landed. -/
def mine (d k : Fin 8) (P L : EReal) : EReal :=
  Scalar.select (IntOp.cmpi .eq (BitVec.ofNat 32 k.val) (BitVec.ofNat 32 d.val)) P L

/-- The same, zero where the two devices are not of the same core of their chips. -/
def share (d k : Fin 8) (P L : EReal) : EReal :=
  Scalar.select (IntOp.cmpi .eq (IntOp.andi (BitVec.ofNat 32 k.val) 1#32) (IntOp.andi (BitVec.ofNat 32 d.val) 1#32))
    (mine d k P L) 0

theorem mine_eq (d k : Fin 8) (P L : EReal) : mine d k P L = if k = d then P else L := by
  have e : IntOp.cmpi .eq (BitVec.ofNat 32 k.val) (BitVec.ofNat 32 d.val) = 1#1 ↔ k = d := by revert d k; decide
  unfold mine Scalar.select
  by_cases h : k = d
  · rw [if_pos h, e.2 h]; rfl
  · rw [if_neg h]; exact if_neg fun h' => h (e.1 h')

theorem share_eq (d k : Fin 8) (P L : EReal) : share d k P L = if k.val % 2 = d.val % 2 then (if k = d then P else L) else 0 := by
  have e : IntOp.cmpi .eq (IntOp.andi (BitVec.ofNat 32 k.val) 1#32) (IntOp.andi (BitVec.ofNat 32 d.val) 1#32) = 1#1
      ↔ k.val % 2 = d.val % 2 := by revert d k; decide
  unfold share
  rw [mine_eq]
  unfold Scalar.select
  by_cases h : k.val % 2 = d.val % 2
  · rw [if_pos h, e.2 h]; rfl
  · rw [if_neg h]; exact if_neg fun h' => h (e.1 h')

/-- The four shares of one core of every chip, in the order in which the kernel adds them. -/
theorem sum_share (d : Fin 8) (P L : Fin 8 → EReal) :
    ∑ k : Fin 8, share d k (P k) (L k) = P d + L (peer d 2) + L (peer d 4) + L (peer d 6) := by
  simp only [share_eq, Fin.sum_univ_eight]
  fin_cases d <;> simp [peer] <;> first | done | abel

/-- The eight shares, in the order in which the kernel adds them. -/
theorem sum_mine (d : Fin 8) (P L : Fin 8 → EReal) :
    ∑ k : Fin 8, mine d k (P k) (L k) = P d + L (peer d 1) + L (peer d 2) + L (peer d 3) + L (peer d 4) + L (peer d 5)
      + L (peer d 6) + L (peer d 7) := by
  simp only [mine_eq, Fin.sum_univ_eight]
  fin_cases d <;> simp [peer] <;> first | done | abel

/-! ## One number's update -/

abbrev num (w : BitVec 32) : EReal := FloatOps.ofBits (F := Ideal) .f32 w

/-- The new first moment. -/
def first (g m : EReal) : EReal := num 0x3F666666#32 * m + num 0x3DCCCCCD#32 * g
/-- The new second moment. -/
def second (g v : EReal) : EReal := num 0x3F7FBE77#32 * v + num 0x3A83126F#32 * (g * g)
/-- The change of the weight. -/
def change (g w m v : EReal) : EReal :=
  num 0xBA83126F#32 * (Ideal.div (Ideal.div (first g m) (num 0x3F26BD02#32))
    (Ideal.sqrt (Ideal.div (second g v) (num 0x3C231ACC#32)) + num 0x322BCC77#32) + num 0x3C23D70A#32 * w)

end Cert.AdamSpec

end
-- ==== Proof.AdamDown.lean ====
/- The optimiser's call for the second weight of the feed-forward block: what every grid point leaves in the blocks of the four
   results, what the result arrays hold at the end, for every number of a device; and the same of the reference. -/
module

public import proofs.«01_k».proof.Proof.InPoints
public import proofs.«01_k».proof.Proof.AdamSpec
public import proofs.«01_k».proof.Proof.Gen.Kernel12.Frame
public import proofs.«01_k».proof.Proof.Gen.Kernel12Ideal.Frame
public import proofs.«01_k».proof.Proof.Gen.Pre_device12
public import proofs.«01_k».proof.Proof.Gen.Reference12Ideal.Read

@[expose] public section

set_option maxRecDepth 16384

noncomputable section

/-! ## The blocks lie in the arrays, for every number of a device -/

namespace Cert.AdamDown.Words

open Idealize.ShloMosaic Idealize.ShloMosaic.TcCoe Idealize.SL.Sem
open Cert.Kernel12 Cert.Kernel12.Gen

set_option backward.proofsInPublic true in
/-- The table that holds device `d`'s number. -/
def held (d : Fin 8) : pre0.Contents (Elt Bits) :=
  fun | ⟨0, _⟩ => fun _ => BitVec.ofNat 32 d.val | ⟨_ + 1, h⟩ => absurd h (by simp)

theorem ok_held : ∀ d : Fin 8, ok0 (F := Bits) (held d) := by decide +kernel

theorem ok_of_word (m : (ℓ : Loc nD τ sig) → Buf (Elt Bits) ℓ) (d : Fin 8)
    (h : m ((0 : Dev nD) |>.tc.loc main_arg5) = fun _ => BitVec.ofNat 32 d.val) : Ok m := by
  have e : tbl m = held d := by
    funext j
    match j with
    | ⟨0, _⟩ => exact h
  unfold Ok
  rw [e]
  exact ok_held d

end Cert.AdamDown.Words

namespace Cert.AdamDown

open Idealize.ShloMosaic Idealize.ShloMosaic.TcCoe Idealize.SL.Sem
open Cert.Kernel12Ideal Cert.Kernel12Ideal.Gen Cert.AdamSpec

/-- The precondition says that the table holds a device's number. -/
theorem device_of_fn {F : FTy → Type} [FloatOps F] (x0 x1 x2 x3 x4) (x5 : IVec Pre_device12.S1 32)
    (h : Pre_device12.fn (F := F) x0 x1 x2 x3 x4 x5 = fun _ => 1#1) : ∃ d : Fin 8, x5 = fun _ => BitVec.ofNat 32 d.val :=
  table_device x5 (congrFun h (ValueIdx.ix1 0))

set_option backward.proofsInPublic true in
/-- The table that holds device `d`'s number. -/
def held (d : Fin 8) : pre0.Contents (Elt Ideal) :=
  fun | ⟨0, _⟩ => fun _ => BitVec.ofNat 32 d.val | ⟨_ + 1, h⟩ => absurd h (by simp)

theorem ok_held : ∀ d : Fin 8, ok0 (F := Ideal) (held d) := by decide +kernel

theorem idx_held : ∀ (d : Fin 8) (t : Fin grid0.N),
    ix0 (F := Ideal) (held d) 0 (grid0.coords t) = ![d.val, t.val, 0]
    ∧ ix0 (F := Ideal) (held d) 1 (grid0.coords t) = ![(peer d 2).val, t.val, 0]
    ∧ ix0 (F := Ideal) (held d) 2 (grid0.coords t) = ![(peer d 4).val, t.val, 0]
    ∧ ix0 (F := Ideal) (held d) 3 (grid0.coords t) = ![(peer d 6).val, t.val, 0]
    ∧ ix0 (F := Ideal) (held d) 4 (grid0.coords t) = ![t.val, 0]
    ∧ ix0 (F := Ideal) (held d) 5 (grid0.coords t) = ![t.val, 0]
    ∧ ix0 (F := Ideal) (held d) 6 (grid0.coords t) = ![t.val, 0]
    ∧ ix0 (F := Ideal) (held d) 7 (grid0.coords t) = ![t.val, 0]
    ∧ ix0 (F := Ideal) (held d) 8 (grid0.coords t) = ![t.val, 0]
    ∧ ix0 (F := Ideal) (held d) 9 (grid0.coords t) = ![t.val, 0]
    ∧ ix0 (F := Ideal) (held d) 10 (grid0.coords t) = ![t.val, 0] := by decide +kernel
theorem cov_held7 : ((cfg0 (F := Ideal) ⟨held 0, ok_held 0⟩).win 7).Covers := by decide +kernel
theorem cov_held8 : ((cfg0 (F := Ideal) ⟨held 0, ok_held 0⟩).win 8).Covers := by decide +kernel
theorem cov_held9 : ((cfg0 (F := Ideal) ⟨held 0, ok_held 0⟩).win 9).Covers := by decide +kernel
theorem cov_held10 : ((cfg0 (F := Ideal) ⟨held 0, ok_held 0⟩).win 10).Covers := by decide +kernel
theorem cov7 (a : (pcfg0 (F := Ideal)).Adm) : ((cfg0 a).win 7).Covers := cov_held7
theorem cov8 (a : (pcfg0 (F := Ideal)).Adm) : ((cfg0 a).win 8).Covers := cov_held8
theorem cov9 (a : (pcfg0 (F := Ideal)).Adm) : ((cfg0 a).win 9).Covers := cov_held9
theorem cov10 (a : (pcfg0 (F := Ideal)).Adm) : ((cfg0 a).win 10).Covers := cov_held10

variable (m : (ℓ : Loc nD τ sig) → Buf (Elt Ideal) ℓ)

theorem tbl_of_word (d : Fin 8) (h : m ((0 : Dev nD) |>.tc.loc main_arg5) = fun _ => BitVec.ofNat 32 d.val) : tbl m = held d := by
  funext j
  match j with
  | ⟨0, _⟩ => exact h
theorem ok_of_word (d : Fin 8) (h : m ((0 : Dev nD) |>.tc.loc main_arg5) = fun _ => BitVec.ofNat 32 d.val) : Ok m := by
  unfold Ok
  rw [tbl_of_word m d h]
  exact ok_held d

variable (hO : Ok m) (c : Dev nD) (t : Fin (cfgM m hO).N)

/-! ## What one grid point leaves -/

abbrev b0 : Vec Ideal S1x176x1024 .bf16 := iblk m hO c 0 t
abbrev b1 : Vec Ideal S1x176x1024 .bf16 := iblk m hO c 1 t
abbrev b2 : Vec Ideal S1x176x1024 .bf16 := iblk m hO c 2 t
abbrev b3 : Vec Ideal S1x176x1024 .bf16 := iblk m hO c 3 t
abbrev b4 : Vec Ideal S176x1024 .f32 := iblk m hO c 4 t
abbrev b5 : Vec Ideal S176x1024 .f32 := iblk m hO c 5 t
abbrev b6 : Vec Ideal S176x1024 .f32 := iblk m hO c 6 t

abbrev delta_pay (p0 p1 p2 p3 : Vec Ideal S1x176x1024 .bf16) (w m v : Vec Ideal S176x1024 .f32) : FVec Ideal S176x1024 .f32 :=
  k0_pay1 w (k0_pay4 p0 p1 p2 p3 v) (k0_pay5 p0 p1 p2 p3 m) (FloatOps.ofBits .f32 0x3C231ACC#32)
theorem g_congr {p0 p1 p2 p3 q0 q1 q2 q3 : Vec Ideal S1x176x1024 .bf16}
    (hp0 : p0 = q0) (hp1 : p1 = q1) (hp2 : p2 = q2) (hp3 : p3 = q3) :
    k0_pay2 (F := Ideal) p0 p1 p2 p3 = k0_pay2 (F := Ideal) q0 q1 q2 q3 := by
  cases hp0; cases hp1; cases hp2; cases hp3; rfl
theorem m_congr {p0 p1 p2 p3 q0 q1 q2 q3 : Vec Ideal S1x176x1024 .bf16} {x0 y0 : Vec Ideal S176x1024 .f32}
    (hp0 : p0 = q0) (hp1 : p1 = q1) (hp2 : p2 = q2) (hp3 : p3 = q3) (hx0 : x0 = y0) :
    k0_pay3 (F := Ideal) p0 p1 p2 p3 x0 = k0_pay3 (F := Ideal) q0 q1 q2 q3 y0 := by
  cases hp0; cases hp1; cases hp2; cases hp3; cases hx0; rfl
theorem v_congr {p0 p1 p2 p3 q0 q1 q2 q3 : Vec Ideal S1x176x1024 .bf16} {x0 y0 : Vec Ideal S176x1024 .f32}
    (hp0 : p0 = q0) (hp1 : p1 = q1) (hp2 : p2 = q2) (hp3 : p3 = q3) (hx0 : x0 = y0) :
    k0_pay4 (F := Ideal) p0 p1 p2 p3 x0 = k0_pay4 (F := Ideal) q0 q1 q2 q3 y0 := by
  cases hp0; cases hp1; cases hp2; cases hp3; cases hx0; rfl
theorem d_congr {p0 p1 p2 p3 q0 q1 q2 q3 : Vec Ideal S1x176x1024 .bf16} {x0 x1 x2 y0 y1 y2 : Vec Ideal S176x1024 .f32}
    (hp0 : p0 = q0) (hp1 : p1 = q1) (hp2 : p2 = q2) (hp3 : p3 = q3) (hx0 : x0 = y0) (hx1 : x1 = y1) (hx2 : x2 = y2) :
    delta_pay p0 p1 p2 p3 x0 x1 x2 = delta_pay q0 q1 q2 q3 y0 y1 y2 := by
  cases hp0; cases hp1; cases hp2; cases hp3; cases hx0; cases hx1; cases hx2; rfl
theorem g_point : (outsAt0 m hO c t).1 = k0_pay2 (b0 m hO c t) (b1 m hO c t) (b2 m hO c t) (b3 m hO c t) := by
  unfold outsAt0
  frame_out
  exact g_congr ((hs0_0 m hO t).read_unread _) ((hs0_1 m hO t).read_unread _) ((hs0_2 m hO t).read_unread _) ((hs0_3 m hO t).read_unread _)
theorem d_point : (outsAt0 m hO c t).2.1 = delta_pay (b0 m hO c t) (b1 m hO c t) (b2 m hO c t) (b3 m hO c t) (b4 m hO c t) (b5 m hO c t) (b6 m hO c t) := by
  unfold outsAt0
  frame_out
  exact d_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _)
theorem m_point : (outsAt0 m hO c t).2.2.1 = k0_pay3 (b0 m hO c t) (b1 m hO c t) (b2 m hO c t) (b3 m hO c t) (b5 m hO c t) := by
  unfold outsAt0
  frame_out
  exact m_congr ((hs0_0 m hO t).read_unread _) ((hs0_1 m hO t).read_unread _) ((hs0_2 m hO t).read_unread _) ((hs0_3 m hO t).read_unread _) ((hs0_5 m hO t).read_unread _)
theorem v_point : (outsAt0 m hO c t).2.2.2 = k0_pay4 (b0 m hO c t) (b1 m hO c t) (b2 m hO c t) (b3 m hO c t) (b6 m hO c t) := by
  unfold outsAt0
  frame_out
  exact v_congr ((hs0_0 m hO t).read_unread _) ((hs0_1 m hO t).read_unread _) ((hs0_2 m hO t).read_unread _) ((hs0_3 m hO t).read_unread _) ((hs0_6 m hO t).read_unread _)

/-! ## The payloads, read at an index -/

variable (p0 p1 p2 p3 : Vec Ideal S1x176x1024 .bf16) (w1 m1 v1 : Vec Ideal S176x1024 .f32) (i : Fin 176) (j : Fin 1024)

abbrev total : EReal := (p0 (ix3 0 i j) : EReal) + (p1 (ix3 0 i j) : EReal) + (p2 (ix3 0 i j) : EReal) + (p3 (ix3 0 i j) : EReal)

theorem g_apply : k0_pay2 (F := Ideal) p0 p1 p2 p3 (ix2 i j) = total p0 p1 p2 p3 i j := by pointwise [k0_pay2, total]
theorem m_apply : k0_pay3 (F := Ideal) p0 p1 p2 p3 m1 (ix2 i j) = first (total p0 p1 p2 p3 i j) (m1 (ix2 i j)) := by
  rw [← g_apply]; rfl
theorem v_apply : k0_pay4 (F := Ideal) p0 p1 p2 p3 v1 (ix2 i j) = second (total p0 p1 p2 p3 i j) (v1 (ix2 i j)) := by
  rw [← g_apply]; rfl
theorem d_apply : delta_pay p0 p1 p2 p3 w1 m1 v1 (ix2 i j)
    = change (total p0 p1 p2 p3 i j) (w1 (ix2 i j)) (m1 (ix2 i j)) (v1 (ix2 i j)) := by
  rw [← g_apply]; rfl

/-! ## Where the blocks lie -/

theorem lt_points (t : Fin (cfgM m hO).N) : t.val < 2 := t.isLt
/-- Row `i` of point `t`'s blocks is this row of the arrays. -/
def at' (t : Fin (cfgM m hO).N) (i : Fin 176) : Fin 352 := ⟨t.val * 176 + i.val, by have := lt_points m hO t; omega⟩

variable (d : Fin 8) (hd : tbl m = held d)
include hd

theorem index_eq : ((cfgM m hO).win 0).index t = ![d.val, t.val, 0] ∧ ((cfgM m hO).win 1).index t = ![(peer d 2).val, t.val, 0] ∧ ((cfgM m hO).win 2).index t = ![(peer d 4).val, t.val, 0] ∧ ((cfgM m hO).win 3).index t = ![(peer d 6).val, t.val, 0] ∧ ((cfgM m hO).win 4).index t = ![t.val, 0] ∧ ((cfgM m hO).win 5).index t = ![t.val, 0] ∧ ((cfgM m hO).win 6).index t = ![t.val, 0] ∧ ((cfgM m hO).win 7).index t = ![t.val, 0] ∧ ((cfgM m hO).win 8).index t = ![t.val, 0] ∧ ((cfgM m hO).win 9).index t = ![t.val, 0] ∧ ((cfgM m hO).win 10).index t = ![t.val, 0] := by
  have e := idx_held d t
  rw [← hd] at e
  exact e

theorem read0 : b0 m hO c t (ix3 0 i j) = m ((c : Thread nD τ).loc main_arg1) (ix3 d (at' m hO t i) j) := by
  have e := (index_eq m hO t d hd).1
  refine congrArg (m ((c : Thread nD τ).loc main_arg1)) (funext fun (a : Fin 3) => Fin.ext ?_)
  refine (Pipeline.Window.rect_emb_val ((cfgM m hO).win 0) t (ix3 0 i j) a).trans ?_
  rw [e]
  match a with
  | 0 => exact Nat.mul_one _
  | 1 => rfl
  | 2 => exact (congrArg (· + j.val) (Nat.zero_mul _)).trans (Nat.zero_add _)
theorem read1 : b1 m hO c t (ix3 0 i j) = m ((c : Thread nD τ).loc main_arg0) (ix3 (peer d 2) (at' m hO t i) j) := by
  have e := (index_eq m hO t d hd).2.1
  refine congrArg (m ((c : Thread nD τ).loc main_arg0)) (funext fun (a : Fin 3) => Fin.ext ?_)
  refine (Pipeline.Window.rect_emb_val ((cfgM m hO).win 1) t (ix3 0 i j) a).trans ?_
  rw [e]
  match a with
  | 0 => exact Nat.mul_one _
  | 1 => rfl
  | 2 => exact (congrArg (· + j.val) (Nat.zero_mul _)).trans (Nat.zero_add _)
theorem read2 : b2 m hO c t (ix3 0 i j) = m ((c : Thread nD τ).loc main_arg0) (ix3 (peer d 4) (at' m hO t i) j) := by
  have e := (index_eq m hO t d hd).2.2.1
  refine congrArg (m ((c : Thread nD τ).loc main_arg0)) (funext fun (a : Fin 3) => Fin.ext ?_)
  refine (Pipeline.Window.rect_emb_val ((cfgM m hO).win 2) t (ix3 0 i j) a).trans ?_
  rw [e]
  match a with
  | 0 => exact Nat.mul_one _
  | 1 => rfl
  | 2 => exact (congrArg (· + j.val) (Nat.zero_mul _)).trans (Nat.zero_add _)
theorem read3 : b3 m hO c t (ix3 0 i j) = m ((c : Thread nD τ).loc main_arg0) (ix3 (peer d 6) (at' m hO t i) j) := by
  have e := (index_eq m hO t d hd).2.2.2.1
  refine congrArg (m ((c : Thread nD τ).loc main_arg0)) (funext fun (a : Fin 3) => Fin.ext ?_)
  refine (Pipeline.Window.rect_emb_val ((cfgM m hO).win 3) t (ix3 0 i j) a).trans ?_
  rw [e]
  match a with
  | 0 => exact Nat.mul_one _
  | 1 => rfl
  | 2 => exact (congrArg (· + j.val) (Nat.zero_mul _)).trans (Nat.zero_add _)
theorem read4 : b4 m hO c t (ix2 i j) = m ((c : Thread nD τ).loc main_arg2) (ix2 (at' m hO t i) j) := by
  have e := (index_eq m hO t d hd).2.2.2.2.1
  refine congrArg (m ((c : Thread nD τ).loc main_arg2)) (funext fun (a : Fin 2) => Fin.ext ?_)
  refine (Pipeline.Window.rect_emb_val ((cfgM m hO).win 4) t (ix2 i j) a).trans ?_
  rw [e]
  match a with
  | 0 => rfl
  | 1 => exact (congrArg (· + j.val) (Nat.zero_mul _)).trans (Nat.zero_add _)
theorem read5 : b5 m hO c t (ix2 i j) = m ((c : Thread nD τ).loc main_arg3) (ix2 (at' m hO t i) j) := by
  have e := (index_eq m hO t d hd).2.2.2.2.2.1
  refine congrArg (m ((c : Thread nD τ).loc main_arg3)) (funext fun (a : Fin 2) => Fin.ext ?_)
  refine (Pipeline.Window.rect_emb_val ((cfgM m hO).win 5) t (ix2 i j) a).trans ?_
  rw [e]
  match a with
  | 0 => rfl
  | 1 => exact (congrArg (· + j.val) (Nat.zero_mul _)).trans (Nat.zero_add _)
theorem read6 : b6 m hO c t (ix2 i j) = m ((c : Thread nD τ).loc main_arg4) (ix2 (at' m hO t i) j) := by
  have e := (index_eq m hO t d hd).2.2.2.2.2.2.1
  refine congrArg (m ((c : Thread nD τ).loc main_arg4)) (funext fun (a : Fin 2) => Fin.ext ?_)
  refine (Pipeline.Window.rect_emb_val ((cfgM m hO).win 6) t (ix2 i j) a).trans ?_
  rw [e]
  match a with
  | 0 => rfl
  | 1 => exact (congrArg (· + j.val) (Nat.zero_mul _)).trans (Nat.zero_add _)
theorem place7 : (((cfgM m hO).win 7).blk t).view.emb (ix2 i j) = (ix2 (at' m hO t i) j : S352x1024.Idx) := by
  have e := (index_eq m hO t d hd).2.2.2.2.2.2.2.1
  refine funext fun (a : Fin 2) => Fin.ext ?_
  refine (Pipeline.Window.rect_emb_val ((cfgM m hO).win 7) t (ix2 i j) a).trans ?_
  rw [e]
  match a with
  | 0 => rfl
  | 1 => exact (congrArg (· + j.val) (Nat.zero_mul _)).trans (Nat.zero_add _)
theorem place8 : (((cfgM m hO).win 8).blk t).view.emb (ix2 i j) = (ix2 (at' m hO t i) j : S352x1024.Idx) := by
  have e := (index_eq m hO t d hd).2.2.2.2.2.2.2.2.1
  refine funext fun (a : Fin 2) => Fin.ext ?_
  refine (Pipeline.Window.rect_emb_val ((cfgM m hO).win 8) t (ix2 i j) a).trans ?_
  rw [e]
  match a with
  | 0 => rfl
  | 1 => exact (congrArg (· + j.val) (Nat.zero_mul _)).trans (Nat.zero_add _)
theorem place9 : (((cfgM m hO).win 9).blk t).view.emb (ix2 i j) = (ix2 (at' m hO t i) j : S352x1024.Idx) := by
  have e := (index_eq m hO t d hd).2.2.2.2.2.2.2.2.2.1
  refine funext fun (a : Fin 2) => Fin.ext ?_
  refine (Pipeline.Window.rect_emb_val ((cfgM m hO).win 9) t (ix2 i j) a).trans ?_
  rw [e]
  match a with
  | 0 => rfl
  | 1 => exact (congrArg (· + j.val) (Nat.zero_mul _)).trans (Nat.zero_add _)
theorem place10 : (((cfgM m hO).win 10).blk t).view.emb (ix2 i j) = (ix2 (at' m hO t i) j : S352x1024.Idx) := by
  have e := (index_eq m hO t d hd).2.2.2.2.2.2.2.2.2.2
  refine funext fun (a : Fin 2) => Fin.ext ?_
  refine (Pipeline.Window.rect_emb_val ((cfgM m hO).win 10) t (ix2 i j) a).trans ?_
  rw [e]
  match a with
  | 0 => rfl
  | 1 => exact (congrArg (· + j.val) (Nat.zero_mul _)).trans (Nat.zero_add _)

omit hd

/-! ## The arrays -/

abbrev Shares := FVec Ideal ⟨3, ![8, 352, 1024]⟩ .bf16
abbrev Weight := FVec Ideal ⟨2, ![352, 1024]⟩ .f32

/-- The gradient: the sum of the shares. -/
def grad (d : Fin 8) (L P : Shares) : Weight := fun y => P (ix3 d (y 0) (y 1)) + L (ix3 (peer d 2) (y 0) (y 1)) + L (ix3 (peer d 4) (y 0) (y 1)) + L (ix3 (peer d 6) (y 0) (y 1))
def moment1 (d : Fin 8) (L P : Shares) (m : Weight) : Weight := fun y => first (grad d L P y) (m y)
def moment2 (d : Fin 8) (L P : Shares) (v : Weight) : Weight := fun y => second (grad d L P y) (v y)
def delta (d : Fin 8) (L P : Shares) (w m v : Weight) : Weight := fun y => change (grad d L P y) (w y) (m y) (v y)

abbrev aL : Shares := m ((c : Thread nD τ).loc main_arg0)
abbrev aP : Shares := m ((c : Thread nD τ).loc main_arg1)
abbrev aw : Weight := m ((c : Thread nD τ).loc main_arg2)
abbrev am : Weight := m ((c : Thread nD τ).loc main_arg3)
abbrev av : Weight := m ((c : Thread nD τ).loc main_arg4)

include hd

theorem total_eq : total (b0 m hO c t) (b1 m hO c t) (b2 m hO c t) (b3 m hO c t) i j = grad d (aL m c) (aP m c) (ix2 (at' m hO t i) j) := by
  show (b0 m hO c t (ix3 0 i j) : EReal) + (b1 m hO c t (ix3 0 i j) : EReal) + (b2 m hO c t (ix3 0 i j) : EReal) + (b3 m hO c t (ix3 0 i j) : EReal) = _
  rw [read0 m hO c t i j d hd, read1 m hO c t i j d hd, read2 m hO c t i j d hd, read3 m hO c t i j d hd]
  rfl
theorem arr7 : (dats m hO 0 c).arrAt 7 (cfgM m hO).N = grad d (aL m c) (aP m c) := by
  refine (dats m hO 0 c).arrAt_eq_of_covers 7 _ (cov7 _) fun t _ y => ?_
  blk_simp
  rw [after0_7, g_point]
  have h : ∀ y : S176x1024.Idx, k0_pay2 (b0 m hO c t) (b1 m hO c t) (b2 m hO c t) (b3 m hO c t) y = grad d (aL m c) (aP m c) (((((cfgM m hO).win 7).blk t).view.emb y : S352x1024.Idx)) := fun y => by
    obtain ⟨i, j, rfl⟩ : ∃ (i : Fin 176) (j : Fin 1024), y = ix2 i j := ⟨y 0, y 1, eq_ix2 y⟩
    refine (g_apply ..).trans ?_
    rw [total_eq m hO c t _ _ d hd]
    exact congrArg (grad d (aL m c) (aP m c)) (place7 m hO t _ _ d hd).symm
  exact h y
theorem arr8 : (dats m hO 0 c).arrAt 8 (cfgM m hO).N = delta d (aL m c) (aP m c) (aw m c) (am m c) (av m c) := by
  refine (dats m hO 0 c).arrAt_eq_of_covers 8 _ (cov8 _) fun t _ y => ?_
  blk_simp
  rw [after0_8, d_point]
  have h : ∀ y : S176x1024.Idx, delta_pay (b0 m hO c t) (b1 m hO c t) (b2 m hO c t) (b3 m hO c t) (b4 m hO c t) (b5 m hO c t) (b6 m hO c t) y = delta d (aL m c) (aP m c) (aw m c) (am m c) (av m c) (((((cfgM m hO).win 8).blk t).view.emb y : S352x1024.Idx)) := fun y => by
    obtain ⟨i, j, rfl⟩ : ∃ (i : Fin 176) (j : Fin 1024), y = ix2 i j := ⟨y 0, y 1, eq_ix2 y⟩
    refine (d_apply ..).trans ?_
    rw [total_eq m hO c t _ _ d hd, read4 m hO c t _ _ d hd, read5 m hO c t _ _ d hd, read6 m hO c t _ _ d hd]
    exact congrArg (delta d (aL m c) (aP m c) (aw m c) (am m c) (av m c)) (place8 m hO t _ _ d hd).symm
  exact h y
theorem arr9 : (dats m hO 0 c).arrAt 9 (cfgM m hO).N = moment1 d (aL m c) (aP m c) (am m c) := by
  refine (dats m hO 0 c).arrAt_eq_of_covers 9 _ (cov9 _) fun t _ y => ?_
  blk_simp
  rw [after0_9, m_point]
  have h : ∀ y : S176x1024.Idx, k0_pay3 (b0 m hO c t) (b1 m hO c t) (b2 m hO c t) (b3 m hO c t) (b5 m hO c t) y = moment1 d (aL m c) (aP m c) (am m c) (((((cfgM m hO).win 9).blk t).view.emb y : S352x1024.Idx)) := fun y => by
    obtain ⟨i, j, rfl⟩ : ∃ (i : Fin 176) (j : Fin 1024), y = ix2 i j := ⟨y 0, y 1, eq_ix2 y⟩
    refine (m_apply ..).trans ?_
    rw [total_eq m hO c t _ _ d hd, read5 m hO c t _ _ d hd]
    exact congrArg (moment1 d (aL m c) (aP m c) (am m c)) (place9 m hO t _ _ d hd).symm
  exact h y
theorem arr10 : (dats m hO 0 c).arrAt 10 (cfgM m hO).N = moment2 d (aL m c) (aP m c) (av m c) := by
  refine (dats m hO 0 c).arrAt_eq_of_covers 10 _ (cov10 _) fun t _ y => ?_
  blk_simp
  rw [after0_10, v_point]
  have h : ∀ y : S176x1024.Idx, k0_pay4 (b0 m hO c t) (b1 m hO c t) (b2 m hO c t) (b3 m hO c t) (b6 m hO c t) y = moment2 d (aL m c) (aP m c) (av m c) (((((cfgM m hO).win 10).blk t).view.emb y : S352x1024.Idx)) := fun y => by
    obtain ⟨i, j, rfl⟩ : ∃ (i : Fin 176) (j : Fin 1024), y = ix2 i j := ⟨y 0, y 1, eq_ix2 y⟩
    refine (v_apply ..).trans ?_
    rw [total_eq m hO c t _ _ d hd, read6 m hO c t _ _ d hd]
    exact congrArg (moment2 d (aL m c) (aP m c) (av m c)) (place10 m hO t _ _ d hd).symm
  exact h y

/-! ## The run -/

theorem run (ρ : Dev nD → PrngReg) : θ_run defs (onTc (τ := τ) (main (F := Ideal))) ⟨m, fun _ => 0, ρ⟩ fun r => ∀ c : Dev nD,
      r.2.mem ((c : Thread nD τ).loc main_v0_0) = grad d (aL m c) (aP m c)
      ∧ r.2.mem ((c : Thread nD τ).loc main_v0_1) = delta d (aL m c) (aP m c) (aw m c) (am m c) (av m c)
      ∧ r.2.mem ((c : Thread nD τ).loc main_v0_2) = moment1 d (aL m c) (aP m c) (am m c)
      ∧ r.2.mem ((c : Thread nD τ).loc main_v0_3) = moment2 d (aL m c) (aP m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  have hO : Ok m := by unfold Ok; rw [hd]; exact ok_held d
  (θ_run defs _ _).mono (fun _ h c => ⟨((h c).1 7).trans (arr7 m hO c d hd),
      ((h c).1 8).trans (arr8 m hO c d hd),
      ((h c).1 9).trans (arr9 m hO c d hd),
      ((h c).1 10).trans (arr10 m hO c d hd),
      ((h c).1 3).trans (((dats m hO 0 c).arrAt_in 3 rfl _).trans ((A_eq m hO c 3).trans (V_main_arg0 m c))),
      ((h c).1 0).trans (((dats m hO 0 c).arrAt_in 0 rfl _).trans ((A_eq m hO c 0).trans (V_main_arg1 m c))),
      ((h c).1 4).trans (((dats m hO 0 c).arrAt_in 4 rfl _).trans ((A_eq m hO c 4).trans (V_main_arg2 m c))),
      ((h c).1 5).trans (((dats m hO 0 c).arrAt_in 5 rfl _).trans ((A_eq m hO c 5).trans (V_main_arg3 m c))),
      ((h c).1 6).trans (((dats m hO 0 c).arrAt_in 6 rfl _).trans ((A_eq m hO c 6).trans (V_main_arg4 m c))),
      ((h c).2 main_arg5 (by decide : main_arg5 ∈ Pipeline.restRefs sig spec0)).trans (V_main_arg5 m c)⟩) (run_main m ρ hO)

omit hd

/-! ## The reference -/

section
open Cert.Reference12Ideal.Read

variable (L P : Shares) (w0 m0 v0 : Weight)

abbrev me (d : Fin 8) : (⟨1, ![1]⟩ : Shape).Idx → BitVec 32 := fun _ => BitVec.ofNat 32 d.val

theorem term_eq (i : Fin 352) (j : Fin 1024) (k : Fin 8) :
    val_main_v13 (F := Ideal) L P (me d) (ix3 k i j) = share d k (P (ix3 k i j)) (L (ix3 k i j)) := by
  have z : (FloatOps.ofBits (F := Ideal) .f32 0x00000000#32 : EReal) = 0 := Ideal.ofBits_zero_f32
  show Scalar.select _ (mine d k (P (ix3 k i j)) (L (ix3 k i j))) (FloatOps.ofBits (F := Ideal) .f32 0x00000000#32 : EReal) = _
  rw [z]
  rfl
theorem grad_ref : val_main_v14 (F := Ideal) L P (me d) = grad d L P := by
  funext y
  have z : (FloatOps.ofBits (F := Ideal) .f32 0x00000000#32 : EReal) = 0 := Ideal.ofBits_zero_f32
  refine (val_main_v14_apply L P (me d) y).trans ?_
  refine (congrArg₂ (fun a b : EReal => a + b) z (Finset.sum_congr rfl fun k _ => ?_)).trans
    ((zero_add _).trans (sum_share d (fun k => P (ix3 k (y 0 : Fin 352) (y 1 : Fin 1024))) (fun k => L (ix3 k (y 0 : Fin 352) (y 1 : Fin 1024)))))
  have e : idx_main_v14 y k = ix3 k (y 0 : Fin 352) (y 1 : Fin 1024) := funext fun a => Fin.ext (by
    match a with
    | 0 => rfl
    | 1 => rfl
    | 2 => rfl)
  exact (congrArg _ e).trans (term_eq d L P _ _ k)
theorem moment1_ref : val_main_v19 (F := Ideal) L P m0 (me d) = moment1 d L P m0 := by
  unfold moment1; rw [← grad_ref]; rfl
theorem moment2_ref : val_main_v25 (F := Ideal) L P v0 (me d) = moment2 d L P v0 := by
  unfold moment2; rw [← grad_ref]; rfl
theorem delta_ref : val_main_v38 (F := Ideal) L P w0 m0 v0 (me d) = delta d L P w0 m0 v0 := by
  unfold delta
  rw [← grad_ref]
  funext y
  simp only [val_main_v38_apply, val_main_v37_apply, val_main_cst_10_apply, val_main_v36_apply, val_main_v35_apply, val_main_v34_apply, val_main_cst_9_apply, val_main_v33_apply, val_main_v32_apply, val_main_v31_apply, val_main_cst_8_apply, val_main_v30_apply, val_main_v29_apply, val_main_v28_apply, val_main_cst_7_apply, val_main_v27_apply, val_main_v26_apply, val_main_cst_6_apply]
  rfl

end

end Cert.AdamDown

end
-- ==== Proof.AdamGateUp.lean ====
/- The optimiser's call for the first weight of the feed-forward block: what every grid point leaves in the blocks of the four
   results, what the result arrays hold at the end, for every number of a device; and the same of the reference. -/
module

public import proofs.«01_k».proof.Proof.InPoints
public import proofs.«01_k».proof.Proof.AdamSpec
public import proofs.«01_k».proof.Proof.Gen.Kernel13.Frame
public import proofs.«01_k».proof.Proof.Gen.Kernel13Ideal.Frame
public import proofs.«01_k».proof.Proof.Gen.Pre_device13
public import proofs.«01_k».proof.Proof.Gen.Reference13Ideal.Read

@[expose] public section

set_option maxRecDepth 16384

noncomputable section

/-! ## The blocks lie in the arrays, for every number of a device -/

namespace Cert.AdamGateUp.Words

open Idealize.ShloMosaic Idealize.ShloMosaic.TcCoe Idealize.SL.Sem
open Cert.Kernel13 Cert.Kernel13.Gen

set_option backward.proofsInPublic true in
/-- The table that holds device `d`'s number. -/
def held (d : Fin 8) : pre0.Contents (Elt Bits) :=
  fun | ⟨0, _⟩ => fun _ => BitVec.ofNat 32 d.val | ⟨_ + 1, h⟩ => absurd h (by simp)

theorem ok_held : ∀ d : Fin 8, ok0 (F := Bits) (held d) := by decide +kernel

theorem ok_of_word (m : (ℓ : Loc nD τ sig) → Buf (Elt Bits) ℓ) (d : Fin 8)
    (h : m ((0 : Dev nD) |>.tc.loc main_arg5) = fun _ => BitVec.ofNat 32 d.val) : Ok m := by
  have e : tbl m = held d := by
    funext j
    match j with
    | ⟨0, _⟩ => exact h
  unfold Ok
  rw [e]
  exact ok_held d

end Cert.AdamGateUp.Words

namespace Cert.AdamGateUp

open Idealize.ShloMosaic Idealize.ShloMosaic.TcCoe Idealize.SL.Sem
open Cert.Kernel13Ideal Cert.Kernel13Ideal.Gen Cert.AdamSpec

/-- The precondition says that the table holds a device's number. -/
theorem device_of_fn {F : FTy → Type} [FloatOps F] (x0 x1 x2 x3 x4) (x5 : IVec Pre_device13.S1 32)
    (h : Pre_device13.fn (F := F) x0 x1 x2 x3 x4 x5 = fun _ => 1#1) : ∃ d : Fin 8, x5 = fun _ => BitVec.ofNat 32 d.val :=
  table_device x5 (congrFun h (ValueIdx.ix1 0))

set_option backward.proofsInPublic true in
/-- The table that holds device `d`'s number. -/
def held (d : Fin 8) : pre0.Contents (Elt Ideal) :=
  fun | ⟨0, _⟩ => fun _ => BitVec.ofNat 32 d.val | ⟨_ + 1, h⟩ => absurd h (by simp)

theorem ok_held : ∀ d : Fin 8, ok0 (F := Ideal) (held d) := by decide +kernel

theorem idx_held : ∀ (d : Fin 8) (t : Fin grid0.N),
    ix0 (F := Ideal) (held d) 0 (grid0.coords t) = ![d.val, t.val, 0]
    ∧ ix0 (F := Ideal) (held d) 1 (grid0.coords t) = ![(peer d 2).val, t.val, 0]
    ∧ ix0 (F := Ideal) (held d) 2 (grid0.coords t) = ![(peer d 4).val, t.val, 0]
    ∧ ix0 (F := Ideal) (held d) 3 (grid0.coords t) = ![(peer d 6).val, t.val, 0]
    ∧ ix0 (F := Ideal) (held d) 4 (grid0.coords t) = ![t.val, 0]
    ∧ ix0 (F := Ideal) (held d) 5 (grid0.coords t) = ![t.val, 0]
    ∧ ix0 (F := Ideal) (held d) 6 (grid0.coords t) = ![t.val, 0]
    ∧ ix0 (F := Ideal) (held d) 7 (grid0.coords t) = ![t.val, 0]
    ∧ ix0 (F := Ideal) (held d) 8 (grid0.coords t) = ![t.val, 0]
    ∧ ix0 (F := Ideal) (held d) 9 (grid0.coords t) = ![t.val, 0]
    ∧ ix0 (F := Ideal) (held d) 10 (grid0.coords t) = ![t.val, 0] := by decide +kernel
theorem cov_held7 : ((cfg0 (F := Ideal) ⟨held 0, ok_held 0⟩).win 7).Covers := by decide +kernel
theorem cov_held8 : ((cfg0 (F := Ideal) ⟨held 0, ok_held 0⟩).win 8).Covers := by decide +kernel
theorem cov_held9 : ((cfg0 (F := Ideal) ⟨held 0, ok_held 0⟩).win 9).Covers := by decide +kernel
theorem cov_held10 : ((cfg0 (F := Ideal) ⟨held 0, ok_held 0⟩).win 10).Covers := by decide +kernel
theorem cov7 (a : (pcfg0 (F := Ideal)).Adm) : ((cfg0 a).win 7).Covers := cov_held7
theorem cov8 (a : (pcfg0 (F := Ideal)).Adm) : ((cfg0 a).win 8).Covers := cov_held8
theorem cov9 (a : (pcfg0 (F := Ideal)).Adm) : ((cfg0 a).win 9).Covers := cov_held9
theorem cov10 (a : (pcfg0 (F := Ideal)).Adm) : ((cfg0 a).win 10).Covers := cov_held10

variable (m : (ℓ : Loc nD τ sig) → Buf (Elt Ideal) ℓ)

theorem tbl_of_word (d : Fin 8) (h : m ((0 : Dev nD) |>.tc.loc main_arg5) = fun _ => BitVec.ofNat 32 d.val) : tbl m = held d := by
  funext j
  match j with
  | ⟨0, _⟩ => exact h
theorem ok_of_word (d : Fin 8) (h : m ((0 : Dev nD) |>.tc.loc main_arg5) = fun _ => BitVec.ofNat 32 d.val) : Ok m := by
  unfold Ok
  rw [tbl_of_word m d h]
  exact ok_held d

variable (hO : Ok m) (c : Dev nD) (t : Fin (cfgM m hO).N)

/-! ## What one grid point leaves -/

abbrev b0 : Vec Ideal S1x176x1024 .bf16 := iblk m hO c 0 t
abbrev b1 : Vec Ideal S1x176x1024 .bf16 := iblk m hO c 1 t
abbrev b2 : Vec Ideal S1x176x1024 .bf16 := iblk m hO c 2 t
abbrev b3 : Vec Ideal S1x176x1024 .bf16 := iblk m hO c 3 t
abbrev b4 : Vec Ideal S176x1024 .f32 := iblk m hO c 4 t
abbrev b5 : Vec Ideal S176x1024 .f32 := iblk m hO c 5 t
abbrev b6 : Vec Ideal S176x1024 .f32 := iblk m hO c 6 t

abbrev delta_pay (p0 p1 p2 p3 : Vec Ideal S1x176x1024 .bf16) (w m v : Vec Ideal S176x1024 .f32) : FVec Ideal S176x1024 .f32 :=
  k0_pay1 w (k0_pay4 p0 p1 p2 p3 v) (k0_pay5 p0 p1 p2 p3 m) (FloatOps.ofBits .f32 0x3C231ACC#32)
theorem g_congr {p0 p1 p2 p3 q0 q1 q2 q3 : Vec Ideal S1x176x1024 .bf16}
    (hp0 : p0 = q0) (hp1 : p1 = q1) (hp2 : p2 = q2) (hp3 : p3 = q3) :
    k0_pay2 (F := Ideal) p0 p1 p2 p3 = k0_pay2 (F := Ideal) q0 q1 q2 q3 := by
  cases hp0; cases hp1; cases hp2; cases hp3; rfl
theorem m_congr {p0 p1 p2 p3 q0 q1 q2 q3 : Vec Ideal S1x176x1024 .bf16} {x0 y0 : Vec Ideal S176x1024 .f32}
    (hp0 : p0 = q0) (hp1 : p1 = q1) (hp2 : p2 = q2) (hp3 : p3 = q3) (hx0 : x0 = y0) :
    k0_pay3 (F := Ideal) p0 p1 p2 p3 x0 = k0_pay3 (F := Ideal) q0 q1 q2 q3 y0 := by
  cases hp0; cases hp1; cases hp2; cases hp3; cases hx0; rfl
theorem v_congr {p0 p1 p2 p3 q0 q1 q2 q3 : Vec Ideal S1x176x1024 .bf16} {x0 y0 : Vec Ideal S176x1024 .f32}
    (hp0 : p0 = q0) (hp1 : p1 = q1) (hp2 : p2 = q2) (hp3 : p3 = q3) (hx0 : x0 = y0) :
    k0_pay4 (F := Ideal) p0 p1 p2 p3 x0 = k0_pay4 (F := Ideal) q0 q1 q2 q3 y0 := by
  cases hp0; cases hp1; cases hp2; cases hp3; cases hx0; rfl
theorem d_congr {p0 p1 p2 p3 q0 q1 q2 q3 : Vec Ideal S1x176x1024 .bf16} {x0 x1 x2 y0 y1 y2 : Vec Ideal S176x1024 .f32}
    (hp0 : p0 = q0) (hp1 : p1 = q1) (hp2 : p2 = q2) (hp3 : p3 = q3) (hx0 : x0 = y0) (hx1 : x1 = y1) (hx2 : x2 = y2) :
    delta_pay p0 p1 p2 p3 x0 x1 x2 = delta_pay q0 q1 q2 q3 y0 y1 y2 := by
  cases hp0; cases hp1; cases hp2; cases hp3; cases hx0; cases hx1; cases hx2; rfl
theorem g_point : (outsAt0 m hO c t).1 = k0_pay2 (b0 m hO c t) (b1 m hO c t) (b2 m hO c t) (b3 m hO c t) := by
  unfold outsAt0
  frame_out
  exact g_congr ((hs0_0 m hO t).read_unread _) ((hs0_1 m hO t).read_unread _) ((hs0_2 m hO t).read_unread _) ((hs0_3 m hO t).read_unread _)
theorem d_point : (outsAt0 m hO c t).2.1 = delta_pay (b0 m hO c t) (b1 m hO c t) (b2 m hO c t) (b3 m hO c t) (b4 m hO c t) (b5 m hO c t) (b6 m hO c t) := by
  unfold outsAt0
  frame_out
  exact d_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _)
theorem m_point : (outsAt0 m hO c t).2.2.1 = k0_pay3 (b0 m hO c t) (b1 m hO c t) (b2 m hO c t) (b3 m hO c t) (b5 m hO c t) := by
  unfold outsAt0
  frame_out
  exact m_congr ((hs0_0 m hO t).read_unread _) ((hs0_1 m hO t).read_unread _) ((hs0_2 m hO t).read_unread _) ((hs0_3 m hO t).read_unread _) ((hs0_5 m hO t).read_unread _)
theorem v_point : (outsAt0 m hO c t).2.2.2 = k0_pay4 (b0 m hO c t) (b1 m hO c t) (b2 m hO c t) (b3 m hO c t) (b6 m hO c t) := by
  unfold outsAt0
  frame_out
  exact v_congr ((hs0_0 m hO t).read_unread _) ((hs0_1 m hO t).read_unread _) ((hs0_2 m hO t).read_unread _) ((hs0_3 m hO t).read_unread _) ((hs0_6 m hO t).read_unread _)

/-! ## The payloads, read at an index -/

variable (p0 p1 p2 p3 : Vec Ideal S1x176x1024 .bf16) (w1 m1 v1 : Vec Ideal S176x1024 .f32) (i : Fin 176) (j : Fin 1024)

abbrev total : EReal := (p0 (ix3 0 i j) : EReal) + (p1 (ix3 0 i j) : EReal) + (p2 (ix3 0 i j) : EReal) + (p3 (ix3 0 i j) : EReal)

theorem g_apply : k0_pay2 (F := Ideal) p0 p1 p2 p3 (ix2 i j) = total p0 p1 p2 p3 i j := by pointwise [k0_pay2, total]
theorem m_apply : k0_pay3 (F := Ideal) p0 p1 p2 p3 m1 (ix2 i j) = first (total p0 p1 p2 p3 i j) (m1 (ix2 i j)) := by
  rw [← g_apply]; rfl
theorem v_apply : k0_pay4 (F := Ideal) p0 p1 p2 p3 v1 (ix2 i j) = second (total p0 p1 p2 p3 i j) (v1 (ix2 i j)) := by
  rw [← g_apply]; rfl
theorem d_apply : delta_pay p0 p1 p2 p3 w1 m1 v1 (ix2 i j)
    = change (total p0 p1 p2 p3 i j) (w1 (ix2 i j)) (m1 (ix2 i j)) (v1 (ix2 i j)) := by
  rw [← g_apply]; rfl

/-! ## Where the blocks lie -/

theorem lt_points (t : Fin (cfgM m hO).N) : t.val < 4 := t.isLt
/-- Row `i` of point `t`'s blocks is this row of the arrays. -/
def at' (t : Fin (cfgM m hO).N) (i : Fin 176) : Fin 704 := ⟨t.val * 176 + i.val, by have := lt_points m hO t; omega⟩

variable (d : Fin 8) (hd : tbl m = held d)
include hd

theorem index_eq : ((cfgM m hO).win 0).index t = ![d.val, t.val, 0] ∧ ((cfgM m hO).win 1).index t = ![(peer d 2).val, t.val, 0] ∧ ((cfgM m hO).win 2).index t = ![(peer d 4).val, t.val, 0] ∧ ((cfgM m hO).win 3).index t = ![(peer d 6).val, t.val, 0] ∧ ((cfgM m hO).win 4).index t = ![t.val, 0] ∧ ((cfgM m hO).win 5).index t = ![t.val, 0] ∧ ((cfgM m hO).win 6).index t = ![t.val, 0] ∧ ((cfgM m hO).win 7).index t = ![t.val, 0] ∧ ((cfgM m hO).win 8).index t = ![t.val, 0] ∧ ((cfgM m hO).win 9).index t = ![t.val, 0] ∧ ((cfgM m hO).win 10).index t = ![t.val, 0] := by
  have e := idx_held d t
  rw [← hd] at e
  exact e

theorem read0 : b0 m hO c t (ix3 0 i j) = m ((c : Thread nD τ).loc main_arg1) (ix3 d (at' m hO t i) j) := by
  have e := (index_eq m hO t d hd).1
  refine congrArg (m ((c : Thread nD τ).loc main_arg1)) (funext fun (a : Fin 3) => Fin.ext ?_)
  refine (Pipeline.Window.rect_emb_val ((cfgM m hO).win 0) t (ix3 0 i j) a).trans ?_
  rw [e]
  match a with
  | 0 => exact Nat.mul_one _
  | 1 => rfl
  | 2 => exact (congrArg (· + j.val) (Nat.zero_mul _)).trans (Nat.zero_add _)
theorem read1 : b1 m hO c t (ix3 0 i j) = m ((c : Thread nD τ).loc main_arg0) (ix3 (peer d 2) (at' m hO t i) j) := by
  have e := (index_eq m hO t d hd).2.1
  refine congrArg (m ((c : Thread nD τ).loc main_arg0)) (funext fun (a : Fin 3) => Fin.ext ?_)
  refine (Pipeline.Window.rect_emb_val ((cfgM m hO).win 1) t (ix3 0 i j) a).trans ?_
  rw [e]
  match a with
  | 0 => exact Nat.mul_one _
  | 1 => rfl
  | 2 => exact (congrArg (· + j.val) (Nat.zero_mul _)).trans (Nat.zero_add _)
theorem read2 : b2 m hO c t (ix3 0 i j) = m ((c : Thread nD τ).loc main_arg0) (ix3 (peer d 4) (at' m hO t i) j) := by
  have e := (index_eq m hO t d hd).2.2.1
  refine congrArg (m ((c : Thread nD τ).loc main_arg0)) (funext fun (a : Fin 3) => Fin.ext ?_)
  refine (Pipeline.Window.rect_emb_val ((cfgM m hO).win 2) t (ix3 0 i j) a).trans ?_
  rw [e]
  match a with
  | 0 => exact Nat.mul_one _
  | 1 => rfl
  | 2 => exact (congrArg (· + j.val) (Nat.zero_mul _)).trans (Nat.zero_add _)
theorem read3 : b3 m hO c t (ix3 0 i j) = m ((c : Thread nD τ).loc main_arg0) (ix3 (peer d 6) (at' m hO t i) j) := by
  have e := (index_eq m hO t d hd).2.2.2.1
  refine congrArg (m ((c : Thread nD τ).loc main_arg0)) (funext fun (a : Fin 3) => Fin.ext ?_)
  refine (Pipeline.Window.rect_emb_val ((cfgM m hO).win 3) t (ix3 0 i j) a).trans ?_
  rw [e]
  match a with
  | 0 => exact Nat.mul_one _
  | 1 => rfl
  | 2 => exact (congrArg (· + j.val) (Nat.zero_mul _)).trans (Nat.zero_add _)
theorem read4 : b4 m hO c t (ix2 i j) = m ((c : Thread nD τ).loc main_arg2) (ix2 (at' m hO t i) j) := by
  have e := (index_eq m hO t d hd).2.2.2.2.1
  refine congrArg (m ((c : Thread nD τ).loc main_arg2)) (funext fun (a : Fin 2) => Fin.ext ?_)
  refine (Pipeline.Window.rect_emb_val ((cfgM m hO).win 4) t (ix2 i j) a).trans ?_
  rw [e]
  match a with
  | 0 => rfl
  | 1 => exact (congrArg (· + j.val) (Nat.zero_mul _)).trans (Nat.zero_add _)
theorem read5 : b5 m hO c t (ix2 i j) = m ((c : Thread nD τ).loc main_arg3) (ix2 (at' m hO t i) j) := by
  have e := (index_eq m hO t d hd).2.2.2.2.2.1
  refine congrArg (m ((c : Thread nD τ).loc main_arg3)) (funext fun (a : Fin 2) => Fin.ext ?_)
  refine (Pipeline.Window.rect_emb_val ((cfgM m hO).win 5) t (ix2 i j) a).trans ?_
  rw [e]
  match a with
  | 0 => rfl
  | 1 => exact (congrArg (· + j.val) (Nat.zero_mul _)).trans (Nat.zero_add _)
theorem read6 : b6 m hO c t (ix2 i j) = m ((c : Thread nD τ).loc main_arg4) (ix2 (at' m hO t i) j) := by
  have e := (index_eq m hO t d hd).2.2.2.2.2.2.1
  refine congrArg (m ((c : Thread nD τ).loc main_arg4)) (funext fun (a : Fin 2) => Fin.ext ?_)
  refine (Pipeline.Window.rect_emb_val ((cfgM m hO).win 6) t (ix2 i j) a).trans ?_
  rw [e]
  match a with
  | 0 => rfl
  | 1 => exact (congrArg (· + j.val) (Nat.zero_mul _)).trans (Nat.zero_add _)
theorem place7 : (((cfgM m hO).win 7).blk t).view.emb (ix2 i j) = (ix2 (at' m hO t i) j : S704x1024.Idx) := by
  have e := (index_eq m hO t d hd).2.2.2.2.2.2.2.1
  refine funext fun (a : Fin 2) => Fin.ext ?_
  refine (Pipeline.Window.rect_emb_val ((cfgM m hO).win 7) t (ix2 i j) a).trans ?_
  rw [e]
  match a with
  | 0 => rfl
  | 1 => exact (congrArg (· + j.val) (Nat.zero_mul _)).trans (Nat.zero_add _)
theorem place8 : (((cfgM m hO).win 8).blk t).view.emb (ix2 i j) = (ix2 (at' m hO t i) j : S704x1024.Idx) := by
  have e := (index_eq m hO t d hd).2.2.2.2.2.2.2.2.1
  refine funext fun (a : Fin 2) => Fin.ext ?_
  refine (Pipeline.Window.rect_emb_val ((cfgM m hO).win 8) t (ix2 i j) a).trans ?_
  rw [e]
  match a with
  | 0 => rfl
  | 1 => exact (congrArg (· + j.val) (Nat.zero_mul _)).trans (Nat.zero_add _)
theorem place9 : (((cfgM m hO).win 9).blk t).view.emb (ix2 i j) = (ix2 (at' m hO t i) j : S704x1024.Idx) := by
  have e := (index_eq m hO t d hd).2.2.2.2.2.2.2.2.2.1
  refine funext fun (a : Fin 2) => Fin.ext ?_
  refine (Pipeline.Window.rect_emb_val ((cfgM m hO).win 9) t (ix2 i j) a).trans ?_
  rw [e]
  match a with
  | 0 => rfl
  | 1 => exact (congrArg (· + j.val) (Nat.zero_mul _)).trans (Nat.zero_add _)
theorem place10 : (((cfgM m hO).win 10).blk t).view.emb (ix2 i j) = (ix2 (at' m hO t i) j : S704x1024.Idx) := by
  have e := (index_eq m hO t d hd).2.2.2.2.2.2.2.2.2.2
  refine funext fun (a : Fin 2) => Fin.ext ?_
  refine (Pipeline.Window.rect_emb_val ((cfgM m hO).win 10) t (ix2 i j) a).trans ?_
  rw [e]
  match a with
  | 0 => rfl
  | 1 => exact (congrArg (· + j.val) (Nat.zero_mul _)).trans (Nat.zero_add _)

omit hd

/-! ## The arrays -/

abbrev Shares := FVec Ideal ⟨3, ![8, 704, 1024]⟩ .bf16
abbrev Weight := FVec Ideal ⟨2, ![704, 1024]⟩ .f32

/-- The gradient: the sum of the shares. -/
def grad (d : Fin 8) (L P : Shares) : Weight := fun y => P (ix3 d (y 0) (y 1)) + L (ix3 (peer d 2) (y 0) (y 1)) + L (ix3 (peer d 4) (y 0) (y 1)) + L (ix3 (peer d 6) (y 0) (y 1))
def moment1 (d : Fin 8) (L P : Shares) (m : Weight) : Weight := fun y => first (grad d L P y) (m y)
def moment2 (d : Fin 8) (L P : Shares) (v : Weight) : Weight := fun y => second (grad d L P y) (v y)
def delta (d : Fin 8) (L P : Shares) (w m v : Weight) : Weight := fun y => change (grad d L P y) (w y) (m y) (v y)

abbrev aL : Shares := m ((c : Thread nD τ).loc main_arg0)
abbrev aP : Shares := m ((c : Thread nD τ).loc main_arg1)
abbrev aw : Weight := m ((c : Thread nD τ).loc main_arg2)
abbrev am : Weight := m ((c : Thread nD τ).loc main_arg3)
abbrev av : Weight := m ((c : Thread nD τ).loc main_arg4)

include hd

theorem total_eq : total (b0 m hO c t) (b1 m hO c t) (b2 m hO c t) (b3 m hO c t) i j = grad d (aL m c) (aP m c) (ix2 (at' m hO t i) j) := by
  show (b0 m hO c t (ix3 0 i j) : EReal) + (b1 m hO c t (ix3 0 i j) : EReal) + (b2 m hO c t (ix3 0 i j) : EReal) + (b3 m hO c t (ix3 0 i j) : EReal) = _
  rw [read0 m hO c t i j d hd, read1 m hO c t i j d hd, read2 m hO c t i j d hd, read3 m hO c t i j d hd]
  rfl
theorem arr7 : (dats m hO 0 c).arrAt 7 (cfgM m hO).N = grad d (aL m c) (aP m c) := by
  refine (dats m hO 0 c).arrAt_eq_of_covers 7 _ (cov7 _) fun t _ y => ?_
  blk_simp
  rw [after0_7, g_point]
  have h : ∀ y : S176x1024.Idx, k0_pay2 (b0 m hO c t) (b1 m hO c t) (b2 m hO c t) (b3 m hO c t) y = grad d (aL m c) (aP m c) (((((cfgM m hO).win 7).blk t).view.emb y : S704x1024.Idx)) := fun y => by
    obtain ⟨i, j, rfl⟩ : ∃ (i : Fin 176) (j : Fin 1024), y = ix2 i j := ⟨y 0, y 1, eq_ix2 y⟩
    refine (g_apply ..).trans ?_
    rw [total_eq m hO c t _ _ d hd]
    exact congrArg (grad d (aL m c) (aP m c)) (place7 m hO t _ _ d hd).symm
  exact h y
theorem arr8 : (dats m hO 0 c).arrAt 8 (cfgM m hO).N = delta d (aL m c) (aP m c) (aw m c) (am m c) (av m c) := by
  refine (dats m hO 0 c).arrAt_eq_of_covers 8 _ (cov8 _) fun t _ y => ?_
  blk_simp
  rw [after0_8, d_point]
  have h : ∀ y : S176x1024.Idx, delta_pay (b0 m hO c t) (b1 m hO c t) (b2 m hO c t) (b3 m hO c t) (b4 m hO c t) (b5 m hO c t) (b6 m hO c t) y = delta d (aL m c) (aP m c) (aw m c) (am m c) (av m c) (((((cfgM m hO).win 8).blk t).view.emb y : S704x1024.Idx)) := fun y => by
    obtain ⟨i, j, rfl⟩ : ∃ (i : Fin 176) (j : Fin 1024), y = ix2 i j := ⟨y 0, y 1, eq_ix2 y⟩
    refine (d_apply ..).trans ?_
    rw [total_eq m hO c t _ _ d hd, read4 m hO c t _ _ d hd, read5 m hO c t _ _ d hd, read6 m hO c t _ _ d hd]
    exact congrArg (delta d (aL m c) (aP m c) (aw m c) (am m c) (av m c)) (place8 m hO t _ _ d hd).symm
  exact h y
theorem arr9 : (dats m hO 0 c).arrAt 9 (cfgM m hO).N = moment1 d (aL m c) (aP m c) (am m c) := by
  refine (dats m hO 0 c).arrAt_eq_of_covers 9 _ (cov9 _) fun t _ y => ?_
  blk_simp
  rw [after0_9, m_point]
  have h : ∀ y : S176x1024.Idx, k0_pay3 (b0 m hO c t) (b1 m hO c t) (b2 m hO c t) (b3 m hO c t) (b5 m hO c t) y = moment1 d (aL m c) (aP m c) (am m c) (((((cfgM m hO).win 9).blk t).view.emb y : S704x1024.Idx)) := fun y => by
    obtain ⟨i, j, rfl⟩ : ∃ (i : Fin 176) (j : Fin 1024), y = ix2 i j := ⟨y 0, y 1, eq_ix2 y⟩
    refine (m_apply ..).trans ?_
    rw [total_eq m hO c t _ _ d hd, read5 m hO c t _ _ d hd]
    exact congrArg (moment1 d (aL m c) (aP m c) (am m c)) (place9 m hO t _ _ d hd).symm
  exact h y
theorem arr10 : (dats m hO 0 c).arrAt 10 (cfgM m hO).N = moment2 d (aL m c) (aP m c) (av m c) := by
  refine (dats m hO 0 c).arrAt_eq_of_covers 10 _ (cov10 _) fun t _ y => ?_
  blk_simp
  rw [after0_10, v_point]
  have h : ∀ y : S176x1024.Idx, k0_pay4 (b0 m hO c t) (b1 m hO c t) (b2 m hO c t) (b3 m hO c t) (b6 m hO c t) y = moment2 d (aL m c) (aP m c) (av m c) (((((cfgM m hO).win 10).blk t).view.emb y : S704x1024.Idx)) := fun y => by
    obtain ⟨i, j, rfl⟩ : ∃ (i : Fin 176) (j : Fin 1024), y = ix2 i j := ⟨y 0, y 1, eq_ix2 y⟩
    refine (v_apply ..).trans ?_
    rw [total_eq m hO c t _ _ d hd, read6 m hO c t _ _ d hd]
    exact congrArg (moment2 d (aL m c) (aP m c) (av m c)) (place10 m hO t _ _ d hd).symm
  exact h y

/-! ## The run -/

theorem run (ρ : Dev nD → PrngReg) : θ_run defs (onTc (τ := τ) (main (F := Ideal))) ⟨m, fun _ => 0, ρ⟩ fun r => ∀ c : Dev nD,
      r.2.mem ((c : Thread nD τ).loc main_v0_0) = grad d (aL m c) (aP m c)
      ∧ r.2.mem ((c : Thread nD τ).loc main_v0_1) = delta d (aL m c) (aP m c) (aw m c) (am m c) (av m c)
      ∧ r.2.mem ((c : Thread nD τ).loc main_v0_2) = moment1 d (aL m c) (aP m c) (am m c)
      ∧ r.2.mem ((c : Thread nD τ).loc main_v0_3) = moment2 d (aL m c) (aP m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  have hO : Ok m := by unfold Ok; rw [hd]; exact ok_held d
  (θ_run defs _ _).mono (fun _ h c => ⟨((h c).1 7).trans (arr7 m hO c d hd),
      ((h c).1 8).trans (arr8 m hO c d hd),
      ((h c).1 9).trans (arr9 m hO c d hd),
      ((h c).1 10).trans (arr10 m hO c d hd),
      ((h c).1 3).trans (((dats m hO 0 c).arrAt_in 3 rfl _).trans ((A_eq m hO c 3).trans (V_main_arg0 m c))),
      ((h c).1 0).trans (((dats m hO 0 c).arrAt_in 0 rfl _).trans ((A_eq m hO c 0).trans (V_main_arg1 m c))),
      ((h c).1 4).trans (((dats m hO 0 c).arrAt_in 4 rfl _).trans ((A_eq m hO c 4).trans (V_main_arg2 m c))),
      ((h c).1 5).trans (((dats m hO 0 c).arrAt_in 5 rfl _).trans ((A_eq m hO c 5).trans (V_main_arg3 m c))),
      ((h c).1 6).trans (((dats m hO 0 c).arrAt_in 6 rfl _).trans ((A_eq m hO c 6).trans (V_main_arg4 m c))),
      ((h c).2 main_arg5 (by decide : main_arg5 ∈ Pipeline.restRefs sig spec0)).trans (V_main_arg5 m c)⟩) (run_main m ρ hO)

omit hd

/-! ## The reference -/

section
open Cert.Reference13Ideal.Read

variable (L P : Shares) (w0 m0 v0 : Weight)

abbrev me (d : Fin 8) : (⟨1, ![1]⟩ : Shape).Idx → BitVec 32 := fun _ => BitVec.ofNat 32 d.val

theorem term_eq (i : Fin 704) (j : Fin 1024) (k : Fin 8) :
    val_main_v13 (F := Ideal) L P (me d) (ix3 k i j) = share d k (P (ix3 k i j)) (L (ix3 k i j)) := by
  have z : (FloatOps.ofBits (F := Ideal) .f32 0x00000000#32 : EReal) = 0 := Ideal.ofBits_zero_f32
  show Scalar.select _ (mine d k (P (ix3 k i j)) (L (ix3 k i j))) (FloatOps.ofBits (F := Ideal) .f32 0x00000000#32 : EReal) = _
  rw [z]
  rfl
theorem grad_ref : val_main_v14 (F := Ideal) L P (me d) = grad d L P := by
  funext y
  have z : (FloatOps.ofBits (F := Ideal) .f32 0x00000000#32 : EReal) = 0 := Ideal.ofBits_zero_f32
  refine (val_main_v14_apply L P (me d) y).trans ?_
  refine (congrArg₂ (fun a b : EReal => a + b) z (Finset.sum_congr rfl fun k _ => ?_)).trans
    ((zero_add _).trans (sum_share d (fun k => P (ix3 k (y 0 : Fin 704) (y 1 : Fin 1024))) (fun k => L (ix3 k (y 0 : Fin 704) (y 1 : Fin 1024)))))
  have e : idx_main_v14 y k = ix3 k (y 0 : Fin 704) (y 1 : Fin 1024) := funext fun a => Fin.ext (by
    match a with
    | 0 => rfl
    | 1 => rfl
    | 2 => rfl)
  exact (congrArg _ e).trans (term_eq d L P _ _ k)
theorem moment1_ref : val_main_v19 (F := Ideal) L P m0 (me d) = moment1 d L P m0 := by
  unfold moment1; rw [← grad_ref]; rfl
theorem moment2_ref : val_main_v25 (F := Ideal) L P v0 (me d) = moment2 d L P v0 := by
  unfold moment2; rw [← grad_ref]; rfl
theorem delta_ref : val_main_v38 (F := Ideal) L P w0 m0 v0 (me d) = delta d L P w0 m0 v0 := by
  unfold delta
  rw [← grad_ref]
  funext y
  simp only [val_main_v38_apply, val_main_v37_apply, val_main_cst_10_apply, val_main_v36_apply, val_main_v35_apply, val_main_v34_apply, val_main_cst_9_apply, val_main_v33_apply, val_main_v32_apply, val_main_v31_apply, val_main_cst_8_apply, val_main_v30_apply, val_main_v29_apply, val_main_v28_apply, val_main_cst_7_apply, val_main_v27_apply, val_main_v26_apply, val_main_cst_6_apply]
  rfl

end

end Cert.AdamGateUp

end
-- ==== Proof.AdamQuery.lean ====
/- The optimiser's call for the projections to queries and out of the cross attention: what every grid point leaves in the blocks of the four
   results, what the result arrays hold at the end, for every number of a device; and the same of the reference. -/
module

public import proofs.«01_k».proof.Proof.InPoints
public import proofs.«01_k».proof.Proof.AdamSpec
public import proofs.«01_k».proof.Proof.Gen.Kernel14.Frame
public import proofs.«01_k».proof.Proof.Gen.Kernel14Ideal.Frame
public import proofs.«01_k».proof.Proof.Gen.Pre_device14
public import proofs.«01_k».proof.Proof.Gen.Reference14Ideal.Read

@[expose] public section

set_option maxRecDepth 16384

noncomputable section

/-! ## The blocks lie in the arrays, for every number of a device -/

namespace Cert.AdamQuery.Words

open Idealize.ShloMosaic Idealize.ShloMosaic.TcCoe Idealize.SL.Sem
open Cert.Kernel14 Cert.Kernel14.Gen

set_option backward.proofsInPublic true in
/-- The table that holds device `d`'s number. -/
def held (d : Fin 8) : pre0.Contents (Elt Bits) :=
  fun | ⟨0, _⟩ => fun _ => BitVec.ofNat 32 d.val | ⟨_ + 1, h⟩ => absurd h (by simp)

theorem ok_held : ∀ d : Fin 8, ok0 (F := Bits) (held d) := by decide +kernel

theorem ok_of_word (m : (ℓ : Loc nD τ sig) → Buf (Elt Bits) ℓ) (d : Fin 8)
    (h : m ((0 : Dev nD) |>.tc.loc main_arg5) = fun _ => BitVec.ofNat 32 d.val) : Ok m := by
  have e : tbl m = held d := by
    funext j
    match j with
    | ⟨0, _⟩ => exact h
  unfold Ok
  rw [e]
  exact ok_held d

end Cert.AdamQuery.Words

namespace Cert.AdamQuery

open Idealize.ShloMosaic Idealize.ShloMosaic.TcCoe Idealize.SL.Sem
open Cert.Kernel14Ideal Cert.Kernel14Ideal.Gen Cert.AdamSpec

/-- The precondition says that the table holds a device's number. -/
theorem device_of_fn {F : FTy → Type} [FloatOps F] (x0 x1 x2 x3 x4) (x5 : IVec Pre_device14.S1 32)
    (h : Pre_device14.fn (F := F) x0 x1 x2 x3 x4 x5 = fun _ => 1#1) : ∃ d : Fin 8, x5 = fun _ => BitVec.ofNat 32 d.val :=
  table_device x5 (congrFun h (ValueIdx.ix1 0))

set_option backward.proofsInPublic true in
/-- The table that holds device `d`'s number. -/
def held (d : Fin 8) : pre0.Contents (Elt Ideal) :=
  fun | ⟨0, _⟩ => fun _ => BitVec.ofNat 32 d.val | ⟨_ + 1, h⟩ => absurd h (by simp)

theorem ok_held : ∀ d : Fin 8, ok0 (F := Ideal) (held d) := by decide +kernel

theorem idx_held : ∀ (d : Fin 8) (t : Fin grid0.N),
    ix0 (F := Ideal) (held d) 0 (grid0.coords t) = ![d.val, t.val, 0]
    ∧ ix0 (F := Ideal) (held d) 1 (grid0.coords t) = ![(peer d 2).val, t.val, 0]
    ∧ ix0 (F := Ideal) (held d) 2 (grid0.coords t) = ![(peer d 4).val, t.val, 0]
    ∧ ix0 (F := Ideal) (held d) 3 (grid0.coords t) = ![(peer d 6).val, t.val, 0]
    ∧ ix0 (F := Ideal) (held d) 4 (grid0.coords t) = ![t.val, 0]
    ∧ ix0 (F := Ideal) (held d) 5 (grid0.coords t) = ![t.val, 0]
    ∧ ix0 (F := Ideal) (held d) 6 (grid0.coords t) = ![t.val, 0]
    ∧ ix0 (F := Ideal) (held d) 7 (grid0.coords t) = ![t.val, 0]
    ∧ ix0 (F := Ideal) (held d) 8 (grid0.coords t) = ![t.val, 0]
    ∧ ix0 (F := Ideal) (held d) 9 (grid0.coords t) = ![t.val, 0]
    ∧ ix0 (F := Ideal) (held d) 10 (grid0.coords t) = ![t.val, 0] := by decide +kernel
theorem cov_held7 : ((cfg0 (F := Ideal) ⟨held 0, ok_held 0⟩).win 7).Covers := by decide +kernel
theorem cov_held8 : ((cfg0 (F := Ideal) ⟨held 0, ok_held 0⟩).win 8).Covers := by decide +kernel
theorem cov_held9 : ((cfg0 (F := Ideal) ⟨held 0, ok_held 0⟩).win 9).Covers := by decide +kernel
theorem cov_held10 : ((cfg0 (F := Ideal) ⟨held 0, ok_held 0⟩).win 10).Covers := by decide +kernel
theorem cov7 (a : (pcfg0 (F := Ideal)).Adm) : ((cfg0 a).win 7).Covers := cov_held7
theorem cov8 (a : (pcfg0 (F := Ideal)).Adm) : ((cfg0 a).win 8).Covers := cov_held8
theorem cov9 (a : (pcfg0 (F := Ideal)).Adm) : ((cfg0 a).win 9).Covers := cov_held9
theorem cov10 (a : (pcfg0 (F := Ideal)).Adm) : ((cfg0 a).win 10).Covers := cov_held10

variable (m : (ℓ : Loc nD τ sig) → Buf (Elt Ideal) ℓ)

theorem tbl_of_word (d : Fin 8) (h : m ((0 : Dev nD) |>.tc.loc main_arg5) = fun _ => BitVec.ofNat 32 d.val) : tbl m = held d := by
  funext j
  match j with
  | ⟨0, _⟩ => exact h
theorem ok_of_word (d : Fin 8) (h : m ((0 : Dev nD) |>.tc.loc main_arg5) = fun _ => BitVec.ofNat 32 d.val) : Ok m := by
  unfold Ok
  rw [tbl_of_word m d h]
  exact ok_held d

variable (hO : Ok m) (c : Dev nD) (t : Fin (cfgM m hO).N)

/-! ## What one grid point leaves -/

abbrev b0 : Vec Ideal S1x128x1024 .bf16 := iblk m hO c 0 t
abbrev b1 : Vec Ideal S1x128x1024 .bf16 := iblk m hO c 1 t
abbrev b2 : Vec Ideal S1x128x1024 .bf16 := iblk m hO c 2 t
abbrev b3 : Vec Ideal S1x128x1024 .bf16 := iblk m hO c 3 t
abbrev b4 : Vec Ideal S128x1024 .f32 := iblk m hO c 4 t
abbrev b5 : Vec Ideal S128x1024 .f32 := iblk m hO c 5 t
abbrev b6 : Vec Ideal S128x1024 .f32 := iblk m hO c 6 t

abbrev delta_pay (p0 p1 p2 p3 : Vec Ideal S1x128x1024 .bf16) (w m v : Vec Ideal S128x1024 .f32) : FVec Ideal S128x1024 .f32 :=
  k0_pay1 w (k0_pay4 p0 p1 p2 p3 v) (k0_pay5 p0 p1 p2 p3 m) (FloatOps.ofBits .f32 0x3C231ACC#32)
theorem g_congr {p0 p1 p2 p3 q0 q1 q2 q3 : Vec Ideal S1x128x1024 .bf16}
    (hp0 : p0 = q0) (hp1 : p1 = q1) (hp2 : p2 = q2) (hp3 : p3 = q3) :
    k0_pay2 (F := Ideal) p0 p1 p2 p3 = k0_pay2 (F := Ideal) q0 q1 q2 q3 := by
  cases hp0; cases hp1; cases hp2; cases hp3; rfl
theorem m_congr {p0 p1 p2 p3 q0 q1 q2 q3 : Vec Ideal S1x128x1024 .bf16} {x0 y0 : Vec Ideal S128x1024 .f32}
    (hp0 : p0 = q0) (hp1 : p1 = q1) (hp2 : p2 = q2) (hp3 : p3 = q3) (hx0 : x0 = y0) :
    k0_pay3 (F := Ideal) p0 p1 p2 p3 x0 = k0_pay3 (F := Ideal) q0 q1 q2 q3 y0 := by
  cases hp0; cases hp1; cases hp2; cases hp3; cases hx0; rfl
theorem v_congr {p0 p1 p2 p3 q0 q1 q2 q3 : Vec Ideal S1x128x1024 .bf16} {x0 y0 : Vec Ideal S128x1024 .f32}
    (hp0 : p0 = q0) (hp1 : p1 = q1) (hp2 : p2 = q2) (hp3 : p3 = q3) (hx0 : x0 = y0) :
    k0_pay4 (F := Ideal) p0 p1 p2 p3 x0 = k0_pay4 (F := Ideal) q0 q1 q2 q3 y0 := by
  cases hp0; cases hp1; cases hp2; cases hp3; cases hx0; rfl
theorem d_congr {p0 p1 p2 p3 q0 q1 q2 q3 : Vec Ideal S1x128x1024 .bf16} {x0 x1 x2 y0 y1 y2 : Vec Ideal S128x1024 .f32}
    (hp0 : p0 = q0) (hp1 : p1 = q1) (hp2 : p2 = q2) (hp3 : p3 = q3) (hx0 : x0 = y0) (hx1 : x1 = y1) (hx2 : x2 = y2) :
    delta_pay p0 p1 p2 p3 x0 x1 x2 = delta_pay q0 q1 q2 q3 y0 y1 y2 := by
  cases hp0; cases hp1; cases hp2; cases hp3; cases hx0; cases hx1; cases hx2; rfl
theorem g_point : (outsAt0 m hO c t).1 = k0_pay2 (b0 m hO c t) (b1 m hO c t) (b2 m hO c t) (b3 m hO c t) := by
  unfold outsAt0
  frame_out
  exact g_congr ((hs0_0 m hO t).read_unread _) ((hs0_1 m hO t).read_unread _) ((hs0_2 m hO t).read_unread _) ((hs0_3 m hO t).read_unread _)
theorem d_point : (outsAt0 m hO c t).2.1 = delta_pay (b0 m hO c t) (b1 m hO c t) (b2 m hO c t) (b3 m hO c t) (b4 m hO c t) (b5 m hO c t) (b6 m hO c t) := by
  unfold outsAt0
  frame_out
  exact d_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _)
theorem m_point : (outsAt0 m hO c t).2.2.1 = k0_pay3 (b0 m hO c t) (b1 m hO c t) (b2 m hO c t) (b3 m hO c t) (b5 m hO c t) := by
  unfold outsAt0
  frame_out
  exact m_congr ((hs0_0 m hO t).read_unread _) ((hs0_1 m hO t).read_unread _) ((hs0_2 m hO t).read_unread _) ((hs0_3 m hO t).read_unread _) ((hs0_5 m hO t).read_unread _)
theorem v_point : (outsAt0 m hO c t).2.2.2 = k0_pay4 (b0 m hO c t) (b1 m hO c t) (b2 m hO c t) (b3 m hO c t) (b6 m hO c t) := by
  unfold outsAt0
  frame_out
  exact v_congr ((hs0_0 m hO t).read_unread _) ((hs0_1 m hO t).read_unread _) ((hs0_2 m hO t).read_unread _) ((hs0_3 m hO t).read_unread _) ((hs0_6 m hO t).read_unread _)

/-! ## The payloads, read at an index -/

variable (p0 p1 p2 p3 : Vec Ideal S1x128x1024 .bf16) (w1 m1 v1 : Vec Ideal S128x1024 .f32) (i : Fin 128) (j : Fin 1024)

abbrev total : EReal := (p0 (ix3 0 i j) : EReal) + (p1 (ix3 0 i j) : EReal) + (p2 (ix3 0 i j) : EReal) + (p3 (ix3 0 i j) : EReal)

theorem g_apply : k0_pay2 (F := Ideal) p0 p1 p2 p3 (ix2 i j) = total p0 p1 p2 p3 i j := by pointwise [k0_pay2, total]
theorem m_apply : k0_pay3 (F := Ideal) p0 p1 p2 p3 m1 (ix2 i j) = first (total p0 p1 p2 p3 i j) (m1 (ix2 i j)) := by
  rw [← g_apply]; rfl
theorem v_apply : k0_pay4 (F := Ideal) p0 p1 p2 p3 v1 (ix2 i j) = second (total p0 p1 p2 p3 i j) (v1 (ix2 i j)) := by
  rw [← g_apply]; rfl
theorem d_apply : delta_pay p0 p1 p2 p3 w1 m1 v1 (ix2 i j)
    = change (total p0 p1 p2 p3 i j) (w1 (ix2 i j)) (m1 (ix2 i j)) (v1 (ix2 i j)) := by
  rw [← g_apply]; rfl

/-! ## Where the blocks lie -/

theorem lt_points (t : Fin (cfgM m hO).N) : t.val < 1 := t.isLt
/-- Row `i` of point `t`'s blocks is this row of the arrays. -/
def at' (t : Fin (cfgM m hO).N) (i : Fin 128) : Fin 128 := ⟨t.val * 128 + i.val, by have := lt_points m hO t; omega⟩

variable (d : Fin 8) (hd : tbl m = held d)
include hd

theorem index_eq : ((cfgM m hO).win 0).index t = ![d.val, t.val, 0] ∧ ((cfgM m hO).win 1).index t = ![(peer d 2).val, t.val, 0] ∧ ((cfgM m hO).win 2).index t = ![(peer d 4).val, t.val, 0] ∧ ((cfgM m hO).win 3).index t = ![(peer d 6).val, t.val, 0] ∧ ((cfgM m hO).win 4).index t = ![t.val, 0] ∧ ((cfgM m hO).win 5).index t = ![t.val, 0] ∧ ((cfgM m hO).win 6).index t = ![t.val, 0] ∧ ((cfgM m hO).win 7).index t = ![t.val, 0] ∧ ((cfgM m hO).win 8).index t = ![t.val, 0] ∧ ((cfgM m hO).win 9).index t = ![t.val, 0] ∧ ((cfgM m hO).win 10).index t = ![t.val, 0] := by
  have e := idx_held d t
  rw [← hd] at e
  exact e

theorem read0 : b0 m hO c t (ix3 0 i j) = m ((c : Thread nD τ).loc main_arg1) (ix3 d (at' m hO t i) j) := by
  have e := (index_eq m hO t d hd).1
  refine congrArg (m ((c : Thread nD τ).loc main_arg1)) (funext fun (a : Fin 3) => Fin.ext ?_)
  refine (Pipeline.Window.rect_emb_val ((cfgM m hO).win 0) t (ix3 0 i j) a).trans ?_
  rw [e]
  match a with
  | 0 => exact Nat.mul_one _
  | 1 => rfl
  | 2 => exact (congrArg (· + j.val) (Nat.zero_mul _)).trans (Nat.zero_add _)
theorem read1 : b1 m hO c t (ix3 0 i j) = m ((c : Thread nD τ).loc main_arg0) (ix3 (peer d 2) (at' m hO t i) j) := by
  have e := (index_eq m hO t d hd).2.1
  refine congrArg (m ((c : Thread nD τ).loc main_arg0)) (funext fun (a : Fin 3) => Fin.ext ?_)
  refine (Pipeline.Window.rect_emb_val ((cfgM m hO).win 1) t (ix3 0 i j) a).trans ?_
  rw [e]
  match a with
  | 0 => exact Nat.mul_one _
  | 1 => rfl
  | 2 => exact (congrArg (· + j.val) (Nat.zero_mul _)).trans (Nat.zero_add _)
theorem read2 : b2 m hO c t (ix3 0 i j) = m ((c : Thread nD τ).loc main_arg0) (ix3 (peer d 4) (at' m hO t i) j) := by
  have e := (index_eq m hO t d hd).2.2.1
  refine congrArg (m ((c : Thread nD τ).loc main_arg0)) (funext fun (a : Fin 3) => Fin.ext ?_)
  refine (Pipeline.Window.rect_emb_val ((cfgM m hO).win 2) t (ix3 0 i j) a).trans ?_
  rw [e]
  match a with
  | 0 => exact Nat.mul_one _
  | 1 => rfl
  | 2 => exact (congrArg (· + j.val) (Nat.zero_mul _)).trans (Nat.zero_add _)
theorem read3 : b3 m hO c t (ix3 0 i j) = m ((c : Thread nD τ).loc main_arg0) (ix3 (peer d 6) (at' m hO t i) j) := by
  have e := (index_eq m hO t d hd).2.2.2.1
  refine congrArg (m ((c : Thread nD τ).loc main_arg0)) (funext fun (a : Fin 3) => Fin.ext ?_)
  refine (Pipeline.Window.rect_emb_val ((cfgM m hO).win 3) t (ix3 0 i j) a).trans ?_
  rw [e]
  match a with
  | 0 => exact Nat.mul_one _
  | 1 => rfl
  | 2 => exact (congrArg (· + j.val) (Nat.zero_mul _)).trans (Nat.zero_add _)
theorem read4 : b4 m hO c t (ix2 i j) = m ((c : Thread nD τ).loc main_arg2) (ix2 (at' m hO t i) j) := by
  have e := (index_eq m hO t d hd).2.2.2.2.1
  refine congrArg (m ((c : Thread nD τ).loc main_arg2)) (funext fun (a : Fin 2) => Fin.ext ?_)
  refine (Pipeline.Window.rect_emb_val ((cfgM m hO).win 4) t (ix2 i j) a).trans ?_
  rw [e]
  match a with
  | 0 => rfl
  | 1 => exact (congrArg (· + j.val) (Nat.zero_mul _)).trans (Nat.zero_add _)
theorem read5 : b5 m hO c t (ix2 i j) = m ((c : Thread nD τ).loc main_arg3) (ix2 (at' m hO t i) j) := by
  have e := (index_eq m hO t d hd).2.2.2.2.2.1
  refine congrArg (m ((c : Thread nD τ).loc main_arg3)) (funext fun (a : Fin 2) => Fin.ext ?_)
  refine (Pipeline.Window.rect_emb_val ((cfgM m hO).win 5) t (ix2 i j) a).trans ?_
  rw [e]
  match a with
  | 0 => rfl
  | 1 => exact (congrArg (· + j.val) (Nat.zero_mul _)).trans (Nat.zero_add _)
theorem read6 : b6 m hO c t (ix2 i j) = m ((c : Thread nD τ).loc main_arg4) (ix2 (at' m hO t i) j) := by
  have e := (index_eq m hO t d hd).2.2.2.2.2.2.1
  refine congrArg (m ((c : Thread nD τ).loc main_arg4)) (funext fun (a : Fin 2) => Fin.ext ?_)
  refine (Pipeline.Window.rect_emb_val ((cfgM m hO).win 6) t (ix2 i j) a).trans ?_
  rw [e]
  match a with
  | 0 => rfl
  | 1 => exact (congrArg (· + j.val) (Nat.zero_mul _)).trans (Nat.zero_add _)
theorem place7 : (((cfgM m hO).win 7).blk t).view.emb (ix2 i j) = (ix2 (at' m hO t i) j : S128x1024.Idx) := by
  have e := (index_eq m hO t d hd).2.2.2.2.2.2.2.1
  refine funext fun (a : Fin 2) => Fin.ext ?_
  refine (Pipeline.Window.rect_emb_val ((cfgM m hO).win 7) t (ix2 i j) a).trans ?_
  rw [e]
  match a with
  | 0 => rfl
  | 1 => exact (congrArg (· + j.val) (Nat.zero_mul _)).trans (Nat.zero_add _)
theorem place8 : (((cfgM m hO).win 8).blk t).view.emb (ix2 i j) = (ix2 (at' m hO t i) j : S128x1024.Idx) := by
  have e := (index_eq m hO t d hd).2.2.2.2.2.2.2.2.1
  refine funext fun (a : Fin 2) => Fin.ext ?_
  refine (Pipeline.Window.rect_emb_val ((cfgM m hO).win 8) t (ix2 i j) a).trans ?_
  rw [e]
  match a with
  | 0 => rfl
  | 1 => exact (congrArg (· + j.val) (Nat.zero_mul _)).trans (Nat.zero_add _)
theorem place9 : (((cfgM m hO).win 9).blk t).view.emb (ix2 i j) = (ix2 (at' m hO t i) j : S128x1024.Idx) := by
  have e := (index_eq m hO t d hd).2.2.2.2.2.2.2.2.2.1
  refine funext fun (a : Fin 2) => Fin.ext ?_
  refine (Pipeline.Window.rect_emb_val ((cfgM m hO).win 9) t (ix2 i j) a).trans ?_
  rw [e]
  match a with
  | 0 => rfl
  | 1 => exact (congrArg (· + j.val) (Nat.zero_mul _)).trans (Nat.zero_add _)
theorem place10 : (((cfgM m hO).win 10).blk t).view.emb (ix2 i j) = (ix2 (at' m hO t i) j : S128x1024.Idx) := by
  have e := (index_eq m hO t d hd).2.2.2.2.2.2.2.2.2.2
  refine funext fun (a : Fin 2) => Fin.ext ?_
  refine (Pipeline.Window.rect_emb_val ((cfgM m hO).win 10) t (ix2 i j) a).trans ?_
  rw [e]
  match a with
  | 0 => rfl
  | 1 => exact (congrArg (· + j.val) (Nat.zero_mul _)).trans (Nat.zero_add _)

omit hd

/-! ## The arrays -/

abbrev Shares := FVec Ideal ⟨3, ![8, 128, 1024]⟩ .bf16
abbrev Weight := FVec Ideal ⟨2, ![128, 1024]⟩ .f32

/-- The gradient: the sum of the shares. -/
def grad (d : Fin 8) (L P : Shares) : Weight := fun y => P (ix3 d (y 0) (y 1)) + L (ix3 (peer d 2) (y 0) (y 1)) + L (ix3 (peer d 4) (y 0) (y 1)) + L (ix3 (peer d 6) (y 0) (y 1))
def moment1 (d : Fin 8) (L P : Shares) (m : Weight) : Weight := fun y => first (grad d L P y) (m y)
def moment2 (d : Fin 8) (L P : Shares) (v : Weight) : Weight := fun y => second (grad d L P y) (v y)
def delta (d : Fin 8) (L P : Shares) (w m v : Weight) : Weight := fun y => change (grad d L P y) (w y) (m y) (v y)

abbrev aL : Shares := m ((c : Thread nD τ).loc main_arg0)
abbrev aP : Shares := m ((c : Thread nD τ).loc main_arg1)
abbrev aw : Weight := m ((c : Thread nD τ).loc main_arg2)
abbrev am : Weight := m ((c : Thread nD τ).loc main_arg3)
abbrev av : Weight := m ((c : Thread nD τ).loc main_arg4)

include hd

theorem total_eq : total (b0 m hO c t) (b1 m hO c t) (b2 m hO c t) (b3 m hO c t) i j = grad d (aL m c) (aP m c) (ix2 (at' m hO t i) j) := by
  show (b0 m hO c t (ix3 0 i j) : EReal) + (b1 m hO c t (ix3 0 i j) : EReal) + (b2 m hO c t (ix3 0 i j) : EReal) + (b3 m hO c t (ix3 0 i j) : EReal) = _
  rw [read0 m hO c t i j d hd, read1 m hO c t i j d hd, read2 m hO c t i j d hd, read3 m hO c t i j d hd]
  rfl
theorem arr7 : (dats m hO 0 c).arrAt 7 (cfgM m hO).N = grad d (aL m c) (aP m c) := by
  refine (dats m hO 0 c).arrAt_eq_of_covers 7 _ (cov7 _) fun t _ y => ?_
  blk_simp
  rw [after0_7, g_point]
  have h : ∀ y : S128x1024.Idx, k0_pay2 (b0 m hO c t) (b1 m hO c t) (b2 m hO c t) (b3 m hO c t) y = grad d (aL m c) (aP m c) (((((cfgM m hO).win 7).blk t).view.emb y : S128x1024.Idx)) := fun y => by
    obtain ⟨i, j, rfl⟩ : ∃ (i : Fin 128) (j : Fin 1024), y = ix2 i j := ⟨y 0, y 1, eq_ix2 y⟩
    refine (g_apply ..).trans ?_
    rw [total_eq m hO c t _ _ d hd]
    exact congrArg (grad d (aL m c) (aP m c)) (place7 m hO t _ _ d hd).symm
  exact h y
theorem arr8 : (dats m hO 0 c).arrAt 8 (cfgM m hO).N = delta d (aL m c) (aP m c) (aw m c) (am m c) (av m c) := by
  refine (dats m hO 0 c).arrAt_eq_of_covers 8 _ (cov8 _) fun t _ y => ?_
  blk_simp
  rw [after0_8, d_point]
  have h : ∀ y : S128x1024.Idx, delta_pay (b0 m hO c t) (b1 m hO c t) (b2 m hO c t) (b3 m hO c t) (b4 m hO c t) (b5 m hO c t) (b6 m hO c t) y = delta d (aL m c) (aP m c) (aw m c) (am m c) (av m c) (((((cfgM m hO).win 8).blk t).view.emb y : S128x1024.Idx)) := fun y => by
    obtain ⟨i, j, rfl⟩ : ∃ (i : Fin 128) (j : Fin 1024), y = ix2 i j := ⟨y 0, y 1, eq_ix2 y⟩
    refine (d_apply ..).trans ?_
    rw [total_eq m hO c t _ _ d hd, read4 m hO c t _ _ d hd, read5 m hO c t _ _ d hd, read6 m hO c t _ _ d hd]
    exact congrArg (delta d (aL m c) (aP m c) (aw m c) (am m c) (av m c)) (place8 m hO t _ _ d hd).symm
  exact h y
theorem arr9 : (dats m hO 0 c).arrAt 9 (cfgM m hO).N = moment1 d (aL m c) (aP m c) (am m c) := by
  refine (dats m hO 0 c).arrAt_eq_of_covers 9 _ (cov9 _) fun t _ y => ?_
  blk_simp
  rw [after0_9, m_point]
  have h : ∀ y : S128x1024.Idx, k0_pay3 (b0 m hO c t) (b1 m hO c t) (b2 m hO c t) (b3 m hO c t) (b5 m hO c t) y = moment1 d (aL m c) (aP m c) (am m c) (((((cfgM m hO).win 9).blk t).view.emb y : S128x1024.Idx)) := fun y => by
    obtain ⟨i, j, rfl⟩ : ∃ (i : Fin 128) (j : Fin 1024), y = ix2 i j := ⟨y 0, y 1, eq_ix2 y⟩
    refine (m_apply ..).trans ?_
    rw [total_eq m hO c t _ _ d hd, read5 m hO c t _ _ d hd]
    exact congrArg (moment1 d (aL m c) (aP m c) (am m c)) (place9 m hO t _ _ d hd).symm
  exact h y
theorem arr10 : (dats m hO 0 c).arrAt 10 (cfgM m hO).N = moment2 d (aL m c) (aP m c) (av m c) := by
  refine (dats m hO 0 c).arrAt_eq_of_covers 10 _ (cov10 _) fun t _ y => ?_
  blk_simp
  rw [after0_10, v_point]
  have h : ∀ y : S128x1024.Idx, k0_pay4 (b0 m hO c t) (b1 m hO c t) (b2 m hO c t) (b3 m hO c t) (b6 m hO c t) y = moment2 d (aL m c) (aP m c) (av m c) (((((cfgM m hO).win 10).blk t).view.emb y : S128x1024.Idx)) := fun y => by
    obtain ⟨i, j, rfl⟩ : ∃ (i : Fin 128) (j : Fin 1024), y = ix2 i j := ⟨y 0, y 1, eq_ix2 y⟩
    refine (v_apply ..).trans ?_
    rw [total_eq m hO c t _ _ d hd, read6 m hO c t _ _ d hd]
    exact congrArg (moment2 d (aL m c) (aP m c) (av m c)) (place10 m hO t _ _ d hd).symm
  exact h y

/-! ## The run -/

theorem run (ρ : Dev nD → PrngReg) : θ_run defs (onTc (τ := τ) (main (F := Ideal))) ⟨m, fun _ => 0, ρ⟩ fun r => ∀ c : Dev nD,
      r.2.mem ((c : Thread nD τ).loc main_v0_0) = grad d (aL m c) (aP m c)
      ∧ r.2.mem ((c : Thread nD τ).loc main_v0_1) = delta d (aL m c) (aP m c) (aw m c) (am m c) (av m c)
      ∧ r.2.mem ((c : Thread nD τ).loc main_v0_2) = moment1 d (aL m c) (aP m c) (am m c)
      ∧ r.2.mem ((c : Thread nD τ).loc main_v0_3) = moment2 d (aL m c) (aP m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  have hO : Ok m := by unfold Ok; rw [hd]; exact ok_held d
  (θ_run defs _ _).mono (fun _ h c => ⟨((h c).1 7).trans (arr7 m hO c d hd),
      ((h c).1 8).trans (arr8 m hO c d hd),
      ((h c).1 9).trans (arr9 m hO c d hd),
      ((h c).1 10).trans (arr10 m hO c d hd),
      ((h c).1 3).trans (((dats m hO 0 c).arrAt_in 3 rfl _).trans ((A_eq m hO c 3).trans (V_main_arg0 m c))),
      ((h c).1 0).trans (((dats m hO 0 c).arrAt_in 0 rfl _).trans ((A_eq m hO c 0).trans (V_main_arg1 m c))),
      ((h c).1 4).trans (((dats m hO 0 c).arrAt_in 4 rfl _).trans ((A_eq m hO c 4).trans (V_main_arg2 m c))),
      ((h c).1 5).trans (((dats m hO 0 c).arrAt_in 5 rfl _).trans ((A_eq m hO c 5).trans (V_main_arg3 m c))),
      ((h c).1 6).trans (((dats m hO 0 c).arrAt_in 6 rfl _).trans ((A_eq m hO c 6).trans (V_main_arg4 m c))),
      ((h c).2 main_arg5 (by decide : main_arg5 ∈ Pipeline.restRefs sig spec0)).trans (V_main_arg5 m c)⟩) (run_main m ρ hO)

omit hd

/-! ## The reference -/

section
open Cert.Reference14Ideal.Read

variable (L P : Shares) (w0 m0 v0 : Weight)

abbrev me (d : Fin 8) : (⟨1, ![1]⟩ : Shape).Idx → BitVec 32 := fun _ => BitVec.ofNat 32 d.val

theorem term_eq (i : Fin 128) (j : Fin 1024) (k : Fin 8) :
    val_main_v13 (F := Ideal) L P (me d) (ix3 k i j) = share d k (P (ix3 k i j)) (L (ix3 k i j)) := by
  have z : (FloatOps.ofBits (F := Ideal) .f32 0x00000000#32 : EReal) = 0 := Ideal.ofBits_zero_f32
  show Scalar.select _ (mine d k (P (ix3 k i j)) (L (ix3 k i j))) (FloatOps.ofBits (F := Ideal) .f32 0x00000000#32 : EReal) = _
  rw [z]
  rfl
theorem grad_ref : val_main_v14 (F := Ideal) L P (me d) = grad d L P := by
  funext y
  have z : (FloatOps.ofBits (F := Ideal) .f32 0x00000000#32 : EReal) = 0 := Ideal.ofBits_zero_f32
  refine (val_main_v14_apply L P (me d) y).trans ?_
  refine (congrArg₂ (fun a b : EReal => a + b) z (Finset.sum_congr rfl fun k _ => ?_)).trans
    ((zero_add _).trans (sum_share d (fun k => P (ix3 k (y 0 : Fin 128) (y 1 : Fin 1024))) (fun k => L (ix3 k (y 0 : Fin 128) (y 1 : Fin 1024)))))
  have e : idx_main_v14 y k = ix3 k (y 0 : Fin 128) (y 1 : Fin 1024) := funext fun a => Fin.ext (by
    match a with
    | 0 => rfl
    | 1 => rfl
    | 2 => rfl)
  exact (congrArg _ e).trans (term_eq d L P _ _ k)
theorem moment1_ref : val_main_v19 (F := Ideal) L P m0 (me d) = moment1 d L P m0 := by
  unfold moment1; rw [← grad_ref]; rfl
theorem moment2_ref : val_main_v25 (F := Ideal) L P v0 (me d) = moment2 d L P v0 := by
  unfold moment2; rw [← grad_ref]; rfl
theorem delta_ref : val_main_v38 (F := Ideal) L P w0 m0 v0 (me d) = delta d L P w0 m0 v0 := by
  unfold delta
  rw [← grad_ref]
  funext y
  simp only [val_main_v38_apply, val_main_v37_apply, val_main_cst_10_apply, val_main_v36_apply, val_main_v35_apply, val_main_v34_apply, val_main_cst_9_apply, val_main_v33_apply, val_main_v32_apply, val_main_v31_apply, val_main_cst_8_apply, val_main_v30_apply, val_main_v29_apply, val_main_v28_apply, val_main_cst_7_apply, val_main_v27_apply, val_main_v26_apply, val_main_cst_6_apply]
  rfl

end

end Cert.AdamQuery

end
-- ==== Proof.AdamKeys.lean ====
/- The optimiser's call for the projection to keys and values: what every grid point leaves in the blocks of the four
   results, what the result arrays hold at the end, for every number of a device; and the same of the reference. -/
module

public import proofs.«01_k».proof.Proof.InPoints
public import proofs.«01_k».proof.Proof.AdamSpec
public import proofs.«01_k».proof.Proof.Gen.Kernel15.Frame
public import proofs.«01_k».proof.Proof.Gen.Kernel15Ideal.Frame
public import proofs.«01_k».proof.Proof.Gen.Pre_device15
public import proofs.«01_k».proof.Proof.Gen.Reference15Ideal.Read

@[expose] public section

set_option maxRecDepth 16384

noncomputable section

/-! ## The blocks lie in the arrays, for every number of a device -/

namespace Cert.AdamKeys.Words

open Idealize.ShloMosaic Idealize.ShloMosaic.TcCoe Idealize.SL.Sem
open Cert.Kernel15 Cert.Kernel15.Gen

set_option backward.proofsInPublic true in
/-- The table that holds device `d`'s number. -/
def held (d : Fin 8) : pre0.Contents (Elt Bits) :=
  fun | ⟨0, _⟩ => fun _ => BitVec.ofNat 32 d.val | ⟨_ + 1, h⟩ => absurd h (by simp)

theorem ok_held : ∀ d : Fin 8, ok0 (F := Bits) (held d) := by decide +kernel

theorem ok_of_word (m : (ℓ : Loc nD τ sig) → Buf (Elt Bits) ℓ) (d : Fin 8)
    (h : m ((0 : Dev nD) |>.tc.loc main_arg5) = fun _ => BitVec.ofNat 32 d.val) : Ok m := by
  have e : tbl m = held d := by
    funext j
    match j with
    | ⟨0, _⟩ => exact h
  unfold Ok
  rw [e]
  exact ok_held d

end Cert.AdamKeys.Words

namespace Cert.AdamKeys

open Idealize.ShloMosaic Idealize.ShloMosaic.TcCoe Idealize.SL.Sem
open Cert.Kernel15Ideal Cert.Kernel15Ideal.Gen Cert.AdamSpec

/-- The precondition says that the table holds a device's number. -/
theorem device_of_fn {F : FTy → Type} [FloatOps F] (x0 x1 x2 x3 x4) (x5 : IVec Pre_device15.S1 32)
    (h : Pre_device15.fn (F := F) x0 x1 x2 x3 x4 x5 = fun _ => 1#1) : ∃ d : Fin 8, x5 = fun _ => BitVec.ofNat 32 d.val :=
  table_device x5 (congrFun h (ValueIdx.ix1 0))

set_option backward.proofsInPublic true in
/-- The table that holds device `d`'s number. -/
def held (d : Fin 8) : pre0.Contents (Elt Ideal) :=
  fun | ⟨0, _⟩ => fun _ => BitVec.ofNat 32 d.val | ⟨_ + 1, h⟩ => absurd h (by simp)

theorem ok_held : ∀ d : Fin 8, ok0 (F := Ideal) (held d) := by decide +kernel

theorem idx_held : ∀ (d : Fin 8) (t : Fin grid0.N),
    ix0 (F := Ideal) (held d) 0 (grid0.coords t) = ![d.val, t.val, 0]
    ∧ ix0 (F := Ideal) (held d) 1 (grid0.coords t) = ![(peer d 2).val, t.val, 0]
    ∧ ix0 (F := Ideal) (held d) 2 (grid0.coords t) = ![(peer d 4).val, t.val, 0]
    ∧ ix0 (F := Ideal) (held d) 3 (grid0.coords t) = ![(peer d 6).val, t.val, 0]
    ∧ ix0 (F := Ideal) (held d) 4 (grid0.coords t) = ![t.val, 0]
    ∧ ix0 (F := Ideal) (held d) 5 (grid0.coords t) = ![t.val, 0]
    ∧ ix0 (F := Ideal) (held d) 6 (grid0.coords t) = ![t.val, 0]
    ∧ ix0 (F := Ideal) (held d) 7 (grid0.coords t) = ![t.val, 0]
    ∧ ix0 (F := Ideal) (held d) 8 (grid0.coords t) = ![t.val, 0]
    ∧ ix0 (F := Ideal) (held d) 9 (grid0.coords t) = ![t.val, 0]
    ∧ ix0 (F := Ideal) (held d) 10 (grid0.coords t) = ![t.val, 0] := by decide +kernel
theorem cov_held7 : ((cfg0 (F := Ideal) ⟨held 0, ok_held 0⟩).win 7).Covers := by decide +kernel
theorem cov_held8 : ((cfg0 (F := Ideal) ⟨held 0, ok_held 0⟩).win 8).Covers := by decide +kernel
theorem cov_held9 : ((cfg0 (F := Ideal) ⟨held 0, ok_held 0⟩).win 9).Covers := by decide +kernel
theorem cov_held10 : ((cfg0 (F := Ideal) ⟨held 0, ok_held 0⟩).win 10).Covers := by decide +kernel
theorem cov7 (a : (pcfg0 (F := Ideal)).Adm) : ((cfg0 a).win 7).Covers := cov_held7
theorem cov8 (a : (pcfg0 (F := Ideal)).Adm) : ((cfg0 a).win 8).Covers := cov_held8
theorem cov9 (a : (pcfg0 (F := Ideal)).Adm) : ((cfg0 a).win 9).Covers := cov_held9
theorem cov10 (a : (pcfg0 (F := Ideal)).Adm) : ((cfg0 a).win 10).Covers := cov_held10

variable (m : (ℓ : Loc nD τ sig) → Buf (Elt Ideal) ℓ)

theorem tbl_of_word (d : Fin 8) (h : m ((0 : Dev nD) |>.tc.loc main_arg5) = fun _ => BitVec.ofNat 32 d.val) : tbl m = held d := by
  funext j
  match j with
  | ⟨0, _⟩ => exact h
theorem ok_of_word (d : Fin 8) (h : m ((0 : Dev nD) |>.tc.loc main_arg5) = fun _ => BitVec.ofNat 32 d.val) : Ok m := by
  unfold Ok
  rw [tbl_of_word m d h]
  exact ok_held d

variable (hO : Ok m) (c : Dev nD) (t : Fin (cfgM m hO).N)

/-! ## What one grid point leaves -/

abbrev b0 : Vec Ideal S1x256x256 .bf16 := iblk m hO c 0 t
abbrev b1 : Vec Ideal S1x256x256 .bf16 := iblk m hO c 1 t
abbrev b2 : Vec Ideal S1x256x256 .bf16 := iblk m hO c 2 t
abbrev b3 : Vec Ideal S1x256x256 .bf16 := iblk m hO c 3 t
abbrev b4 : Vec Ideal S256x256 .f32 := iblk m hO c 4 t
abbrev b5 : Vec Ideal S256x256 .f32 := iblk m hO c 5 t
abbrev b6 : Vec Ideal S256x256 .f32 := iblk m hO c 6 t

abbrev delta_pay (p0 p1 p2 p3 : Vec Ideal S1x256x256 .bf16) (w m v : Vec Ideal S256x256 .f32) : FVec Ideal S256x256 .f32 :=
  k0_pay1 w (k0_pay4 p0 p1 p2 p3 v) (k0_pay5 p0 p1 p2 p3 m) (FloatOps.ofBits .f32 0x3C231ACC#32)
theorem g_congr {p0 p1 p2 p3 q0 q1 q2 q3 : Vec Ideal S1x256x256 .bf16}
    (hp0 : p0 = q0) (hp1 : p1 = q1) (hp2 : p2 = q2) (hp3 : p3 = q3) :
    k0_pay2 (F := Ideal) p0 p1 p2 p3 = k0_pay2 (F := Ideal) q0 q1 q2 q3 := by
  cases hp0; cases hp1; cases hp2; cases hp3; rfl
theorem m_congr {p0 p1 p2 p3 q0 q1 q2 q3 : Vec Ideal S1x256x256 .bf16} {x0 y0 : Vec Ideal S256x256 .f32}
    (hp0 : p0 = q0) (hp1 : p1 = q1) (hp2 : p2 = q2) (hp3 : p3 = q3) (hx0 : x0 = y0) :
    k0_pay3 (F := Ideal) p0 p1 p2 p3 x0 = k0_pay3 (F := Ideal) q0 q1 q2 q3 y0 := by
  cases hp0; cases hp1; cases hp2; cases hp3; cases hx0; rfl
theorem v_congr {p0 p1 p2 p3 q0 q1 q2 q3 : Vec Ideal S1x256x256 .bf16} {x0 y0 : Vec Ideal S256x256 .f32}
    (hp0 : p0 = q0) (hp1 : p1 = q1) (hp2 : p2 = q2) (hp3 : p3 = q3) (hx0 : x0 = y0) :
    k0_pay4 (F := Ideal) p0 p1 p2 p3 x0 = k0_pay4 (F := Ideal) q0 q1 q2 q3 y0 := by
  cases hp0; cases hp1; cases hp2; cases hp3; cases hx0; rfl
theorem d_congr {p0 p1 p2 p3 q0 q1 q2 q3 : Vec Ideal S1x256x256 .bf16} {x0 x1 x2 y0 y1 y2 : Vec Ideal S256x256 .f32}
    (hp0 : p0 = q0) (hp1 : p1 = q1) (hp2 : p2 = q2) (hp3 : p3 = q3) (hx0 : x0 = y0) (hx1 : x1 = y1) (hx2 : x2 = y2) :
    delta_pay p0 p1 p2 p3 x0 x1 x2 = delta_pay q0 q1 q2 q3 y0 y1 y2 := by
  cases hp0; cases hp1; cases hp2; cases hp3; cases hx0; cases hx1; cases hx2; rfl
theorem g_point : (outsAt0 m hO c t).1 = k0_pay2 (b0 m hO c t) (b1 m hO c t) (b2 m hO c t) (b3 m hO c t) := by
  unfold outsAt0
  frame_out
  exact g_congr ((hs0_0 m hO t).read_unread _) ((hs0_1 m hO t).read_unread _) ((hs0_2 m hO t).read_unread _) ((hs0_3 m hO t).read_unread _)
theorem d_point : (outsAt0 m hO c t).2.1 = delta_pay (b0 m hO c t) (b1 m hO c t) (b2 m hO c t) (b3 m hO c t) (b4 m hO c t) (b5 m hO c t) (b6 m hO c t) := by
  unfold outsAt0
  frame_out
  exact d_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _)
theorem m_point : (outsAt0 m hO c t).2.2.1 = k0_pay3 (b0 m hO c t) (b1 m hO c t) (b2 m hO c t) (b3 m hO c t) (b5 m hO c t) := by
  unfold outsAt0
  frame_out
  exact m_congr ((hs0_0 m hO t).read_unread _) ((hs0_1 m hO t).read_unread _) ((hs0_2 m hO t).read_unread _) ((hs0_3 m hO t).read_unread _) ((hs0_5 m hO t).read_unread _)
theorem v_point : (outsAt0 m hO c t).2.2.2 = k0_pay4 (b0 m hO c t) (b1 m hO c t) (b2 m hO c t) (b3 m hO c t) (b6 m hO c t) := by
  unfold outsAt0
  frame_out
  exact v_congr ((hs0_0 m hO t).read_unread _) ((hs0_1 m hO t).read_unread _) ((hs0_2 m hO t).read_unread _) ((hs0_3 m hO t).read_unread _) ((hs0_6 m hO t).read_unread _)

/-! ## The payloads, read at an index -/

variable (p0 p1 p2 p3 : Vec Ideal S1x256x256 .bf16) (w1 m1 v1 : Vec Ideal S256x256 .f32) (i : Fin 256) (j : Fin 256)

abbrev total : EReal := (p0 (ix3 0 i j) : EReal) + (p1 (ix3 0 i j) : EReal) + (p2 (ix3 0 i j) : EReal) + (p3 (ix3 0 i j) : EReal)

theorem g_apply : k0_pay2 (F := Ideal) p0 p1 p2 p3 (ix2 i j) = total p0 p1 p2 p3 i j := by pointwise [k0_pay2, total]
theorem m_apply : k0_pay3 (F := Ideal) p0 p1 p2 p3 m1 (ix2 i j) = first (total p0 p1 p2 p3 i j) (m1 (ix2 i j)) := by
  rw [← g_apply]; rfl
theorem v_apply : k0_pay4 (F := Ideal) p0 p1 p2 p3 v1 (ix2 i j) = second (total p0 p1 p2 p3 i j) (v1 (ix2 i j)) := by
  rw [← g_apply]; rfl
theorem d_apply : delta_pay p0 p1 p2 p3 w1 m1 v1 (ix2 i j)
    = change (total p0 p1 p2 p3 i j) (w1 (ix2 i j)) (m1 (ix2 i j)) (v1 (ix2 i j)) := by
  rw [← g_apply]; rfl

/-! ## Where the blocks lie -/

theorem lt_points (t : Fin (cfgM m hO).N) : t.val < 4 := t.isLt
/-- Row `i` of point `t`'s blocks is this row of the arrays. -/
def at' (t : Fin (cfgM m hO).N) (i : Fin 256) : Fin 1024 := ⟨t.val * 256 + i.val, by have := lt_points m hO t; omega⟩

variable (d : Fin 8) (hd : tbl m = held d)
include hd

theorem index_eq : ((cfgM m hO).win 0).index t = ![d.val, t.val, 0] ∧ ((cfgM m hO).win 1).index t = ![(peer d 2).val, t.val, 0] ∧ ((cfgM m hO).win 2).index t = ![(peer d 4).val, t.val, 0] ∧ ((cfgM m hO).win 3).index t = ![(peer d 6).val, t.val, 0] ∧ ((cfgM m hO).win 4).index t = ![t.val, 0] ∧ ((cfgM m hO).win 5).index t = ![t.val, 0] ∧ ((cfgM m hO).win 6).index t = ![t.val, 0] ∧ ((cfgM m hO).win 7).index t = ![t.val, 0] ∧ ((cfgM m hO).win 8).index t = ![t.val, 0] ∧ ((cfgM m hO).win 9).index t = ![t.val, 0] ∧ ((cfgM m hO).win 10).index t = ![t.val, 0] := by
  have e := idx_held d t
  rw [← hd] at e
  exact e

theorem read0 : b0 m hO c t (ix3 0 i j) = m ((c : Thread nD τ).loc main_arg1) (ix3 d (at' m hO t i) j) := by
  have e := (index_eq m hO t d hd).1
  refine congrArg (m ((c : Thread nD τ).loc main_arg1)) (funext fun (a : Fin 3) => Fin.ext ?_)
  refine (Pipeline.Window.rect_emb_val ((cfgM m hO).win 0) t (ix3 0 i j) a).trans ?_
  rw [e]
  match a with
  | 0 => exact Nat.mul_one _
  | 1 => rfl
  | 2 => exact (congrArg (· + j.val) (Nat.zero_mul _)).trans (Nat.zero_add _)
theorem read1 : b1 m hO c t (ix3 0 i j) = m ((c : Thread nD τ).loc main_arg0) (ix3 (peer d 2) (at' m hO t i) j) := by
  have e := (index_eq m hO t d hd).2.1
  refine congrArg (m ((c : Thread nD τ).loc main_arg0)) (funext fun (a : Fin 3) => Fin.ext ?_)
  refine (Pipeline.Window.rect_emb_val ((cfgM m hO).win 1) t (ix3 0 i j) a).trans ?_
  rw [e]
  match a with
  | 0 => exact Nat.mul_one _
  | 1 => rfl
  | 2 => exact (congrArg (· + j.val) (Nat.zero_mul _)).trans (Nat.zero_add _)
theorem read2 : b2 m hO c t (ix3 0 i j) = m ((c : Thread nD τ).loc main_arg0) (ix3 (peer d 4) (at' m hO t i) j) := by
  have e := (index_eq m hO t d hd).2.2.1
  refine congrArg (m ((c : Thread nD τ).loc main_arg0)) (funext fun (a : Fin 3) => Fin.ext ?_)
  refine (Pipeline.Window.rect_emb_val ((cfgM m hO).win 2) t (ix3 0 i j) a).trans ?_
  rw [e]
  match a with
  | 0 => exact Nat.mul_one _
  | 1 => rfl
  | 2 => exact (congrArg (· + j.val) (Nat.zero_mul _)).trans (Nat.zero_add _)
theorem read3 : b3 m hO c t (ix3 0 i j) = m ((c : Thread nD τ).loc main_arg0) (ix3 (peer d 6) (at' m hO t i) j) := by
  have e := (index_eq m hO t d hd).2.2.2.1
  refine congrArg (m ((c : Thread nD τ).loc main_arg0)) (funext fun (a : Fin 3) => Fin.ext ?_)
  refine (Pipeline.Window.rect_emb_val ((cfgM m hO).win 3) t (ix3 0 i j) a).trans ?_
  rw [e]
  match a with
  | 0 => exact Nat.mul_one _
  | 1 => rfl
  | 2 => exact (congrArg (· + j.val) (Nat.zero_mul _)).trans (Nat.zero_add _)
theorem read4 : b4 m hO c t (ix2 i j) = m ((c : Thread nD τ).loc main_arg2) (ix2 (at' m hO t i) j) := by
  have e := (index_eq m hO t d hd).2.2.2.2.1
  refine congrArg (m ((c : Thread nD τ).loc main_arg2)) (funext fun (a : Fin 2) => Fin.ext ?_)
  refine (Pipeline.Window.rect_emb_val ((cfgM m hO).win 4) t (ix2 i j) a).trans ?_
  rw [e]
  match a with
  | 0 => rfl
  | 1 => exact (congrArg (· + j.val) (Nat.zero_mul _)).trans (Nat.zero_add _)
theorem read5 : b5 m hO c t (ix2 i j) = m ((c : Thread nD τ).loc main_arg3) (ix2 (at' m hO t i) j) := by
  have e := (index_eq m hO t d hd).2.2.2.2.2.1
  refine congrArg (m ((c : Thread nD τ).loc main_arg3)) (funext fun (a : Fin 2) => Fin.ext ?_)
  refine (Pipeline.Window.rect_emb_val ((cfgM m hO).win 5) t (ix2 i j) a).trans ?_
  rw [e]
  match a with
  | 0 => rfl
  | 1 => exact (congrArg (· + j.val) (Nat.zero_mul _)).trans (Nat.zero_add _)
theorem read6 : b6 m hO c t (ix2 i j) = m ((c : Thread nD τ).loc main_arg4) (ix2 (at' m hO t i) j) := by
  have e := (index_eq m hO t d hd).2.2.2.2.2.2.1
  refine congrArg (m ((c : Thread nD τ).loc main_arg4)) (funext fun (a : Fin 2) => Fin.ext ?_)
  refine (Pipeline.Window.rect_emb_val ((cfgM m hO).win 6) t (ix2 i j) a).trans ?_
  rw [e]
  match a with
  | 0 => rfl
  | 1 => exact (congrArg (· + j.val) (Nat.zero_mul _)).trans (Nat.zero_add _)
theorem place7 : (((cfgM m hO).win 7).blk t).view.emb (ix2 i j) = (ix2 (at' m hO t i) j : S1024x256.Idx) := by
  have e := (index_eq m hO t d hd).2.2.2.2.2.2.2.1
  refine funext fun (a : Fin 2) => Fin.ext ?_
  refine (Pipeline.Window.rect_emb_val ((cfgM m hO).win 7) t (ix2 i j) a).trans ?_
  rw [e]
  match a with
  | 0 => rfl
  | 1 => exact (congrArg (· + j.val) (Nat.zero_mul _)).trans (Nat.zero_add _)
theorem place8 : (((cfgM m hO).win 8).blk t).view.emb (ix2 i j) = (ix2 (at' m hO t i) j : S1024x256.Idx) := by
  have e := (index_eq m hO t d hd).2.2.2.2.2.2.2.2.1
  refine funext fun (a : Fin 2) => Fin.ext ?_
  refine (Pipeline.Window.rect_emb_val ((cfgM m hO).win 8) t (ix2 i j) a).trans ?_
  rw [e]
  match a with
  | 0 => rfl
  | 1 => exact (congrArg (· + j.val) (Nat.zero_mul _)).trans (Nat.zero_add _)
theorem place9 : (((cfgM m hO).win 9).blk t).view.emb (ix2 i j) = (ix2 (at' m hO t i) j : S1024x256.Idx) := by
  have e := (index_eq m hO t d hd).2.2.2.2.2.2.2.2.2.1
  refine funext fun (a : Fin 2) => Fin.ext ?_
  refine (Pipeline.Window.rect_emb_val ((cfgM m hO).win 9) t (ix2 i j) a).trans ?_
  rw [e]
  match a with
  | 0 => rfl
  | 1 => exact (congrArg (· + j.val) (Nat.zero_mul _)).trans (Nat.zero_add _)
theorem place10 : (((cfgM m hO).win 10).blk t).view.emb (ix2 i j) = (ix2 (at' m hO t i) j : S1024x256.Idx) := by
  have e := (index_eq m hO t d hd).2.2.2.2.2.2.2.2.2.2
  refine funext fun (a : Fin 2) => Fin.ext ?_
  refine (Pipeline.Window.rect_emb_val ((cfgM m hO).win 10) t (ix2 i j) a).trans ?_
  rw [e]
  match a with
  | 0 => rfl
  | 1 => exact (congrArg (· + j.val) (Nat.zero_mul _)).trans (Nat.zero_add _)

omit hd

/-! ## The arrays -/

abbrev Shares := FVec Ideal ⟨3, ![8, 1024, 256]⟩ .bf16
abbrev Weight := FVec Ideal ⟨2, ![1024, 256]⟩ .f32

/-- The gradient: the sum of the shares. -/
def grad (d : Fin 8) (L P : Shares) : Weight := fun y => P (ix3 d (y 0) (y 1)) + L (ix3 (peer d 2) (y 0) (y 1)) + L (ix3 (peer d 4) (y 0) (y 1)) + L (ix3 (peer d 6) (y 0) (y 1))
def moment1 (d : Fin 8) (L P : Shares) (m : Weight) : Weight := fun y => first (grad d L P y) (m y)
def moment2 (d : Fin 8) (L P : Shares) (v : Weight) : Weight := fun y => second (grad d L P y) (v y)
def delta (d : Fin 8) (L P : Shares) (w m v : Weight) : Weight := fun y => change (grad d L P y) (w y) (m y) (v y)

abbrev aL : Shares := m ((c : Thread nD τ).loc main_arg0)
abbrev aP : Shares := m ((c : Thread nD τ).loc main_arg1)
abbrev aw : Weight := m ((c : Thread nD τ).loc main_arg2)
abbrev am : Weight := m ((c : Thread nD τ).loc main_arg3)
abbrev av : Weight := m ((c : Thread nD τ).loc main_arg4)

include hd

theorem total_eq : total (b0 m hO c t) (b1 m hO c t) (b2 m hO c t) (b3 m hO c t) i j = grad d (aL m c) (aP m c) (ix2 (at' m hO t i) j) := by
  show (b0 m hO c t (ix3 0 i j) : EReal) + (b1 m hO c t (ix3 0 i j) : EReal) + (b2 m hO c t (ix3 0 i j) : EReal) + (b3 m hO c t (ix3 0 i j) : EReal) = _
  rw [read0 m hO c t i j d hd, read1 m hO c t i j d hd, read2 m hO c t i j d hd, read3 m hO c t i j d hd]
  rfl
theorem arr7 : (dats m hO 0 c).arrAt 7 (cfgM m hO).N = grad d (aL m c) (aP m c) := by
  refine (dats m hO 0 c).arrAt_eq_of_covers 7 _ (cov7 _) fun t _ y => ?_
  blk_simp
  rw [after0_7, g_point]
  have h : ∀ y : S256x256.Idx, k0_pay2 (b0 m hO c t) (b1 m hO c t) (b2 m hO c t) (b3 m hO c t) y = grad d (aL m c) (aP m c) (((((cfgM m hO).win 7).blk t).view.emb y : S1024x256.Idx)) := fun y => by
    obtain ⟨i, j, rfl⟩ : ∃ (i : Fin 256) (j : Fin 256), y = ix2 i j := ⟨y 0, y 1, eq_ix2 y⟩
    refine (g_apply ..).trans ?_
    rw [total_eq m hO c t _ _ d hd]
    exact congrArg (grad d (aL m c) (aP m c)) (place7 m hO t _ _ d hd).symm
  exact h y
theorem arr8 : (dats m hO 0 c).arrAt 8 (cfgM m hO).N = delta d (aL m c) (aP m c) (aw m c) (am m c) (av m c) := by
  refine (dats m hO 0 c).arrAt_eq_of_covers 8 _ (cov8 _) fun t _ y => ?_
  blk_simp
  rw [after0_8, d_point]
  have h : ∀ y : S256x256.Idx, delta_pay (b0 m hO c t) (b1 m hO c t) (b2 m hO c t) (b3 m hO c t) (b4 m hO c t) (b5 m hO c t) (b6 m hO c t) y = delta d (aL m c) (aP m c) (aw m c) (am m c) (av m c) (((((cfgM m hO).win 8).blk t).view.emb y : S1024x256.Idx)) := fun y => by
    obtain ⟨i, j, rfl⟩ : ∃ (i : Fin 256) (j : Fin 256), y = ix2 i j := ⟨y 0, y 1, eq_ix2 y⟩
    refine (d_apply ..).trans ?_
    rw [total_eq m hO c t _ _ d hd, read4 m hO c t _ _ d hd, read5 m hO c t _ _ d hd, read6 m hO c t _ _ d hd]
    exact congrArg (delta d (aL m c) (aP m c) (aw m c) (am m c) (av m c)) (place8 m hO t _ _ d hd).symm
  exact h y
theorem arr9 : (dats m hO 0 c).arrAt 9 (cfgM m hO).N = moment1 d (aL m c) (aP m c) (am m c) := by
  refine (dats m hO 0 c).arrAt_eq_of_covers 9 _ (cov9 _) fun t _ y => ?_
  blk_simp
  rw [after0_9, m_point]
  have h : ∀ y : S256x256.Idx, k0_pay3 (b0 m hO c t) (b1 m hO c t) (b2 m hO c t) (b3 m hO c t) (b5 m hO c t) y = moment1 d (aL m c) (aP m c) (am m c) (((((cfgM m hO).win 9).blk t).view.emb y : S1024x256.Idx)) := fun y => by
    obtain ⟨i, j, rfl⟩ : ∃ (i : Fin 256) (j : Fin 256), y = ix2 i j := ⟨y 0, y 1, eq_ix2 y⟩
    refine (m_apply ..).trans ?_
    rw [total_eq m hO c t _ _ d hd, read5 m hO c t _ _ d hd]
    exact congrArg (moment1 d (aL m c) (aP m c) (am m c)) (place9 m hO t _ _ d hd).symm
  exact h y
theorem arr10 : (dats m hO 0 c).arrAt 10 (cfgM m hO).N = moment2 d (aL m c) (aP m c) (av m c) := by
  refine (dats m hO 0 c).arrAt_eq_of_covers 10 _ (cov10 _) fun t _ y => ?_
  blk_simp
  rw [after0_10, v_point]
  have h : ∀ y : S256x256.Idx, k0_pay4 (b0 m hO c t) (b1 m hO c t) (b2 m hO c t) (b3 m hO c t) (b6 m hO c t) y = moment2 d (aL m c) (aP m c) (av m c) (((((cfgM m hO).win 10).blk t).view.emb y : S1024x256.Idx)) := fun y => by
    obtain ⟨i, j, rfl⟩ : ∃ (i : Fin 256) (j : Fin 256), y = ix2 i j := ⟨y 0, y 1, eq_ix2 y⟩
    refine (v_apply ..).trans ?_
    rw [total_eq m hO c t _ _ d hd, read6 m hO c t _ _ d hd]
    exact congrArg (moment2 d (aL m c) (aP m c) (av m c)) (place10 m hO t _ _ d hd).symm
  exact h y

/-! ## The run -/

theorem run (ρ : Dev nD → PrngReg) : θ_run defs (onTc (τ := τ) (main (F := Ideal))) ⟨m, fun _ => 0, ρ⟩ fun r => ∀ c : Dev nD,
      r.2.mem ((c : Thread nD τ).loc main_v0_0) = grad d (aL m c) (aP m c)
      ∧ r.2.mem ((c : Thread nD τ).loc main_v0_1) = delta d (aL m c) (aP m c) (aw m c) (am m c) (av m c)
      ∧ r.2.mem ((c : Thread nD τ).loc main_v0_2) = moment1 d (aL m c) (aP m c) (am m c)
      ∧ r.2.mem ((c : Thread nD τ).loc main_v0_3) = moment2 d (aL m c) (aP m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  have hO : Ok m := by unfold Ok; rw [hd]; exact ok_held d
  (θ_run defs _ _).mono (fun _ h c => ⟨((h c).1 7).trans (arr7 m hO c d hd),
      ((h c).1 8).trans (arr8 m hO c d hd),
      ((h c).1 9).trans (arr9 m hO c d hd),
      ((h c).1 10).trans (arr10 m hO c d hd),
      ((h c).1 3).trans (((dats m hO 0 c).arrAt_in 3 rfl _).trans ((A_eq m hO c 3).trans (V_main_arg0 m c))),
      ((h c).1 0).trans (((dats m hO 0 c).arrAt_in 0 rfl _).trans ((A_eq m hO c 0).trans (V_main_arg1 m c))),
      ((h c).1 4).trans (((dats m hO 0 c).arrAt_in 4 rfl _).trans ((A_eq m hO c 4).trans (V_main_arg2 m c))),
      ((h c).1 5).trans (((dats m hO 0 c).arrAt_in 5 rfl _).trans ((A_eq m hO c 5).trans (V_main_arg3 m c))),
      ((h c).1 6).trans (((dats m hO 0 c).arrAt_in 6 rfl _).trans ((A_eq m hO c 6).trans (V_main_arg4 m c))),
      ((h c).2 main_arg5 (by decide : main_arg5 ∈ Pipeline.restRefs sig spec0)).trans (V_main_arg5 m c)⟩) (run_main m ρ hO)

omit hd

/-! ## The reference -/

section
open Cert.Reference15Ideal.Read

variable (L P : Shares) (w0 m0 v0 : Weight)

abbrev me (d : Fin 8) : (⟨1, ![1]⟩ : Shape).Idx → BitVec 32 := fun _ => BitVec.ofNat 32 d.val

theorem term_eq (i : Fin 1024) (j : Fin 256) (k : Fin 8) :
    val_main_v13 (F := Ideal) L P (me d) (ix3 k i j) = share d k (P (ix3 k i j)) (L (ix3 k i j)) := by
  have z : (FloatOps.ofBits (F := Ideal) .f32 0x00000000#32 : EReal) = 0 := Ideal.ofBits_zero_f32
  show Scalar.select _ (mine d k (P (ix3 k i j)) (L (ix3 k i j))) (FloatOps.ofBits (F := Ideal) .f32 0x00000000#32 : EReal) = _
  rw [z]
  rfl
theorem grad_ref : val_main_v14 (F := Ideal) L P (me d) = grad d L P := by
  funext y
  have z : (FloatOps.ofBits (F := Ideal) .f32 0x00000000#32 : EReal) = 0 := Ideal.ofBits_zero_f32
  refine (val_main_v14_apply L P (me d) y).trans ?_
  refine (congrArg₂ (fun a b : EReal => a + b) z (Finset.sum_congr rfl fun k _ => ?_)).trans
    ((zero_add _).trans (sum_share d (fun k => P (ix3 k (y 0 : Fin 1024) (y 1 : Fin 256))) (fun k => L (ix3 k (y 0 : Fin 1024) (y 1 : Fin 256)))))
  have e : idx_main_v14 y k = ix3 k (y 0 : Fin 1024) (y 1 : Fin 256) := funext fun a => Fin.ext (by
    match a with
    | 0 => rfl
    | 1 => rfl
    | 2 => rfl)
  exact (congrArg _ e).trans (term_eq d L P _ _ k)
theorem moment1_ref : val_main_v19 (F := Ideal) L P m0 (me d) = moment1 d L P m0 := by
  unfold moment1; rw [← grad_ref]; rfl
theorem moment2_ref : val_main_v25 (F := Ideal) L P v0 (me d) = moment2 d L P v0 := by
  unfold moment2; rw [← grad_ref]; rfl
theorem delta_ref : val_main_v38 (F := Ideal) L P w0 m0 v0 (me d) = delta d L P w0 m0 v0 := by
  unfold delta
  rw [← grad_ref]
  funext y
  simp only [val_main_v38_apply, val_main_v37_apply, val_main_cst_10_apply, val_main_v36_apply, val_main_v35_apply, val_main_v34_apply, val_main_cst_9_apply, val_main_v33_apply, val_main_v32_apply, val_main_v31_apply, val_main_cst_8_apply, val_main_v30_apply, val_main_v29_apply, val_main_v28_apply, val_main_cst_7_apply, val_main_v27_apply, val_main_v26_apply, val_main_cst_6_apply]
  rfl

end

end Cert.AdamKeys

end
-- ==== Proof.AdamOut.lean ====
/- The optimiser's call for the projection out of the mixing block: what every grid point leaves in the blocks of the four
   results, what the result arrays hold at the end, for every number of a device; and the same of the reference. -/
module

public import proofs.«01_k».proof.Proof.InPoints
public import proofs.«01_k».proof.Proof.AdamSpec
public import proofs.«01_k».proof.Proof.Gen.Kernel16.Frame
public import proofs.«01_k».proof.Proof.Gen.Kernel16Ideal.Frame
public import proofs.«01_k».proof.Proof.Gen.Pre_device16
public import proofs.«01_k».proof.Proof.Gen.Reference16Ideal.Read

@[expose] public section

set_option maxRecDepth 16384

noncomputable section

/-! ## The blocks lie in the arrays, for every number of a device -/

namespace Cert.AdamOut.Words

open Idealize.ShloMosaic Idealize.ShloMosaic.TcCoe Idealize.SL.Sem
open Cert.Kernel16 Cert.Kernel16.Gen

set_option backward.proofsInPublic true in
/-- The table that holds device `d`'s number. -/
def held (d : Fin 8) : pre0.Contents (Elt Bits) :=
  fun | ⟨0, _⟩ => fun _ => BitVec.ofNat 32 d.val | ⟨_ + 1, h⟩ => absurd h (by simp)

theorem ok_held : ∀ d : Fin 8, ok0 (F := Bits) (held d) := by decide +kernel

theorem ok_of_word (m : (ℓ : Loc nD τ sig) → Buf (Elt Bits) ℓ) (d : Fin 8)
    (h : m ((0 : Dev nD) |>.tc.loc main_arg5) = fun _ => BitVec.ofNat 32 d.val) : Ok m := by
  have e : tbl m = held d := by
    funext j
    match j with
    | ⟨0, _⟩ => exact h
  unfold Ok
  rw [e]
  exact ok_held d

end Cert.AdamOut.Words

namespace Cert.AdamOut

open Idealize.ShloMosaic Idealize.ShloMosaic.TcCoe Idealize.SL.Sem
open Cert.Kernel16Ideal Cert.Kernel16Ideal.Gen Cert.AdamSpec

/-- The precondition says that the table holds a device's number. -/
theorem device_of_fn {F : FTy → Type} [FloatOps F] (x0 x1 x2 x3 x4) (x5 : IVec Pre_device16.S1 32)
    (h : Pre_device16.fn (F := F) x0 x1 x2 x3 x4 x5 = fun _ => 1#1) : ∃ d : Fin 8, x5 = fun _ => BitVec.ofNat 32 d.val :=
  table_device x5 (congrFun h (ValueIdx.ix1 0))

set_option backward.proofsInPublic true in
/-- The table that holds device `d`'s number. -/
def held (d : Fin 8) : pre0.Contents (Elt Ideal) :=
  fun | ⟨0, _⟩ => fun _ => BitVec.ofNat 32 d.val | ⟨_ + 1, h⟩ => absurd h (by simp)

theorem ok_held : ∀ d : Fin 8, ok0 (F := Ideal) (held d) := by decide +kernel

theorem idx_held : ∀ (d : Fin 8) (t : Fin grid0.N),
    ix0 (F := Ideal) (held d) 0 (grid0.coords t) = ![d.val, t.val, 0]
    ∧ ix0 (F := Ideal) (held d) 1 (grid0.coords t) = ![(peer d 1).val, t.val, 0]
    ∧ ix0 (F := Ideal) (held d) 2 (grid0.coords t) = ![(peer d 2).val, t.val, 0]
    ∧ ix0 (F := Ideal) (held d) 3 (grid0.coords t) = ![(peer d 3).val, t.val, 0]
    ∧ ix0 (F := Ideal) (held d) 4 (grid0.coords t) = ![(peer d 4).val, t.val, 0]
    ∧ ix0 (F := Ideal) (held d) 5 (grid0.coords t) = ![(peer d 5).val, t.val, 0]
    ∧ ix0 (F := Ideal) (held d) 6 (grid0.coords t) = ![(peer d 6).val, t.val, 0]
    ∧ ix0 (F := Ideal) (held d) 7 (grid0.coords t) = ![(peer d 7).val, t.val, 0]
    ∧ ix0 (F := Ideal) (held d) 8 (grid0.coords t) = ![t.val, 0]
    ∧ ix0 (F := Ideal) (held d) 9 (grid0.coords t) = ![t.val, 0]
    ∧ ix0 (F := Ideal) (held d) 10 (grid0.coords t) = ![t.val, 0]
    ∧ ix0 (F := Ideal) (held d) 11 (grid0.coords t) = ![t.val, 0]
    ∧ ix0 (F := Ideal) (held d) 12 (grid0.coords t) = ![t.val, 0]
    ∧ ix0 (F := Ideal) (held d) 13 (grid0.coords t) = ![t.val, 0]
    ∧ ix0 (F := Ideal) (held d) 14 (grid0.coords t) = ![t.val, 0] := by decide +kernel
theorem cov_held11 : ((cfg0 (F := Ideal) ⟨held 0, ok_held 0⟩).win 11).Covers := by decide +kernel
theorem cov_held12 : ((cfg0 (F := Ideal) ⟨held 0, ok_held 0⟩).win 12).Covers := by decide +kernel
theorem cov_held13 : ((cfg0 (F := Ideal) ⟨held 0, ok_held 0⟩).win 13).Covers := by decide +kernel
theorem cov_held14 : ((cfg0 (F := Ideal) ⟨held 0, ok_held 0⟩).win 14).Covers := by decide +kernel
theorem cov11 (a : (pcfg0 (F := Ideal)).Adm) : ((cfg0 a).win 11).Covers := cov_held11
theorem cov12 (a : (pcfg0 (F := Ideal)).Adm) : ((cfg0 a).win 12).Covers := cov_held12
theorem cov13 (a : (pcfg0 (F := Ideal)).Adm) : ((cfg0 a).win 13).Covers := cov_held13
theorem cov14 (a : (pcfg0 (F := Ideal)).Adm) : ((cfg0 a).win 14).Covers := cov_held14

variable (m : (ℓ : Loc nD τ sig) → Buf (Elt Ideal) ℓ)

theorem tbl_of_word (d : Fin 8) (h : m ((0 : Dev nD) |>.tc.loc main_arg5) = fun _ => BitVec.ofNat 32 d.val) : tbl m = held d := by
  funext j
  match j with
  | ⟨0, _⟩ => exact h
theorem ok_of_word (d : Fin 8) (h : m ((0 : Dev nD) |>.tc.loc main_arg5) = fun _ => BitVec.ofNat 32 d.val) : Ok m := by
  unfold Ok
  rw [tbl_of_word m d h]
  exact ok_held d

variable (hO : Ok m) (c : Dev nD) (t : Fin (cfgM m hO).N)

/-! ## What one grid point leaves -/

abbrev b0 : Vec Ideal S1x128x1024 .bf16 := iblk m hO c 0 t
abbrev b1 : Vec Ideal S1x128x1024 .bf16 := iblk m hO c 1 t
abbrev b2 : Vec Ideal S1x128x1024 .bf16 := iblk m hO c 2 t
abbrev b3 : Vec Ideal S1x128x1024 .bf16 := iblk m hO c 3 t
abbrev b4 : Vec Ideal S1x128x1024 .bf16 := iblk m hO c 4 t
abbrev b5 : Vec Ideal S1x128x1024 .bf16 := iblk m hO c 5 t
abbrev b6 : Vec Ideal S1x128x1024 .bf16 := iblk m hO c 6 t
abbrev b7 : Vec Ideal S1x128x1024 .bf16 := iblk m hO c 7 t
abbrev b8 : Vec Ideal S128x1024 .f32 := iblk m hO c 8 t
abbrev b9 : Vec Ideal S128x1024 .f32 := iblk m hO c 9 t
abbrev b10 : Vec Ideal S128x1024 .f32 := iblk m hO c 10 t

abbrev delta_pay (p0 p1 p2 p3 p4 p5 p6 p7 : Vec Ideal S1x128x1024 .bf16) (w m v : Vec Ideal S128x1024 .f32) : FVec Ideal S128x1024 .f32 :=
  k0_pay3 (k0_pay4 p0 p1 p2 p3 p4 p5 p6 p7) w m v
abbrev m_pay (p0 p1 p2 p3 p4 p5 p6 p7 : Vec Ideal S1x128x1024 .bf16) (m : Vec Ideal S128x1024 .f32) : FVec Ideal S128x1024 .f32 := k0_pay1 (k0_pay4 p0 p1 p2 p3 p4 p5 p6 p7) m
abbrev v_pay (p0 p1 p2 p3 p4 p5 p6 p7 : Vec Ideal S1x128x1024 .bf16) (v : Vec Ideal S128x1024 .f32) : FVec Ideal S128x1024 .f32 := k0_pay2 (k0_pay4 p0 p1 p2 p3 p4 p5 p6 p7) v
theorem g_congr {p0 p1 p2 p3 p4 p5 p6 p7 q0 q1 q2 q3 q4 q5 q6 q7 : Vec Ideal S1x128x1024 .bf16}
    (hp0 : p0 = q0) (hp1 : p1 = q1) (hp2 : p2 = q2) (hp3 : p3 = q3) (hp4 : p4 = q4) (hp5 : p5 = q5) (hp6 : p6 = q6) (hp7 : p7 = q7) :
    k0_pay4 (F := Ideal) p0 p1 p2 p3 p4 p5 p6 p7 = k0_pay4 (F := Ideal) q0 q1 q2 q3 q4 q5 q6 q7 := by
  cases hp0; cases hp1; cases hp2; cases hp3; cases hp4; cases hp5; cases hp6; cases hp7; rfl
theorem m_congr {p0 p1 p2 p3 p4 p5 p6 p7 q0 q1 q2 q3 q4 q5 q6 q7 : Vec Ideal S1x128x1024 .bf16} {x0 y0 : Vec Ideal S128x1024 .f32}
    (hp0 : p0 = q0) (hp1 : p1 = q1) (hp2 : p2 = q2) (hp3 : p3 = q3) (hp4 : p4 = q4) (hp5 : p5 = q5) (hp6 : p6 = q6) (hp7 : p7 = q7) (hx0 : x0 = y0) :
    m_pay p0 p1 p2 p3 p4 p5 p6 p7 x0 = m_pay q0 q1 q2 q3 q4 q5 q6 q7 y0 := by
  cases hp0; cases hp1; cases hp2; cases hp3; cases hp4; cases hp5; cases hp6; cases hp7; cases hx0; rfl
theorem v_congr {p0 p1 p2 p3 p4 p5 p6 p7 q0 q1 q2 q3 q4 q5 q6 q7 : Vec Ideal S1x128x1024 .bf16} {x0 y0 : Vec Ideal S128x1024 .f32}
    (hp0 : p0 = q0) (hp1 : p1 = q1) (hp2 : p2 = q2) (hp3 : p3 = q3) (hp4 : p4 = q4) (hp5 : p5 = q5) (hp6 : p6 = q6) (hp7 : p7 = q7) (hx0 : x0 = y0) :
    v_pay p0 p1 p2 p3 p4 p5 p6 p7 x0 = v_pay q0 q1 q2 q3 q4 q5 q6 q7 y0 := by
  cases hp0; cases hp1; cases hp2; cases hp3; cases hp4; cases hp5; cases hp6; cases hp7; cases hx0; rfl
theorem d_congr {p0 p1 p2 p3 p4 p5 p6 p7 q0 q1 q2 q3 q4 q5 q6 q7 : Vec Ideal S1x128x1024 .bf16} {x0 x1 x2 y0 y1 y2 : Vec Ideal S128x1024 .f32}
    (hp0 : p0 = q0) (hp1 : p1 = q1) (hp2 : p2 = q2) (hp3 : p3 = q3) (hp4 : p4 = q4) (hp5 : p5 = q5) (hp6 : p6 = q6) (hp7 : p7 = q7) (hx0 : x0 = y0) (hx1 : x1 = y1) (hx2 : x2 = y2) :
    delta_pay p0 p1 p2 p3 p4 p5 p6 p7 x0 x1 x2 = delta_pay q0 q1 q2 q3 q4 q5 q6 q7 y0 y1 y2 := by
  cases hp0; cases hp1; cases hp2; cases hp3; cases hp4; cases hp5; cases hp6; cases hp7; cases hx0; cases hx1; cases hx2; rfl
theorem g_point : (outsAt0 m hO c t).1 = k0_pay4 (b0 m hO c t) (b1 m hO c t) (b2 m hO c t) (b3 m hO c t) (b4 m hO c t) (b5 m hO c t) (b6 m hO c t) (b7 m hO c t) := by
  unfold outsAt0
  frame_out
  exact g_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _)
theorem d_point : (outsAt0 m hO c t).2.1 = delta_pay (b0 m hO c t) (b1 m hO c t) (b2 m hO c t) (b3 m hO c t) (b4 m hO c t) (b5 m hO c t) (b6 m hO c t) (b7 m hO c t) (b8 m hO c t) (b9 m hO c t) (b10 m hO c t) := by
  unfold outsAt0
  frame_out
  exact d_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _) ((hs0_8 m hO t).read_unread _) ((hs0_9 m hO t).read_unread _) ((hs0_10 m hO t).read_unread _)
theorem m_point : (outsAt0 m hO c t).2.2.1 = m_pay (b0 m hO c t) (b1 m hO c t) (b2 m hO c t) (b3 m hO c t) (b4 m hO c t) (b5 m hO c t) (b6 m hO c t) (b7 m hO c t) (b9 m hO c t) := by
  unfold outsAt0
  frame_out
  exact m_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _) ((hs0_9 m hO t).read_unread _)
theorem v_point : (outsAt0 m hO c t).2.2.2 = v_pay (b0 m hO c t) (b1 m hO c t) (b2 m hO c t) (b3 m hO c t) (b4 m hO c t) (b5 m hO c t) (b6 m hO c t) (b7 m hO c t) (b10 m hO c t) := by
  unfold outsAt0
  frame_out
  exact v_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _) ((hs0_10 m hO t).read_unread _)

/-! ## The payloads, read at an index -/

variable (p0 p1 p2 p3 p4 p5 p6 p7 : Vec Ideal S1x128x1024 .bf16) (w1 m1 v1 : Vec Ideal S128x1024 .f32) (i : Fin 128) (j : Fin 1024)

abbrev total : EReal := (p0 (ix3 0 i j) : EReal) + (p1 (ix3 0 i j) : EReal) + (p2 (ix3 0 i j) : EReal) + (p3 (ix3 0 i j) : EReal) + (p4 (ix3 0 i j) : EReal) + (p5 (ix3 0 i j) : EReal) + (p6 (ix3 0 i j) : EReal) + (p7 (ix3 0 i j) : EReal)

theorem g_apply : k0_pay4 (F := Ideal) p0 p1 p2 p3 p4 p5 p6 p7 (ix2 i j) = total p0 p1 p2 p3 p4 p5 p6 p7 i j := by pointwise [k0_pay4, total]
theorem m_apply : m_pay p0 p1 p2 p3 p4 p5 p6 p7 m1 (ix2 i j) = first (total p0 p1 p2 p3 p4 p5 p6 p7 i j) (m1 (ix2 i j)) := by
  rw [← g_apply]; rfl
theorem v_apply : v_pay p0 p1 p2 p3 p4 p5 p6 p7 v1 (ix2 i j) = second (total p0 p1 p2 p3 p4 p5 p6 p7 i j) (v1 (ix2 i j)) := by
  rw [← g_apply]; rfl
theorem d_apply : delta_pay p0 p1 p2 p3 p4 p5 p6 p7 w1 m1 v1 (ix2 i j)
    = change (total p0 p1 p2 p3 p4 p5 p6 p7 i j) (w1 (ix2 i j)) (m1 (ix2 i j)) (v1 (ix2 i j)) := by
  rw [← g_apply]; rfl

/-! ## Where the blocks lie -/

theorem lt_points (t : Fin (cfgM m hO).N) : t.val < 1 := t.isLt
/-- Row `i` of point `t`'s blocks is this row of the arrays. -/
def at' (t : Fin (cfgM m hO).N) (i : Fin 128) : Fin 128 := ⟨t.val * 128 + i.val, by have := lt_points m hO t; omega⟩

variable (d : Fin 8) (hd : tbl m = held d)
include hd

theorem index_eq : ((cfgM m hO).win 0).index t = ![d.val, t.val, 0] ∧ ((cfgM m hO).win 1).index t = ![(peer d 1).val, t.val, 0] ∧ ((cfgM m hO).win 2).index t = ![(peer d 2).val, t.val, 0] ∧ ((cfgM m hO).win 3).index t = ![(peer d 3).val, t.val, 0] ∧ ((cfgM m hO).win 4).index t = ![(peer d 4).val, t.val, 0] ∧ ((cfgM m hO).win 5).index t = ![(peer d 5).val, t.val, 0] ∧ ((cfgM m hO).win 6).index t = ![(peer d 6).val, t.val, 0] ∧ ((cfgM m hO).win 7).index t = ![(peer d 7).val, t.val, 0] ∧ ((cfgM m hO).win 8).index t = ![t.val, 0] ∧ ((cfgM m hO).win 9).index t = ![t.val, 0] ∧ ((cfgM m hO).win 10).index t = ![t.val, 0] ∧ ((cfgM m hO).win 11).index t = ![t.val, 0] ∧ ((cfgM m hO).win 12).index t = ![t.val, 0] ∧ ((cfgM m hO).win 13).index t = ![t.val, 0] ∧ ((cfgM m hO).win 14).index t = ![t.val, 0] := by
  have e := idx_held d t
  rw [← hd] at e
  exact e

theorem read0 : b0 m hO c t (ix3 0 i j) = m ((c : Thread nD τ).loc main_arg1) (ix3 d (at' m hO t i) j) := by
  have e := (index_eq m hO t d hd).1
  refine congrArg (m ((c : Thread nD τ).loc main_arg1)) (funext fun (a : Fin 3) => Fin.ext ?_)
  refine (Pipeline.Window.rect_emb_val ((cfgM m hO).win 0) t (ix3 0 i j) a).trans ?_
  rw [e]
  match a with
  | 0 => exact Nat.mul_one _
  | 1 => rfl
  | 2 => exact (congrArg (· + j.val) (Nat.zero_mul _)).trans (Nat.zero_add _)
theorem read1 : b1 m hO c t (ix3 0 i j) = m ((c : Thread nD τ).loc main_arg0) (ix3 (peer d 1) (at' m hO t i) j) := by
  have e := (index_eq m hO t d hd).2.1
  refine congrArg (m ((c : Thread nD τ).loc main_arg0)) (funext fun (a : Fin 3) => Fin.ext ?_)
  refine (Pipeline.Window.rect_emb_val ((cfgM m hO).win 1) t (ix3 0 i j) a).trans ?_
  rw [e]
  match a with
  | 0 => exact Nat.mul_one _
  | 1 => rfl
  | 2 => exact (congrArg (· + j.val) (Nat.zero_mul _)).trans (Nat.zero_add _)
theorem read2 : b2 m hO c t (ix3 0 i j) = m ((c : Thread nD τ).loc main_arg0) (ix3 (peer d 2) (at' m hO t i) j) := by
  have e := (index_eq m hO t d hd).2.2.1
  refine congrArg (m ((c : Thread nD τ).loc main_arg0)) (funext fun (a : Fin 3) => Fin.ext ?_)
  refine (Pipeline.Window.rect_emb_val ((cfgM m hO).win 2) t (ix3 0 i j) a).trans ?_
  rw [e]
  match a with
  | 0 => exact Nat.mul_one _
  | 1 => rfl
  | 2 => exact (congrArg (· + j.val) (Nat.zero_mul _)).trans (Nat.zero_add _)
theorem read3 : b3 m hO c t (ix3 0 i j) = m ((c : Thread nD τ).loc main_arg0) (ix3 (peer d 3) (at' m hO t i) j) := by
  have e := (index_eq m hO t d hd).2.2.2.1
  refine congrArg (m ((c : Thread nD τ).loc main_arg0)) (funext fun (a : Fin 3) => Fin.ext ?_)
  refine (Pipeline.Window.rect_emb_val ((cfgM m hO).win 3) t (ix3 0 i j) a).trans ?_
  rw [e]
  match a with
  | 0 => exact Nat.mul_one _
  | 1 => rfl
  | 2 => exact (congrArg (· + j.val) (Nat.zero_mul _)).trans (Nat.zero_add _)
theorem read4 : b4 m hO c t (ix3 0 i j) = m ((c : Thread nD τ).loc main_arg0) (ix3 (peer d 4) (at' m hO t i) j) := by
  have e := (index_eq m hO t d hd).2.2.2.2.1
  refine congrArg (m ((c : Thread nD τ).loc main_arg0)) (funext fun (a : Fin 3) => Fin.ext ?_)
  refine (Pipeline.Window.rect_emb_val ((cfgM m hO).win 4) t (ix3 0 i j) a).trans ?_
  rw [e]
  match a with
  | 0 => exact Nat.mul_one _
  | 1 => rfl
  | 2 => exact (congrArg (· + j.val) (Nat.zero_mul _)).trans (Nat.zero_add _)
theorem read5 : b5 m hO c t (ix3 0 i j) = m ((c : Thread nD τ).loc main_arg0) (ix3 (peer d 5) (at' m hO t i) j) := by
  have e := (index_eq m hO t d hd).2.2.2.2.2.1
  refine congrArg (m ((c : Thread nD τ).loc main_arg0)) (funext fun (a : Fin 3) => Fin.ext ?_)
  refine (Pipeline.Window.rect_emb_val ((cfgM m hO).win 5) t (ix3 0 i j) a).trans ?_
  rw [e]
  match a with
  | 0 => exact Nat.mul_one _
  | 1 => rfl
  | 2 => exact (congrArg (· + j.val) (Nat.zero_mul _)).trans (Nat.zero_add _)
theorem read6 : b6 m hO c t (ix3 0 i j) = m ((c : Thread nD τ).loc main_arg0) (ix3 (peer d 6) (at' m hO t i) j) := by
  have e := (index_eq m hO t d hd).2.2.2.2.2.2.1
  refine congrArg (m ((c : Thread nD τ).loc main_arg0)) (funext fun (a : Fin 3) => Fin.ext ?_)
  refine (Pipeline.Window.rect_emb_val ((cfgM m hO).win 6) t (ix3 0 i j) a).trans ?_
  rw [e]
  match a with
  | 0 => exact Nat.mul_one _
  | 1 => rfl
  | 2 => exact (congrArg (· + j.val) (Nat.zero_mul _)).trans (Nat.zero_add _)
theorem read7 : b7 m hO c t (ix3 0 i j) = m ((c : Thread nD τ).loc main_arg0) (ix3 (peer d 7) (at' m hO t i) j) := by
  have e := (index_eq m hO t d hd).2.2.2.2.2.2.2.1
  refine congrArg (m ((c : Thread nD τ).loc main_arg0)) (funext fun (a : Fin 3) => Fin.ext ?_)
  refine (Pipeline.Window.rect_emb_val ((cfgM m hO).win 7) t (ix3 0 i j) a).trans ?_
  rw [e]
  match a with
  | 0 => exact Nat.mul_one _
  | 1 => rfl
  | 2 => exact (congrArg (· + j.val) (Nat.zero_mul _)).trans (Nat.zero_add _)
theorem read8 : b8 m hO c t (ix2 i j) = m ((c : Thread nD τ).loc main_arg2) (ix2 (at' m hO t i) j) := by
  have e := (index_eq m hO t d hd).2.2.2.2.2.2.2.2.1
  refine congrArg (m ((c : Thread nD τ).loc main_arg2)) (funext fun (a : Fin 2) => Fin.ext ?_)
  refine (Pipeline.Window.rect_emb_val ((cfgM m hO).win 8) t (ix2 i j) a).trans ?_
  rw [e]
  match a with
  | 0 => rfl
  | 1 => exact (congrArg (· + j.val) (Nat.zero_mul _)).trans (Nat.zero_add _)
theorem read9 : b9 m hO c t (ix2 i j) = m ((c : Thread nD τ).loc main_arg3) (ix2 (at' m hO t i) j) := by
  have e := (index_eq m hO t d hd).2.2.2.2.2.2.2.2.2.1
  refine congrArg (m ((c : Thread nD τ).loc main_arg3)) (funext fun (a : Fin 2) => Fin.ext ?_)
  refine (Pipeline.Window.rect_emb_val ((cfgM m hO).win 9) t (ix2 i j) a).trans ?_
  rw [e]
  match a with
  | 0 => rfl
  | 1 => exact (congrArg (· + j.val) (Nat.zero_mul _)).trans (Nat.zero_add _)
theorem read10 : b10 m hO c t (ix2 i j) = m ((c : Thread nD τ).loc main_arg4) (ix2 (at' m hO t i) j) := by
  have e := (index_eq m hO t d hd).2.2.2.2.2.2.2.2.2.2.1
  refine congrArg (m ((c : Thread nD τ).loc main_arg4)) (funext fun (a : Fin 2) => Fin.ext ?_)
  refine (Pipeline.Window.rect_emb_val ((cfgM m hO).win 10) t (ix2 i j) a).trans ?_
  rw [e]
  match a with
  | 0 => rfl
  | 1 => exact (congrArg (· + j.val) (Nat.zero_mul _)).trans (Nat.zero_add _)
theorem place11 : (((cfgM m hO).win 11).blk t).view.emb (ix2 i j) = (ix2 (at' m hO t i) j : S128x1024.Idx) := by
  have e := (index_eq m hO t d hd).2.2.2.2.2.2.2.2.2.2.2.1
  refine funext fun (a : Fin 2) => Fin.ext ?_
  refine (Pipeline.Window.rect_emb_val ((cfgM m hO).win 11) t (ix2 i j) a).trans ?_
  rw [e]
  match a with
  | 0 => rfl
  | 1 => exact (congrArg (· + j.val) (Nat.zero_mul _)).trans (Nat.zero_add _)
theorem place12 : (((cfgM m hO).win 12).blk t).view.emb (ix2 i j) = (ix2 (at' m hO t i) j : S128x1024.Idx) := by
  have e := (index_eq m hO t d hd).2.2.2.2.2.2.2.2.2.2.2.2.1
  refine funext fun (a : Fin 2) => Fin.ext ?_
  refine (Pipeline.Window.rect_emb_val ((cfgM m hO).win 12) t (ix2 i j) a).trans ?_
  rw [e]
  match a with
  | 0 => rfl
  | 1 => exact (congrArg (· + j.val) (Nat.zero_mul _)).trans (Nat.zero_add _)
theorem place13 : (((cfgM m hO).win 13).blk t).view.emb (ix2 i j) = (ix2 (at' m hO t i) j : S128x1024.Idx) := by
  have e := (index_eq m hO t d hd).2.2.2.2.2.2.2.2.2.2.2.2.2.1
  refine funext fun (a : Fin 2) => Fin.ext ?_
  refine (Pipeline.Window.rect_emb_val ((cfgM m hO).win 13) t (ix2 i j) a).trans ?_
  rw [e]
  match a with
  | 0 => rfl
  | 1 => exact (congrArg (· + j.val) (Nat.zero_mul _)).trans (Nat.zero_add _)
theorem place14 : (((cfgM m hO).win 14).blk t).view.emb (ix2 i j) = (ix2 (at' m hO t i) j : S128x1024.Idx) := by
  have e := (index_eq m hO t d hd).2.2.2.2.2.2.2.2.2.2.2.2.2.2
  refine funext fun (a : Fin 2) => Fin.ext ?_
  refine (Pipeline.Window.rect_emb_val ((cfgM m hO).win 14) t (ix2 i j) a).trans ?_
  rw [e]
  match a with
  | 0 => rfl
  | 1 => exact (congrArg (· + j.val) (Nat.zero_mul _)).trans (Nat.zero_add _)

omit hd

/-! ## The arrays -/

abbrev Shares := FVec Ideal ⟨3, ![8, 128, 1024]⟩ .bf16
abbrev Weight := FVec Ideal ⟨2, ![128, 1024]⟩ .f32

/-- The gradient: the sum of the shares. -/
def grad (d : Fin 8) (L P : Shares) : Weight := fun y => P (ix3 d (y 0) (y 1)) + L (ix3 (peer d 1) (y 0) (y 1)) + L (ix3 (peer d 2) (y 0) (y 1)) + L (ix3 (peer d 3) (y 0) (y 1)) + L (ix3 (peer d 4) (y 0) (y 1)) + L (ix3 (peer d 5) (y 0) (y 1)) + L (ix3 (peer d 6) (y 0) (y 1)) + L (ix3 (peer d 7) (y 0) (y 1))
def moment1 (d : Fin 8) (L P : Shares) (m : Weight) : Weight := fun y => first (grad d L P y) (m y)
def moment2 (d : Fin 8) (L P : Shares) (v : Weight) : Weight := fun y => second (grad d L P y) (v y)
def delta (d : Fin 8) (L P : Shares) (w m v : Weight) : Weight := fun y => change (grad d L P y) (w y) (m y) (v y)

abbrev aL : Shares := m ((c : Thread nD τ).loc main_arg0)
abbrev aP : Shares := m ((c : Thread nD τ).loc main_arg1)
abbrev aw : Weight := m ((c : Thread nD τ).loc main_arg2)
abbrev am : Weight := m ((c : Thread nD τ).loc main_arg3)
abbrev av : Weight := m ((c : Thread nD τ).loc main_arg4)

include hd

theorem total_eq : total (b0 m hO c t) (b1 m hO c t) (b2 m hO c t) (b3 m hO c t) (b4 m hO c t) (b5 m hO c t) (b6 m hO c t) (b7 m hO c t) i j = grad d (aL m c) (aP m c) (ix2 (at' m hO t i) j) := by
  show (b0 m hO c t (ix3 0 i j) : EReal) + (b1 m hO c t (ix3 0 i j) : EReal) + (b2 m hO c t (ix3 0 i j) : EReal) + (b3 m hO c t (ix3 0 i j) : EReal) + (b4 m hO c t (ix3 0 i j) : EReal) + (b5 m hO c t (ix3 0 i j) : EReal) + (b6 m hO c t (ix3 0 i j) : EReal) + (b7 m hO c t (ix3 0 i j) : EReal) = _
  rw [read0 m hO c t i j d hd, read1 m hO c t i j d hd, read2 m hO c t i j d hd, read3 m hO c t i j d hd, read4 m hO c t i j d hd, read5 m hO c t i j d hd, read6 m hO c t i j d hd, read7 m hO c t i j d hd]
  rfl
theorem arr11 : (dats m hO 0 c).arrAt 11 (cfgM m hO).N = grad d (aL m c) (aP m c) := by
  refine (dats m hO 0 c).arrAt_eq_of_covers 11 _ (cov11 _) fun t _ y => ?_
  blk_simp
  rw [after0_11, g_point]
  have h : ∀ y : S128x1024.Idx, k0_pay4 (b0 m hO c t) (b1 m hO c t) (b2 m hO c t) (b3 m hO c t) (b4 m hO c t) (b5 m hO c t) (b6 m hO c t) (b7 m hO c t) y = grad d (aL m c) (aP m c) (((((cfgM m hO).win 11).blk t).view.emb y : S128x1024.Idx)) := fun y => by
    obtain ⟨i, j, rfl⟩ : ∃ (i : Fin 128) (j : Fin 1024), y = ix2 i j := ⟨y 0, y 1, eq_ix2 y⟩
    refine (g_apply ..).trans ?_
    rw [total_eq m hO c t _ _ d hd]
    exact congrArg (grad d (aL m c) (aP m c)) (place11 m hO t _ _ d hd).symm
  exact h y
theorem arr12 : (dats m hO 0 c).arrAt 12 (cfgM m hO).N = delta d (aL m c) (aP m c) (aw m c) (am m c) (av m c) := by
  refine (dats m hO 0 c).arrAt_eq_of_covers 12 _ (cov12 _) fun t _ y => ?_
  blk_simp
  rw [after0_12, d_point]
  have h : ∀ y : S128x1024.Idx, delta_pay (b0 m hO c t) (b1 m hO c t) (b2 m hO c t) (b3 m hO c t) (b4 m hO c t) (b5 m hO c t) (b6 m hO c t) (b7 m hO c t) (b8 m hO c t) (b9 m hO c t) (b10 m hO c t) y = delta d (aL m c) (aP m c) (aw m c) (am m c) (av m c) (((((cfgM m hO).win 12).blk t).view.emb y : S128x1024.Idx)) := fun y => by
    obtain ⟨i, j, rfl⟩ : ∃ (i : Fin 128) (j : Fin 1024), y = ix2 i j := ⟨y 0, y 1, eq_ix2 y⟩
    refine (d_apply ..).trans ?_
    rw [total_eq m hO c t _ _ d hd, read8 m hO c t _ _ d hd, read9 m hO c t _ _ d hd, read10 m hO c t _ _ d hd]
    exact congrArg (delta d (aL m c) (aP m c) (aw m c) (am m c) (av m c)) (place12 m hO t _ _ d hd).symm
  exact h y
theorem arr13 : (dats m hO 0 c).arrAt 13 (cfgM m hO).N = moment1 d (aL m c) (aP m c) (am m c) := by
  refine (dats m hO 0 c).arrAt_eq_of_covers 13 _ (cov13 _) fun t _ y => ?_
  blk_simp
  rw [after0_13, m_point]
  have h : ∀ y : S128x1024.Idx, m_pay (b0 m hO c t) (b1 m hO c t) (b2 m hO c t) (b3 m hO c t) (b4 m hO c t) (b5 m hO c t) (b6 m hO c t) (b7 m hO c t) (b9 m hO c t) y = moment1 d (aL m c) (aP m c) (am m c) (((((cfgM m hO).win 13).blk t).view.emb y : S128x1024.Idx)) := fun y => by
    obtain ⟨i, j, rfl⟩ : ∃ (i : Fin 128) (j : Fin 1024), y = ix2 i j := ⟨y 0, y 1, eq_ix2 y⟩
    refine (m_apply ..).trans ?_
    rw [total_eq m hO c t _ _ d hd, read9 m hO c t _ _ d hd]
    exact congrArg (moment1 d (aL m c) (aP m c) (am m c)) (place13 m hO t _ _ d hd).symm
  exact h y
theorem arr14 : (dats m hO 0 c).arrAt 14 (cfgM m hO).N = moment2 d (aL m c) (aP m c) (av m c) := by
  refine (dats m hO 0 c).arrAt_eq_of_covers 14 _ (cov14 _) fun t _ y => ?_
  blk_simp
  rw [after0_14, v_point]
  have h : ∀ y : S128x1024.Idx, v_pay (b0 m hO c t) (b1 m hO c t) (b2 m hO c t) (b3 m hO c t) (b4 m hO c t) (b5 m hO c t) (b6 m hO c t) (b7 m hO c t) (b10 m hO c t) y = moment2 d (aL m c) (aP m c) (av m c) (((((cfgM m hO).win 14).blk t).view.emb y : S128x1024.Idx)) := fun y => by
    obtain ⟨i, j, rfl⟩ : ∃ (i : Fin 128) (j : Fin 1024), y = ix2 i j := ⟨y 0, y 1, eq_ix2 y⟩
    refine (v_apply ..).trans ?_
    rw [total_eq m hO c t _ _ d hd, read10 m hO c t _ _ d hd]
    exact congrArg (moment2 d (aL m c) (aP m c) (av m c)) (place14 m hO t _ _ d hd).symm
  exact h y

/-! ## The run -/

theorem run (ρ : Dev nD → PrngReg) : θ_run defs (onTc (τ := τ) (main (F := Ideal))) ⟨m, fun _ => 0, ρ⟩ fun r => ∀ c : Dev nD,
      r.2.mem ((c : Thread nD τ).loc main_v0_0) = grad d (aL m c) (aP m c)
      ∧ r.2.mem ((c : Thread nD τ).loc main_v0_1) = delta d (aL m c) (aP m c) (aw m c) (am m c) (av m c)
      ∧ r.2.mem ((c : Thread nD τ).loc main_v0_2) = moment1 d (aL m c) (aP m c) (am m c)
      ∧ r.2.mem ((c : Thread nD τ).loc main_v0_3) = moment2 d (aL m c) (aP m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  have hO : Ok m := by unfold Ok; rw [hd]; exact ok_held d
  (θ_run defs _ _).mono (fun _ h c => ⟨((h c).1 11).trans (arr11 m hO c d hd),
      ((h c).1 12).trans (arr12 m hO c d hd),
      ((h c).1 13).trans (arr13 m hO c d hd),
      ((h c).1 14).trans (arr14 m hO c d hd),
      ((h c).1 7).trans (((dats m hO 0 c).arrAt_in 7 rfl _).trans ((A_eq m hO c 7).trans (V_main_arg0 m c))),
      ((h c).1 0).trans (((dats m hO 0 c).arrAt_in 0 rfl _).trans ((A_eq m hO c 0).trans (V_main_arg1 m c))),
      ((h c).1 8).trans (((dats m hO 0 c).arrAt_in 8 rfl _).trans ((A_eq m hO c 8).trans (V_main_arg2 m c))),
      ((h c).1 9).trans (((dats m hO 0 c).arrAt_in 9 rfl _).trans ((A_eq m hO c 9).trans (V_main_arg3 m c))),
      ((h c).1 10).trans (((dats m hO 0 c).arrAt_in 10 rfl _).trans ((A_eq m hO c 10).trans (V_main_arg4 m c))),
      ((h c).2 main_arg5 (by decide : main_arg5 ∈ Pipeline.restRefs sig spec0)).trans (V_main_arg5 m c)⟩) (run_main m ρ hO)

omit hd

/-! ## The reference -/

section
open Cert.Reference16Ideal.Read

variable (L P : Shares) (w0 m0 v0 : Weight)

abbrev me (d : Fin 8) : (⟨1, ![1]⟩ : Shape).Idx → BitVec 32 := fun _ => BitVec.ofNat 32 d.val

theorem term_eq (i : Fin 128) (j : Fin 1024) (k : Fin 8) :
    val_main_v6 (F := Ideal) L P (me d) (ix3 k i j) = mine d k (P (ix3 k i j)) (L (ix3 k i j)) := by
  have z : (FloatOps.ofBits (F := Ideal) .f32 0x00000000#32 : EReal) = 0 := Ideal.ofBits_zero_f32
  rfl
theorem grad_ref : val_main_v7 (F := Ideal) L P (me d) = grad d L P := by
  funext y
  have z : (FloatOps.ofBits (F := Ideal) .f32 0x00000000#32 : EReal) = 0 := Ideal.ofBits_zero_f32
  refine (val_main_v7_apply L P (me d) y).trans ?_
  refine (congrArg₂ (fun a b : EReal => a + b) z (Finset.sum_congr rfl fun k _ => ?_)).trans
    ((zero_add _).trans (sum_mine d (fun k => P (ix3 k (y 0 : Fin 128) (y 1 : Fin 1024))) (fun k => L (ix3 k (y 0 : Fin 128) (y 1 : Fin 1024)))))
  have e : idx_main_v7 y k = ix3 k (y 0 : Fin 128) (y 1 : Fin 1024) := funext fun a => Fin.ext (by
    match a with
    | 0 => rfl
    | 1 => rfl
    | 2 => rfl)
  exact (congrArg _ e).trans (term_eq d L P _ _ k)
theorem moment1_ref : val_main_v12 (F := Ideal) L P m0 (me d) = moment1 d L P m0 := by
  unfold moment1; rw [← grad_ref]; rfl
theorem moment2_ref : val_main_v18 (F := Ideal) L P v0 (me d) = moment2 d L P v0 := by
  unfold moment2; rw [← grad_ref]; rfl
theorem delta_ref : val_main_v31 (F := Ideal) L P w0 m0 v0 (me d) = delta d L P w0 m0 v0 := by
  unfold delta
  rw [← grad_ref]
  funext y
  simp only [val_main_v31_apply, val_main_v30_apply, val_main_cst_8_apply, val_main_v29_apply, val_main_v28_apply, val_main_v27_apply, val_main_cst_7_apply, val_main_v26_apply, val_main_v25_apply, val_main_v24_apply, val_main_cst_6_apply, val_main_v23_apply, val_main_v22_apply, val_main_v21_apply, val_main_cst_5_apply, val_main_v20_apply, val_main_v19_apply, val_main_cst_4_apply]
  rfl

end

end Cert.AdamOut

end
-- ==== Proof.AdamIn.lean ====
/- The optimiser's call for the projection into the mixing block: what every grid point leaves in the blocks of the four
   results, what the result arrays hold at the end, for every number of a device; and the same of the reference. -/
module

public import proofs.«01_k».proof.Proof.InPoints
public import proofs.«01_k».proof.Proof.AdamSpec
public import proofs.«01_k».proof.Proof.Gen.Kernel17.Frame
public import proofs.«01_k».proof.Proof.Gen.Kernel17Ideal.Frame
public import proofs.«01_k».proof.Proof.Gen.Pre_device17
public import proofs.«01_k».proof.Proof.Gen.Reference17Ideal.Read

@[expose] public section

set_option maxRecDepth 16384

noncomputable section

/-! ## The blocks lie in the arrays, for every number of a device -/

namespace Cert.AdamIn.Words

open Idealize.ShloMosaic Idealize.ShloMosaic.TcCoe Idealize.SL.Sem
open Cert.Kernel17 Cert.Kernel17.Gen

set_option backward.proofsInPublic true in
/-- The table that holds device `d`'s number. -/
def held (d : Fin 8) : pre0.Contents (Elt Bits) :=
  fun | ⟨0, _⟩ => fun _ => BitVec.ofNat 32 d.val | ⟨_ + 1, h⟩ => absurd h (by simp)

theorem ok_held : ∀ d : Fin 8, ok0 (F := Bits) (held d) := by decide +kernel

theorem ok_of_word (m : (ℓ : Loc nD τ sig) → Buf (Elt Bits) ℓ) (d : Fin 8)
    (h : m ((0 : Dev nD) |>.tc.loc main_arg5) = fun _ => BitVec.ofNat 32 d.val) : Ok m := by
  have e : tbl m = held d := by
    funext j
    match j with
    | ⟨0, _⟩ => exact h
  unfold Ok
  rw [e]
  exact ok_held d

end Cert.AdamIn.Words

namespace Cert.AdamIn

open Idealize.ShloMosaic Idealize.ShloMosaic.TcCoe Idealize.SL.Sem
open Cert.Kernel17Ideal Cert.Kernel17Ideal.Gen Cert.AdamSpec

/-- The precondition says that the table holds a device's number. -/
theorem device_of_fn {F : FTy → Type} [FloatOps F] (x0 x1 x2 x3 x4) (x5 : IVec Pre_device17.S1 32)
    (h : Pre_device17.fn (F := F) x0 x1 x2 x3 x4 x5 = fun _ => 1#1) : ∃ d : Fin 8, x5 = fun _ => BitVec.ofNat 32 d.val :=
  table_device x5 (congrFun h (ValueIdx.ix1 0))

set_option backward.proofsInPublic true in
/-- The table that holds device `d`'s number. -/
def held (d : Fin 8) : pre0.Contents (Elt Ideal) :=
  fun | ⟨0, _⟩ => fun _ => BitVec.ofNat 32 d.val | ⟨_ + 1, h⟩ => absurd h (by simp)

theorem ok_held : ∀ d : Fin 8, ok0 (F := Ideal) (held d) := by decide +kernel

theorem idx_held : ∀ (d : Fin 8) (t : Fin grid0.N),
    ix0 (F := Ideal) (held d) 0 (grid0.coords t) = ![d.val, t.val, 0]
    ∧ ix0 (F := Ideal) (held d) 1 (grid0.coords t) = ![(peer d 1).val, t.val, 0]
    ∧ ix0 (F := Ideal) (held d) 2 (grid0.coords t) = ![(peer d 2).val, t.val, 0]
    ∧ ix0 (F := Ideal) (held d) 3 (grid0.coords t) = ![(peer d 3).val, t.val, 0]
    ∧ ix0 (F := Ideal) (held d) 4 (grid0.coords t) = ![(peer d 4).val, t.val, 0]
    ∧ ix0 (F := Ideal) (held d) 5 (grid0.coords t) = ![(peer d 5).val, t.val, 0]
    ∧ ix0 (F := Ideal) (held d) 6 (grid0.coords t) = ![(peer d 6).val, t.val, 0]
    ∧ ix0 (F := Ideal) (held d) 7 (grid0.coords t) = ![(peer d 7).val, t.val, 0]
    ∧ ix0 (F := Ideal) (held d) 8 (grid0.coords t) = ![t.val, 0]
    ∧ ix0 (F := Ideal) (held d) 9 (grid0.coords t) = ![t.val, 0]
    ∧ ix0 (F := Ideal) (held d) 10 (grid0.coords t) = ![t.val, 0]
    ∧ ix0 (F := Ideal) (held d) 11 (grid0.coords t) = ![t.val, 0]
    ∧ ix0 (F := Ideal) (held d) 12 (grid0.coords t) = ![t.val, 0]
    ∧ ix0 (F := Ideal) (held d) 13 (grid0.coords t) = ![t.val, 0]
    ∧ ix0 (F := Ideal) (held d) 14 (grid0.coords t) = ![t.val, 0] := by decide +kernel
theorem cov_held11 : ((cfg0 (F := Ideal) ⟨held 0, ok_held 0⟩).win 11).Covers := by decide +kernel
theorem cov_held12 : ((cfg0 (F := Ideal) ⟨held 0, ok_held 0⟩).win 12).Covers := by decide +kernel
theorem cov_held13 : ((cfg0 (F := Ideal) ⟨held 0, ok_held 0⟩).win 13).Covers := by decide +kernel
theorem cov_held14 : ((cfg0 (F := Ideal) ⟨held 0, ok_held 0⟩).win 14).Covers := by decide +kernel
theorem cov11 (a : (pcfg0 (F := Ideal)).Adm) : ((cfg0 a).win 11).Covers := cov_held11
theorem cov12 (a : (pcfg0 (F := Ideal)).Adm) : ((cfg0 a).win 12).Covers := cov_held12
theorem cov13 (a : (pcfg0 (F := Ideal)).Adm) : ((cfg0 a).win 13).Covers := cov_held13
theorem cov14 (a : (pcfg0 (F := Ideal)).Adm) : ((cfg0 a).win 14).Covers := cov_held14

variable (m : (ℓ : Loc nD τ sig) → Buf (Elt Ideal) ℓ)

theorem tbl_of_word (d : Fin 8) (h : m ((0 : Dev nD) |>.tc.loc main_arg5) = fun _ => BitVec.ofNat 32 d.val) : tbl m = held d := by
  funext j
  match j with
  | ⟨0, _⟩ => exact h
theorem ok_of_word (d : Fin 8) (h : m ((0 : Dev nD) |>.tc.loc main_arg5) = fun _ => BitVec.ofNat 32 d.val) : Ok m := by
  unfold Ok
  rw [tbl_of_word m d h]
  exact ok_held d

variable (hO : Ok m) (c : Dev nD) (t : Fin (cfgM m hO).N)

/-! ## What one grid point leaves -/

abbrev b0 : Vec Ideal S1x256x256 .bf16 := iblk m hO c 0 t
abbrev b1 : Vec Ideal S1x256x256 .bf16 := iblk m hO c 1 t
abbrev b2 : Vec Ideal S1x256x256 .bf16 := iblk m hO c 2 t
abbrev b3 : Vec Ideal S1x256x256 .bf16 := iblk m hO c 3 t
abbrev b4 : Vec Ideal S1x256x256 .bf16 := iblk m hO c 4 t
abbrev b5 : Vec Ideal S1x256x256 .bf16 := iblk m hO c 5 t
abbrev b6 : Vec Ideal S1x256x256 .bf16 := iblk m hO c 6 t
abbrev b7 : Vec Ideal S1x256x256 .bf16 := iblk m hO c 7 t
abbrev b8 : Vec Ideal S256x256 .f32 := iblk m hO c 8 t
abbrev b9 : Vec Ideal S256x256 .f32 := iblk m hO c 9 t
abbrev b10 : Vec Ideal S256x256 .f32 := iblk m hO c 10 t

abbrev delta_pay (p0 p1 p2 p3 p4 p5 p6 p7 : Vec Ideal S1x256x256 .bf16) (w m v : Vec Ideal S256x256 .f32) : FVec Ideal S256x256 .f32 :=
  k0_pay3 (k0_pay4 p0 p1 p2 p3 p4 p5 p6 p7) w m v
abbrev m_pay (p0 p1 p2 p3 p4 p5 p6 p7 : Vec Ideal S1x256x256 .bf16) (m : Vec Ideal S256x256 .f32) : FVec Ideal S256x256 .f32 := k0_pay1 (k0_pay4 p0 p1 p2 p3 p4 p5 p6 p7) m
abbrev v_pay (p0 p1 p2 p3 p4 p5 p6 p7 : Vec Ideal S1x256x256 .bf16) (v : Vec Ideal S256x256 .f32) : FVec Ideal S256x256 .f32 := k0_pay2 (k0_pay4 p0 p1 p2 p3 p4 p5 p6 p7) v
theorem g_congr {p0 p1 p2 p3 p4 p5 p6 p7 q0 q1 q2 q3 q4 q5 q6 q7 : Vec Ideal S1x256x256 .bf16}
    (hp0 : p0 = q0) (hp1 : p1 = q1) (hp2 : p2 = q2) (hp3 : p3 = q3) (hp4 : p4 = q4) (hp5 : p5 = q5) (hp6 : p6 = q6) (hp7 : p7 = q7) :
    k0_pay4 (F := Ideal) p0 p1 p2 p3 p4 p5 p6 p7 = k0_pay4 (F := Ideal) q0 q1 q2 q3 q4 q5 q6 q7 := by
  cases hp0; cases hp1; cases hp2; cases hp3; cases hp4; cases hp5; cases hp6; cases hp7; rfl
theorem m_congr {p0 p1 p2 p3 p4 p5 p6 p7 q0 q1 q2 q3 q4 q5 q6 q7 : Vec Ideal S1x256x256 .bf16} {x0 y0 : Vec Ideal S256x256 .f32}
    (hp0 : p0 = q0) (hp1 : p1 = q1) (hp2 : p2 = q2) (hp3 : p3 = q3) (hp4 : p4 = q4) (hp5 : p5 = q5) (hp6 : p6 = q6) (hp7 : p7 = q7) (hx0 : x0 = y0) :
    m_pay p0 p1 p2 p3 p4 p5 p6 p7 x0 = m_pay q0 q1 q2 q3 q4 q5 q6 q7 y0 := by
  cases hp0; cases hp1; cases hp2; cases hp3; cases hp4; cases hp5; cases hp6; cases hp7; cases hx0; rfl
theorem v_congr {p0 p1 p2 p3 p4 p5 p6 p7 q0 q1 q2 q3 q4 q5 q6 q7 : Vec Ideal S1x256x256 .bf16} {x0 y0 : Vec Ideal S256x256 .f32}
    (hp0 : p0 = q0) (hp1 : p1 = q1) (hp2 : p2 = q2) (hp3 : p3 = q3) (hp4 : p4 = q4) (hp5 : p5 = q5) (hp6 : p6 = q6) (hp7 : p7 = q7) (hx0 : x0 = y0) :
    v_pay p0 p1 p2 p3 p4 p5 p6 p7 x0 = v_pay q0 q1 q2 q3 q4 q5 q6 q7 y0 := by
  cases hp0; cases hp1; cases hp2; cases hp3; cases hp4; cases hp5; cases hp6; cases hp7; cases hx0; rfl
theorem d_congr {p0 p1 p2 p3 p4 p5 p6 p7 q0 q1 q2 q3 q4 q5 q6 q7 : Vec Ideal S1x256x256 .bf16} {x0 x1 x2 y0 y1 y2 : Vec Ideal S256x256 .f32}
    (hp0 : p0 = q0) (hp1 : p1 = q1) (hp2 : p2 = q2) (hp3 : p3 = q3) (hp4 : p4 = q4) (hp5 : p5 = q5) (hp6 : p6 = q6) (hp7 : p7 = q7) (hx0 : x0 = y0) (hx1 : x1 = y1) (hx2 : x2 = y2) :
    delta_pay p0 p1 p2 p3 p4 p5 p6 p7 x0 x1 x2 = delta_pay q0 q1 q2 q3 q4 q5 q6 q7 y0 y1 y2 := by
  cases hp0; cases hp1; cases hp2; cases hp3; cases hp4; cases hp5; cases hp6; cases hp7; cases hx0; cases hx1; cases hx2; rfl
theorem g_point : (outsAt0 m hO c t).1 = k0_pay4 (b0 m hO c t) (b1 m hO c t) (b2 m hO c t) (b3 m hO c t) (b4 m hO c t) (b5 m hO c t) (b6 m hO c t) (b7 m hO c t) := by
  unfold outsAt0
  frame_out
  exact g_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _)
theorem d_point : (outsAt0 m hO c t).2.1 = delta_pay (b0 m hO c t) (b1 m hO c t) (b2 m hO c t) (b3 m hO c t) (b4 m hO c t) (b5 m hO c t) (b6 m hO c t) (b7 m hO c t) (b8 m hO c t) (b9 m hO c t) (b10 m hO c t) := by
  unfold outsAt0
  frame_out
  exact d_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _) ((hs0_8 m hO t).read_unread _) ((hs0_9 m hO t).read_unread _) ((hs0_10 m hO t).read_unread _)
theorem m_point : (outsAt0 m hO c t).2.2.1 = m_pay (b0 m hO c t) (b1 m hO c t) (b2 m hO c t) (b3 m hO c t) (b4 m hO c t) (b5 m hO c t) (b6 m hO c t) (b7 m hO c t) (b9 m hO c t) := by
  unfold outsAt0
  frame_out
  exact m_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _) ((hs0_9 m hO t).read_unread _)
theorem v_point : (outsAt0 m hO c t).2.2.2 = v_pay (b0 m hO c t) (b1 m hO c t) (b2 m hO c t) (b3 m hO c t) (b4 m hO c t) (b5 m hO c t) (b6 m hO c t) (b7 m hO c t) (b10 m hO c t) := by
  unfold outsAt0
  frame_out
  exact v_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _) ((hs0_10 m hO t).read_unread _)

/-! ## The payloads, read at an index -/

variable (p0 p1 p2 p3 p4 p5 p6 p7 : Vec Ideal S1x256x256 .bf16) (w1 m1 v1 : Vec Ideal S256x256 .f32) (i : Fin 256) (j : Fin 256)

abbrev total : EReal := (p0 (ix3 0 i j) : EReal) + (p1 (ix3 0 i j) : EReal) + (p2 (ix3 0 i j) : EReal) + (p3 (ix3 0 i j) : EReal) + (p4 (ix3 0 i j) : EReal) + (p5 (ix3 0 i j) : EReal) + (p6 (ix3 0 i j) : EReal) + (p7 (ix3 0 i j) : EReal)

theorem g_apply : k0_pay4 (F := Ideal) p0 p1 p2 p3 p4 p5 p6 p7 (ix2 i j) = total p0 p1 p2 p3 p4 p5 p6 p7 i j := by pointwise [k0_pay4, total]
theorem m_apply : m_pay p0 p1 p2 p3 p4 p5 p6 p7 m1 (ix2 i j) = first (total p0 p1 p2 p3 p4 p5 p6 p7 i j) (m1 (ix2 i j)) := by
  rw [← g_apply]; rfl
theorem v_apply : v_pay p0 p1 p2 p3 p4 p5 p6 p7 v1 (ix2 i j) = second (total p0 p1 p2 p3 p4 p5 p6 p7 i j) (v1 (ix2 i j)) := by
  rw [← g_apply]; rfl
theorem d_apply : delta_pay p0 p1 p2 p3 p4 p5 p6 p7 w1 m1 v1 (ix2 i j)
    = change (total p0 p1 p2 p3 p4 p5 p6 p7 i j) (w1 (ix2 i j)) (m1 (ix2 i j)) (v1 (ix2 i j)) := by
  rw [← g_apply]; rfl

/-! ## Where the blocks lie -/

theorem lt_points (t : Fin (cfgM m hO).N) : t.val < 4 := t.isLt
/-- Row `i` of point `t`'s blocks is this row of the arrays. -/
def at' (t : Fin (cfgM m hO).N) (i : Fin 256) : Fin 1024 := ⟨t.val * 256 + i.val, by have := lt_points m hO t; omega⟩

variable (d : Fin 8) (hd : tbl m = held d)
include hd

theorem index_eq : ((cfgM m hO).win 0).index t = ![d.val, t.val, 0] ∧ ((cfgM m hO).win 1).index t = ![(peer d 1).val, t.val, 0] ∧ ((cfgM m hO).win 2).index t = ![(peer d 2).val, t.val, 0] ∧ ((cfgM m hO).win 3).index t = ![(peer d 3).val, t.val, 0] ∧ ((cfgM m hO).win 4).index t = ![(peer d 4).val, t.val, 0] ∧ ((cfgM m hO).win 5).index t = ![(peer d 5).val, t.val, 0] ∧ ((cfgM m hO).win 6).index t = ![(peer d 6).val, t.val, 0] ∧ ((cfgM m hO).win 7).index t = ![(peer d 7).val, t.val, 0] ∧ ((cfgM m hO).win 8).index t = ![t.val, 0] ∧ ((cfgM m hO).win 9).index t = ![t.val, 0] ∧ ((cfgM m hO).win 10).index t = ![t.val, 0] ∧ ((cfgM m hO).win 11).index t = ![t.val, 0] ∧ ((cfgM m hO).win 12).index t = ![t.val, 0] ∧ ((cfgM m hO).win 13).index t = ![t.val, 0] ∧ ((cfgM m hO).win 14).index t = ![t.val, 0] := by
  have e := idx_held d t
  rw [← hd] at e
  exact e

theorem read0 : b0 m hO c t (ix3 0 i j) = m ((c : Thread nD τ).loc main_arg1) (ix3 d (at' m hO t i) j) := by
  have e := (index_eq m hO t d hd).1
  refine congrArg (m ((c : Thread nD τ).loc main_arg1)) (funext fun (a : Fin 3) => Fin.ext ?_)
  refine (Pipeline.Window.rect_emb_val ((cfgM m hO).win 0) t (ix3 0 i j) a).trans ?_
  rw [e]
  match a with
  | 0 => exact Nat.mul_one _
  | 1 => rfl
  | 2 => exact (congrArg (· + j.val) (Nat.zero_mul _)).trans (Nat.zero_add _)
theorem read1 : b1 m hO c t (ix3 0 i j) = m ((c : Thread nD τ).loc main_arg0) (ix3 (peer d 1) (at' m hO t i) j) := by
  have e := (index_eq m hO t d hd).2.1
  refine congrArg (m ((c : Thread nD τ).loc main_arg0)) (funext fun (a : Fin 3) => Fin.ext ?_)
  refine (Pipeline.Window.rect_emb_val ((cfgM m hO).win 1) t (ix3 0 i j) a).trans ?_
  rw [e]
  match a with
  | 0 => exact Nat.mul_one _
  | 1 => rfl
  | 2 => exact (congrArg (· + j.val) (Nat.zero_mul _)).trans (Nat.zero_add _)
theorem read2 : b2 m hO c t (ix3 0 i j) = m ((c : Thread nD τ).loc main_arg0) (ix3 (peer d 2) (at' m hO t i) j) := by
  have e := (index_eq m hO t d hd).2.2.1
  refine congrArg (m ((c : Thread nD τ).loc main_arg0)) (funext fun (a : Fin 3) => Fin.ext ?_)
  refine (Pipeline.Window.rect_emb_val ((cfgM m hO).win 2) t (ix3 0 i j) a).trans ?_
  rw [e]
  match a with
  | 0 => exact Nat.mul_one _
  | 1 => rfl
  | 2 => exact (congrArg (· + j.val) (Nat.zero_mul _)).trans (Nat.zero_add _)
theorem read3 : b3 m hO c t (ix3 0 i j) = m ((c : Thread nD τ).loc main_arg0) (ix3 (peer d 3) (at' m hO t i) j) := by
  have e := (index_eq m hO t d hd).2.2.2.1
  refine congrArg (m ((c : Thread nD τ).loc main_arg0)) (funext fun (a : Fin 3) => Fin.ext ?_)
  refine (Pipeline.Window.rect_emb_val ((cfgM m hO).win 3) t (ix3 0 i j) a).trans ?_
  rw [e]
  match a with
  | 0 => exact Nat.mul_one _
  | 1 => rfl
  | 2 => exact (congrArg (· + j.val) (Nat.zero_mul _)).trans (Nat.zero_add _)
theorem read4 : b4 m hO c t (ix3 0 i j) = m ((c : Thread nD τ).loc main_arg0) (ix3 (peer d 4) (at' m hO t i) j) := by
  have e := (index_eq m hO t d hd).2.2.2.2.1
  refine congrArg (m ((c : Thread nD τ).loc main_arg0)) (funext fun (a : Fin 3) => Fin.ext ?_)
  refine (Pipeline.Window.rect_emb_val ((cfgM m hO).win 4) t (ix3 0 i j) a).trans ?_
  rw [e]
  match a with
  | 0 => exact Nat.mul_one _
  | 1 => rfl
  | 2 => exact (congrArg (· + j.val) (Nat.zero_mul _)).trans (Nat.zero_add _)
theorem read5 : b5 m hO c t (ix3 0 i j) = m ((c : Thread nD τ).loc main_arg0) (ix3 (peer d 5) (at' m hO t i) j) := by
  have e := (index_eq m hO t d hd).2.2.2.2.2.1
  refine congrArg (m ((c : Thread nD τ).loc main_arg0)) (funext fun (a : Fin 3) => Fin.ext ?_)
  refine (Pipeline.Window.rect_emb_val ((cfgM m hO).win 5) t (ix3 0 i j) a).trans ?_
  rw [e]
  match a with
  | 0 => exact Nat.mul_one _
  | 1 => rfl
  | 2 => exact (congrArg (· + j.val) (Nat.zero_mul _)).trans (Nat.zero_add _)
theorem read6 : b6 m hO c t (ix3 0 i j) = m ((c : Thread nD τ).loc main_arg0) (ix3 (peer d 6) (at' m hO t i) j) := by
  have e := (index_eq m hO t d hd).2.2.2.2.2.2.1
  refine congrArg (m ((c : Thread nD τ).loc main_arg0)) (funext fun (a : Fin 3) => Fin.ext ?_)
  refine (Pipeline.Window.rect_emb_val ((cfgM m hO).win 6) t (ix3 0 i j) a).trans ?_
  rw [e]
  match a with
  | 0 => exact Nat.mul_one _
  | 1 => rfl
  | 2 => exact (congrArg (· + j.val) (Nat.zero_mul _)).trans (Nat.zero_add _)
theorem read7 : b7 m hO c t (ix3 0 i j) = m ((c : Thread nD τ).loc main_arg0) (ix3 (peer d 7) (at' m hO t i) j) := by
  have e := (index_eq m hO t d hd).2.2.2.2.2.2.2.1
  refine congrArg (m ((c : Thread nD τ).loc main_arg0)) (funext fun (a : Fin 3) => Fin.ext ?_)
  refine (Pipeline.Window.rect_emb_val ((cfgM m hO).win 7) t (ix3 0 i j) a).trans ?_
  rw [e]
  match a with
  | 0 => exact Nat.mul_one _
  | 1 => rfl
  | 2 => exact (congrArg (· + j.val) (Nat.zero_mul _)).trans (Nat.zero_add _)
theorem read8 : b8 m hO c t (ix2 i j) = m ((c : Thread nD τ).loc main_arg2) (ix2 (at' m hO t i) j) := by
  have e := (index_eq m hO t d hd).2.2.2.2.2.2.2.2.1
  refine congrArg (m ((c : Thread nD τ).loc main_arg2)) (funext fun (a : Fin 2) => Fin.ext ?_)
  refine (Pipeline.Window.rect_emb_val ((cfgM m hO).win 8) t (ix2 i j) a).trans ?_
  rw [e]
  match a with
  | 0 => rfl
  | 1 => exact (congrArg (· + j.val) (Nat.zero_mul _)).trans (Nat.zero_add _)
theorem read9 : b9 m hO c t (ix2 i j) = m ((c : Thread nD τ).loc main_arg3) (ix2 (at' m hO t i) j) := by
  have e := (index_eq m hO t d hd).2.2.2.2.2.2.2.2.2.1
  refine congrArg (m ((c : Thread nD τ).loc main_arg3)) (funext fun (a : Fin 2) => Fin.ext ?_)
  refine (Pipeline.Window.rect_emb_val ((cfgM m hO).win 9) t (ix2 i j) a).trans ?_
  rw [e]
  match a with
  | 0 => rfl
  | 1 => exact (congrArg (· + j.val) (Nat.zero_mul _)).trans (Nat.zero_add _)
theorem read10 : b10 m hO c t (ix2 i j) = m ((c : Thread nD τ).loc main_arg4) (ix2 (at' m hO t i) j) := by
  have e := (index_eq m hO t d hd).2.2.2.2.2.2.2.2.2.2.1
  refine congrArg (m ((c : Thread nD τ).loc main_arg4)) (funext fun (a : Fin 2) => Fin.ext ?_)
  refine (Pipeline.Window.rect_emb_val ((cfgM m hO).win 10) t (ix2 i j) a).trans ?_
  rw [e]
  match a with
  | 0 => rfl
  | 1 => exact (congrArg (· + j.val) (Nat.zero_mul _)).trans (Nat.zero_add _)
theorem place11 : (((cfgM m hO).win 11).blk t).view.emb (ix2 i j) = (ix2 (at' m hO t i) j : S1024x256.Idx) := by
  have e := (index_eq m hO t d hd).2.2.2.2.2.2.2.2.2.2.2.1
  refine funext fun (a : Fin 2) => Fin.ext ?_
  refine (Pipeline.Window.rect_emb_val ((cfgM m hO).win 11) t (ix2 i j) a).trans ?_
  rw [e]
  match a with
  | 0 => rfl
  | 1 => exact (congrArg (· + j.val) (Nat.zero_mul _)).trans (Nat.zero_add _)
theorem place12 : (((cfgM m hO).win 12).blk t).view.emb (ix2 i j) = (ix2 (at' m hO t i) j : S1024x256.Idx) := by
  have e := (index_eq m hO t d hd).2.2.2.2.2.2.2.2.2.2.2.2.1
  refine funext fun (a : Fin 2) => Fin.ext ?_
  refine (Pipeline.Window.rect_emb_val ((cfgM m hO).win 12) t (ix2 i j) a).trans ?_
  rw [e]
  match a with
  | 0 => rfl
  | 1 => exact (congrArg (· + j.val) (Nat.zero_mul _)).trans (Nat.zero_add _)
theorem place13 : (((cfgM m hO).win 13).blk t).view.emb (ix2 i j) = (ix2 (at' m hO t i) j : S1024x256.Idx) := by
  have e := (index_eq m hO t d hd).2.2.2.2.2.2.2.2.2.2.2.2.2.1
  refine funext fun (a : Fin 2) => Fin.ext ?_
  refine (Pipeline.Window.rect_emb_val ((cfgM m hO).win 13) t (ix2 i j) a).trans ?_
  rw [e]
  match a with
  | 0 => rfl
  | 1 => exact (congrArg (· + j.val) (Nat.zero_mul _)).trans (Nat.zero_add _)
theorem place14 : (((cfgM m hO).win 14).blk t).view.emb (ix2 i j) = (ix2 (at' m hO t i) j : S1024x256.Idx) := by
  have e := (index_eq m hO t d hd).2.2.2.2.2.2.2.2.2.2.2.2.2.2
  refine funext fun (a : Fin 2) => Fin.ext ?_
  refine (Pipeline.Window.rect_emb_val ((cfgM m hO).win 14) t (ix2 i j) a).trans ?_
  rw [e]
  match a with
  | 0 => rfl
  | 1 => exact (congrArg (· + j.val) (Nat.zero_mul _)).trans (Nat.zero_add _)

omit hd

/-! ## The arrays -/

abbrev Shares := FVec Ideal ⟨3, ![8, 1024, 256]⟩ .bf16
abbrev Weight := FVec Ideal ⟨2, ![1024, 256]⟩ .f32

/-- The gradient: the sum of the shares. -/
def grad (d : Fin 8) (L P : Shares) : Weight := fun y => P (ix3 d (y 0) (y 1)) + L (ix3 (peer d 1) (y 0) (y 1)) + L (ix3 (peer d 2) (y 0) (y 1)) + L (ix3 (peer d 3) (y 0) (y 1)) + L (ix3 (peer d 4) (y 0) (y 1)) + L (ix3 (peer d 5) (y 0) (y 1)) + L (ix3 (peer d 6) (y 0) (y 1)) + L (ix3 (peer d 7) (y 0) (y 1))
def moment1 (d : Fin 8) (L P : Shares) (m : Weight) : Weight := fun y => first (grad d L P y) (m y)
def moment2 (d : Fin 8) (L P : Shares) (v : Weight) : Weight := fun y => second (grad d L P y) (v y)
def delta (d : Fin 8) (L P : Shares) (w m v : Weight) : Weight := fun y => change (grad d L P y) (w y) (m y) (v y)

abbrev aL : Shares := m ((c : Thread nD τ).loc main_arg0)
abbrev aP : Shares := m ((c : Thread nD τ).loc main_arg1)
abbrev aw : Weight := m ((c : Thread nD τ).loc main_arg2)
abbrev am : Weight := m ((c : Thread nD τ).loc main_arg3)
abbrev av : Weight := m ((c : Thread nD τ).loc main_arg4)

include hd

theorem total_eq : total (b0 m hO c t) (b1 m hO c t) (b2 m hO c t) (b3 m hO c t) (b4 m hO c t) (b5 m hO c t) (b6 m hO c t) (b7 m hO c t) i j = grad d (aL m c) (aP m c) (ix2 (at' m hO t i) j) := by
  show (b0 m hO c t (ix3 0 i j) : EReal) + (b1 m hO c t (ix3 0 i j) : EReal) + (b2 m hO c t (ix3 0 i j) : EReal) + (b3 m hO c t (ix3 0 i j) : EReal) + (b4 m hO c t (ix3 0 i j) : EReal) + (b5 m hO c t (ix3 0 i j) : EReal) + (b6 m hO c t (ix3 0 i j) : EReal) + (b7 m hO c t (ix3 0 i j) : EReal) = _
  rw [read0 m hO c t i j d hd, read1 m hO c t i j d hd, read2 m hO c t i j d hd, read3 m hO c t i j d hd, read4 m hO c t i j d hd, read5 m hO c t i j d hd, read6 m hO c t i j d hd, read7 m hO c t i j d hd]
  rfl
theorem arr11 : (dats m hO 0 c).arrAt 11 (cfgM m hO).N = grad d (aL m c) (aP m c) := by
  refine (dats m hO 0 c).arrAt_eq_of_covers 11 _ (cov11 _) fun t _ y => ?_
  blk_simp
  rw [after0_11, g_point]
  have h : ∀ y : S256x256.Idx, k0_pay4 (b0 m hO c t) (b1 m hO c t) (b2 m hO c t) (b3 m hO c t) (b4 m hO c t) (b5 m hO c t) (b6 m hO c t) (b7 m hO c t) y = grad d (aL m c) (aP m c) (((((cfgM m hO).win 11).blk t).view.emb y : S1024x256.Idx)) := fun y => by
    obtain ⟨i, j, rfl⟩ : ∃ (i : Fin 256) (j : Fin 256), y = ix2 i j := ⟨y 0, y 1, eq_ix2 y⟩
    refine (g_apply ..).trans ?_
    rw [total_eq m hO c t _ _ d hd]
    exact congrArg (grad d (aL m c) (aP m c)) (place11 m hO t _ _ d hd).symm
  exact h y
theorem arr12 : (dats m hO 0 c).arrAt 12 (cfgM m hO).N = delta d (aL m c) (aP m c) (aw m c) (am m c) (av m c) := by
  refine (dats m hO 0 c).arrAt_eq_of_covers 12 _ (cov12 _) fun t _ y => ?_
  blk_simp
  rw [after0_12, d_point]
  have h : ∀ y : S256x256.Idx, delta_pay (b0 m hO c t) (b1 m hO c t) (b2 m hO c t) (b3 m hO c t) (b4 m hO c t) (b5 m hO c t) (b6 m hO c t) (b7 m hO c t) (b8 m hO c t) (b9 m hO c t) (b10 m hO c t) y = delta d (aL m c) (aP m c) (aw m c) (am m c) (av m c) (((((cfgM m hO).win 12).blk t).view.emb y : S1024x256.Idx)) := fun y => by
    obtain ⟨i, j, rfl⟩ : ∃ (i : Fin 256) (j : Fin 256), y = ix2 i j := ⟨y 0, y 1, eq_ix2 y⟩
    refine (d_apply ..).trans ?_
    rw [total_eq m hO c t _ _ d hd, read8 m hO c t _ _ d hd, read9 m hO c t _ _ d hd, read10 m hO c t _ _ d hd]
    exact congrArg (delta d (aL m c) (aP m c) (aw m c) (am m c) (av m c)) (place12 m hO t _ _ d hd).symm
  exact h y
theorem arr13 : (dats m hO 0 c).arrAt 13 (cfgM m hO).N = moment1 d (aL m c) (aP m c) (am m c) := by
  refine (dats m hO 0 c).arrAt_eq_of_covers 13 _ (cov13 _) fun t _ y => ?_
  blk_simp
  rw [after0_13, m_point]
  have h : ∀ y : S256x256.Idx, m_pay (b0 m hO c t) (b1 m hO c t) (b2 m hO c t) (b3 m hO c t) (b4 m hO c t) (b5 m hO c t) (b6 m hO c t) (b7 m hO c t) (b9 m hO c t) y = moment1 d (aL m c) (aP m c) (am m c) (((((cfgM m hO).win 13).blk t).view.emb y : S1024x256.Idx)) := fun y => by
    obtain ⟨i, j, rfl⟩ : ∃ (i : Fin 256) (j : Fin 256), y = ix2 i j := ⟨y 0, y 1, eq_ix2 y⟩
    refine (m_apply ..).trans ?_
    rw [total_eq m hO c t _ _ d hd, read9 m hO c t _ _ d hd]
    exact congrArg (moment1 d (aL m c) (aP m c) (am m c)) (place13 m hO t _ _ d hd).symm
  exact h y
theorem arr14 : (dats m hO 0 c).arrAt 14 (cfgM m hO).N = moment2 d (aL m c) (aP m c) (av m c) := by
  refine (dats m hO 0 c).arrAt_eq_of_covers 14 _ (cov14 _) fun t _ y => ?_
  blk_simp
  rw [after0_14, v_point]
  have h : ∀ y : S256x256.Idx, v_pay (b0 m hO c t) (b1 m hO c t) (b2 m hO c t) (b3 m hO c t) (b4 m hO c t) (b5 m hO c t) (b6 m hO c t) (b7 m hO c t) (b10 m hO c t) y = moment2 d (aL m c) (aP m c) (av m c) (((((cfgM m hO).win 14).blk t).view.emb y : S1024x256.Idx)) := fun y => by
    obtain ⟨i, j, rfl⟩ : ∃ (i : Fin 256) (j : Fin 256), y = ix2 i j := ⟨y 0, y 1, eq_ix2 y⟩
    refine (v_apply ..).trans ?_
    rw [total_eq m hO c t _ _ d hd, read10 m hO c t _ _ d hd]
    exact congrArg (moment2 d (aL m c) (aP m c) (av m c)) (place14 m hO t _ _ d hd).symm
  exact h y

/-! ## The run -/

theorem run (ρ : Dev nD → PrngReg) : θ_run defs (onTc (τ := τ) (main (F := Ideal))) ⟨m, fun _ => 0, ρ⟩ fun r => ∀ c : Dev nD,
      r.2.mem ((c : Thread nD τ).loc main_v0_0) = grad d (aL m c) (aP m c)
      ∧ r.2.mem ((c : Thread nD τ).loc main_v0_1) = delta d (aL m c) (aP m c) (aw m c) (am m c) (av m c)
      ∧ r.2.mem ((c : Thread nD τ).loc main_v0_2) = moment1 d (aL m c) (aP m c) (am m c)
      ∧ r.2.mem ((c : Thread nD τ).loc main_v0_3) = moment2 d (aL m c) (aP m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  have hO : Ok m := by unfold Ok; rw [hd]; exact ok_held d
  (θ_run defs _ _).mono (fun _ h c => ⟨((h c).1 11).trans (arr11 m hO c d hd),
      ((h c).1 12).trans (arr12 m hO c d hd),
      ((h c).1 13).trans (arr13 m hO c d hd),
      ((h c).1 14).trans (arr14 m hO c d hd),
      ((h c).1 7).trans (((dats m hO 0 c).arrAt_in 7 rfl _).trans ((A_eq m hO c 7).trans (V_main_arg0 m c))),
      ((h c).1 0).trans (((dats m hO 0 c).arrAt_in 0 rfl _).trans ((A_eq m hO c 0).trans (V_main_arg1 m c))),
      ((h c).1 8).trans (((dats m hO 0 c).arrAt_in 8 rfl _).trans ((A_eq m hO c 8).trans (V_main_arg2 m c))),
      ((h c).1 9).trans (((dats m hO 0 c).arrAt_in 9 rfl _).trans ((A_eq m hO c 9).trans (V_main_arg3 m c))),
      ((h c).1 10).trans (((dats m hO 0 c).arrAt_in 10 rfl _).trans ((A_eq m hO c 10).trans (V_main_arg4 m c))),
      ((h c).2 main_arg5 (by decide : main_arg5 ∈ Pipeline.restRefs sig spec0)).trans (V_main_arg5 m c)⟩) (run_main m ρ hO)

omit hd

/-! ## The reference -/

section
open Cert.Reference17Ideal.Read

variable (L P : Shares) (w0 m0 v0 : Weight)

abbrev me (d : Fin 8) : (⟨1, ![1]⟩ : Shape).Idx → BitVec 32 := fun _ => BitVec.ofNat 32 d.val

theorem term_eq (i : Fin 1024) (j : Fin 256) (k : Fin 8) :
    val_main_v6 (F := Ideal) L P (me d) (ix3 k i j) = mine d k (P (ix3 k i j)) (L (ix3 k i j)) := by
  have z : (FloatOps.ofBits (F := Ideal) .f32 0x00000000#32 : EReal) = 0 := Ideal.ofBits_zero_f32
  rfl
theorem grad_ref : val_main_v7 (F := Ideal) L P (me d) = grad d L P := by
  funext y
  have z : (FloatOps.ofBits (F := Ideal) .f32 0x00000000#32 : EReal) = 0 := Ideal.ofBits_zero_f32
  refine (val_main_v7_apply L P (me d) y).trans ?_
  refine (congrArg₂ (fun a b : EReal => a + b) z (Finset.sum_congr rfl fun k _ => ?_)).trans
    ((zero_add _).trans (sum_mine d (fun k => P (ix3 k (y 0 : Fin 1024) (y 1 : Fin 256))) (fun k => L (ix3 k (y 0 : Fin 1024) (y 1 : Fin 256)))))
  have e : idx_main_v7 y k = ix3 k (y 0 : Fin 1024) (y 1 : Fin 256) := funext fun a => Fin.ext (by
    match a with
    | 0 => rfl
    | 1 => rfl
    | 2 => rfl)
  exact (congrArg _ e).trans (term_eq d L P _ _ k)
theorem moment1_ref : val_main_v12 (F := Ideal) L P m0 (me d) = moment1 d L P m0 := by
  unfold moment1; rw [← grad_ref]; rfl
theorem moment2_ref : val_main_v18 (F := Ideal) L P v0 (me d) = moment2 d L P v0 := by
  unfold moment2; rw [← grad_ref]; rfl
theorem delta_ref : val_main_v31 (F := Ideal) L P w0 m0 v0 (me d) = delta d L P w0 m0 v0 := by
  unfold delta
  rw [← grad_ref]
  funext y
  simp only [val_main_v31_apply, val_main_v30_apply, val_main_cst_8_apply, val_main_v29_apply, val_main_v28_apply, val_main_v27_apply, val_main_cst_7_apply, val_main_v26_apply, val_main_v25_apply, val_main_v24_apply, val_main_cst_6_apply, val_main_v23_apply, val_main_v22_apply, val_main_v21_apply, val_main_cst_5_apply, val_main_v20_apply, val_main_v19_apply, val_main_cst_4_apply]
  rfl

end

end Cert.AdamIn

end
-- ==== Proof.SumMix.lean ====
/- The sum of the devices' gradients of the mixing matrices: what a grid point leaves, what the array holds at the end, and the same of
   the reference. -/
module

public import proofs.«01_k».proof.Proof.InPoints
public import proofs.«01_k».proof.Proof.Gen.Kernel18Ideal.Frame
public import proofs.«01_k».proof.Proof.Gen.Reference18Ideal.Read

@[expose] public section

set_option maxRecDepth 16384

noncomputable section

namespace Cert.SumMix

open Idealize.ShloMosaic Idealize.ShloMosaic.TcCoe Idealize.SL.Sem
open Cert.Kernel18Ideal Cert.Kernel18Ideal.Gen

/-- A device's number where it is the word `w`, what landed elsewhere. -/
def pick (w k : BitVec 32) (P L : EReal) : EReal := Scalar.select (IntOp.cmpi .eq w k) P L

/-! ## The payload, read at an index -/

variable (w : BitVec 32) (o : Vec Ideal S1x512x128 .bf16) (L : Vec Ideal S8x512x128 .bf16) (i : Fin 512) (j : Fin 128)

theorem ld_apply (k : Fin 8) (inb) : View.ld (Val := Elt Ideal) L (Rect.unit (s := S8x512x128) ![k.val, 0, 0] ![1, 512, 128] inb) (ix3 0 i j) = L (ix3 k i j) :=
  View.ld_unit_apply_of L _ _ _ _ _ fun a => by
    match a with
    | 0 => simp
    | 1 => simp
    | 2 => simp

theorem sel_apply (b : BitVec 1) (X Y : FVec Ideal S512x128 .bf16) (y : S512x128.Idx) : (Scalar.select b X Y : FVec Ideal S512x128 .bf16) y = Scalar.select b (X y) (Y y) := by
  unfold Scalar.select; split <;> rfl

/-- What the body computes, from the number, this device's block and the eight blocks that landed. -/
abbrev pay : FVec Ideal S512x128 .f32 :=
  k0_pay1 (k0_pay4 (k0_pay2 w o (View.ld (Val := Elt Ideal) L (Rect.unit (s := S8x512x128) ![0, 0, 0] ![1, 512, 128] inb_S8x512x128_S1x512x128_0_0_0)) w o (View.ld (Val := Elt Ideal) L (Rect.unit (s := S8x512x128) ![1, 0, 0] ![1, 512, 128] inb_S8x512x128_S1x512x128_1_0_0)) w o (View.ld (Val := Elt Ideal) L (Rect.unit (s := S8x512x128) ![2, 0, 0] ![1, 512, 128] inb_S8x512x128_S1x512x128_2_0_0)))
    (Scalar.cmpi .eq w 3#32) (k0_pay3 o) (View.ld (Val := Elt Ideal) L (Rect.unit (s := S8x512x128) ![3, 0, 0] ![1, 512, 128] inb_S8x512x128_S1x512x128_3_0_0)) w o (View.ld (Val := Elt Ideal) L (Rect.unit (s := S8x512x128) ![4, 0, 0] ![1, 512, 128] inb_S8x512x128_S1x512x128_4_0_0)) w o (View.ld (Val := Elt Ideal) L (Rect.unit (s := S8x512x128) ![5, 0, 0] ![1, 512, 128] inb_S8x512x128_S1x512x128_5_0_0)) w o (View.ld (Val := Elt Ideal) L (Rect.unit (s := S8x512x128) ![6, 0, 0] ![1, 512, 128] inb_S8x512x128_S1x512x128_6_0_0))) w o (View.ld (Val := Elt Ideal) L (Rect.unit (s := S8x512x128) ![7, 0, 0] ![1, 512, 128] inb_S8x512x128_S1x512x128_7_0_0))

theorem pay_congr {w w' : BitVec 32} {o o' : Vec Ideal S1x512x128 .bf16} {L L' : Vec Ideal S8x512x128 .bf16} (hw : w = w') (ho : o = o') (hL : L = L') :
    pay w o L = pay w' o' L' := by cases hw; cases ho; cases hL; rfl

theorem cast_apply (x : Vec Ideal S1x512x128 .bf16) : shapeCast S512x128 x shapeCasts_S1x512x128_S512x128 (ix2 i j) = x (ix3 0 i j) := by
  pointwise []

theorem pay_apply : pay w o L (ix2 i j)
    = pick w 0#32 (o (ix3 0 i j)) (L (ix3 0 i j)) + pick w 1#32 (o (ix3 0 i j)) (L (ix3 1 i j)) + pick w 2#32 (o (ix3 0 i j)) (L (ix3 2 i j)) + pick w 3#32 (o (ix3 0 i j)) (L (ix3 3 i j)) + pick w 4#32 (o (ix3 0 i j)) (L (ix3 4 i j)) + pick w 5#32 (o (ix3 0 i j)) (L (ix3 5 i j)) + pick w 6#32 (o (ix3 0 i j)) (L (ix3 6 i j)) + pick w 7#32 (o (ix3 0 i j)) (L (ix3 7 i j)) := by
  have s : ∀ (k : Fin 8) (inb) (b : BitVec 1), (Scalar.select b (shapeCast S512x128 o shapeCasts_S1x512x128_S512x128 : FVec Ideal S512x128 .bf16)
      (shapeCast S512x128 (View.ld (Val := Elt Ideal) L (Rect.unit (s := S8x512x128) ![k.val, 0, 0] ![1, 512, 128] inb)) shapeCasts_S1x512x128_S512x128) : FVec Ideal S512x128 .bf16) (ix2 i j)
      = Scalar.select b (o (ix3 0 i j)) (L (ix3 k i j)) := fun k inb b => by
    rw [sel_apply, cast_apply, cast_apply, ld_apply]
  have add : ∀ {a a' b b' : EReal}, a = a' → b = b' → a + b = a' + b' := fun h h' => by rw [h, h']
  exact add (add (add (add (add (add (add (s 0 _ _) (s 1 _ _)) (s 2 _ _)) (s 3 _ _)) (s 4 _ _)) (s 5 _ _)) (s 6 _ _)) (s 7 _ _)

/-! ## One grid point -/

variable (m : (ℓ : Loc nD τ sig) → Buf (Elt Ideal) ℓ)

theorem ok_all : Ok m := trivial

variable (hO : Ok m) (c : Dev nD) (t : Fin (cfgM m hO).N)

abbrev Landed := FVec Ideal ⟨3, ![8, 1024, 128]⟩ .bf16
abbrev Own := FVec Ideal ⟨2, ![1024, 128]⟩ .bf16
abbrev Total := FVec Ideal ⟨2, ![1024, 128]⟩ .f32
abbrev Number := (⟨1, ![1]⟩ : Shape).Idx → BitVec 32
abbrev aL : Landed := m ((c : Thread nD τ).loc main_arg0)
abbrev aO : Own := m ((c : Thread nD τ).loc main_arg1)
abbrev aW : Number := m ((c : Thread nD τ).loc main_arg2)

abbrev b0 : Vec Ideal S8x512x128 .bf16 := iblk m hO c 0 t
abbrev b1 : Vec Ideal S1x512x128 .bf16 := iblk m hO c 1 t

theorem word_eq (inb) (h) : View.readAt (Elt Ideal) (View.whole main_arg2) (Rect.unit (s := S1) ![0] ![1] inb).toLoadRect (tbl m 0) (Shape.Idx.first h)
    = aW m 0 (ix1 0) := by
  have e : tbl m 0 = aW m 0 := V_main_arg2 m 0
  rw [e]
  exact congrArg (aW m 0) (funext fun (a : Fin 1) => Fin.ext (by
    match a with
    | 0 => rfl))

theorem point : outsAt0 m hO c t = pay (aW m 0 (ix1 0)) (b1 m hO c t) (b0 m hO c t) := by
  unfold outsAt0
  frame_out
  rw [word_eq]
  exact pay_congr rfl ((hs0_1 m hO t).read_unread _) ((hs0_0 m hO t).read_unread _)

/-! ## Where the blocks lie -/

theorem lt_points (t : Fin (cfgM m hO).N) : t.val < 2 := t.isLt
/-- Row `i` of point `t`'s blocks is this row of the arrays. -/
def at' (t : Fin (cfgM m hO).N) (i : Fin 512) : Fin 1024 := ⟨t.val * 512 + i.val, by have := lt_points m hO t; omega⟩

theorem idx_all : ∀ t : Fin grid0.N, cc0_transform_0 (grid0.coords t) = ![0, t.val, 0] ∧ cc0_transform_1 (grid0.coords t) = ![0, t.val, 0]
    ∧ cc0_transform_2 (grid0.coords t) = ![t.val, 0] := by decide +kernel

theorem index_eq : ((cfgM m hO).win 0).index t = ![0, t.val, 0] ∧ ((cfgM m hO).win 1).index t = ![0, t.val, 0]
    ∧ ((cfgM m hO).win 2).index t = ![t.val, 0] := idx_all t

def zero : pre0.Contents (Elt Ideal) := fun | ⟨0, _⟩ => fun _ => 0#32 | ⟨_ + 1, h⟩ => absurd h (by simp)
theorem cov_zero : ((cfg0 (F := Ideal) ⟨zero, trivial⟩).win 2).Covers := by decide +kernel
theorem cov (a : (pcfg0 (F := Ideal)).Adm) : ((cfg0 a).win 2).Covers := cov_zero

theorem own_eq (y : Fin 1024) : V m c main_v0 (ix3 0 y j) = aO m c (ix2 y j) := by
  refine Eq.trans ?_ (Cert.Reference18Ideal.Read.val_main_v5_apply (F := Ideal) (aO m c) (ix3 0 y j) |>.trans ?_)
  · refine congrFun ?_ _
    show StableHlo.after hostOps0 (fun b => m (c, b)) _ = _
    after_results_simp; rfl
  · exact congrArg (aO m c) (funext fun (a : Fin 2) => Fin.ext (by
      match a with
      | 0 => rfl
      | 1 => rfl))

theorem read0 (k : Fin 8) : b0 m hO c t (ix3 k i j) = aL m c (ix3 k (at' m hO t i) j) := by
  have e := (index_eq m hO t).1
  refine congrArg (aL m c) (funext fun (a : Fin 3) => Fin.ext ?_)
  refine (Pipeline.Window.rect_emb_val ((cfgM m hO).win 0) t (ix3 k i j) a).trans ?_
  rw [e]
  match a with
  | 0 => exact (congrArg (· + k.val) (Nat.zero_mul _)).trans (Nat.zero_add _)
  | 1 => rfl
  | 2 => exact (congrArg (· + j.val) (Nat.zero_mul _)).trans (Nat.zero_add _)
theorem read1 : b1 m hO c t (ix3 0 i j) = aO m c (ix2 (at' m hO t i) j) := by
  have e := (index_eq m hO t).2.1
  refine Eq.trans ?_ (own_eq j m c (at' m hO t i))
  refine congrArg (V m c main_v0) (funext fun (a : Fin 3) => Fin.ext ?_)
  refine (Pipeline.Window.rect_emb_val ((cfgM m hO).win 1) t (ix3 0 i j) a).trans ?_
  rw [e]
  match a with
  | 0 => exact Nat.zero_mul _
  | 1 => rfl
  | 2 => exact (congrArg (· + j.val) (Nat.zero_mul _)).trans (Nat.zero_add _)
theorem place : (((cfgM m hO).win 2).blk t).view.emb (ix2 i j) = (ix2 (at' m hO t i) j : (⟨2, ![1024, 128]⟩ : Shape).Idx) := by
  have e := (index_eq m hO t).2.2
  refine funext fun (a : Fin 2) => Fin.ext ?_
  refine (Pipeline.Window.rect_emb_val ((cfgM m hO).win 2) t (ix2 i j) a).trans ?_
  rw [e]
  match a with
  | 0 => rfl
  | 1 => exact (congrArg (· + j.val) (Nat.zero_mul _)).trans (Nat.zero_add _)

/-! ## The array -/

/-- The sum over the eight devices. -/
def total (L : Landed) (O : Own) (w : Number) : Total :=
  fun y => ∑ k : Fin 8, pick (w (ix1 0)) (BitVec.ofNat 32 k.val) (O y) (L (ix3 k (y 0) (y 1)))

theorem arr : (dats m hO 0 c).arrAt 2 (cfgM m hO).N = total (aL m c) (aO m c) (aW m c) := by
  obtain rfl : c = 0 := Subsingleton.elim _ _
  refine (dats m hO 0 0).arrAt_eq_of_covers 2 _ (cov _) fun t _ y => ?_
  blk_simp
  rw [after0_2, point]
  have h : ∀ y : S512x128.Idx, pay (aW m 0 (ix1 0)) (b1 m hO 0 t) (b0 m hO 0 t) y
      = total (aL m 0) (aO m 0) (aW m 0) (((((cfgM m hO).win 2).blk t).view.emb y : (⟨2, ![1024, 128]⟩ : Shape).Idx)) := fun y => by
    obtain ⟨i, j, rfl⟩ : ∃ (i : Fin 512) (j : Fin 128), y = ix2 i j := ⟨y 0, y 1, eq_ix2 y⟩
    refine (pay_apply ..).trans ?_
    simp only [read0, read1]
    refine Eq.trans ?_ (congrArg (total (aL m 0) (aO m 0) (aW m 0)) (place i j m hO t).symm)
    unfold total
    rw [Fin.sum_univ_eight]
    rfl
  exact h y

/-! ## The run -/

theorem run (ρ : Dev nD → PrngReg) : θ_run defs (onTc (τ := τ) (main (F := Ideal))) ⟨m, fun _ => 0, ρ⟩ fun r => ∀ c : Dev nD,
      r.2.mem ((c : Thread nD τ).loc main_v1) = total (aL m c) (aO m c) (aW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  have hO : Ok m := ok_all m
  (θ_run defs _ _).mono (fun _ h c => ⟨((h c).1 2).trans (arr m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) (run_main m ρ hO)

/-! ## The reference -/

section
open Cert.Reference18Ideal.Read

theorem pick_comm (a b : BitVec 32) (P Q : EReal) : pick a b P Q = Scalar.select (IntOp.cmpi .eq b a) P Q := by
  have e : IntOp.cmpi .eq a b = IntOp.cmpi .eq b a := by
    show BitVec.ofBool (a == b) = BitVec.ofBool (b == a)
    rw [Bool.beq_comm]
  unfold pick
  rw [e]

theorem term_eq (A : Landed) (O : Own) (n : Number) (i : Fin 1024) (k : Fin 8) :
    val_main_v7 (F := Ideal) A O n (ix3 k i j) = pick (n (ix1 0)) (BitVec.ofNat 32 k.val) (O (ix2 i j)) (A (ix3 k i j)) := by
  rw [pick_comm]
  have e1 : val_main_call0_v1 (F := Ideal) O (ix3 k i j) = O (ix2 i j) := by
    rw [val_main_call0_v1_apply, val_main_v5_apply]
    exact congrArg O (funext fun (a : Fin 2) => Fin.ext (by
      match a with
      | 0 => rfl
      | 1 => rfl))
  have e0 : val_main_call0_v0 (F := Ideal) n (ix3 k i j) = IntOp.cmpi .eq (BitVec.ofNat 32 k.val) (n (ix1 0)) := by
    rw [val_main_call0_v0_apply, val_main_v4_apply, val_main_v1_apply, val_main_v0_apply, val_main_v3_apply]
    refine congrArg (IntOp.cmpi .eq (BitVec.ofNat 32 k.val)) (congrArg n (funext fun (a : Fin 1) => Fin.ext ?_))
    match a with
    | 0 => exact Nat.lt_one_iff.mp (Fin.isLt _)
  rw [← e0]
  refine Eq.trans ?_ (congrArg (fun x : EReal => Scalar.select (val_main_call0_v0 (F := Ideal) n (ix3 k i j)) x (A (ix3 k i j))) e1)
  rfl

theorem total_ref (A : Landed) (O : Own) (n : Number) : val_main_v8 (F := Ideal) A O n = total A O n := by
  funext y
  have z : (FloatOps.ofBits (F := Ideal) .f32 0x00000000#32 : EReal) = 0 := Ideal.ofBits_zero_f32
  refine (val_main_v8_apply A O n y).trans ?_
  refine (congrArg₂ (fun a b : EReal => a + b) z (Finset.sum_congr rfl fun k _ => ?_)).trans (zero_add _)
  have e : idx_main_v8 y k = ix3 k (y 0 : Fin 1024) (y 1 : Fin 128) := funext fun a => Fin.ext (by
    match a with
    | 0 => rfl
    | 1 => rfl
    | 2 => rfl)
  refine (congrArg _ e).trans ((term_eq _ A O n _ k).trans ?_)
  exact congrArg (fun x : EReal => pick (n (ix1 0)) (BitVec.ofNat 32 k.val) x (A (ix3 k (y 0) (y 1)))) (congrArg O (eq_ix2 y).symm)

end

end Cert.SumMix

end
-- ==== Proof.SumEarly.lean ====
/- The sum of the devices' small gradients and of their losses: what a grid point leaves, what the array holds at the end, and the same of
   the reference. -/
module

public import proofs.«01_k».proof.Proof.InPoints
public import proofs.«01_k».proof.Proof.Gen.Kernel19Ideal.Frame
public import proofs.«01_k».proof.Proof.Gen.Reference19Ideal.Read

@[expose] public section

set_option maxRecDepth 16384

noncomputable section

namespace Cert.SumEarly

open Idealize.ShloMosaic Idealize.ShloMosaic.TcCoe Idealize.SL.Sem
open Cert.Kernel19Ideal Cert.Kernel19Ideal.Gen

/-- A device's number where it is the word `w`, what landed elsewhere. -/
def pick (w k : BitVec 32) (P L : EReal) : EReal := Scalar.select (IntOp.cmpi .eq w k) P L

/-! ## The payload, read at an index -/

variable (w : BitVec 32) (o : Vec Ideal S1x128x128 .f32) (L : Vec Ideal S8x128x128 .f32) (i : Fin 128) (j : Fin 128)

theorem ld_apply (k : Fin 8) (inb) : View.ld (Val := Elt Ideal) L (Rect.unit (s := S8x128x128) ![k.val, 0, 0] ![1, 128, 128] inb) (ix3 0 i j) = L (ix3 k i j) :=
  View.ld_unit_apply_of L _ _ _ _ _ fun a => by
    match a with
    | 0 => simp
    | 1 => simp
    | 2 => simp

theorem sel_apply (b : BitVec 1) (X Y : FVec Ideal S128x128 .f32) (y : S128x128.Idx) : (Scalar.select b X Y : FVec Ideal S128x128 .f32) y = Scalar.select b (X y) (Y y) := by
  unfold Scalar.select; split <;> rfl

/-- What the body computes, from the number, this device's block and the eight blocks that landed. -/
abbrev pay : FVec Ideal S128x128 .f32 :=
  k0_pay1 (k0_pay4 (k0_pay2 w o (View.ld (Val := Elt Ideal) L (Rect.unit (s := S8x128x128) ![0, 0, 0] ![1, 128, 128] inb_S8x128x128_S1x128x128_0_0_0)) w o (View.ld (Val := Elt Ideal) L (Rect.unit (s := S8x128x128) ![1, 0, 0] ![1, 128, 128] inb_S8x128x128_S1x128x128_1_0_0)) w o (View.ld (Val := Elt Ideal) L (Rect.unit (s := S8x128x128) ![2, 0, 0] ![1, 128, 128] inb_S8x128x128_S1x128x128_2_0_0)))
    (Scalar.cmpi .eq w 3#32) (k0_pay3 o) (View.ld (Val := Elt Ideal) L (Rect.unit (s := S8x128x128) ![3, 0, 0] ![1, 128, 128] inb_S8x128x128_S1x128x128_3_0_0)) w o (View.ld (Val := Elt Ideal) L (Rect.unit (s := S8x128x128) ![4, 0, 0] ![1, 128, 128] inb_S8x128x128_S1x128x128_4_0_0)) w o (View.ld (Val := Elt Ideal) L (Rect.unit (s := S8x128x128) ![5, 0, 0] ![1, 128, 128] inb_S8x128x128_S1x128x128_5_0_0)) w o (View.ld (Val := Elt Ideal) L (Rect.unit (s := S8x128x128) ![6, 0, 0] ![1, 128, 128] inb_S8x128x128_S1x128x128_6_0_0))) (Scalar.cmpi .eq w 7#32) o (View.ld (Val := Elt Ideal) L (Rect.unit (s := S8x128x128) ![7, 0, 0] ![1, 128, 128] inb_S8x128x128_S1x128x128_7_0_0))

theorem pay_congr {w w' : BitVec 32} {o o' : Vec Ideal S1x128x128 .f32} {L L' : Vec Ideal S8x128x128 .f32} (hw : w = w') (ho : o = o') (hL : L = L') :
    pay w o L = pay w' o' L' := by cases hw; cases ho; cases hL; rfl

theorem cast_apply (x : Vec Ideal S1x128x128 .f32) : shapeCast S128x128 x shapeCasts_S1x128x128_S128x128 (ix2 i j) = x (ix3 0 i j) := by
  pointwise []

theorem pay_apply : pay w o L (ix2 i j)
    = pick w 0#32 (o (ix3 0 i j)) (L (ix3 0 i j)) + pick w 1#32 (o (ix3 0 i j)) (L (ix3 1 i j)) + pick w 2#32 (o (ix3 0 i j)) (L (ix3 2 i j)) + pick w 3#32 (o (ix3 0 i j)) (L (ix3 3 i j)) + pick w 4#32 (o (ix3 0 i j)) (L (ix3 4 i j)) + pick w 5#32 (o (ix3 0 i j)) (L (ix3 5 i j)) + pick w 6#32 (o (ix3 0 i j)) (L (ix3 6 i j)) + pick w 7#32 (o (ix3 0 i j)) (L (ix3 7 i j)) := by
  have s : ∀ (k : Fin 8) (inb) (b : BitVec 1), (Scalar.select b (shapeCast S128x128 o shapeCasts_S1x128x128_S128x128 : FVec Ideal S128x128 .f32)
      (shapeCast S128x128 (View.ld (Val := Elt Ideal) L (Rect.unit (s := S8x128x128) ![k.val, 0, 0] ![1, 128, 128] inb)) shapeCasts_S1x128x128_S128x128) : FVec Ideal S128x128 .f32) (ix2 i j)
      = Scalar.select b (o (ix3 0 i j)) (L (ix3 k i j)) := fun k inb b => by
    rw [sel_apply, cast_apply, cast_apply, ld_apply]
  have add : ∀ {a a' b b' : EReal}, a = a' → b = b' → a + b = a' + b' := fun h h' => by rw [h, h']
  exact add (add (add (add (add (add (add (s 0 _ _) (s 1 _ _)) (s 2 _ _)) (s 3 _ _)) (s 4 _ _)) (s 5 _ _)) (s 6 _ _)) (s 7 _ _)

/-! ## One grid point -/

variable (m : (ℓ : Loc nD τ sig) → Buf (Elt Ideal) ℓ)

theorem ok_all : Ok m := trivial

variable (hO : Ok m) (c : Dev nD) (t : Fin (cfgM m hO).N)

abbrev Landed := FVec Ideal ⟨3, ![8, 128, 128]⟩ .f32
abbrev Own := FVec Ideal ⟨2, ![128, 128]⟩ .f32
abbrev Total := FVec Ideal ⟨2, ![128, 128]⟩ .f32
abbrev Number := (⟨1, ![1]⟩ : Shape).Idx → BitVec 32
abbrev aL : Landed := m ((c : Thread nD τ).loc main_arg0)
abbrev aO : Own := m ((c : Thread nD τ).loc main_arg1)
abbrev aW : Number := m ((c : Thread nD τ).loc main_arg2)

abbrev b0 : Vec Ideal S8x128x128 .f32 := iblk m hO c 0 t
abbrev b1 : Vec Ideal S1x128x128 .f32 := iblk m hO c 1 t

theorem word_eq (inb) (h) : View.readAt (Elt Ideal) (View.whole main_arg2) (Rect.unit (s := S1) ![0] ![1] inb).toLoadRect (tbl m 0) (Shape.Idx.first h)
    = aW m 0 (ix1 0) := by
  have e : tbl m 0 = aW m 0 := V_main_arg2 m 0
  rw [e]
  exact congrArg (aW m 0) (funext fun (a : Fin 1) => Fin.ext (by
    match a with
    | 0 => rfl))

theorem point : outsAt0 m hO c t = pay (aW m 0 (ix1 0)) (b1 m hO c t) (b0 m hO c t) := by
  unfold outsAt0
  frame_out
  rw [word_eq]
  exact pay_congr rfl ((hs0_1 m hO t).read_unread _) ((hs0_0 m hO t).read_unread _)

/-! ## Where the blocks lie -/

theorem lt_points (t : Fin (cfgM m hO).N) : t.val < 1 := t.isLt
/-- Row `i` of point `t`'s blocks is this row of the arrays. -/
def at' (t : Fin (cfgM m hO).N) (i : Fin 128) : Fin 128 := ⟨t.val * 128 + i.val, by have := lt_points m hO t; omega⟩

theorem idx_all : ∀ t : Fin grid0.N, cc0_transform_0 (grid0.coords t) = ![0, t.val, 0] ∧ cc0_transform_1 (grid0.coords t) = ![0, t.val, 0]
    ∧ cc0_transform_2 (grid0.coords t) = ![t.val, 0] := by decide +kernel

theorem index_eq : ((cfgM m hO).win 0).index t = ![0, t.val, 0] ∧ ((cfgM m hO).win 1).index t = ![0, t.val, 0]
    ∧ ((cfgM m hO).win 2).index t = ![t.val, 0] := idx_all t

def zero : pre0.Contents (Elt Ideal) := fun | ⟨0, _⟩ => fun _ => 0#32 | ⟨_ + 1, h⟩ => absurd h (by simp)
theorem cov_zero : ((cfg0 (F := Ideal) ⟨zero, trivial⟩).win 2).Covers := by decide +kernel
theorem cov (a : (pcfg0 (F := Ideal)).Adm) : ((cfg0 a).win 2).Covers := cov_zero

theorem own_eq (y : Fin 128) : V m c main_v0 (ix3 0 y j) = aO m c (ix2 y j) := by
  refine Eq.trans ?_ (Cert.Reference19Ideal.Read.val_main_v5_apply (F := Ideal) (aO m c) (ix3 0 y j) |>.trans ?_)
  · refine congrFun ?_ _
    show StableHlo.after hostOps0 (fun b => m (c, b)) _ = _
    after_results_simp; rfl
  · exact congrArg (aO m c) (funext fun (a : Fin 2) => Fin.ext (by
      match a with
      | 0 => rfl
      | 1 => rfl))

theorem read0 (k : Fin 8) : b0 m hO c t (ix3 k i j) = aL m c (ix3 k (at' m hO t i) j) := by
  have e := (index_eq m hO t).1
  refine congrArg (aL m c) (funext fun (a : Fin 3) => Fin.ext ?_)
  refine (Pipeline.Window.rect_emb_val ((cfgM m hO).win 0) t (ix3 k i j) a).trans ?_
  rw [e]
  match a with
  | 0 => exact (congrArg (· + k.val) (Nat.zero_mul _)).trans (Nat.zero_add _)
  | 1 => rfl
  | 2 => exact (congrArg (· + j.val) (Nat.zero_mul _)).trans (Nat.zero_add _)
theorem read1 : b1 m hO c t (ix3 0 i j) = aO m c (ix2 (at' m hO t i) j) := by
  have e := (index_eq m hO t).2.1
  refine Eq.trans ?_ (own_eq j m c (at' m hO t i))
  refine congrArg (V m c main_v0) (funext fun (a : Fin 3) => Fin.ext ?_)
  refine (Pipeline.Window.rect_emb_val ((cfgM m hO).win 1) t (ix3 0 i j) a).trans ?_
  rw [e]
  match a with
  | 0 => exact Nat.zero_mul _
  | 1 => rfl
  | 2 => exact (congrArg (· + j.val) (Nat.zero_mul _)).trans (Nat.zero_add _)
theorem place : (((cfgM m hO).win 2).blk t).view.emb (ix2 i j) = (ix2 (at' m hO t i) j : (⟨2, ![128, 128]⟩ : Shape).Idx) := by
  have e := (index_eq m hO t).2.2
  refine funext fun (a : Fin 2) => Fin.ext ?_
  refine (Pipeline.Window.rect_emb_val ((cfgM m hO).win 2) t (ix2 i j) a).trans ?_
  rw [e]
  match a with
  | 0 => rfl
  | 1 => exact (congrArg (· + j.val) (Nat.zero_mul _)).trans (Nat.zero_add _)

/-! ## The array -/

/-- The sum over the eight devices. -/
def total (L : Landed) (O : Own) (w : Number) : Total :=
  fun y => ∑ k : Fin 8, pick (w (ix1 0)) (BitVec.ofNat 32 k.val) (O y) (L (ix3 k (y 0) (y 1)))

theorem arr : (dats m hO 0 c).arrAt 2 (cfgM m hO).N = total (aL m c) (aO m c) (aW m c) := by
  obtain rfl : c = 0 := Subsingleton.elim _ _
  refine (dats m hO 0 0).arrAt_eq_of_covers 2 _ (cov _) fun t _ y => ?_
  blk_simp
  rw [after0_2, point]
  have h : ∀ y : S128x128.Idx, pay (aW m 0 (ix1 0)) (b1 m hO 0 t) (b0 m hO 0 t) y
      = total (aL m 0) (aO m 0) (aW m 0) (((((cfgM m hO).win 2).blk t).view.emb y : (⟨2, ![128, 128]⟩ : Shape).Idx)) := fun y => by
    obtain ⟨i, j, rfl⟩ : ∃ (i : Fin 128) (j : Fin 128), y = ix2 i j := ⟨y 0, y 1, eq_ix2 y⟩
    refine (pay_apply ..).trans ?_
    simp only [read0, read1]
    refine Eq.trans ?_ (congrArg (total (aL m 0) (aO m 0) (aW m 0)) (place i j m hO t).symm)
    unfold total
    rw [Fin.sum_univ_eight]
    rfl
  exact h y

/-! ## The run -/

theorem run (ρ : Dev nD → PrngReg) : θ_run defs (onTc (τ := τ) (main (F := Ideal))) ⟨m, fun _ => 0, ρ⟩ fun r => ∀ c : Dev nD,
      r.2.mem ((c : Thread nD τ).loc main_v1) = total (aL m c) (aO m c) (aW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  have hO : Ok m := ok_all m
  (θ_run defs _ _).mono (fun _ h c => ⟨((h c).1 2).trans (arr m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) (run_main m ρ hO)

/-! ## The reference -/

section
open Cert.Reference19Ideal.Read

theorem pick_comm (a b : BitVec 32) (P Q : EReal) : pick a b P Q = Scalar.select (IntOp.cmpi .eq b a) P Q := by
  have e : IntOp.cmpi .eq a b = IntOp.cmpi .eq b a := by
    show BitVec.ofBool (a == b) = BitVec.ofBool (b == a)
    rw [Bool.beq_comm]
  unfold pick
  rw [e]

theorem term_eq (A : Landed) (O : Own) (n : Number) (i : Fin 128) (k : Fin 8) :
    val_main_v6 (F := Ideal) A O n (ix3 k i j) = pick (n (ix1 0)) (BitVec.ofNat 32 k.val) (O (ix2 i j)) (A (ix3 k i j)) := by
  rw [pick_comm]
  have e1 : val_main_call0_v1 (F := Ideal) O (ix3 k i j) = O (ix2 i j) := by
    rw [val_main_call0_v1_apply, val_main_v5_apply]
    exact congrArg O (funext fun (a : Fin 2) => Fin.ext (by
      match a with
      | 0 => rfl
      | 1 => rfl))
  have e0 : val_main_call0_v0 (F := Ideal) n (ix3 k i j) = IntOp.cmpi .eq (BitVec.ofNat 32 k.val) (n (ix1 0)) := by
    rw [val_main_call0_v0_apply, val_main_v4_apply, val_main_v1_apply, val_main_v0_apply, val_main_v3_apply]
    refine congrArg (IntOp.cmpi .eq (BitVec.ofNat 32 k.val)) (congrArg n (funext fun (a : Fin 1) => Fin.ext ?_))
    match a with
    | 0 => exact Nat.lt_one_iff.mp (Fin.isLt _)
  rw [← e0]
  refine Eq.trans ?_ (congrArg (fun x : EReal => Scalar.select (val_main_call0_v0 (F := Ideal) n (ix3 k i j)) x (A (ix3 k i j))) e1)
  rfl

theorem total_ref (A : Landed) (O : Own) (n : Number) : val_main_v7 (F := Ideal) A O n = total A O n := by
  funext y
  have z : (FloatOps.ofBits (F := Ideal) .f32 0x00000000#32 : EReal) = 0 := Ideal.ofBits_zero_f32
  refine (val_main_v7_apply A O n y).trans ?_
  refine (congrArg₂ (fun a b : EReal => a + b) z (Finset.sum_congr rfl fun k _ => ?_)).trans (zero_add _)
  have e : idx_main_v7 y k = ix3 k (y 0 : Fin 128) (y 1 : Fin 128) := funext fun a => Fin.ext (by
    match a with
    | 0 => rfl
    | 1 => rfl
    | 2 => rfl)
  refine (congrArg _ e).trans ((term_eq _ A O n _ k).trans ?_)
  exact congrArg (fun x : EReal => pick (n (ix1 0)) (BitVec.ofNat 32 k.val) x (A (ix3 k (y 0) (y 1)))) (congrArg O (eq_ix2 y).symm)

end

end Cert.SumEarly

end
-- ==== Proof.SumLate.lean ====
/- The sum of the devices' last small gradients: what a grid point leaves, what the array holds at the end, and the same of
   the reference. -/
module

public import proofs.«01_k».proof.Proof.InPoints
public import proofs.«01_k».proof.Proof.Gen.Kernel20Ideal.Frame
public import proofs.«01_k».proof.Proof.Gen.Reference20Ideal.Read

@[expose] public section

set_option maxRecDepth 16384

noncomputable section

namespace Cert.SumLate

open Idealize.ShloMosaic Idealize.ShloMosaic.TcCoe Idealize.SL.Sem
open Cert.Kernel20Ideal Cert.Kernel20Ideal.Gen

/-- A device's number where it is the word `w`, what landed elsewhere. -/
def pick (w k : BitVec 32) (P L : EReal) : EReal := Scalar.select (IntOp.cmpi .eq w k) P L

/-! ## The payload, read at an index -/

variable (w : BitVec 32) (o : Vec Ideal S1x256x128 .f32) (L : Vec Ideal S8x256x128 .f32) (i : Fin 256) (j : Fin 128)

theorem ld_apply (k : Fin 8) (inb) : View.ld (Val := Elt Ideal) L (Rect.unit (s := S8x256x128) ![k.val, 0, 0] ![1, 256, 128] inb) (ix3 0 i j) = L (ix3 k i j) :=
  View.ld_unit_apply_of L _ _ _ _ _ fun a => by
    match a with
    | 0 => simp
    | 1 => simp
    | 2 => simp

theorem sel_apply (b : BitVec 1) (X Y : FVec Ideal S256x128 .f32) (y : S256x128.Idx) : (Scalar.select b X Y : FVec Ideal S256x128 .f32) y = Scalar.select b (X y) (Y y) := by
  unfold Scalar.select; split <;> rfl

/-- What the body computes, from the number, this device's block and the eight blocks that landed. -/
abbrev pay : FVec Ideal S256x128 .f32 :=
  k0_pay1 (k0_pay4 (k0_pay2 w o (View.ld (Val := Elt Ideal) L (Rect.unit (s := S8x256x128) ![0, 0, 0] ![1, 256, 128] inb_S8x256x128_S1x256x128_0_0_0)) w o (View.ld (Val := Elt Ideal) L (Rect.unit (s := S8x256x128) ![1, 0, 0] ![1, 256, 128] inb_S8x256x128_S1x256x128_1_0_0)) w o (View.ld (Val := Elt Ideal) L (Rect.unit (s := S8x256x128) ![2, 0, 0] ![1, 256, 128] inb_S8x256x128_S1x256x128_2_0_0)))
    (Scalar.cmpi .eq w 3#32) (k0_pay3 o) (View.ld (Val := Elt Ideal) L (Rect.unit (s := S8x256x128) ![3, 0, 0] ![1, 256, 128] inb_S8x256x128_S1x256x128_3_0_0)) w o (View.ld (Val := Elt Ideal) L (Rect.unit (s := S8x256x128) ![4, 0, 0] ![1, 256, 128] inb_S8x256x128_S1x256x128_4_0_0)) w o (View.ld (Val := Elt Ideal) L (Rect.unit (s := S8x256x128) ![5, 0, 0] ![1, 256, 128] inb_S8x256x128_S1x256x128_5_0_0)) w o (View.ld (Val := Elt Ideal) L (Rect.unit (s := S8x256x128) ![6, 0, 0] ![1, 256, 128] inb_S8x256x128_S1x256x128_6_0_0))) (Scalar.cmpi .eq w 7#32) o (View.ld (Val := Elt Ideal) L (Rect.unit (s := S8x256x128) ![7, 0, 0] ![1, 256, 128] inb_S8x256x128_S1x256x128_7_0_0))

theorem pay_congr {w w' : BitVec 32} {o o' : Vec Ideal S1x256x128 .f32} {L L' : Vec Ideal S8x256x128 .f32} (hw : w = w') (ho : o = o') (hL : L = L') :
    pay w o L = pay w' o' L' := by cases hw; cases ho; cases hL; rfl

theorem cast_apply (x : Vec Ideal S1x256x128 .f32) : shapeCast S256x128 x shapeCasts_S1x256x128_S256x128 (ix2 i j) = x (ix3 0 i j) := by
  pointwise []

theorem pay_apply : pay w o L (ix2 i j)
    = pick w 0#32 (o (ix3 0 i j)) (L (ix3 0 i j)) + pick w 1#32 (o (ix3 0 i j)) (L (ix3 1 i j)) + pick w 2#32 (o (ix3 0 i j)) (L (ix3 2 i j)) + pick w 3#32 (o (ix3 0 i j)) (L (ix3 3 i j)) + pick w 4#32 (o (ix3 0 i j)) (L (ix3 4 i j)) + pick w 5#32 (o (ix3 0 i j)) (L (ix3 5 i j)) + pick w 6#32 (o (ix3 0 i j)) (L (ix3 6 i j)) + pick w 7#32 (o (ix3 0 i j)) (L (ix3 7 i j)) := by
  have s : ∀ (k : Fin 8) (inb) (b : BitVec 1), (Scalar.select b (shapeCast S256x128 o shapeCasts_S1x256x128_S256x128 : FVec Ideal S256x128 .f32)
      (shapeCast S256x128 (View.ld (Val := Elt Ideal) L (Rect.unit (s := S8x256x128) ![k.val, 0, 0] ![1, 256, 128] inb)) shapeCasts_S1x256x128_S256x128) : FVec Ideal S256x128 .f32) (ix2 i j)
      = Scalar.select b (o (ix3 0 i j)) (L (ix3 k i j)) := fun k inb b => by
    rw [sel_apply, cast_apply, cast_apply, ld_apply]
  have add : ∀ {a a' b b' : EReal}, a = a' → b = b' → a + b = a' + b' := fun h h' => by rw [h, h']
  exact add (add (add (add (add (add (add (s 0 _ _) (s 1 _ _)) (s 2 _ _)) (s 3 _ _)) (s 4 _ _)) (s 5 _ _)) (s 6 _ _)) (s 7 _ _)

/-! ## One grid point -/

variable (m : (ℓ : Loc nD τ sig) → Buf (Elt Ideal) ℓ)

theorem ok_all : Ok m := trivial

variable (hO : Ok m) (c : Dev nD) (t : Fin (cfgM m hO).N)

abbrev Landed := FVec Ideal ⟨3, ![8, 256, 128]⟩ .f32
abbrev Own := FVec Ideal ⟨2, ![256, 128]⟩ .f32
abbrev Total := FVec Ideal ⟨2, ![256, 128]⟩ .f32
abbrev Number := (⟨1, ![1]⟩ : Shape).Idx → BitVec 32
abbrev aL : Landed := m ((c : Thread nD τ).loc main_arg0)
abbrev aO : Own := m ((c : Thread nD τ).loc main_arg1)
abbrev aW : Number := m ((c : Thread nD τ).loc main_arg2)

abbrev b0 : Vec Ideal S8x256x128 .f32 := iblk m hO c 0 t
abbrev b1 : Vec Ideal S1x256x128 .f32 := iblk m hO c 1 t

theorem word_eq (inb) (h) : View.readAt (Elt Ideal) (View.whole main_arg2) (Rect.unit (s := S1) ![0] ![1] inb).toLoadRect (tbl m 0) (Shape.Idx.first h)
    = aW m 0 (ix1 0) := by
  have e : tbl m 0 = aW m 0 := V_main_arg2 m 0
  rw [e]
  exact congrArg (aW m 0) (funext fun (a : Fin 1) => Fin.ext (by
    match a with
    | 0 => rfl))

theorem point : outsAt0 m hO c t = pay (aW m 0 (ix1 0)) (b1 m hO c t) (b0 m hO c t) := by
  unfold outsAt0
  frame_out
  rw [word_eq]
  exact pay_congr rfl ((hs0_1 m hO t).read_unread _) ((hs0_0 m hO t).read_unread _)

/-! ## Where the blocks lie -/

theorem lt_points (t : Fin (cfgM m hO).N) : t.val < 1 := t.isLt
/-- Row `i` of point `t`'s blocks is this row of the arrays. -/
def at' (t : Fin (cfgM m hO).N) (i : Fin 256) : Fin 256 := ⟨t.val * 256 + i.val, by have := lt_points m hO t; omega⟩

theorem idx_all : ∀ t : Fin grid0.N, cc0_transform_0 (grid0.coords t) = ![0, t.val, 0] ∧ cc0_transform_1 (grid0.coords t) = ![0, t.val, 0]
    ∧ cc0_transform_2 (grid0.coords t) = ![t.val, 0] := by decide +kernel

theorem index_eq : ((cfgM m hO).win 0).index t = ![0, t.val, 0] ∧ ((cfgM m hO).win 1).index t = ![0, t.val, 0]
    ∧ ((cfgM m hO).win 2).index t = ![t.val, 0] := idx_all t

def zero : pre0.Contents (Elt Ideal) := fun | ⟨0, _⟩ => fun _ => 0#32 | ⟨_ + 1, h⟩ => absurd h (by simp)
theorem cov_zero : ((cfg0 (F := Ideal) ⟨zero, trivial⟩).win 2).Covers := by decide +kernel
theorem cov (a : (pcfg0 (F := Ideal)).Adm) : ((cfg0 a).win 2).Covers := cov_zero

theorem own_eq (y : Fin 256) : V m c main_v0 (ix3 0 y j) = aO m c (ix2 y j) := by
  refine Eq.trans ?_ (Cert.Reference20Ideal.Read.val_main_v5_apply (F := Ideal) (aO m c) (ix3 0 y j) |>.trans ?_)
  · refine congrFun ?_ _
    show StableHlo.after hostOps0 (fun b => m (c, b)) _ = _
    after_results_simp; rfl
  · exact congrArg (aO m c) (funext fun (a : Fin 2) => Fin.ext (by
      match a with
      | 0 => rfl
      | 1 => rfl))

theorem read0 (k : Fin 8) : b0 m hO c t (ix3 k i j) = aL m c (ix3 k (at' m hO t i) j) := by
  have e := (index_eq m hO t).1
  refine congrArg (aL m c) (funext fun (a : Fin 3) => Fin.ext ?_)
  refine (Pipeline.Window.rect_emb_val ((cfgM m hO).win 0) t (ix3 k i j) a).trans ?_
  rw [e]
  match a with
  | 0 => exact (congrArg (· + k.val) (Nat.zero_mul _)).trans (Nat.zero_add _)
  | 1 => rfl
  | 2 => exact (congrArg (· + j.val) (Nat.zero_mul _)).trans (Nat.zero_add _)
theorem read1 : b1 m hO c t (ix3 0 i j) = aO m c (ix2 (at' m hO t i) j) := by
  have e := (index_eq m hO t).2.1
  refine Eq.trans ?_ (own_eq j m c (at' m hO t i))
  refine congrArg (V m c main_v0) (funext fun (a : Fin 3) => Fin.ext ?_)
  refine (Pipeline.Window.rect_emb_val ((cfgM m hO).win 1) t (ix3 0 i j) a).trans ?_
  rw [e]
  match a with
  | 0 => exact Nat.zero_mul _
  | 1 => rfl
  | 2 => exact (congrArg (· + j.val) (Nat.zero_mul _)).trans (Nat.zero_add _)
theorem place : (((cfgM m hO).win 2).blk t).view.emb (ix2 i j) = (ix2 (at' m hO t i) j : (⟨2, ![256, 128]⟩ : Shape).Idx) := by
  have e := (index_eq m hO t).2.2
  refine funext fun (a : Fin 2) => Fin.ext ?_
  refine (Pipeline.Window.rect_emb_val ((cfgM m hO).win 2) t (ix2 i j) a).trans ?_
  rw [e]
  match a with
  | 0 => rfl
  | 1 => exact (congrArg (· + j.val) (Nat.zero_mul _)).trans (Nat.zero_add _)

/-! ## The array -/

/-- The sum over the eight devices. -/
def total (L : Landed) (O : Own) (w : Number) : Total :=
  fun y => ∑ k : Fin 8, pick (w (ix1 0)) (BitVec.ofNat 32 k.val) (O y) (L (ix3 k (y 0) (y 1)))

theorem arr : (dats m hO 0 c).arrAt 2 (cfgM m hO).N = total (aL m c) (aO m c) (aW m c) := by
  obtain rfl : c = 0 := Subsingleton.elim _ _
  refine (dats m hO 0 0).arrAt_eq_of_covers 2 _ (cov _) fun t _ y => ?_
  blk_simp
  rw [after0_2, point]
  have h : ∀ y : S256x128.Idx, pay (aW m 0 (ix1 0)) (b1 m hO 0 t) (b0 m hO 0 t) y
      = total (aL m 0) (aO m 0) (aW m 0) (((((cfgM m hO).win 2).blk t).view.emb y : (⟨2, ![256, 128]⟩ : Shape).Idx)) := fun y => by
    obtain ⟨i, j, rfl⟩ : ∃ (i : Fin 256) (j : Fin 128), y = ix2 i j := ⟨y 0, y 1, eq_ix2 y⟩
    refine (pay_apply ..).trans ?_
    simp only [read0, read1]
    refine Eq.trans ?_ (congrArg (total (aL m 0) (aO m 0) (aW m 0)) (place i j m hO t).symm)
    unfold total
    rw [Fin.sum_univ_eight]
    rfl
  exact h y

/-! ## The run -/

theorem run (ρ : Dev nD → PrngReg) : θ_run defs (onTc (τ := τ) (main (F := Ideal))) ⟨m, fun _ => 0, ρ⟩ fun r => ∀ c : Dev nD,
      r.2.mem ((c : Thread nD τ).loc main_v1) = total (aL m c) (aO m c) (aW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  have hO : Ok m := ok_all m
  (θ_run defs _ _).mono (fun _ h c => ⟨((h c).1 2).trans (arr m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) (run_main m ρ hO)

/-! ## The reference -/

section
open Cert.Reference20Ideal.Read

theorem pick_comm (a b : BitVec 32) (P Q : EReal) : pick a b P Q = Scalar.select (IntOp.cmpi .eq b a) P Q := by
  have e : IntOp.cmpi .eq a b = IntOp.cmpi .eq b a := by
    show BitVec.ofBool (a == b) = BitVec.ofBool (b == a)
    rw [Bool.beq_comm]
  unfold pick
  rw [e]

theorem term_eq (A : Landed) (O : Own) (n : Number) (i : Fin 256) (k : Fin 8) :
    val_main_v6 (F := Ideal) A O n (ix3 k i j) = pick (n (ix1 0)) (BitVec.ofNat 32 k.val) (O (ix2 i j)) (A (ix3 k i j)) := by
  rw [pick_comm]
  have e1 : val_main_call0_v1 (F := Ideal) O (ix3 k i j) = O (ix2 i j) := by
    rw [val_main_call0_v1_apply, val_main_v5_apply]
    exact congrArg O (funext fun (a : Fin 2) => Fin.ext (by
      match a with
      | 0 => rfl
      | 1 => rfl))
  have e0 : val_main_call0_v0 (F := Ideal) n (ix3 k i j) = IntOp.cmpi .eq (BitVec.ofNat 32 k.val) (n (ix1 0)) := by
    rw [val_main_call0_v0_apply, val_main_v4_apply, val_main_v1_apply, val_main_v0_apply, val_main_v3_apply]
    refine congrArg (IntOp.cmpi .eq (BitVec.ofNat 32 k.val)) (congrArg n (funext fun (a : Fin 1) => Fin.ext ?_))
    match a with
    | 0 => exact Nat.lt_one_iff.mp (Fin.isLt _)
  rw [← e0]
  refine Eq.trans ?_ (congrArg (fun x : EReal => Scalar.select (val_main_call0_v0 (F := Ideal) n (ix3 k i j)) x (A (ix3 k i j))) e1)
  rfl

theorem total_ref (A : Landed) (O : Own) (n : Number) : val_main_v7 (F := Ideal) A O n = total A O n := by
  funext y
  have z : (FloatOps.ofBits (F := Ideal) .f32 0x00000000#32 : EReal) = 0 := Ideal.ofBits_zero_f32
  refine (val_main_v7_apply A O n y).trans ?_
  refine (congrArg₂ (fun a b : EReal => a + b) z (Finset.sum_congr rfl fun k _ => ?_)).trans (zero_add _)
  have e : idx_main_v7 y k = ix3 k (y 0 : Fin 256) (y 1 : Fin 128) := funext fun a => Fin.ext (by
    match a with
    | 0 => rfl
    | 1 => rfl
    | 2 => rfl)
  refine (congrArg _ e).trans ((term_eq _ A O n _ k).trans ?_)
  exact congrArg (fun x : EReal => pick (n (ix1 0)) (BitVec.ofNat 32 k.val) x (A (ix3 k (y 0) (y 1)))) (congrArg O (eq_ix2 y).symm)

end

end Cert.SumLate

end
-- ==== Proof.lean ====
module

public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Pre_device13
public import proofs.«01_k».proof.Proof.Gen.Reference13Ideal.Run
public import proofs.«01_k».proof.Proof.Gen.Reference13Ideal.Read
public import proofs.«01_k».proof.Proof.Gen.Reference13Ideal
public import proofs.«01_k».proof.Proof.Gen.Kernel13Ideal.Frame
public import proofs.«01_k».proof.Proof.Gen.Kernel13Ideal
public import proofs.«01_k».proof.Proof.Gen.Kernel13.Frame
public import proofs.«01_k».proof.Proof.Gen.Kernel13
public import proofs.«01_k».proof.Proof.Gen.Pre_device14
public import proofs.«01_k».proof.Proof.Gen.Reference14Ideal.Run
public import proofs.«01_k».proof.Proof.Gen.Reference14Ideal.Read
public import proofs.«01_k».proof.Proof.Gen.Reference14Ideal
public import proofs.«01_k».proof.Proof.Gen.Kernel14Ideal.Frame
public import proofs.«01_k».proof.Proof.Gen.Kernel14Ideal
public import proofs.«01_k».proof.Proof.Gen.Kernel14.Frame
public import proofs.«01_k».proof.Proof.Gen.Kernel14
public import proofs.«01_k».proof.Proof.Gen.Pre_device15
public import proofs.«01_k».proof.Proof.Gen.Reference15Ideal.Run
public import proofs.«01_k».proof.Proof.Gen.Reference15Ideal.Read
public import proofs.«01_k».proof.Proof.Gen.Reference15Ideal
public import proofs.«01_k».proof.Proof.Gen.Kernel15Ideal.Frame
public import proofs.«01_k».proof.Proof.Gen.Kernel15Ideal
public import proofs.«01_k».proof.Proof.Gen.Kernel15.Frame
public import proofs.«01_k».proof.Proof.Gen.Kernel15
public import proofs.«01_k».proof.Proof.Gen.Pre_device16
public import proofs.«01_k».proof.Proof.Gen.Reference16Ideal.Run
public import proofs.«01_k».proof.Proof.Gen.Reference16Ideal.Read
public import proofs.«01_k».proof.Proof.Gen.Reference16Ideal
public import proofs.«01_k».proof.Proof.Gen.Kernel16Ideal.Frame
public import proofs.«01_k».proof.Proof.Gen.Kernel16Ideal
public import proofs.«01_k».proof.Proof.Gen.Kernel16.Frame
public import proofs.«01_k».proof.Proof.Gen.Kernel16
public import proofs.«01_k».proof.Proof.Gen.Pre_device17
public import proofs.«01_k».proof.Proof.Gen.Reference17Ideal.Run
public import proofs.«01_k».proof.Proof.Gen.Reference17Ideal.Read
public import proofs.«01_k».proof.Proof.Gen.Reference17Ideal
public import proofs.«01_k».proof.Proof.Gen.Kernel17Ideal.Frame
public import proofs.«01_k».proof.Proof.Gen.Kernel17Ideal
public import proofs.«01_k».proof.Proof.Gen.Kernel17.Frame
public import proofs.«01_k».proof.Proof.Gen.Kernel17
public import proofs.«01_k».proof.Proof.Gen.Pre_device12
public import proofs.«01_k».proof.Proof.Gen.Reference12Ideal.Run
public import proofs.«01_k».proof.Proof.Gen.Reference12Ideal.Read
public import proofs.«01_k».proof.Proof.Gen.Reference12Ideal
public import proofs.«01_k».proof.Proof.Gen.Kernel12Ideal.Frame
public import proofs.«01_k».proof.Proof.Gen.Kernel12Ideal
public import proofs.«01_k».proof.Proof.Gen.Kernel12.Frame
public import proofs.«01_k».proof.Proof.Gen.Kernel12
public import proofs.«01_k».proof.Defs
public import proofs.«01_k».proof.Proof.Equation
public import proofs.«01_k».proof.Proof.FfnEquation
public import proofs.«01_k».proof.Proof.Product3
public import proofs.«01_k».proof.Proof.Product4
public import proofs.«01_k».proof.Proof.MixEquation
public import proofs.«01_k».proof.Proof.DkvEquation
public import proofs.«01_k».proof.Proof.XaEquation
public import proofs.«01_k».proof.Proof.InEquation
public import proofs.«01_k».proof.Proof.KvEquation
public import proofs.«01_k».proof.Proof.OutEquation
public import proofs.«01_k».proof.Proof.OutBackEquation
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Adequacy
public import Idealize.ShloMosaic.Init
public import proofs.«01_k».proof.Proof.AdamDown
public import proofs.«01_k».proof.Proof.AdamGateUp
public import proofs.«01_k».proof.Proof.AdamQuery
public import proofs.«01_k».proof.Proof.AdamKeys
public import proofs.«01_k».proof.Proof.AdamOut
public import proofs.«01_k».proof.Proof.AdamIn
public import proofs.«01_k».proof.Proof.SumMix
public import proofs.«01_k».proof.Proof.SumEarly
public import proofs.«01_k».proof.Proof.SumLate

@[expose] public section

set_option maxRecDepth 16384

noncomputable section

namespace Cert.Proof

open Idealize.ShloMosaic Idealize.SL.Sem

theorem frame_kernel : Cert.quiescent_Kernel := fun m ρ _ => Cert.Kernel.Gen.frame m ρ
theorem frame_ideal : Cert.quiescent_KernelIdeal := fun m ρ _ => Cert.KernelIdeal.Gen.frame m ρ
theorem frame_reference : Cert.quiescent_ReferenceIdeal := by
  intro m g _
  exact (θ_run _ _ _).mono (fun r h => ⟨fun c => (h c).2.2.2.2.2, sem_eq_zero_of_no_sems (by decide) r.2⟩) (Cert.ReferenceIdeal.Value.run m g)

/-- Both programs compute the five gradients. -/
theorem algebraic : Cert.algebraic_KernelIdeal_ReferenceIdeal_pre_finite := by
  intro m g m' g' hpre hag
  have hg := fun c => Finite.gain_real _ _ _ _ _ _ _ (hpre c).1
  have hq := fun c => Finite.wq_real _ _ _ _ _ _ _ (hpre c).2.1
  have hk := fun c => Finite.key_real _ _ _ _ _ _ _ (hpre c).2.2
  refine ⟨_, _, _, _, _, Cert.KernelIdeal.Value.run_blocks m g, (θ_run _ _ _).mono (fun r h c => ?_) (Cert.ReferenceIdeal.Value.run m' g')⟩
  obtain ⟨a0, a1, a2, a3, a4, a5, a6⟩ := hag c
  obtain ⟨r0, r1, r2, r3, r4, hargs⟩ := h c
  refine ⟨r0.trans ?_, r1.trans ?_, r2.trans ?_, r3.trans ?_, r4.trans ?_, hargs⟩
  · rw [Cert.ReferenceIdeal.Read.val_main_v113_eq, a1, a2, a3, a4, a5, a6]
    exact (Equation.dh1_eq m c (hg c) (hq c) (hk c)).symm
  · rw [Cert.ReferenceIdeal.Read.val_main_v115_eq, a1, a2, a3, a4, a5, a6]
    exact (Equation.dwq_eq m c (hg c) (hq c) (hk c)).symm
  · rw [Cert.ReferenceIdeal.Read.val_main_v116_eq, a1, a2, a3, a4, a6]
    exact (Equation.dwo_eq m c).symm
  · rw [Cert.ReferenceIdeal.Read.val_main_v88_eq, a1, a2, a3, a4, a5, a6]
    exact (Equation.dkv_eq m c (hg c) (hq c) (hk c)).symm
  · rw [Cert.ReferenceIdeal.Read.val_main_v114_eq, a1, a2, a3, a4, a5, a6]
    exact (Equation.dg_eq m c (hg c) (hq c) (hk c)).symm

/-! ## The feed-forward block -/

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_reference2 : Cert.quiescent_Reference2Ideal := by
  intro m g _
  exact (θ_run _ _ _).mono (fun r h => ⟨fun c => (h c).2.2.2.2, sem_eq_zero_of_no_sems (by decide) r.2⟩) (Cert.Reference2Ideal.Value.run m g)

/-- Both programs compute the activations and the three gradients. -/
theorem algebraic2 : Cert.algebraic_Kernel2Ideal_Reference2Ideal_pre_finite2 := by
  intro m g m' g' hpre hag
  have hy := fun c => FfnEquation.dy_real _ _ _ _ _ (hpre c).1
  have hg := fun c => FfnEquation.gain_real _ _ _ _ _ (hpre c).2.1
  have hu := fun c => FfnEquation.up_real _ _ _ _ _ (hpre c).2.2.1
  have hd := fun c => FfnEquation.down_real _ _ _ _ _ (hpre c).2.2.2
  refine ⟨_, _, _, _, Cert.Kernel2Ideal.Value.run_blocks m g, (θ_run _ _ _).mono (fun r h c => ?_) (Cert.Reference2Ideal.Value.run m' g')⟩
  obtain ⟨a0, a1, a2, a3, a4⟩ := hag c
  obtain ⟨r0, r1, r2, r3, hargs⟩ := h c
  refine ⟨r0.trans ?_, (r1.trans (Cert.Reference2Ideal.Read.val_main_v51_eq _ _ _)).trans ?_, r2.trans ?_, r3.trans ?_, hargs⟩
  · rw [Cert.Reference2Ideal.Read.val_main_v50_eq, a0, a1, a2, a3, a4]
    exact (FfnEquation.dh2_eq m c (hy c) (hg c) (hu c) (hd c)).symm
  · rw [a0, a2, a3]
    exact (FfnEquation.act_eq m c).symm
  · rw [Cert.Reference2Ideal.Read.val_main_v52_eq, a0, a1, a2, a3, a4]
    exact (FfnEquation.dwide_eq m c (hy c) (hg c) (hu c) (hd c)).symm
  · rw [Cert.Reference2Ideal.Read.val_main_v49_eq, a0, a1, a2, a3, a4]
    exact (FfnEquation.dg_eq m c (hy c) (hg c) (hu c) (hd c)).symm

/-! ## The weights of the gate and of the up projection -/

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := by
  intro m g _
  exact (θ_run _ _ _).mono (fun r h => ⟨fun c => (h c).2, sem_eq_zero_of_no_sems (by decide) r.2⟩) (Cert.Reference3Ideal.Value.run m g)

theorem algebraic3 : Cert.algebraic_Kernel3Ideal_Reference3Ideal := by
  intro m g m' g' _ hag
  refine ⟨_, Cert.Kernel3Ideal.Value.run_blocks m g, (θ_run _ _ _).mono (fun r h c => ?_) (Cert.Reference3Ideal.Value.run m' g')⟩
  obtain ⟨a0, a1⟩ := hag c
  obtain ⟨r0, hargs⟩ := h c
  refine ⟨(r0.trans (Cert.Reference3Ideal.Read.val_main_v5_eq _ _)).trans ?_, hargs⟩
  rw [a0, a1]
  exact (Product3.dw_eq m c).symm

/-! ## The weights of the down projection -/

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := by
  intro m g _
  exact (θ_run _ _ _).mono (fun r h => ⟨fun c => (h c).2, sem_eq_zero_of_no_sems (by decide) r.2⟩) (Cert.Reference4Ideal.Value.run m g)

theorem algebraic4 : Cert.algebraic_Kernel4Ideal_Reference4Ideal := by
  intro m g m' g' _ hag
  refine ⟨_, Cert.Kernel4Ideal.Value.run_blocks m g, (θ_run _ _ _).mono (fun r h c => ?_) (Cert.Reference4Ideal.Value.run m' g')⟩
  obtain ⟨a0, a1⟩ := hag c
  obtain ⟨r0, hargs⟩ := h c
  refine ⟨(r0.trans (Cert.Reference4Ideal.Read.val_main_v4_eq _ _)).trans ?_, hargs⟩
  rw [a0, a1]
  exact (Product4.dw_eq m c).symm

/-! ## The feed-forward block, the loss and its gradient -/

theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_reference5 : Cert.quiescent_Reference5Ideal := by
  intro m g _
  exact (θ_run _ _ _).mono (fun r h => ⟨fun c => (h c).2.2.2.2.2.2, sem_eq_zero_of_no_sems (by decide) r.2⟩) (Cert.Reference5Ideal.Value.run m g)

/-- Both programs compute the block, the loss and what the backward pass takes from them. -/
theorem algebraic5 : Cert.algebraic_Kernel5Ideal_Reference5Ideal := by
  intro m g m' g' _ hag
  refine ⟨_, _, _, _, _, _, Cert.Kernel5Ideal.Value.run_blocks m g, (θ_run _ _ _).mono (fun r h c => ?_) (Cert.Reference5Ideal.Value.run m' g')⟩
  obtain ⟨a0, a1, a2, a3, a4, a5⟩ := hag c
  obtain ⟨r0, r1, r2, r3, r4, r5, hargs⟩ := h c
  refine ⟨r0.trans ?_,
    r1.trans ?_,
    (r2.trans (Cert.Reference5Ideal.Read.val_main_v14_eq _ _ _)).trans ?_,
    (r3.trans (Cert.Reference5Ideal.Read.val_main_v75_eq _ _)).trans ?_,
    r4.trans ?_,
    r5.trans ?_, hargs⟩
  · rw [Cert.Reference5Ideal.Read.val_main_v72_eq, a0, a1, a2, a3, a4, a5]
    exact (MixEquation.dh3_eq m c).symm
  · rw [Cert.Reference5Ideal.Read.val_main_v74_eq, a0, a1, a2, a3, a4, a5]
    exact (MixEquation.dh3b_eq m c).symm
  · rw [a0, a1, a2]
    exact (MixEquation.projs_eq m c).symm
  · rw [a0, a1]
    exact (MixEquation.norm_eq m c).symm
  · rw [Cert.Reference5Ideal.Read.val_main_v76_eq, a0, a1, a2, a3, a4, a5]
    exact (MixEquation.loss_eq m c).symm
  · rw [Cert.Reference5Ideal.Read.val_main_v73_eq, a0, a1, a2, a3, a4, a5]
    exact (MixEquation.dg_eq m c).symm

/-! ## The gradients of the projection to keys and values -/

theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_reference6 : Cert.quiescent_Reference6Ideal := by
  intro m g _
  exact (θ_run _ _ _).mono (fun r h => ⟨fun c => (h c).2.2, sem_eq_zero_of_no_sems (by decide) r.2⟩) (Cert.Reference6Ideal.Value.run m g)

/-- Both programs compute the two gradients. -/
theorem algebraic6 : Cert.algebraic_Kernel6Ideal_Reference6Ideal := by
  intro m g m' g' _ hag
  refine ⟨_, _, Cert.Kernel6Ideal.Value.run_blocks m g, (θ_run _ _ _).mono (fun r h c => ?_) (Cert.Reference6Ideal.Value.run m' g')⟩
  obtain ⟨a0, a1, a2, a3, a4⟩ := hag c
  obtain ⟨r0, r1, hargs⟩ := h c
  refine ⟨(r0.trans (Cert.Reference6Ideal.Read.val_main_v25_eq _ _ _)).trans ?_,
    (r1.trans (Cert.Reference6Ideal.Read.val_main_v22_eq _ _ _)).trans ?_, hargs⟩
  · rw [a1, a2, a3]
    exact (DkvEquation.dw_eq m c).symm
  · rw [a1, a2, a4]
    exact (DkvEquation.dg_eq m c).symm

/-! ## The cross attention -/

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_reference7 : Cert.quiescent_Reference7Ideal := by
  intro m g _
  exact (θ_run _ _ _).mono (fun r h => ⟨fun c => (h c).2.2.2, sem_eq_zero_of_no_sems (by decide) r.2⟩) (Cert.Reference7Ideal.Value.run m g)

/-- Both programs compute the output, the queries and the attention. -/
theorem algebraic7 : Cert.algebraic_Kernel7Ideal_Reference7Ideal := by
  intro m g m' g' _ hag
  refine ⟨_, _, _, Cert.Kernel7Ideal.Value.run_blocks m g, (θ_run _ _ _).mono (fun r h c => ?_) (Cert.Reference7Ideal.Value.run m' g')⟩
  obtain ⟨a0, a1, a2, a3, a4⟩ := hag c
  obtain ⟨r0, r1, r2, hargs⟩ := h c
  refine ⟨r0.trans ?_,
    (r1.trans (Cert.Reference7Ideal.Read.val_main_v39_eq _ _ _)).trans ?_,
    r2.trans ?_, hargs⟩
  · rw [Cert.Reference7Ideal.Read.val_main_v38_eq, a0, a1, a2, a3, a4]
    exact (XaEquation.h2_eq m c).symm
  · rw [a0, a1, a2]
    exact (XaEquation.q_eq m c).symm
  · rw [Cert.Reference7Ideal.Read.val_main_v40_eq, a0, a1, a2, a3]
    exact (XaEquation.o_eq m c).symm

/-! ## The projection into the mixing block -/

theorem frame_kernel8 : Cert.quiescent_Kernel8 := fun m ρ _ => Cert.Kernel8.Gen.frame m ρ
theorem frame_ideal8 : Cert.quiescent_Kernel8Ideal := fun m ρ _ => Cert.Kernel8Ideal.Gen.frame m ρ
theorem frame_reference8 : Cert.quiescent_Reference8Ideal := by
  intro m g _
  exact (θ_run _ _ _).mono (fun r h => ⟨fun c => (h c).2.2, sem_eq_zero_of_no_sems (by decide) r.2⟩) (Cert.Reference8Ideal.Value.run m g)

/-- Both programs compute the projection and its gated columns. -/
theorem algebraic8 : Cert.algebraic_Kernel8Ideal_Reference8Ideal := by
  intro m g m' g' _ hag
  refine ⟨_, _, Cert.Kernel8Ideal.Value.run_blocks m g, (θ_run _ _ _).mono (fun r h c => ?_) (Cert.Reference8Ideal.Value.run m' g')⟩
  obtain ⟨a0, a1, a2, a3⟩ := hag c
  obtain ⟨r0, r1, hargs⟩ := h c
  refine ⟨(r0.trans (Cert.Reference8Ideal.Read.val_main_v18_eq _ _ _ _)).trans ?_,
    (r1.trans (Cert.Reference8Ideal.Read.val_main_v27_eq _ _ _ _)).trans ?_, hargs⟩
  · rw [a0, a1, a2, a3]
    exact (InEquation.z_eq m c).symm
  · rw [a0, a1, a2, a3]
    exact (InEquation.a_eq m c).symm

/-! ## The projection to keys and values -/

theorem frame_kernel9 : Cert.quiescent_Kernel9 := fun m ρ _ => Cert.Kernel9.Gen.frame m ρ
theorem frame_ideal9 : Cert.quiescent_Kernel9Ideal := fun m ρ _ => Cert.Kernel9Ideal.Gen.frame m ρ
theorem frame_reference9 : Cert.quiescent_Reference9Ideal := by
  intro m g _
  exact (θ_run _ _ _).mono (fun r h => ⟨fun c => (h c).2.2, sem_eq_zero_of_no_sems (by decide) r.2⟩) (Cert.Reference9Ideal.Value.run m g)

/-- Both programs compute the keys and values and the norm. -/
theorem algebraic9 : Cert.algebraic_Kernel9Ideal_Reference9Ideal := by
  intro m g m' g' _ hag
  refine ⟨_, _, Cert.Kernel9Ideal.Value.run_blocks m g, (θ_run _ _ _).mono (fun r h c => ?_) (Cert.Reference9Ideal.Value.run m' g')⟩
  obtain ⟨a0, a1, a2⟩ := hag c
  obtain ⟨r0, r1, hargs⟩ := h c
  refine ⟨(r0.trans (Cert.Reference9Ideal.Read.val_main_v14_eq _ _ _)).trans ?_,
    (r1.trans (Cert.Reference9Ideal.Read.val_main_v15_eq _ _)).trans ?_, hargs⟩
  · rw [a0, a1, a2]
    exact (KvEquation.kv_eq m c).symm
  · rw [a0, a1]
    exact (KvEquation.norm_eq m c).symm

/-! ## The projection out of the mixing block -/

theorem frame_kernel10 : Cert.quiescent_Kernel10 := fun m ρ _ => Cert.Kernel10.Gen.frame m ρ
theorem frame_ideal10 : Cert.quiescent_Kernel10Ideal := fun m ρ _ => Cert.Kernel10Ideal.Gen.frame m ρ
theorem frame_reference10 : Cert.quiescent_Reference10Ideal := by
  intro m g _
  exact (θ_run _ _ _).mono (fun r h => ⟨fun c => (h c).2, sem_eq_zero_of_no_sems (by decide) r.2⟩) (Cert.Reference10Ideal.Value.run m g)

/-- Both programs compute the block's output. -/
theorem algebraic10 : Cert.algebraic_Kernel10Ideal_Reference10Ideal := by
  intro m g m' g' _ hag
  refine ⟨_, Cert.Kernel10Ideal.Value.run_blocks m g, (θ_run _ _ _).mono (fun r h c => ?_) (Cert.Reference10Ideal.Value.run m' g')⟩
  obtain ⟨a0, a1, a2, a3, a4, a5, a6, a7, a8, a9⟩ := hag c
  obtain ⟨r0, hargs⟩ := h c
  refine ⟨r0.trans ?_, hargs⟩
  rw [Cert.Reference10Ideal.Read.val_main_v97_eq, a0, a1, a2, a3, a4, a5, a6, a7, a8, a9]
  exact (OutEquation.h1_eq m c).symm

theorem frame_kernel11 : Cert.quiescent_Kernel11 := fun m ρ _ => Cert.Kernel11.Gen.frame m ρ
theorem frame_ideal11 : Cert.quiescent_Kernel11Ideal := fun m ρ _ => Cert.Kernel11Ideal.Gen.frame m ρ
theorem frame_reference11 : Cert.quiescent_Reference11Ideal := by
  intro m g _
  exact (θ_run _ _ _).mono (fun r h => ⟨fun c => (h c).2.2.2.2.2.2, sem_eq_zero_of_no_sems (by decide) r.2⟩) (Cert.Reference11Ideal.Value.run m g)

/-- Both programs compute the gradients of the block's output. -/
theorem algebraic11 : Cert.algebraic_Kernel11Ideal_Reference11Ideal_pre_finite11 := by
  intro m g m' g' hpre hag
  have ht := fun c r k => OutBackReference.dleft_real _ _ _ _ _ _ _ _ _ _ r k _ (hpre c)
  have hg := fun c k => OutBackReference.gain_real _ _ _ _ _ _ _ _ _ _ k _ (hpre c)
  refine ⟨fun c => (Cert.Kernel11Ideal.Gen.dats m 0 c).arrAt 11 Cert.Kernel11Ideal.cfg0.N,
    fun c => (Cert.Kernel11Ideal.Gen.dats m 0 c).arrAt 12 Cert.Kernel11Ideal.cfg0.N,
    fun c => (Cert.Kernel11Ideal.Gen.dats m 0 c).arrAt 16 Cert.Kernel11Ideal.cfg0.N,
    fun c => (Cert.Kernel11Ideal.Gen.dats m 0 c).arrAt 17 Cert.Kernel11Ideal.cfg0.N,
    fun c => (Cert.Kernel11Ideal.Gen.dats m 0 c).arrAt 18 Cert.Kernel11Ideal.cfg0.N,
    fun c => (Cert.Kernel11Ideal.Gen.dats m 0 c).arrAt 19 Cert.Kernel11Ideal.cfg0.N,
    (θ_run _ _ _).mono (fun r h c => ?_) (Cert.Kernel11Ideal.Value.run_blocks m g),
    (θ_run _ _ _).mono (fun r h c => ?_) (Cert.Reference11Ideal.Value.run m' g')⟩
  · obtain ⟨r0, r1, _, _, _, r5, r6, r7, r8, _, hargs⟩ := h c
    exact ⟨r0, r1, r5, r6, r7, r8, hargs⟩
  obtain ⟨-, a1, a2, a3, a4, a5, a6, a7, a8, a9, a10⟩ := hag c
  replace a1 : StableHlo.launchContents m' c (Proc.devRef .tc Cert.Reference11Ideal.main_arg1) = _ := a1
  replace a2 : StableHlo.launchContents m' c (Proc.devRef .tc Cert.Reference11Ideal.main_arg2) = _ := a2
  replace a3 : StableHlo.launchContents m' c (Proc.devRef .tc Cert.Reference11Ideal.main_arg3) = _ := a3
  replace a4 : StableHlo.launchContents m' c (Proc.devRef .tc Cert.Reference11Ideal.main_arg4) = _ := a4
  replace a5 : StableHlo.launchContents m' c (Proc.devRef .tc Cert.Reference11Ideal.main_arg5) = _ := a5
  replace a6 : StableHlo.launchContents m' c (Proc.devRef .tc Cert.Reference11Ideal.main_arg6) = _ := a6
  replace a7 : StableHlo.launchContents m' c (Proc.devRef .tc Cert.Reference11Ideal.main_arg7) = _ := a7
  replace a8 : StableHlo.launchContents m' c (Proc.devRef .tc Cert.Reference11Ideal.main_arg8) = _ := a8
  replace a9 : StableHlo.launchContents m' c (Proc.devRef .tc Cert.Reference11Ideal.main_arg9) = _ := a9
  replace a10 : StableHlo.launchContents m' c (Proc.devRef .tc Cert.Reference11Ideal.main_arg10) = _ := a10
  obtain ⟨r0, r1, r2, r3, r4, r5, hargs⟩ := h c
  refine ⟨r0.trans ?_, r1.trans ?_, r2.trans ?_, r3.trans ?_, r4.trans ?_, r5.trans ?_, hargs⟩
  · rw [Cert.Reference11Ideal.Read.val_main_v236_eq, a1, a2, a3, a4, a5, a6, a7, a8, a9]
    exact (OutBackEquation.dwo_eq m c).symm
  · rw [Cert.Reference11Ideal.Read.val_main_v233_eq, a1, a2, a4, a5, a10]
    exact (OutBackEquation.dc_eq m c (ht c) (hg c)).symm
  · rw [Cert.Reference11Ideal.Read.val_main_v235_eq, a1, a2, a4, a5, a10]
    exact (OutBackEquation.dclg_eq m c (ht c)).symm
  · rw [Cert.Reference11Ideal.Read.val_main_v234_eq, a1, a2, a4, a5, a10]
    exact (OutBackEquation.dclb_eq m c (ht c)).symm
  · rw [Cert.Reference11Ideal.Read.val_main_v199_eq, a1, a3, a8, a10]
    exact (OutBackEquation.dglg_eq m c).symm
  · rw [Cert.Reference11Ideal.Read.val_main_v198_eq, a1, a3, a8, a10]
    exact (OutBackEquation.dglb_eq m c).symm

/-! ## The optimiser for the second weight of the feed-forward block -/

theorem frame_kernel12 : Cert.quiescent_Kernel12 := fun m ρ h => by
  obtain ⟨d, hd⟩ := AdamDown.device_of_fn _ _ _ _ _ _ (h 0)
  exact Cert.Kernel12.Gen.frame m ρ (AdamDown.Words.ok_of_word m d hd)
theorem frame_ideal12 : Cert.quiescent_Kernel12Ideal := fun m ρ h => by
  obtain ⟨d, hd⟩ := AdamDown.device_of_fn _ _ _ _ _ _ (h 0)
  exact Cert.Kernel12Ideal.Gen.frame m ρ (AdamDown.ok_of_word m d hd)
theorem frame_reference12 : Cert.quiescent_Reference12Ideal := by
  intro m g _
  exact (θ_run _ _ _).mono (fun r h => ⟨fun c => (h c).2.2.2.2, sem_eq_zero_of_no_sems (by decide) r.2⟩) (Cert.Reference12Ideal.Value.run m g)

/-- Both programs compute the gradient, the step and the two moments. -/
theorem algebraic12 : Cert.algebraic_Kernel12Ideal_Reference12Ideal := by
  intro m g m' g' hp hag
  obtain ⟨d, hd⟩ := AdamDown.device_of_fn _ _ _ _ _ _ (hp 0)
  refine ⟨_, _, _, _, AdamDown.run m d (AdamDown.tbl_of_word m d hd) g, (θ_run _ _ _).mono (fun r h c => ?_) (Cert.Reference12Ideal.Value.run m' g')⟩
  obtain rfl : c = 0 := Subsingleton.elim _ _
  obtain ⟨a0, a1, a2, a3, a4, a5⟩ := hag 0
  obtain ⟨r0, r1, r2, r3, hargs⟩ := h 0
  have e := a5.trans hd
  refine ⟨(r0.trans (Cert.Reference12Ideal.Read.val_main_v14_eq _ _ _)).trans ?_,
    (r1.trans (Cert.Reference12Ideal.Read.val_main_v38_eq _ _ _ _ _ _)).trans ?_,
    (r2.trans (Cert.Reference12Ideal.Read.val_main_v19_eq _ _ _ _)).trans ?_,
    (r3.trans (Cert.Reference12Ideal.Read.val_main_v25_eq _ _ _ _)).trans ?_, hargs⟩
  · rw [a0, a1, e]
    exact AdamDown.grad_ref d _ _
  · rw [a0, a1, a2, a3, a4, e]
    exact AdamDown.delta_ref d _ _ _ _ _
  · rw [a0, a1, a3, e]
    exact AdamDown.moment1_ref d _ _ _
  · rw [a0, a1, a4, e]
    exact AdamDown.moment2_ref d _ _ _

/-! ## The optimiser for the first weight of the feed-forward block -/

theorem frame_kernel13 : Cert.quiescent_Kernel13 := fun m ρ h => by
  obtain ⟨d, hd⟩ := AdamGateUp.device_of_fn _ _ _ _ _ _ (h 0)
  exact Cert.Kernel13.Gen.frame m ρ (AdamGateUp.Words.ok_of_word m d hd)
theorem frame_ideal13 : Cert.quiescent_Kernel13Ideal := fun m ρ h => by
  obtain ⟨d, hd⟩ := AdamGateUp.device_of_fn _ _ _ _ _ _ (h 0)
  exact Cert.Kernel13Ideal.Gen.frame m ρ (AdamGateUp.ok_of_word m d hd)
theorem frame_reference13 : Cert.quiescent_Reference13Ideal := by
  intro m g _
  exact (θ_run _ _ _).mono (fun r h => ⟨fun c => (h c).2.2.2.2, sem_eq_zero_of_no_sems (by decide) r.2⟩) (Cert.Reference13Ideal.Value.run m g)

/-- Both programs compute the gradient, the step and the two moments. -/
theorem algebraic13 : Cert.algebraic_Kernel13Ideal_Reference13Ideal := by
  intro m g m' g' hp hag
  obtain ⟨d, hd⟩ := AdamGateUp.device_of_fn _ _ _ _ _ _ (hp 0)
  refine ⟨_, _, _, _, AdamGateUp.run m d (AdamGateUp.tbl_of_word m d hd) g, (θ_run _ _ _).mono (fun r h c => ?_) (Cert.Reference13Ideal.Value.run m' g')⟩
  obtain rfl : c = 0 := Subsingleton.elim _ _
  obtain ⟨a0, a1, a2, a3, a4, a5⟩ := hag 0
  obtain ⟨r0, r1, r2, r3, hargs⟩ := h 0
  have e := a5.trans hd
  refine ⟨(r0.trans (Cert.Reference13Ideal.Read.val_main_v14_eq _ _ _)).trans ?_,
    (r1.trans (Cert.Reference13Ideal.Read.val_main_v38_eq _ _ _ _ _ _)).trans ?_,
    (r2.trans (Cert.Reference13Ideal.Read.val_main_v19_eq _ _ _ _)).trans ?_,
    (r3.trans (Cert.Reference13Ideal.Read.val_main_v25_eq _ _ _ _)).trans ?_, hargs⟩
  · rw [a0, a1, e]
    exact AdamGateUp.grad_ref d _ _
  · rw [a0, a1, a2, a3, a4, e]
    exact AdamGateUp.delta_ref d _ _ _ _ _
  · rw [a0, a1, a3, e]
    exact AdamGateUp.moment1_ref d _ _ _
  · rw [a0, a1, a4, e]
    exact AdamGateUp.moment2_ref d _ _ _

/-! ## The optimiser for the projection to queries -/

theorem frame_kernel14 : Cert.quiescent_Kernel14 := fun m ρ h => by
  obtain ⟨d, hd⟩ := AdamQuery.device_of_fn _ _ _ _ _ _ (h 0)
  exact Cert.Kernel14.Gen.frame m ρ (AdamQuery.Words.ok_of_word m d hd)
theorem frame_ideal14 : Cert.quiescent_Kernel14Ideal := fun m ρ h => by
  obtain ⟨d, hd⟩ := AdamQuery.device_of_fn _ _ _ _ _ _ (h 0)
  exact Cert.Kernel14Ideal.Gen.frame m ρ (AdamQuery.ok_of_word m d hd)
theorem frame_reference14 : Cert.quiescent_Reference14Ideal := by
  intro m g _
  exact (θ_run _ _ _).mono (fun r h => ⟨fun c => (h c).2.2.2.2, sem_eq_zero_of_no_sems (by decide) r.2⟩) (Cert.Reference14Ideal.Value.run m g)

/-- Both programs compute the gradient, the step and the two moments. -/
theorem algebraic14 : Cert.algebraic_Kernel14Ideal_Reference14Ideal := by
  intro m g m' g' hp hag
  obtain ⟨d, hd⟩ := AdamQuery.device_of_fn _ _ _ _ _ _ (hp 0)
  refine ⟨_, _, _, _, AdamQuery.run m d (AdamQuery.tbl_of_word m d hd) g, (θ_run _ _ _).mono (fun r h c => ?_) (Cert.Reference14Ideal.Value.run m' g')⟩
  obtain rfl : c = 0 := Subsingleton.elim _ _
  obtain ⟨a0, a1, a2, a3, a4, a5⟩ := hag 0
  obtain ⟨r0, r1, r2, r3, hargs⟩ := h 0
  have e := a5.trans hd
  refine ⟨(r0.trans (Cert.Reference14Ideal.Read.val_main_v14_eq _ _ _)).trans ?_,
    (r1.trans (Cert.Reference14Ideal.Read.val_main_v38_eq _ _ _ _ _ _)).trans ?_,
    (r2.trans (Cert.Reference14Ideal.Read.val_main_v19_eq _ _ _ _)).trans ?_,
    (r3.trans (Cert.Reference14Ideal.Read.val_main_v25_eq _ _ _ _)).trans ?_, hargs⟩
  · rw [a0, a1, e]
    exact AdamQuery.grad_ref d _ _
  · rw [a0, a1, a2, a3, a4, e]
    exact AdamQuery.delta_ref d _ _ _ _ _
  · rw [a0, a1, a3, e]
    exact AdamQuery.moment1_ref d _ _ _
  · rw [a0, a1, a4, e]
    exact AdamQuery.moment2_ref d _ _ _

/-! ## The optimiser for the projection to keys and values -/

theorem frame_kernel15 : Cert.quiescent_Kernel15 := fun m ρ h => by
  obtain ⟨d, hd⟩ := AdamKeys.device_of_fn _ _ _ _ _ _ (h 0)
  exact Cert.Kernel15.Gen.frame m ρ (AdamKeys.Words.ok_of_word m d hd)
theorem frame_ideal15 : Cert.quiescent_Kernel15Ideal := fun m ρ h => by
  obtain ⟨d, hd⟩ := AdamKeys.device_of_fn _ _ _ _ _ _ (h 0)
  exact Cert.Kernel15Ideal.Gen.frame m ρ (AdamKeys.ok_of_word m d hd)
theorem frame_reference15 : Cert.quiescent_Reference15Ideal := by
  intro m g _
  exact (θ_run _ _ _).mono (fun r h => ⟨fun c => (h c).2.2.2.2, sem_eq_zero_of_no_sems (by decide) r.2⟩) (Cert.Reference15Ideal.Value.run m g)

/-- Both programs compute the gradient, the step and the two moments. -/
theorem algebraic15 : Cert.algebraic_Kernel15Ideal_Reference15Ideal := by
  intro m g m' g' hp hag
  obtain ⟨d, hd⟩ := AdamKeys.device_of_fn _ _ _ _ _ _ (hp 0)
  refine ⟨_, _, _, _, AdamKeys.run m d (AdamKeys.tbl_of_word m d hd) g, (θ_run _ _ _).mono (fun r h c => ?_) (Cert.Reference15Ideal.Value.run m' g')⟩
  obtain rfl : c = 0 := Subsingleton.elim _ _
  obtain ⟨a0, a1, a2, a3, a4, a5⟩ := hag 0
  obtain ⟨r0, r1, r2, r3, hargs⟩ := h 0
  have e := a5.trans hd
  refine ⟨(r0.trans (Cert.Reference15Ideal.Read.val_main_v14_eq _ _ _)).trans ?_,
    (r1.trans (Cert.Reference15Ideal.Read.val_main_v38_eq _ _ _ _ _ _)).trans ?_,
    (r2.trans (Cert.Reference15Ideal.Read.val_main_v19_eq _ _ _ _)).trans ?_,
    (r3.trans (Cert.Reference15Ideal.Read.val_main_v25_eq _ _ _ _)).trans ?_, hargs⟩
  · rw [a0, a1, e]
    exact AdamKeys.grad_ref d _ _
  · rw [a0, a1, a2, a3, a4, e]
    exact AdamKeys.delta_ref d _ _ _ _ _
  · rw [a0, a1, a3, e]
    exact AdamKeys.moment1_ref d _ _ _
  · rw [a0, a1, a4, e]
    exact AdamKeys.moment2_ref d _ _ _

/-! ## The optimiser for the projection out of the mixing block -/

theorem frame_kernel16 : Cert.quiescent_Kernel16 := fun m ρ h => by
  obtain ⟨d, hd⟩ := AdamOut.device_of_fn _ _ _ _ _ _ (h 0)
  exact Cert.Kernel16.Gen.frame m ρ (AdamOut.Words.ok_of_word m d hd)
theorem frame_ideal16 : Cert.quiescent_Kernel16Ideal := fun m ρ h => by
  obtain ⟨d, hd⟩ := AdamOut.device_of_fn _ _ _ _ _ _ (h 0)
  exact Cert.Kernel16Ideal.Gen.frame m ρ (AdamOut.ok_of_word m d hd)
theorem frame_reference16 : Cert.quiescent_Reference16Ideal := by
  intro m g _
  exact (θ_run _ _ _).mono (fun r h => ⟨fun c => (h c).2.2.2.2, sem_eq_zero_of_no_sems (by decide) r.2⟩) (Cert.Reference16Ideal.Value.run m g)

/-- Both programs compute the gradient, the step and the two moments. -/
theorem algebraic16 : Cert.algebraic_Kernel16Ideal_Reference16Ideal := by
  intro m g m' g' hp hag
  obtain ⟨d, hd⟩ := AdamOut.device_of_fn _ _ _ _ _ _ (hp 0)
  refine ⟨_, _, _, _, AdamOut.run m d (AdamOut.tbl_of_word m d hd) g, (θ_run _ _ _).mono (fun r h c => ?_) (Cert.Reference16Ideal.Value.run m' g')⟩
  obtain rfl : c = 0 := Subsingleton.elim _ _
  obtain ⟨a0, a1, a2, a3, a4, a5⟩ := hag 0
  obtain ⟨r0, r1, r2, r3, hargs⟩ := h 0
  have e := a5.trans hd
  refine ⟨(r0.trans (Cert.Reference16Ideal.Read.val_main_v7_eq _ _ _)).trans ?_,
    (r1.trans (Cert.Reference16Ideal.Read.val_main_v31_eq _ _ _ _ _ _)).trans ?_,
    (r2.trans (Cert.Reference16Ideal.Read.val_main_v12_eq _ _ _ _)).trans ?_,
    (r3.trans (Cert.Reference16Ideal.Read.val_main_v18_eq _ _ _ _)).trans ?_, hargs⟩
  · rw [a0, a1, e]
    exact AdamOut.grad_ref d _ _
  · rw [a0, a1, a2, a3, a4, e]
    exact AdamOut.delta_ref d _ _ _ _ _
  · rw [a0, a1, a3, e]
    exact AdamOut.moment1_ref d _ _ _
  · rw [a0, a1, a4, e]
    exact AdamOut.moment2_ref d _ _ _

/-! ## The optimiser for the projection into the mixing block -/

theorem frame_kernel17 : Cert.quiescent_Kernel17 := fun m ρ h => by
  obtain ⟨d, hd⟩ := AdamIn.device_of_fn _ _ _ _ _ _ (h 0)
  exact Cert.Kernel17.Gen.frame m ρ (AdamIn.Words.ok_of_word m d hd)
theorem frame_ideal17 : Cert.quiescent_Kernel17Ideal := fun m ρ h => by
  obtain ⟨d, hd⟩ := AdamIn.device_of_fn _ _ _ _ _ _ (h 0)
  exact Cert.Kernel17Ideal.Gen.frame m ρ (AdamIn.ok_of_word m d hd)
theorem frame_reference17 : Cert.quiescent_Reference17Ideal := by
  intro m g _
  exact (θ_run _ _ _).mono (fun r h => ⟨fun c => (h c).2.2.2.2, sem_eq_zero_of_no_sems (by decide) r.2⟩) (Cert.Reference17Ideal.Value.run m g)

/-- Both programs compute the gradient, the step and the two moments. -/
theorem algebraic17 : Cert.algebraic_Kernel17Ideal_Reference17Ideal := by
  intro m g m' g' hp hag
  obtain ⟨d, hd⟩ := AdamIn.device_of_fn _ _ _ _ _ _ (hp 0)
  refine ⟨_, _, _, _, AdamIn.run m d (AdamIn.tbl_of_word m d hd) g, (θ_run _ _ _).mono (fun r h c => ?_) (Cert.Reference17Ideal.Value.run m' g')⟩
  obtain rfl : c = 0 := Subsingleton.elim _ _
  obtain ⟨a0, a1, a2, a3, a4, a5⟩ := hag 0
  obtain ⟨r0, r1, r2, r3, hargs⟩ := h 0
  have e := a5.trans hd
  refine ⟨(r0.trans (Cert.Reference17Ideal.Read.val_main_v7_eq _ _ _)).trans ?_,
    (r1.trans (Cert.Reference17Ideal.Read.val_main_v31_eq _ _ _ _ _ _)).trans ?_,
    (r2.trans (Cert.Reference17Ideal.Read.val_main_v12_eq _ _ _ _)).trans ?_,
    (r3.trans (Cert.Reference17Ideal.Read.val_main_v18_eq _ _ _ _)).trans ?_, hargs⟩
  · rw [a0, a1, e]
    exact AdamIn.grad_ref d _ _
  · rw [a0, a1, a2, a3, a4, e]
    exact AdamIn.delta_ref d _ _ _ _ _
  · rw [a0, a1, a3, e]
    exact AdamIn.moment1_ref d _ _ _
  · rw [a0, a1, a4, e]
    exact AdamIn.moment2_ref d _ _ _

/-! ## The sum of the gradients of the mixing matrices -/

theorem frame_kernel18 : Cert.quiescent_Kernel18 := fun m ρ _ => Cert.Kernel18.Gen.frame m ρ trivial
theorem frame_ideal18 : Cert.quiescent_Kernel18Ideal := fun m ρ _ => Cert.Kernel18Ideal.Gen.frame m ρ trivial
theorem frame_reference18 : Cert.quiescent_Reference18Ideal := by
  intro m g _
  exact (θ_run _ _ _).mono (fun r h => ⟨fun c => (h c).2, sem_eq_zero_of_no_sems (by decide) r.2⟩) (Cert.Reference18Ideal.Value.run m g)

/-- Both programs compute the sum over the devices. -/
theorem algebraic18 : Cert.algebraic_Kernel18Ideal_Reference18Ideal := by
  intro m g m' g' _ hag
  refine ⟨_, SumMix.run m g, (θ_run _ _ _).mono (fun r h c => ?_) (Cert.Reference18Ideal.Value.run m' g')⟩
  obtain ⟨a0, a1, a2⟩ := hag c
  obtain ⟨r0, hargs⟩ := h c
  refine ⟨(r0.trans (Cert.Reference18Ideal.Read.val_main_v8_eq _ _ _)).trans ?_, hargs⟩
  rw [a0, a1, a2]
  exact SumMix.total_ref _ _ _

/-! ## The sum of the small gradients and the losses -/

theorem frame_kernel19 : Cert.quiescent_Kernel19 := fun m ρ _ => Cert.Kernel19.Gen.frame m ρ trivial
theorem frame_ideal19 : Cert.quiescent_Kernel19Ideal := fun m ρ _ => Cert.Kernel19Ideal.Gen.frame m ρ trivial
theorem frame_reference19 : Cert.quiescent_Reference19Ideal := by
  intro m g _
  exact (θ_run _ _ _).mono (fun r h => ⟨fun c => (h c).2, sem_eq_zero_of_no_sems (by decide) r.2⟩) (Cert.Reference19Ideal.Value.run m g)

/-- Both programs compute the sum over the devices. -/
theorem algebraic19 : Cert.algebraic_Kernel19Ideal_Reference19Ideal := by
  intro m g m' g' _ hag
  refine ⟨_, SumEarly.run m g, (θ_run _ _ _).mono (fun r h c => ?_) (Cert.Reference19Ideal.Value.run m' g')⟩
  obtain ⟨a0, a1, a2⟩ := hag c
  obtain ⟨r0, hargs⟩ := h c
  refine ⟨(r0.trans (Cert.Reference19Ideal.Read.val_main_v7_eq _ _ _)).trans ?_, hargs⟩
  rw [a0, a1, a2]
  exact SumEarly.total_ref _ _ _

/-! ## The sum of the last small gradients -/

theorem frame_kernel20 : Cert.quiescent_Kernel20 := fun m ρ _ => Cert.Kernel20.Gen.frame m ρ trivial
theorem frame_ideal20 : Cert.quiescent_Kernel20Ideal := fun m ρ _ => Cert.Kernel20Ideal.Gen.frame m ρ trivial
theorem frame_reference20 : Cert.quiescent_Reference20Ideal := by
  intro m g _
  exact (θ_run _ _ _).mono (fun r h => ⟨fun c => (h c).2, sem_eq_zero_of_no_sems (by decide) r.2⟩) (Cert.Reference20Ideal.Value.run m g)

/-- Both programs compute the sum over the devices. -/
theorem algebraic20 : Cert.algebraic_Kernel20Ideal_Reference20Ideal := by
  intro m g m' g' _ hag
  refine ⟨_, SumLate.run m g, (θ_run _ _ _).mono (fun r h c => ?_) (Cert.Reference20Ideal.Value.run m' g')⟩
  obtain ⟨a0, a1, a2⟩ := hag c
  obtain ⟨r0, hargs⟩ := h c
  refine ⟨(r0.trans (Cert.Reference20Ideal.Read.val_main_v7_eq _ _ _)).trans ?_, hargs⟩
  rw [a0, a1, a2]
  exact SumLate.total_ref _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Finite.preFacts, FfnEquation.preFacts, OutBackReference.preFacts,
  Cert.Pre_device12.Gen.facts, Cert.Pre_device13.Gen.facts, Cert.Pre_device14.Gen.facts, Cert.Pre_device15.Gen.facts, Cert.Pre_device16.Gen.facts, Cert.Pre_device17.Gen.facts,
  frame_kernel, frame_ideal, fun m g _ => frame_ideal m g trivial, frame_reference, fun m g _ => frame_reference m g trivial,
  frame_kernel2, frame_ideal2, fun m g _ => frame_ideal2 m g trivial, frame_reference2, fun m g _ => frame_reference2 m g trivial,
  frame_kernel3, frame_ideal3, frame_reference3, frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, fun m g _ => frame_ideal11 m g trivial, frame_reference11, fun m g _ => frame_reference11 m g trivial,
  frame_kernel12, frame_ideal12, frame_reference12, fun m g _ => frame_reference12 m g trivial,
  frame_kernel13, frame_ideal13, frame_reference13, fun m g _ => frame_reference13 m g trivial,
  frame_kernel14, frame_ideal14, frame_reference14, fun m g _ => frame_reference14 m g trivial,
  frame_kernel15, frame_ideal15, frame_reference15, fun m g _ => frame_reference15 m g trivial,
  frame_kernel16, frame_ideal16, frame_reference16, fun m g _ => frame_reference16 m g trivial,
  frame_kernel17, frame_ideal17, frame_reference17, fun m g _ => frame_reference17 m g trivial,
  frame_kernel18, frame_ideal18, frame_reference18,
  frame_kernel19, frame_ideal19, frame_reference19,
  frame_kernel20, frame_ideal20, frame_reference20,
  trivial, algebraic, trivial, algebraic2, trivial, algebraic3, trivial, algebraic4, trivial, algebraic5, trivial, algebraic6,
  trivial, algebraic7, trivial, algebraic8, trivial, algebraic9, trivial, algebraic10, trivial, algebraic11,
  trivial, algebraic12, trivial, algebraic13, trivial, algebraic14, trivial, algebraic15, trivial, algebraic16, trivial, algebraic17,
  trivial, algebraic18, trivial, algebraic19, trivial, algebraic20⟩

end Cert.Proof

end
